-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ids_in_range_KernelIdeal [hPre_ids_in_range_KernelIdeal : Cert.Pre_ids_in_range_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_range_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_in_range_ReferenceIdeal [hPre_ids_in_range_ReferenceIdeal : Cert.Pre_ids_in_range_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_in_range_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_ids_in_range_KernelIdeal [hKernelIdeal : Cert.KernelIdeal.Facts] [hPre_ids_in_range_KernelIdeal : Cert.Pre_ids_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ids_in_range_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_ids_in_range_ReferenceIdeal [hReferenceIdeal : Cert.ReferenceIdeal.Facts] [hPre_ids_in_range_ReferenceIdeal : Cert.Pre_ids_in_range_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_in_range_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_ids_in_range_KernelIdeal [hKernelIdeal : Cert.KernelIdeal.Facts] [hReferenceIdeal : Cert.ReferenceIdeal.Facts] [hPre_ids_in_range_KernelIdeal : Cert.Pre_ids_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ids_in_range_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![16384, 1024]⟩ ⟨2, ![32768, 1024]⟩ (Layout.meshBlock [2, 2] ![[1], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_ids_in_range_KernelIdeal : Cert.Pre_ids_in_range_KernelIdeal.Facts) (hPre_ids_in_range_ReferenceIdeal : Cert.Pre_ids_in_range_ReferenceIdeal.Facts),
    quiescent_Kernel (hKernel := hKernel)
    ∧ quiescent_KernelIdeal (hKernelIdeal := hKernelIdeal)
    ∧ quiescent_KernelIdeal_pre_ids_in_range_KernelIdeal (hKernelIdeal := hKernelIdeal) (hPre_ids_in_range_KernelIdeal := hPre_ids_in_range_KernelIdeal)
    ∧ quiescent_ReferenceIdeal (hReferenceIdeal := hReferenceIdeal)
    ∧ quiescent_ReferenceIdeal_pre_ids_in_range_ReferenceIdeal (hReferenceIdeal := hReferenceIdeal) (hPre_ids_in_range_ReferenceIdeal := hPre_ids_in_range_ReferenceIdeal)
    ∧ preserves_Kernel_KernelIdeal
    ∧ algebraic_KernelIdeal_ReferenceIdeal_pre_ids_in_range_KernelIdeal (hKernelIdeal := hKernelIdeal) (hReferenceIdeal := hReferenceIdeal) (hPre_ids_in_range_KernelIdeal := hPre_ids_in_range_KernelIdeal)
-- ==== Pre_ids_in_range_KernelIdeal.lean ====
abbrev S2048 : Shape := ⟨1, ![2048]⟩
abbrev S16384x1024 : Shape := ⟨2, ![16384, 1024]⟩
abbrev S_ : Shape := ⟨0, ![]⟩

class Facts : Prop where
  bcast_S_S2048 : S_.BroadcastsInDim S2048 (![] : Fin 0 → Fin S2048.rank)

variable [Facts]

def fn {F : FTy → Type} [FloatOps F] (main_arg0 : IVec S2048 32) (main_arg1 : FVec F S16384x1024 .f32) : IVec S2048 1 :=
  let main_c : IVec S_ 32 := constantI S_ 32 0#32
  let main_v0 : IVec S2048 32 := broadcastInDim S2048 ![] bcast_S_S2048 main_c
  let main_v1 : IVec S2048 1 := cmpi .sge main_arg0 main_v0
  let main_c_0 : IVec S_ 32 := constantI S_ 32 32768#32
  let main_v2 : IVec S2048 32 := broadcastInDim S2048 ![] bcast_S_S2048 main_c_0
  let main_v3 : IVec S2048 1 := cmpi .slt main_arg0 main_v2
  let main_v4 : IVec S2048 1 := andi main_v1 main_v3
  main_v4
-- ==== Pre_ids_in_range_ReferenceIdeal.lean ====
abbrev S2048 : Shape := ⟨1, ![2048]⟩
abbrev S32768x1024 : Shape := ⟨2, ![32768, 1024]⟩
abbrev S_ : Shape := ⟨0, ![]⟩

class Facts : Prop where
  bcast_S_S2048 : S_.BroadcastsInDim S2048 (![] : Fin 0 → Fin S2048.rank)

variable [Facts]

def fn {F : FTy → Type} [FloatOps F] (main_arg0 : IVec S2048 32) (main_arg1 : FVec F S32768x1024 .f32) : IVec S2048 1 :=
  let main_c : IVec S_ 32 := constantI S_ 32 0#32
  let main_v0 : IVec S2048 32 := broadcastInDim S2048 ![] bcast_S_S2048 main_c
  let main_v1 : IVec S2048 1 := cmpi .sge main_arg0 main_v0
  let main_c_0 : IVec S_ 32 := constantI S_ 32 32768#32
  let main_v2 : IVec S2048 32 := broadcastInDim S2048 ![] bcast_S_S2048 main_c_0
  let main_v3 : IVec S2048 1 := cmpi .slt main_arg0 main_v2
  let main_v4 : IVec S2048 1 := andi main_v1 main_v3
  main_v4
-- ==== Kernel.lean ====
abbrev S2048 : Shape := ⟨1, ![2048]⟩
abbrev S16384x1024 : Shape := ⟨2, ![16384, 1024]⟩
abbrev S_ : Shape := ⟨0, ![]⟩
abbrev S1024 : Shape := ⟨1, ![1024]⟩
abbrev S1024x1 : Shape := ⟨2, ![1024, 1]⟩
abbrev S2048x1024 : Shape := ⟨2, ![2048, 1024]⟩
abbrev S1024x1024 : Shape := ⟨2, ![1024, 1024]⟩
abbrev S2 : Shape := ⟨1, ![2]⟩
abbrev S8 : Shape := ⟨1, ![8]⟩
abbrev S1 : Shape := ⟨1, ![1]⟩
abbrev S1x1024 : Shape := ⟨2, ![1, 1024]⟩
abbrev S128x1024 : Shape := ⟨2, ![128, 1024]⟩
abbrev S128x1 : Shape := ⟨2, ![128, 1]⟩

abbrev nBuf : Space → Nat
  | .hbm => 40
  | .vmem => 5
  | .smem => 1
  | _ => 0

abbrev bufTy : (tb : Table) → Fin (tcTables nBuf tb) → BufTy
  | .hbm, ⟨0, _⟩ => ⟨S2048, .i32⟩
  | .hbm, ⟨1, _⟩ => ⟨S16384x1024, .f32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i1⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S1024, .i32⟩
  | .hbm, ⟨22, _⟩ => ⟨S_, .i32⟩
  | .hbm, ⟨23, _⟩ => ⟨S_, .i32⟩
  | .hbm, ⟨24, _⟩ => ⟨S1024, .i32⟩
  | .hbm, ⟨25, _⟩ => ⟨S1024, .i32⟩
  | .hbm, ⟨26, _⟩ => ⟨S_, .i32⟩
  | .hbm, ⟨27, _⟩ => ⟨S1024, .i32⟩
  | .hbm, ⟨28, _⟩ => ⟨S1024, .i1⟩
  | .hbm, ⟨29, _⟩ => ⟨S_, .i32⟩
  | .hbm, ⟨30, _⟩ => ⟨S1024, .i32⟩
  | .hbm, ⟨31, _⟩ => ⟨S1024, .i1⟩
  | .hbm, ⟨32, _⟩ => ⟨S1024, .i1⟩
  | .hbm, ⟨33, _⟩ => ⟨S_, .i32⟩
  | .hbm, ⟨34, _⟩ => ⟨S_, .i32⟩
  | .hbm, ⟨35, _⟩ => ⟨S1024, .i32⟩
  | .hbm, ⟨36, _⟩ => ⟨S1024, .i32⟩
  | .hbm, ⟨37, _⟩ => ⟨S1024, .f32⟩
  | .hbm, ⟨38, _⟩ => ⟨S1024x1, .f32⟩
  | .hbm, ⟨39, _⟩ => ⟨S2048x1024, .bf16⟩
  | .local _ .vmem, ⟨0, _⟩ => ⟨S1024x1, .f32⟩
  | .local _ .vmem, ⟨1, _⟩ => ⟨S2048x1024, .bf16⟩
  | .local _ .vmem, ⟨2, _⟩ => ⟨S1024x1024, .f32⟩
  | .local _ .vmem, ⟨3, _⟩ => ⟨S1024x1024, .bf16⟩
  | .local _ .vmem, ⟨4, _⟩ => ⟨S1024x1024, .bf16⟩
  | .local _ .smem, ⟨0, _⟩ => ⟨S1024, .i32⟩
  | _, _ => ⟨S2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | _, _ => false

abbrev semScoped : Fin 1 → Bool
  | ⟨0, _⟩ => false
  | _ => false

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  (ofTc nBuf bufTy 1 37 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c_1 : Ref sig .tc := ⟨.hbm, 8, rfl⟩
abbrev main_c_2 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_3 : Ref sig .tc := ⟨.hbm, 14, rfl⟩
abbrev main_v9 : Ref sig .tc := ⟨.hbm, 15, rfl⟩
abbrev main_c_4 : Ref sig .tc := ⟨.hbm, 16, rfl⟩
abbrev main_v10 : Ref sig .tc := ⟨.hbm, 17, rfl⟩
abbrev main_c_5 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_6 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c_7 : Ref sig .tc := ⟨.hbm, 26, rfl⟩
abbrev main_v17 : Ref sig .tc := ⟨.hbm, 27, rfl⟩
abbrev main_v18 : Ref sig .tc := ⟨.hbm, 28, rfl⟩
abbrev main_c_8 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c_9 : Ref sig .tc := ⟨.hbm, 33, rfl⟩
abbrev main_call0_v0 : Ref sig .tc := ⟨.hbm, 34, rfl⟩
abbrev main_call0_v1 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev cc0_stg1_0 : Ref sig .tc := ⟨.vmem, 0, rfl⟩
abbrev cc0_stg2_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_4 : BitVec 32 := 2#32
  let v8 : BitVec 32 := Scalar.muli v2 c2_i32_4
  let v9 : BitVec 32 := Scalar.addi c0_i32 v8
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_2 v5
  let c1_i32_5 : BitVec 32 := 1#32
  let v10 : BitVec 32 := Scalar.muli v7 c1_i32_5
  let v11 : BitVec 32 := Scalar.addi v9 v10
  v11.toNat
def k0_dev2 (d0 : Dev nD) : Nat :=
  let c0_i32_9 : BitVec 32 := 0#32
  let c1_i32_6 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v12 : BitVec 32 := Scalar.subi c1_i32_6 v2
  let c2_i32_8 : BitVec 32 := 2#32
  let v13 : BitVec 32 := Scalar.muli v12 c2_i32_8
  let v14 : BitVec 32 := Scalar.addi c0_i32_9 v13
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_10 : BitVec 32 := 1#32
  let v15 : BitVec 32 := Scalar.muli v5 c1_i32_10
  let v16 : BitVec 32 := Scalar.addi v14 v15
  v16.toNat
def k0_off1 (v17 : BitVec 32) : Fin 2 → Nat :=
  let c0_i32_15 : BitVec 32 := 0#32
  ![v17.toNat, 0]

def k0_chk1 (v17 : BitVec 32) : Prop :=
  (∀ a, (k0_off1 v17) a + S1x1024.size a ≤ S16384x1024.size a)
theorem k0_off1_inb : ∀ (v17 : BitVec 32) (k0_hw1 : k0_chk1 v17), ∀ a, (k0_off1 v17) a + S1x1024.size a ≤ S16384x1024.size a := fun v17 k0_hw1 => k0_hw1

def k0_off2 (v22 : BitVec 32) : Fin 2 → Nat :=
  let c0_i32_19 : BitVec 32 := 0#32
  ![v22.toNat, 0]

def k0_chk2 (v22 : BitVec 32) : Prop :=
  (∀ a, (k0_off2 v22) a + S1x1024.size a ≤ S16384x1024.size a)
theorem k0_off2_inb : ∀ (v22 : BitVec 32) (k0_hw2 : k0_chk2 v22), ∀ a, (k0_off2 v22) a + S1x1024.size a ≤ S16384x1024.size a := fun v22 k0_hw2 => k0_hw2

def k0_off3 (v27 : BitVec 32) : Fin 2 → Nat :=
  let c0_i32_23 : BitVec 32 := 0#32
  ![v27.toNat, 0]

def k0_chk3 (v27 : BitVec 32) : Prop :=
  (∀ a, (k0_off3 v27) a + S1x1024.size a ≤ S16384x1024.size a)
theorem k0_off3_inb : ∀ (v27 : BitVec 32) (k0_hw3 : k0_chk3 v27), ∀ a, (k0_off3 v27) a + S1x1024.size a ≤ S16384x1024.size a := fun v27 k0_hw3 => k0_hw3

def k0_off4 (v32 : BitVec 32) : Fin 2 → Nat :=
  let c0_i32_26 : BitVec 32 := 0#32
  ![v32.toNat, 0]

def k0_chk4 (v32 : BitVec 32) : Prop :=
  (∀ a, (k0_off4 v32) a + S1x1024.size a ≤ S16384x1024.size a)
theorem k0_off4_inb : ∀ (v32 : BitVec 32) (k0_hw4 : k0_chk4 v32), ∀ a, (k0_off4 v32) a + S1x1024.size a ≤ S16384x1024.size a := fun v32 k0_hw4 => k0_hw4

def k0_off5 (v37 : BitVec 32) : Fin 2 → Nat :=
  let c0_i32_29 : BitVec 32 := 0#32
  ![v37.toNat, 0]

def k0_chk5 (v37 : BitVec 32) : Prop :=
  (∀ a, (k0_off5 v37) a + S1x1024.size a ≤ S16384x1024.size a)
theorem k0_off5_inb : ∀ (v37 : BitVec 32) (k0_hw5 : k0_chk5 v37), ∀ a, (k0_off5 v37) a + S1x1024.size a ≤ S16384x1024.size a := fun v37 k0_hw5 => k0_hw5

def k0_off6 (v42 : BitVec 32) : Fin 2 → Nat :=
  let c0_i32_32 : BitVec 32 := 0#32
  ![v42.toNat, 0]

def k0_chk6 (v42 : BitVec 32) : Prop :=
  (∀ a, (k0_off6 v42) a + S1x1024.size a ≤ S16384x1024.size a)
theorem k0_off6_inb : ∀ (v42 : BitVec 32) (k0_hw6 : k0_chk6 v42), ∀ a, (k0_off6 v42) a + S1x1024.size a ≤ S16384x1024.size a := fun v42 k0_hw6 => k0_hw6

def k0_off7 (v47 : BitVec 32) : Fin 2 → Nat :=
  let c0_i32_35 : BitVec 32 := 0#32
  ![v47.toNat, 0]

def k0_chk7 (v47 : BitVec 32) : Prop :=
  (∀ a, (k0_off7 v47) a + S1x1024.size a ≤ S16384x1024.size a)
theorem k0_off7_inb : ∀ (v47 : BitVec 32) (k0_hw7 : k0_chk7 v47), ∀ a, (k0_off7 v47) a + S1x1024.size a ≤ S16384x1024.size a := fun v47 k0_hw7 => k0_hw7

def k0_off8 (v52 : BitVec 32) : Fin 2 → Nat :=
  let c0_i32_38 : BitVec 32 := 0#32
  ![v52.toNat, 0]

def k0_chk8 (v52 : BitVec 32) : Prop :=
  (∀ a, (k0_off8 v52) a + S1x1024.size a ≤ S16384x1024.size a)
theorem k0_off8_inb : ∀ (v52 : BitVec 32) (k0_hw8 : k0_chk8 v52), ∀ a, (k0_off8 v52) a + S1x1024.size a ≤ S16384x1024.size a := fun v52 k0_hw8 => k0_hw8

def k0_off9 (v57 : BitVec 32) : Fin 2 → Nat :=
  let c0_i32_41 : BitVec 32 := 0#32
  ![v57.toNat, 0]

def k0_chk9 (v57 : BitVec 32) : Prop :=
  (∀ a, (k0_off9 v57) a + S1x1024.size a ≤ S16384x1024.size a)
theorem k0_off9_inb : ∀ (v57 : BitVec 32) (k0_hw9 : k0_chk9 v57), ∀ a, (k0_off9 v57) a + S1x1024.size a ≤ S16384x1024.size a := fun v57 k0_hw9 => k0_hw9

def k0_off10 (v62 : BitVec 32) : Fin 2 → Nat :=
  let c0_i32_44 : BitVec 32 := 0#32
  ![v62.toNat, 0]

def k0_chk10 (v62 : BitVec 32) : Prop :=
  (∀ a, (k0_off10 v62) a + S1x1024.size a ≤ S16384x1024.size a)
theorem k0_off10_inb : ∀ (v62 : BitVec 32) (k0_hw10 : k0_chk10 v62), ∀ a, (k0_off10 v62) a + S1x1024.size a ≤ S16384x1024.size a := fun v62 k0_hw10 => k0_hw10

def k0_off11 (v67 : BitVec 32) : Fin 2 → Nat :=
  let c0_i32_47 : BitVec 32 := 0#32
  ![v67.toNat, 0]

def k0_chk11 (v67 : BitVec 32) : Prop :=
  (∀ a, (k0_off11 v67) a + S1x1024.size a ≤ S16384x1024.size a)
theorem k0_off11_inb : ∀ (v67 : BitVec 32) (k0_hw11 : k0_chk11 v67), ∀ a, (k0_off11 v67) a + S1x1024.size a ≤ S16384x1024.size a := fun v67 k0_hw11 => k0_hw11

def k0_off12 (v72 : BitVec 32) : Fin 2 → Nat :=
  let c0_i32_50 : BitVec 32 := 0#32
  ![v72.toNat, 0]

def k0_chk12 (v72 : BitVec 32) : Prop :=
  (∀ a, (k0_off12 v72) a + S1x1024.size a ≤ S16384x1024.size a)
theorem k0_off12_inb : ∀ (v72 : BitVec 32) (k0_hw12 : k0_chk12 v72), ∀ a, (k0_off12 v72) a + S1x1024.size a ≤ S16384x1024.size a := fun v72 k0_hw12 => k0_hw12

def k0_off13 (v77 : BitVec 32) : Fin 2 → Nat :=
  let c0_i32_53 : BitVec 32 := 0#32
  ![v77.toNat, 0]

def k0_chk13 (v77 : BitVec 32) : Prop :=
  (∀ a, (k0_off13 v77) a + S1x1024.size a ≤ S16384x1024.size a)
theorem k0_off13_inb : ∀ (v77 : BitVec 32) (k0_hw13 : k0_chk13 v77), ∀ a, (k0_off13 v77) a + S1x1024.size a ≤ S16384x1024.size a := fun v77 k0_hw13 => k0_hw13

def k0_off14 (v82 : BitVec 32) : Fin 2 → Nat :=
  let c0_i32_56 : BitVec 32 := 0#32
  ![v82.toNat, 0]

def k0_chk14 (v82 : BitVec 32) : Prop :=
  (∀ a, (k0_off14 v82) a + S1x1024.size a ≤ S16384x1024.size a)
theorem k0_off14_inb : ∀ (v82 : BitVec 32) (k0_hw14 : k0_chk14 v82), ∀ a, (k0_off14 v82) a + S1x1024.size a ≤ S16384x1024.size a := fun v82 k0_hw14 => k0_hw14

def k0_off15 (v87 : BitVec 32) : Fin 2 → Nat :=
  let c0_i32_59 : BitVec 32 := 0#32
  ![v87.toNat, 0]

def k0_chk15 (v87 : BitVec 32) : Prop :=
  (∀ a, (k0_off15 v87) a + S1x1024.size a ≤ S16384x1024.size a)
theorem k0_off15_inb : ∀ (v87 : BitVec 32) (k0_hw15 : k0_chk15 v87), ∀ a, (k0_off15 v87) a + S1x1024.size a ≤ S16384x1024.size a := fun v87 k0_hw15 => k0_hw15

def k0_off16 (v92 : BitVec 32) : Fin 2 → Nat :=
  let c0_i32_62 : BitVec 32 := 0#32
  ![v92.toNat, 0]

def k0_chk16 (v92 : BitVec 32) : Prop :=
  (∀ a, (k0_off16 v92) a + S1x1024.size a ≤ S16384x1024.size a)
theorem k0_off16_inb : ∀ (v92 : BitVec 32) (k0_hw16 : k0_chk16 v92), ∀ a, (k0_off16 v92) a + S1x1024.size a ≤ S16384x1024.size a := fun v92 k0_hw16 => k0_hw16

def k0_off17 (v97 : BitVec 32) : Fin 2 → Nat :=
  let c0_i32_65 : BitVec 32 := 0#32
  ![v97.toNat, 0]

def k0_chk17 (v97 : BitVec 32) : Prop :=
  (∀ a, (k0_off17 v97) a + S1x1024.size a ≤ S16384x1024.size a)
theorem k0_off17_inb : ∀ (v97 : BitVec 32) (k0_hw17 : k0_chk17 v97), ∀ a, (k0_off17 v97) a + S1x1024.size a ≤ S16384x1024.size a := fun v97 k0_hw17 => k0_hw17

def k0_off18 (v102 : BitVec 32) : Fin 2 → Nat :=
  let c0_i32_68 : BitVec 32 := 0#32
  ![v102.toNat, 0]

def k0_chk18 (v102 : BitVec 32) : Prop :=
  (∀ a, (k0_off18 v102) a + S1x1024.size a ≤ S16384x1024.size a)
theorem k0_off18_inb : ∀ (v102 : BitVec 32) (k0_hw18 : k0_chk18 v102), ∀ a, (k0_off18 v102) a + S1x1024.size a ≤ S16384x1024.size a := fun v102 k0_hw18 => k0_hw18

def k0_off19 (v107 : BitVec 32) : Fin 2 → Nat :=
  let c0_i32_71 : BitVec 32 := 0#32
  ![v107.toNat, 0]

def k0_chk19 (v107 : BitVec 32) : Prop :=
  (∀ a, (k0_off19 v107) a + S1x1024.size a ≤ S16384x1024.size a)
theorem k0_off19_inb : ∀ (v107 : BitVec 32) (k0_hw19 : k0_chk19 v107), ∀ a, (k0_off19 v107) a + S1x1024.size a ≤ S16384x1024.size a := fun v107 k0_hw19 => k0_hw19

def k0_off20 (v112 : BitVec 32) : Fin 2 → Nat :=
  let c0_i32_74 : BitVec 32 := 0#32
  ![v112.toNat, 0]

def k0_chk20 (v112 : BitVec 32) : Prop :=
  (∀ a, (k0_off20 v112) a + S1x1024.size a ≤ S16384x1024.size a)
theorem k0_off20_inb : ∀ (v112 : BitVec 32) (k0_hw20 : k0_chk20 v112), ∀ a, (k0_off20 v112) a + S1x1024.size a ≤ S16384x1024.size a := fun v112 k0_hw20 => k0_hw20

def k0_off21 (v117 : BitVec 32) : Fin 2 → Nat :=
  let c0_i32_77 : BitVec 32 := 0#32
  ![v117.toNat, 0]

def k0_chk21 (v117 : BitVec 32) : Prop :=
  (∀ a, (k0_off21 v117) a + S1x1024.size a ≤ S16384x1024.size a)
theorem k0_off21_inb : ∀ (v117 : BitVec 32) (k0_hw21 : k0_chk21 v117), ∀ a, (k0_off21 v117) a + S1x1024.size a ≤ S16384x1024.size a := fun v117 k0_hw21 => k0_hw21

def k0_off22 (v122 : BitVec 32) : Fin 2 → Nat :=
  let c0_i32_80 : BitVec 32 := 0#32
  ![v122.toNat, 0]

def k0_chk22 (v122 : BitVec 32) : Prop :=
  (∀ a, (k0_off22 v122) a + S1x1024.size a ≤ S16384x1024.size a)
theorem k0_off22_inb : ∀ (v122 : BitVec 32) (k0_hw22 : k0_chk22 v122), ∀ a, (k0_off22 v122) a + S1x1024.size a ≤ S16384x1024.size a := fun v122 k0_hw22 => k0_hw22

def k0_off23 (v127 : BitVec 32) : Fin 2 → Nat :=
  let c0_i32_83 : BitVec 32 := 0#32
  ![v127.toNat, 0]

def k0_chk23 (v127 : BitVec 32) : Prop :=
  (∀ a, (k0_off23 v127) a + S1x1024.size a ≤ S16384x1024.size a)
theorem k0_off23_inb : ∀ (v127 : BitVec 32) (k0_hw23 : k0_chk23 v127), ∀ a, (k0_off23 v127) a + S1x1024.size a ≤ S16384x1024.size a := fun v127 k0_hw23 => k0_hw23

def k0_off24 (v132 : BitVec 32) : Fin 2 → Nat :=
  let c0_i32_86 : BitVec 32 := 0#32
  ![v132.toNat, 0]

def k0_chk24 (v132 : BitVec 32) : Prop :=
  (∀ a, (k0_off24 v132) a + S1x1024.size a ≤ S16384x1024.size a)
theorem k0_off24_inb : ∀ (v132 : BitVec 32) (k0_hw24 : k0_chk24 v132), ∀ a, (k0_off24 v132) a + S1x1024.size a ≤ S16384x1024.size a := fun v132 k0_hw24 => k0_hw24

def k0_off25 (v137 : BitVec 32) : Fin 2 → Nat :=
  let c0_i32_89 : BitVec 32 := 0#32
  ![v137.toNat, 0]

def k0_chk25 (v137 : BitVec 32) : Prop :=
  (∀ a, (k0_off25 v137) a + S1x1024.size a ≤ S16384x1024.size a)
theorem k0_off25_inb : ∀ (v137 : BitVec 32) (k0_hw25 : k0_chk25 v137), ∀ a, (k0_off25 v137) a + S1x1024.size a ≤ S16384x1024.size a := fun v137 k0_hw25 => k0_hw25

def k0_off26 (v142 : BitVec 32) : Fin 2 → Nat :=
  let c0_i32_92 : BitVec 32 := 0#32
  ![v142.toNat, 0]

def k0_chk26 (v142 : BitVec 32) : Prop :=
  (∀ a, (k0_off26 v142) a + S1x1024.size a ≤ S16384x1024.size a)
theorem k0_off26_inb : ∀ (v142 : BitVec 32) (k0_hw26 : k0_chk26 v142), ∀ a, (k0_off26 v142) a + S1x1024.size a ≤ S16384x1024.size a := fun v142 k0_hw26 => k0_hw26

def k0_off27 (v147 : BitVec 32) : Fin 2 → Nat :=
  let c0_i32_95 : BitVec 32 := 0#32
  ![v147.toNat, 0]

def k0_chk27 (v147 : BitVec 32) : Prop :=
  (∀ a, (k0_off27 v147) a + S1x1024.size a ≤ S16384x1024.size a)
theorem k0_off27_inb : ∀ (v147 : BitVec 32) (k0_hw27 : k0_chk27 v147), ∀ a, (k0_off27 v147) a + S1x1024.size a ≤ S16384x1024.size a := fun v147 k0_hw27 => k0_hw27

def k0_off28 (v152 : BitVec 32) : Fin 2 → Nat :=
  let c0_i32_98 : BitVec 32 := 0#32
  ![v152.toNat, 0]

def k0_chk28 (v152 : BitVec 32) : Prop :=
  (∀ a, (k0_off28 v152) a + S1x1024.size a ≤ S16384x1024.size a)
theorem k0_off28_inb : ∀ (v152 : BitVec 32) (k0_hw28 : k0_chk28 v152), ∀ a, (k0_off28 v152) a + S1x1024.size a ≤ S16384x1024.size a := fun v152 k0_hw28 => k0_hw28

def k0_off29 (v157 : BitVec 32) : Fin 2 → Nat :=
  let c0_i32_101 : BitVec 32 := 0#32
  ![v157.toNat, 0]

def k0_chk29 (v157 : BitVec 32) : Prop :=
  (∀ a, (k0_off29 v157) a + S1x1024.size a ≤ S16384x1024.size a)
theorem k0_off29_inb : ∀ (v157 : BitVec 32) (k0_hw29 : k0_chk29 v157), ∀ a, (k0_off29 v157) a + S1x1024.size a ≤ S16384x1024.size a := fun v157 k0_hw29 => k0_hw29

def k0_off30 (v162 : BitVec 32) : Fin 2 → Nat :=
  let c0_i32_104 : BitVec 32 := 0#32
  ![v162.toNat, 0]

def k0_chk30 (v162 : BitVec 32) : Prop :=
  (∀ a, (k0_off30 v162) a + S1x1024.size a ≤ S16384x1024.size a)
theorem k0_off30_inb : ∀ (v162 : BitVec 32) (k0_hw30 : k0_chk30 v162), ∀ a, (k0_off30 v162) a + S1x1024.size a ≤ S16384x1024.size a := fun v162 k0_hw30 => k0_hw30

def k0_off31 (v167 : BitVec 32) : Fin 2 → Nat :=
  let c0_i32_107 : BitVec 32 := 0#32
  ![v167.toNat, 0]

def k0_chk31 (v167 : BitVec 32) : Prop :=
  (∀ a, (k0_off31 v167) a + S1x1024.size a ≤ S16384x1024.size a)
theorem k0_off31_inb : ∀ (v167 : BitVec 32) (k0_hw31 : k0_chk31 v167), ∀ a, (k0_off31 v167) a + S1x1024.size a ≤ S16384x1024.size a := fun v167 k0_hw31 => k0_hw31

def k0_off32 (v172 : BitVec 32) : Fin 2 → Nat :=
  let c0_i32_110 : BitVec 32 := 0#32
  ![v172.toNat, 0]

def k0_chk32 (v172 : BitVec 32) : Prop :=
  (∀ a, (k0_off32 v172) a + S1x1024.size a ≤ S16384x1024.size a)
theorem k0_off32_inb : ∀ (v172 : BitVec 32) (k0_hw32 : k0_chk32 v172), ∀ a, (k0_off32 v172) a + S1x1024.size a ≤ S16384x1024.size a := fun v172 k0_hw32 => k0_hw32

def k0_off33 (v177 : BitVec 32) : Fin 2 → Nat :=
  let c0_i32_113 : BitVec 32 := 0#32
  ![v177.toNat, 0]

def k0_chk33 (v177 : BitVec 32) : Prop :=
  (∀ a, (k0_off33 v177) a + S1x1024.size a ≤ S16384x1024.size a)
theorem k0_off33_inb : ∀ (v177 : BitVec 32) (k0_hw33 : k0_chk33 v177), ∀ a, (k0_off33 v177) a + S1x1024.size a ≤ S16384x1024.size a := fun v177 k0_hw33 => k0_hw33

def k0_off34 (v182 : BitVec 32) : Fin 2 → Nat :=
  let c0_i32_116 : BitVec 32 := 0#32
  ![v182.toNat, 0]

def k0_chk34 (v182 : BitVec 32) : Prop :=
  (∀ a, (k0_off34 v182) a + S1x1024.size a ≤ S16384x1024.size a)
theorem k0_off34_inb : ∀ (v182 : BitVec 32) (k0_hw34 : k0_chk34 v182), ∀ a, (k0_off34 v182) a + S1x1024.size a ≤ S16384x1024.size a := fun v182 k0_hw34 => k0_hw34

def k0_off35 (v187 : BitVec 32) : Fin 2 → Nat :=
  let c0_i32_119 : BitVec 32 := 0#32
  ![v187.toNat, 0]

def k0_chk35 (v187 : BitVec 32) : Prop :=
  (∀ a, (k0_off35 v187) a + S1x1024.size a ≤ S16384x1024.size a)
theorem k0_off35_inb : ∀ (v187 : BitVec 32) (k0_hw35 : k0_chk35 v187), ∀ a, (k0_off35 v187) a + S1x1024.size a ≤ S16384x1024.size a := fun v187 k0_hw35 => k0_hw35

def k0_off36 (v192 : BitVec 32) : Fin 2 → Nat :=
  let c0_i32_122 : BitVec 32 := 0#32
  ![v192.toNat, 0]

def k0_chk36 (v192 : BitVec 32) : Prop :=
  (∀ a, (k0_off36 v192) a + S1x1024.size a ≤ S16384x1024.size a)
theorem k0_off36_inb : ∀ (v192 : BitVec 32) (k0_hw36 : k0_chk36 v192), ∀ a, (k0_off36 v192) a + S1x1024.size a ≤ S16384x1024.size a := fun v192 k0_hw36 => k0_hw36

def k0_off37 (v197 : BitVec 32) : Fin 2 → Nat :=
  let c0_i32_125 : BitVec 32 := 0#32
  ![v197.toNat, 0]

def k0_chk37 (v197 : BitVec 32) : Prop :=
  (∀ a, (k0_off37 v197) a + S1x1024.size a ≤ S16384x1024.size a)
theorem k0_off37_inb : ∀ (v197 : BitVec 32) (k0_hw37 : k0_chk37 v197), ∀ a, (k0_off37 v197) a + S1x1024.size a ≤ S16384x1024.size a := fun v197 k0_hw37 => k0_hw37

def k0_off38 (v202 : BitVec 32) : Fin 2 → Nat :=
  let c0_i32_128 : BitVec 32 := 0#32
  ![v202.toNat, 0]

def k0_chk38 (v202 : BitVec 32) : Prop :=
  (∀ a, (k0_off38 v202) a + S1x1024.size a ≤ S16384x1024.size a)
theorem k0_off38_inb : ∀ (v202 : BitVec 32) (k0_hw38 : k0_chk38 v202), ∀ a, (k0_off38 v202) a + S1x1024.size a ≤ S16384x1024.size a := fun v202 k0_hw38 => k0_hw38

def k0_off39 (v207 : BitVec 32) : Fin 2 → Nat :=
  let c0_i32_131 : BitVec 32 := 0#32
  ![v207.toNat, 0]

def k0_chk39 (v207 : BitVec 32) : Prop :=
  (∀ a, (k0_off39 v207) a + S1x1024.size a ≤ S16384x1024.size a)
theorem k0_off39_inb : ∀ (v207 : BitVec 32) (k0_hw39 : k0_chk39 v207), ∀ a, (k0_off39 v207) a + S1x1024.size a ≤ S16384x1024.size a := fun v207 k0_hw39 => k0_hw39

def k0_off40 (v212 : BitVec 32) : Fin 2 → Nat :=
  let c0_i32_134 : BitVec 32 := 0#32
  ![v212.toNat, 0]

def k0_chk40 (v212 : BitVec 32) : Prop :=
  (∀ a, (k0_off40 v212) a + S1x1024.size a ≤ S16384x1024.size a)
theorem k0_off40_inb : ∀ (v212 : BitVec 32) (k0_hw40 : k0_chk40 v212), ∀ a, (k0_off40 v212) a + S1x1024.size a ≤ S16384x1024.size a := fun v212 k0_hw40 => k0_hw40

def k0_off41 (v217 : BitVec 32) : Fin 2 → Nat :=
  let c0_i32_137 : BitVec 32 := 0#32
  ![v217.toNat, 0]

def k0_chk41 (v217 : BitVec 32) : Prop :=
  (∀ a, (k0_off41 v217) a + S1x1024.size a ≤ S16384x1024.size a)
theorem k0_off41_inb : ∀ (v217 : BitVec 32) (k0_hw41 : k0_chk41 v217), ∀ a, (k0_off41 v217) a + S1x1024.size a ≤ S16384x1024.size a := fun v217 k0_hw41 => k0_hw41

def k0_off42 (v222 : BitVec 32) : Fin 2 → Nat :=
  let c0_i32_140 : BitVec 32 := 0#32
  ![v222.toNat, 0]

def k0_chk42 (v222 : BitVec 32) : Prop :=
  (∀ a, (k0_off42 v222) a + S1x1024.size a ≤ S16384x1024.size a)
theorem k0_off42_inb : ∀ (v222 : BitVec 32) (k0_hw42 : k0_chk42 v222), ∀ a, (k0_off42 v222) a + S1x1024.size a ≤ S16384x1024.size a := fun v222 k0_hw42 => k0_hw42

def k0_off43 (v227 : BitVec 32) : Fin 2 → Nat :=
  let c0_i32_143 : BitVec 32 := 0#32
  ![v227.toNat, 0]

def k0_chk43 (v227 : BitVec 32) : Prop :=
  (∀ a, (k0_off43 v227) a + S1x1024.size a ≤ S16384x1024.size a)
theorem k0_off43_inb : ∀ (v227 : BitVec 32) (k0_hw43 : k0_chk43 v227), ∀ a, (k0_off43 v227) a + S1x1024.size a ≤ S16384x1024.size a := fun v227 k0_hw43 => k0_hw43

def k0_off44 (v232 : BitVec 32) : Fin 2 → Nat :=
  let c0_i32_146 : BitVec 32 := 0#32
  ![v232.toNat, 0]

def k0_chk44 (v232 : BitVec 32) : Prop :=
  (∀ a, (k0_off44 v232) a + S1x1024.size a ≤ S16384x1024.size a)
theorem k0_off44_inb : ∀ (v232 : BitVec 32) (k0_hw44 : k0_chk44 v232), ∀ a, (k0_off44 v232) a + S1x1024.size a ≤ S16384x1024.size a := fun v232 k0_hw44 => k0_hw44

def k0_off45 (v237 : BitVec 32) : Fin 2 → Nat :=
  let c0_i32_149 : BitVec 32 := 0#32
  ![v237.toNat, 0]

def k0_chk45 (v237 : BitVec 32) : Prop :=
  (∀ a, (k0_off45 v237) a + S1x1024.size a ≤ S16384x1024.size a)
theorem k0_off45_inb : ∀ (v237 : BitVec 32) (k0_hw45 : k0_chk45 v237), ∀ a, (k0_off45 v237) a + S1x1024.size a ≤ S16384x1024.size a := fun v237 k0_hw45 => k0_hw45

def k0_off46 (v242 : BitVec 32) : Fin 2 → Nat :=
  let c0_i32_152 : BitVec 32 := 0#32
  ![v242.toNat, 0]

def k0_chk46 (v242 : BitVec 32) : Prop :=
  (∀ a, (k0_off46 v242) a + S1x1024.size a ≤ S16384x1024.size a)
theorem k0_off46_inb : ∀ (v242 : BitVec 32) (k0_hw46 : k0_chk46 v242), ∀ a, (k0_off46 v242) a + S1x1024.size a ≤ S16384x1024.size a := fun v242 k0_hw46 => k0_hw46

def k0_off47 (v247 : BitVec 32) : Fin 2 → Nat :=
  let c0_i32_155 : BitVec 32 := 0#32
  ![v247.toNat, 0]

def k0_chk47 (v247 : BitVec 32) : Prop :=
  (∀ a, (k0_off47 v247) a + S1x1024.size a ≤ S16384x1024.size a)
theorem k0_off47_inb : ∀ (v247 : BitVec 32) (k0_hw47 : k0_chk47 v247), ∀ a, (k0_off47 v247) a + S1x1024.size a ≤ S16384x1024.size a := fun v247 k0_hw47 => k0_hw47

def k0_off48 (v252 : BitVec 32) : Fin 2 → Nat :=
  let c0_i32_158 : BitVec 32 := 0#32
  ![v252.toNat, 0]

def k0_chk48 (v252 : BitVec 32) : Prop :=
  (∀ a, (k0_off48 v252) a + S1x1024.size a ≤ S16384x1024.size a)
theorem k0_off48_inb : ∀ (v252 : BitVec 32) (k0_hw48 : k0_chk48 v252), ∀ a, (k0_off48 v252) a + S1x1024.size a ≤ S16384x1024.size a := fun v252 k0_hw48 => k0_hw48

def k0_off49 (v257 : BitVec 32) : Fin 2 → Nat :=
  let c0_i32_161 : BitVec 32 := 0#32
  ![v257.toNat, 0]

def k0_chk49 (v257 : BitVec 32) : Prop :=
  (∀ a, (k0_off49 v257) a + S1x1024.size a ≤ S16384x1024.size a)
theorem k0_off49_inb : ∀ (v257 : BitVec 32) (k0_hw49 : k0_chk49 v257), ∀ a, (k0_off49 v257) a + S1x1024.size a ≤ S16384x1024.size a := fun v257 k0_hw49 => k0_hw49

def k0_off50 (v262 : BitVec 32) : Fin 2 → Nat :=
  let c0_i32_164 : BitVec 32 := 0#32
  ![v262.toNat, 0]

def k0_chk50 (v262 : BitVec 32) : Prop :=
  (∀ a, (k0_off50 v262) a + S1x1024.size a ≤ S16384x1024.size a)
theorem k0_off50_inb : ∀ (v262 : BitVec 32) (k0_hw50 : k0_chk50 v262), ∀ a, (k0_off50 v262) a + S1x1024.size a ≤ S16384x1024.size a := fun v262 k0_hw50 => k0_hw50

def k0_off51 (v267 : BitVec 32) : Fin 2 → Nat :=
  let c0_i32_167 : BitVec 32 := 0#32
  ![v267.toNat, 0]

def k0_chk51 (v267 : BitVec 32) : Prop :=
  (∀ a, (k0_off51 v267) a + S1x1024.size a ≤ S16384x1024.size a)
theorem k0_off51_inb : ∀ (v267 : BitVec 32) (k0_hw51 : k0_chk51 v267), ∀ a, (k0_off51 v267) a + S1x1024.size a ≤ S16384x1024.size a := fun v267 k0_hw51 => k0_hw51

def k0_off52 (v272 : BitVec 32) : Fin 2 → Nat :=
  let c0_i32_170 : BitVec 32 := 0#32
  ![v272.toNat, 0]

def k0_chk52 (v272 : BitVec 32) : Prop :=
  (∀ a, (k0_off52 v272) a + S1x1024.size a ≤ S16384x1024.size a)
theorem k0_off52_inb : ∀ (v272 : BitVec 32) (k0_hw52 : k0_chk52 v272), ∀ a, (k0_off52 v272) a + S1x1024.size a ≤ S16384x1024.size a := fun v272 k0_hw52 => k0_hw52

def k0_off53 (v277 : BitVec 32) : Fin 2 → Nat :=
  let c0_i32_173 : BitVec 32 := 0#32
  ![v277.toNat, 0]

def k0_chk53 (v277 : BitVec 32) : Prop :=
  (∀ a, (k0_off53 v277) a + S1x1024.size a ≤ S16384x1024.size a)
theorem k0_off53_inb : ∀ (v277 : BitVec 32) (k0_hw53 : k0_chk53 v277), ∀ a, (k0_off53 v277) a + S1x1024.size a ≤ S16384x1024.size a := fun v277 k0_hw53 => k0_hw53

def k0_off54 (v282 : BitVec 32) : Fin 2 → Nat :=
  let c0_i32_176 : BitVec 32 := 0#32
  ![v282.toNat, 0]

def k0_chk54 (v282 : BitVec 32) : Prop :=
  (∀ a, (k0_off54 v282) a + S1x1024.size a ≤ S16384x1024.size a)
theorem k0_off54_inb : ∀ (v282 : BitVec 32) (k0_hw54 : k0_chk54 v282), ∀ a, (k0_off54 v282) a + S1x1024.size a ≤ S16384x1024.size a := fun v282 k0_hw54 => k0_hw54

def k0_off55 (v287 : BitVec 32) : Fin 2 → Nat :=
  let c0_i32_179 : BitVec 32 := 0#32
  ![v287.toNat, 0]

def k0_chk55 (v287 : BitVec 32) : Prop :=
  (∀ a, (k0_off55 v287) a + S1x1024.size a ≤ S16384x1024.size a)
theorem k0_off55_inb : ∀ (v287 : BitVec 32) (k0_hw55 : k0_chk55 v287), ∀ a, (k0_off55 v287) a + S1x1024.size a ≤ S16384x1024.size a := fun v287 k0_hw55 => k0_hw55

def k0_off56 (v292 : BitVec 32) : Fin 2 → Nat :=
  let c0_i32_182 : BitVec 32 := 0#32
  ![v292.toNat, 0]

def k0_chk56 (v292 : BitVec 32) : Prop :=
  (∀ a, (k0_off56 v292) a + S1x1024.size a ≤ S16384x1024.size a)
theorem k0_off56_inb : ∀ (v292 : BitVec 32) (k0_hw56 : k0_chk56 v292), ∀ a, (k0_off56 v292) a + S1x1024.size a ≤ S16384x1024.size a := fun v292 k0_hw56 => k0_hw56

def k0_off57 (v297 : BitVec 32) : Fin 2 → Nat :=
  let c0_i32_185 : BitVec 32 := 0#32
  ![v297.toNat, 0]

def k0_chk57 (v297 : BitVec 32) : Prop :=
  (∀ a, (k0_off57 v297) a + S1x1024.size a ≤ S16384x1024.size a)
theorem k0_off57_inb : ∀ (v297 : BitVec 32) (k0_hw57 : k0_chk57 v297), ∀ a, (k0_off57 v297) a + S1x1024.size a ≤ S16384x1024.size a := fun v297 k0_hw57 => k0_hw57

def k0_off58 (v302 : BitVec 32) : Fin 2 → Nat :=
  let c0_i32_188 : BitVec 32 := 0#32
  ![v302.toNat, 0]

def k0_chk58 (v302 : BitVec 32) : Prop :=
  (∀ a, (k0_off58 v302) a + S1x1024.size a ≤ S16384x1024.size a)
theorem k0_off58_inb : ∀ (v302 : BitVec 32) (k0_hw58 : k0_chk58 v302), ∀ a, (k0_off58 v302) a + S1x1024.size a ≤ S16384x1024.size a := fun v302 k0_hw58 => k0_hw58

def k0_off59 (v307 : BitVec 32) : Fin 2 → Nat :=
  let c0_i32_191 : BitVec 32 := 0#32
  ![v307.toNat, 0]

def k0_chk59 (v307 : BitVec 32) : Prop :=
  (∀ a, (k0_off59 v307) a + S1x1024.size a ≤ S16384x1024.size a)
theorem k0_off59_inb : ∀ (v307 : BitVec 32) (k0_hw59 : k0_chk59 v307), ∀ a, (k0_off59 v307) a + S1x1024.size a ≤ S16384x1024.size a := fun v307 k0_hw59 => k0_hw59

def k0_off60 (v312 : BitVec 32) : Fin 2 → Nat :=
  let c0_i32_194 : BitVec 32 := 0#32
  ![v312.toNat, 0]

def k0_chk60 (v312 : BitVec 32) : Prop :=
  (∀ a, (k0_off60 v312) a + S1x1024.size a ≤ S16384x1024.size a)
theorem k0_off60_inb : ∀ (v312 : BitVec 32) (k0_hw60 : k0_chk60 v312), ∀ a, (k0_off60 v312) a + S1x1024.size a ≤ S16384x1024.size a := fun v312 k0_hw60 => k0_hw60

def k0_off61 (v317 : BitVec 32) : Fin 2 → Nat :=
  let c0_i32_197 : BitVec 32 := 0#32
  ![v317.toNat, 0]

def k0_chk61 (v317 : BitVec 32) : Prop :=
  (∀ a, (k0_off61 v317) a + S1x1024.size a ≤ S16384x1024.size a)
theorem k0_off61_inb : ∀ (v317 : BitVec 32) (k0_hw61 : k0_chk61 v317), ∀ a, (k0_off61 v317) a + S1x1024.size a ≤ S16384x1024.size a := fun v317 k0_hw61 => k0_hw61

def k0_off62 (v322 : BitVec 32) : Fin 2 → Nat :=
  let c0_i32_200 : BitVec 32 := 0#32
  ![v322.toNat, 0]

def k0_chk62 (v322 : BitVec 32) : Prop :=
  (∀ a, (k0_off62 v322) a + S1x1024.size a ≤ S16384x1024.size a)
theorem k0_off62_inb : ∀ (v322 : BitVec 32) (k0_hw62 : k0_chk62 v322), ∀ a, (k0_off62 v322) a + S1x1024.size a ≤ S16384x1024.size a := fun v322 k0_hw62 => k0_hw62

def k0_off63 (v327 : BitVec 32) : Fin 2 → Nat :=
  let c0_i32_203 : BitVec 32 := 0#32
  ![v327.toNat, 0]

def k0_chk63 (v327 : BitVec 32) : Prop :=
  (∀ a, (k0_off63 v327) a + S1x1024.size a ≤ S16384x1024.size a)
theorem k0_off63_inb : ∀ (v327 : BitVec 32) (k0_hw63 : k0_chk63 v327), ∀ a, (k0_off63 v327) a + S1x1024.size a ≤ S16384x1024.size a := fun v327 k0_hw63 => k0_hw63

def k0_off64 (v332 : BitVec 32) : Fin 2 → Nat :=
  let c0_i32_206 : BitVec 32 := 0#32
  ![v332.toNat, 0]

def k0_chk64 (v332 : BitVec 32) : Prop :=
  (∀ a, (k0_off64 v332) a + S1x1024.size a ≤ S16384x1024.size a)
theorem k0_off64_inb : ∀ (v332 : BitVec 32) (k0_hw64 : k0_chk64 v332), ∀ a, (k0_off64 v332) a + S1x1024.size a ≤ S16384x1024.size a := fun v332 k0_hw64 => k0_hw64

def k0_off65 (v337 : BitVec 32) : Fin 2 → Nat :=
  let c0_i32_209 : BitVec 32 := 0#32
  ![v337.toNat, 0]

def k0_chk65 (v337 : BitVec 32) : Prop :=
  (∀ a, (k0_off65 v337) a + S1x1024.size a ≤ S16384x1024.size a)
theorem k0_off65_inb : ∀ (v337 : BitVec 32) (k0_hw65 : k0_chk65 v337), ∀ a, (k0_off65 v337) a + S1x1024.size a ≤ S16384x1024.size a := fun v337 k0_hw65 => k0_hw65

def k0_off66 (v342 : BitVec 32) : Fin 2 → Nat :=
  let c0_i32_212 : BitVec 32 := 0#32
  ![v342.toNat, 0]

def k0_chk66 (v342 : BitVec 32) : Prop :=
  (∀ a, (k0_off66 v342) a + S1x1024.size a ≤ S16384x1024.size a)
theorem k0_off66_inb : ∀ (v342 : BitVec 32) (k0_hw66 : k0_chk66 v342), ∀ a, (k0_off66 v342) a + S1x1024.size a ≤ S16384x1024.size a := fun v342 k0_hw66 => k0_hw66

def k0_off67 (v347 : BitVec 32) : Fin 2 → Nat :=
  let c0_i32_215 : BitVec 32 := 0#32
  ![v347.toNat, 0]

def k0_chk67 (v347 : BitVec 32) : Prop :=
  (∀ a, (k0_off67 v347) a + S1x1024.size a ≤ S16384x1024.size a)
theorem k0_off67_inb : ∀ (v347 : BitVec 32) (k0_hw67 : k0_chk67 v347), ∀ a, (k0_off67 v347) a + S1x1024.size a ≤ S16384x1024.size a := fun v347 k0_hw67 => k0_hw67

def k0_off68 (v352 : BitVec 32) : Fin 2 → Nat :=
  let c0_i32_218 : BitVec 32 := 0#32
  ![v352.toNat, 0]

def k0_chk68 (v352 : BitVec 32) : Prop :=
  (∀ a, (k0_off68 v352) a + S1x1024.size a ≤ S16384x1024.size a)
theorem k0_off68_inb : ∀ (v352 : BitVec 32) (k0_hw68 : k0_chk68 v352), ∀ a, (k0_off68 v352) a + S1x1024.size a ≤ S16384x1024.size a := fun v352 k0_hw68 => k0_hw68

def k0_off69 (v357 : BitVec 32) : Fin 2 → Nat :=
  let c0_i32_221 : BitVec 32 := 0#32
  ![v357.toNat, 0]

def k0_chk69 (v357 : BitVec 32) : Prop :=
  (∀ a, (k0_off69 v357) a + S1x1024.size a ≤ S16384x1024.size a)
theorem k0_off69_inb : ∀ (v357 : BitVec 32) (k0_hw69 : k0_chk69 v357), ∀ a, (k0_off69 v357) a + S1x1024.size a ≤ S16384x1024.size a := fun v357 k0_hw69 => k0_hw69

def k0_off70 (v362 : BitVec 32) : Fin 2 → Nat :=
  let c0_i32_224 : BitVec 32 := 0#32
  ![v362.toNat, 0]

def k0_chk70 (v362 : BitVec 32) : Prop :=
  (∀ a, (k0_off70 v362) a + S1x1024.size a ≤ S16384x1024.size a)
theorem k0_off70_inb : ∀ (v362 : BitVec 32) (k0_hw70 : k0_chk70 v362), ∀ a, (k0_off70 v362) a + S1x1024.size a ≤ S16384x1024.size a := fun v362 k0_hw70 => k0_hw70

def k0_off71 (v367 : BitVec 32) : Fin 2 → Nat :=
  let c0_i32_227 : BitVec 32 := 0#32
  ![v367.toNat, 0]

def k0_chk71 (v367 : BitVec 32) : Prop :=
  (∀ a, (k0_off71 v367) a + S1x1024.size a ≤ S16384x1024.size a)
theorem k0_off71_inb : ∀ (v367 : BitVec 32) (k0_hw71 : k0_chk71 v367), ∀ a, (k0_off71 v367) a + S1x1024.size a ≤ S16384x1024.size a := fun v367 k0_hw71 => k0_hw71

def k0_off72 (v372 : BitVec 32) : Fin 2 → Nat :=
  let c0_i32_230 : BitVec 32 := 0#32
  ![v372.toNat, 0]

def k0_chk72 (v372 : BitVec 32) : Prop :=
  (∀ a, (k0_off72 v372) a + S1x1024.size a ≤ S16384x1024.size a)
theorem k0_off72_inb : ∀ (v372 : BitVec 32) (k0_hw72 : k0_chk72 v372), ∀ a, (k0_off72 v372) a + S1x1024.size a ≤ S16384x1024.size a := fun v372 k0_hw72 => k0_hw72

def k0_off73 (v377 : BitVec 32) : Fin 2 → Nat :=
  let c0_i32_233 : BitVec 32 := 0#32
  ![v377.toNat, 0]

def k0_chk73 (v377 : BitVec 32) : Prop :=
  (∀ a, (k0_off73 v377) a + S1x1024.size a ≤ S16384x1024.size a)
theorem k0_off73_inb : ∀ (v377 : BitVec 32) (k0_hw73 : k0_chk73 v377), ∀ a, (k0_off73 v377) a + S1x1024.size a ≤ S16384x1024.size a := fun v377 k0_hw73 => k0_hw73

def k0_off74 (v382 : BitVec 32) : Fin 2 → Nat :=
  let c0_i32_236 : BitVec 32 := 0#32
  ![v382.toNat, 0]

def k0_chk74 (v382 : BitVec 32) : Prop :=
  (∀ a, (k0_off74 v382) a + S1x1024.size a ≤ S16384x1024.size a)
theorem k0_off74_inb : ∀ (v382 : BitVec 32) (k0_hw74 : k0_chk74 v382), ∀ a, (k0_off74 v382) a + S1x1024.size a ≤ S16384x1024.size a := fun v382 k0_hw74 => k0_hw74

def k0_off75 (v387 : BitVec 32) : Fin 2 → Nat :=
  let c0_i32_239 : BitVec 32 := 0#32
  ![v387.toNat, 0]

def k0_chk75 (v387 : BitVec 32) : Prop :=
  (∀ a, (k0_off75 v387) a + S1x1024.size a ≤ S16384x1024.size a)
theorem k0_off75_inb : ∀ (v387 : BitVec 32) (k0_hw75 : k0_chk75 v387), ∀ a, (k0_off75 v387) a + S1x1024.size a ≤ S16384x1024.size a := fun v387 k0_hw75 => k0_hw75

def k0_off76 (v392 : BitVec 32) : Fin 2 → Nat :=
  let c0_i32_242 : BitVec 32 := 0#32
  ![v392.toNat, 0]

def k0_chk76 (v392 : BitVec 32) : Prop :=
  (∀ a, (k0_off76 v392) a + S1x1024.size a ≤ S16384x1024.size a)
theorem k0_off76_inb : ∀ (v392 : BitVec 32) (k0_hw76 : k0_chk76 v392), ∀ a, (k0_off76 v392) a + S1x1024.size a ≤ S16384x1024.size a := fun v392 k0_hw76 => k0_hw76

def k0_off77 (v397 : BitVec 32) : Fin 2 → Nat :=
  let c0_i32_245 : BitVec 32 := 0#32
  ![v397.toNat, 0]

def k0_chk77 (v397 : BitVec 32) : Prop :=
  (∀ a, (k0_off77 v397) a + S1x1024.size a ≤ S16384x1024.size a)
theorem k0_off77_inb : ∀ (v397 : BitVec 32) (k0_hw77 : k0_chk77 v397), ∀ a, (k0_off77 v397) a + S1x1024.size a ≤ S16384x1024.size a := fun v397 k0_hw77 => k0_hw77

def k0_off78 (v402 : BitVec 32) : Fin 2 → Nat :=
  let c0_i32_248 : BitVec 32 := 0#32
  ![v402.toNat, 0]

def k0_chk78 (v402 : BitVec 32) : Prop :=
  (∀ a, (k0_off78 v402) a + S1x1024.size a ≤ S16384x1024.size a)
theorem k0_off78_inb : ∀ (v402 : BitVec 32) (k0_hw78 : k0_chk78 v402), ∀ a, (k0_off78 v402) a + S1x1024.size a ≤ S16384x1024.size a := fun v402 k0_hw78 => k0_hw78

def k0_off79 (v407 : BitVec 32) : Fin 2 → Nat :=
  let c0_i32_251 : BitVec 32 := 0#32
  ![v407.toNat, 0]

def k0_chk79 (v407 : BitVec 32) : Prop :=
  (∀ a, (k0_off79 v407) a + S1x1024.size a ≤ S16384x1024.size a)
theorem k0_off79_inb : ∀ (v407 : BitVec 32) (k0_hw79 : k0_chk79 v407), ∀ a, (k0_off79 v407) a + S1x1024.size a ≤ S16384x1024.size a := fun v407 k0_hw79 => k0_hw79

def k0_off80 (v412 : BitVec 32) : Fin 2 → Nat :=
  let c0_i32_254 : BitVec 32 := 0#32
  ![v412.toNat, 0]

def k0_chk80 (v412 : BitVec 32) : Prop :=
  (∀ a, (k0_off80 v412) a + S1x1024.size a ≤ S16384x1024.size a)
theorem k0_off80_inb : ∀ (v412 : BitVec 32) (k0_hw80 : k0_chk80 v412), ∀ a, (k0_off80 v412) a + S1x1024.size a ≤ S16384x1024.size a := fun v412 k0_hw80 => k0_hw80

def k0_off81 (v417 : BitVec 32) : Fin 2 → Nat :=
  let c0_i32_257 : BitVec 32 := 0#32
  ![v417.toNat, 0]

def k0_chk81 (v417 : BitVec 32) : Prop :=
  (∀ a, (k0_off81 v417) a + S1x1024.size a ≤ S16384x1024.size a)
theorem k0_off81_inb : ∀ (v417 : BitVec 32) (k0_hw81 : k0_chk81 v417), ∀ a, (k0_off81 v417) a + S1x1024.size a ≤ S16384x1024.size a := fun v417 k0_hw81 => k0_hw81

def k0_off82 (v422 : BitVec 32) : Fin 2 → Nat :=
  let c0_i32_260 : BitVec 32 := 0#32
  ![v422.toNat, 0]

def k0_chk82 (v422 : BitVec 32) : Prop :=
  (∀ a, (k0_off82 v422) a + S1x1024.size a ≤ S16384x1024.size a)
theorem k0_off82_inb : ∀ (v422 : BitVec 32) (k0_hw82 : k0_chk82 v422), ∀ a, (k0_off82 v422) a + S1x1024.size a ≤ S16384x1024.size a := fun v422 k0_hw82 => k0_hw82

def k0_off83 (v427 : BitVec 32) : Fin 2 → Nat :=
  let c0_i32_263 : BitVec 32 := 0#32
  ![v427.toNat, 0]

def k0_chk83 (v427 : BitVec 32) : Prop :=
  (∀ a, (k0_off83 v427) a + S1x1024.size a ≤ S16384x1024.size a)
theorem k0_off83_inb : ∀ (v427 : BitVec 32) (k0_hw83 : k0_chk83 v427), ∀ a, (k0_off83 v427) a + S1x1024.size a ≤ S16384x1024.size a := fun v427 k0_hw83 => k0_hw83

def k0_off84 (v432 : BitVec 32) : Fin 2 → Nat :=
  let c0_i32_266 : BitVec 32 := 0#32
  ![v432.toNat, 0]

def k0_chk84 (v432 : BitVec 32) : Prop :=
  (∀ a, (k0_off84 v432) a + S1x1024.size a ≤ S16384x1024.size a)
theorem k0_off84_inb : ∀ (v432 : BitVec 32) (k0_hw84 : k0_chk84 v432), ∀ a, (k0_off84 v432) a + S1x1024.size a ≤ S16384x1024.size a := fun v432 k0_hw84 => k0_hw84

def k0_off85 (v437 : BitVec 32) : Fin 2 → Nat :=
  let c0_i32_269 : BitVec 32 := 0#32
  ![v437.toNat, 0]

def k0_chk85 (v437 : BitVec 32) : Prop :=
  (∀ a, (k0_off85 v437) a + S1x1024.size a ≤ S16384x1024.size a)
theorem k0_off85_inb : ∀ (v437 : BitVec 32) (k0_hw85 : k0_chk85 v437), ∀ a, (k0_off85 v437) a + S1x1024.size a ≤ S16384x1024.size a := fun v437 k0_hw85 => k0_hw85

def k0_off86 (v442 : BitVec 32) : Fin 2 → Nat :=
  let c0_i32_272 : BitVec 32 := 0#32
  ![v442.toNat, 0]

def k0_chk86 (v442 : BitVec 32) : Prop :=
  (∀ a, (k0_off86 v442) a + S1x1024.size a ≤ S16384x1024.size a)
theorem k0_off86_inb : ∀ (v442 : BitVec 32) (k0_hw86 : k0_chk86 v442), ∀ a, (k0_off86 v442) a + S1x1024.size a ≤ S16384x1024.size a := fun v442 k0_hw86 => k0_hw86

def k0_off87 (v447 : BitVec 32) : Fin 2 → Nat :=
  let c0_i32_275 : BitVec 32 := 0#32
  ![v447.toNat, 0]

def k0_chk87 (v447 : BitVec 32) : Prop :=
  (∀ a, (k0_off87 v447) a + S1x1024.size a ≤ S16384x1024.size a)
theorem k0_off87_inb : ∀ (v447 : BitVec 32) (k0_hw87 : k0_chk87 v447), ∀ a, (k0_off87 v447) a + S1x1024.size a ≤ S16384x1024.size a := fun v447 k0_hw87 => k0_hw87

def k0_off88 (v452 : BitVec 32) : Fin 2 → Nat :=
  let c0_i32_278 : BitVec 32 := 0#32
  ![v452.toNat, 0]

def k0_chk88 (v452 : BitVec 32) : Prop :=
  (∀ a, (k0_off88 v452) a + S1x1024.size a ≤ S16384x1024.size a)
theorem k0_off88_inb : ∀ (v452 : BitVec 32) (k0_hw88 : k0_chk88 v452), ∀ a, (k0_off88 v452) a + S1x1024.size a ≤ S16384x1024.size a := fun v452 k0_hw88 => k0_hw88

def k0_off89 (v457 : BitVec 32) : Fin 2 → Nat :=
  let c0_i32_281 : BitVec 32 := 0#32
  ![v457.toNat, 0]

def k0_chk89 (v457 : BitVec 32) : Prop :=
  (∀ a, (k0_off89 v457) a + S1x1024.size a ≤ S16384x1024.size a)
theorem k0_off89_inb : ∀ (v457 : BitVec 32) (k0_hw89 : k0_chk89 v457), ∀ a, (k0_off89 v457) a + S1x1024.size a ≤ S16384x1024.size a := fun v457 k0_hw89 => k0_hw89

def k0_off90 (v462 : BitVec 32) : Fin 2 → Nat :=
  let c0_i32_284 : BitVec 32 := 0#32
  ![v462.toNat, 0]

def k0_chk90 (v462 : BitVec 32) : Prop :=
  (∀ a, (k0_off90 v462) a + S1x1024.size a ≤ S16384x1024.size a)
theorem k0_off90_inb : ∀ (v462 : BitVec 32) (k0_hw90 : k0_chk90 v462), ∀ a, (k0_off90 v462) a + S1x1024.size a ≤ S16384x1024.size a := fun v462 k0_hw90 => k0_hw90

def k0_off91 (v467 : BitVec 32) : Fin 2 → Nat :=
  let c0_i32_287 : BitVec 32 := 0#32
  ![v467.toNat, 0]

def k0_chk91 (v467 : BitVec 32) : Prop :=
  (∀ a, (k0_off91 v467) a + S1x1024.size a ≤ S16384x1024.size a)
theorem k0_off91_inb : ∀ (v467 : BitVec 32) (k0_hw91 : k0_chk91 v467), ∀ a, (k0_off91 v467) a + S1x1024.size a ≤ S16384x1024.size a := fun v467 k0_hw91 => k0_hw91

def k0_off92 (v472 : BitVec 32) : Fin 2 → Nat :=
  let c0_i32_290 : BitVec 32 := 0#32
  ![v472.toNat, 0]

def k0_chk92 (v472 : BitVec 32) : Prop :=
  (∀ a, (k0_off92 v472) a + S1x1024.size a ≤ S16384x1024.size a)
theorem k0_off92_inb : ∀ (v472 : BitVec 32) (k0_hw92 : k0_chk92 v472), ∀ a, (k0_off92 v472) a + S1x1024.size a ≤ S16384x1024.size a := fun v472 k0_hw92 => k0_hw92

def k0_off93 (v477 : BitVec 32) : Fin 2 → Nat :=
  let c0_i32_293 : BitVec 32 := 0#32
  ![v477.toNat, 0]

def k0_chk93 (v477 : BitVec 32) : Prop :=
  (∀ a, (k0_off93 v477) a + S1x1024.size a ≤ S16384x1024.size a)
theorem k0_off93_inb : ∀ (v477 : BitVec 32) (k0_hw93 : k0_chk93 v477), ∀ a, (k0_off93 v477) a + S1x1024.size a ≤ S16384x1024.size a := fun v477 k0_hw93 => k0_hw93

def k0_off94 (v482 : BitVec 32) : Fin 2 → Nat :=
  let c0_i32_296 : BitVec 32 := 0#32
  ![v482.toNat, 0]

def k0_chk94 (v482 : BitVec 32) : Prop :=
  (∀ a, (k0_off94 v482) a + S1x1024.size a ≤ S16384x1024.size a)
theorem k0_off94_inb : ∀ (v482 : BitVec 32) (k0_hw94 : k0_chk94 v482), ∀ a, (k0_off94 v482) a + S1x1024.size a ≤ S16384x1024.size a := fun v482 k0_hw94 => k0_hw94

def k0_off95 (v487 : BitVec 32) : Fin 2 → Nat :=
  let c0_i32_299 : BitVec 32 := 0#32
  ![v487.toNat, 0]

def k0_chk95 (v487 : BitVec 32) : Prop :=
  (∀ a, (k0_off95 v487) a + S1x1024.size a ≤ S16384x1024.size a)
theorem k0_off95_inb : ∀ (v487 : BitVec 32) (k0_hw95 : k0_chk95 v487), ∀ a, (k0_off95 v487) a + S1x1024.size a ≤ S16384x1024.size a := fun v487 k0_hw95 => k0_hw95

def k0_off96 (v492 : BitVec 32) : Fin 2 → Nat :=
  let c0_i32_302 : BitVec 32 := 0#32
  ![v492.toNat, 0]

def k0_chk96 (v492 : BitVec 32) : Prop :=
  (∀ a, (k0_off96 v492) a + S1x1024.size a ≤ S16384x1024.size a)
theorem k0_off96_inb : ∀ (v492 : BitVec 32) (k0_hw96 : k0_chk96 v492), ∀ a, (k0_off96 v492) a + S1x1024.size a ≤ S16384x1024.size a := fun v492 k0_hw96 => k0_hw96

def k0_off97 (v497 : BitVec 32) : Fin 2 → Nat :=
  let c0_i32_305 : BitVec 32 := 0#32
  ![v497.toNat, 0]

def k0_chk97 (v497 : BitVec 32) : Prop :=
  (∀ a, (k0_off97 v497) a + S1x1024.size a ≤ S16384x1024.size a)
theorem k0_off97_inb : ∀ (v497 : BitVec 32) (k0_hw97 : k0_chk97 v497), ∀ a, (k0_off97 v497) a + S1x1024.size a ≤ S16384x1024.size a := fun v497 k0_hw97 => k0_hw97

def k0_off98 (v502 : BitVec 32) : Fin 2 → Nat :=
  let c0_i32_308 : BitVec 32 := 0#32
  ![v502.toNat, 0]

def k0_chk98 (v502 : BitVec 32) : Prop :=
  (∀ a, (k0_off98 v502) a + S1x1024.size a ≤ S16384x1024.size a)
theorem k0_off98_inb : ∀ (v502 : BitVec 32) (k0_hw98 : k0_chk98 v502), ∀ a, (k0_off98 v502) a + S1x1024.size a ≤ S16384x1024.size a := fun v502 k0_hw98 => k0_hw98

def k0_off99 (v507 : BitVec 32) : Fin 2 → Nat :=
  let c0_i32_311 : BitVec 32 := 0#32
  ![v507.toNat, 0]

def k0_chk99 (v507 : BitVec 32) : Prop :=
  (∀ a, (k0_off99 v507) a + S1x1024.size a ≤ S16384x1024.size a)
theorem k0_off99_inb : ∀ (v507 : BitVec 32) (k0_hw99 : k0_chk99 v507), ∀ a, (k0_off99 v507) a + S1x1024.size a ≤ S16384x1024.size a := fun v507 k0_hw99 => k0_hw99

def k0_off100 (v512 : BitVec 32) : Fin 2 → Nat :=
  let c0_i32_314 : BitVec 32 := 0#32
  ![v512.toNat, 0]

def k0_chk100 (v512 : BitVec 32) : Prop :=
  (∀ a, (k0_off100 v512) a + S1x1024.size a ≤ S16384x1024.size a)
theorem k0_off100_inb : ∀ (v512 : BitVec 32) (k0_hw100 : k0_chk100 v512), ∀ a, (k0_off100 v512) a + S1x1024.size a ≤ S16384x1024.size a := fun v512 k0_hw100 => k0_hw100

def k0_off101 (v517 : BitVec 32) : Fin 2 → Nat :=
  let c0_i32_317 : BitVec 32 := 0#32
  ![v517.toNat, 0]

def k0_chk101 (v517 : BitVec 32) : Prop :=
  (∀ a, (k0_off101 v517) a + S1x1024.size a ≤ S16384x1024.size a)
theorem k0_off101_inb : ∀ (v517 : BitVec 32) (k0_hw101 : k0_chk101 v517), ∀ a, (k0_off101 v517) a + S1x1024.size a ≤ S16384x1024.size a := fun v517 k0_hw101 => k0_hw101

def k0_off102 (v522 : BitVec 32) : Fin 2 → Nat :=
  let c0_i32_320 : BitVec 32 := 0#32
  ![v522.toNat, 0]

def k0_chk102 (v522 : BitVec 32) : Prop :=
  (∀ a, (k0_off102 v522) a + S1x1024.size a ≤ S16384x1024.size a)
theorem k0_off102_inb : ∀ (v522 : BitVec 32) (k0_hw102 : k0_chk102 v522), ∀ a, (k0_off102 v522) a + S1x1024.size a ≤ S16384x1024.size a := fun v522 k0_hw102 => k0_hw102

def k0_off103 (v527 : BitVec 32) : Fin 2 → Nat :=
  let c0_i32_323 : BitVec 32 := 0#32
  ![v527.toNat, 0]

def k0_chk103 (v527 : BitVec 32) : Prop :=
  (∀ a, (k0_off103 v527) a + S1x1024.size a ≤ S16384x1024.size a)
theorem k0_off103_inb : ∀ (v527 : BitVec 32) (k0_hw103 : k0_chk103 v527), ∀ a, (k0_off103 v527) a + S1x1024.size a ≤ S16384x1024.size a := fun v527 k0_hw103 => k0_hw103

def k0_off104 (v532 : BitVec 32) : Fin 2 → Nat :=
  let c0_i32_326 : BitVec 32 := 0#32
  ![v532.toNat, 0]

def k0_chk104 (v532 : BitVec 32) : Prop :=
  (∀ a, (k0_off104 v532) a + S1x1024.size a ≤ S16384x1024.size a)
theorem k0_off104_inb : ∀ (v532 : BitVec 32) (k0_hw104 : k0_chk104 v532), ∀ a, (k0_off104 v532) a + S1x1024.size a ≤ S16384x1024.size a := fun v532 k0_hw104 => k0_hw104

def k0_off105 (v537 : BitVec 32) : Fin 2 → Nat :=
  let c0_i32_329 : BitVec 32 := 0#32
  ![v537.toNat, 0]

def k0_chk105 (v537 : BitVec 32) : Prop :=
  (∀ a, (k0_off105 v537) a + S1x1024.size a ≤ S16384x1024.size a)
theorem k0_off105_inb : ∀ (v537 : BitVec 32) (k0_hw105 : k0_chk105 v537), ∀ a, (k0_off105 v537) a + S1x1024.size a ≤ S16384x1024.size a := fun v537 k0_hw105 => k0_hw105

def k0_off106 (v542 : BitVec 32) : Fin 2 → Nat :=
  let c0_i32_332 : BitVec 32 := 0#32
  ![v542.toNat, 0]

def k0_chk106 (v542 : BitVec 32) : Prop :=
  (∀ a, (k0_off106 v542) a + S1x1024.size a ≤ S16384x1024.size a)
theorem k0_off106_inb : ∀ (v542 : BitVec 32) (k0_hw106 : k0_chk106 v542), ∀ a, (k0_off106 v542) a + S1x1024.size a ≤ S16384x1024.size a := fun v542 k0_hw106 => k0_hw106

def k0_off107 (v547 : BitVec 32) : Fin 2 → Nat :=
  let c0_i32_335 : BitVec 32 := 0#32
  ![v547.toNat, 0]

def k0_chk107 (v547 : BitVec 32) : Prop :=
  (∀ a, (k0_off107 v547) a + S1x1024.size a ≤ S16384x1024.size a)
theorem k0_off107_inb : ∀ (v547 : BitVec 32) (k0_hw107 : k0_chk107 v547), ∀ a, (k0_off107 v547) a + S1x1024.size a ≤ S16384x1024.size a := fun v547 k0_hw107 => k0_hw107

def k0_off108 (v552 : BitVec 32) : Fin 2 → Nat :=
  let c0_i32_338 : BitVec 32 := 0#32
  ![v552.toNat, 0]

def k0_chk108 (v552 : BitVec 32) : Prop :=
  (∀ a, (k0_off108 v552) a + S1x1024.size a ≤ S16384x1024.size a)
theorem k0_off108_inb : ∀ (v552 : BitVec 32) (k0_hw108 : k0_chk108 v552), ∀ a, (k0_off108 v552) a + S1x1024.size a ≤ S16384x1024.size a := fun v552 k0_hw108 => k0_hw108

def k0_off109 (v557 : BitVec 32) : Fin 2 → Nat :=
  let c0_i32_341 : BitVec 32 := 0#32
  ![v557.toNat, 0]

def k0_chk109 (v557 : BitVec 32) : Prop :=
  (∀ a, (k0_off109 v557) a + S1x1024.size a ≤ S16384x1024.size a)
theorem k0_off109_inb : ∀ (v557 : BitVec 32) (k0_hw109 : k0_chk109 v557), ∀ a, (k0_off109 v557) a + S1x1024.size a ≤ S16384x1024.size a := fun v557 k0_hw109 => k0_hw109

def k0_off110 (v562 : BitVec 32) : Fin 2 → Nat :=
  let c0_i32_344 : BitVec 32 := 0#32
  ![v562.toNat, 0]

def k0_chk110 (v562 : BitVec 32) : Prop :=
  (∀ a, (k0_off110 v562) a + S1x1024.size a ≤ S16384x1024.size a)
theorem k0_off110_inb : ∀ (v562 : BitVec 32) (k0_hw110 : k0_chk110 v562), ∀ a, (k0_off110 v562) a + S1x1024.size a ≤ S16384x1024.size a := fun v562 k0_hw110 => k0_hw110

def k0_off111 (v567 : BitVec 32) : Fin 2 → Nat :=
  let c0_i32_347 : BitVec 32 := 0#32
  ![v567.toNat, 0]

def k0_chk111 (v567 : BitVec 32) : Prop :=
  (∀ a, (k0_off111 v567) a + S1x1024.size a ≤ S16384x1024.size a)
theorem k0_off111_inb : ∀ (v567 : BitVec 32) (k0_hw111 : k0_chk111 v567), ∀ a, (k0_off111 v567) a + S1x1024.size a ≤ S16384x1024.size a := fun v567 k0_hw111 => k0_hw111

def k0_off112 (v572 : BitVec 32) : Fin 2 → Nat :=
  let c0_i32_350 : BitVec 32 := 0#32
  ![v572.toNat, 0]

def k0_chk112 (v572 : BitVec 32) : Prop :=
  (∀ a, (k0_off112 v572) a + S1x1024.size a ≤ S16384x1024.size a)
theorem k0_off112_inb : ∀ (v572 : BitVec 32) (k0_hw112 : k0_chk112 v572), ∀ a, (k0_off112 v572) a + S1x1024.size a ≤ S16384x1024.size a := fun v572 k0_hw112 => k0_hw112

def k0_off113 (v577 : BitVec 32) : Fin 2 → Nat :=
  let c0_i32_353 : BitVec 32 := 0#32
  ![v577.toNat, 0]

def k0_chk113 (v577 : BitVec 32) : Prop :=
  (∀ a, (k0_off113 v577) a + S1x1024.size a ≤ S16384x1024.size a)
theorem k0_off113_inb : ∀ (v577 : BitVec 32) (k0_hw113 : k0_chk113 v577), ∀ a, (k0_off113 v577) a + S1x1024.size a ≤ S16384x1024.size a := fun v577 k0_hw113 => k0_hw113

def k0_off114 (v582 : BitVec 32) : Fin 2 → Nat :=
  let c0_i32_356 : BitVec 32 := 0#32
  ![v582.toNat, 0]

def k0_chk114 (v582 : BitVec 32) : Prop :=
  (∀ a, (k0_off114 v582) a + S1x1024.size a ≤ S16384x1024.size a)
theorem k0_off114_inb : ∀ (v582 : BitVec 32) (k0_hw114 : k0_chk114 v582), ∀ a, (k0_off114 v582) a + S1x1024.size a ≤ S16384x1024.size a := fun v582 k0_hw114 => k0_hw114

def k0_off115 (v587 : BitVec 32) : Fin 2 → Nat :=
  let c0_i32_359 : BitVec 32 := 0#32
  ![v587.toNat, 0]

def k0_chk115 (v587 : BitVec 32) : Prop :=
  (∀ a, (k0_off115 v587) a + S1x1024.size a ≤ S16384x1024.size a)
theorem k0_off115_inb : ∀ (v587 : BitVec 32) (k0_hw115 : k0_chk115 v587), ∀ a, (k0_off115 v587) a + S1x1024.size a ≤ S16384x1024.size a := fun v587 k0_hw115 => k0_hw115

def k0_off116 (v592 : BitVec 32) : Fin 2 → Nat :=
  let c0_i32_362 : BitVec 32 := 0#32
  ![v592.toNat, 0]

def k0_chk116 (v592 : BitVec 32) : Prop :=
  (∀ a, (k0_off116 v592) a + S1x1024.size a ≤ S16384x1024.size a)
theorem k0_off116_inb : ∀ (v592 : BitVec 32) (k0_hw116 : k0_chk116 v592), ∀ a, (k0_off116 v592) a + S1x1024.size a ≤ S16384x1024.size a := fun v592 k0_hw116 => k0_hw116

def k0_off117 (v597 : BitVec 32) : Fin 2 → Nat :=
  let c0_i32_365 : BitVec 32 := 0#32
  ![v597.toNat, 0]

def k0_chk117 (v597 : BitVec 32) : Prop :=
  (∀ a, (k0_off117 v597) a + S1x1024.size a ≤ S16384x1024.size a)
theorem k0_off117_inb : ∀ (v597 : BitVec 32) (k0_hw117 : k0_chk117 v597), ∀ a, (k0_off117 v597) a + S1x1024.size a ≤ S16384x1024.size a := fun v597 k0_hw117 => k0_hw117

def k0_off118 (v602 : BitVec 32) : Fin 2 → Nat :=
  let c0_i32_368 : BitVec 32 := 0#32
  ![v602.toNat, 0]

def k0_chk118 (v602 : BitVec 32) : Prop :=
  (∀ a, (k0_off118 v602) a + S1x1024.size a ≤ S16384x1024.size a)
theorem k0_off118_inb : ∀ (v602 : BitVec 32) (k0_hw118 : k0_chk118 v602), ∀ a, (k0_off118 v602) a + S1x1024.size a ≤ S16384x1024.size a := fun v602 k0_hw118 => k0_hw118

def k0_off119 (v607 : BitVec 32) : Fin 2 → Nat :=
  let c0_i32_371 : BitVec 32 := 0#32
  ![v607.toNat, 0]

def k0_chk119 (v607 : BitVec 32) : Prop :=
  (∀ a, (k0_off119 v607) a + S1x1024.size a ≤ S16384x1024.size a)
theorem k0_off119_inb : ∀ (v607 : BitVec 32) (k0_hw119 : k0_chk119 v607), ∀ a, (k0_off119 v607) a + S1x1024.size a ≤ S16384x1024.size a := fun v607 k0_hw119 => k0_hw119

def k0_off120 (v612 : BitVec 32) : Fin 2 → Nat :=
  let c0_i32_374 : BitVec 32 := 0#32
  ![v612.toNat, 0]

def k0_chk120 (v612 : BitVec 32) : Prop :=
  (∀ a, (k0_off120 v612) a + S1x1024.size a ≤ S16384x1024.size a)
theorem k0_off120_inb : ∀ (v612 : BitVec 32) (k0_hw120 : k0_chk120 v612), ∀ a, (k0_off120 v612) a + S1x1024.size a ≤ S16384x1024.size a := fun v612 k0_hw120 => k0_hw120

def k0_off121 (v617 : BitVec 32) : Fin 2 → Nat :=
  let c0_i32_377 : BitVec 32 := 0#32
  ![v617.toNat, 0]

def k0_chk121 (v617 : BitVec 32) : Prop :=
  (∀ a, (k0_off121 v617) a + S1x1024.size a ≤ S16384x1024.size a)
theorem k0_off121_inb : ∀ (v617 : BitVec 32) (k0_hw121 : k0_chk121 v617), ∀ a, (k0_off121 v617) a + S1x1024.size a ≤ S16384x1024.size a := fun v617 k0_hw121 => k0_hw121

def k0_off122 (v622 : BitVec 32) : Fin 2 → Nat :=
  let c0_i32_380 : BitVec 32 := 0#32
  ![v622.toNat, 0]

def k0_chk122 (v622 : BitVec 32) : Prop :=
  (∀ a, (k0_off122 v622) a + S1x1024.size a ≤ S16384x1024.size a)
theorem k0_off122_inb : ∀ (v622 : BitVec 32) (k0_hw122 : k0_chk122 v622), ∀ a, (k0_off122 v622) a + S1x1024.size a ≤ S16384x1024.size a := fun v622 k0_hw122 => k0_hw122

def k0_off123 (v627 : BitVec 32) : Fin 2 → Nat :=
  let c0_i32_383 : BitVec 32 := 0#32
  ![v627.toNat, 0]

def k0_chk123 (v627 : BitVec 32) : Prop :=
  (∀ a, (k0_off123 v627) a + S1x1024.size a ≤ S16384x1024.size a)
theorem k0_off123_inb : ∀ (v627 : BitVec 32) (k0_hw123 : k0_chk123 v627), ∀ a, (k0_off123 v627) a + S1x1024.size a ≤ S16384x1024.size a := fun v627 k0_hw123 => k0_hw123

def k0_off124 (v632 : BitVec 32) : Fin 2 → Nat :=
  let c0_i32_386 : BitVec 32 := 0#32
  ![v632.toNat, 0]

def k0_chk124 (v632 : BitVec 32) : Prop :=
  (∀ a, (k0_off124 v632) a + S1x1024.size a ≤ S16384x1024.size a)
theorem k0_off124_inb : ∀ (v632 : BitVec 32) (k0_hw124 : k0_chk124 v632), ∀ a, (k0_off124 v632) a + S1x1024.size a ≤ S16384x1024.size a := fun v632 k0_hw124 => k0_hw124

def k0_off125 (v637 : BitVec 32) : Fin 2 → Nat :=
  let c0_i32_389 : BitVec 32 := 0#32
  ![v637.toNat, 0]

def k0_chk125 (v637 : BitVec 32) : Prop :=
  (∀ a, (k0_off125 v637) a + S1x1024.size a ≤ S16384x1024.size a)
theorem k0_off125_inb : ∀ (v637 : BitVec 32) (k0_hw125 : k0_chk125 v637), ∀ a, (k0_off125 v637) a + S1x1024.size a ≤ S16384x1024.size a := fun v637 k0_hw125 => k0_hw125

def k0_off126 (v642 : BitVec 32) : Fin 2 → Nat :=
  let c0_i32_392 : BitVec 32 := 0#32
  ![v642.toNat, 0]

def k0_chk126 (v642 : BitVec 32) : Prop :=
  (∀ a, (k0_off126 v642) a + S1x1024.size a ≤ S16384x1024.size a)
theorem k0_off126_inb : ∀ (v642 : BitVec 32) (k0_hw126 : k0_chk126 v642), ∀ a, (k0_off126 v642) a + S1x1024.size a ≤ S16384x1024.size a := fun v642 k0_hw126 => k0_hw126

def k0_off127 (v647 : BitVec 32) : Fin 2 → Nat :=
  let c0_i32_395 : BitVec 32 := 0#32
  ![v647.toNat, 0]

def k0_chk127 (v647 : BitVec 32) : Prop :=
  (∀ a, (k0_off127 v647) a + S1x1024.size a ≤ S16384x1024.size a)
theorem k0_off127_inb : ∀ (v647 : BitVec 32) (k0_hw127 : k0_chk127 v647), ∀ a, (k0_off127 v647) a + S1x1024.size a ≤ S16384x1024.size a := fun v647 k0_hw127 => k0_hw127

def k0_off128 (v652 : BitVec 32) : Fin 2 → Nat :=
  let c0_i32_398 : BitVec 32 := 0#32
  ![v652.toNat, 0]

def k0_chk128 (v652 : BitVec 32) : Prop :=
  (∀ a, (k0_off128 v652) a + S1x1024.size a ≤ S16384x1024.size a)
theorem k0_off128_inb : ∀ (v652 : BitVec 32) (k0_hw128 : k0_chk128 v652), ∀ a, (k0_off128 v652) a + S1x1024.size a ≤ S16384x1024.size a := fun v652 k0_hw128 => k0_hw128

def k0_off129 (v657 : BitVec 32) : Fin 2 → Nat :=
  let c0_i32_401 : BitVec 32 := 0#32
  ![v657.toNat, 0]

def k0_chk129 (v657 : BitVec 32) : Prop :=
  (∀ a, (k0_off129 v657) a + S1x1024.size a ≤ S16384x1024.size a)
theorem k0_off129_inb : ∀ (v657 : BitVec 32) (k0_hw129 : k0_chk129 v657), ∀ a, (k0_off129 v657) a + S1x1024.size a ≤ S16384x1024.size a := fun v657 k0_hw129 => k0_hw129

def k0_off130 (v662 : BitVec 32) : Fin 2 → Nat :=
  let c0_i32_404 : BitVec 32 := 0#32
  ![v662.toNat, 0]

def k0_chk130 (v662 : BitVec 32) : Prop :=
  (∀ a, (k0_off130 v662) a + S1x1024.size a ≤ S16384x1024.size a)
theorem k0_off130_inb : ∀ (v662 : BitVec 32) (k0_hw130 : k0_chk130 v662), ∀ a, (k0_off130 v662) a + S1x1024.size a ≤ S16384x1024.size a := fun v662 k0_hw130 => k0_hw130

def k0_off131 (v667 : BitVec 32) : Fin 2 → Nat :=
  let c0_i32_407 : BitVec 32 := 0#32
  ![v667.toNat, 0]

def k0_chk131 (v667 : BitVec 32) : Prop :=
  (∀ a, (k0_off131 v667) a + S1x1024.size a ≤ S16384x1024.size a)
theorem k0_off131_inb : ∀ (v667 : BitVec 32) (k0_hw131 : k0_chk131 v667), ∀ a, (k0_off131 v667) a + S1x1024.size a ≤ S16384x1024.size a := fun v667 k0_hw131 => k0_hw131

def k0_off132 (v672 : BitVec 32) : Fin 2 → Nat :=
  let c0_i32_410 : BitVec 32 := 0#32
  ![v672.toNat, 0]

def k0_chk132 (v672 : BitVec 32) : Prop :=
  (∀ a, (k0_off132 v672) a + S1x1024.size a ≤ S16384x1024.size a)
theorem k0_off132_inb : ∀ (v672 : BitVec 32) (k0_hw132 : k0_chk132 v672), ∀ a, (k0_off132 v672) a + S1x1024.size a ≤ S16384x1024.size a := fun v672 k0_hw132 => k0_hw132

def k0_off133 (v677 : BitVec 32) : Fin 2 → Nat :=
  let c0_i32_413 : BitVec 32 := 0#32
  ![v677.toNat, 0]

def k0_chk133 (v677 : BitVec 32) : Prop :=
  (∀ a, (k0_off133 v677) a + S1x1024.size a ≤ S16384x1024.size a)
theorem k0_off133_inb : ∀ (v677 : BitVec 32) (k0_hw133 : k0_chk133 v677), ∀ a, (k0_off133 v677) a + S1x1024.size a ≤ S16384x1024.size a := fun v677 k0_hw133 => k0_hw133

def k0_off134 (v682 : BitVec 32) : Fin 2 → Nat :=
  let c0_i32_416 : BitVec 32 := 0#32
  ![v682.toNat, 0]

def k0_chk134 (v682 : BitVec 32) : Prop :=
  (∀ a, (k0_off134 v682) a + S1x1024.size a ≤ S16384x1024.size a)
theorem k0_off134_inb : ∀ (v682 : BitVec 32) (k0_hw134 : k0_chk134 v682), ∀ a, (k0_off134 v682) a + S1x1024.size a ≤ S16384x1024.size a := fun v682 k0_hw134 => k0_hw134

def k0_off135 (v687 : BitVec 32) : Fin 2 → Nat :=
  let c0_i32_419 : BitVec 32 := 0#32
  ![v687.toNat, 0]

def k0_chk135 (v687 : BitVec 32) : Prop :=
  (∀ a, (k0_off135 v687) a + S1x1024.size a ≤ S16384x1024.size a)
theorem k0_off135_inb : ∀ (v687 : BitVec 32) (k0_hw135 : k0_chk135 v687), ∀ a, (k0_off135 v687) a + S1x1024.size a ≤ S16384x1024.size a := fun v687 k0_hw135 => k0_hw135

def k0_off136 (v692 : BitVec 32) : Fin 2 → Nat :=
  let c0_i32_422 : BitVec 32 := 0#32
  ![v692.toNat, 0]

def k0_chk136 (v692 : BitVec 32) : Prop :=
  (∀ a, (k0_off136 v692) a + S1x1024.size a ≤ S16384x1024.size a)
theorem k0_off136_inb : ∀ (v692 : BitVec 32) (k0_hw136 : k0_chk136 v692), ∀ a, (k0_off136 v692) a + S1x1024.size a ≤ S16384x1024.size a := fun v692 k0_hw136 => k0_hw136

def k0_off137 (v697 : BitVec 32) : Fin 2 → Nat :=
  let c0_i32_425 : BitVec 32 := 0#32
  ![v697.toNat, 0]

def k0_chk137 (v697 : BitVec 32) : Prop :=
  (∀ a, (k0_off137 v697) a + S1x1024.size a ≤ S16384x1024.size a)
theorem k0_off137_inb : ∀ (v697 : BitVec 32) (k0_hw137 : k0_chk137 v697), ∀ a, (k0_off137 v697) a + S1x1024.size a ≤ S16384x1024.size a := fun v697 k0_hw137 => k0_hw137

def k0_off138 (v702 : BitVec 32) : Fin 2 → Nat :=
  let c0_i32_428 : BitVec 32 := 0#32
  ![v702.toNat, 0]

def k0_chk138 (v702 : BitVec 32) : Prop :=
  (∀ a, (k0_off138 v702) a + S1x1024.size a ≤ S16384x1024.size a)
theorem k0_off138_inb : ∀ (v702 : BitVec 32) (k0_hw138 : k0_chk138 v702), ∀ a, (k0_off138 v702) a + S1x1024.size a ≤ S16384x1024.size a := fun v702 k0_hw138 => k0_hw138

def k0_off139 (v707 : BitVec 32) : Fin 2 → Nat :=
  let c0_i32_431 : BitVec 32 := 0#32
  ![v707.toNat, 0]

def k0_chk139 (v707 : BitVec 32) : Prop :=
  (∀ a, (k0_off139 v707) a + S1x1024.size a ≤ S16384x1024.size a)
theorem k0_off139_inb : ∀ (v707 : BitVec 32) (k0_hw139 : k0_chk139 v707), ∀ a, (k0_off139 v707) a + S1x1024.size a ≤ S16384x1024.size a := fun v707 k0_hw139 => k0_hw139

def k0_off140 (v712 : BitVec 32) : Fin 2 → Nat :=
  let c0_i32_434 : BitVec 32 := 0#32
  ![v712.toNat, 0]

def k0_chk140 (v712 : BitVec 32) : Prop :=
  (∀ a, (k0_off140 v712) a + S1x1024.size a ≤ S16384x1024.size a)
theorem k0_off140_inb : ∀ (v712 : BitVec 32) (k0_hw140 : k0_chk140 v712), ∀ a, (k0_off140 v712) a + S1x1024.size a ≤ S16384x1024.size a := fun v712 k0_hw140 => k0_hw140

def k0_off141 (v717 : BitVec 32) : Fin 2 → Nat :=
  let c0_i32_437 : BitVec 32 := 0#32
  ![v717.toNat, 0]

def k0_chk141 (v717 : BitVec 32) : Prop :=
  (∀ a, (k0_off141 v717) a + S1x1024.size a ≤ S16384x1024.size a)
theorem k0_off141_inb : ∀ (v717 : BitVec 32) (k0_hw141 : k0_chk141 v717), ∀ a, (k0_off141 v717) a + S1x1024.size a ≤ S16384x1024.size a := fun v717 k0_hw141 => k0_hw141

def k0_off142 (v722 : BitVec 32) : Fin 2 → Nat :=
  let c0_i32_440 : BitVec 32 := 0#32
  ![v722.toNat, 0]

def k0_chk142 (v722 : BitVec 32) : Prop :=
  (∀ a, (k0_off142 v722) a + S1x1024.size a ≤ S16384x1024.size a)
theorem k0_off142_inb : ∀ (v722 : BitVec 32) (k0_hw142 : k0_chk142 v722), ∀ a, (k0_off142 v722) a + S1x1024.size a ≤ S16384x1024.size a := fun v722 k0_hw142 => k0_hw142

def k0_off143 (v727 : BitVec 32) : Fin 2 → Nat :=
  let c0_i32_443 : BitVec 32 := 0#32
  ![v727.toNat, 0]

def k0_chk143 (v727 : BitVec 32) : Prop :=
  (∀ a, (k0_off143 v727) a + S1x1024.size a ≤ S16384x1024.size a)
theorem k0_off143_inb : ∀ (v727 : BitVec 32) (k0_hw143 : k0_chk143 v727), ∀ a, (k0_off143 v727) a + S1x1024.size a ≤ S16384x1024.size a := fun v727 k0_hw143 => k0_hw143

def k0_off144 (v732 : BitVec 32) : Fin 2 → Nat :=
  let c0_i32_446 : BitVec 32 := 0#32
  ![v732.toNat, 0]

def k0_chk144 (v732 : BitVec 32) : Prop :=
  (∀ a, (k0_off144 v732) a + S1x1024.size a ≤ S16384x1024.size a)
theorem k0_off144_inb : ∀ (v732 : BitVec 32) (k0_hw144 : k0_chk144 v732), ∀ a, (k0_off144 v732) a + S1x1024.size a ≤ S16384x1024.size a := fun v732 k0_hw144 => k0_hw144

def k0_off145 (v737 : BitVec 32) : Fin 2 → Nat :=
  let c0_i32_449 : BitVec 32 := 0#32
  ![v737.toNat, 0]

def k0_chk145 (v737 : BitVec 32) : Prop :=
  (∀ a, (k0_off145 v737) a + S1x1024.size a ≤ S16384x1024.size a)
theorem k0_off145_inb : ∀ (v737 : BitVec 32) (k0_hw145 : k0_chk145 v737), ∀ a, (k0_off145 v737) a + S1x1024.size a ≤ S16384x1024.size a := fun v737 k0_hw145 => k0_hw145

def k0_off146 (v742 : BitVec 32) : Fin 2 → Nat :=
  let c0_i32_452 : BitVec 32 := 0#32
  ![v742.toNat, 0]

def k0_chk146 (v742 : BitVec 32) : Prop :=
  (∀ a, (k0_off146 v742) a + S1x1024.size a ≤ S16384x1024.size a)
theorem k0_off146_inb : ∀ (v742 : BitVec 32) (k0_hw146 : k0_chk146 v742), ∀ a, (k0_off146 v742) a + S1x1024.size a ≤ S16384x1024.size a := fun v742 k0_hw146 => k0_hw146

def k0_off147 (v747 : BitVec 32) : Fin 2 → Nat :=
  let c0_i32_455 : BitVec 32 := 0#32
  ![v747.toNat, 0]

def k0_chk147 (v747 : BitVec 32) : Prop :=
  (∀ a, (k0_off147 v747) a + S1x1024.size a ≤ S16384x1024.size a)
theorem k0_off147_inb : ∀ (v747 : BitVec 32) (k0_hw147 : k0_chk147 v747), ∀ a, (k0_off147 v747) a + S1x1024.size a ≤ S16384x1024.size a := fun v747 k0_hw147 => k0_hw147

def k0_off148 (v752 : BitVec 32) : Fin 2 → Nat :=
  let c0_i32_458 : BitVec 32 := 0#32
  ![v752.toNat, 0]

def k0_chk148 (v752 : BitVec 32) : Prop :=
  (∀ a, (k0_off148 v752) a + S1x1024.size a ≤ S16384x1024.size a)
theorem k0_off148_inb : ∀ (v752 : BitVec 32) (k0_hw148 : k0_chk148 v752), ∀ a, (k0_off148 v752) a + S1x1024.size a ≤ S16384x1024.size a := fun v752 k0_hw148 => k0_hw148

def k0_off149 (v757 : BitVec 32) : Fin 2 → Nat :=
  let c0_i32_461 : BitVec 32 := 0#32
  ![v757.toNat, 0]

def k0_chk149 (v757 : BitVec 32) : Prop :=
  (∀ a, (k0_off149 v757) a + S1x1024.size a ≤ S16384x1024.size a)
theorem k0_off149_inb : ∀ (v757 : BitVec 32) (k0_hw149 : k0_chk149 v757), ∀ a, (k0_off149 v757) a + S1x1024.size a ≤ S16384x1024.size a := fun v757 k0_hw149 => k0_hw149

def k0_off150 (v762 : BitVec 32) : Fin 2 → Nat :=
  let c0_i32_464 : BitVec 32 := 0#32
  ![v762.toNat, 0]

def k0_chk150 (v762 : BitVec 32) : Prop :=
  (∀ a, (k0_off150 v762) a + S1x1024.size a ≤ S16384x1024.size a)
theorem k0_off150_inb : ∀ (v762 : BitVec 32) (k0_hw150 : k0_chk150 v762), ∀ a, (k0_off150 v762) a + S1x1024.size a ≤ S16384x1024.size a := fun v762 k0_hw150 => k0_hw150

def k0_off151 (v767 : BitVec 32) : Fin 2 → Nat :=
  let c0_i32_467 : BitVec 32 := 0#32
  ![v767.toNat, 0]

def k0_chk151 (v767 : BitVec 32) : Prop :=
  (∀ a, (k0_off151 v767) a + S1x1024.size a ≤ S16384x1024.size a)
theorem k0_off151_inb : ∀ (v767 : BitVec 32) (k0_hw151 : k0_chk151 v767), ∀ a, (k0_off151 v767) a + S1x1024.size a ≤ S16384x1024.size a := fun v767 k0_hw151 => k0_hw151

def k0_off152 (v772 : BitVec 32) : Fin 2 → Nat :=
  let c0_i32_470 : BitVec 32 := 0#32
  ![v772.toNat, 0]

def k0_chk152 (v772 : BitVec 32) : Prop :=
  (∀ a, (k0_off152 v772) a + S1x1024.size a ≤ S16384x1024.size a)
theorem k0_off152_inb : ∀ (v772 : BitVec 32) (k0_hw152 : k0_chk152 v772), ∀ a, (k0_off152 v772) a + S1x1024.size a ≤ S16384x1024.size a := fun v772 k0_hw152 => k0_hw152

def k0_off153 (v777 : BitVec 32) : Fin 2 → Nat :=
  let c0_i32_473 : BitVec 32 := 0#32
  ![v777.toNat, 0]

def k0_chk153 (v777 : BitVec 32) : Prop :=
  (∀ a, (k0_off153 v777) a + S1x1024.size a ≤ S16384x1024.size a)
theorem k0_off153_inb : ∀ (v777 : BitVec 32) (k0_hw153 : k0_chk153 v777), ∀ a, (k0_off153 v777) a + S1x1024.size a ≤ S16384x1024.size a := fun v777 k0_hw153 => k0_hw153

def k0_off154 (v782 : BitVec 32) : Fin 2 → Nat :=
  let c0_i32_476 : BitVec 32 := 0#32
  ![v782.toNat, 0]

def k0_chk154 (v782 : BitVec 32) : Prop :=
  (∀ a, (k0_off154 v782) a + S1x1024.size a ≤ S16384x1024.size a)
theorem k0_off154_inb : ∀ (v782 : BitVec 32) (k0_hw154 : k0_chk154 v782), ∀ a, (k0_off154 v782) a + S1x1024.size a ≤ S16384x1024.size a := fun v782 k0_hw154 => k0_hw154

def k0_off155 (v787 : BitVec 32) : Fin 2 → Nat :=
  let c0_i32_479 : BitVec 32 := 0#32
  ![v787.toNat, 0]

def k0_chk155 (v787 : BitVec 32) : Prop :=
  (∀ a, (k0_off155 v787) a + S1x1024.size a ≤ S16384x1024.size a)
theorem k0_off155_inb : ∀ (v787 : BitVec 32) (k0_hw155 : k0_chk155 v787), ∀ a, (k0_off155 v787) a + S1x1024.size a ≤ S16384x1024.size a := fun v787 k0_hw155 => k0_hw155

def k0_off156 (v792 : BitVec 32) : Fin 2 → Nat :=
  let c0_i32_482 : BitVec 32 := 0#32
  ![v792.toNat, 0]

def k0_chk156 (v792 : BitVec 32) : Prop :=
  (∀ a, (k0_off156 v792) a + S1x1024.size a ≤ S16384x1024.size a)
theorem k0_off156_inb : ∀ (v792 : BitVec 32) (k0_hw156 : k0_chk156 v792), ∀ a, (k0_off156 v792) a + S1x1024.size a ≤ S16384x1024.size a := fun v792 k0_hw156 => k0_hw156

def k0_off157 (v797 : BitVec 32) : Fin 2 → Nat :=
  let c0_i32_485 : BitVec 32 := 0#32
  ![v797.toNat, 0]

def k0_chk157 (v797 : BitVec 32) : Prop :=
  (∀ a, (k0_off157 v797) a + S1x1024.size a ≤ S16384x1024.size a)
theorem k0_off157_inb : ∀ (v797 : BitVec 32) (k0_hw157 : k0_chk157 v797), ∀ a, (k0_off157 v797) a + S1x1024.size a ≤ S16384x1024.size a := fun v797 k0_hw157 => k0_hw157

def k0_off158 (v802 : BitVec 32) : Fin 2 → Nat :=
  let c0_i32_488 : BitVec 32 := 0#32
  ![v802.toNat, 0]

def k0_chk158 (v802 : BitVec 32) : Prop :=
  (∀ a, (k0_off158 v802) a + S1x1024.size a ≤ S16384x1024.size a)
theorem k0_off158_inb : ∀ (v802 : BitVec 32) (k0_hw158 : k0_chk158 v802), ∀ a, (k0_off158 v802) a + S1x1024.size a ≤ S16384x1024.size a := fun v802 k0_hw158 => k0_hw158

def k0_off159 (v807 : BitVec 32) : Fin 2 → Nat :=
  let c0_i32_491 : BitVec 32 := 0#32
  ![v807.toNat, 0]

def k0_chk159 (v807 : BitVec 32) : Prop :=
  (∀ a, (k0_off159 v807) a + S1x1024.size a ≤ S16384x1024.size a)
theorem k0_off159_inb : ∀ (v807 : BitVec 32) (k0_hw159 : k0_chk159 v807), ∀ a, (k0_off159 v807) a + S1x1024.size a ≤ S16384x1024.size a := fun v807 k0_hw159 => k0_hw159

def k0_off160 (v812 : BitVec 32) : Fin 2 → Nat :=
  let c0_i32_494 : BitVec 32 := 0#32
  ![v812.toNat, 0]

def k0_chk160 (v812 : BitVec 32) : Prop :=
  (∀ a, (k0_off160 v812) a + S1x1024.size a ≤ S16384x1024.size a)
theorem k0_off160_inb : ∀ (v812 : BitVec 32) (k0_hw160 : k0_chk160 v812), ∀ a, (k0_off160 v812) a + S1x1024.size a ≤ S16384x1024.size a := fun v812 k0_hw160 => k0_hw160

def k0_off161 (v817 : BitVec 32) : Fin 2 → Nat :=
  let c0_i32_497 : BitVec 32 := 0#32
  ![v817.toNat, 0]

def k0_chk161 (v817 : BitVec 32) : Prop :=
  (∀ a, (k0_off161 v817) a + S1x1024.size a ≤ S16384x1024.size a)
theorem k0_off161_inb : ∀ (v817 : BitVec 32) (k0_hw161 : k0_chk161 v817), ∀ a, (k0_off161 v817) a + S1x1024.size a ≤ S16384x1024.size a := fun v817 k0_hw161 => k0_hw161

def k0_off162 (v822 : BitVec 32) : Fin 2 → Nat :=
  let c0_i32_500 : BitVec 32 := 0#32
  ![v822.toNat, 0]

def k0_chk162 (v822 : BitVec 32) : Prop :=
  (∀ a, (k0_off162 v822) a + S1x1024.size a ≤ S16384x1024.size a)
theorem k0_off162_inb : ∀ (v822 : BitVec 32) (k0_hw162 : k0_chk162 v822), ∀ a, (k0_off162 v822) a + S1x1024.size a ≤ S16384x1024.size a := fun v822 k0_hw162 => k0_hw162

def k0_off163 (v827 : BitVec 32) : Fin 2 → Nat :=
  let c0_i32_503 : BitVec 32 := 0#32
  ![v827.toNat, 0]

def k0_chk163 (v827 : BitVec 32) : Prop :=
  (∀ a, (k0_off163 v827) a + S1x1024.size a ≤ S16384x1024.size a)
theorem k0_off163_inb : ∀ (v827 : BitVec 32) (k0_hw163 : k0_chk163 v827), ∀ a, (k0_off163 v827) a + S1x1024.size a ≤ S16384x1024.size a := fun v827 k0_hw163 => k0_hw163

def k0_off164 (v832 : BitVec 32) : Fin 2 → Nat :=
  let c0_i32_506 : BitVec 32 := 0#32
  ![v832.toNat, 0]

def k0_chk164 (v832 : BitVec 32) : Prop :=
  (∀ a, (k0_off164 v832) a + S1x1024.size a ≤ S16384x1024.size a)
theorem k0_off164_inb : ∀ (v832 : BitVec 32) (k0_hw164 : k0_chk164 v832), ∀ a, (k0_off164 v832) a + S1x1024.size a ≤ S16384x1024.size a := fun v832 k0_hw164 => k0_hw164

def k0_off165 (v837 : BitVec 32) : Fin 2 → Nat :=
  let c0_i32_509 : BitVec 32 := 0#32
  ![v837.toNat, 0]

def k0_chk165 (v837 : BitVec 32) : Prop :=
  (∀ a, (k0_off165 v837) a + S1x1024.size a ≤ S16384x1024.size a)
theorem k0_off165_inb : ∀ (v837 : BitVec 32) (k0_hw165 : k0_chk165 v837), ∀ a, (k0_off165 v837) a + S1x1024.size a ≤ S16384x1024.size a := fun v837 k0_hw165 => k0_hw165

def k0_off166 (v842 : BitVec 32) : Fin 2 → Nat :=
  let c0_i32_512 : BitVec 32 := 0#32
  ![v842.toNat, 0]

def k0_chk166 (v842 : BitVec 32) : Prop :=
  (∀ a, (k0_off166 v842) a + S1x1024.size a ≤ S16384x1024.size a)
theorem k0_off166_inb : ∀ (v842 : BitVec 32) (k0_hw166 : k0_chk166 v842), ∀ a, (k0_off166 v842) a + S1x1024.size a ≤ S16384x1024.size a := fun v842 k0_hw166 => k0_hw166

def k0_off167 (v847 : BitVec 32) : Fin 2 → Nat :=
  let c0_i32_515 : BitVec 32 := 0#32
  ![v847.toNat, 0]

def k0_chk167 (v847 : BitVec 32) : Prop :=
  (∀ a, (k0_off167 v847) a + S1x1024.size a ≤ S16384x1024.size a)
theorem k0_off167_inb : ∀ (v847 : BitVec 32) (k0_hw167 : k0_chk167 v847), ∀ a, (k0_off167 v847) a + S1x1024.size a ≤ S16384x1024.size a := fun v847 k0_hw167 => k0_hw167

def k0_off168 (v852 : BitVec 32) : Fin 2 → Nat :=
  let c0_i32_518 : BitVec 32 := 0#32
  ![v852.toNat, 0]

def k0_chk168 (v852 : BitVec 32) : Prop :=
  (∀ a, (k0_off168 v852) a + S1x1024.size a ≤ S16384x1024.size a)
theorem k0_off168_inb : ∀ (v852 : BitVec 32) (k0_hw168 : k0_chk168 v852), ∀ a, (k0_off168 v852) a + S1x1024.size a ≤ S16384x1024.size a := fun v852 k0_hw168 => k0_hw168

def k0_off169 (v857 : BitVec 32) : Fin 2 → Nat :=
  let c0_i32_521 : BitVec 32 := 0#32
  ![v857.toNat, 0]

def k0_chk169 (v857 : BitVec 32) : Prop :=
  (∀ a, (k0_off169 v857) a + S1x1024.size a ≤ S16384x1024.size a)
theorem k0_off169_inb : ∀ (v857 : BitVec 32) (k0_hw169 : k0_chk169 v857), ∀ a, (k0_off169 v857) a + S1x1024.size a ≤ S16384x1024.size a := fun v857 k0_hw169 => k0_hw169

def k0_off170 (v862 : BitVec 32) : Fin 2 → Nat :=
  let c0_i32_524 : BitVec 32 := 0#32
  ![v862.toNat, 0]

def k0_chk170 (v862 : BitVec 32) : Prop :=
  (∀ a, (k0_off170 v862) a + S1x1024.size a ≤ S16384x1024.size a)
theorem k0_off170_inb : ∀ (v862 : BitVec 32) (k0_hw170 : k0_chk170 v862), ∀ a, (k0_off170 v862) a + S1x1024.size a ≤ S16384x1024.size a := fun v862 k0_hw170 => k0_hw170

def k0_off171 (v867 : BitVec 32) : Fin 2 → Nat :=
  let c0_i32_527 : BitVec 32 := 0#32
  ![v867.toNat, 0]

def k0_chk171 (v867 : BitVec 32) : Prop :=
  (∀ a, (k0_off171 v867) a + S1x1024.size a ≤ S16384x1024.size a)
theorem k0_off171_inb : ∀ (v867 : BitVec 32) (k0_hw171 : k0_chk171 v867), ∀ a, (k0_off171 v867) a + S1x1024.size a ≤ S16384x1024.size a := fun v867 k0_hw171 => k0_hw171

def k0_off172 (v872 : BitVec 32) : Fin 2 → Nat :=
  let c0_i32_530 : BitVec 32 := 0#32
  ![v872.toNat, 0]

def k0_chk172 (v872 : BitVec 32) : Prop :=
  (∀ a, (k0_off172 v872) a + S1x1024.size a ≤ S16384x1024.size a)
theorem k0_off172_inb : ∀ (v872 : BitVec 32) (k0_hw172 : k0_chk172 v872), ∀ a, (k0_off172 v872) a + S1x1024.size a ≤ S16384x1024.size a := fun v872 k0_hw172 => k0_hw172

def k0_off173 (v877 : BitVec 32) : Fin 2 → Nat :=
  let c0_i32_533 : BitVec 32 := 0#32
  ![v877.toNat, 0]

def k0_chk173 (v877 : BitVec 32) : Prop :=
  (∀ a, (k0_off173 v877) a + S1x1024.size a ≤ S16384x1024.size a)
theorem k0_off173_inb : ∀ (v877 : BitVec 32) (k0_hw173 : k0_chk173 v877), ∀ a, (k0_off173 v877) a + S1x1024.size a ≤ S16384x1024.size a := fun v877 k0_hw173 => k0_hw173

def k0_off174 (v882 : BitVec 32) : Fin 2 → Nat :=
  let c0_i32_536 : BitVec 32 := 0#32
  ![v882.toNat, 0]

def k0_chk174 (v882 : BitVec 32) : Prop :=
  (∀ a, (k0_off174 v882) a + S1x1024.size a ≤ S16384x1024.size a)
theorem k0_off174_inb : ∀ (v882 : BitVec 32) (k0_hw174 : k0_chk174 v882), ∀ a, (k0_off174 v882) a + S1x1024.size a ≤ S16384x1024.size a := fun v882 k0_hw174 => k0_hw174

def k0_off175 (v887 : BitVec 32) : Fin 2 → Nat :=
  let c0_i32_539 : BitVec 32 := 0#32
  ![v887.toNat, 0]

def k0_chk175 (v887 : BitVec 32) : Prop :=
  (∀ a, (k0_off175 v887) a + S1x1024.size a ≤ S16384x1024.size a)
theorem k0_off175_inb : ∀ (v887 : BitVec 32) (k0_hw175 : k0_chk175 v887), ∀ a, (k0_off175 v887) a + S1x1024.size a ≤ S16384x1024.size a := fun v887 k0_hw175 => k0_hw175

def k0_off176 (v892 : BitVec 32) : Fin 2 → Nat :=
  let c0_i32_542 : BitVec 32 := 0#32
  ![v892.toNat, 0]

def k0_chk176 (v892 : BitVec 32) : Prop :=
  (∀ a, (k0_off176 v892) a + S1x1024.size a ≤ S16384x1024.size a)
theorem k0_off176_inb : ∀ (v892 : BitVec 32) (k0_hw176 : k0_chk176 v892), ∀ a, (k0_off176 v892) a + S1x1024.size a ≤ S16384x1024.size a := fun v892 k0_hw176 => k0_hw176

def k0_off177 (v897 : BitVec 32) : Fin 2 → Nat :=
  let c0_i32_545 : BitVec 32 := 0#32
  ![v897.toNat, 0]

def k0_chk177 (v897 : BitVec 32) : Prop :=
  (∀ a, (k0_off177 v897) a + S1x1024.size a ≤ S16384x1024.size a)
theorem k0_off177_inb : ∀ (v897 : BitVec 32) (k0_hw177 : k0_chk177 v897), ∀ a, (k0_off177 v897) a + S1x1024.size a ≤ S16384x1024.size a := fun v897 k0_hw177 => k0_hw177

def k0_off178 (v902 : BitVec 32) : Fin 2 → Nat :=
  let c0_i32_548 : BitVec 32 := 0#32
  ![v902.toNat, 0]

def k0_chk178 (v902 : BitVec 32) : Prop :=
  (∀ a, (k0_off178 v902) a + S1x1024.size a ≤ S16384x1024.size a)
theorem k0_off178_inb : ∀ (v902 : BitVec 32) (k0_hw178 : k0_chk178 v902), ∀ a, (k0_off178 v902) a + S1x1024.size a ≤ S16384x1024.size a := fun v902 k0_hw178 => k0_hw178

def k0_off179 (v907 : BitVec 32) : Fin 2 → Nat :=
  let c0_i32_551 : BitVec 32 := 0#32
  ![v907.toNat, 0]

def k0_chk179 (v907 : BitVec 32) : Prop :=
  (∀ a, (k0_off179 v907) a + S1x1024.size a ≤ S16384x1024.size a)
theorem k0_off179_inb : ∀ (v907 : BitVec 32) (k0_hw179 : k0_chk179 v907), ∀ a, (k0_off179 v907) a + S1x1024.size a ≤ S16384x1024.size a := fun v907 k0_hw179 => k0_hw179

def k0_off180 (v912 : BitVec 32) : Fin 2 → Nat :=
  let c0_i32_554 : BitVec 32 := 0#32
  ![v912.toNat, 0]

def k0_chk180 (v912 : BitVec 32) : Prop :=
  (∀ a, (k0_off180 v912) a + S1x1024.size a ≤ S16384x1024.size a)
theorem k0_off180_inb : ∀ (v912 : BitVec 32) (k0_hw180 : k0_chk180 v912), ∀ a, (k0_off180 v912) a + S1x1024.size a ≤ S16384x1024.size a := fun v912 k0_hw180 => k0_hw180

def k0_off181 (v917 : BitVec 32) : Fin 2 → Nat :=
  let c0_i32_557 : BitVec 32 := 0#32
  ![v917.toNat, 0]

def k0_chk181 (v917 : BitVec 32) : Prop :=
  (∀ a, (k0_off181 v917) a + S1x1024.size a ≤ S16384x1024.size a)
theorem k0_off181_inb : ∀ (v917 : BitVec 32) (k0_hw181 : k0_chk181 v917), ∀ a, (k0_off181 v917) a + S1x1024.size a ≤ S16384x1024.size a := fun v917 k0_hw181 => k0_hw181

def k0_off182 (v922 : BitVec 32) : Fin 2 → Nat :=
  let c0_i32_560 : BitVec 32 := 0#32
  ![v922.toNat, 0]

def k0_chk182 (v922 : BitVec 32) : Prop :=
  (∀ a, (k0_off182 v922) a + S1x1024.size a ≤ S16384x1024.size a)
theorem k0_off182_inb : ∀ (v922 : BitVec 32) (k0_hw182 : k0_chk182 v922), ∀ a, (k0_off182 v922) a + S1x1024.size a ≤ S16384x1024.size a := fun v922 k0_hw182 => k0_hw182

def k0_off183 (v927 : BitVec 32) : Fin 2 → Nat :=
  let c0_i32_563 : BitVec 32 := 0#32
  ![v927.toNat, 0]

def k0_chk183 (v927 : BitVec 32) : Prop :=
  (∀ a, (k0_off183 v927) a + S1x1024.size a ≤ S16384x1024.size a)
theorem k0_off183_inb : ∀ (v927 : BitVec 32) (k0_hw183 : k0_chk183 v927), ∀ a, (k0_off183 v927) a + S1x1024.size a ≤ S16384x1024.size a := fun v927 k0_hw183 => k0_hw183

def k0_off184 (v932 : BitVec 32) : Fin 2 → Nat :=
  let c0_i32_566 : BitVec 32 := 0#32
  ![v932.toNat, 0]

def k0_chk184 (v932 : BitVec 32) : Prop :=
  (∀ a, (k0_off184 v932) a + S1x1024.size a ≤ S16384x1024.size a)
theorem k0_off184_inb : ∀ (v932 : BitVec 32) (k0_hw184 : k0_chk184 v932), ∀ a, (k0_off184 v932) a + S1x1024.size a ≤ S16384x1024.size a := fun v932 k0_hw184 => k0_hw184

def k0_off185 (v937 : BitVec 32) : Fin 2 → Nat :=
  let c0_i32_569 : BitVec 32 := 0#32
  ![v937.toNat, 0]

def k0_chk185 (v937 : BitVec 32) : Prop :=
  (∀ a, (k0_off185 v937) a + S1x1024.size a ≤ S16384x1024.size a)
theorem k0_off185_inb : ∀ (v937 : BitVec 32) (k0_hw185 : k0_chk185 v937), ∀ a, (k0_off185 v937) a + S1x1024.size a ≤ S16384x1024.size a := fun v937 k0_hw185 => k0_hw185

def k0_off186 (v942 : BitVec 32) : Fin 2 → Nat :=
  let c0_i32_572 : BitVec 32 := 0#32
  ![v942.toNat, 0]

def k0_chk186 (v942 : BitVec 32) : Prop :=
  (∀ a, (k0_off186 v942) a + S1x1024.size a ≤ S16384x1024.size a)
theorem k0_off186_inb : ∀ (v942 : BitVec 32) (k0_hw186 : k0_chk186 v942), ∀ a, (k0_off186 v942) a + S1x1024.size a ≤ S16384x1024.size a := fun v942 k0_hw186 => k0_hw186

def k0_off187 (v947 : BitVec 32) : Fin 2 → Nat :=
  let c0_i32_575 : BitVec 32 := 0#32
  ![v947.toNat, 0]

def k0_chk187 (v947 : BitVec 32) : Prop :=
  (∀ a, (k0_off187 v947) a + S1x1024.size a ≤ S16384x1024.size a)
theorem k0_off187_inb : ∀ (v947 : BitVec 32) (k0_hw187 : k0_chk187 v947), ∀ a, (k0_off187 v947) a + S1x1024.size a ≤ S16384x1024.size a := fun v947 k0_hw187 => k0_hw187

def k0_off188 (v952 : BitVec 32) : Fin 2 → Nat :=
  let c0_i32_578 : BitVec 32 := 0#32
  ![v952.toNat, 0]

def k0_chk188 (v952 : BitVec 32) : Prop :=
  (∀ a, (k0_off188 v952) a + S1x1024.size a ≤ S16384x1024.size a)
theorem k0_off188_inb : ∀ (v952 : BitVec 32) (k0_hw188 : k0_chk188 v952), ∀ a, (k0_off188 v952) a + S1x1024.size a ≤ S16384x1024.size a := fun v952 k0_hw188 => k0_hw188

def k0_off189 (v957 : BitVec 32) : Fin 2 → Nat :=
  let c0_i32_581 : BitVec 32 := 0#32
  ![v957.toNat, 0]

def k0_chk189 (v957 : BitVec 32) : Prop :=
  (∀ a, (k0_off189 v957) a + S1x1024.size a ≤ S16384x1024.size a)
theorem k0_off189_inb : ∀ (v957 : BitVec 32) (k0_hw189 : k0_chk189 v957), ∀ a, (k0_off189 v957) a + S1x1024.size a ≤ S16384x1024.size a := fun v957 k0_hw189 => k0_hw189

def k0_off190 (v962 : BitVec 32) : Fin 2 → Nat :=
  let c0_i32_584 : BitVec 32 := 0#32
  ![v962.toNat, 0]

def k0_chk190 (v962 : BitVec 32) : Prop :=
  (∀ a, (k0_off190 v962) a + S1x1024.size a ≤ S16384x1024.size a)
theorem k0_off190_inb : ∀ (v962 : BitVec 32) (k0_hw190 : k0_chk190 v962), ∀ a, (k0_off190 v962) a + S1x1024.size a ≤ S16384x1024.size a := fun v962 k0_hw190 => k0_hw190

def k0_off191 (v967 : BitVec 32) : Fin 2 → Nat :=
  let c0_i32_587 : BitVec 32 := 0#32
  ![v967.toNat, 0]

def k0_chk191 (v967 : BitVec 32) : Prop :=
  (∀ a, (k0_off191 v967) a + S1x1024.size a ≤ S16384x1024.size a)
theorem k0_off191_inb : ∀ (v967 : BitVec 32) (k0_hw191 : k0_chk191 v967), ∀ a, (k0_off191 v967) a + S1x1024.size a ≤ S16384x1024.size a := fun v967 k0_hw191 => k0_hw191

def k0_off192 (v972 : BitVec 32) : Fin 2 → Nat :=
  let c0_i32_590 : BitVec 32 := 0#32
  ![v972.toNat, 0]

def k0_chk192 (v972 : BitVec 32) : Prop :=
  (∀ a, (k0_off192 v972) a + S1x1024.size a ≤ S16384x1024.size a)
theorem k0_off192_inb : ∀ (v972 : BitVec 32) (k0_hw192 : k0_chk192 v972), ∀ a, (k0_off192 v972) a + S1x1024.size a ≤ S16384x1024.size a := fun v972 k0_hw192 => k0_hw192

def k0_off193 (v977 : BitVec 32) : Fin 2 → Nat :=
  let c0_i32_593 : BitVec 32 := 0#32
  ![v977.toNat, 0]

def k0_chk193 (v977 : BitVec 32) : Prop :=
  (∀ a, (k0_off193 v977) a + S1x1024.size a ≤ S16384x1024.size a)
theorem k0_off193_inb : ∀ (v977 : BitVec 32) (k0_hw193 : k0_chk193 v977), ∀ a, (k0_off193 v977) a + S1x1024.size a ≤ S16384x1024.size a := fun v977 k0_hw193 => k0_hw193

def k0_off194 (v982 : BitVec 32) : Fin 2 → Nat :=
  let c0_i32_596 : BitVec 32 := 0#32
  ![v982.toNat, 0]

def k0_chk194 (v982 : BitVec 32) : Prop :=
  (∀ a, (k0_off194 v982) a + S1x1024.size a ≤ S16384x1024.size a)
theorem k0_off194_inb : ∀ (v982 : BitVec 32) (k0_hw194 : k0_chk194 v982), ∀ a, (k0_off194 v982) a + S1x1024.size a ≤ S16384x1024.size a := fun v982 k0_hw194 => k0_hw194

def k0_off195 (v987 : BitVec 32) : Fin 2 → Nat :=
  let c0_i32_599 : BitVec 32 := 0#32
  ![v987.toNat, 0]

def k0_chk195 (v987 : BitVec 32) : Prop :=
  (∀ a, (k0_off195 v987) a + S1x1024.size a ≤ S16384x1024.size a)
theorem k0_off195_inb : ∀ (v987 : BitVec 32) (k0_hw195 : k0_chk195 v987), ∀ a, (k0_off195 v987) a + S1x1024.size a ≤ S16384x1024.size a := fun v987 k0_hw195 => k0_hw195

def k0_off196 (v992 : BitVec 32) : Fin 2 → Nat :=
  let c0_i32_602 : BitVec 32 := 0#32
  ![v992.toNat, 0]

def k0_chk196 (v992 : BitVec 32) : Prop :=
  (∀ a, (k0_off196 v992) a + S1x1024.size a ≤ S16384x1024.size a)
theorem k0_off196_inb : ∀ (v992 : BitVec 32) (k0_hw196 : k0_chk196 v992), ∀ a, (k0_off196 v992) a + S1x1024.size a ≤ S16384x1024.size a := fun v992 k0_hw196 => k0_hw196

def k0_off197 (v997 : BitVec 32) : Fin 2 → Nat :=
  let c0_i32_605 : BitVec 32 := 0#32
  ![v997.toNat, 0]

def k0_chk197 (v997 : BitVec 32) : Prop :=
  (∀ a, (k0_off197 v997) a + S1x1024.size a ≤ S16384x1024.size a)
theorem k0_off197_inb : ∀ (v997 : BitVec 32) (k0_hw197 : k0_chk197 v997), ∀ a, (k0_off197 v997) a + S1x1024.size a ≤ S16384x1024.size a := fun v997 k0_hw197 => k0_hw197

def k0_off198 (v1002 : BitVec 32) : Fin 2 → Nat :=
  let c0_i32_608 : BitVec 32 := 0#32
  ![v1002.toNat, 0]

def k0_chk198 (v1002 : BitVec 32) : Prop :=
  (∀ a, (k0_off198 v1002) a + S1x1024.size a ≤ S16384x1024.size a)
theorem k0_off198_inb : ∀ (v1002 : BitVec 32) (k0_hw198 : k0_chk198 v1002), ∀ a, (k0_off198 v1002) a + S1x1024.size a ≤ S16384x1024.size a := fun v1002 k0_hw198 => k0_hw198

def k0_off199 (v1007 : BitVec 32) : Fin 2 → Nat :=
  let c0_i32_611 : BitVec 32 := 0#32
  ![v1007.toNat, 0]

def k0_chk199 (v1007 : BitVec 32) : Prop :=
  (∀ a, (k0_off199 v1007) a + S1x1024.size a ≤ S16384x1024.size a)
theorem k0_off199_inb : ∀ (v1007 : BitVec 32) (k0_hw199 : k0_chk199 v1007), ∀ a, (k0_off199 v1007) a + S1x1024.size a ≤ S16384x1024.size a := fun v1007 k0_hw199 => k0_hw199

def k0_off200 (v1012 : BitVec 32) : Fin 2 → Nat :=
  let c0_i32_614 : BitVec 32 := 0#32
  ![v1012.toNat, 0]

def k0_chk200 (v1012 : BitVec 32) : Prop :=
  (∀ a, (k0_off200 v1012) a + S1x1024.size a ≤ S16384x1024.size a)
theorem k0_off200_inb : ∀ (v1012 : BitVec 32) (k0_hw200 : k0_chk200 v1012), ∀ a, (k0_off200 v1012) a + S1x1024.size a ≤ S16384x1024.size a := fun v1012 k0_hw200 => k0_hw200

def k0_off201 (v1017 : BitVec 32) : Fin 2 → Nat :=
  let c0_i32_617 : BitVec 32 := 0#32
  ![v1017.toNat, 0]

def k0_chk201 (v1017 : BitVec 32) : Prop :=
  (∀ a, (k0_off201 v1017) a + S1x1024.size a ≤ S16384x1024.size a)
theorem k0_off201_inb : ∀ (v1017 : BitVec 32) (k0_hw201 : k0_chk201 v1017), ∀ a, (k0_off201 v1017) a + S1x1024.size a ≤ S16384x1024.size a := fun v1017 k0_hw201 => k0_hw201

def k0_off202 (v1022 : BitVec 32) : Fin 2 → Nat :=
  let c0_i32_620 : BitVec 32 := 0#32
  ![v1022.toNat, 0]

def k0_chk202 (v1022 : BitVec 32) : Prop :=
  (∀ a, (k0_off202 v1022) a + S1x1024.size a ≤ S16384x1024.size a)
theorem k0_off202_inb : ∀ (v1022 : BitVec 32) (k0_hw202 : k0_chk202 v1022), ∀ a, (k0_off202 v1022) a + S1x1024.size a ≤ S16384x1024.size a := fun v1022 k0_hw202 => k0_hw202

def k0_off203 (v1027 : BitVec 32) : Fin 2 → Nat :=
  let c0_i32_623 : BitVec 32 := 0#32
  ![v1027.toNat, 0]

def k0_chk203 (v1027 : BitVec 32) : Prop :=
  (∀ a, (k0_off203 v1027) a + S1x1024.size a ≤ S16384x1024.size a)
theorem k0_off203_inb : ∀ (v1027 : BitVec 32) (k0_hw203 : k0_chk203 v1027), ∀ a, (k0_off203 v1027) a + S1x1024.size a ≤ S16384x1024.size a := fun v1027 k0_hw203 => k0_hw203

def k0_off204 (v1032 : BitVec 32) : Fin 2 → Nat :=
  let c0_i32_626 : BitVec 32 := 0#32
  ![v1032.toNat, 0]

def k0_chk204 (v1032 : BitVec 32) : Prop :=
  (∀ a, (k0_off204 v1032) a + S1x1024.size a ≤ S16384x1024.size a)
theorem k0_off204_inb : ∀ (v1032 : BitVec 32) (k0_hw204 : k0_chk204 v1032), ∀ a, (k0_off204 v1032) a + S1x1024.size a ≤ S16384x1024.size a := fun v1032 k0_hw204 => k0_hw204

def k0_off205 (v1037 : BitVec 32) : Fin 2 → Nat :=
  let c0_i32_629 : BitVec 32 := 0#32
  ![v1037.toNat, 0]

def k0_chk205 (v1037 : BitVec 32) : Prop :=
  (∀ a, (k0_off205 v1037) a + S1x1024.size a ≤ S16384x1024.size a)
theorem k0_off205_inb : ∀ (v1037 : BitVec 32) (k0_hw205 : k0_chk205 v1037), ∀ a, (k0_off205 v1037) a + S1x1024.size a ≤ S16384x1024.size a := fun v1037 k0_hw205 => k0_hw205

def k0_off206 (v1042 : BitVec 32) : Fin 2 → Nat :=
  let c0_i32_632 : BitVec 32 := 0#32
  ![v1042.toNat, 0]

def k0_chk206 (v1042 : BitVec 32) : Prop :=
  (∀ a, (k0_off206 v1042) a + S1x1024.size a ≤ S16384x1024.size a)
theorem k0_off206_inb : ∀ (v1042 : BitVec 32) (k0_hw206 : k0_chk206 v1042), ∀ a, (k0_off206 v1042) a + S1x1024.size a ≤ S16384x1024.size a := fun v1042 k0_hw206 => k0_hw206

def k0_off207 (v1047 : BitVec 32) : Fin 2 → Nat :=
  let c0_i32_635 : BitVec 32 := 0#32
  ![v1047.toNat, 0]

def k0_chk207 (v1047 : BitVec 32) : Prop :=
  (∀ a, (k0_off207 v1047) a + S1x1024.size a ≤ S16384x1024.size a)
theorem k0_off207_inb : ∀ (v1047 : BitVec 32) (k0_hw207 : k0_chk207 v1047), ∀ a, (k0_off207 v1047) a + S1x1024.size a ≤ S16384x1024.size a := fun v1047 k0_hw207 => k0_hw207

def k0_off208 (v1052 : BitVec 32) : Fin 2 → Nat :=
  let c0_i32_638 : BitVec 32 := 0#32
  ![v1052.toNat, 0]

def k0_chk208 (v1052 : BitVec 32) : Prop :=
  (∀ a, (k0_off208 v1052) a + S1x1024.size a ≤ S16384x1024.size a)
theorem k0_off208_inb : ∀ (v1052 : BitVec 32) (k0_hw208 : k0_chk208 v1052), ∀ a, (k0_off208 v1052) a + S1x1024.size a ≤ S16384x1024.size a := fun v1052 k0_hw208 => k0_hw208

def k0_off209 (v1057 : BitVec 32) : Fin 2 → Nat :=
  let c0_i32_641 : BitVec 32 := 0#32
  ![v1057.toNat, 0]

def k0_chk209 (v1057 : BitVec 32) : Prop :=
  (∀ a, (k0_off209 v1057) a + S1x1024.size a ≤ S16384x1024.size a)
theorem k0_off209_inb : ∀ (v1057 : BitVec 32) (k0_hw209 : k0_chk209 v1057), ∀ a, (k0_off209 v1057) a + S1x1024.size a ≤ S16384x1024.size a := fun v1057 k0_hw209 => k0_hw209

def k0_off210 (v1062 : BitVec 32) : Fin 2 → Nat :=
  let c0_i32_644 : BitVec 32 := 0#32
  ![v1062.toNat, 0]

def k0_chk210 (v1062 : BitVec 32) : Prop :=
  (∀ a, (k0_off210 v1062) a + S1x1024.size a ≤ S16384x1024.size a)
theorem k0_off210_inb : ∀ (v1062 : BitVec 32) (k0_hw210 : k0_chk210 v1062), ∀ a, (k0_off210 v1062) a + S1x1024.size a ≤ S16384x1024.size a := fun v1062 k0_hw210 => k0_hw210

def k0_off211 (v1067 : BitVec 32) : Fin 2 → Nat :=
  let c0_i32_647 : BitVec 32 := 0#32
  ![v1067.toNat, 0]

def k0_chk211 (v1067 : BitVec 32) : Prop :=
  (∀ a, (k0_off211 v1067) a + S1x1024.size a ≤ S16384x1024.size a)
theorem k0_off211_inb : ∀ (v1067 : BitVec 32) (k0_hw211 : k0_chk211 v1067), ∀ a, (k0_off211 v1067) a + S1x1024.size a ≤ S16384x1024.size a := fun v1067 k0_hw211 => k0_hw211

def k0_off212 (v1072 : BitVec 32) : Fin 2 → Nat :=
  let c0_i32_650 : BitVec 32 := 0#32
  ![v1072.toNat, 0]

def k0_chk212 (v1072 : BitVec 32) : Prop :=
  (∀ a, (k0_off212 v1072) a + S1x1024.size a ≤ S16384x1024.size a)
theorem k0_off212_inb : ∀ (v1072 : BitVec 32) (k0_hw212 : k0_chk212 v1072), ∀ a, (k0_off212 v1072) a + S1x1024.size a ≤ S16384x1024.size a := fun v1072 k0_hw212 => k0_hw212

def k0_off213 (v1077 : BitVec 32) : Fin 2 → Nat :=
  let c0_i32_653 : BitVec 32 := 0#32
  ![v1077.toNat, 0]

def k0_chk213 (v1077 : BitVec 32) : Prop :=
  (∀ a, (k0_off213 v1077) a + S1x1024.size a ≤ S16384x1024.size a)
theorem k0_off213_inb : ∀ (v1077 : BitVec 32) (k0_hw213 : k0_chk213 v1077), ∀ a, (k0_off213 v1077) a + S1x1024.size a ≤ S16384x1024.size a := fun v1077 k0_hw213 => k0_hw213

def k0_off214 (v1082 : BitVec 32) : Fin 2 → Nat :=
  let c0_i32_656 : BitVec 32 := 0#32
  ![v1082.toNat, 0]

def k0_chk214 (v1082 : BitVec 32) : Prop :=
  (∀ a, (k0_off214 v1082) a + S1x1024.size a ≤ S16384x1024.size a)
theorem k0_off214_inb : ∀ (v1082 : BitVec 32) (k0_hw214 : k0_chk214 v1082), ∀ a, (k0_off214 v1082) a + S1x1024.size a ≤ S16384x1024.size a := fun v1082 k0_hw214 => k0_hw214

def k0_off215 (v1087 : BitVec 32) : Fin 2 → Nat :=
  let c0_i32_659 : BitVec 32 := 0#32
  ![v1087.toNat, 0]

def k0_chk215 (v1087 : BitVec 32) : Prop :=
  (∀ a, (k0_off215 v1087) a + S1x1024.size a ≤ S16384x1024.size a)
theorem k0_off215_inb : ∀ (v1087 : BitVec 32) (k0_hw215 : k0_chk215 v1087), ∀ a, (k0_off215 v1087) a + S1x1024.size a ≤ S16384x1024.size a := fun v1087 k0_hw215 => k0_hw215

def k0_off216 (v1092 : BitVec 32) : Fin 2 → Nat :=
  let c0_i32_662 : BitVec 32 := 0#32
  ![v1092.toNat, 0]

def k0_chk216 (v1092 : BitVec 32) : Prop :=
  (∀ a, (k0_off216 v1092) a + S1x1024.size a ≤ S16384x1024.size a)
theorem k0_off216_inb : ∀ (v1092 : BitVec 32) (k0_hw216 : k0_chk216 v1092), ∀ a, (k0_off216 v1092) a + S1x1024.size a ≤ S16384x1024.size a := fun v1092 k0_hw216 => k0_hw216

def k0_off217 (v1097 : BitVec 32) : Fin 2 → Nat :=
  let c0_i32_665 : BitVec 32 := 0#32
  ![v1097.toNat, 0]

def k0_chk217 (v1097 : BitVec 32) : Prop :=
  (∀ a, (k0_off217 v1097) a + S1x1024.size a ≤ S16384x1024.size a)
theorem k0_off217_inb : ∀ (v1097 : BitVec 32) (k0_hw217 : k0_chk217 v1097), ∀ a, (k0_off217 v1097) a + S1x1024.size a ≤ S16384x1024.size a := fun v1097 k0_hw217 => k0_hw217

def k0_off218 (v1102 : BitVec 32) : Fin 2 → Nat :=
  let c0_i32_668 : BitVec 32 := 0#32
  ![v1102.toNat, 0]

def k0_chk218 (v1102 : BitVec 32) : Prop :=
  (∀ a, (k0_off218 v1102) a + S1x1024.size a ≤ S16384x1024.size a)
theorem k0_off218_inb : ∀ (v1102 : BitVec 32) (k0_hw218 : k0_chk218 v1102), ∀ a, (k0_off218 v1102) a + S1x1024.size a ≤ S16384x1024.size a := fun v1102 k0_hw218 => k0_hw218

def k0_off219 (v1107 : BitVec 32) : Fin 2 → Nat :=
  let c0_i32_671 : BitVec 32 := 0#32
  ![v1107.toNat, 0]

def k0_chk219 (v1107 : BitVec 32) : Prop :=
  (∀ a, (k0_off219 v1107) a + S1x1024.size a ≤ S16384x1024.size a)
theorem k0_off219_inb : ∀ (v1107 : BitVec 32) (k0_hw219 : k0_chk219 v1107), ∀ a, (k0_off219 v1107) a + S1x1024.size a ≤ S16384x1024.size a := fun v1107 k0_hw219 => k0_hw219

def k0_off220 (v1112 : BitVec 32) : Fin 2 → Nat :=
  let c0_i32_674 : BitVec 32 := 0#32
  ![v1112.toNat, 0]

def k0_chk220 (v1112 : BitVec 32) : Prop :=
  (∀ a, (k0_off220 v1112) a + S1x1024.size a ≤ S16384x1024.size a)
theorem k0_off220_inb : ∀ (v1112 : BitVec 32) (k0_hw220 : k0_chk220 v1112), ∀ a, (k0_off220 v1112) a + S1x1024.size a ≤ S16384x1024.size a := fun v1112 k0_hw220 => k0_hw220

def k0_off221 (v1117 : BitVec 32) : Fin 2 → Nat :=
  let c0_i32_677 : BitVec 32 := 0#32
  ![v1117.toNat, 0]

def k0_chk221 (v1117 : BitVec 32) : Prop :=
  (∀ a, (k0_off221 v1117) a + S1x1024.size a ≤ S16384x1024.size a)
theorem k0_off221_inb : ∀ (v1117 : BitVec 32) (k0_hw221 : k0_chk221 v1117), ∀ a, (k0_off221 v1117) a + S1x1024.size a ≤ S16384x1024.size a := fun v1117 k0_hw221 => k0_hw221

def k0_off222 (v1122 : BitVec 32) : Fin 2 → Nat :=
  let c0_i32_680 : BitVec 32 := 0#32
  ![v1122.toNat, 0]

def k0_chk222 (v1122 : BitVec 32) : Prop :=
  (∀ a, (k0_off222 v1122) a + S1x1024.size a ≤ S16384x1024.size a)
theorem k0_off222_inb : ∀ (v1122 : BitVec 32) (k0_hw222 : k0_chk222 v1122), ∀ a, (k0_off222 v1122) a + S1x1024.size a ≤ S16384x1024.size a := fun v1122 k0_hw222 => k0_hw222

def k0_off223 (v1127 : BitVec 32) : Fin 2 → Nat :=
  let c0_i32_683 : BitVec 32 := 0#32
  ![v1127.toNat, 0]

def k0_chk223 (v1127 : BitVec 32) : Prop :=
  (∀ a, (k0_off223 v1127) a + S1x1024.size a ≤ S16384x1024.size a)
theorem k0_off223_inb : ∀ (v1127 : BitVec 32) (k0_hw223 : k0_chk223 v1127), ∀ a, (k0_off223 v1127) a + S1x1024.size a ≤ S16384x1024.size a := fun v1127 k0_hw223 => k0_hw223

def k0_off224 (v1132 : BitVec 32) : Fin 2 → Nat :=
  let c0_i32_686 : BitVec 32 := 0#32
  ![v1132.toNat, 0]

def k0_chk224 (v1132 : BitVec 32) : Prop :=
  (∀ a, (k0_off224 v1132) a + S1x1024.size a ≤ S16384x1024.size a)
theorem k0_off224_inb : ∀ (v1132 : BitVec 32) (k0_hw224 : k0_chk224 v1132), ∀ a, (k0_off224 v1132) a + S1x1024.size a ≤ S16384x1024.size a := fun v1132 k0_hw224 => k0_hw224

def k0_off225 (v1137 : BitVec 32) : Fin 2 → Nat :=
  let c0_i32_689 : BitVec 32 := 0#32
  ![v1137.toNat, 0]

def k0_chk225 (v1137 : BitVec 32) : Prop :=
  (∀ a, (k0_off225 v1137) a + S1x1024.size a ≤ S16384x1024.size a)
theorem k0_off225_inb : ∀ (v1137 : BitVec 32) (k0_hw225 : k0_chk225 v1137), ∀ a, (k0_off225 v1137) a + S1x1024.size a ≤ S16384x1024.size a := fun v1137 k0_hw225 => k0_hw225

def k0_off226 (v1142 : BitVec 32) : Fin 2 → Nat :=
  let c0_i32_692 : BitVec 32 := 0#32
  ![v1142.toNat, 0]

def k0_chk226 (v1142 : BitVec 32) : Prop :=
  (∀ a, (k0_off226 v1142) a + S1x1024.size a ≤ S16384x1024.size a)
theorem k0_off226_inb : ∀ (v1142 : BitVec 32) (k0_hw226 : k0_chk226 v1142), ∀ a, (k0_off226 v1142) a + S1x1024.size a ≤ S16384x1024.size a := fun v1142 k0_hw226 => k0_hw226

def k0_off227 (v1147 : BitVec 32) : Fin 2 → Nat :=
  let c0_i32_695 : BitVec 32 := 0#32
  ![v1147.toNat, 0]

def k0_chk227 (v1147 : BitVec 32) : Prop :=
  (∀ a, (k0_off227 v1147) a + S1x1024.size a ≤ S16384x1024.size a)
theorem k0_off227_inb : ∀ (v1147 : BitVec 32) (k0_hw227 : k0_chk227 v1147), ∀ a, (k0_off227 v1147) a + S1x1024.size a ≤ S16384x1024.size a := fun v1147 k0_hw227 => k0_hw227

def k0_off228 (v1152 : BitVec 32) : Fin 2 → Nat :=
  let c0_i32_698 : BitVec 32 := 0#32
  ![v1152.toNat, 0]

def k0_chk228 (v1152 : BitVec 32) : Prop :=
  (∀ a, (k0_off228 v1152) a + S1x1024.size a ≤ S16384x1024.size a)
theorem k0_off228_inb : ∀ (v1152 : BitVec 32) (k0_hw228 : k0_chk228 v1152), ∀ a, (k0_off228 v1152) a + S1x1024.size a ≤ S16384x1024.size a := fun v1152 k0_hw228 => k0_hw228

def k0_off229 (v1157 : BitVec 32) : Fin 2 → Nat :=
  let c0_i32_701 : BitVec 32 := 0#32
  ![v1157.toNat, 0]

def k0_chk229 (v1157 : BitVec 32) : Prop :=
  (∀ a, (k0_off229 v1157) a + S1x1024.size a ≤ S16384x1024.size a)
theorem k0_off229_inb : ∀ (v1157 : BitVec 32) (k0_hw229 : k0_chk229 v1157), ∀ a, (k0_off229 v1157) a + S1x1024.size a ≤ S16384x1024.size a := fun v1157 k0_hw229 => k0_hw229

def k0_off230 (v1162 : BitVec 32) : Fin 2 → Nat :=
  let c0_i32_704 : BitVec 32 := 0#32
  ![v1162.toNat, 0]

def k0_chk230 (v1162 : BitVec 32) : Prop :=
  (∀ a, (k0_off230 v1162) a + S1x1024.size a ≤ S16384x1024.size a)
theorem k0_off230_inb : ∀ (v1162 : BitVec 32) (k0_hw230 : k0_chk230 v1162), ∀ a, (k0_off230 v1162) a + S1x1024.size a ≤ S16384x1024.size a := fun v1162 k0_hw230 => k0_hw230

def k0_off231 (v1167 : BitVec 32) : Fin 2 → Nat :=
  let c0_i32_707 : BitVec 32 := 0#32
  ![v1167.toNat, 0]

def k0_chk231 (v1167 : BitVec 32) : Prop :=
  (∀ a, (k0_off231 v1167) a + S1x1024.size a ≤ S16384x1024.size a)
theorem k0_off231_inb : ∀ (v1167 : BitVec 32) (k0_hw231 : k0_chk231 v1167), ∀ a, (k0_off231 v1167) a + S1x1024.size a ≤ S16384x1024.size a := fun v1167 k0_hw231 => k0_hw231

def k0_off232 (v1172 : BitVec 32) : Fin 2 → Nat :=
  let c0_i32_710 : BitVec 32 := 0#32
  ![v1172.toNat, 0]

def k0_chk232 (v1172 : BitVec 32) : Prop :=
  (∀ a, (k0_off232 v1172) a + S1x1024.size a ≤ S16384x1024.size a)
theorem k0_off232_inb : ∀ (v1172 : BitVec 32) (k0_hw232 : k0_chk232 v1172), ∀ a, (k0_off232 v1172) a + S1x1024.size a ≤ S16384x1024.size a := fun v1172 k0_hw232 => k0_hw232

def k0_off233 (v1177 : BitVec 32) : Fin 2 → Nat :=
  let c0_i32_713 : BitVec 32 := 0#32
  ![v1177.toNat, 0]

def k0_chk233 (v1177 : BitVec 32) : Prop :=
  (∀ a, (k0_off233 v1177) a + S1x1024.size a ≤ S16384x1024.size a)
theorem k0_off233_inb : ∀ (v1177 : BitVec 32) (k0_hw233 : k0_chk233 v1177), ∀ a, (k0_off233 v1177) a + S1x1024.size a ≤ S16384x1024.size a := fun v1177 k0_hw233 => k0_hw233

def k0_off234 (v1182 : BitVec 32) : Fin 2 → Nat :=
  let c0_i32_716 : BitVec 32 := 0#32
  ![v1182.toNat, 0]

def k0_chk234 (v1182 : BitVec 32) : Prop :=
  (∀ a, (k0_off234 v1182) a + S1x1024.size a ≤ S16384x1024.size a)
theorem k0_off234_inb : ∀ (v1182 : BitVec 32) (k0_hw234 : k0_chk234 v1182), ∀ a, (k0_off234 v1182) a + S1x1024.size a ≤ S16384x1024.size a := fun v1182 k0_hw234 => k0_hw234

def k0_off235 (v1187 : BitVec 32) : Fin 2 → Nat :=
  let c0_i32_719 : BitVec 32 := 0#32
  ![v1187.toNat, 0]

def k0_chk235 (v1187 : BitVec 32) : Prop :=
  (∀ a, (k0_off235 v1187) a + S1x1024.size a ≤ S16384x1024.size a)
theorem k0_off235_inb : ∀ (v1187 : BitVec 32) (k0_hw235 : k0_chk235 v1187), ∀ a, (k0_off235 v1187) a + S1x1024.size a ≤ S16384x1024.size a := fun v1187 k0_hw235 => k0_hw235

def k0_off236 (v1192 : BitVec 32) : Fin 2 → Nat :=
  let c0_i32_722 : BitVec 32 := 0#32
  ![v1192.toNat, 0]

def k0_chk236 (v1192 : BitVec 32) : Prop :=
  (∀ a, (k0_off236 v1192) a + S1x1024.size a ≤ S16384x1024.size a)
theorem k0_off236_inb : ∀ (v1192 : BitVec 32) (k0_hw236 : k0_chk236 v1192), ∀ a, (k0_off236 v1192) a + S1x1024.size a ≤ S16384x1024.size a := fun v1192 k0_hw236 => k0_hw236

def k0_off237 (v1197 : BitVec 32) : Fin 2 → Nat :=
  let c0_i32_725 : BitVec 32 := 0#32
  ![v1197.toNat, 0]

def k0_chk237 (v1197 : BitVec 32) : Prop :=
  (∀ a, (k0_off237 v1197) a + S1x1024.size a ≤ S16384x1024.size a)
theorem k0_off237_inb : ∀ (v1197 : BitVec 32) (k0_hw237 : k0_chk237 v1197), ∀ a, (k0_off237 v1197) a + S1x1024.size a ≤ S16384x1024.size a := fun v1197 k0_hw237 => k0_hw237

def k0_off238 (v1202 : BitVec 32) : Fin 2 → Nat :=
  let c0_i32_728 : BitVec 32 := 0#32
  ![v1202.toNat, 0]

def k0_chk238 (v1202 : BitVec 32) : Prop :=
  (∀ a, (k0_off238 v1202) a + S1x1024.size a ≤ S16384x1024.size a)
theorem k0_off238_inb : ∀ (v1202 : BitVec 32) (k0_hw238 : k0_chk238 v1202), ∀ a, (k0_off238 v1202) a + S1x1024.size a ≤ S16384x1024.size a := fun v1202 k0_hw238 => k0_hw238

def k0_off239 (v1207 : BitVec 32) : Fin 2 → Nat :=
  let c0_i32_731 : BitVec 32 := 0#32
  ![v1207.toNat, 0]

def k0_chk239 (v1207 : BitVec 32) : Prop :=
  (∀ a, (k0_off239 v1207) a + S1x1024.size a ≤ S16384x1024.size a)
theorem k0_off239_inb : ∀ (v1207 : BitVec 32) (k0_hw239 : k0_chk239 v1207), ∀ a, (k0_off239 v1207) a + S1x1024.size a ≤ S16384x1024.size a := fun v1207 k0_hw239 => k0_hw239

def k0_off240 (v1212 : BitVec 32) : Fin 2 → Nat :=
  let c0_i32_734 : BitVec 32 := 0#32
  ![v1212.toNat, 0]

def k0_chk240 (v1212 : BitVec 32) : Prop :=
  (∀ a, (k0_off240 v1212) a + S1x1024.size a ≤ S16384x1024.size a)
theorem k0_off240_inb : ∀ (v1212 : BitVec 32) (k0_hw240 : k0_chk240 v1212), ∀ a, (k0_off240 v1212) a + S1x1024.size a ≤ S16384x1024.size a := fun v1212 k0_hw240 => k0_hw240

def k0_off241 (v1217 : BitVec 32) : Fin 2 → Nat :=
  let c0_i32_737 : BitVec 32 := 0#32
  ![v1217.toNat, 0]

def k0_chk241 (v1217 : BitVec 32) : Prop :=
  (∀ a, (k0_off241 v1217) a + S1x1024.size a ≤ S16384x1024.size a)
theorem k0_off241_inb : ∀ (v1217 : BitVec 32) (k0_hw241 : k0_chk241 v1217), ∀ a, (k0_off241 v1217) a + S1x1024.size a ≤ S16384x1024.size a := fun v1217 k0_hw241 => k0_hw241

def k0_off242 (v1222 : BitVec 32) : Fin 2 → Nat :=
  let c0_i32_740 : BitVec 32 := 0#32
  ![v1222.toNat, 0]

def k0_chk242 (v1222 : BitVec 32) : Prop :=
  (∀ a, (k0_off242 v1222) a + S1x1024.size a ≤ S16384x1024.size a)
theorem k0_off242_inb : ∀ (v1222 : BitVec 32) (k0_hw242 : k0_chk242 v1222), ∀ a, (k0_off242 v1222) a + S1x1024.size a ≤ S16384x1024.size a := fun v1222 k0_hw242 => k0_hw242

def k0_off243 (v1227 : BitVec 32) : Fin 2 → Nat :=
  let c0_i32_743 : BitVec 32 := 0#32
  ![v1227.toNat, 0]

def k0_chk243 (v1227 : BitVec 32) : Prop :=
  (∀ a, (k0_off243 v1227) a + S1x1024.size a ≤ S16384x1024.size a)
theorem k0_off243_inb : ∀ (v1227 : BitVec 32) (k0_hw243 : k0_chk243 v1227), ∀ a, (k0_off243 v1227) a + S1x1024.size a ≤ S16384x1024.size a := fun v1227 k0_hw243 => k0_hw243

def k0_off244 (v1232 : BitVec 32) : Fin 2 → Nat :=
  let c0_i32_746 : BitVec 32 := 0#32
  ![v1232.toNat, 0]

def k0_chk244 (v1232 : BitVec 32) : Prop :=
  (∀ a, (k0_off244 v1232) a + S1x1024.size a ≤ S16384x1024.size a)
theorem k0_off244_inb : ∀ (v1232 : BitVec 32) (k0_hw244 : k0_chk244 v1232), ∀ a, (k0_off244 v1232) a + S1x1024.size a ≤ S16384x1024.size a := fun v1232 k0_hw244 => k0_hw244

def k0_off245 (v1237 : BitVec 32) : Fin 2 → Nat :=
  let c0_i32_749 : BitVec 32 := 0#32
  ![v1237.toNat, 0]

def k0_chk245 (v1237 : BitVec 32) : Prop :=
  (∀ a, (k0_off245 v1237) a + S1x1024.size a ≤ S16384x1024.size a)
theorem k0_off245_inb : ∀ (v1237 : BitVec 32) (k0_hw245 : k0_chk245 v1237), ∀ a, (k0_off245 v1237) a + S1x1024.size a ≤ S16384x1024.size a := fun v1237 k0_hw245 => k0_hw245

def k0_off246 (v1242 : BitVec 32) : Fin 2 → Nat :=
  let c0_i32_752 : BitVec 32 := 0#32
  ![v1242.toNat, 0]

def k0_chk246 (v1242 : BitVec 32) : Prop :=
  (∀ a, (k0_off246 v1242) a + S1x1024.size a ≤ S16384x1024.size a)
theorem k0_off246_inb : ∀ (v1242 : BitVec 32) (k0_hw246 : k0_chk246 v1242), ∀ a, (k0_off246 v1242) a + S1x1024.size a ≤ S16384x1024.size a := fun v1242 k0_hw246 => k0_hw246

def k0_off247 (v1247 : BitVec 32) : Fin 2 → Nat :=
  let c0_i32_755 : BitVec 32 := 0#32
  ![v1247.toNat, 0]

def k0_chk247 (v1247 : BitVec 32) : Prop :=
  (∀ a, (k0_off247 v1247) a + S1x1024.size a ≤ S16384x1024.size a)
theorem k0_off247_inb : ∀ (v1247 : BitVec 32) (k0_hw247 : k0_chk247 v1247), ∀ a, (k0_off247 v1247) a + S1x1024.size a ≤ S16384x1024.size a := fun v1247 k0_hw247 => k0_hw247

def k0_off248 (v1252 : BitVec 32) : Fin 2 → Nat :=
  let c0_i32_758 : BitVec 32 := 0#32
  ![v1252.toNat, 0]

def k0_chk248 (v1252 : BitVec 32) : Prop :=
  (∀ a, (k0_off248 v1252) a + S1x1024.size a ≤ S16384x1024.size a)
theorem k0_off248_inb : ∀ (v1252 : BitVec 32) (k0_hw248 : k0_chk248 v1252), ∀ a, (k0_off248 v1252) a + S1x1024.size a ≤ S16384x1024.size a := fun v1252 k0_hw248 => k0_hw248

def k0_off249 (v1257 : BitVec 32) : Fin 2 → Nat :=
  let c0_i32_761 : BitVec 32 := 0#32
  ![v1257.toNat, 0]

def k0_chk249 (v1257 : BitVec 32) : Prop :=
  (∀ a, (k0_off249 v1257) a + S1x1024.size a ≤ S16384x1024.size a)
theorem k0_off249_inb : ∀ (v1257 : BitVec 32) (k0_hw249 : k0_chk249 v1257), ∀ a, (k0_off249 v1257) a + S1x1024.size a ≤ S16384x1024.size a := fun v1257 k0_hw249 => k0_hw249

def k0_off250 (v1262 : BitVec 32) : Fin 2 → Nat :=
  let c0_i32_764 : BitVec 32 := 0#32
  ![v1262.toNat, 0]

def k0_chk250 (v1262 : BitVec 32) : Prop :=
  (∀ a, (k0_off250 v1262) a + S1x1024.size a ≤ S16384x1024.size a)
theorem k0_off250_inb : ∀ (v1262 : BitVec 32) (k0_hw250 : k0_chk250 v1262), ∀ a, (k0_off250 v1262) a + S1x1024.size a ≤ S16384x1024.size a := fun v1262 k0_hw250 => k0_hw250

def k0_off251 (v1267 : BitVec 32) : Fin 2 → Nat :=
  let c0_i32_767 : BitVec 32 := 0#32
  ![v1267.toNat, 0]

def k0_chk251 (v1267 : BitVec 32) : Prop :=
  (∀ a, (k0_off251 v1267) a + S1x1024.size a ≤ S16384x1024.size a)
theorem k0_off251_inb : ∀ (v1267 : BitVec 32) (k0_hw251 : k0_chk251 v1267), ∀ a, (k0_off251 v1267) a + S1x1024.size a ≤ S16384x1024.size a := fun v1267 k0_hw251 => k0_hw251

def k0_off252 (v1272 : BitVec 32) : Fin 2 → Nat :=
  let c0_i32_770 : BitVec 32 := 0#32
  ![v1272.toNat, 0]

def k0_chk252 (v1272 : BitVec 32) : Prop :=
  (∀ a, (k0_off252 v1272) a + S1x1024.size a ≤ S16384x1024.size a)
theorem k0_off252_inb : ∀ (v1272 : BitVec 32) (k0_hw252 : k0_chk252 v1272), ∀ a, (k0_off252 v1272) a + S1x1024.size a ≤ S16384x1024.size a := fun v1272 k0_hw252 => k0_hw252

def k0_off253 (v1277 : BitVec 32) : Fin 2 → Nat :=
  let c0_i32_773 : BitVec 32 := 0#32
  ![v1277.toNat, 0]

def k0_chk253 (v1277 : BitVec 32) : Prop :=
  (∀ a, (k0_off253 v1277) a + S1x1024.size a ≤ S16384x1024.size a)
theorem k0_off253_inb : ∀ (v1277 : BitVec 32) (k0_hw253 : k0_chk253 v1277), ∀ a, (k0_off253 v1277) a + S1x1024.size a ≤ S16384x1024.size a := fun v1277 k0_hw253 => k0_hw253

def k0_off254 (v1282 : BitVec 32) : Fin 2 → Nat :=
  let c0_i32_776 : BitVec 32 := 0#32
  ![v1282.toNat, 0]

def k0_chk254 (v1282 : BitVec 32) : Prop :=
  (∀ a, (k0_off254 v1282) a + S1x1024.size a ≤ S16384x1024.size a)
theorem k0_off254_inb : ∀ (v1282 : BitVec 32) (k0_hw254 : k0_chk254 v1282), ∀ a, (k0_off254 v1282) a + S1x1024.size a ≤ S16384x1024.size a := fun v1282 k0_hw254 => k0_hw254

def k0_off255 (v1287 : BitVec 32) : Fin 2 → Nat :=
  let c0_i32_779 : BitVec 32 := 0#32
  ![v1287.toNat, 0]

def k0_chk255 (v1287 : BitVec 32) : Prop :=
  (∀ a, (k0_off255 v1287) a + S1x1024.size a ≤ S16384x1024.size a)
theorem k0_off255_inb : ∀ (v1287 : BitVec 32) (k0_hw255 : k0_chk255 v1287), ∀ a, (k0_off255 v1287) a + S1x1024.size a ≤ S16384x1024.size a := fun v1287 k0_hw255 => k0_hw255

def k0_off256 (v1292 : BitVec 32) : Fin 2 → Nat :=
  let c0_i32_782 : BitVec 32 := 0#32
  ![v1292.toNat, 0]

def k0_chk256 (v1292 : BitVec 32) : Prop :=
  (∀ a, (k0_off256 v1292) a + S1x1024.size a ≤ S16384x1024.size a)
theorem k0_off256_inb : ∀ (v1292 : BitVec 32) (k0_hw256 : k0_chk256 v1292), ∀ a, (k0_off256 v1292) a + S1x1024.size a ≤ S16384x1024.size a := fun v1292 k0_hw256 => k0_hw256

def k0_dev3 (d0 : Dev nD) : Nat :=
  let c0_i32_798 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_797 : BitVec 32 := 2#32
  let v1311 : BitVec 32 := Scalar.muli v2 c2_i32_797
  let v1312 : BitVec 32 := Scalar.addi c0_i32_798 v1311
  let c1_i32_794 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1310 : BitVec 32 := Scalar.subi c1_i32_794 v5
  let c1_i32_799 : BitVec 32 := 1#32
  let v1313 : BitVec 32 := Scalar.muli v1310 c1_i32_799
  let v1314 : BitVec 32 := Scalar.addi v1312 v1313
  v1314.toNat
def k0_off257 (v1321 : BitVec 32) : Fin 2 → Nat :=
  let c0_i32_806 : BitVec 32 := 0#32
  ![v1321.toNat, 0]

def k0_chk257 (v1321 : BitVec 32) : Prop :=
  (∀ a, (k0_off257 v1321) a + S1x1024.size a ≤ S16384x1024.size a)
theorem k0_off257_inb : ∀ (v1321 : BitVec 32) (k0_hw257 : k0_chk257 v1321), ∀ a, (k0_off257 v1321) a + S1x1024.size a ≤ S16384x1024.size a := fun v1321 k0_hw257 => k0_hw257

def k0_off258 (v1326 : BitVec 32) : Fin 2 → Nat :=
  let c0_i32_809 : BitVec 32 := 0#32
  ![v1326.toNat, 0]

def k0_chk258 (v1326 : BitVec 32) : Prop :=
  (∀ a, (k0_off258 v1326) a + S1x1024.size a ≤ S16384x1024.size a)
theorem k0_off258_inb : ∀ (v1326 : BitVec 32) (k0_hw258 : k0_chk258 v1326), ∀ a, (k0_off258 v1326) a + S1x1024.size a ≤ S16384x1024.size a := fun v1326 k0_hw258 => k0_hw258

def k0_off259 (v1331 : BitVec 32) : Fin 2 → Nat :=
  let c0_i32_812 : BitVec 32 := 0#32
  ![v1331.toNat, 0]

def k0_chk259 (v1331 : BitVec 32) : Prop :=
  (∀ a, (k0_off259 v1331) a + S1x1024.size a ≤ S16384x1024.size a)
theorem k0_off259_inb : ∀ (v1331 : BitVec 32) (k0_hw259 : k0_chk259 v1331), ∀ a, (k0_off259 v1331) a + S1x1024.size a ≤ S16384x1024.size a := fun v1331 k0_hw259 => k0_hw259

def k0_off260 (v1336 : BitVec 32) : Fin 2 → Nat :=
  let c0_i32_815 : BitVec 32 := 0#32
  ![v1336.toNat, 0]

def k0_chk260 (v1336 : BitVec 32) : Prop :=
  (∀ a, (k0_off260 v1336) a + S1x1024.size a ≤ S16384x1024.size a)
theorem k0_off260_inb : ∀ (v1336 : BitVec 32) (k0_hw260 : k0_chk260 v1336), ∀ a, (k0_off260 v1336) a + S1x1024.size a ≤ S16384x1024.size a := fun v1336 k0_hw260 => k0_hw260

def k0_off261 (v1341 : BitVec 32) : Fin 2 → Nat :=
  let c0_i32_818 : BitVec 32 := 0#32
  ![v1341.toNat, 0]

def k0_chk261 (v1341 : BitVec 32) : Prop :=
  (∀ a, (k0_off261 v1341) a + S1x1024.size a ≤ S16384x1024.size a)
theorem k0_off261_inb : ∀ (v1341 : BitVec 32) (k0_hw261 : k0_chk261 v1341), ∀ a, (k0_off261 v1341) a + S1x1024.size a ≤ S16384x1024.size a := fun v1341 k0_hw261 => k0_hw261

def k0_off262 (v1346 : BitVec 32) : Fin 2 → Nat :=
  let c0_i32_821 : BitVec 32 := 0#32
  ![v1346.toNat, 0]

def k0_chk262 (v1346 : BitVec 32) : Prop :=
  (∀ a, (k0_off262 v1346) a + S1x1024.size a ≤ S16384x1024.size a)
theorem k0_off262_inb : ∀ (v1346 : BitVec 32) (k0_hw262 : k0_chk262 v1346), ∀ a, (k0_off262 v1346) a + S1x1024.size a ≤ S16384x1024.size a := fun v1346 k0_hw262 => k0_hw262

def k0_off263 (v1351 : BitVec 32) : Fin 2 → Nat :=
  let c0_i32_824 : BitVec 32 := 0#32
  ![v1351.toNat, 0]

def k0_chk263 (v1351 : BitVec 32) : Prop :=
  (∀ a, (k0_off263 v1351) a + S1x1024.size a ≤ S16384x1024.size a)
theorem k0_off263_inb : ∀ (v1351 : BitVec 32) (k0_hw263 : k0_chk263 v1351), ∀ a, (k0_off263 v1351) a + S1x1024.size a ≤ S16384x1024.size a := fun v1351 k0_hw263 => k0_hw263

def k0_off264 (v1356 : BitVec 32) : Fin 2 → Nat :=
  let c0_i32_827 : BitVec 32 := 0#32
  ![v1356.toNat, 0]

def k0_chk264 (v1356 : BitVec 32) : Prop :=
  (∀ a, (k0_off264 v1356) a + S1x1024.size a ≤ S16384x1024.size a)
theorem k0_off264_inb : ∀ (v1356 : BitVec 32) (k0_hw264 : k0_chk264 v1356), ∀ a, (k0_off264 v1356) a + S1x1024.size a ≤ S16384x1024.size a := fun v1356 k0_hw264 => k0_hw264

def k0_off265 (v1361 : BitVec 32) : Fin 2 → Nat :=
  let c0_i32_830 : BitVec 32 := 0#32
  ![v1361.toNat, 0]

def k0_chk265 (v1361 : BitVec 32) : Prop :=
  (∀ a, (k0_off265 v1361) a + S1x1024.size a ≤ S16384x1024.size a)
theorem k0_off265_inb : ∀ (v1361 : BitVec 32) (k0_hw265 : k0_chk265 v1361), ∀ a, (k0_off265 v1361) a + S1x1024.size a ≤ S16384x1024.size a := fun v1361 k0_hw265 => k0_hw265

def k0_off266 (v1366 : BitVec 32) : Fin 2 → Nat :=
  let c0_i32_833 : BitVec 32 := 0#32
  ![v1366.toNat, 0]

def k0_chk266 (v1366 : BitVec 32) : Prop :=
  (∀ a, (k0_off266 v1366) a + S1x1024.size a ≤ S16384x1024.size a)
theorem k0_off266_inb : ∀ (v1366 : BitVec 32) (k0_hw266 : k0_chk266 v1366), ∀ a, (k0_off266 v1366) a + S1x1024.size a ≤ S16384x1024.size a := fun v1366 k0_hw266 => k0_hw266

def k0_off267 (v1371 : BitVec 32) : Fin 2 → Nat :=
  let c0_i32_836 : BitVec 32 := 0#32
  ![v1371.toNat, 0]

def k0_chk267 (v1371 : BitVec 32) : Prop :=
  (∀ a, (k0_off267 v1371) a + S1x1024.size a ≤ S16384x1024.size a)
theorem k0_off267_inb : ∀ (v1371 : BitVec 32) (k0_hw267 : k0_chk267 v1371), ∀ a, (k0_off267 v1371) a + S1x1024.size a ≤ S16384x1024.size a := fun v1371 k0_hw267 => k0_hw267

def k0_off268 (v1376 : BitVec 32) : Fin 2 → Nat :=
  let c0_i32_839 : BitVec 32 := 0#32
  ![v1376.toNat, 0]

def k0_chk268 (v1376 : BitVec 32) : Prop :=
  (∀ a, (k0_off268 v1376) a + S1x1024.size a ≤ S16384x1024.size a)
theorem k0_off268_inb : ∀ (v1376 : BitVec 32) (k0_hw268 : k0_chk268 v1376), ∀ a, (k0_off268 v1376) a + S1x1024.size a ≤ S16384x1024.size a := fun v1376 k0_hw268 => k0_hw268

def k0_off269 (v1381 : BitVec 32) : Fin 2 → Nat :=
  let c0_i32_842 : BitVec 32 := 0#32
  ![v1381.toNat, 0]

def k0_chk269 (v1381 : BitVec 32) : Prop :=
  (∀ a, (k0_off269 v1381) a + S1x1024.size a ≤ S16384x1024.size a)
theorem k0_off269_inb : ∀ (v1381 : BitVec 32) (k0_hw269 : k0_chk269 v1381), ∀ a, (k0_off269 v1381) a + S1x1024.size a ≤ S16384x1024.size a := fun v1381 k0_hw269 => k0_hw269

def k0_off270 (v1386 : BitVec 32) : Fin 2 → Nat :=
  let c0_i32_845 : BitVec 32 := 0#32
  ![v1386.toNat, 0]

def k0_chk270 (v1386 : BitVec 32) : Prop :=
  (∀ a, (k0_off270 v1386) a + S1x1024.size a ≤ S16384x1024.size a)
theorem k0_off270_inb : ∀ (v1386 : BitVec 32) (k0_hw270 : k0_chk270 v1386), ∀ a, (k0_off270 v1386) a + S1x1024.size a ≤ S16384x1024.size a := fun v1386 k0_hw270 => k0_hw270

def k0_off271 (v1391 : BitVec 32) : Fin 2 → Nat :=
  let c0_i32_848 : BitVec 32 := 0#32
  ![v1391.toNat, 0]

def k0_chk271 (v1391 : BitVec 32) : Prop :=
  (∀ a, (k0_off271 v1391) a + S1x1024.size a ≤ S16384x1024.size a)
theorem k0_off271_inb : ∀ (v1391 : BitVec 32) (k0_hw271 : k0_chk271 v1391), ∀ a, (k0_off271 v1391) a + S1x1024.size a ≤ S16384x1024.size a := fun v1391 k0_hw271 => k0_hw271

def k0_off272 (v1396 : BitVec 32) : Fin 2 → Nat :=
  let c0_i32_851 : BitVec 32 := 0#32
  ![v1396.toNat, 0]

def k0_chk272 (v1396 : BitVec 32) : Prop :=
  (∀ a, (k0_off272 v1396) a + S1x1024.size a ≤ S16384x1024.size a)
theorem k0_off272_inb : ∀ (v1396 : BitVec 32) (k0_hw272 : k0_chk272 v1396), ∀ a, (k0_off272 v1396) a + S1x1024.size a ≤ S16384x1024.size a := fun v1396 k0_hw272 => k0_hw272

def k0_off273 (v1401 : BitVec 32) : Fin 2 → Nat :=
  let c0_i32_854 : BitVec 32 := 0#32
  ![v1401.toNat, 0]

def k0_chk273 (v1401 : BitVec 32) : Prop :=
  (∀ a, (k0_off273 v1401) a + S1x1024.size a ≤ S16384x1024.size a)
theorem k0_off273_inb : ∀ (v1401 : BitVec 32) (k0_hw273 : k0_chk273 v1401), ∀ a, (k0_off273 v1401) a + S1x1024.size a ≤ S16384x1024.size a := fun v1401 k0_hw273 => k0_hw273

def k0_off274 (v1406 : BitVec 32) : Fin 2 → Nat :=
  let c0_i32_857 : BitVec 32 := 0#32
  ![v1406.toNat, 0]

def k0_chk274 (v1406 : BitVec 32) : Prop :=
  (∀ a, (k0_off274 v1406) a + S1x1024.size a ≤ S16384x1024.size a)
theorem k0_off274_inb : ∀ (v1406 : BitVec 32) (k0_hw274 : k0_chk274 v1406), ∀ a, (k0_off274 v1406) a + S1x1024.size a ≤ S16384x1024.size a := fun v1406 k0_hw274 => k0_hw274

def k0_off275 (v1411 : BitVec 32) : Fin 2 → Nat :=
  let c0_i32_860 : BitVec 32 := 0#32
  ![v1411.toNat, 0]

def k0_chk275 (v1411 : BitVec 32) : Prop :=
  (∀ a, (k0_off275 v1411) a + S1x1024.size a ≤ S16384x1024.size a)
theorem k0_off275_inb : ∀ (v1411 : BitVec 32) (k0_hw275 : k0_chk275 v1411), ∀ a, (k0_off275 v1411) a + S1x1024.size a ≤ S16384x1024.size a := fun v1411 k0_hw275 => k0_hw275

def k0_off276 (v1416 : BitVec 32) : Fin 2 → Nat :=
  let c0_i32_863 : BitVec 32 := 0#32
  ![v1416.toNat, 0]

def k0_chk276 (v1416 : BitVec 32) : Prop :=
  (∀ a, (k0_off276 v1416) a + S1x1024.size a ≤ S16384x1024.size a)
theorem k0_off276_inb : ∀ (v1416 : BitVec 32) (k0_hw276 : k0_chk276 v1416), ∀ a, (k0_off276 v1416) a + S1x1024.size a ≤ S16384x1024.size a := fun v1416 k0_hw276 => k0_hw276

def k0_off277 (v1421 : BitVec 32) : Fin 2 → Nat :=
  let c0_i32_866 : BitVec 32 := 0#32
  ![v1421.toNat, 0]

def k0_chk277 (v1421 : BitVec 32) : Prop :=
  (∀ a, (k0_off277 v1421) a + S1x1024.size a ≤ S16384x1024.size a)
theorem k0_off277_inb : ∀ (v1421 : BitVec 32) (k0_hw277 : k0_chk277 v1421), ∀ a, (k0_off277 v1421) a + S1x1024.size a ≤ S16384x1024.size a := fun v1421 k0_hw277 => k0_hw277

def k0_off278 (v1426 : BitVec 32) : Fin 2 → Nat :=
  let c0_i32_869 : BitVec 32 := 0#32
  ![v1426.toNat, 0]

def k0_chk278 (v1426 : BitVec 32) : Prop :=
  (∀ a, (k0_off278 v1426) a + S1x1024.size a ≤ S16384x1024.size a)
theorem k0_off278_inb : ∀ (v1426 : BitVec 32) (k0_hw278 : k0_chk278 v1426), ∀ a, (k0_off278 v1426) a + S1x1024.size a ≤ S16384x1024.size a := fun v1426 k0_hw278 => k0_hw278

def k0_off279 (v1431 : BitVec 32) : Fin 2 → Nat :=
  let c0_i32_872 : BitVec 32 := 0#32
  ![v1431.toNat, 0]

def k0_chk279 (v1431 : BitVec 32) : Prop :=
  (∀ a, (k0_off279 v1431) a + S1x1024.size a ≤ S16384x1024.size a)
theorem k0_off279_inb : ∀ (v1431 : BitVec 32) (k0_hw279 : k0_chk279 v1431), ∀ a, (k0_off279 v1431) a + S1x1024.size a ≤ S16384x1024.size a := fun v1431 k0_hw279 => k0_hw279

def k0_off280 (v1436 : BitVec 32) : Fin 2 → Nat :=
  let c0_i32_875 : BitVec 32 := 0#32
  ![v1436.toNat, 0]

def k0_chk280 (v1436 : BitVec 32) : Prop :=
  (∀ a, (k0_off280 v1436) a + S1x1024.size a ≤ S16384x1024.size a)
theorem k0_off280_inb : ∀ (v1436 : BitVec 32) (k0_hw280 : k0_chk280 v1436), ∀ a, (k0_off280 v1436) a + S1x1024.size a ≤ S16384x1024.size a := fun v1436 k0_hw280 => k0_hw280

def k0_off281 (v1441 : BitVec 32) : Fin 2 → Nat :=
  let c0_i32_878 : BitVec 32 := 0#32
  ![v1441.toNat, 0]

def k0_chk281 (v1441 : BitVec 32) : Prop :=
  (∀ a, (k0_off281 v1441) a + S1x1024.size a ≤ S16384x1024.size a)
theorem k0_off281_inb : ∀ (v1441 : BitVec 32) (k0_hw281 : k0_chk281 v1441), ∀ a, (k0_off281 v1441) a + S1x1024.size a ≤ S16384x1024.size a := fun v1441 k0_hw281 => k0_hw281

def k0_off282 (v1446 : BitVec 32) : Fin 2 → Nat :=
  let c0_i32_881 : BitVec 32 := 0#32
  ![v1446.toNat, 0]

def k0_chk282 (v1446 : BitVec 32) : Prop :=
  (∀ a, (k0_off282 v1446) a + S1x1024.size a ≤ S16384x1024.size a)
theorem k0_off282_inb : ∀ (v1446 : BitVec 32) (k0_hw282 : k0_chk282 v1446), ∀ a, (k0_off282 v1446) a + S1x1024.size a ≤ S16384x1024.size a := fun v1446 k0_hw282 => k0_hw282

def k0_off283 (v1451 : BitVec 32) : Fin 2 → Nat :=
  let c0_i32_884 : BitVec 32 := 0#32
  ![v1451.toNat, 0]

def k0_chk283 (v1451 : BitVec 32) : Prop :=
  (∀ a, (k0_off283 v1451) a + S1x1024.size a ≤ S16384x1024.size a)
theorem k0_off283_inb : ∀ (v1451 : BitVec 32) (k0_hw283 : k0_chk283 v1451), ∀ a, (k0_off283 v1451) a + S1x1024.size a ≤ S16384x1024.size a := fun v1451 k0_hw283 => k0_hw283

def k0_off284 (v1456 : BitVec 32) : Fin 2 → Nat :=
  let c0_i32_887 : BitVec 32 := 0#32
  ![v1456.toNat, 0]

def k0_chk284 (v1456 : BitVec 32) : Prop :=
  (∀ a, (k0_off284 v1456) a + S1x1024.size a ≤ S16384x1024.size a)
theorem k0_off284_inb : ∀ (v1456 : BitVec 32) (k0_hw284 : k0_chk284 v1456), ∀ a, (k0_off284 v1456) a + S1x1024.size a ≤ S16384x1024.size a := fun v1456 k0_hw284 => k0_hw284

def k0_off285 (v1461 : BitVec 32) : Fin 2 → Nat :=
  let c0_i32_890 : BitVec 32 := 0#32
  ![v1461.toNat, 0]

def k0_chk285 (v1461 : BitVec 32) : Prop :=
  (∀ a, (k0_off285 v1461) a + S1x1024.size a ≤ S16384x1024.size a)
theorem k0_off285_inb : ∀ (v1461 : BitVec 32) (k0_hw285 : k0_chk285 v1461), ∀ a, (k0_off285 v1461) a + S1x1024.size a ≤ S16384x1024.size a := fun v1461 k0_hw285 => k0_hw285

def k0_off286 (v1466 : BitVec 32) : Fin 2 → Nat :=
  let c0_i32_893 : BitVec 32 := 0#32
  ![v1466.toNat, 0]

def k0_chk286 (v1466 : BitVec 32) : Prop :=
  (∀ a, (k0_off286 v1466) a + S1x1024.size a ≤ S16384x1024.size a)
theorem k0_off286_inb : ∀ (v1466 : BitVec 32) (k0_hw286 : k0_chk286 v1466), ∀ a, (k0_off286 v1466) a + S1x1024.size a ≤ S16384x1024.size a := fun v1466 k0_hw286 => k0_hw286

def k0_off287 (v1471 : BitVec 32) : Fin 2 → Nat :=
  let c0_i32_896 : BitVec 32 := 0#32
  ![v1471.toNat, 0]

def k0_chk287 (v1471 : BitVec 32) : Prop :=
  (∀ a, (k0_off287 v1471) a + S1x1024.size a ≤ S16384x1024.size a)
theorem k0_off287_inb : ∀ (v1471 : BitVec 32) (k0_hw287 : k0_chk287 v1471), ∀ a, (k0_off287 v1471) a + S1x1024.size a ≤ S16384x1024.size a := fun v1471 k0_hw287 => k0_hw287

def k0_off288 (v1476 : BitVec 32) : Fin 2 → Nat :=
  let c0_i32_899 : BitVec 32 := 0#32
  ![v1476.toNat, 0]

def k0_chk288 (v1476 : BitVec 32) : Prop :=
  (∀ a, (k0_off288 v1476) a + S1x1024.size a ≤ S16384x1024.size a)
theorem k0_off288_inb : ∀ (v1476 : BitVec 32) (k0_hw288 : k0_chk288 v1476), ∀ a, (k0_off288 v1476) a + S1x1024.size a ≤ S16384x1024.size a := fun v1476 k0_hw288 => k0_hw288

def k0_off289 (v1481 : BitVec 32) : Fin 2 → Nat :=
  let c0_i32_902 : BitVec 32 := 0#32
  ![v1481.toNat, 0]

def k0_chk289 (v1481 : BitVec 32) : Prop :=
  (∀ a, (k0_off289 v1481) a + S1x1024.size a ≤ S16384x1024.size a)
theorem k0_off289_inb : ∀ (v1481 : BitVec 32) (k0_hw289 : k0_chk289 v1481), ∀ a, (k0_off289 v1481) a + S1x1024.size a ≤ S16384x1024.size a := fun v1481 k0_hw289 => k0_hw289

def k0_off290 (v1486 : BitVec 32) : Fin 2 → Nat :=
  let c0_i32_905 : BitVec 32 := 0#32
  ![v1486.toNat, 0]

def k0_chk290 (v1486 : BitVec 32) : Prop :=
  (∀ a, (k0_off290 v1486) a + S1x1024.size a ≤ S16384x1024.size a)
theorem k0_off290_inb : ∀ (v1486 : BitVec 32) (k0_hw290 : k0_chk290 v1486), ∀ a, (k0_off290 v1486) a + S1x1024.size a ≤ S16384x1024.size a := fun v1486 k0_hw290 => k0_hw290

def k0_off291 (v1491 : BitVec 32) : Fin 2 → Nat :=
  let c0_i32_908 : BitVec 32 := 0#32
  ![v1491.toNat, 0]

def k0_chk291 (v1491 : BitVec 32) : Prop :=
  (∀ a, (k0_off291 v1491) a + S1x1024.size a ≤ S16384x1024.size a)
theorem k0_off291_inb : ∀ (v1491 : BitVec 32) (k0_hw291 : k0_chk291 v1491), ∀ a, (k0_off291 v1491) a + S1x1024.size a ≤ S16384x1024.size a := fun v1491 k0_hw291 => k0_hw291

def k0_off292 (v1496 : BitVec 32) : Fin 2 → Nat :=
  let c0_i32_911 : BitVec 32 := 0#32
  ![v1496.toNat, 0]

def k0_chk292 (v1496 : BitVec 32) : Prop :=
  (∀ a, (k0_off292 v1496) a + S1x1024.size a ≤ S16384x1024.size a)
theorem k0_off292_inb : ∀ (v1496 : BitVec 32) (k0_hw292 : k0_chk292 v1496), ∀ a, (k0_off292 v1496) a + S1x1024.size a ≤ S16384x1024.size a := fun v1496 k0_hw292 => k0_hw292

def k0_off293 (v1501 : BitVec 32) : Fin 2 → Nat :=
  let c0_i32_914 : BitVec 32 := 0#32
  ![v1501.toNat, 0]

def k0_chk293 (v1501 : BitVec 32) : Prop :=
  (∀ a, (k0_off293 v1501) a + S1x1024.size a ≤ S16384x1024.size a)
theorem k0_off293_inb : ∀ (v1501 : BitVec 32) (k0_hw293 : k0_chk293 v1501), ∀ a, (k0_off293 v1501) a + S1x1024.size a ≤ S16384x1024.size a := fun v1501 k0_hw293 => k0_hw293

def k0_off294 (v1506 : BitVec 32) : Fin 2 → Nat :=
  let c0_i32_917 : BitVec 32 := 0#32
  ![v1506.toNat, 0]

def k0_chk294 (v1506 : BitVec 32) : Prop :=
  (∀ a, (k0_off294 v1506) a + S1x1024.size a ≤ S16384x1024.size a)
theorem k0_off294_inb : ∀ (v1506 : BitVec 32) (k0_hw294 : k0_chk294 v1506), ∀ a, (k0_off294 v1506) a + S1x1024.size a ≤ S16384x1024.size a := fun v1506 k0_hw294 => k0_hw294

def k0_off295 (v1511 : BitVec 32) : Fin 2 → Nat :=
  let c0_i32_920 : BitVec 32 := 0#32
  ![v1511.toNat, 0]

def k0_chk295 (v1511 : BitVec 32) : Prop :=
  (∀ a, (k0_off295 v1511) a + S1x1024.size a ≤ S16384x1024.size a)
theorem k0_off295_inb : ∀ (v1511 : BitVec 32) (k0_hw295 : k0_chk295 v1511), ∀ a, (k0_off295 v1511) a + S1x1024.size a ≤ S16384x1024.size a := fun v1511 k0_hw295 => k0_hw295

def k0_off296 (v1516 : BitVec 32) : Fin 2 → Nat :=
  let c0_i32_923 : BitVec 32 := 0#32
  ![v1516.toNat, 0]

def k0_chk296 (v1516 : BitVec 32) : Prop :=
  (∀ a, (k0_off296 v1516) a + S1x1024.size a ≤ S16384x1024.size a)
theorem k0_off296_inb : ∀ (v1516 : BitVec 32) (k0_hw296 : k0_chk296 v1516), ∀ a, (k0_off296 v1516) a + S1x1024.size a ≤ S16384x1024.size a := fun v1516 k0_hw296 => k0_hw296

def k0_off297 (v1521 : BitVec 32) : Fin 2 → Nat :=
  let c0_i32_926 : BitVec 32 := 0#32
  ![v1521.toNat, 0]

def k0_chk297 (v1521 : BitVec 32) : Prop :=
  (∀ a, (k0_off297 v1521) a + S1x1024.size a ≤ S16384x1024.size a)
theorem k0_off297_inb : ∀ (v1521 : BitVec 32) (k0_hw297 : k0_chk297 v1521), ∀ a, (k0_off297 v1521) a + S1x1024.size a ≤ S16384x1024.size a := fun v1521 k0_hw297 => k0_hw297

def k0_off298 (v1526 : BitVec 32) : Fin 2 → Nat :=
  let c0_i32_929 : BitVec 32 := 0#32
  ![v1526.toNat, 0]

def k0_chk298 (v1526 : BitVec 32) : Prop :=
  (∀ a, (k0_off298 v1526) a + S1x1024.size a ≤ S16384x1024.size a)
theorem k0_off298_inb : ∀ (v1526 : BitVec 32) (k0_hw298 : k0_chk298 v1526), ∀ a, (k0_off298 v1526) a + S1x1024.size a ≤ S16384x1024.size a := fun v1526 k0_hw298 => k0_hw298

def k0_off299 (v1531 : BitVec 32) : Fin 2 → Nat :=
  let c0_i32_932 : BitVec 32 := 0#32
  ![v1531.toNat, 0]

def k0_chk299 (v1531 : BitVec 32) : Prop :=
  (∀ a, (k0_off299 v1531) a + S1x1024.size a ≤ S16384x1024.size a)
theorem k0_off299_inb : ∀ (v1531 : BitVec 32) (k0_hw299 : k0_chk299 v1531), ∀ a, (k0_off299 v1531) a + S1x1024.size a ≤ S16384x1024.size a := fun v1531 k0_hw299 => k0_hw299

def k0_off300 (v1536 : BitVec 32) : Fin 2 → Nat :=
  let c0_i32_935 : BitVec 32 := 0#32
  ![v1536.toNat, 0]

def k0_chk300 (v1536 : BitVec 32) : Prop :=
  (∀ a, (k0_off300 v1536) a + S1x1024.size a ≤ S16384x1024.size a)
theorem k0_off300_inb : ∀ (v1536 : BitVec 32) (k0_hw300 : k0_chk300 v1536), ∀ a, (k0_off300 v1536) a + S1x1024.size a ≤ S16384x1024.size a := fun v1536 k0_hw300 => k0_hw300

def k0_off301 (v1541 : BitVec 32) : Fin 2 → Nat :=
  let c0_i32_938 : BitVec 32 := 0#32
  ![v1541.toNat, 0]

def k0_chk301 (v1541 : BitVec 32) : Prop :=
  (∀ a, (k0_off301 v1541) a + S1x1024.size a ≤ S16384x1024.size a)
theorem k0_off301_inb : ∀ (v1541 : BitVec 32) (k0_hw301 : k0_chk301 v1541), ∀ a, (k0_off301 v1541) a + S1x1024.size a ≤ S16384x1024.size a := fun v1541 k0_hw301 => k0_hw301

def k0_off302 (v1546 : BitVec 32) : Fin 2 → Nat :=
  let c0_i32_941 : BitVec 32 := 0#32
  ![v1546.toNat, 0]

def k0_chk302 (v1546 : BitVec 32) : Prop :=
  (∀ a, (k0_off302 v1546) a + S1x1024.size a ≤ S16384x1024.size a)
theorem k0_off302_inb : ∀ (v1546 : BitVec 32) (k0_hw302 : k0_chk302 v1546), ∀ a, (k0_off302 v1546) a + S1x1024.size a ≤ S16384x1024.size a := fun v1546 k0_hw302 => k0_hw302

def k0_off303 (v1551 : BitVec 32) : Fin 2 → Nat :=
  let c0_i32_944 : BitVec 32 := 0#32
  ![v1551.toNat, 0]

def k0_chk303 (v1551 : BitVec 32) : Prop :=
  (∀ a, (k0_off303 v1551) a + S1x1024.size a ≤ S16384x1024.size a)
theorem k0_off303_inb : ∀ (v1551 : BitVec 32) (k0_hw303 : k0_chk303 v1551), ∀ a, (k0_off303 v1551) a + S1x1024.size a ≤ S16384x1024.size a := fun v1551 k0_hw303 => k0_hw303

def k0_off304 (v1556 : BitVec 32) : Fin 2 → Nat :=
  let c0_i32_947 : BitVec 32 := 0#32
  ![v1556.toNat, 0]

def k0_chk304 (v1556 : BitVec 32) : Prop :=
  (∀ a, (k0_off304 v1556) a + S1x1024.size a ≤ S16384x1024.size a)
theorem k0_off304_inb : ∀ (v1556 : BitVec 32) (k0_hw304 : k0_chk304 v1556), ∀ a, (k0_off304 v1556) a + S1x1024.size a ≤ S16384x1024.size a := fun v1556 k0_hw304 => k0_hw304

def k0_off305 (v1561 : BitVec 32) : Fin 2 → Nat :=
  let c0_i32_950 : BitVec 32 := 0#32
  ![v1561.toNat, 0]

def k0_chk305 (v1561 : BitVec 32) : Prop :=
  (∀ a, (k0_off305 v1561) a + S1x1024.size a ≤ S16384x1024.size a)
theorem k0_off305_inb : ∀ (v1561 : BitVec 32) (k0_hw305 : k0_chk305 v1561), ∀ a, (k0_off305 v1561) a + S1x1024.size a ≤ S16384x1024.size a := fun v1561 k0_hw305 => k0_hw305

def k0_off306 (v1566 : BitVec 32) : Fin 2 → Nat :=
  let c0_i32_953 : BitVec 32 := 0#32
  ![v1566.toNat, 0]

def k0_chk306 (v1566 : BitVec 32) : Prop :=
  (∀ a, (k0_off306 v1566) a + S1x1024.size a ≤ S16384x1024.size a)
theorem k0_off306_inb : ∀ (v1566 : BitVec 32) (k0_hw306 : k0_chk306 v1566), ∀ a, (k0_off306 v1566) a + S1x1024.size a ≤ S16384x1024.size a := fun v1566 k0_hw306 => k0_hw306

def k0_off307 (v1571 : BitVec 32) : Fin 2 → Nat :=
  let c0_i32_956 : BitVec 32 := 0#32
  ![v1571.toNat, 0]

def k0_chk307 (v1571 : BitVec 32) : Prop :=
  (∀ a, (k0_off307 v1571) a + S1x1024.size a ≤ S16384x1024.size a)
theorem k0_off307_inb : ∀ (v1571 : BitVec 32) (k0_hw307 : k0_chk307 v1571), ∀ a, (k0_off307 v1571) a + S1x1024.size a ≤ S16384x1024.size a := fun v1571 k0_hw307 => k0_hw307

def k0_off308 (v1576 : BitVec 32) : Fin 2 → Nat :=
  let c0_i32_959 : BitVec 32 := 0#32
  ![v1576.toNat, 0]

def k0_chk308 (v1576 : BitVec 32) : Prop :=
  (∀ a, (k0_off308 v1576) a + S1x1024.size a ≤ S16384x1024.size a)
theorem k0_off308_inb : ∀ (v1576 : BitVec 32) (k0_hw308 : k0_chk308 v1576), ∀ a, (k0_off308 v1576) a + S1x1024.size a ≤ S16384x1024.size a := fun v1576 k0_hw308 => k0_hw308

def k0_off309 (v1581 : BitVec 32) : Fin 2 → Nat :=
  let c0_i32_962 : BitVec 32 := 0#32
  ![v1581.toNat, 0]

def k0_chk309 (v1581 : BitVec 32) : Prop :=
  (∀ a, (k0_off309 v1581) a + S1x1024.size a ≤ S16384x1024.size a)
theorem k0_off309_inb : ∀ (v1581 : BitVec 32) (k0_hw309 : k0_chk309 v1581), ∀ a, (k0_off309 v1581) a + S1x1024.size a ≤ S16384x1024.size a := fun v1581 k0_hw309 => k0_hw309

def k0_off310 (v1586 : BitVec 32) : Fin 2 → Nat :=
  let c0_i32_965 : BitVec 32 := 0#32
  ![v1586.toNat, 0]

def k0_chk310 (v1586 : BitVec 32) : Prop :=
  (∀ a, (k0_off310 v1586) a + S1x1024.size a ≤ S16384x1024.size a)
theorem k0_off310_inb : ∀ (v1586 : BitVec 32) (k0_hw310 : k0_chk310 v1586), ∀ a, (k0_off310 v1586) a + S1x1024.size a ≤ S16384x1024.size a := fun v1586 k0_hw310 => k0_hw310

def k0_off311 (v1591 : BitVec 32) : Fin 2 → Nat :=
  let c0_i32_968 : BitVec 32 := 0#32
  ![v1591.toNat, 0]

def k0_chk311 (v1591 : BitVec 32) : Prop :=
  (∀ a, (k0_off311 v1591) a + S1x1024.size a ≤ S16384x1024.size a)
theorem k0_off311_inb : ∀ (v1591 : BitVec 32) (k0_hw311 : k0_chk311 v1591), ∀ a, (k0_off311 v1591) a + S1x1024.size a ≤ S16384x1024.size a := fun v1591 k0_hw311 => k0_hw311

def k0_off312 (v1596 : BitVec 32) : Fin 2 → Nat :=
  let c0_i32_971 : BitVec 32 := 0#32
  ![v1596.toNat, 0]

def k0_chk312 (v1596 : BitVec 32) : Prop :=
  (∀ a, (k0_off312 v1596) a + S1x1024.size a ≤ S16384x1024.size a)
theorem k0_off312_inb : ∀ (v1596 : BitVec 32) (k0_hw312 : k0_chk312 v1596), ∀ a, (k0_off312 v1596) a + S1x1024.size a ≤ S16384x1024.size a := fun v1596 k0_hw312 => k0_hw312

def k0_off313 (v1601 : BitVec 32) : Fin 2 → Nat :=
  let c0_i32_974 : BitVec 32 := 0#32
  ![v1601.toNat, 0]

def k0_chk313 (v1601 : BitVec 32) : Prop :=
  (∀ a, (k0_off313 v1601) a + S1x1024.size a ≤ S16384x1024.size a)
theorem k0_off313_inb : ∀ (v1601 : BitVec 32) (k0_hw313 : k0_chk313 v1601), ∀ a, (k0_off313 v1601) a + S1x1024.size a ≤ S16384x1024.size a := fun v1601 k0_hw313 => k0_hw313

def k0_off314 (v1606 : BitVec 32) : Fin 2 → Nat :=
  let c0_i32_977 : BitVec 32 := 0#32
  ![v1606.toNat, 0]

def k0_chk314 (v1606 : BitVec 32) : Prop :=
  (∀ a, (k0_off314 v1606) a + S1x1024.size a ≤ S16384x1024.size a)
theorem k0_off314_inb : ∀ (v1606 : BitVec 32) (k0_hw314 : k0_chk314 v1606), ∀ a, (k0_off314 v1606) a + S1x1024.size a ≤ S16384x1024.size a := fun v1606 k0_hw314 => k0_hw314

def k0_off315 (v1611 : BitVec 32) : Fin 2 → Nat :=
  let c0_i32_980 : BitVec 32 := 0#32
  ![v1611.toNat, 0]

def k0_chk315 (v1611 : BitVec 32) : Prop :=
  (∀ a, (k0_off315 v1611) a + S1x1024.size a ≤ S16384x1024.size a)
theorem k0_off315_inb : ∀ (v1611 : BitVec 32) (k0_hw315 : k0_chk315 v1611), ∀ a, (k0_off315 v1611) a + S1x1024.size a ≤ S16384x1024.size a := fun v1611 k0_hw315 => k0_hw315

def k0_off316 (v1616 : BitVec 32) : Fin 2 → Nat :=
  let c0_i32_983 : BitVec 32 := 0#32
  ![v1616.toNat, 0]

def k0_chk316 (v1616 : BitVec 32) : Prop :=
  (∀ a, (k0_off316 v1616) a + S1x1024.size a ≤ S16384x1024.size a)
theorem k0_off316_inb : ∀ (v1616 : BitVec 32) (k0_hw316 : k0_chk316 v1616), ∀ a, (k0_off316 v1616) a + S1x1024.size a ≤ S16384x1024.size a := fun v1616 k0_hw316 => k0_hw316

def k0_off317 (v1621 : BitVec 32) : Fin 2 → Nat :=
  let c0_i32_986 : BitVec 32 := 0#32
  ![v1621.toNat, 0]

def k0_chk317 (v1621 : BitVec 32) : Prop :=
  (∀ a, (k0_off317 v1621) a + S1x1024.size a ≤ S16384x1024.size a)
theorem k0_off317_inb : ∀ (v1621 : BitVec 32) (k0_hw317 : k0_chk317 v1621), ∀ a, (k0_off317 v1621) a + S1x1024.size a ≤ S16384x1024.size a := fun v1621 k0_hw317 => k0_hw317

def k0_off318 (v1626 : BitVec 32) : Fin 2 → Nat :=
  let c0_i32_989 : BitVec 32 := 0#32
  ![v1626.toNat, 0]

def k0_chk318 (v1626 : BitVec 32) : Prop :=
  (∀ a, (k0_off318 v1626) a + S1x1024.size a ≤ S16384x1024.size a)
theorem k0_off318_inb : ∀ (v1626 : BitVec 32) (k0_hw318 : k0_chk318 v1626), ∀ a, (k0_off318 v1626) a + S1x1024.size a ≤ S16384x1024.size a := fun v1626 k0_hw318 => k0_hw318

def k0_off319 (v1631 : BitVec 32) : Fin 2 → Nat :=
  let c0_i32_992 : BitVec 32 := 0#32
  ![v1631.toNat, 0]

def k0_chk319 (v1631 : BitVec 32) : Prop :=
  (∀ a, (k0_off319 v1631) a + S1x1024.size a ≤ S16384x1024.size a)
theorem k0_off319_inb : ∀ (v1631 : BitVec 32) (k0_hw319 : k0_chk319 v1631), ∀ a, (k0_off319 v1631) a + S1x1024.size a ≤ S16384x1024.size a := fun v1631 k0_hw319 => k0_hw319

def k0_off320 (v1636 : BitVec 32) : Fin 2 → Nat :=
  let c0_i32_995 : BitVec 32 := 0#32
  ![v1636.toNat, 0]

def k0_chk320 (v1636 : BitVec 32) : Prop :=
  (∀ a, (k0_off320 v1636) a + S1x1024.size a ≤ S16384x1024.size a)
theorem k0_off320_inb : ∀ (v1636 : BitVec 32) (k0_hw320 : k0_chk320 v1636), ∀ a, (k0_off320 v1636) a + S1x1024.size a ≤ S16384x1024.size a := fun v1636 k0_hw320 => k0_hw320

def k0_off321 (v1641 : BitVec 32) : Fin 2 → Nat :=
  let c0_i32_998 : BitVec 32 := 0#32
  ![v1641.toNat, 0]

def k0_chk321 (v1641 : BitVec 32) : Prop :=
  (∀ a, (k0_off321 v1641) a + S1x1024.size a ≤ S16384x1024.size a)
theorem k0_off321_inb : ∀ (v1641 : BitVec 32) (k0_hw321 : k0_chk321 v1641), ∀ a, (k0_off321 v1641) a + S1x1024.size a ≤ S16384x1024.size a := fun v1641 k0_hw321 => k0_hw321

def k0_off322 (v1646 : BitVec 32) : Fin 2 → Nat :=
  let c0_i32_1001 : BitVec 32 := 0#32
  ![v1646.toNat, 0]

def k0_chk322 (v1646 : BitVec 32) : Prop :=
  (∀ a, (k0_off322 v1646) a + S1x1024.size a ≤ S16384x1024.size a)
theorem k0_off322_inb : ∀ (v1646 : BitVec 32) (k0_hw322 : k0_chk322 v1646), ∀ a, (k0_off322 v1646) a + S1x1024.size a ≤ S16384x1024.size a := fun v1646 k0_hw322 => k0_hw322

def k0_off323 (v1651 : BitVec 32) : Fin 2 → Nat :=
  let c0_i32_1004 : BitVec 32 := 0#32
  ![v1651.toNat, 0]

def k0_chk323 (v1651 : BitVec 32) : Prop :=
  (∀ a, (k0_off323 v1651) a + S1x1024.size a ≤ S16384x1024.size a)
theorem k0_off323_inb : ∀ (v1651 : BitVec 32) (k0_hw323 : k0_chk323 v1651), ∀ a, (k0_off323 v1651) a + S1x1024.size a ≤ S16384x1024.size a := fun v1651 k0_hw323 => k0_hw323

def k0_off324 (v1656 : BitVec 32) : Fin 2 → Nat :=
  let c0_i32_1007 : BitVec 32 := 0#32
  ![v1656.toNat, 0]

def k0_chk324 (v1656 : BitVec 32) : Prop :=
  (∀ a, (k0_off324 v1656) a + S1x1024.size a ≤ S16384x1024.size a)
theorem k0_off324_inb : ∀ (v1656 : BitVec 32) (k0_hw324 : k0_chk324 v1656), ∀ a, (k0_off324 v1656) a + S1x1024.size a ≤ S16384x1024.size a := fun v1656 k0_hw324 => k0_hw324

def k0_off325 (v1661 : BitVec 32) : Fin 2 → Nat :=
  let c0_i32_1010 : BitVec 32 := 0#32
  ![v1661.toNat, 0]

def k0_chk325 (v1661 : BitVec 32) : Prop :=
  (∀ a, (k0_off325 v1661) a + S1x1024.size a ≤ S16384x1024.size a)
theorem k0_off325_inb : ∀ (v1661 : BitVec 32) (k0_hw325 : k0_chk325 v1661), ∀ a, (k0_off325 v1661) a + S1x1024.size a ≤ S16384x1024.size a := fun v1661 k0_hw325 => k0_hw325

def k0_off326 (v1666 : BitVec 32) : Fin 2 → Nat :=
  let c0_i32_1013 : BitVec 32 := 0#32
  ![v1666.toNat, 0]

def k0_chk326 (v1666 : BitVec 32) : Prop :=
  (∀ a, (k0_off326 v1666) a + S1x1024.size a ≤ S16384x1024.size a)
theorem k0_off326_inb : ∀ (v1666 : BitVec 32) (k0_hw326 : k0_chk326 v1666), ∀ a, (k0_off326 v1666) a + S1x1024.size a ≤ S16384x1024.size a := fun v1666 k0_hw326 => k0_hw326

def k0_off327 (v1671 : BitVec 32) : Fin 2 → Nat :=
  let c0_i32_1016 : BitVec 32 := 0#32
  ![v1671.toNat, 0]

def k0_chk327 (v1671 : BitVec 32) : Prop :=
  (∀ a, (k0_off327 v1671) a + S1x1024.size a ≤ S16384x1024.size a)
theorem k0_off327_inb : ∀ (v1671 : BitVec 32) (k0_hw327 : k0_chk327 v1671), ∀ a, (k0_off327 v1671) a + S1x1024.size a ≤ S16384x1024.size a := fun v1671 k0_hw327 => k0_hw327

def k0_off328 (v1676 : BitVec 32) : Fin 2 → Nat :=
  let c0_i32_1019 : BitVec 32 := 0#32
  ![v1676.toNat, 0]

def k0_chk328 (v1676 : BitVec 32) : Prop :=
  (∀ a, (k0_off328 v1676) a + S1x1024.size a ≤ S16384x1024.size a)
theorem k0_off328_inb : ∀ (v1676 : BitVec 32) (k0_hw328 : k0_chk328 v1676), ∀ a, (k0_off328 v1676) a + S1x1024.size a ≤ S16384x1024.size a := fun v1676 k0_hw328 => k0_hw328

def k0_off329 (v1681 : BitVec 32) : Fin 2 → Nat :=
  let c0_i32_1022 : BitVec 32 := 0#32
  ![v1681.toNat, 0]

def k0_chk329 (v1681 : BitVec 32) : Prop :=
  (∀ a, (k0_off329 v1681) a + S1x1024.size a ≤ S16384x1024.size a)
theorem k0_off329_inb : ∀ (v1681 : BitVec 32) (k0_hw329 : k0_chk329 v1681), ∀ a, (k0_off329 v1681) a + S1x1024.size a ≤ S16384x1024.size a := fun v1681 k0_hw329 => k0_hw329

def k0_off330 (v1686 : BitVec 32) : Fin 2 → Nat :=
  let c0_i32_1025 : BitVec 32 := 0#32
  ![v1686.toNat, 0]

def k0_chk330 (v1686 : BitVec 32) : Prop :=
  (∀ a, (k0_off330 v1686) a + S1x1024.size a ≤ S16384x1024.size a)
theorem k0_off330_inb : ∀ (v1686 : BitVec 32) (k0_hw330 : k0_chk330 v1686), ∀ a, (k0_off330 v1686) a + S1x1024.size a ≤ S16384x1024.size a := fun v1686 k0_hw330 => k0_hw330

def k0_off331 (v1691 : BitVec 32) : Fin 2 → Nat :=
  let c0_i32_1028 : BitVec 32 := 0#32
  ![v1691.toNat, 0]

def k0_chk331 (v1691 : BitVec 32) : Prop :=
  (∀ a, (k0_off331 v1691) a + S1x1024.size a ≤ S16384x1024.size a)
theorem k0_off331_inb : ∀ (v1691 : BitVec 32) (k0_hw331 : k0_chk331 v1691), ∀ a, (k0_off331 v1691) a + S1x1024.size a ≤ S16384x1024.size a := fun v1691 k0_hw331 => k0_hw331

def k0_off332 (v1696 : BitVec 32) : Fin 2 → Nat :=
  let c0_i32_1031 : BitVec 32 := 0#32
  ![v1696.toNat, 0]

def k0_chk332 (v1696 : BitVec 32) : Prop :=
  (∀ a, (k0_off332 v1696) a + S1x1024.size a ≤ S16384x1024.size a)
theorem k0_off332_inb : ∀ (v1696 : BitVec 32) (k0_hw332 : k0_chk332 v1696), ∀ a, (k0_off332 v1696) a + S1x1024.size a ≤ S16384x1024.size a := fun v1696 k0_hw332 => k0_hw332

def k0_off333 (v1701 : BitVec 32) : Fin 2 → Nat :=
  let c0_i32_1034 : BitVec 32 := 0#32
  ![v1701.toNat, 0]

def k0_chk333 (v1701 : BitVec 32) : Prop :=
  (∀ a, (k0_off333 v1701) a + S1x1024.size a ≤ S16384x1024.size a)
theorem k0_off333_inb : ∀ (v1701 : BitVec 32) (k0_hw333 : k0_chk333 v1701), ∀ a, (k0_off333 v1701) a + S1x1024.size a ≤ S16384x1024.size a := fun v1701 k0_hw333 => k0_hw333

def k0_off334 (v1706 : BitVec 32) : Fin 2 → Nat :=
  let c0_i32_1037 : BitVec 32 := 0#32
  ![v1706.toNat, 0]

def k0_chk334 (v1706 : BitVec 32) : Prop :=
  (∀ a, (k0_off334 v1706) a + S1x1024.size a ≤ S16384x1024.size a)
theorem k0_off334_inb : ∀ (v1706 : BitVec 32) (k0_hw334 : k0_chk334 v1706), ∀ a, (k0_off334 v1706) a + S1x1024.size a ≤ S16384x1024.size a := fun v1706 k0_hw334 => k0_hw334

def k0_off335 (v1711 : BitVec 32) : Fin 2 → Nat :=
  let c0_i32_1040 : BitVec 32 := 0#32
  ![v1711.toNat, 0]

def k0_chk335 (v1711 : BitVec 32) : Prop :=
  (∀ a, (k0_off335 v1711) a + S1x1024.size a ≤ S16384x1024.size a)
theorem k0_off335_inb : ∀ (v1711 : BitVec 32) (k0_hw335 : k0_chk335 v1711), ∀ a, (k0_off335 v1711) a + S1x1024.size a ≤ S16384x1024.size a := fun v1711 k0_hw335 => k0_hw335

def k0_off336 (v1716 : BitVec 32) : Fin 2 → Nat :=
  let c0_i32_1043 : BitVec 32 := 0#32
  ![v1716.toNat, 0]

def k0_chk336 (v1716 : BitVec 32) : Prop :=
  (∀ a, (k0_off336 v1716) a + S1x1024.size a ≤ S16384x1024.size a)
theorem k0_off336_inb : ∀ (v1716 : BitVec 32) (k0_hw336 : k0_chk336 v1716), ∀ a, (k0_off336 v1716) a + S1x1024.size a ≤ S16384x1024.size a := fun v1716 k0_hw336 => k0_hw336

def k0_off337 (v1721 : BitVec 32) : Fin 2 → Nat :=
  let c0_i32_1046 : BitVec 32 := 0#32
  ![v1721.toNat, 0]

def k0_chk337 (v1721 : BitVec 32) : Prop :=
  (∀ a, (k0_off337 v1721) a + S1x1024.size a ≤ S16384x1024.size a)
theorem k0_off337_inb : ∀ (v1721 : BitVec 32) (k0_hw337 : k0_chk337 v1721), ∀ a, (k0_off337 v1721) a + S1x1024.size a ≤ S16384x1024.size a := fun v1721 k0_hw337 => k0_hw337

def k0_off338 (v1726 : BitVec 32) : Fin 2 → Nat :=
  let c0_i32_1049 : BitVec 32 := 0#32
  ![v1726.toNat, 0]

def k0_chk338 (v1726 : BitVec 32) : Prop :=
  (∀ a, (k0_off338 v1726) a + S1x1024.size a ≤ S16384x1024.size a)
theorem k0_off338_inb : ∀ (v1726 : BitVec 32) (k0_hw338 : k0_chk338 v1726), ∀ a, (k0_off338 v1726) a + S1x1024.size a ≤ S16384x1024.size a := fun v1726 k0_hw338 => k0_hw338

def k0_off339 (v1731 : BitVec 32) : Fin 2 → Nat :=
  let c0_i32_1052 : BitVec 32 := 0#32
  ![v1731.toNat, 0]

def k0_chk339 (v1731 : BitVec 32) : Prop :=
  (∀ a, (k0_off339 v1731) a + S1x1024.size a ≤ S16384x1024.size a)
theorem k0_off339_inb : ∀ (v1731 : BitVec 32) (k0_hw339 : k0_chk339 v1731), ∀ a, (k0_off339 v1731) a + S1x1024.size a ≤ S16384x1024.size a := fun v1731 k0_hw339 => k0_hw339

def k0_off340 (v1736 : BitVec 32) : Fin 2 → Nat :=
  let c0_i32_1055 : BitVec 32 := 0#32
  ![v1736.toNat, 0]

def k0_chk340 (v1736 : BitVec 32) : Prop :=
  (∀ a, (k0_off340 v1736) a + S1x1024.size a ≤ S16384x1024.size a)
theorem k0_off340_inb : ∀ (v1736 : BitVec 32) (k0_hw340 : k0_chk340 v1736), ∀ a, (k0_off340 v1736) a + S1x1024.size a ≤ S16384x1024.size a := fun v1736 k0_hw340 => k0_hw340

def k0_off341 (v1741 : BitVec 32) : Fin 2 → Nat :=
  let c0_i32_1058 : BitVec 32 := 0#32
  ![v1741.toNat, 0]

def k0_chk341 (v1741 : BitVec 32) : Prop :=
  (∀ a, (k0_off341 v1741) a + S1x1024.size a ≤ S16384x1024.size a)
theorem k0_off341_inb : ∀ (v1741 : BitVec 32) (k0_hw341 : k0_chk341 v1741), ∀ a, (k0_off341 v1741) a + S1x1024.size a ≤ S16384x1024.size a := fun v1741 k0_hw341 => k0_hw341

def k0_off342 (v1746 : BitVec 32) : Fin 2 → Nat :=
  let c0_i32_1061 : BitVec 32 := 0#32
  ![v1746.toNat, 0]

def k0_chk342 (v1746 : BitVec 32) : Prop :=
  (∀ a, (k0_off342 v1746) a + S1x1024.size a ≤ S16384x1024.size a)
theorem k0_off342_inb : ∀ (v1746 : BitVec 32) (k0_hw342 : k0_chk342 v1746), ∀ a, (k0_off342 v1746) a + S1x1024.size a ≤ S16384x1024.size a := fun v1746 k0_hw342 => k0_hw342

def k0_off343 (v1751 : BitVec 32) : Fin 2 → Nat :=
  let c0_i32_1064 : BitVec 32 := 0#32
  ![v1751.toNat, 0]

def k0_chk343 (v1751 : BitVec 32) : Prop :=
  (∀ a, (k0_off343 v1751) a + S1x1024.size a ≤ S16384x1024.size a)
theorem k0_off343_inb : ∀ (v1751 : BitVec 32) (k0_hw343 : k0_chk343 v1751), ∀ a, (k0_off343 v1751) a + S1x1024.size a ≤ S16384x1024.size a := fun v1751 k0_hw343 => k0_hw343

def k0_off344 (v1756 : BitVec 32) : Fin 2 → Nat :=
  let c0_i32_1067 : BitVec 32 := 0#32
  ![v1756.toNat, 0]

def k0_chk344 (v1756 : BitVec 32) : Prop :=
  (∀ a, (k0_off344 v1756) a + S1x1024.size a ≤ S16384x1024.size a)
theorem k0_off344_inb : ∀ (v1756 : BitVec 32) (k0_hw344 : k0_chk344 v1756), ∀ a, (k0_off344 v1756) a + S1x1024.size a ≤ S16384x1024.size a := fun v1756 k0_hw344 => k0_hw344

def k0_off345 (v1761 : BitVec 32) : Fin 2 → Nat :=
  let c0_i32_1070 : BitVec 32 := 0#32
  ![v1761.toNat, 0]

def k0_chk345 (v1761 : BitVec 32) : Prop :=
  (∀ a, (k0_off345 v1761) a + S1x1024.size a ≤ S16384x1024.size a)
theorem k0_off345_inb : ∀ (v1761 : BitVec 32) (k0_hw345 : k0_chk345 v1761), ∀ a, (k0_off345 v1761) a + S1x1024.size a ≤ S16384x1024.size a := fun v1761 k0_hw345 => k0_hw345

def k0_off346 (v1766 : BitVec 32) : Fin 2 → Nat :=
  let c0_i32_1073 : BitVec 32 := 0#32
  ![v1766.toNat, 0]

def k0_chk346 (v1766 : BitVec 32) : Prop :=
  (∀ a, (k0_off346 v1766) a + S1x1024.size a ≤ S16384x1024.size a)
theorem k0_off346_inb : ∀ (v1766 : BitVec 32) (k0_hw346 : k0_chk346 v1766), ∀ a, (k0_off346 v1766) a + S1x1024.size a ≤ S16384x1024.size a := fun v1766 k0_hw346 => k0_hw346

def k0_off347 (v1771 : BitVec 32) : Fin 2 → Nat :=
  let c0_i32_1076 : BitVec 32 := 0#32
  ![v1771.toNat, 0]

def k0_chk347 (v1771 : BitVec 32) : Prop :=
  (∀ a, (k0_off347 v1771) a + S1x1024.size a ≤ S16384x1024.size a)
theorem k0_off347_inb : ∀ (v1771 : BitVec 32) (k0_hw347 : k0_chk347 v1771), ∀ a, (k0_off347 v1771) a + S1x1024.size a ≤ S16384x1024.size a := fun v1771 k0_hw347 => k0_hw347

def k0_off348 (v1776 : BitVec 32) : Fin 2 → Nat :=
  let c0_i32_1079 : BitVec 32 := 0#32
  ![v1776.toNat, 0]

def k0_chk348 (v1776 : BitVec 32) : Prop :=
  (∀ a, (k0_off348 v1776) a + S1x1024.size a ≤ S16384x1024.size a)
theorem k0_off348_inb : ∀ (v1776 : BitVec 32) (k0_hw348 : k0_chk348 v1776), ∀ a, (k0_off348 v1776) a + S1x1024.size a ≤ S16384x1024.size a := fun v1776 k0_hw348 => k0_hw348

def k0_off349 (v1781 : BitVec 32) : Fin 2 → Nat :=
  let c0_i32_1082 : BitVec 32 := 0#32
  ![v1781.toNat, 0]

def k0_chk349 (v1781 : BitVec 32) : Prop :=
  (∀ a, (k0_off349 v1781) a + S1x1024.size a ≤ S16384x1024.size a)
theorem k0_off349_inb : ∀ (v1781 : BitVec 32) (k0_hw349 : k0_chk349 v1781), ∀ a, (k0_off349 v1781) a + S1x1024.size a ≤ S16384x1024.size a := fun v1781 k0_hw349 => k0_hw349

def k0_off350 (v1786 : BitVec 32) : Fin 2 → Nat :=
  let c0_i32_1085 : BitVec 32 := 0#32
  ![v1786.toNat, 0]

def k0_chk350 (v1786 : BitVec 32) : Prop :=
  (∀ a, (k0_off350 v1786) a + S1x1024.size a ≤ S16384x1024.size a)
theorem k0_off350_inb : ∀ (v1786 : BitVec 32) (k0_hw350 : k0_chk350 v1786), ∀ a, (k0_off350 v1786) a + S1x1024.size a ≤ S16384x1024.size a := fun v1786 k0_hw350 => k0_hw350

def k0_off351 (v1791 : BitVec 32) : Fin 2 → Nat :=
  let c0_i32_1088 : BitVec 32 := 0#32
  ![v1791.toNat, 0]

def k0_chk351 (v1791 : BitVec 32) : Prop :=
  (∀ a, (k0_off351 v1791) a + S1x1024.size a ≤ S16384x1024.size a)
theorem k0_off351_inb : ∀ (v1791 : BitVec 32) (k0_hw351 : k0_chk351 v1791), ∀ a, (k0_off351 v1791) a + S1x1024.size a ≤ S16384x1024.size a := fun v1791 k0_hw351 => k0_hw351

def k0_off352 (v1796 : BitVec 32) : Fin 2 → Nat :=
  let c0_i32_1091 : BitVec 32 := 0#32
  ![v1796.toNat, 0]

def k0_chk352 (v1796 : BitVec 32) : Prop :=
  (∀ a, (k0_off352 v1796) a + S1x1024.size a ≤ S16384x1024.size a)
theorem k0_off352_inb : ∀ (v1796 : BitVec 32) (k0_hw352 : k0_chk352 v1796), ∀ a, (k0_off352 v1796) a + S1x1024.size a ≤ S16384x1024.size a := fun v1796 k0_hw352 => k0_hw352

def k0_off353 (v1801 : BitVec 32) : Fin 2 → Nat :=
  let c0_i32_1094 : BitVec 32 := 0#32
  ![v1801.toNat, 0]

def k0_chk353 (v1801 : BitVec 32) : Prop :=
  (∀ a, (k0_off353 v1801) a + S1x1024.size a ≤ S16384x1024.size a)
theorem k0_off353_inb : ∀ (v1801 : BitVec 32) (k0_hw353 : k0_chk353 v1801), ∀ a, (k0_off353 v1801) a + S1x1024.size a ≤ S16384x1024.size a := fun v1801 k0_hw353 => k0_hw353

def k0_off354 (v1806 : BitVec 32) : Fin 2 → Nat :=
  let c0_i32_1097 : BitVec 32 := 0#32
  ![v1806.toNat, 0]

def k0_chk354 (v1806 : BitVec 32) : Prop :=
  (∀ a, (k0_off354 v1806) a + S1x1024.size a ≤ S16384x1024.size a)
theorem k0_off354_inb : ∀ (v1806 : BitVec 32) (k0_hw354 : k0_chk354 v1806), ∀ a, (k0_off354 v1806) a + S1x1024.size a ≤ S16384x1024.size a := fun v1806 k0_hw354 => k0_hw354

def k0_off355 (v1811 : BitVec 32) : Fin 2 → Nat :=
  let c0_i32_1100 : BitVec 32 := 0#32
  ![v1811.toNat, 0]

def k0_chk355 (v1811 : BitVec 32) : Prop :=
  (∀ a, (k0_off355 v1811) a + S1x1024.size a ≤ S16384x1024.size a)
theorem k0_off355_inb : ∀ (v1811 : BitVec 32) (k0_hw355 : k0_chk355 v1811), ∀ a, (k0_off355 v1811) a + S1x1024.size a ≤ S16384x1024.size a := fun v1811 k0_hw355 => k0_hw355

def k0_off356 (v1816 : BitVec 32) : Fin 2 → Nat :=
  let c0_i32_1103 : BitVec 32 := 0#32
  ![v1816.toNat, 0]

def k0_chk356 (v1816 : BitVec 32) : Prop :=
  (∀ a, (k0_off356 v1816) a + S1x1024.size a ≤ S16384x1024.size a)
theorem k0_off356_inb : ∀ (v1816 : BitVec 32) (k0_hw356 : k0_chk356 v1816), ∀ a, (k0_off356 v1816) a + S1x1024.size a ≤ S16384x1024.size a := fun v1816 k0_hw356 => k0_hw356

def k0_off357 (v1821 : BitVec 32) : Fin 2 → Nat :=
  let c0_i32_1106 : BitVec 32 := 0#32
  ![v1821.toNat, 0]

def k0_chk357 (v1821 : BitVec 32) : Prop :=
  (∀ a, (k0_off357 v1821) a + S1x1024.size a ≤ S16384x1024.size a)
theorem k0_off357_inb : ∀ (v1821 : BitVec 32) (k0_hw357 : k0_chk357 v1821), ∀ a, (k0_off357 v1821) a + S1x1024.size a ≤ S16384x1024.size a := fun v1821 k0_hw357 => k0_hw357

def k0_off358 (v1826 : BitVec 32) : Fin 2 → Nat :=
  let c0_i32_1109 : BitVec 32 := 0#32
  ![v1826.toNat, 0]

def k0_chk358 (v1826 : BitVec 32) : Prop :=
  (∀ a, (k0_off358 v1826) a + S1x1024.size a ≤ S16384x1024.size a)
theorem k0_off358_inb : ∀ (v1826 : BitVec 32) (k0_hw358 : k0_chk358 v1826), ∀ a, (k0_off358 v1826) a + S1x1024.size a ≤ S16384x1024.size a := fun v1826 k0_hw358 => k0_hw358

def k0_off359 (v1831 : BitVec 32) : Fin 2 → Nat :=
  let c0_i32_1112 : BitVec 32 := 0#32
  ![v1831.toNat, 0]

def k0_chk359 (v1831 : BitVec 32) : Prop :=
  (∀ a, (k0_off359 v1831) a + S1x1024.size a ≤ S16384x1024.size a)
theorem k0_off359_inb : ∀ (v1831 : BitVec 32) (k0_hw359 : k0_chk359 v1831), ∀ a, (k0_off359 v1831) a + S1x1024.size a ≤ S16384x1024.size a := fun v1831 k0_hw359 => k0_hw359

def k0_off360 (v1836 : BitVec 32) : Fin 2 → Nat :=
  let c0_i32_1115 : BitVec 32 := 0#32
  ![v1836.toNat, 0]

def k0_chk360 (v1836 : BitVec 32) : Prop :=
  (∀ a, (k0_off360 v1836) a + S1x1024.size a ≤ S16384x1024.size a)
theorem k0_off360_inb : ∀ (v1836 : BitVec 32) (k0_hw360 : k0_chk360 v1836), ∀ a, (k0_off360 v1836) a + S1x1024.size a ≤ S16384x1024.size a := fun v1836 k0_hw360 => k0_hw360

def k0_off361 (v1841 : BitVec 32) : Fin 2 → Nat :=
  let c0_i32_1118 : BitVec 32 := 0#32
  ![v1841.toNat, 0]

def k0_chk361 (v1841 : BitVec 32) : Prop :=
  (∀ a, (k0_off361 v1841) a + S1x1024.size a ≤ S16384x1024.size a)
theorem k0_off361_inb : ∀ (v1841 : BitVec 32) (k0_hw361 : k0_chk361 v1841), ∀ a, (k0_off361 v1841) a + S1x1024.size a ≤ S16384x1024.size a := fun v1841 k0_hw361 => k0_hw361

def k0_off362 (v1846 : BitVec 32) : Fin 2 → Nat :=
  let c0_i32_1121 : BitVec 32 := 0#32
  ![v1846.toNat, 0]

def k0_chk362 (v1846 : BitVec 32) : Prop :=
  (∀ a, (k0_off362 v1846) a + S1x1024.size a ≤ S16384x1024.size a)
theorem k0_off362_inb : ∀ (v1846 : BitVec 32) (k0_hw362 : k0_chk362 v1846), ∀ a, (k0_off362 v1846) a + S1x1024.size a ≤ S16384x1024.size a := fun v1846 k0_hw362 => k0_hw362

def k0_off363 (v1851 : BitVec 32) : Fin 2 → Nat :=
  let c0_i32_1124 : BitVec 32 := 0#32
  ![v1851.toNat, 0]

def k0_chk363 (v1851 : BitVec 32) : Prop :=
  (∀ a, (k0_off363 v1851) a + S1x1024.size a ≤ S16384x1024.size a)
theorem k0_off363_inb : ∀ (v1851 : BitVec 32) (k0_hw363 : k0_chk363 v1851), ∀ a, (k0_off363 v1851) a + S1x1024.size a ≤ S16384x1024.size a := fun v1851 k0_hw363 => k0_hw363

def k0_off364 (v1856 : BitVec 32) : Fin 2 → Nat :=
  let c0_i32_1127 : BitVec 32 := 0#32
  ![v1856.toNat, 0]

def k0_chk364 (v1856 : BitVec 32) : Prop :=
  (∀ a, (k0_off364 v1856) a + S1x1024.size a ≤ S16384x1024.size a)
theorem k0_off364_inb : ∀ (v1856 : BitVec 32) (k0_hw364 : k0_chk364 v1856), ∀ a, (k0_off364 v1856) a + S1x1024.size a ≤ S16384x1024.size a := fun v1856 k0_hw364 => k0_hw364

def k0_off365 (v1861 : BitVec 32) : Fin 2 → Nat :=
  let c0_i32_1130 : BitVec 32 := 0#32
  ![v1861.toNat, 0]

def k0_chk365 (v1861 : BitVec 32) : Prop :=
  (∀ a, (k0_off365 v1861) a + S1x1024.size a ≤ S16384x1024.size a)
theorem k0_off365_inb : ∀ (v1861 : BitVec 32) (k0_hw365 : k0_chk365 v1861), ∀ a, (k0_off365 v1861) a + S1x1024.size a ≤ S16384x1024.size a := fun v1861 k0_hw365 => k0_hw365

def k0_off366 (v1866 : BitVec 32) : Fin 2 → Nat :=
  let c0_i32_1133 : BitVec 32 := 0#32
  ![v1866.toNat, 0]

def k0_chk366 (v1866 : BitVec 32) : Prop :=
  (∀ a, (k0_off366 v1866) a + S1x1024.size a ≤ S16384x1024.size a)
theorem k0_off366_inb : ∀ (v1866 : BitVec 32) (k0_hw366 : k0_chk366 v1866), ∀ a, (k0_off366 v1866) a + S1x1024.size a ≤ S16384x1024.size a := fun v1866 k0_hw366 => k0_hw366

def k0_off367 (v1871 : BitVec 32) : Fin 2 → Nat :=
  let c0_i32_1136 : BitVec 32 := 0#32
  ![v1871.toNat, 0]

def k0_chk367 (v1871 : BitVec 32) : Prop :=
  (∀ a, (k0_off367 v1871) a + S1x1024.size a ≤ S16384x1024.size a)
theorem k0_off367_inb : ∀ (v1871 : BitVec 32) (k0_hw367 : k0_chk367 v1871), ∀ a, (k0_off367 v1871) a + S1x1024.size a ≤ S16384x1024.size a := fun v1871 k0_hw367 => k0_hw367

def k0_off368 (v1876 : BitVec 32) : Fin 2 → Nat :=
  let c0_i32_1139 : BitVec 32 := 0#32
  ![v1876.toNat, 0]

def k0_chk368 (v1876 : BitVec 32) : Prop :=
  (∀ a, (k0_off368 v1876) a + S1x1024.size a ≤ S16384x1024.size a)
theorem k0_off368_inb : ∀ (v1876 : BitVec 32) (k0_hw368 : k0_chk368 v1876), ∀ a, (k0_off368 v1876) a + S1x1024.size a ≤ S16384x1024.size a := fun v1876 k0_hw368 => k0_hw368

def k0_off369 (v1881 : BitVec 32) : Fin 2 → Nat :=
  let c0_i32_1142 : BitVec 32 := 0#32
  ![v1881.toNat, 0]

def k0_chk369 (v1881 : BitVec 32) : Prop :=
  (∀ a, (k0_off369 v1881) a + S1x1024.size a ≤ S16384x1024.size a)
theorem k0_off369_inb : ∀ (v1881 : BitVec 32) (k0_hw369 : k0_chk369 v1881), ∀ a, (k0_off369 v1881) a + S1x1024.size a ≤ S16384x1024.size a := fun v1881 k0_hw369 => k0_hw369

def k0_off370 (v1886 : BitVec 32) : Fin 2 → Nat :=
  let c0_i32_1145 : BitVec 32 := 0#32
  ![v1886.toNat, 0]

def k0_chk370 (v1886 : BitVec 32) : Prop :=
  (∀ a, (k0_off370 v1886) a + S1x1024.size a ≤ S16384x1024.size a)
theorem k0_off370_inb : ∀ (v1886 : BitVec 32) (k0_hw370 : k0_chk370 v1886), ∀ a, (k0_off370 v1886) a + S1x1024.size a ≤ S16384x1024.size a := fun v1886 k0_hw370 => k0_hw370

def k0_off371 (v1891 : BitVec 32) : Fin 2 → Nat :=
  let c0_i32_1148 : BitVec 32 := 0#32
  ![v1891.toNat, 0]

def k0_chk371 (v1891 : BitVec 32) : Prop :=
  (∀ a, (k0_off371 v1891) a + S1x1024.size a ≤ S16384x1024.size a)
theorem k0_off371_inb : ∀ (v1891 : BitVec 32) (k0_hw371 : k0_chk371 v1891), ∀ a, (k0_off371 v1891) a + S1x1024.size a ≤ S16384x1024.size a := fun v1891 k0_hw371 => k0_hw371

def k0_off372 (v1896 : BitVec 32) : Fin 2 → Nat :=
  let c0_i32_1151 : BitVec 32 := 0#32
  ![v1896.toNat, 0]

def k0_chk372 (v1896 : BitVec 32) : Prop :=
  (∀ a, (k0_off372 v1896) a + S1x1024.size a ≤ S16384x1024.size a)
theorem k0_off372_inb : ∀ (v1896 : BitVec 32) (k0_hw372 : k0_chk372 v1896), ∀ a, (k0_off372 v1896) a + S1x1024.size a ≤ S16384x1024.size a := fun v1896 k0_hw372 => k0_hw372

def k0_off373 (v1901 : BitVec 32) : Fin 2 → Nat :=
  let c0_i32_1154 : BitVec 32 := 0#32
  ![v1901.toNat, 0]

def k0_chk373 (v1901 : BitVec 32) : Prop :=
  (∀ a, (k0_off373 v1901) a + S1x1024.size a ≤ S16384x1024.size a)
theorem k0_off373_inb : ∀ (v1901 : BitVec 32) (k0_hw373 : k0_chk373 v1901), ∀ a, (k0_off373 v1901) a + S1x1024.size a ≤ S16384x1024.size a := fun v1901 k0_hw373 => k0_hw373

def k0_off374 (v1906 : BitVec 32) : Fin 2 → Nat :=
  let c0_i32_1157 : BitVec 32 := 0#32
  ![v1906.toNat, 0]

def k0_chk374 (v1906 : BitVec 32) : Prop :=
  (∀ a, (k0_off374 v1906) a + S1x1024.size a ≤ S16384x1024.size a)
theorem k0_off374_inb : ∀ (v1906 : BitVec 32) (k0_hw374 : k0_chk374 v1906), ∀ a, (k0_off374 v1906) a + S1x1024.size a ≤ S16384x1024.size a := fun v1906 k0_hw374 => k0_hw374

def k0_off375 (v1911 : BitVec 32) : Fin 2 → Nat :=
  let c0_i32_1160 : BitVec 32 := 0#32
  ![v1911.toNat, 0]

def k0_chk375 (v1911 : BitVec 32) : Prop :=
  (∀ a, (k0_off375 v1911) a + S1x1024.size a ≤ S16384x1024.size a)
theorem k0_off375_inb : ∀ (v1911 : BitVec 32) (k0_hw375 : k0_chk375 v1911), ∀ a, (k0_off375 v1911) a + S1x1024.size a ≤ S16384x1024.size a := fun v1911 k0_hw375 => k0_hw375

def k0_off376 (v1916 : BitVec 32) : Fin 2 → Nat :=
  let c0_i32_1163 : BitVec 32 := 0#32
  ![v1916.toNat, 0]

def k0_chk376 (v1916 : BitVec 32) : Prop :=
  (∀ a, (k0_off376 v1916) a + S1x1024.size a ≤ S16384x1024.size a)
theorem k0_off376_inb : ∀ (v1916 : BitVec 32) (k0_hw376 : k0_chk376 v1916), ∀ a, (k0_off376 v1916) a + S1x1024.size a ≤ S16384x1024.size a := fun v1916 k0_hw376 => k0_hw376

def k0_off377 (v1921 : BitVec 32) : Fin 2 → Nat :=
  let c0_i32_1166 : BitVec 32 := 0#32
  ![v1921.toNat, 0]

def k0_chk377 (v1921 : BitVec 32) : Prop :=
  (∀ a, (k0_off377 v1921) a + S1x1024.size a ≤ S16384x1024.size a)
theorem k0_off377_inb : ∀ (v1921 : BitVec 32) (k0_hw377 : k0_chk377 v1921), ∀ a, (k0_off377 v1921) a + S1x1024.size a ≤ S16384x1024.size a := fun v1921 k0_hw377 => k0_hw377

def k0_off378 (v1926 : BitVec 32) : Fin 2 → Nat :=
  let c0_i32_1169 : BitVec 32 := 0#32
  ![v1926.toNat, 0]

def k0_chk378 (v1926 : BitVec 32) : Prop :=
  (∀ a, (k0_off378 v1926) a + S1x1024.size a ≤ S16384x1024.size a)
theorem k0_off378_inb : ∀ (v1926 : BitVec 32) (k0_hw378 : k0_chk378 v1926), ∀ a, (k0_off378 v1926) a + S1x1024.size a ≤ S16384x1024.size a := fun v1926 k0_hw378 => k0_hw378

def k0_off379 (v1931 : BitVec 32) : Fin 2 → Nat :=
  let c0_i32_1172 : BitVec 32 := 0#32
  ![v1931.toNat, 0]

def k0_chk379 (v1931 : BitVec 32) : Prop :=
  (∀ a, (k0_off379 v1931) a + S1x1024.size a ≤ S16384x1024.size a)
theorem k0_off379_inb : ∀ (v1931 : BitVec 32) (k0_hw379 : k0_chk379 v1931), ∀ a, (k0_off379 v1931) a + S1x1024.size a ≤ S16384x1024.size a := fun v1931 k0_hw379 => k0_hw379

def k0_off380 (v1936 : BitVec 32) : Fin 2 → Nat :=
  let c0_i32_1175 : BitVec 32 := 0#32
  ![v1936.toNat, 0]

def k0_chk380 (v1936 : BitVec 32) : Prop :=
  (∀ a, (k0_off380 v1936) a + S1x1024.size a ≤ S16384x1024.size a)
theorem k0_off380_inb : ∀ (v1936 : BitVec 32) (k0_hw380 : k0_chk380 v1936), ∀ a, (k0_off380 v1936) a + S1x1024.size a ≤ S16384x1024.size a := fun v1936 k0_hw380 => k0_hw380

def k0_off381 (v1941 : BitVec 32) : Fin 2 → Nat :=
  let c0_i32_1178 : BitVec 32 := 0#32
  ![v1941.toNat, 0]

def k0_chk381 (v1941 : BitVec 32) : Prop :=
  (∀ a, (k0_off381 v1941) a + S1x1024.size a ≤ S16384x1024.size a)
theorem k0_off381_inb : ∀ (v1941 : BitVec 32) (k0_hw381 : k0_chk381 v1941), ∀ a, (k0_off381 v1941) a + S1x1024.size a ≤ S16384x1024.size a := fun v1941 k0_hw381 => k0_hw381

def k0_off382 (v1946 : BitVec 32) : Fin 2 → Nat :=
  let c0_i32_1181 : BitVec 32 := 0#32
  ![v1946.toNat, 0]

def k0_chk382 (v1946 : BitVec 32) : Prop :=
  (∀ a, (k0_off382 v1946) a + S1x1024.size a ≤ S16384x1024.size a)
theorem k0_off382_inb : ∀ (v1946 : BitVec 32) (k0_hw382 : k0_chk382 v1946), ∀ a, (k0_off382 v1946) a + S1x1024.size a ≤ S16384x1024.size a := fun v1946 k0_hw382 => k0_hw382

def k0_off383 (v1951 : BitVec 32) : Fin 2 → Nat :=
  let c0_i32_1184 : BitVec 32 := 0#32
  ![v1951.toNat, 0]

def k0_chk383 (v1951 : BitVec 32) : Prop :=
  (∀ a, (k0_off383 v1951) a + S1x1024.size a ≤ S16384x1024.size a)
theorem k0_off383_inb : ∀ (v1951 : BitVec 32) (k0_hw383 : k0_chk383 v1951), ∀ a, (k0_off383 v1951) a + S1x1024.size a ≤ S16384x1024.size a := fun v1951 k0_hw383 => k0_hw383

def k0_off384 (v1956 : BitVec 32) : Fin 2 → Nat :=
  let c0_i32_1187 : BitVec 32 := 0#32
  ![v1956.toNat, 0]

def k0_chk384 (v1956 : BitVec 32) : Prop :=
  (∀ a, (k0_off384 v1956) a + S1x1024.size a ≤ S16384x1024.size a)
theorem k0_off384_inb : ∀ (v1956 : BitVec 32) (k0_hw384 : k0_chk384 v1956), ∀ a, (k0_off384 v1956) a + S1x1024.size a ≤ S16384x1024.size a := fun v1956 k0_hw384 => k0_hw384

def k0_dev4 (d0 : Dev nD) : Nat :=
  let c0_i32_1203 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1202 : BitVec 32 := 2#32
  let v1975 : BitVec 32 := Scalar.muli v2 c2_i32_1202
  let v1976 : BitVec 32 := Scalar.addi c0_i32_1203 v1975
  let c1_i32_1199 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1974 : BitVec 32 := Scalar.subi c1_i32_1199 v5
  let c1_i32_1204 : BitVec 32 := 1#32
  let v1977 : BitVec 32 := Scalar.muli v1974 c1_i32_1204
  let v1978 : BitVec 32 := Scalar.addi v1976 v1977
  v1978.toNat
def k0_off385 (v1985 : BitVec 32) : Fin 2 → Nat :=
  let c0_i32_1211 : BitVec 32 := 0#32
  ![v1985.toNat, 0]

def k0_chk385 (v1985 : BitVec 32) : Prop :=
  (∀ a, (k0_off385 v1985) a + S1x1024.size a ≤ S16384x1024.size a)
theorem k0_off385_inb : ∀ (v1985 : BitVec 32) (k0_hw385 : k0_chk385 v1985), ∀ a, (k0_off385 v1985) a + S1x1024.size a ≤ S16384x1024.size a := fun v1985 k0_hw385 => k0_hw385

def k0_off386 (v1990 : BitVec 32) : Fin 2 → Nat :=
  let c0_i32_1214 : BitVec 32 := 0#32
  ![v1990.toNat, 0]

def k0_chk386 (v1990 : BitVec 32) : Prop :=
  (∀ a, (k0_off386 v1990) a + S1x1024.size a ≤ S16384x1024.size a)
theorem k0_off386_inb : ∀ (v1990 : BitVec 32) (k0_hw386 : k0_chk386 v1990), ∀ a, (k0_off386 v1990) a + S1x1024.size a ≤ S16384x1024.size a := fun v1990 k0_hw386 => k0_hw386

def k0_off387 (v1995 : BitVec 32) : Fin 2 → Nat :=
  let c0_i32_1217 : BitVec 32 := 0#32
  ![v1995.toNat, 0]

def k0_chk387 (v1995 : BitVec 32) : Prop :=
  (∀ a, (k0_off387 v1995) a + S1x1024.size a ≤ S16384x1024.size a)
theorem k0_off387_inb : ∀ (v1995 : BitVec 32) (k0_hw387 : k0_chk387 v1995), ∀ a, (k0_off387 v1995) a + S1x1024.size a ≤ S16384x1024.size a := fun v1995 k0_hw387 => k0_hw387

def k0_off388 (v2000 : BitVec 32) : Fin 2 → Nat :=
  let c0_i32_1220 : BitVec 32 := 0#32
  ![v2000.toNat, 0]

def k0_chk388 (v2000 : BitVec 32) : Prop :=
  (∀ a, (k0_off388 v2000) a + S1x1024.size a ≤ S16384x1024.size a)
theorem k0_off388_inb : ∀ (v2000 : BitVec 32) (k0_hw388 : k0_chk388 v2000), ∀ a, (k0_off388 v2000) a + S1x1024.size a ≤ S16384x1024.size a := fun v2000 k0_hw388 => k0_hw388

def k0_off389 (v2005 : BitVec 32) : Fin 2 → Nat :=
  let c0_i32_1223 : BitVec 32 := 0#32
  ![v2005.toNat, 0]

def k0_chk389 (v2005 : BitVec 32) : Prop :=
  (∀ a, (k0_off389 v2005) a + S1x1024.size a ≤ S16384x1024.size a)
theorem k0_off389_inb : ∀ (v2005 : BitVec 32) (k0_hw389 : k0_chk389 v2005), ∀ a, (k0_off389 v2005) a + S1x1024.size a ≤ S16384x1024.size a := fun v2005 k0_hw389 => k0_hw389

def k0_off390 (v2010 : BitVec 32) : Fin 2 → Nat :=
  let c0_i32_1226 : BitVec 32 := 0#32
  ![v2010.toNat, 0]

def k0_chk390 (v2010 : BitVec 32) : Prop :=
  (∀ a, (k0_off390 v2010) a + S1x1024.size a ≤ S16384x1024.size a)
theorem k0_off390_inb : ∀ (v2010 : BitVec 32) (k0_hw390 : k0_chk390 v2010), ∀ a, (k0_off390 v2010) a + S1x1024.size a ≤ S16384x1024.size a := fun v2010 k0_hw390 => k0_hw390

def k0_off391 (v2015 : BitVec 32) : Fin 2 → Nat :=
  let c0_i32_1229 : BitVec 32 := 0#32
  ![v2015.toNat, 0]

def k0_chk391 (v2015 : BitVec 32) : Prop :=
  (∀ a, (k0_off391 v2015) a + S1x1024.size a ≤ S16384x1024.size a)
theorem k0_off391_inb : ∀ (v2015 : BitVec 32) (k0_hw391 : k0_chk391 v2015), ∀ a, (k0_off391 v2015) a + S1x1024.size a ≤ S16384x1024.size a := fun v2015 k0_hw391 => k0_hw391

def k0_off392 (v2020 : BitVec 32) : Fin 2 → Nat :=
  let c0_i32_1232 : BitVec 32 := 0#32
  ![v2020.toNat, 0]

def k0_chk392 (v2020 : BitVec 32) : Prop :=
  (∀ a, (k0_off392 v2020) a + S1x1024.size a ≤ S16384x1024.size a)
theorem k0_off392_inb : ∀ (v2020 : BitVec 32) (k0_hw392 : k0_chk392 v2020), ∀ a, (k0_off392 v2020) a + S1x1024.size a ≤ S16384x1024.size a := fun v2020 k0_hw392 => k0_hw392

def k0_off393 (v2025 : BitVec 32) : Fin 2 → Nat :=
  let c0_i32_1235 : BitVec 32 := 0#32
  ![v2025.toNat, 0]

def k0_chk393 (v2025 : BitVec 32) : Prop :=
  (∀ a, (k0_off393 v2025) a + S1x1024.size a ≤ S16384x1024.size a)
theorem k0_off393_inb : ∀ (v2025 : BitVec 32) (k0_hw393 : k0_chk393 v2025), ∀ a, (k0_off393 v2025) a + S1x1024.size a ≤ S16384x1024.size a := fun v2025 k0_hw393 => k0_hw393

def k0_off394 (v2030 : BitVec 32) : Fin 2 → Nat :=
  let c0_i32_1238 : BitVec 32 := 0#32
  ![v2030.toNat, 0]

def k0_chk394 (v2030 : BitVec 32) : Prop :=
  (∀ a, (k0_off394 v2030) a + S1x1024.size a ≤ S16384x1024.size a)
theorem k0_off394_inb : ∀ (v2030 : BitVec 32) (k0_hw394 : k0_chk394 v2030), ∀ a, (k0_off394 v2030) a + S1x1024.size a ≤ S16384x1024.size a := fun v2030 k0_hw394 => k0_hw394

def k0_off395 (v2035 : BitVec 32) : Fin 2 → Nat :=
  let c0_i32_1241 : BitVec 32 := 0#32
  ![v2035.toNat, 0]

def k0_chk395 (v2035 : BitVec 32) : Prop :=
  (∀ a, (k0_off395 v2035) a + S1x1024.size a ≤ S16384x1024.size a)
theorem k0_off395_inb : ∀ (v2035 : BitVec 32) (k0_hw395 : k0_chk395 v2035), ∀ a, (k0_off395 v2035) a + S1x1024.size a ≤ S16384x1024.size a := fun v2035 k0_hw395 => k0_hw395

def k0_off396 (v2040 : BitVec 32) : Fin 2 → Nat :=
  let c0_i32_1244 : BitVec 32 := 0#32
  ![v2040.toNat, 0]

def k0_chk396 (v2040 : BitVec 32) : Prop :=
  (∀ a, (k0_off396 v2040) a + S1x1024.size a ≤ S16384x1024.size a)
theorem k0_off396_inb : ∀ (v2040 : BitVec 32) (k0_hw396 : k0_chk396 v2040), ∀ a, (k0_off396 v2040) a + S1x1024.size a ≤ S16384x1024.size a := fun v2040 k0_hw396 => k0_hw396

def k0_off397 (v2045 : BitVec 32) : Fin 2 → Nat :=
  let c0_i32_1247 : BitVec 32 := 0#32
  ![v2045.toNat, 0]

def k0_chk397 (v2045 : BitVec 32) : Prop :=
  (∀ a, (k0_off397 v2045) a + S1x1024.size a ≤ S16384x1024.size a)
theorem k0_off397_inb : ∀ (v2045 : BitVec 32) (k0_hw397 : k0_chk397 v2045), ∀ a, (k0_off397 v2045) a + S1x1024.size a ≤ S16384x1024.size a := fun v2045 k0_hw397 => k0_hw397

def k0_off398 (v2050 : BitVec 32) : Fin 2 → Nat :=
  let c0_i32_1250 : BitVec 32 := 0#32
  ![v2050.toNat, 0]

def k0_chk398 (v2050 : BitVec 32) : Prop :=
  (∀ a, (k0_off398 v2050) a + S1x1024.size a ≤ S16384x1024.size a)
theorem k0_off398_inb : ∀ (v2050 : BitVec 32) (k0_hw398 : k0_chk398 v2050), ∀ a, (k0_off398 v2050) a + S1x1024.size a ≤ S16384x1024.size a := fun v2050 k0_hw398 => k0_hw398

def k0_off399 (v2055 : BitVec 32) : Fin 2 → Nat :=
  let c0_i32_1253 : BitVec 32 := 0#32
  ![v2055.toNat, 0]

def k0_chk399 (v2055 : BitVec 32) : Prop :=
  (∀ a, (k0_off399 v2055) a + S1x1024.size a ≤ S16384x1024.size a)
theorem k0_off399_inb : ∀ (v2055 : BitVec 32) (k0_hw399 : k0_chk399 v2055), ∀ a, (k0_off399 v2055) a + S1x1024.size a ≤ S16384x1024.size a := fun v2055 k0_hw399 => k0_hw399

def k0_off400 (v2060 : BitVec 32) : Fin 2 → Nat :=
  let c0_i32_1256 : BitVec 32 := 0#32
  ![v2060.toNat, 0]

def k0_chk400 (v2060 : BitVec 32) : Prop :=
  (∀ a, (k0_off400 v2060) a + S1x1024.size a ≤ S16384x1024.size a)
theorem k0_off400_inb : ∀ (v2060 : BitVec 32) (k0_hw400 : k0_chk400 v2060), ∀ a, (k0_off400 v2060) a + S1x1024.size a ≤ S16384x1024.size a := fun v2060 k0_hw400 => k0_hw400

def k0_off401 (v2065 : BitVec 32) : Fin 2 → Nat :=
  let c0_i32_1259 : BitVec 32 := 0#32
  ![v2065.toNat, 0]

def k0_chk401 (v2065 : BitVec 32) : Prop :=
  (∀ a, (k0_off401 v2065) a + S1x1024.size a ≤ S16384x1024.size a)
theorem k0_off401_inb : ∀ (v2065 : BitVec 32) (k0_hw401 : k0_chk401 v2065), ∀ a, (k0_off401 v2065) a + S1x1024.size a ≤ S16384x1024.size a := fun v2065 k0_hw401 => k0_hw401

def k0_off402 (v2070 : BitVec 32) : Fin 2 → Nat :=
  let c0_i32_1262 : BitVec 32 := 0#32
  ![v2070.toNat, 0]

def k0_chk402 (v2070 : BitVec 32) : Prop :=
  (∀ a, (k0_off402 v2070) a + S1x1024.size a ≤ S16384x1024.size a)
theorem k0_off402_inb : ∀ (v2070 : BitVec 32) (k0_hw402 : k0_chk402 v2070), ∀ a, (k0_off402 v2070) a + S1x1024.size a ≤ S16384x1024.size a := fun v2070 k0_hw402 => k0_hw402

def k0_off403 (v2075 : BitVec 32) : Fin 2 → Nat :=
  let c0_i32_1265 : BitVec 32 := 0#32
  ![v2075.toNat, 0]

def k0_chk403 (v2075 : BitVec 32) : Prop :=
  (∀ a, (k0_off403 v2075) a + S1x1024.size a ≤ S16384x1024.size a)
theorem k0_off403_inb : ∀ (v2075 : BitVec 32) (k0_hw403 : k0_chk403 v2075), ∀ a, (k0_off403 v2075) a + S1x1024.size a ≤ S16384x1024.size a := fun v2075 k0_hw403 => k0_hw403

def k0_off404 (v2080 : BitVec 32) : Fin 2 → Nat :=
  let c0_i32_1268 : BitVec 32 := 0#32
  ![v2080.toNat, 0]

def k0_chk404 (v2080 : BitVec 32) : Prop :=
  (∀ a, (k0_off404 v2080) a + S1x1024.size a ≤ S16384x1024.size a)
theorem k0_off404_inb : ∀ (v2080 : BitVec 32) (k0_hw404 : k0_chk404 v2080), ∀ a, (k0_off404 v2080) a + S1x1024.size a ≤ S16384x1024.size a := fun v2080 k0_hw404 => k0_hw404

def k0_off405 (v2085 : BitVec 32) : Fin 2 → Nat :=
  let c0_i32_1271 : BitVec 32 := 0#32
  ![v2085.toNat, 0]

def k0_chk405 (v2085 : BitVec 32) : Prop :=
  (∀ a, (k0_off405 v2085) a + S1x1024.size a ≤ S16384x1024.size a)
theorem k0_off405_inb : ∀ (v2085 : BitVec 32) (k0_hw405 : k0_chk405 v2085), ∀ a, (k0_off405 v2085) a + S1x1024.size a ≤ S16384x1024.size a := fun v2085 k0_hw405 => k0_hw405

def k0_off406 (v2090 : BitVec 32) : Fin 2 → Nat :=
  let c0_i32_1274 : BitVec 32 := 0#32
  ![v2090.toNat, 0]

def k0_chk406 (v2090 : BitVec 32) : Prop :=
  (∀ a, (k0_off406 v2090) a + S1x1024.size a ≤ S16384x1024.size a)
theorem k0_off406_inb : ∀ (v2090 : BitVec 32) (k0_hw406 : k0_chk406 v2090), ∀ a, (k0_off406 v2090) a + S1x1024.size a ≤ S16384x1024.size a := fun v2090 k0_hw406 => k0_hw406

def k0_off407 (v2095 : BitVec 32) : Fin 2 → Nat :=
  let c0_i32_1277 : BitVec 32 := 0#32
  ![v2095.toNat, 0]

def k0_chk407 (v2095 : BitVec 32) : Prop :=
  (∀ a, (k0_off407 v2095) a + S1x1024.size a ≤ S16384x1024.size a)
theorem k0_off407_inb : ∀ (v2095 : BitVec 32) (k0_hw407 : k0_chk407 v2095), ∀ a, (k0_off407 v2095) a + S1x1024.size a ≤ S16384x1024.size a := fun v2095 k0_hw407 => k0_hw407

def k0_off408 (v2100 : BitVec 32) : Fin 2 → Nat :=
  let c0_i32_1280 : BitVec 32 := 0#32
  ![v2100.toNat, 0]

def k0_chk408 (v2100 : BitVec 32) : Prop :=
  (∀ a, (k0_off408 v2100) a + S1x1024.size a ≤ S16384x1024.size a)
theorem k0_off408_inb : ∀ (v2100 : BitVec 32) (k0_hw408 : k0_chk408 v2100), ∀ a, (k0_off408 v2100) a + S1x1024.size a ≤ S16384x1024.size a := fun v2100 k0_hw408 => k0_hw408

def k0_off409 (v2105 : BitVec 32) : Fin 2 → Nat :=
  let c0_i32_1283 : BitVec 32 := 0#32
  ![v2105.toNat, 0]

def k0_chk409 (v2105 : BitVec 32) : Prop :=
  (∀ a, (k0_off409 v2105) a + S1x1024.size a ≤ S16384x1024.size a)
theorem k0_off409_inb : ∀ (v2105 : BitVec 32) (k0_hw409 : k0_chk409 v2105), ∀ a, (k0_off409 v2105) a + S1x1024.size a ≤ S16384x1024.size a := fun v2105 k0_hw409 => k0_hw409

def k0_off410 (v2110 : BitVec 32) : Fin 2 → Nat :=
  let c0_i32_1286 : BitVec 32 := 0#32
  ![v2110.toNat, 0]

def k0_chk410 (v2110 : BitVec 32) : Prop :=
  (∀ a, (k0_off410 v2110) a + S1x1024.size a ≤ S16384x1024.size a)
theorem k0_off410_inb : ∀ (v2110 : BitVec 32) (k0_hw410 : k0_chk410 v2110), ∀ a, (k0_off410 v2110) a + S1x1024.size a ≤ S16384x1024.size a := fun v2110 k0_hw410 => k0_hw410

def k0_off411 (v2115 : BitVec 32) : Fin 2 → Nat :=
  let c0_i32_1289 : BitVec 32 := 0#32
  ![v2115.toNat, 0]

def k0_chk411 (v2115 : BitVec 32) : Prop :=
  (∀ a, (k0_off411 v2115) a + S1x1024.size a ≤ S16384x1024.size a)
theorem k0_off411_inb : ∀ (v2115 : BitVec 32) (k0_hw411 : k0_chk411 v2115), ∀ a, (k0_off411 v2115) a + S1x1024.size a ≤ S16384x1024.size a := fun v2115 k0_hw411 => k0_hw411

def k0_off412 (v2120 : BitVec 32) : Fin 2 → Nat :=
  let c0_i32_1292 : BitVec 32 := 0#32
  ![v2120.toNat, 0]

def k0_chk412 (v2120 : BitVec 32) : Prop :=
  (∀ a, (k0_off412 v2120) a + S1x1024.size a ≤ S16384x1024.size a)
theorem k0_off412_inb : ∀ (v2120 : BitVec 32) (k0_hw412 : k0_chk412 v2120), ∀ a, (k0_off412 v2120) a + S1x1024.size a ≤ S16384x1024.size a := fun v2120 k0_hw412 => k0_hw412

def k0_off413 (v2125 : BitVec 32) : Fin 2 → Nat :=
  let c0_i32_1295 : BitVec 32 := 0#32
  ![v2125.toNat, 0]

def k0_chk413 (v2125 : BitVec 32) : Prop :=
  (∀ a, (k0_off413 v2125) a + S1x1024.size a ≤ S16384x1024.size a)
theorem k0_off413_inb : ∀ (v2125 : BitVec 32) (k0_hw413 : k0_chk413 v2125), ∀ a, (k0_off413 v2125) a + S1x1024.size a ≤ S16384x1024.size a := fun v2125 k0_hw413 => k0_hw413

def k0_off414 (v2130 : BitVec 32) : Fin 2 → Nat :=
  let c0_i32_1298 : BitVec 32 := 0#32
  ![v2130.toNat, 0]

def k0_chk414 (v2130 : BitVec 32) : Prop :=
  (∀ a, (k0_off414 v2130) a + S1x1024.size a ≤ S16384x1024.size a)
theorem k0_off414_inb : ∀ (v2130 : BitVec 32) (k0_hw414 : k0_chk414 v2130), ∀ a, (k0_off414 v2130) a + S1x1024.size a ≤ S16384x1024.size a := fun v2130 k0_hw414 => k0_hw414

def k0_off415 (v2135 : BitVec 32) : Fin 2 → Nat :=
  let c0_i32_1301 : BitVec 32 := 0#32
  ![v2135.toNat, 0]

def k0_chk415 (v2135 : BitVec 32) : Prop :=
  (∀ a, (k0_off415 v2135) a + S1x1024.size a ≤ S16384x1024.size a)
theorem k0_off415_inb : ∀ (v2135 : BitVec 32) (k0_hw415 : k0_chk415 v2135), ∀ a, (k0_off415 v2135) a + S1x1024.size a ≤ S16384x1024.size a := fun v2135 k0_hw415 => k0_hw415

def k0_off416 (v2140 : BitVec 32) : Fin 2 → Nat :=
  let c0_i32_1304 : BitVec 32 := 0#32
  ![v2140.toNat, 0]

def k0_chk416 (v2140 : BitVec 32) : Prop :=
  (∀ a, (k0_off416 v2140) a + S1x1024.size a ≤ S16384x1024.size a)
theorem k0_off416_inb : ∀ (v2140 : BitVec 32) (k0_hw416 : k0_chk416 v2140), ∀ a, (k0_off416 v2140) a + S1x1024.size a ≤ S16384x1024.size a := fun v2140 k0_hw416 => k0_hw416

def k0_off417 (v2145 : BitVec 32) : Fin 2 → Nat :=
  let c0_i32_1307 : BitVec 32 := 0#32
  ![v2145.toNat, 0]

def k0_chk417 (v2145 : BitVec 32) : Prop :=
  (∀ a, (k0_off417 v2145) a + S1x1024.size a ≤ S16384x1024.size a)
theorem k0_off417_inb : ∀ (v2145 : BitVec 32) (k0_hw417 : k0_chk417 v2145), ∀ a, (k0_off417 v2145) a + S1x1024.size a ≤ S16384x1024.size a := fun v2145 k0_hw417 => k0_hw417

def k0_off418 (v2150 : BitVec 32) : Fin 2 → Nat :=
  let c0_i32_1310 : BitVec 32 := 0#32
  ![v2150.toNat, 0]

def k0_chk418 (v2150 : BitVec 32) : Prop :=
  (∀ a, (k0_off418 v2150) a + S1x1024.size a ≤ S16384x1024.size a)
theorem k0_off418_inb : ∀ (v2150 : BitVec 32) (k0_hw418 : k0_chk418 v2150), ∀ a, (k0_off418 v2150) a + S1x1024.size a ≤ S16384x1024.size a := fun v2150 k0_hw418 => k0_hw418

def k0_off419 (v2155 : BitVec 32) : Fin 2 → Nat :=
  let c0_i32_1313 : BitVec 32 := 0#32
  ![v2155.toNat, 0]

def k0_chk419 (v2155 : BitVec 32) : Prop :=
  (∀ a, (k0_off419 v2155) a + S1x1024.size a ≤ S16384x1024.size a)
theorem k0_off419_inb : ∀ (v2155 : BitVec 32) (k0_hw419 : k0_chk419 v2155), ∀ a, (k0_off419 v2155) a + S1x1024.size a ≤ S16384x1024.size a := fun v2155 k0_hw419 => k0_hw419

def k0_off420 (v2160 : BitVec 32) : Fin 2 → Nat :=
  let c0_i32_1316 : BitVec 32 := 0#32
  ![v2160.toNat, 0]

def k0_chk420 (v2160 : BitVec 32) : Prop :=
  (∀ a, (k0_off420 v2160) a + S1x1024.size a ≤ S16384x1024.size a)
theorem k0_off420_inb : ∀ (v2160 : BitVec 32) (k0_hw420 : k0_chk420 v2160), ∀ a, (k0_off420 v2160) a + S1x1024.size a ≤ S16384x1024.size a := fun v2160 k0_hw420 => k0_hw420

def k0_off421 (v2165 : BitVec 32) : Fin 2 → Nat :=
  let c0_i32_1319 : BitVec 32 := 0#32
  ![v2165.toNat, 0]

def k0_chk421 (v2165 : BitVec 32) : Prop :=
  (∀ a, (k0_off421 v2165) a + S1x1024.size a ≤ S16384x1024.size a)
theorem k0_off421_inb : ∀ (v2165 : BitVec 32) (k0_hw421 : k0_chk421 v2165), ∀ a, (k0_off421 v2165) a + S1x1024.size a ≤ S16384x1024.size a := fun v2165 k0_hw421 => k0_hw421

def k0_off422 (v2170 : BitVec 32) : Fin 2 → Nat :=
  let c0_i32_1322 : BitVec 32 := 0#32
  ![v2170.toNat, 0]

def k0_chk422 (v2170 : BitVec 32) : Prop :=
  (∀ a, (k0_off422 v2170) a + S1x1024.size a ≤ S16384x1024.size a)
theorem k0_off422_inb : ∀ (v2170 : BitVec 32) (k0_hw422 : k0_chk422 v2170), ∀ a, (k0_off422 v2170) a + S1x1024.size a ≤ S16384x1024.size a := fun v2170 k0_hw422 => k0_hw422

def k0_off423 (v2175 : BitVec 32) : Fin 2 → Nat :=
  let c0_i32_1325 : BitVec 32 := 0#32
  ![v2175.toNat, 0]

def k0_chk423 (v2175 : BitVec 32) : Prop :=
  (∀ a, (k0_off423 v2175) a + S1x1024.size a ≤ S16384x1024.size a)
theorem k0_off423_inb : ∀ (v2175 : BitVec 32) (k0_hw423 : k0_chk423 v2175), ∀ a, (k0_off423 v2175) a + S1x1024.size a ≤ S16384x1024.size a := fun v2175 k0_hw423 => k0_hw423

def k0_off424 (v2180 : BitVec 32) : Fin 2 → Nat :=
  let c0_i32_1328 : BitVec 32 := 0#32
  ![v2180.toNat, 0]

def k0_chk424 (v2180 : BitVec 32) : Prop :=
  (∀ a, (k0_off424 v2180) a + S1x1024.size a ≤ S16384x1024.size a)
theorem k0_off424_inb : ∀ (v2180 : BitVec 32) (k0_hw424 : k0_chk424 v2180), ∀ a, (k0_off424 v2180) a + S1x1024.size a ≤ S16384x1024.size a := fun v2180 k0_hw424 => k0_hw424

def k0_off425 (v2185 : BitVec 32) : Fin 2 → Nat :=
  let c0_i32_1331 : BitVec 32 := 0#32
  ![v2185.toNat, 0]

def k0_chk425 (v2185 : BitVec 32) : Prop :=
  (∀ a, (k0_off425 v2185) a + S1x1024.size a ≤ S16384x1024.size a)
theorem k0_off425_inb : ∀ (v2185 : BitVec 32) (k0_hw425 : k0_chk425 v2185), ∀ a, (k0_off425 v2185) a + S1x1024.size a ≤ S16384x1024.size a := fun v2185 k0_hw425 => k0_hw425

def k0_off426 (v2190 : BitVec 32) : Fin 2 → Nat :=
  let c0_i32_1334 : BitVec 32 := 0#32
  ![v2190.toNat, 0]

def k0_chk426 (v2190 : BitVec 32) : Prop :=
  (∀ a, (k0_off426 v2190) a + S1x1024.size a ≤ S16384x1024.size a)
theorem k0_off426_inb : ∀ (v2190 : BitVec 32) (k0_hw426 : k0_chk426 v2190), ∀ a, (k0_off426 v2190) a + S1x1024.size a ≤ S16384x1024.size a := fun v2190 k0_hw426 => k0_hw426

def k0_off427 (v2195 : BitVec 32) : Fin 2 → Nat :=
  let c0_i32_1337 : BitVec 32 := 0#32
  ![v2195.toNat, 0]

def k0_chk427 (v2195 : BitVec 32) : Prop :=
  (∀ a, (k0_off427 v2195) a + S1x1024.size a ≤ S16384x1024.size a)
theorem k0_off427_inb : ∀ (v2195 : BitVec 32) (k0_hw427 : k0_chk427 v2195), ∀ a, (k0_off427 v2195) a + S1x1024.size a ≤ S16384x1024.size a := fun v2195 k0_hw427 => k0_hw427

def k0_off428 (v2200 : BitVec 32) : Fin 2 → Nat :=
  let c0_i32_1340 : BitVec 32 := 0#32
  ![v2200.toNat, 0]

def k0_chk428 (v2200 : BitVec 32) : Prop :=
  (∀ a, (k0_off428 v2200) a + S1x1024.size a ≤ S16384x1024.size a)
theorem k0_off428_inb : ∀ (v2200 : BitVec 32) (k0_hw428 : k0_chk428 v2200), ∀ a, (k0_off428 v2200) a + S1x1024.size a ≤ S16384x1024.size a := fun v2200 k0_hw428 => k0_hw428

def k0_off429 (v2205 : BitVec 32) : Fin 2 → Nat :=
  let c0_i32_1343 : BitVec 32 := 0#32
  ![v2205.toNat, 0]

def k0_chk429 (v2205 : BitVec 32) : Prop :=
  (∀ a, (k0_off429 v2205) a + S1x1024.size a ≤ S16384x1024.size a)
theorem k0_off429_inb : ∀ (v2205 : BitVec 32) (k0_hw429 : k0_chk429 v2205), ∀ a, (k0_off429 v2205) a + S1x1024.size a ≤ S16384x1024.size a := fun v2205 k0_hw429 => k0_hw429

def k0_off430 (v2210 : BitVec 32) : Fin 2 → Nat :=
  let c0_i32_1346 : BitVec 32 := 0#32
  ![v2210.toNat, 0]

def k0_chk430 (v2210 : BitVec 32) : Prop :=
  (∀ a, (k0_off430 v2210) a + S1x1024.size a ≤ S16384x1024.size a)
theorem k0_off430_inb : ∀ (v2210 : BitVec 32) (k0_hw430 : k0_chk430 v2210), ∀ a, (k0_off430 v2210) a + S1x1024.size a ≤ S16384x1024.size a := fun v2210 k0_hw430 => k0_hw430

def k0_off431 (v2215 : BitVec 32) : Fin 2 → Nat :=
  let c0_i32_1349 : BitVec 32 := 0#32
  ![v2215.toNat, 0]

def k0_chk431 (v2215 : BitVec 32) : Prop :=
  (∀ a, (k0_off431 v2215) a + S1x1024.size a ≤ S16384x1024.size a)
theorem k0_off431_inb : ∀ (v2215 : BitVec 32) (k0_hw431 : k0_chk431 v2215), ∀ a, (k0_off431 v2215) a + S1x1024.size a ≤ S16384x1024.size a := fun v2215 k0_hw431 => k0_hw431

def k0_off432 (v2220 : BitVec 32) : Fin 2 → Nat :=
  let c0_i32_1352 : BitVec 32 := 0#32
  ![v2220.toNat, 0]

def k0_chk432 (v2220 : BitVec 32) : Prop :=
  (∀ a, (k0_off432 v2220) a + S1x1024.size a ≤ S16384x1024.size a)
theorem k0_off432_inb : ∀ (v2220 : BitVec 32) (k0_hw432 : k0_chk432 v2220), ∀ a, (k0_off432 v2220) a + S1x1024.size a ≤ S16384x1024.size a := fun v2220 k0_hw432 => k0_hw432

def k0_off433 (v2225 : BitVec 32) : Fin 2 → Nat :=
  let c0_i32_1355 : BitVec 32 := 0#32
  ![v2225.toNat, 0]

def k0_chk433 (v2225 : BitVec 32) : Prop :=
  (∀ a, (k0_off433 v2225) a + S1x1024.size a ≤ S16384x1024.size a)
theorem k0_off433_inb : ∀ (v2225 : BitVec 32) (k0_hw433 : k0_chk433 v2225), ∀ a, (k0_off433 v2225) a + S1x1024.size a ≤ S16384x1024.size a := fun v2225 k0_hw433 => k0_hw433

def k0_off434 (v2230 : BitVec 32) : Fin 2 → Nat :=
  let c0_i32_1358 : BitVec 32 := 0#32
  ![v2230.toNat, 0]

def k0_chk434 (v2230 : BitVec 32) : Prop :=
  (∀ a, (k0_off434 v2230) a + S1x1024.size a ≤ S16384x1024.size a)
theorem k0_off434_inb : ∀ (v2230 : BitVec 32) (k0_hw434 : k0_chk434 v2230), ∀ a, (k0_off434 v2230) a + S1x1024.size a ≤ S16384x1024.size a := fun v2230 k0_hw434 => k0_hw434

def k0_off435 (v2235 : BitVec 32) : Fin 2 → Nat :=
  let c0_i32_1361 : BitVec 32 := 0#32
  ![v2235.toNat, 0]

def k0_chk435 (v2235 : BitVec 32) : Prop :=
  (∀ a, (k0_off435 v2235) a + S1x1024.size a ≤ S16384x1024.size a)
theorem k0_off435_inb : ∀ (v2235 : BitVec 32) (k0_hw435 : k0_chk435 v2235), ∀ a, (k0_off435 v2235) a + S1x1024.size a ≤ S16384x1024.size a := fun v2235 k0_hw435 => k0_hw435

def k0_off436 (v2240 : BitVec 32) : Fin 2 → Nat :=
  let c0_i32_1364 : BitVec 32 := 0#32
  ![v2240.toNat, 0]

def k0_chk436 (v2240 : BitVec 32) : Prop :=
  (∀ a, (k0_off436 v2240) a + S1x1024.size a ≤ S16384x1024.size a)
theorem k0_off436_inb : ∀ (v2240 : BitVec 32) (k0_hw436 : k0_chk436 v2240), ∀ a, (k0_off436 v2240) a + S1x1024.size a ≤ S16384x1024.size a := fun v2240 k0_hw436 => k0_hw436

def k0_off437 (v2245 : BitVec 32) : Fin 2 → Nat :=
  let c0_i32_1367 : BitVec 32 := 0#32
  ![v2245.toNat, 0]

def k0_chk437 (v2245 : BitVec 32) : Prop :=
  (∀ a, (k0_off437 v2245) a + S1x1024.size a ≤ S16384x1024.size a)
theorem k0_off437_inb : ∀ (v2245 : BitVec 32) (k0_hw437 : k0_chk437 v2245), ∀ a, (k0_off437 v2245) a + S1x1024.size a ≤ S16384x1024.size a := fun v2245 k0_hw437 => k0_hw437

def k0_off438 (v2250 : BitVec 32) : Fin 2 → Nat :=
  let c0_i32_1370 : BitVec 32 := 0#32
  ![v2250.toNat, 0]

def k0_chk438 (v2250 : BitVec 32) : Prop :=
  (∀ a, (k0_off438 v2250) a + S1x1024.size a ≤ S16384x1024.size a)
theorem k0_off438_inb : ∀ (v2250 : BitVec 32) (k0_hw438 : k0_chk438 v2250), ∀ a, (k0_off438 v2250) a + S1x1024.size a ≤ S16384x1024.size a := fun v2250 k0_hw438 => k0_hw438

def k0_off439 (v2255 : BitVec 32) : Fin 2 → Nat :=
  let c0_i32_1373 : BitVec 32 := 0#32
  ![v2255.toNat, 0]

def k0_chk439 (v2255 : BitVec 32) : Prop :=
  (∀ a, (k0_off439 v2255) a + S1x1024.size a ≤ S16384x1024.size a)
theorem k0_off439_inb : ∀ (v2255 : BitVec 32) (k0_hw439 : k0_chk439 v2255), ∀ a, (k0_off439 v2255) a + S1x1024.size a ≤ S16384x1024.size a := fun v2255 k0_hw439 => k0_hw439

def k0_off440 (v2260 : BitVec 32) : Fin 2 → Nat :=
  let c0_i32_1376 : BitVec 32 := 0#32
  ![v2260.toNat, 0]

def k0_chk440 (v2260 : BitVec 32) : Prop :=
  (∀ a, (k0_off440 v2260) a + S1x1024.size a ≤ S16384x1024.size a)
theorem k0_off440_inb : ∀ (v2260 : BitVec 32) (k0_hw440 : k0_chk440 v2260), ∀ a, (k0_off440 v2260) a + S1x1024.size a ≤ S16384x1024.size a := fun v2260 k0_hw440 => k0_hw440

def k0_off441 (v2265 : BitVec 32) : Fin 2 → Nat :=
  let c0_i32_1379 : BitVec 32 := 0#32
  ![v2265.toNat, 0]

def k0_chk441 (v2265 : BitVec 32) : Prop :=
  (∀ a, (k0_off441 v2265) a + S1x1024.size a ≤ S16384x1024.size a)
theorem k0_off441_inb : ∀ (v2265 : BitVec 32) (k0_hw441 : k0_chk441 v2265), ∀ a, (k0_off441 v2265) a + S1x1024.size a ≤ S16384x1024.size a := fun v2265 k0_hw441 => k0_hw441

def k0_off442 (v2270 : BitVec 32) : Fin 2 → Nat :=
  let c0_i32_1382 : BitVec 32 := 0#32
  ![v2270.toNat, 0]

def k0_chk442 (v2270 : BitVec 32) : Prop :=
  (∀ a, (k0_off442 v2270) a + S1x1024.size a ≤ S16384x1024.size a)
theorem k0_off442_inb : ∀ (v2270 : BitVec 32) (k0_hw442 : k0_chk442 v2270), ∀ a, (k0_off442 v2270) a + S1x1024.size a ≤ S16384x1024.size a := fun v2270 k0_hw442 => k0_hw442

def k0_off443 (v2275 : BitVec 32) : Fin 2 → Nat :=
  let c0_i32_1385 : BitVec 32 := 0#32
  ![v2275.toNat, 0]

def k0_chk443 (v2275 : BitVec 32) : Prop :=
  (∀ a, (k0_off443 v2275) a + S1x1024.size a ≤ S16384x1024.size a)
theorem k0_off443_inb : ∀ (v2275 : BitVec 32) (k0_hw443 : k0_chk443 v2275), ∀ a, (k0_off443 v2275) a + S1x1024.size a ≤ S16384x1024.size a := fun v2275 k0_hw443 => k0_hw443

def k0_off444 (v2280 : BitVec 32) : Fin 2 → Nat :=
  let c0_i32_1388 : BitVec 32 := 0#32
  ![v2280.toNat, 0]

def k0_chk444 (v2280 : BitVec 32) : Prop :=
  (∀ a, (k0_off444 v2280) a + S1x1024.size a ≤ S16384x1024.size a)
theorem k0_off444_inb : ∀ (v2280 : BitVec 32) (k0_hw444 : k0_chk444 v2280), ∀ a, (k0_off444 v2280) a + S1x1024.size a ≤ S16384x1024.size a := fun v2280 k0_hw444 => k0_hw444

def k0_off445 (v2285 : BitVec 32) : Fin 2 → Nat :=
  let c0_i32_1391 : BitVec 32 := 0#32
  ![v2285.toNat, 0]

def k0_chk445 (v2285 : BitVec 32) : Prop :=
  (∀ a, (k0_off445 v2285) a + S1x1024.size a ≤ S16384x1024.size a)
theorem k0_off445_inb : ∀ (v2285 : BitVec 32) (k0_hw445 : k0_chk445 v2285), ∀ a, (k0_off445 v2285) a + S1x1024.size a ≤ S16384x1024.size a := fun v2285 k0_hw445 => k0_hw445

def k0_off446 (v2290 : BitVec 32) : Fin 2 → Nat :=
  let c0_i32_1394 : BitVec 32 := 0#32
  ![v2290.toNat, 0]

def k0_chk446 (v2290 : BitVec 32) : Prop :=
  (∀ a, (k0_off446 v2290) a + S1x1024.size a ≤ S16384x1024.size a)
theorem k0_off446_inb : ∀ (v2290 : BitVec 32) (k0_hw446 : k0_chk446 v2290), ∀ a, (k0_off446 v2290) a + S1x1024.size a ≤ S16384x1024.size a := fun v2290 k0_hw446 => k0_hw446

def k0_off447 (v2295 : BitVec 32) : Fin 2 → Nat :=
  let c0_i32_1397 : BitVec 32 := 0#32
  ![v2295.toNat, 0]

def k0_chk447 (v2295 : BitVec 32) : Prop :=
  (∀ a, (k0_off447 v2295) a + S1x1024.size a ≤ S16384x1024.size a)
theorem k0_off447_inb : ∀ (v2295 : BitVec 32) (k0_hw447 : k0_chk447 v2295), ∀ a, (k0_off447 v2295) a + S1x1024.size a ≤ S16384x1024.size a := fun v2295 k0_hw447 => k0_hw447

def k0_off448 (v2300 : BitVec 32) : Fin 2 → Nat :=
  let c0_i32_1400 : BitVec 32 := 0#32
  ![v2300.toNat, 0]

def k0_chk448 (v2300 : BitVec 32) : Prop :=
  (∀ a, (k0_off448 v2300) a + S1x1024.size a ≤ S16384x1024.size a)
theorem k0_off448_inb : ∀ (v2300 : BitVec 32) (k0_hw448 : k0_chk448 v2300), ∀ a, (k0_off448 v2300) a + S1x1024.size a ≤ S16384x1024.size a := fun v2300 k0_hw448 => k0_hw448

def k0_off449 (v2305 : BitVec 32) : Fin 2 → Nat :=
  let c0_i32_1403 : BitVec 32 := 0#32
  ![v2305.toNat, 0]

def k0_chk449 (v2305 : BitVec 32) : Prop :=
  (∀ a, (k0_off449 v2305) a + S1x1024.size a ≤ S16384x1024.size a)
theorem k0_off449_inb : ∀ (v2305 : BitVec 32) (k0_hw449 : k0_chk449 v2305), ∀ a, (k0_off449 v2305) a + S1x1024.size a ≤ S16384x1024.size a := fun v2305 k0_hw449 => k0_hw449

def k0_off450 (v2310 : BitVec 32) : Fin 2 → Nat :=
  let c0_i32_1406 : BitVec 32 := 0#32
  ![v2310.toNat, 0]

def k0_chk450 (v2310 : BitVec 32) : Prop :=
  (∀ a, (k0_off450 v2310) a + S1x1024.size a ≤ S16384x1024.size a)
theorem k0_off450_inb : ∀ (v2310 : BitVec 32) (k0_hw450 : k0_chk450 v2310), ∀ a, (k0_off450 v2310) a + S1x1024.size a ≤ S16384x1024.size a := fun v2310 k0_hw450 => k0_hw450

def k0_off451 (v2315 : BitVec 32) : Fin 2 → Nat :=
  let c0_i32_1409 : BitVec 32 := 0#32
  ![v2315.toNat, 0]

def k0_chk451 (v2315 : BitVec 32) : Prop :=
  (∀ a, (k0_off451 v2315) a + S1x1024.size a ≤ S16384x1024.size a)
theorem k0_off451_inb : ∀ (v2315 : BitVec 32) (k0_hw451 : k0_chk451 v2315), ∀ a, (k0_off451 v2315) a + S1x1024.size a ≤ S16384x1024.size a := fun v2315 k0_hw451 => k0_hw451

def k0_off452 (v2320 : BitVec 32) : Fin 2 → Nat :=
  let c0_i32_1412 : BitVec 32 := 0#32
  ![v2320.toNat, 0]

def k0_chk452 (v2320 : BitVec 32) : Prop :=
  (∀ a, (k0_off452 v2320) a + S1x1024.size a ≤ S16384x1024.size a)
theorem k0_off452_inb : ∀ (v2320 : BitVec 32) (k0_hw452 : k0_chk452 v2320), ∀ a, (k0_off452 v2320) a + S1x1024.size a ≤ S16384x1024.size a := fun v2320 k0_hw452 => k0_hw452

def k0_off453 (v2325 : BitVec 32) : Fin 2 → Nat :=
  let c0_i32_1415 : BitVec 32 := 0#32
  ![v2325.toNat, 0]

def k0_chk453 (v2325 : BitVec 32) : Prop :=
  (∀ a, (k0_off453 v2325) a + S1x1024.size a ≤ S16384x1024.size a)
theorem k0_off453_inb : ∀ (v2325 : BitVec 32) (k0_hw453 : k0_chk453 v2325), ∀ a, (k0_off453 v2325) a + S1x1024.size a ≤ S16384x1024.size a := fun v2325 k0_hw453 => k0_hw453

def k0_off454 (v2330 : BitVec 32) : Fin 2 → Nat :=
  let c0_i32_1418 : BitVec 32 := 0#32
  ![v2330.toNat, 0]

def k0_chk454 (v2330 : BitVec 32) : Prop :=
  (∀ a, (k0_off454 v2330) a + S1x1024.size a ≤ S16384x1024.size a)
theorem k0_off454_inb : ∀ (v2330 : BitVec 32) (k0_hw454 : k0_chk454 v2330), ∀ a, (k0_off454 v2330) a + S1x1024.size a ≤ S16384x1024.size a := fun v2330 k0_hw454 => k0_hw454

def k0_off455 (v2335 : BitVec 32) : Fin 2 → Nat :=
  let c0_i32_1421 : BitVec 32 := 0#32
  ![v2335.toNat, 0]

def k0_chk455 (v2335 : BitVec 32) : Prop :=
  (∀ a, (k0_off455 v2335) a + S1x1024.size a ≤ S16384x1024.size a)
theorem k0_off455_inb : ∀ (v2335 : BitVec 32) (k0_hw455 : k0_chk455 v2335), ∀ a, (k0_off455 v2335) a + S1x1024.size a ≤ S16384x1024.size a := fun v2335 k0_hw455 => k0_hw455

def k0_off456 (v2340 : BitVec 32) : Fin 2 → Nat :=
  let c0_i32_1424 : BitVec 32 := 0#32
  ![v2340.toNat, 0]

def k0_chk456 (v2340 : BitVec 32) : Prop :=
  (∀ a, (k0_off456 v2340) a + S1x1024.size a ≤ S16384x1024.size a)
theorem k0_off456_inb : ∀ (v2340 : BitVec 32) (k0_hw456 : k0_chk456 v2340), ∀ a, (k0_off456 v2340) a + S1x1024.size a ≤ S16384x1024.size a := fun v2340 k0_hw456 => k0_hw456

def k0_off457 (v2345 : BitVec 32) : Fin 2 → Nat :=
  let c0_i32_1427 : BitVec 32 := 0#32
  ![v2345.toNat, 0]

def k0_chk457 (v2345 : BitVec 32) : Prop :=
  (∀ a, (k0_off457 v2345) a + S1x1024.size a ≤ S16384x1024.size a)
theorem k0_off457_inb : ∀ (v2345 : BitVec 32) (k0_hw457 : k0_chk457 v2345), ∀ a, (k0_off457 v2345) a + S1x1024.size a ≤ S16384x1024.size a := fun v2345 k0_hw457 => k0_hw457

def k0_off458 (v2350 : BitVec 32) : Fin 2 → Nat :=
  let c0_i32_1430 : BitVec 32 := 0#32
  ![v2350.toNat, 0]

def k0_chk458 (v2350 : BitVec 32) : Prop :=
  (∀ a, (k0_off458 v2350) a + S1x1024.size a ≤ S16384x1024.size a)
theorem k0_off458_inb : ∀ (v2350 : BitVec 32) (k0_hw458 : k0_chk458 v2350), ∀ a, (k0_off458 v2350) a + S1x1024.size a ≤ S16384x1024.size a := fun v2350 k0_hw458 => k0_hw458

def k0_off459 (v2355 : BitVec 32) : Fin 2 → Nat :=
  let c0_i32_1433 : BitVec 32 := 0#32
  ![v2355.toNat, 0]

def k0_chk459 (v2355 : BitVec 32) : Prop :=
  (∀ a, (k0_off459 v2355) a + S1x1024.size a ≤ S16384x1024.size a)
theorem k0_off459_inb : ∀ (v2355 : BitVec 32) (k0_hw459 : k0_chk459 v2355), ∀ a, (k0_off459 v2355) a + S1x1024.size a ≤ S16384x1024.size a := fun v2355 k0_hw459 => k0_hw459

def k0_off460 (v2360 : BitVec 32) : Fin 2 → Nat :=
  let c0_i32_1436 : BitVec 32 := 0#32
  ![v2360.toNat, 0]

def k0_chk460 (v2360 : BitVec 32) : Prop :=
  (∀ a, (k0_off460 v2360) a + S1x1024.size a ≤ S16384x1024.size a)
theorem k0_off460_inb : ∀ (v2360 : BitVec 32) (k0_hw460 : k0_chk460 v2360), ∀ a, (k0_off460 v2360) a + S1x1024.size a ≤ S16384x1024.size a := fun v2360 k0_hw460 => k0_hw460

def k0_off461 (v2365 : BitVec 32) : Fin 2 → Nat :=
  let c0_i32_1439 : BitVec 32 := 0#32
  ![v2365.toNat, 0]

def k0_chk461 (v2365 : BitVec 32) : Prop :=
  (∀ a, (k0_off461 v2365) a + S1x1024.size a ≤ S16384x1024.size a)
theorem k0_off461_inb : ∀ (v2365 : BitVec 32) (k0_hw461 : k0_chk461 v2365), ∀ a, (k0_off461 v2365) a + S1x1024.size a ≤ S16384x1024.size a := fun v2365 k0_hw461 => k0_hw461

def k0_off462 (v2370 : BitVec 32) : Fin 2 → Nat :=
  let c0_i32_1442 : BitVec 32 := 0#32
  ![v2370.toNat, 0]

def k0_chk462 (v2370 : BitVec 32) : Prop :=
  (∀ a, (k0_off462 v2370) a + S1x1024.size a ≤ S16384x1024.size a)
theorem k0_off462_inb : ∀ (v2370 : BitVec 32) (k0_hw462 : k0_chk462 v2370), ∀ a, (k0_off462 v2370) a + S1x1024.size a ≤ S16384x1024.size a := fun v2370 k0_hw462 => k0_hw462

def k0_off463 (v2375 : BitVec 32) : Fin 2 → Nat :=
  let c0_i32_1445 : BitVec 32 := 0#32
  ![v2375.toNat, 0]

def k0_chk463 (v2375 : BitVec 32) : Prop :=
  (∀ a, (k0_off463 v2375) a + S1x1024.size a ≤ S16384x1024.size a)
theorem k0_off463_inb : ∀ (v2375 : BitVec 32) (k0_hw463 : k0_chk463 v2375), ∀ a, (k0_off463 v2375) a + S1x1024.size a ≤ S16384x1024.size a := fun v2375 k0_hw463 => k0_hw463

def k0_off464 (v2380 : BitVec 32) : Fin 2 → Nat :=
  let c0_i32_1448 : BitVec 32 := 0#32
  ![v2380.toNat, 0]

def k0_chk464 (v2380 : BitVec 32) : Prop :=
  (∀ a, (k0_off464 v2380) a + S1x1024.size a ≤ S16384x1024.size a)
theorem k0_off464_inb : ∀ (v2380 : BitVec 32) (k0_hw464 : k0_chk464 v2380), ∀ a, (k0_off464 v2380) a + S1x1024.size a ≤ S16384x1024.size a := fun v2380 k0_hw464 => k0_hw464

def k0_off465 (v2385 : BitVec 32) : Fin 2 → Nat :=
  let c0_i32_1451 : BitVec 32 := 0#32
  ![v2385.toNat, 0]

def k0_chk465 (v2385 : BitVec 32) : Prop :=
  (∀ a, (k0_off465 v2385) a + S1x1024.size a ≤ S16384x1024.size a)
theorem k0_off465_inb : ∀ (v2385 : BitVec 32) (k0_hw465 : k0_chk465 v2385), ∀ a, (k0_off465 v2385) a + S1x1024.size a ≤ S16384x1024.size a := fun v2385 k0_hw465 => k0_hw465

def k0_off466 (v2390 : BitVec 32) : Fin 2 → Nat :=
  let c0_i32_1454 : BitVec 32 := 0#32
  ![v2390.toNat, 0]

def k0_chk466 (v2390 : BitVec 32) : Prop :=
  (∀ a, (k0_off466 v2390) a + S1x1024.size a ≤ S16384x1024.size a)
theorem k0_off466_inb : ∀ (v2390 : BitVec 32) (k0_hw466 : k0_chk466 v2390), ∀ a, (k0_off466 v2390) a + S1x1024.size a ≤ S16384x1024.size a := fun v2390 k0_hw466 => k0_hw466

def k0_off467 (v2395 : BitVec 32) : Fin 2 → Nat :=
  let c0_i32_1457 : BitVec 32 := 0#32
  ![v2395.toNat, 0]

def k0_chk467 (v2395 : BitVec 32) : Prop :=
  (∀ a, (k0_off467 v2395) a + S1x1024.size a ≤ S16384x1024.size a)
theorem k0_off467_inb : ∀ (v2395 : BitVec 32) (k0_hw467 : k0_chk467 v2395), ∀ a, (k0_off467 v2395) a + S1x1024.size a ≤ S16384x1024.size a := fun v2395 k0_hw467 => k0_hw467

def k0_off468 (v2400 : BitVec 32) : Fin 2 → Nat :=
  let c0_i32_1460 : BitVec 32 := 0#32
  ![v2400.toNat, 0]

def k0_chk468 (v2400 : BitVec 32) : Prop :=
  (∀ a, (k0_off468 v2400) a + S1x1024.size a ≤ S16384x1024.size a)
theorem k0_off468_inb : ∀ (v2400 : BitVec 32) (k0_hw468 : k0_chk468 v2400), ∀ a, (k0_off468 v2400) a + S1x1024.size a ≤ S16384x1024.size a := fun v2400 k0_hw468 => k0_hw468

def k0_off469 (v2405 : BitVec 32) : Fin 2 → Nat :=
  let c0_i32_1463 : BitVec 32 := 0#32
  ![v2405.toNat, 0]

def k0_chk469 (v2405 : BitVec 32) : Prop :=
  (∀ a, (k0_off469 v2405) a + S1x1024.size a ≤ S16384x1024.size a)
theorem k0_off469_inb : ∀ (v2405 : BitVec 32) (k0_hw469 : k0_chk469 v2405), ∀ a, (k0_off469 v2405) a + S1x1024.size a ≤ S16384x1024.size a := fun v2405 k0_hw469 => k0_hw469

def k0_off470 (v2410 : BitVec 32) : Fin 2 → Nat :=
  let c0_i32_1466 : BitVec 32 := 0#32
  ![v2410.toNat, 0]

def k0_chk470 (v2410 : BitVec 32) : Prop :=
  (∀ a, (k0_off470 v2410) a + S1x1024.size a ≤ S16384x1024.size a)
theorem k0_off470_inb : ∀ (v2410 : BitVec 32) (k0_hw470 : k0_chk470 v2410), ∀ a, (k0_off470 v2410) a + S1x1024.size a ≤ S16384x1024.size a := fun v2410 k0_hw470 => k0_hw470

def k0_off471 (v2415 : BitVec 32) : Fin 2 → Nat :=
  let c0_i32_1469 : BitVec 32 := 0#32
  ![v2415.toNat, 0]

def k0_chk471 (v2415 : BitVec 32) : Prop :=
  (∀ a, (k0_off471 v2415) a + S1x1024.size a ≤ S16384x1024.size a)
theorem k0_off471_inb : ∀ (v2415 : BitVec 32) (k0_hw471 : k0_chk471 v2415), ∀ a, (k0_off471 v2415) a + S1x1024.size a ≤ S16384x1024.size a := fun v2415 k0_hw471 => k0_hw471

def k0_off472 (v2420 : BitVec 32) : Fin 2 → Nat :=
  let c0_i32_1472 : BitVec 32 := 0#32
  ![v2420.toNat, 0]

def k0_chk472 (v2420 : BitVec 32) : Prop :=
  (∀ a, (k0_off472 v2420) a + S1x1024.size a ≤ S16384x1024.size a)
theorem k0_off472_inb : ∀ (v2420 : BitVec 32) (k0_hw472 : k0_chk472 v2420), ∀ a, (k0_off472 v2420) a + S1x1024.size a ≤ S16384x1024.size a := fun v2420 k0_hw472 => k0_hw472

def k0_off473 (v2425 : BitVec 32) : Fin 2 → Nat :=
  let c0_i32_1475 : BitVec 32 := 0#32
  ![v2425.toNat, 0]

def k0_chk473 (v2425 : BitVec 32) : Prop :=
  (∀ a, (k0_off473 v2425) a + S1x1024.size a ≤ S16384x1024.size a)
theorem k0_off473_inb : ∀ (v2425 : BitVec 32) (k0_hw473 : k0_chk473 v2425), ∀ a, (k0_off473 v2425) a + S1x1024.size a ≤ S16384x1024.size a := fun v2425 k0_hw473 => k0_hw473

def k0_off474 (v2430 : BitVec 32) : Fin 2 → Nat :=
  let c0_i32_1478 : BitVec 32 := 0#32
  ![v2430.toNat, 0]

def k0_chk474 (v2430 : BitVec 32) : Prop :=
  (∀ a, (k0_off474 v2430) a + S1x1024.size a ≤ S16384x1024.size a)
theorem k0_off474_inb : ∀ (v2430 : BitVec 32) (k0_hw474 : k0_chk474 v2430), ∀ a, (k0_off474 v2430) a + S1x1024.size a ≤ S16384x1024.size a := fun v2430 k0_hw474 => k0_hw474

def k0_off475 (v2435 : BitVec 32) : Fin 2 → Nat :=
  let c0_i32_1481 : BitVec 32 := 0#32
  ![v2435.toNat, 0]

def k0_chk475 (v2435 : BitVec 32) : Prop :=
  (∀ a, (k0_off475 v2435) a + S1x1024.size a ≤ S16384x1024.size a)
theorem k0_off475_inb : ∀ (v2435 : BitVec 32) (k0_hw475 : k0_chk475 v2435), ∀ a, (k0_off475 v2435) a + S1x1024.size a ≤ S16384x1024.size a := fun v2435 k0_hw475 => k0_hw475

def k0_off476 (v2440 : BitVec 32) : Fin 2 → Nat :=
  let c0_i32_1484 : BitVec 32 := 0#32
  ![v2440.toNat, 0]

def k0_chk476 (v2440 : BitVec 32) : Prop :=
  (∀ a, (k0_off476 v2440) a + S1x1024.size a ≤ S16384x1024.size a)
theorem k0_off476_inb : ∀ (v2440 : BitVec 32) (k0_hw476 : k0_chk476 v2440), ∀ a, (k0_off476 v2440) a + S1x1024.size a ≤ S16384x1024.size a := fun v2440 k0_hw476 => k0_hw476

def k0_off477 (v2445 : BitVec 32) : Fin 2 → Nat :=
  let c0_i32_1487 : BitVec 32 := 0#32
  ![v2445.toNat, 0]

def k0_chk477 (v2445 : BitVec 32) : Prop :=
  (∀ a, (k0_off477 v2445) a + S1x1024.size a ≤ S16384x1024.size a)
theorem k0_off477_inb : ∀ (v2445 : BitVec 32) (k0_hw477 : k0_chk477 v2445), ∀ a, (k0_off477 v2445) a + S1x1024.size a ≤ S16384x1024.size a := fun v2445 k0_hw477 => k0_hw477

def k0_off478 (v2450 : BitVec 32) : Fin 2 → Nat :=
  let c0_i32_1490 : BitVec 32 := 0#32
  ![v2450.toNat, 0]

def k0_chk478 (v2450 : BitVec 32) : Prop :=
  (∀ a, (k0_off478 v2450) a + S1x1024.size a ≤ S16384x1024.size a)
theorem k0_off478_inb : ∀ (v2450 : BitVec 32) (k0_hw478 : k0_chk478 v2450), ∀ a, (k0_off478 v2450) a + S1x1024.size a ≤ S16384x1024.size a := fun v2450 k0_hw478 => k0_hw478

def k0_off479 (v2455 : BitVec 32) : Fin 2 → Nat :=
  let c0_i32_1493 : BitVec 32 := 0#32
  ![v2455.toNat, 0]

def k0_chk479 (v2455 : BitVec 32) : Prop :=
  (∀ a, (k0_off479 v2455) a + S1x1024.size a ≤ S16384x1024.size a)
theorem k0_off479_inb : ∀ (v2455 : BitVec 32) (k0_hw479 : k0_chk479 v2455), ∀ a, (k0_off479 v2455) a + S1x1024.size a ≤ S16384x1024.size a := fun v2455 k0_hw479 => k0_hw479

def k0_off480 (v2460 : BitVec 32) : Fin 2 → Nat :=
  let c0_i32_1496 : BitVec 32 := 0#32
  ![v2460.toNat, 0]

def k0_chk480 (v2460 : BitVec 32) : Prop :=
  (∀ a, (k0_off480 v2460) a + S1x1024.size a ≤ S16384x1024.size a)
theorem k0_off480_inb : ∀ (v2460 : BitVec 32) (k0_hw480 : k0_chk480 v2460), ∀ a, (k0_off480 v2460) a + S1x1024.size a ≤ S16384x1024.size a := fun v2460 k0_hw480 => k0_hw480

def k0_off481 (v2465 : BitVec 32) : Fin 2 → Nat :=
  let c0_i32_1499 : BitVec 32 := 0#32
  ![v2465.toNat, 0]

def k0_chk481 (v2465 : BitVec 32) : Prop :=
  (∀ a, (k0_off481 v2465) a + S1x1024.size a ≤ S16384x1024.size a)
theorem k0_off481_inb : ∀ (v2465 : BitVec 32) (k0_hw481 : k0_chk481 v2465), ∀ a, (k0_off481 v2465) a + S1x1024.size a ≤ S16384x1024.size a := fun v2465 k0_hw481 => k0_hw481

def k0_off482 (v2470 : BitVec 32) : Fin 2 → Nat :=
  let c0_i32_1502 : BitVec 32 := 0#32
  ![v2470.toNat, 0]

def k0_chk482 (v2470 : BitVec 32) : Prop :=
  (∀ a, (k0_off482 v2470) a + S1x1024.size a ≤ S16384x1024.size a)
theorem k0_off482_inb : ∀ (v2470 : BitVec 32) (k0_hw482 : k0_chk482 v2470), ∀ a, (k0_off482 v2470) a + S1x1024.size a ≤ S16384x1024.size a := fun v2470 k0_hw482 => k0_hw482

def k0_off483 (v2475 : BitVec 32) : Fin 2 → Nat :=
  let c0_i32_1505 : BitVec 32 := 0#32
  ![v2475.toNat, 0]

def k0_chk483 (v2475 : BitVec 32) : Prop :=
  (∀ a, (k0_off483 v2475) a + S1x1024.size a ≤ S16384x1024.size a)
theorem k0_off483_inb : ∀ (v2475 : BitVec 32) (k0_hw483 : k0_chk483 v2475), ∀ a, (k0_off483 v2475) a + S1x1024.size a ≤ S16384x1024.size a := fun v2475 k0_hw483 => k0_hw483

def k0_off484 (v2480 : BitVec 32) : Fin 2 → Nat :=
  let c0_i32_1508 : BitVec 32 := 0#32
  ![v2480.toNat, 0]

def k0_chk484 (v2480 : BitVec 32) : Prop :=
  (∀ a, (k0_off484 v2480) a + S1x1024.size a ≤ S16384x1024.size a)
theorem k0_off484_inb : ∀ (v2480 : BitVec 32) (k0_hw484 : k0_chk484 v2480), ∀ a, (k0_off484 v2480) a + S1x1024.size a ≤ S16384x1024.size a := fun v2480 k0_hw484 => k0_hw484

def k0_off485 (v2485 : BitVec 32) : Fin 2 → Nat :=
  let c0_i32_1511 : BitVec 32 := 0#32
  ![v2485.toNat, 0]

def k0_chk485 (v2485 : BitVec 32) : Prop :=
  (∀ a, (k0_off485 v2485) a + S1x1024.size a ≤ S16384x1024.size a)
theorem k0_off485_inb : ∀ (v2485 : BitVec 32) (k0_hw485 : k0_chk485 v2485), ∀ a, (k0_off485 v2485) a + S1x1024.size a ≤ S16384x1024.size a := fun v2485 k0_hw485 => k0_hw485

def k0_off486 (v2490 : BitVec 32) : Fin 2 → Nat :=
  let c0_i32_1514 : BitVec 32 := 0#32
  ![v2490.toNat, 0]

def k0_chk486 (v2490 : BitVec 32) : Prop :=
  (∀ a, (k0_off486 v2490) a + S1x1024.size a ≤ S16384x1024.size a)
theorem k0_off486_inb : ∀ (v2490 : BitVec 32) (k0_hw486 : k0_chk486 v2490), ∀ a, (k0_off486 v2490) a + S1x1024.size a ≤ S16384x1024.size a := fun v2490 k0_hw486 => k0_hw486

def k0_off487 (v2495 : BitVec 32) : Fin 2 → Nat :=
  let c0_i32_1517 : BitVec 32 := 0#32
  ![v2495.toNat, 0]

def k0_chk487 (v2495 : BitVec 32) : Prop :=
  (∀ a, (k0_off487 v2495) a + S1x1024.size a ≤ S16384x1024.size a)
theorem k0_off487_inb : ∀ (v2495 : BitVec 32) (k0_hw487 : k0_chk487 v2495), ∀ a, (k0_off487 v2495) a + S1x1024.size a ≤ S16384x1024.size a := fun v2495 k0_hw487 => k0_hw487

def k0_off488 (v2500 : BitVec 32) : Fin 2 → Nat :=
  let c0_i32_1520 : BitVec 32 := 0#32
  ![v2500.toNat, 0]

def k0_chk488 (v2500 : BitVec 32) : Prop :=
  (∀ a, (k0_off488 v2500) a + S1x1024.size a ≤ S16384x1024.size a)
theorem k0_off488_inb : ∀ (v2500 : BitVec 32) (k0_hw488 : k0_chk488 v2500), ∀ a, (k0_off488 v2500) a + S1x1024.size a ≤ S16384x1024.size a := fun v2500 k0_hw488 => k0_hw488

def k0_off489 (v2505 : BitVec 32) : Fin 2 → Nat :=
  let c0_i32_1523 : BitVec 32 := 0#32
  ![v2505.toNat, 0]

def k0_chk489 (v2505 : BitVec 32) : Prop :=
  (∀ a, (k0_off489 v2505) a + S1x1024.size a ≤ S16384x1024.size a)
theorem k0_off489_inb : ∀ (v2505 : BitVec 32) (k0_hw489 : k0_chk489 v2505), ∀ a, (k0_off489 v2505) a + S1x1024.size a ≤ S16384x1024.size a := fun v2505 k0_hw489 => k0_hw489

def k0_off490 (v2510 : BitVec 32) : Fin 2 → Nat :=
  let c0_i32_1526 : BitVec 32 := 0#32
  ![v2510.toNat, 0]

def k0_chk490 (v2510 : BitVec 32) : Prop :=
  (∀ a, (k0_off490 v2510) a + S1x1024.size a ≤ S16384x1024.size a)
theorem k0_off490_inb : ∀ (v2510 : BitVec 32) (k0_hw490 : k0_chk490 v2510), ∀ a, (k0_off490 v2510) a + S1x1024.size a ≤ S16384x1024.size a := fun v2510 k0_hw490 => k0_hw490

def k0_off491 (v2515 : BitVec 32) : Fin 2 → Nat :=
  let c0_i32_1529 : BitVec 32 := 0#32
  ![v2515.toNat, 0]

def k0_chk491 (v2515 : BitVec 32) : Prop :=
  (∀ a, (k0_off491 v2515) a + S1x1024.size a ≤ S16384x1024.size a)
theorem k0_off491_inb : ∀ (v2515 : BitVec 32) (k0_hw491 : k0_chk491 v2515), ∀ a, (k0_off491 v2515) a + S1x1024.size a ≤ S16384x1024.size a := fun v2515 k0_hw491 => k0_hw491

def k0_off492 (v2520 : BitVec 32) : Fin 2 → Nat :=
  let c0_i32_1532 : BitVec 32 := 0#32
  ![v2520.toNat, 0]

def k0_chk492 (v2520 : BitVec 32) : Prop :=
  (∀ a, (k0_off492 v2520) a + S1x1024.size a ≤ S16384x1024.size a)
theorem k0_off492_inb : ∀ (v2520 : BitVec 32) (k0_hw492 : k0_chk492 v2520), ∀ a, (k0_off492 v2520) a + S1x1024.size a ≤ S16384x1024.size a := fun v2520 k0_hw492 => k0_hw492

def k0_off493 (v2525 : BitVec 32) : Fin 2 → Nat :=
  let c0_i32_1535 : BitVec 32 := 0#32
  ![v2525.toNat, 0]

def k0_chk493 (v2525 : BitVec 32) : Prop :=
  (∀ a, (k0_off493 v2525) a + S1x1024.size a ≤ S16384x1024.size a)
theorem k0_off493_inb : ∀ (v2525 : BitVec 32) (k0_hw493 : k0_chk493 v2525), ∀ a, (k0_off493 v2525) a + S1x1024.size a ≤ S16384x1024.size a := fun v2525 k0_hw493 => k0_hw493

def k0_off494 (v2530 : BitVec 32) : Fin 2 → Nat :=
  let c0_i32_1538 : BitVec 32 := 0#32
  ![v2530.toNat, 0]

def k0_chk494 (v2530 : BitVec 32) : Prop :=
  (∀ a, (k0_off494 v2530) a + S1x1024.size a ≤ S16384x1024.size a)
theorem k0_off494_inb : ∀ (v2530 : BitVec 32) (k0_hw494 : k0_chk494 v2530), ∀ a, (k0_off494 v2530) a + S1x1024.size a ≤ S16384x1024.size a := fun v2530 k0_hw494 => k0_hw494

def k0_off495 (v2535 : BitVec 32) : Fin 2 → Nat :=
  let c0_i32_1541 : BitVec 32 := 0#32
  ![v2535.toNat, 0]

def k0_chk495 (v2535 : BitVec 32) : Prop :=
  (∀ a, (k0_off495 v2535) a + S1x1024.size a ≤ S16384x1024.size a)
theorem k0_off495_inb : ∀ (v2535 : BitVec 32) (k0_hw495 : k0_chk495 v2535), ∀ a, (k0_off495 v2535) a + S1x1024.size a ≤ S16384x1024.size a := fun v2535 k0_hw495 => k0_hw495

def k0_off496 (v2540 : BitVec 32) : Fin 2 → Nat :=
  let c0_i32_1544 : BitVec 32 := 0#32
  ![v2540.toNat, 0]

def k0_chk496 (v2540 : BitVec 32) : Prop :=
  (∀ a, (k0_off496 v2540) a + S1x1024.size a ≤ S16384x1024.size a)
theorem k0_off496_inb : ∀ (v2540 : BitVec 32) (k0_hw496 : k0_chk496 v2540), ∀ a, (k0_off496 v2540) a + S1x1024.size a ≤ S16384x1024.size a := fun v2540 k0_hw496 => k0_hw496

def k0_off497 (v2545 : BitVec 32) : Fin 2 → Nat :=
  let c0_i32_1547 : BitVec 32 := 0#32
  ![v2545.toNat, 0]

def k0_chk497 (v2545 : BitVec 32) : Prop :=
  (∀ a, (k0_off497 v2545) a + S1x1024.size a ≤ S16384x1024.size a)
theorem k0_off497_inb : ∀ (v2545 : BitVec 32) (k0_hw497 : k0_chk497 v2545), ∀ a, (k0_off497 v2545) a + S1x1024.size a ≤ S16384x1024.size a := fun v2545 k0_hw497 => k0_hw497

def k0_off498 (v2550 : BitVec 32) : Fin 2 → Nat :=
  let c0_i32_1550 : BitVec 32 := 0#32
  ![v2550.toNat, 0]

def k0_chk498 (v2550 : BitVec 32) : Prop :=
  (∀ a, (k0_off498 v2550) a + S1x1024.size a ≤ S16384x1024.size a)
theorem k0_off498_inb : ∀ (v2550 : BitVec 32) (k0_hw498 : k0_chk498 v2550), ∀ a, (k0_off498 v2550) a + S1x1024.size a ≤ S16384x1024.size a := fun v2550 k0_hw498 => k0_hw498

def k0_off499 (v2555 : BitVec 32) : Fin 2 → Nat :=
  let c0_i32_1553 : BitVec 32 := 0#32
  ![v2555.toNat, 0]

def k0_chk499 (v2555 : BitVec 32) : Prop :=
  (∀ a, (k0_off499 v2555) a + S1x1024.size a ≤ S16384x1024.size a)
theorem k0_off499_inb : ∀ (v2555 : BitVec 32) (k0_hw499 : k0_chk499 v2555), ∀ a, (k0_off499 v2555) a + S1x1024.size a ≤ S16384x1024.size a := fun v2555 k0_hw499 => k0_hw499

def k0_off500 (v2560 : BitVec 32) : Fin 2 → Nat :=
  let c0_i32_1556 : BitVec 32 := 0#32
  ![v2560.toNat, 0]

def k0_chk500 (v2560 : BitVec 32) : Prop :=
  (∀ a, (k0_off500 v2560) a + S1x1024.size a ≤ S16384x1024.size a)
theorem k0_off500_inb : ∀ (v2560 : BitVec 32) (k0_hw500 : k0_chk500 v2560), ∀ a, (k0_off500 v2560) a + S1x1024.size a ≤ S16384x1024.size a := fun v2560 k0_hw500 => k0_hw500

def k0_off501 (v2565 : BitVec 32) : Fin 2 → Nat :=
  let c0_i32_1559 : BitVec 32 := 0#32
  ![v2565.toNat, 0]

def k0_chk501 (v2565 : BitVec 32) : Prop :=
  (∀ a, (k0_off501 v2565) a + S1x1024.size a ≤ S16384x1024.size a)
theorem k0_off501_inb : ∀ (v2565 : BitVec 32) (k0_hw501 : k0_chk501 v2565), ∀ a, (k0_off501 v2565) a + S1x1024.size a ≤ S16384x1024.size a := fun v2565 k0_hw501 => k0_hw501

def k0_off502 (v2570 : BitVec 32) : Fin 2 → Nat :=
  let c0_i32_1562 : BitVec 32 := 0#32
  ![v2570.toNat, 0]

def k0_chk502 (v2570 : BitVec 32) : Prop :=
  (∀ a, (k0_off502 v2570) a + S1x1024.size a ≤ S16384x1024.size a)
theorem k0_off502_inb : ∀ (v2570 : BitVec 32) (k0_hw502 : k0_chk502 v2570), ∀ a, (k0_off502 v2570) a + S1x1024.size a ≤ S16384x1024.size a := fun v2570 k0_hw502 => k0_hw502

def k0_off503 (v2575 : BitVec 32) : Fin 2 → Nat :=
  let c0_i32_1565 : BitVec 32 := 0#32
  ![v2575.toNat, 0]

def k0_chk503 (v2575 : BitVec 32) : Prop :=
  (∀ a, (k0_off503 v2575) a + S1x1024.size a ≤ S16384x1024.size a)
theorem k0_off503_inb : ∀ (v2575 : BitVec 32) (k0_hw503 : k0_chk503 v2575), ∀ a, (k0_off503 v2575) a + S1x1024.size a ≤ S16384x1024.size a := fun v2575 k0_hw503 => k0_hw503

def k0_off504 (v2580 : BitVec 32) : Fin 2 → Nat :=
  let c0_i32_1568 : BitVec 32 := 0#32
  ![v2580.toNat, 0]

def k0_chk504 (v2580 : BitVec 32) : Prop :=
  (∀ a, (k0_off504 v2580) a + S1x1024.size a ≤ S16384x1024.size a)
theorem k0_off504_inb : ∀ (v2580 : BitVec 32) (k0_hw504 : k0_chk504 v2580), ∀ a, (k0_off504 v2580) a + S1x1024.size a ≤ S16384x1024.size a := fun v2580 k0_hw504 => k0_hw504

def k0_off505 (v2585 : BitVec 32) : Fin 2 → Nat :=
  let c0_i32_1571 : BitVec 32 := 0#32
  ![v2585.toNat, 0]

def k0_chk505 (v2585 : BitVec 32) : Prop :=
  (∀ a, (k0_off505 v2585) a + S1x1024.size a ≤ S16384x1024.size a)
theorem k0_off505_inb : ∀ (v2585 : BitVec 32) (k0_hw505 : k0_chk505 v2585), ∀ a, (k0_off505 v2585) a + S1x1024.size a ≤ S16384x1024.size a := fun v2585 k0_hw505 => k0_hw505

def k0_off506 (v2590 : BitVec 32) : Fin 2 → Nat :=
  let c0_i32_1574 : BitVec 32 := 0#32
  ![v2590.toNat, 0]

def k0_chk506 (v2590 : BitVec 32) : Prop :=
  (∀ a, (k0_off506 v2590) a + S1x1024.size a ≤ S16384x1024.size a)
theorem k0_off506_inb : ∀ (v2590 : BitVec 32) (k0_hw506 : k0_chk506 v2590), ∀ a, (k0_off506 v2590) a + S1x1024.size a ≤ S16384x1024.size a := fun v2590 k0_hw506 => k0_hw506

def k0_off507 (v2595 : BitVec 32) : Fin 2 → Nat :=
  let c0_i32_1577 : BitVec 32 := 0#32
  ![v2595.toNat, 0]

def k0_chk507 (v2595 : BitVec 32) : Prop :=
  (∀ a, (k0_off507 v2595) a + S1x1024.size a ≤ S16384x1024.size a)
theorem k0_off507_inb : ∀ (v2595 : BitVec 32) (k0_hw507 : k0_chk507 v2595), ∀ a, (k0_off507 v2595) a + S1x1024.size a ≤ S16384x1024.size a := fun v2595 k0_hw507 => k0_hw507

def k0_off508 (v2600 : BitVec 32) : Fin 2 → Nat :=
  let c0_i32_1580 : BitVec 32 := 0#32
  ![v2600.toNat, 0]

def k0_chk508 (v2600 : BitVec 32) : Prop :=
  (∀ a, (k0_off508 v2600) a + S1x1024.size a ≤ S16384x1024.size a)
theorem k0_off508_inb : ∀ (v2600 : BitVec 32) (k0_hw508 : k0_chk508 v2600), ∀ a, (k0_off508 v2600) a + S1x1024.size a ≤ S16384x1024.size a := fun v2600 k0_hw508 => k0_hw508

def k0_off509 (v2605 : BitVec 32) : Fin 2 → Nat :=
  let c0_i32_1583 : BitVec 32 := 0#32
  ![v2605.toNat, 0]

def k0_chk509 (v2605 : BitVec 32) : Prop :=
  (∀ a, (k0_off509 v2605) a + S1x1024.size a ≤ S16384x1024.size a)
theorem k0_off509_inb : ∀ (v2605 : BitVec 32) (k0_hw509 : k0_chk509 v2605), ∀ a, (k0_off509 v2605) a + S1x1024.size a ≤ S16384x1024.size a := fun v2605 k0_hw509 => k0_hw509

def k0_off510 (v2610 : BitVec 32) : Fin 2 → Nat :=
  let c0_i32_1586 : BitVec 32 := 0#32
  ![v2610.toNat, 0]

def k0_chk510 (v2610 : BitVec 32) : Prop :=
  (∀ a, (k0_off510 v2610) a + S1x1024.size a ≤ S16384x1024.size a)
theorem k0_off510_inb : ∀ (v2610 : BitVec 32) (k0_hw510 : k0_chk510 v2610), ∀ a, (k0_off510 v2610) a + S1x1024.size a ≤ S16384x1024.size a := fun v2610 k0_hw510 => k0_hw510

def k0_off511 (v2615 : BitVec 32) : Fin 2 → Nat :=
  let c0_i32_1589 : BitVec 32 := 0#32
  ![v2615.toNat, 0]

def k0_chk511 (v2615 : BitVec 32) : Prop :=
  (∀ a, (k0_off511 v2615) a + S1x1024.size a ≤ S16384x1024.size a)
theorem k0_off511_inb : ∀ (v2615 : BitVec 32) (k0_hw511 : k0_chk511 v2615), ∀ a, (k0_off511 v2615) a + S1x1024.size a ≤ S16384x1024.size a := fun v2615 k0_hw511 => k0_hw511

def k0_off512 (v2620 : BitVec 32) : Fin 2 → Nat :=
  let c0_i32_1592 : BitVec 32 := 0#32
  ![v2620.toNat, 0]

def k0_chk512 (v2620 : BitVec 32) : Prop :=
  (∀ a, (k0_off512 v2620) a + S1x1024.size a ≤ S16384x1024.size a)
theorem k0_off512_inb : ∀ (v2620 : BitVec 32) (k0_hw512 : k0_chk512 v2620), ∀ a, (k0_off512 v2620) a + S1x1024.size a ≤ S16384x1024.size a := fun v2620 k0_hw512 => k0_hw512

def k0_off513 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32 : BitVec 32 := 1024#32
  let v2636 : BitVec 32 := Scalar.muli v2 c1024_i32
  let c0_i32_1606 : BitVec 32 := 0#32
  let v2637 : BitVec 32 := Scalar.addi v2636 c0_i32_1606
  let v2638 : Index := Scalar.indexCast v2637
  let c0_1607 : Index := 0#32
  ![v2638.toNat, 0]
def k0_off514 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32_1610 : BitVec 32 := 1024#32
  let v2642 : BitVec 32 := Scalar.muli v2 c1024_i32_1610
  let c0_i32_1611 : BitVec 32 := 0#32
  let v2643 : BitVec 32 := Scalar.addi v2642 c0_i32_1611
  let c0_i32_1618 : BitVec 32 := 0#32
  ![v2643.toNat, 0]
def k0_dev5 (d0 : Dev nD) : Nat :=
  let c0_i32_1616 : BitVec 32 := 0#32
  let c1_i32_1612 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v2644 : BitVec 32 := Scalar.subi c1_i32_1612 v2
  let c2_i32_1615 : BitVec 32 := 2#32
  let v2645 : BitVec 32 := Scalar.muli v2644 c2_i32_1615
  let v2646 : BitVec 32 := Scalar.addi c0_i32_1616 v2645
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1617 : BitVec 32 := 1#32
  let v2647 : BitVec 32 := Scalar.muli v5 c1_i32_1617
  let v2648 : BitVec 32 := Scalar.addi v2646 v2647
  v2648.toNat
def k0_dev6 (d0 : Dev nD) : Nat :=
  let c0_i32_1635 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1634 : BitVec 32 := 2#32
  let v2669 : BitVec 32 := Scalar.muli v2 c2_i32_1634
  let v2670 : BitVec 32 := Scalar.addi c0_i32_1635 v2669
  let c1_i32_1631 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v2668 : BitVec 32 := Scalar.subi c1_i32_1631 v5
  let c1_i32_1636 : BitVec 32 := 1#32
  let v2671 : BitVec 32 := Scalar.muli v2668 c1_i32_1636
  let v2672 : BitVec 32 := Scalar.addi v2670 v2671
  v2672.toNat
def k0_off515 (v2679 : BitVec 32) : Fin 2 → Nat :=
  let c0_i32_1643 : BitVec 32 := 0#32
  ![v2679.toNat, 0]

def k0_chk513 (v2679 : BitVec 32) : Prop :=
  (∀ a, (k0_off515 v2679) a + S1x1024.size a ≤ S16384x1024.size a)
theorem k0_off515_inb : ∀ (v2679 : BitVec 32) (k0_hw513 : k0_chk513 v2679), ∀ a, (k0_off515 v2679) a + S1x1024.size a ≤ S16384x1024.size a := fun v2679 k0_hw513 => k0_hw513

def k0_off516 (v2684 : BitVec 32) : Fin 2 → Nat :=
  let c0_i32_1646 : BitVec 32 := 0#32
  ![v2684.toNat, 0]

def k0_chk514 (v2684 : BitVec 32) : Prop :=
  (∀ a, (k0_off516 v2684) a + S1x1024.size a ≤ S16384x1024.size a)
theorem k0_off516_inb : ∀ (v2684 : BitVec 32) (k0_hw514 : k0_chk514 v2684), ∀ a, (k0_off516 v2684) a + S1x1024.size a ≤ S16384x1024.size a := fun v2684 k0_hw514 => k0_hw514

def k0_off517 (v2689 : BitVec 32) : Fin 2 → Nat :=
  let c0_i32_1649 : BitVec 32 := 0#32
  ![v2689.toNat, 0]

def k0_chk515 (v2689 : BitVec 32) : Prop :=
  (∀ a, (k0_off517 v2689) a + S1x1024.size a ≤ S16384x1024.size a)
theorem k0_off517_inb : ∀ (v2689 : BitVec 32) (k0_hw515 : k0_chk515 v2689), ∀ a, (k0_off517 v2689) a + S1x1024.size a ≤ S16384x1024.size a := fun v2689 k0_hw515 => k0_hw515

def k0_off518 (v2694 : BitVec 32) : Fin 2 → Nat :=
  let c0_i32_1652 : BitVec 32 := 0#32
  ![v2694.toNat, 0]

def k0_chk516 (v2694 : BitVec 32) : Prop :=
  (∀ a, (k0_off518 v2694) a + S1x1024.size a ≤ S16384x1024.size a)
theorem k0_off518_inb : ∀ (v2694 : BitVec 32) (k0_hw516 : k0_chk516 v2694), ∀ a, (k0_off518 v2694) a + S1x1024.size a ≤ S16384x1024.size a := fun v2694 k0_hw516 => k0_hw516

def k0_off519 (v2699 : BitVec 32) : Fin 2 → Nat :=
  let c0_i32_1655 : BitVec 32 := 0#32
  ![v2699.toNat, 0]

def k0_chk517 (v2699 : BitVec 32) : Prop :=
  (∀ a, (k0_off519 v2699) a + S1x1024.size a ≤ S16384x1024.size a)
theorem k0_off519_inb : ∀ (v2699 : BitVec 32) (k0_hw517 : k0_chk517 v2699), ∀ a, (k0_off519 v2699) a + S1x1024.size a ≤ S16384x1024.size a := fun v2699 k0_hw517 => k0_hw517

def k0_off520 (v2704 : BitVec 32) : Fin 2 → Nat :=
  let c0_i32_1658 : BitVec 32 := 0#32
  ![v2704.toNat, 0]

def k0_chk518 (v2704 : BitVec 32) : Prop :=
  (∀ a, (k0_off520 v2704) a + S1x1024.size a ≤ S16384x1024.size a)
theorem k0_off520_inb : ∀ (v2704 : BitVec 32) (k0_hw518 : k0_chk518 v2704), ∀ a, (k0_off520 v2704) a + S1x1024.size a ≤ S16384x1024.size a := fun v2704 k0_hw518 => k0_hw518

def k0_off521 (v2709 : BitVec 32) : Fin 2 → Nat :=
  let c0_i32_1661 : BitVec 32 := 0#32
  ![v2709.toNat, 0]

def k0_chk519 (v2709 : BitVec 32) : Prop :=
  (∀ a, (k0_off521 v2709) a + S1x1024.size a ≤ S16384x1024.size a)
theorem k0_off521_inb : ∀ (v2709 : BitVec 32) (k0_hw519 : k0_chk519 v2709), ∀ a, (k0_off521 v2709) a + S1x1024.size a ≤ S16384x1024.size a := fun v2709 k0_hw519 => k0_hw519

def k0_off522 (v2714 : BitVec 32) : Fin 2 → Nat :=
  let c0_i32_1664 : BitVec 32 := 0#32
  ![v2714.toNat, 0]

def k0_chk520 (v2714 : BitVec 32) : Prop :=
  (∀ a, (k0_off522 v2714) a + S1x1024.size a ≤ S16384x1024.size a)
theorem k0_off522_inb : ∀ (v2714 : BitVec 32) (k0_hw520 : k0_chk520 v2714), ∀ a, (k0_off522 v2714) a + S1x1024.size a ≤ S16384x1024.size a := fun v2714 k0_hw520 => k0_hw520

def k0_off523 (v2719 : BitVec 32) : Fin 2 → Nat :=
  let c0_i32_1667 : BitVec 32 := 0#32
  ![v2719.toNat, 0]

def k0_chk521 (v2719 : BitVec 32) : Prop :=
  (∀ a, (k0_off523 v2719) a + S1x1024.size a ≤ S16384x1024.size a)
theorem k0_off523_inb : ∀ (v2719 : BitVec 32) (k0_hw521 : k0_chk521 v2719), ∀ a, (k0_off523 v2719) a + S1x1024.size a ≤ S16384x1024.size a := fun v2719 k0_hw521 => k0_hw521

def k0_off524 (v2724 : BitVec 32) : Fin 2 → Nat :=
  let c0_i32_1670 : BitVec 32 := 0#32
  ![v2724.toNat, 0]

def k0_chk522 (v2724 : BitVec 32) : Prop :=
  (∀ a, (k0_off524 v2724) a + S1x1024.size a ≤ S16384x1024.size a)
theorem k0_off524_inb : ∀ (v2724 : BitVec 32) (k0_hw522 : k0_chk522 v2724), ∀ a, (k0_off524 v2724) a + S1x1024.size a ≤ S16384x1024.size a := fun v2724 k0_hw522 => k0_hw522

def k0_off525 (v2729 : BitVec 32) : Fin 2 → Nat :=
  let c0_i32_1673 : BitVec 32 := 0#32
  ![v2729.toNat, 0]

def k0_chk523 (v2729 : BitVec 32) : Prop :=
  (∀ a, (k0_off525 v2729) a + S1x1024.size a ≤ S16384x1024.size a)
theorem k0_off525_inb : ∀ (v2729 : BitVec 32) (k0_hw523 : k0_chk523 v2729), ∀ a, (k0_off525 v2729) a + S1x1024.size a ≤ S16384x1024.size a := fun v2729 k0_hw523 => k0_hw523

def k0_off526 (v2734 : BitVec 32) : Fin 2 → Nat :=
  let c0_i32_1676 : BitVec 32 := 0#32
  ![v2734.toNat, 0]

def k0_chk524 (v2734 : BitVec 32) : Prop :=
  (∀ a, (k0_off526 v2734) a + S1x1024.size a ≤ S16384x1024.size a)
theorem k0_off526_inb : ∀ (v2734 : BitVec 32) (k0_hw524 : k0_chk524 v2734), ∀ a, (k0_off526 v2734) a + S1x1024.size a ≤ S16384x1024.size a := fun v2734 k0_hw524 => k0_hw524

def k0_off527 (v2739 : BitVec 32) : Fin 2 → Nat :=
  let c0_i32_1679 : BitVec 32 := 0#32
  ![v2739.toNat, 0]

def k0_chk525 (v2739 : BitVec 32) : Prop :=
  (∀ a, (k0_off527 v2739) a + S1x1024.size a ≤ S16384x1024.size a)
theorem k0_off527_inb : ∀ (v2739 : BitVec 32) (k0_hw525 : k0_chk525 v2739), ∀ a, (k0_off527 v2739) a + S1x1024.size a ≤ S16384x1024.size a := fun v2739 k0_hw525 => k0_hw525

def k0_off528 (v2744 : BitVec 32) : Fin 2 → Nat :=
  let c0_i32_1682 : BitVec 32 := 0#32
  ![v2744.toNat, 0]

def k0_chk526 (v2744 : BitVec 32) : Prop :=
  (∀ a, (k0_off528 v2744) a + S1x1024.size a ≤ S16384x1024.size a)
theorem k0_off528_inb : ∀ (v2744 : BitVec 32) (k0_hw526 : k0_chk526 v2744), ∀ a, (k0_off528 v2744) a + S1x1024.size a ≤ S16384x1024.size a := fun v2744 k0_hw526 => k0_hw526

def k0_off529 (v2749 : BitVec 32) : Fin 2 → Nat :=
  let c0_i32_1685 : BitVec 32 := 0#32
  ![v2749.toNat, 0]

def k0_chk527 (v2749 : BitVec 32) : Prop :=
  (∀ a, (k0_off529 v2749) a + S1x1024.size a ≤ S16384x1024.size a)
theorem k0_off529_inb : ∀ (v2749 : BitVec 32) (k0_hw527 : k0_chk527 v2749), ∀ a, (k0_off529 v2749) a + S1x1024.size a ≤ S16384x1024.size a := fun v2749 k0_hw527 => k0_hw527

def k0_off530 (v2754 : BitVec 32) : Fin 2 → Nat :=
  let c0_i32_1688 : BitVec 32 := 0#32
  ![v2754.toNat, 0]

def k0_chk528 (v2754 : BitVec 32) : Prop :=
  (∀ a, (k0_off530 v2754) a + S1x1024.size a ≤ S16384x1024.size a)
theorem k0_off530_inb : ∀ (v2754 : BitVec 32) (k0_hw528 : k0_chk528 v2754), ∀ a, (k0_off530 v2754) a + S1x1024.size a ≤ S16384x1024.size a := fun v2754 k0_hw528 => k0_hw528

def k0_off531 (v2759 : BitVec 32) : Fin 2 → Nat :=
  let c0_i32_1691 : BitVec 32 := 0#32
  ![v2759.toNat, 0]

def k0_chk529 (v2759 : BitVec 32) : Prop :=
  (∀ a, (k0_off531 v2759) a + S1x1024.size a ≤ S16384x1024.size a)
theorem k0_off531_inb : ∀ (v2759 : BitVec 32) (k0_hw529 : k0_chk529 v2759), ∀ a, (k0_off531 v2759) a + S1x1024.size a ≤ S16384x1024.size a := fun v2759 k0_hw529 => k0_hw529

def k0_off532 (v2764 : BitVec 32) : Fin 2 → Nat :=
  let c0_i32_1694 : BitVec 32 := 0#32
  ![v2764.toNat, 0]

def k0_chk530 (v2764 : BitVec 32) : Prop :=
  (∀ a, (k0_off532 v2764) a + S1x1024.size a ≤ S16384x1024.size a)
theorem k0_off532_inb : ∀ (v2764 : BitVec 32) (k0_hw530 : k0_chk530 v2764), ∀ a, (k0_off532 v2764) a + S1x1024.size a ≤ S16384x1024.size a := fun v2764 k0_hw530 => k0_hw530

def k0_off533 (v2769 : BitVec 32) : Fin 2 → Nat :=
  let c0_i32_1697 : BitVec 32 := 0#32
  ![v2769.toNat, 0]

def k0_chk531 (v2769 : BitVec 32) : Prop :=
  (∀ a, (k0_off533 v2769) a + S1x1024.size a ≤ S16384x1024.size a)
theorem k0_off533_inb : ∀ (v2769 : BitVec 32) (k0_hw531 : k0_chk531 v2769), ∀ a, (k0_off533 v2769) a + S1x1024.size a ≤ S16384x1024.size a := fun v2769 k0_hw531 => k0_hw531

def k0_off534 (v2774 : BitVec 32) : Fin 2 → Nat :=
  let c0_i32_1700 : BitVec 32 := 0#32
  ![v2774.toNat, 0]

def k0_chk532 (v2774 : BitVec 32) : Prop :=
  (∀ a, (k0_off534 v2774) a + S1x1024.size a ≤ S16384x1024.size a)
theorem k0_off534_inb : ∀ (v2774 : BitVec 32) (k0_hw532 : k0_chk532 v2774), ∀ a, (k0_off534 v2774) a + S1x1024.size a ≤ S16384x1024.size a := fun v2774 k0_hw532 => k0_hw532

def k0_off535 (v2779 : BitVec 32) : Fin 2 → Nat :=
  let c0_i32_1703 : BitVec 32 := 0#32
  ![v2779.toNat, 0]

def k0_chk533 (v2779 : BitVec 32) : Prop :=
  (∀ a, (k0_off535 v2779) a + S1x1024.size a ≤ S16384x1024.size a)
theorem k0_off535_inb : ∀ (v2779 : BitVec 32) (k0_hw533 : k0_chk533 v2779), ∀ a, (k0_off535 v2779) a + S1x1024.size a ≤ S16384x1024.size a := fun v2779 k0_hw533 => k0_hw533

def k0_off536 (v2784 : BitVec 32) : Fin 2 → Nat :=
  let c0_i32_1706 : BitVec 32 := 0#32
  ![v2784.toNat, 0]

def k0_chk534 (v2784 : BitVec 32) : Prop :=
  (∀ a, (k0_off536 v2784) a + S1x1024.size a ≤ S16384x1024.size a)
theorem k0_off536_inb : ∀ (v2784 : BitVec 32) (k0_hw534 : k0_chk534 v2784), ∀ a, (k0_off536 v2784) a + S1x1024.size a ≤ S16384x1024.size a := fun v2784 k0_hw534 => k0_hw534

def k0_off537 (v2789 : BitVec 32) : Fin 2 → Nat :=
  let c0_i32_1709 : BitVec 32 := 0#32
  ![v2789.toNat, 0]

def k0_chk535 (v2789 : BitVec 32) : Prop :=
  (∀ a, (k0_off537 v2789) a + S1x1024.size a ≤ S16384x1024.size a)
theorem k0_off537_inb : ∀ (v2789 : BitVec 32) (k0_hw535 : k0_chk535 v2789), ∀ a, (k0_off537 v2789) a + S1x1024.size a ≤ S16384x1024.size a := fun v2789 k0_hw535 => k0_hw535

def k0_off538 (v2794 : BitVec 32) : Fin 2 → Nat :=
  let c0_i32_1712 : BitVec 32 := 0#32
  ![v2794.toNat, 0]

def k0_chk536 (v2794 : BitVec 32) : Prop :=
  (∀ a, (k0_off538 v2794) a + S1x1024.size a ≤ S16384x1024.size a)
theorem k0_off538_inb : ∀ (v2794 : BitVec 32) (k0_hw536 : k0_chk536 v2794), ∀ a, (k0_off538 v2794) a + S1x1024.size a ≤ S16384x1024.size a := fun v2794 k0_hw536 => k0_hw536

def k0_off539 (v2799 : BitVec 32) : Fin 2 → Nat :=
  let c0_i32_1715 : BitVec 32 := 0#32
  ![v2799.toNat, 0]

def k0_chk537 (v2799 : BitVec 32) : Prop :=
  (∀ a, (k0_off539 v2799) a + S1x1024.size a ≤ S16384x1024.size a)
theorem k0_off539_inb : ∀ (v2799 : BitVec 32) (k0_hw537 : k0_chk537 v2799), ∀ a, (k0_off539 v2799) a + S1x1024.size a ≤ S16384x1024.size a := fun v2799 k0_hw537 => k0_hw537

def k0_off540 (v2804 : BitVec 32) : Fin 2 → Nat :=
  let c0_i32_1718 : BitVec 32 := 0#32
  ![v2804.toNat, 0]

def k0_chk538 (v2804 : BitVec 32) : Prop :=
  (∀ a, (k0_off540 v2804) a + S1x1024.size a ≤ S16384x1024.size a)
theorem k0_off540_inb : ∀ (v2804 : BitVec 32) (k0_hw538 : k0_chk538 v2804), ∀ a, (k0_off540 v2804) a + S1x1024.size a ≤ S16384x1024.size a := fun v2804 k0_hw538 => k0_hw538

def k0_off541 (v2809 : BitVec 32) : Fin 2 → Nat :=
  let c0_i32_1721 : BitVec 32 := 0#32
  ![v2809.toNat, 0]

def k0_chk539 (v2809 : BitVec 32) : Prop :=
  (∀ a, (k0_off541 v2809) a + S1x1024.size a ≤ S16384x1024.size a)
theorem k0_off541_inb : ∀ (v2809 : BitVec 32) (k0_hw539 : k0_chk539 v2809), ∀ a, (k0_off541 v2809) a + S1x1024.size a ≤ S16384x1024.size a := fun v2809 k0_hw539 => k0_hw539

def k0_off542 (v2814 : BitVec 32) : Fin 2 → Nat :=
  let c0_i32_1724 : BitVec 32 := 0#32
  ![v2814.toNat, 0]

def k0_chk540 (v2814 : BitVec 32) : Prop :=
  (∀ a, (k0_off542 v2814) a + S1x1024.size a ≤ S16384x1024.size a)
theorem k0_off542_inb : ∀ (v2814 : BitVec 32) (k0_hw540 : k0_chk540 v2814), ∀ a, (k0_off542 v2814) a + S1x1024.size a ≤ S16384x1024.size a := fun v2814 k0_hw540 => k0_hw540

def k0_off543 (v2819 : BitVec 32) : Fin 2 → Nat :=
  let c0_i32_1727 : BitVec 32 := 0#32
  ![v2819.toNat, 0]

def k0_chk541 (v2819 : BitVec 32) : Prop :=
  (∀ a, (k0_off543 v2819) a + S1x1024.size a ≤ S16384x1024.size a)
theorem k0_off543_inb : ∀ (v2819 : BitVec 32) (k0_hw541 : k0_chk541 v2819), ∀ a, (k0_off543 v2819) a + S1x1024.size a ≤ S16384x1024.size a := fun v2819 k0_hw541 => k0_hw541

def k0_off544 (v2824 : BitVec 32) : Fin 2 → Nat :=
  let c0_i32_1730 : BitVec 32 := 0#32
  ![v2824.toNat, 0]

def k0_chk542 (v2824 : BitVec 32) : Prop :=
  (∀ a, (k0_off544 v2824) a + S1x1024.size a ≤ S16384x1024.size a)
theorem k0_off544_inb : ∀ (v2824 : BitVec 32) (k0_hw542 : k0_chk542 v2824), ∀ a, (k0_off544 v2824) a + S1x1024.size a ≤ S16384x1024.size a := fun v2824 k0_hw542 => k0_hw542

def k0_off545 (v2829 : BitVec 32) : Fin 2 → Nat :=
  let c0_i32_1733 : BitVec 32 := 0#32
  ![v2829.toNat, 0]

def k0_chk543 (v2829 : BitVec 32) : Prop :=
  (∀ a, (k0_off545 v2829) a + S1x1024.size a ≤ S16384x1024.size a)
theorem k0_off545_inb : ∀ (v2829 : BitVec 32) (k0_hw543 : k0_chk543 v2829), ∀ a, (k0_off545 v2829) a + S1x1024.size a ≤ S16384x1024.size a := fun v2829 k0_hw543 => k0_hw543

def k0_off546 (v2834 : BitVec 32) : Fin 2 → Nat :=
  let c0_i32_1736 : BitVec 32 := 0#32
  ![v2834.toNat, 0]

def k0_chk544 (v2834 : BitVec 32) : Prop :=
  (∀ a, (k0_off546 v2834) a + S1x1024.size a ≤ S16384x1024.size a)
theorem k0_off546_inb : ∀ (v2834 : BitVec 32) (k0_hw544 : k0_chk544 v2834), ∀ a, (k0_off546 v2834) a + S1x1024.size a ≤ S16384x1024.size a := fun v2834 k0_hw544 => k0_hw544

def k0_off547 (v2839 : BitVec 32) : Fin 2 → Nat :=
  let c0_i32_1739 : BitVec 32 := 0#32
  ![v2839.toNat, 0]

def k0_chk545 (v2839 : BitVec 32) : Prop :=
  (∀ a, (k0_off547 v2839) a + S1x1024.size a ≤ S16384x1024.size a)
theorem k0_off547_inb : ∀ (v2839 : BitVec 32) (k0_hw545 : k0_chk545 v2839), ∀ a, (k0_off547 v2839) a + S1x1024.size a ≤ S16384x1024.size a := fun v2839 k0_hw545 => k0_hw545

def k0_off548 (v2844 : BitVec 32) : Fin 2 → Nat :=
  let c0_i32_1742 : BitVec 32 := 0#32
  ![v2844.toNat, 0]

def k0_chk546 (v2844 : BitVec 32) : Prop :=
  (∀ a, (k0_off548 v2844) a + S1x1024.size a ≤ S16384x1024.size a)
theorem k0_off548_inb : ∀ (v2844 : BitVec 32) (k0_hw546 : k0_chk546 v2844), ∀ a, (k0_off548 v2844) a + S1x1024.size a ≤ S16384x1024.size a := fun v2844 k0_hw546 => k0_hw546

def k0_off549 (v2849 : BitVec 32) : Fin 2 → Nat :=
  let c0_i32_1745 : BitVec 32 := 0#32
  ![v2849.toNat, 0]

def k0_chk547 (v2849 : BitVec 32) : Prop :=
  (∀ a, (k0_off549 v2849) a + S1x1024.size a ≤ S16384x1024.size a)
theorem k0_off549_inb : ∀ (v2849 : BitVec 32) (k0_hw547 : k0_chk547 v2849), ∀ a, (k0_off549 v2849) a + S1x1024.size a ≤ S16384x1024.size a := fun v2849 k0_hw547 => k0_hw547

def k0_off550 (v2854 : BitVec 32) : Fin 2 → Nat :=
  let c0_i32_1748 : BitVec 32 := 0#32
  ![v2854.toNat, 0]

def k0_chk548 (v2854 : BitVec 32) : Prop :=
  (∀ a, (k0_off550 v2854) a + S1x1024.size a ≤ S16384x1024.size a)
theorem k0_off550_inb : ∀ (v2854 : BitVec 32) (k0_hw548 : k0_chk548 v2854), ∀ a, (k0_off550 v2854) a + S1x1024.size a ≤ S16384x1024.size a := fun v2854 k0_hw548 => k0_hw548

def k0_off551 (v2859 : BitVec 32) : Fin 2 → Nat :=
  let c0_i32_1751 : BitVec 32 := 0#32
  ![v2859.toNat, 0]

def k0_chk549 (v2859 : BitVec 32) : Prop :=
  (∀ a, (k0_off551 v2859) a + S1x1024.size a ≤ S16384x1024.size a)
theorem k0_off551_inb : ∀ (v2859 : BitVec 32) (k0_hw549 : k0_chk549 v2859), ∀ a, (k0_off551 v2859) a + S1x1024.size a ≤ S16384x1024.size a := fun v2859 k0_hw549 => k0_hw549

def k0_off552 (v2864 : BitVec 32) : Fin 2 → Nat :=
  let c0_i32_1754 : BitVec 32 := 0#32
  ![v2864.toNat, 0]

def k0_chk550 (v2864 : BitVec 32) : Prop :=
  (∀ a, (k0_off552 v2864) a + S1x1024.size a ≤ S16384x1024.size a)
theorem k0_off552_inb : ∀ (v2864 : BitVec 32) (k0_hw550 : k0_chk550 v2864), ∀ a, (k0_off552 v2864) a + S1x1024.size a ≤ S16384x1024.size a := fun v2864 k0_hw550 => k0_hw550

def k0_off553 (v2869 : BitVec 32) : Fin 2 → Nat :=
  let c0_i32_1757 : BitVec 32 := 0#32
  ![v2869.toNat, 0]

def k0_chk551 (v2869 : BitVec 32) : Prop :=
  (∀ a, (k0_off553 v2869) a + S1x1024.size a ≤ S16384x1024.size a)
theorem k0_off553_inb : ∀ (v2869 : BitVec 32) (k0_hw551 : k0_chk551 v2869), ∀ a, (k0_off553 v2869) a + S1x1024.size a ≤ S16384x1024.size a := fun v2869 k0_hw551 => k0_hw551

def k0_off554 (v2874 : BitVec 32) : Fin 2 → Nat :=
  let c0_i32_1760 : BitVec 32 := 0#32
  ![v2874.toNat, 0]

def k0_chk552 (v2874 : BitVec 32) : Prop :=
  (∀ a, (k0_off554 v2874) a + S1x1024.size a ≤ S16384x1024.size a)
theorem k0_off554_inb : ∀ (v2874 : BitVec 32) (k0_hw552 : k0_chk552 v2874), ∀ a, (k0_off554 v2874) a + S1x1024.size a ≤ S16384x1024.size a := fun v2874 k0_hw552 => k0_hw552

def k0_off555 (v2879 : BitVec 32) : Fin 2 → Nat :=
  let c0_i32_1763 : BitVec 32 := 0#32
  ![v2879.toNat, 0]

def k0_chk553 (v2879 : BitVec 32) : Prop :=
  (∀ a, (k0_off555 v2879) a + S1x1024.size a ≤ S16384x1024.size a)
theorem k0_off555_inb : ∀ (v2879 : BitVec 32) (k0_hw553 : k0_chk553 v2879), ∀ a, (k0_off555 v2879) a + S1x1024.size a ≤ S16384x1024.size a := fun v2879 k0_hw553 => k0_hw553

def k0_off556 (v2884 : BitVec 32) : Fin 2 → Nat :=
  let c0_i32_1766 : BitVec 32 := 0#32
  ![v2884.toNat, 0]

def k0_chk554 (v2884 : BitVec 32) : Prop :=
  (∀ a, (k0_off556 v2884) a + S1x1024.size a ≤ S16384x1024.size a)
theorem k0_off556_inb : ∀ (v2884 : BitVec 32) (k0_hw554 : k0_chk554 v2884), ∀ a, (k0_off556 v2884) a + S1x1024.size a ≤ S16384x1024.size a := fun v2884 k0_hw554 => k0_hw554

def k0_off557 (v2889 : BitVec 32) : Fin 2 → Nat :=
  let c0_i32_1769 : BitVec 32 := 0#32
  ![v2889.toNat, 0]

def k0_chk555 (v2889 : BitVec 32) : Prop :=
  (∀ a, (k0_off557 v2889) a + S1x1024.size a ≤ S16384x1024.size a)
theorem k0_off557_inb : ∀ (v2889 : BitVec 32) (k0_hw555 : k0_chk555 v2889), ∀ a, (k0_off557 v2889) a + S1x1024.size a ≤ S16384x1024.size a := fun v2889 k0_hw555 => k0_hw555

def k0_off558 (v2894 : BitVec 32) : Fin 2 → Nat :=
  let c0_i32_1772 : BitVec 32 := 0#32
  ![v2894.toNat, 0]

def k0_chk556 (v2894 : BitVec 32) : Prop :=
  (∀ a, (k0_off558 v2894) a + S1x1024.size a ≤ S16384x1024.size a)
theorem k0_off558_inb : ∀ (v2894 : BitVec 32) (k0_hw556 : k0_chk556 v2894), ∀ a, (k0_off558 v2894) a + S1x1024.size a ≤ S16384x1024.size a := fun v2894 k0_hw556 => k0_hw556

def k0_off559 (v2899 : BitVec 32) : Fin 2 → Nat :=
  let c0_i32_1775 : BitVec 32 := 0#32
  ![v2899.toNat, 0]

def k0_chk557 (v2899 : BitVec 32) : Prop :=
  (∀ a, (k0_off559 v2899) a + S1x1024.size a ≤ S16384x1024.size a)
theorem k0_off559_inb : ∀ (v2899 : BitVec 32) (k0_hw557 : k0_chk557 v2899), ∀ a, (k0_off559 v2899) a + S1x1024.size a ≤ S16384x1024.size a := fun v2899 k0_hw557 => k0_hw557

def k0_off560 (v2904 : BitVec 32) : Fin 2 → Nat :=
  let c0_i32_1778 : BitVec 32 := 0#32
  ![v2904.toNat, 0]

def k0_chk558 (v2904 : BitVec 32) : Prop :=
  (∀ a, (k0_off560 v2904) a + S1x1024.size a ≤ S16384x1024.size a)
theorem k0_off560_inb : ∀ (v2904 : BitVec 32) (k0_hw558 : k0_chk558 v2904), ∀ a, (k0_off560 v2904) a + S1x1024.size a ≤ S16384x1024.size a := fun v2904 k0_hw558 => k0_hw558

def k0_off561 (v2909 : BitVec 32) : Fin 2 → Nat :=
  let c0_i32_1781 : BitVec 32 := 0#32
  ![v2909.toNat, 0]

def k0_chk559 (v2909 : BitVec 32) : Prop :=
  (∀ a, (k0_off561 v2909) a + S1x1024.size a ≤ S16384x1024.size a)
theorem k0_off561_inb : ∀ (v2909 : BitVec 32) (k0_hw559 : k0_chk559 v2909), ∀ a, (k0_off561 v2909) a + S1x1024.size a ≤ S16384x1024.size a := fun v2909 k0_hw559 => k0_hw559

def k0_off562 (v2914 : BitVec 32) : Fin 2 → Nat :=
  let c0_i32_1784 : BitVec 32 := 0#32
  ![v2914.toNat, 0]

def k0_chk560 (v2914 : BitVec 32) : Prop :=
  (∀ a, (k0_off562 v2914) a + S1x1024.size a ≤ S16384x1024.size a)
theorem k0_off562_inb : ∀ (v2914 : BitVec 32) (k0_hw560 : k0_chk560 v2914), ∀ a, (k0_off562 v2914) a + S1x1024.size a ≤ S16384x1024.size a := fun v2914 k0_hw560 => k0_hw560

def k0_off563 (v2919 : BitVec 32) : Fin 2 → Nat :=
  let c0_i32_1787 : BitVec 32 := 0#32
  ![v2919.toNat, 0]

def k0_chk561 (v2919 : BitVec 32) : Prop :=
  (∀ a, (k0_off563 v2919) a + S1x1024.size a ≤ S16384x1024.size a)
theorem k0_off563_inb : ∀ (v2919 : BitVec 32) (k0_hw561 : k0_chk561 v2919), ∀ a, (k0_off563 v2919) a + S1x1024.size a ≤ S16384x1024.size a := fun v2919 k0_hw561 => k0_hw561

def k0_off564 (v2924 : BitVec 32) : Fin 2 → Nat :=
  let c0_i32_1790 : BitVec 32 := 0#32
  ![v2924.toNat, 0]

def k0_chk562 (v2924 : BitVec 32) : Prop :=
  (∀ a, (k0_off564 v2924) a + S1x1024.size a ≤ S16384x1024.size a)
theorem k0_off564_inb : ∀ (v2924 : BitVec 32) (k0_hw562 : k0_chk562 v2924), ∀ a, (k0_off564 v2924) a + S1x1024.size a ≤ S16384x1024.size a := fun v2924 k0_hw562 => k0_hw562

def k0_off565 (v2929 : BitVec 32) : Fin 2 → Nat :=
  let c0_i32_1793 : BitVec 32 := 0#32
  ![v2929.toNat, 0]

def k0_chk563 (v2929 : BitVec 32) : Prop :=
  (∀ a, (k0_off565 v2929) a + S1x1024.size a ≤ S16384x1024.size a)
theorem k0_off565_inb : ∀ (v2929 : BitVec 32) (k0_hw563 : k0_chk563 v2929), ∀ a, (k0_off565 v2929) a + S1x1024.size a ≤ S16384x1024.size a := fun v2929 k0_hw563 => k0_hw563

def k0_off566 (v2934 : BitVec 32) : Fin 2 → Nat :=
  let c0_i32_1796 : BitVec 32 := 0#32
  ![v2934.toNat, 0]

def k0_chk564 (v2934 : BitVec 32) : Prop :=
  (∀ a, (k0_off566 v2934) a + S1x1024.size a ≤ S16384x1024.size a)
theorem k0_off566_inb : ∀ (v2934 : BitVec 32) (k0_hw564 : k0_chk564 v2934), ∀ a, (k0_off566 v2934) a + S1x1024.size a ≤ S16384x1024.size a := fun v2934 k0_hw564 => k0_hw564

def k0_off567 (v2939 : BitVec 32) : Fin 2 → Nat :=
  let c0_i32_1799 : BitVec 32 := 0#32
  ![v2939.toNat, 0]

def k0_chk565 (v2939 : BitVec 32) : Prop :=
  (∀ a, (k0_off567 v2939) a + S1x1024.size a ≤ S16384x1024.size a)
theorem k0_off567_inb : ∀ (v2939 : BitVec 32) (k0_hw565 : k0_chk565 v2939), ∀ a, (k0_off567 v2939) a + S1x1024.size a ≤ S16384x1024.size a := fun v2939 k0_hw565 => k0_hw565

def k0_off568 (v2944 : BitVec 32) : Fin 2 → Nat :=
  let c0_i32_1802 : BitVec 32 := 0#32
  ![v2944.toNat, 0]

def k0_chk566 (v2944 : BitVec 32) : Prop :=
  (∀ a, (k0_off568 v2944) a + S1x1024.size a ≤ S16384x1024.size a)
theorem k0_off568_inb : ∀ (v2944 : BitVec 32) (k0_hw566 : k0_chk566 v2944), ∀ a, (k0_off568 v2944) a + S1x1024.size a ≤ S16384x1024.size a := fun v2944 k0_hw566 => k0_hw566

def k0_off569 (v2949 : BitVec 32) : Fin 2 → Nat :=
  let c0_i32_1805 : BitVec 32 := 0#32
  ![v2949.toNat, 0]

def k0_chk567 (v2949 : BitVec 32) : Prop :=
  (∀ a, (k0_off569 v2949) a + S1x1024.size a ≤ S16384x1024.size a)
theorem k0_off569_inb : ∀ (v2949 : BitVec 32) (k0_hw567 : k0_chk567 v2949), ∀ a, (k0_off569 v2949) a + S1x1024.size a ≤ S16384x1024.size a := fun v2949 k0_hw567 => k0_hw567

def k0_off570 (v2954 : BitVec 32) : Fin 2 → Nat :=
  let c0_i32_1808 : BitVec 32 := 0#32
  ![v2954.toNat, 0]

def k0_chk568 (v2954 : BitVec 32) : Prop :=
  (∀ a, (k0_off570 v2954) a + S1x1024.size a ≤ S16384x1024.size a)
theorem k0_off570_inb : ∀ (v2954 : BitVec 32) (k0_hw568 : k0_chk568 v2954), ∀ a, (k0_off570 v2954) a + S1x1024.size a ≤ S16384x1024.size a := fun v2954 k0_hw568 => k0_hw568

def k0_off571 (v2959 : BitVec 32) : Fin 2 → Nat :=
  let c0_i32_1811 : BitVec 32 := 0#32
  ![v2959.toNat, 0]

def k0_chk569 (v2959 : BitVec 32) : Prop :=
  (∀ a, (k0_off571 v2959) a + S1x1024.size a ≤ S16384x1024.size a)
theorem k0_off571_inb : ∀ (v2959 : BitVec 32) (k0_hw569 : k0_chk569 v2959), ∀ a, (k0_off571 v2959) a + S1x1024.size a ≤ S16384x1024.size a := fun v2959 k0_hw569 => k0_hw569

def k0_off572 (v2964 : BitVec 32) : Fin 2 → Nat :=
  let c0_i32_1814 : BitVec 32 := 0#32
  ![v2964.toNat, 0]

def k0_chk570 (v2964 : BitVec 32) : Prop :=
  (∀ a, (k0_off572 v2964) a + S1x1024.size a ≤ S16384x1024.size a)
theorem k0_off572_inb : ∀ (v2964 : BitVec 32) (k0_hw570 : k0_chk570 v2964), ∀ a, (k0_off572 v2964) a + S1x1024.size a ≤ S16384x1024.size a := fun v2964 k0_hw570 => k0_hw570

def k0_off573 (v2969 : BitVec 32) : Fin 2 → Nat :=
  let c0_i32_1817 : BitVec 32 := 0#32
  ![v2969.toNat, 0]

def k0_chk571 (v2969 : BitVec 32) : Prop :=
  (∀ a, (k0_off573 v2969) a + S1x1024.size a ≤ S16384x1024.size a)
theorem k0_off573_inb : ∀ (v2969 : BitVec 32) (k0_hw571 : k0_chk571 v2969), ∀ a, (k0_off573 v2969) a + S1x1024.size a ≤ S16384x1024.size a := fun v2969 k0_hw571 => k0_hw571

def k0_off574 (v2974 : BitVec 32) : Fin 2 → Nat :=
  let c0_i32_1820 : BitVec 32 := 0#32
  ![v2974.toNat, 0]

def k0_chk572 (v2974 : BitVec 32) : Prop :=
  (∀ a, (k0_off574 v2974) a + S1x1024.size a ≤ S16384x1024.size a)
theorem k0_off574_inb : ∀ (v2974 : BitVec 32) (k0_hw572 : k0_chk572 v2974), ∀ a, (k0_off574 v2974) a + S1x1024.size a ≤ S16384x1024.size a := fun v2974 k0_hw572 => k0_hw572

def k0_off575 (v2979 : BitVec 32) : Fin 2 → Nat :=
  let c0_i32_1823 : BitVec 32 := 0#32
  ![v2979.toNat, 0]

def k0_chk573 (v2979 : BitVec 32) : Prop :=
  (∀ a, (k0_off575 v2979) a + S1x1024.size a ≤ S16384x1024.size a)
theorem k0_off575_inb : ∀ (v2979 : BitVec 32) (k0_hw573 : k0_chk573 v2979), ∀ a, (k0_off575 v2979) a + S1x1024.size a ≤ S16384x1024.size a := fun v2979 k0_hw573 => k0_hw573

def k0_off576 (v2984 : BitVec 32) : Fin 2 → Nat :=
  let c0_i32_1826 : BitVec 32 := 0#32
  ![v2984.toNat, 0]

def k0_chk574 (v2984 : BitVec 32) : Prop :=
  (∀ a, (k0_off576 v2984) a + S1x1024.size a ≤ S16384x1024.size a)
theorem k0_off576_inb : ∀ (v2984 : BitVec 32) (k0_hw574 : k0_chk574 v2984), ∀ a, (k0_off576 v2984) a + S1x1024.size a ≤ S16384x1024.size a := fun v2984 k0_hw574 => k0_hw574

def k0_off577 (v2989 : BitVec 32) : Fin 2 → Nat :=
  let c0_i32_1829 : BitVec 32 := 0#32
  ![v2989.toNat, 0]

def k0_chk575 (v2989 : BitVec 32) : Prop :=
  (∀ a, (k0_off577 v2989) a + S1x1024.size a ≤ S16384x1024.size a)
theorem k0_off577_inb : ∀ (v2989 : BitVec 32) (k0_hw575 : k0_chk575 v2989), ∀ a, (k0_off577 v2989) a + S1x1024.size a ≤ S16384x1024.size a := fun v2989 k0_hw575 => k0_hw575

def k0_off578 (v2994 : BitVec 32) : Fin 2 → Nat :=
  let c0_i32_1832 : BitVec 32 := 0#32
  ![v2994.toNat, 0]

def k0_chk576 (v2994 : BitVec 32) : Prop :=
  (∀ a, (k0_off578 v2994) a + S1x1024.size a ≤ S16384x1024.size a)
theorem k0_off578_inb : ∀ (v2994 : BitVec 32) (k0_hw576 : k0_chk576 v2994), ∀ a, (k0_off578 v2994) a + S1x1024.size a ≤ S16384x1024.size a := fun v2994 k0_hw576 => k0_hw576

def k0_off579 (v2999 : BitVec 32) : Fin 2 → Nat :=
  let c0_i32_1835 : BitVec 32 := 0#32
  ![v2999.toNat, 0]

def k0_chk577 (v2999 : BitVec 32) : Prop :=
  (∀ a, (k0_off579 v2999) a + S1x1024.size a ≤ S16384x1024.size a)
theorem k0_off579_inb : ∀ (v2999 : BitVec 32) (k0_hw577 : k0_chk577 v2999), ∀ a, (k0_off579 v2999) a + S1x1024.size a ≤ S16384x1024.size a := fun v2999 k0_hw577 => k0_hw577

def k0_off580 (v3004 : BitVec 32) : Fin 2 → Nat :=
  let c0_i32_1838 : BitVec 32 := 0#32
  ![v3004.toNat, 0]

def k0_chk578 (v3004 : BitVec 32) : Prop :=
  (∀ a, (k0_off580 v3004) a + S1x1024.size a ≤ S16384x1024.size a)
theorem k0_off580_inb : ∀ (v3004 : BitVec 32) (k0_hw578 : k0_chk578 v3004), ∀ a, (k0_off580 v3004) a + S1x1024.size a ≤ S16384x1024.size a := fun v3004 k0_hw578 => k0_hw578

def k0_off581 (v3009 : BitVec 32) : Fin 2 → Nat :=
  let c0_i32_1841 : BitVec 32 := 0#32
  ![v3009.toNat, 0]

def k0_chk579 (v3009 : BitVec 32) : Prop :=
  (∀ a, (k0_off581 v3009) a + S1x1024.size a ≤ S16384x1024.size a)
theorem k0_off581_inb : ∀ (v3009 : BitVec 32) (k0_hw579 : k0_chk579 v3009), ∀ a, (k0_off581 v3009) a + S1x1024.size a ≤ S16384x1024.size a := fun v3009 k0_hw579 => k0_hw579

def k0_off582 (v3014 : BitVec 32) : Fin 2 → Nat :=
  let c0_i32_1844 : BitVec 32 := 0#32
  ![v3014.toNat, 0]

def k0_chk580 (v3014 : BitVec 32) : Prop :=
  (∀ a, (k0_off582 v3014) a + S1x1024.size a ≤ S16384x1024.size a)
theorem k0_off582_inb : ∀ (v3014 : BitVec 32) (k0_hw580 : k0_chk580 v3014), ∀ a, (k0_off582 v3014) a + S1x1024.size a ≤ S16384x1024.size a := fun v3014 k0_hw580 => k0_hw580

def k0_off583 (v3019 : BitVec 32) : Fin 2 → Nat :=
  let c0_i32_1847 : BitVec 32 := 0#32
  ![v3019.toNat, 0]

def k0_chk581 (v3019 : BitVec 32) : Prop :=
  (∀ a, (k0_off583 v3019) a + S1x1024.size a ≤ S16384x1024.size a)
theorem k0_off583_inb : ∀ (v3019 : BitVec 32) (k0_hw581 : k0_chk581 v3019), ∀ a, (k0_off583 v3019) a + S1x1024.size a ≤ S16384x1024.size a := fun v3019 k0_hw581 => k0_hw581

def k0_off584 (v3024 : BitVec 32) : Fin 2 → Nat :=
  let c0_i32_1850 : BitVec 32 := 0#32
  ![v3024.toNat, 0]

def k0_chk582 (v3024 : BitVec 32) : Prop :=
  (∀ a, (k0_off584 v3024) a + S1x1024.size a ≤ S16384x1024.size a)
theorem k0_off584_inb : ∀ (v3024 : BitVec 32) (k0_hw582 : k0_chk582 v3024), ∀ a, (k0_off584 v3024) a + S1x1024.size a ≤ S16384x1024.size a := fun v3024 k0_hw582 => k0_hw582

def k0_off585 (v3029 : BitVec 32) : Fin 2 → Nat :=
  let c0_i32_1853 : BitVec 32 := 0#32
  ![v3029.toNat, 0]

def k0_chk583 (v3029 : BitVec 32) : Prop :=
  (∀ a, (k0_off585 v3029) a + S1x1024.size a ≤ S16384x1024.size a)
theorem k0_off585_inb : ∀ (v3029 : BitVec 32) (k0_hw583 : k0_chk583 v3029), ∀ a, (k0_off585 v3029) a + S1x1024.size a ≤ S16384x1024.size a := fun v3029 k0_hw583 => k0_hw583

def k0_off586 (v3034 : BitVec 32) : Fin 2 → Nat :=
  let c0_i32_1856 : BitVec 32 := 0#32
  ![v3034.toNat, 0]

def k0_chk584 (v3034 : BitVec 32) : Prop :=
  (∀ a, (k0_off586 v3034) a + S1x1024.size a ≤ S16384x1024.size a)
theorem k0_off586_inb : ∀ (v3034 : BitVec 32) (k0_hw584 : k0_chk584 v3034), ∀ a, (k0_off586 v3034) a + S1x1024.size a ≤ S16384x1024.size a := fun v3034 k0_hw584 => k0_hw584

def k0_off587 (v3039 : BitVec 32) : Fin 2 → Nat :=
  let c0_i32_1859 : BitVec 32 := 0#32
  ![v3039.toNat, 0]

def k0_chk585 (v3039 : BitVec 32) : Prop :=
  (∀ a, (k0_off587 v3039) a + S1x1024.size a ≤ S16384x1024.size a)
theorem k0_off587_inb : ∀ (v3039 : BitVec 32) (k0_hw585 : k0_chk585 v3039), ∀ a, (k0_off587 v3039) a + S1x1024.size a ≤ S16384x1024.size a := fun v3039 k0_hw585 => k0_hw585

def k0_off588 (v3044 : BitVec 32) : Fin 2 → Nat :=
  let c0_i32_1862 : BitVec 32 := 0#32
  ![v3044.toNat, 0]

def k0_chk586 (v3044 : BitVec 32) : Prop :=
  (∀ a, (k0_off588 v3044) a + S1x1024.size a ≤ S16384x1024.size a)
theorem k0_off588_inb : ∀ (v3044 : BitVec 32) (k0_hw586 : k0_chk586 v3044), ∀ a, (k0_off588 v3044) a + S1x1024.size a ≤ S16384x1024.size a := fun v3044 k0_hw586 => k0_hw586

def k0_off589 (v3049 : BitVec 32) : Fin 2 → Nat :=
  let c0_i32_1865 : BitVec 32 := 0#32
  ![v3049.toNat, 0]

def k0_chk587 (v3049 : BitVec 32) : Prop :=
  (∀ a, (k0_off589 v3049) a + S1x1024.size a ≤ S16384x1024.size a)
theorem k0_off589_inb : ∀ (v3049 : BitVec 32) (k0_hw587 : k0_chk587 v3049), ∀ a, (k0_off589 v3049) a + S1x1024.size a ≤ S16384x1024.size a := fun v3049 k0_hw587 => k0_hw587

def k0_off590 (v3054 : BitVec 32) : Fin 2 → Nat :=
  let c0_i32_1868 : BitVec 32 := 0#32
  ![v3054.toNat, 0]

def k0_chk588 (v3054 : BitVec 32) : Prop :=
  (∀ a, (k0_off590 v3054) a + S1x1024.size a ≤ S16384x1024.size a)
theorem k0_off590_inb : ∀ (v3054 : BitVec 32) (k0_hw588 : k0_chk588 v3054), ∀ a, (k0_off590 v3054) a + S1x1024.size a ≤ S16384x1024.size a := fun v3054 k0_hw588 => k0_hw588

def k0_off591 (v3059 : BitVec 32) : Fin 2 → Nat :=
  let c0_i32_1871 : BitVec 32 := 0#32
  ![v3059.toNat, 0]

def k0_chk589 (v3059 : BitVec 32) : Prop :=
  (∀ a, (k0_off591 v3059) a + S1x1024.size a ≤ S16384x1024.size a)
theorem k0_off591_inb : ∀ (v3059 : BitVec 32) (k0_hw589 : k0_chk589 v3059), ∀ a, (k0_off591 v3059) a + S1x1024.size a ≤ S16384x1024.size a := fun v3059 k0_hw589 => k0_hw589

def k0_off592 (v3064 : BitVec 32) : Fin 2 → Nat :=
  let c0_i32_1874 : BitVec 32 := 0#32
  ![v3064.toNat, 0]

def k0_chk590 (v3064 : BitVec 32) : Prop :=
  (∀ a, (k0_off592 v3064) a + S1x1024.size a ≤ S16384x1024.size a)
theorem k0_off592_inb : ∀ (v3064 : BitVec 32) (k0_hw590 : k0_chk590 v3064), ∀ a, (k0_off592 v3064) a + S1x1024.size a ≤ S16384x1024.size a := fun v3064 k0_hw590 => k0_hw590

def k0_off593 (v3069 : BitVec 32) : Fin 2 → Nat :=
  let c0_i32_1877 : BitVec 32 := 0#32
  ![v3069.toNat, 0]

def k0_chk591 (v3069 : BitVec 32) : Prop :=
  (∀ a, (k0_off593 v3069) a + S1x1024.size a ≤ S16384x1024.size a)
theorem k0_off593_inb : ∀ (v3069 : BitVec 32) (k0_hw591 : k0_chk591 v3069), ∀ a, (k0_off593 v3069) a + S1x1024.size a ≤ S16384x1024.size a := fun v3069 k0_hw591 => k0_hw591

def k0_off594 (v3074 : BitVec 32) : Fin 2 → Nat :=
  let c0_i32_1880 : BitVec 32 := 0#32
  ![v3074.toNat, 0]

def k0_chk592 (v3074 : BitVec 32) : Prop :=
  (∀ a, (k0_off594 v3074) a + S1x1024.size a ≤ S16384x1024.size a)
theorem k0_off594_inb : ∀ (v3074 : BitVec 32) (k0_hw592 : k0_chk592 v3074), ∀ a, (k0_off594 v3074) a + S1x1024.size a ≤ S16384x1024.size a := fun v3074 k0_hw592 => k0_hw592

def k0_off595 (v3079 : BitVec 32) : Fin 2 → Nat :=
  let c0_i32_1883 : BitVec 32 := 0#32
  ![v3079.toNat, 0]

def k0_chk593 (v3079 : BitVec 32) : Prop :=
  (∀ a, (k0_off595 v3079) a + S1x1024.size a ≤ S16384x1024.size a)
theorem k0_off595_inb : ∀ (v3079 : BitVec 32) (k0_hw593 : k0_chk593 v3079), ∀ a, (k0_off595 v3079) a + S1x1024.size a ≤ S16384x1024.size a := fun v3079 k0_hw593 => k0_hw593

def k0_off596 (v3084 : BitVec 32) : Fin 2 → Nat :=
  let c0_i32_1886 : BitVec 32 := 0#32
  ![v3084.toNat, 0]

def k0_chk594 (v3084 : BitVec 32) : Prop :=
  (∀ a, (k0_off596 v3084) a + S1x1024.size a ≤ S16384x1024.size a)
theorem k0_off596_inb : ∀ (v3084 : BitVec 32) (k0_hw594 : k0_chk594 v3084), ∀ a, (k0_off596 v3084) a + S1x1024.size a ≤ S16384x1024.size a := fun v3084 k0_hw594 => k0_hw594

def k0_off597 (v3089 : BitVec 32) : Fin 2 → Nat :=
  let c0_i32_1889 : BitVec 32 := 0#32
  ![v3089.toNat, 0]

def k0_chk595 (v3089 : BitVec 32) : Prop :=
  (∀ a, (k0_off597 v3089) a + S1x1024.size a ≤ S16384x1024.size a)
theorem k0_off597_inb : ∀ (v3089 : BitVec 32) (k0_hw595 : k0_chk595 v3089), ∀ a, (k0_off597 v3089) a + S1x1024.size a ≤ S16384x1024.size a := fun v3089 k0_hw595 => k0_hw595

def k0_off598 (v3094 : BitVec 32) : Fin 2 → Nat :=
  let c0_i32_1892 : BitVec 32 := 0#32
  ![v3094.toNat, 0]

def k0_chk596 (v3094 : BitVec 32) : Prop :=
  (∀ a, (k0_off598 v3094) a + S1x1024.size a ≤ S16384x1024.size a)
theorem k0_off598_inb : ∀ (v3094 : BitVec 32) (k0_hw596 : k0_chk596 v3094), ∀ a, (k0_off598 v3094) a + S1x1024.size a ≤ S16384x1024.size a := fun v3094 k0_hw596 => k0_hw596

def k0_off599 (v3099 : BitVec 32) : Fin 2 → Nat :=
  let c0_i32_1895 : BitVec 32 := 0#32
  ![v3099.toNat, 0]

def k0_chk597 (v3099 : BitVec 32) : Prop :=
  (∀ a, (k0_off599 v3099) a + S1x1024.size a ≤ S16384x1024.size a)
theorem k0_off599_inb : ∀ (v3099 : BitVec 32) (k0_hw597 : k0_chk597 v3099), ∀ a, (k0_off599 v3099) a + S1x1024.size a ≤ S16384x1024.size a := fun v3099 k0_hw597 => k0_hw597

def k0_off600 (v3104 : BitVec 32) : Fin 2 → Nat :=
  let c0_i32_1898 : BitVec 32 := 0#32
  ![v3104.toNat, 0]

def k0_chk598 (v3104 : BitVec 32) : Prop :=
  (∀ a, (k0_off600 v3104) a + S1x1024.size a ≤ S16384x1024.size a)
theorem k0_off600_inb : ∀ (v3104 : BitVec 32) (k0_hw598 : k0_chk598 v3104), ∀ a, (k0_off600 v3104) a + S1x1024.size a ≤ S16384x1024.size a := fun v3104 k0_hw598 => k0_hw598

def k0_off601 (v3109 : BitVec 32) : Fin 2 → Nat :=
  let c0_i32_1901 : BitVec 32 := 0#32
  ![v3109.toNat, 0]

def k0_chk599 (v3109 : BitVec 32) : Prop :=
  (∀ a, (k0_off601 v3109) a + S1x1024.size a ≤ S16384x1024.size a)
theorem k0_off601_inb : ∀ (v3109 : BitVec 32) (k0_hw599 : k0_chk599 v3109), ∀ a, (k0_off601 v3109) a + S1x1024.size a ≤ S16384x1024.size a := fun v3109 k0_hw599 => k0_hw599

def k0_off602 (v3114 : BitVec 32) : Fin 2 → Nat :=
  let c0_i32_1904 : BitVec 32 := 0#32
  ![v3114.toNat, 0]

def k0_chk600 (v3114 : BitVec 32) : Prop :=
  (∀ a, (k0_off602 v3114) a + S1x1024.size a ≤ S16384x1024.size a)
theorem k0_off602_inb : ∀ (v3114 : BitVec 32) (k0_hw600 : k0_chk600 v3114), ∀ a, (k0_off602 v3114) a + S1x1024.size a ≤ S16384x1024.size a := fun v3114 k0_hw600 => k0_hw600

def k0_off603 (v3119 : BitVec 32) : Fin 2 → Nat :=
  let c0_i32_1907 : BitVec 32 := 0#32
  ![v3119.toNat, 0]

def k0_chk601 (v3119 : BitVec 32) : Prop :=
  (∀ a, (k0_off603 v3119) a + S1x1024.size a ≤ S16384x1024.size a)
theorem k0_off603_inb : ∀ (v3119 : BitVec 32) (k0_hw601 : k0_chk601 v3119), ∀ a, (k0_off603 v3119) a + S1x1024.size a ≤ S16384x1024.size a := fun v3119 k0_hw601 => k0_hw601

def k0_off604 (v3124 : BitVec 32) : Fin 2 → Nat :=
  let c0_i32_1910 : BitVec 32 := 0#32
  ![v3124.toNat, 0]

def k0_chk602 (v3124 : BitVec 32) : Prop :=
  (∀ a, (k0_off604 v3124) a + S1x1024.size a ≤ S16384x1024.size a)
theorem k0_off604_inb : ∀ (v3124 : BitVec 32) (k0_hw602 : k0_chk602 v3124), ∀ a, (k0_off604 v3124) a + S1x1024.size a ≤ S16384x1024.size a := fun v3124 k0_hw602 => k0_hw602

def k0_off605 (v3129 : BitVec 32) : Fin 2 → Nat :=
  let c0_i32_1913 : BitVec 32 := 0#32
  ![v3129.toNat, 0]

def k0_chk603 (v3129 : BitVec 32) : Prop :=
  (∀ a, (k0_off605 v3129) a + S1x1024.size a ≤ S16384x1024.size a)
theorem k0_off605_inb : ∀ (v3129 : BitVec 32) (k0_hw603 : k0_chk603 v3129), ∀ a, (k0_off605 v3129) a + S1x1024.size a ≤ S16384x1024.size a := fun v3129 k0_hw603 => k0_hw603

def k0_off606 (v3134 : BitVec 32) : Fin 2 → Nat :=
  let c0_i32_1916 : BitVec 32 := 0#32
  ![v3134.toNat, 0]

def k0_chk604 (v3134 : BitVec 32) : Prop :=
  (∀ a, (k0_off606 v3134) a + S1x1024.size a ≤ S16384x1024.size a)
theorem k0_off606_inb : ∀ (v3134 : BitVec 32) (k0_hw604 : k0_chk604 v3134), ∀ a, (k0_off606 v3134) a + S1x1024.size a ≤ S16384x1024.size a := fun v3134 k0_hw604 => k0_hw604

def k0_off607 (v3139 : BitVec 32) : Fin 2 → Nat :=
  let c0_i32_1919 : BitVec 32 := 0#32
  ![v3139.toNat, 0]

def k0_chk605 (v3139 : BitVec 32) : Prop :=
  (∀ a, (k0_off607 v3139) a + S1x1024.size a ≤ S16384x1024.size a)
theorem k0_off607_inb : ∀ (v3139 : BitVec 32) (k0_hw605 : k0_chk605 v3139), ∀ a, (k0_off607 v3139) a + S1x1024.size a ≤ S16384x1024.size a := fun v3139 k0_hw605 => k0_hw605

def k0_off608 (v3144 : BitVec 32) : Fin 2 → Nat :=
  let c0_i32_1922 : BitVec 32 := 0#32
  ![v3144.toNat, 0]

def k0_chk606 (v3144 : BitVec 32) : Prop :=
  (∀ a, (k0_off608 v3144) a + S1x1024.size a ≤ S16384x1024.size a)
theorem k0_off608_inb : ∀ (v3144 : BitVec 32) (k0_hw606 : k0_chk606 v3144), ∀ a, (k0_off608 v3144) a + S1x1024.size a ≤ S16384x1024.size a := fun v3144 k0_hw606 => k0_hw606

def k0_off609 (v3149 : BitVec 32) : Fin 2 → Nat :=
  let c0_i32_1925 : BitVec 32 := 0#32
  ![v3149.toNat, 0]

def k0_chk607 (v3149 : BitVec 32) : Prop :=
  (∀ a, (k0_off609 v3149) a + S1x1024.size a ≤ S16384x1024.size a)
theorem k0_off609_inb : ∀ (v3149 : BitVec 32) (k0_hw607 : k0_chk607 v3149), ∀ a, (k0_off609 v3149) a + S1x1024.size a ≤ S16384x1024.size a := fun v3149 k0_hw607 => k0_hw607

def k0_off610 (v3154 : BitVec 32) : Fin 2 → Nat :=
  let c0_i32_1928 : BitVec 32 := 0#32
  ![v3154.toNat, 0]

def k0_chk608 (v3154 : BitVec 32) : Prop :=
  (∀ a, (k0_off610 v3154) a + S1x1024.size a ≤ S16384x1024.size a)
theorem k0_off610_inb : ∀ (v3154 : BitVec 32) (k0_hw608 : k0_chk608 v3154), ∀ a, (k0_off610 v3154) a + S1x1024.size a ≤ S16384x1024.size a := fun v3154 k0_hw608 => k0_hw608

def k0_off611 (v3159 : BitVec 32) : Fin 2 → Nat :=
  let c0_i32_1931 : BitVec 32 := 0#32
  ![v3159.toNat, 0]

def k0_chk609 (v3159 : BitVec 32) : Prop :=
  (∀ a, (k0_off611 v3159) a + S1x1024.size a ≤ S16384x1024.size a)
theorem k0_off611_inb : ∀ (v3159 : BitVec 32) (k0_hw609 : k0_chk609 v3159), ∀ a, (k0_off611 v3159) a + S1x1024.size a ≤ S16384x1024.size a := fun v3159 k0_hw609 => k0_hw609

def k0_off612 (v3164 : BitVec 32) : Fin 2 → Nat :=
  let c0_i32_1934 : BitVec 32 := 0#32
  ![v3164.toNat, 0]

def k0_chk610 (v3164 : BitVec 32) : Prop :=
  (∀ a, (k0_off612 v3164) a + S1x1024.size a ≤ S16384x1024.size a)
theorem k0_off612_inb : ∀ (v3164 : BitVec 32) (k0_hw610 : k0_chk610 v3164), ∀ a, (k0_off612 v3164) a + S1x1024.size a ≤ S16384x1024.size a := fun v3164 k0_hw610 => k0_hw610

def k0_off613 (v3169 : BitVec 32) : Fin 2 → Nat :=
  let c0_i32_1937 : BitVec 32 := 0#32
  ![v3169.toNat, 0]

def k0_chk611 (v3169 : BitVec 32) : Prop :=
  (∀ a, (k0_off613 v3169) a + S1x1024.size a ≤ S16384x1024.size a)
theorem k0_off613_inb : ∀ (v3169 : BitVec 32) (k0_hw611 : k0_chk611 v3169), ∀ a, (k0_off613 v3169) a + S1x1024.size a ≤ S16384x1024.size a := fun v3169 k0_hw611 => k0_hw611

def k0_off614 (v3174 : BitVec 32) : Fin 2 → Nat :=
  let c0_i32_1940 : BitVec 32 := 0#32
  ![v3174.toNat, 0]

def k0_chk612 (v3174 : BitVec 32) : Prop :=
  (∀ a, (k0_off614 v3174) a + S1x1024.size a ≤ S16384x1024.size a)
theorem k0_off614_inb : ∀ (v3174 : BitVec 32) (k0_hw612 : k0_chk612 v3174), ∀ a, (k0_off614 v3174) a + S1x1024.size a ≤ S16384x1024.size a := fun v3174 k0_hw612 => k0_hw612

def k0_off615 (v3179 : BitVec 32) : Fin 2 → Nat :=
  let c0_i32_1943 : BitVec 32 := 0#32
  ![v3179.toNat, 0]

def k0_chk613 (v3179 : BitVec 32) : Prop :=
  (∀ a, (k0_off615 v3179) a + S1x1024.size a ≤ S16384x1024.size a)
theorem k0_off615_inb : ∀ (v3179 : BitVec 32) (k0_hw613 : k0_chk613 v3179), ∀ a, (k0_off615 v3179) a + S1x1024.size a ≤ S16384x1024.size a := fun v3179 k0_hw613 => k0_hw613

def k0_off616 (v3184 : BitVec 32) : Fin 2 → Nat :=
  let c0_i32_1946 : BitVec 32 := 0#32
  ![v3184.toNat, 0]

def k0_chk614 (v3184 : BitVec 32) : Prop :=
  (∀ a, (k0_off616 v3184) a + S1x1024.size a ≤ S16384x1024.size a)
theorem k0_off616_inb : ∀ (v3184 : BitVec 32) (k0_hw614 : k0_chk614 v3184), ∀ a, (k0_off616 v3184) a + S1x1024.size a ≤ S16384x1024.size a := fun v3184 k0_hw614 => k0_hw614

def k0_off617 (v3189 : BitVec 32) : Fin 2 → Nat :=
  let c0_i32_1949 : BitVec 32 := 0#32
  ![v3189.toNat, 0]

def k0_chk615 (v3189 : BitVec 32) : Prop :=
  (∀ a, (k0_off617 v3189) a + S1x1024.size a ≤ S16384x1024.size a)
theorem k0_off617_inb : ∀ (v3189 : BitVec 32) (k0_hw615 : k0_chk615 v3189), ∀ a, (k0_off617 v3189) a + S1x1024.size a ≤ S16384x1024.size a := fun v3189 k0_hw615 => k0_hw615

def k0_off618 (v3194 : BitVec 32) : Fin 2 → Nat :=
  let c0_i32_1952 : BitVec 32 := 0#32
  ![v3194.toNat, 0]

def k0_chk616 (v3194 : BitVec 32) : Prop :=
  (∀ a, (k0_off618 v3194) a + S1x1024.size a ≤ S16384x1024.size a)
theorem k0_off618_inb : ∀ (v3194 : BitVec 32) (k0_hw616 : k0_chk616 v3194), ∀ a, (k0_off618 v3194) a + S1x1024.size a ≤ S16384x1024.size a := fun v3194 k0_hw616 => k0_hw616

def k0_off619 (v3199 : BitVec 32) : Fin 2 → Nat :=
  let c0_i32_1955 : BitVec 32 := 0#32
  ![v3199.toNat, 0]

def k0_chk617 (v3199 : BitVec 32) : Prop :=
  (∀ a, (k0_off619 v3199) a + S1x1024.size a ≤ S16384x1024.size a)
theorem k0_off619_inb : ∀ (v3199 : BitVec 32) (k0_hw617 : k0_chk617 v3199), ∀ a, (k0_off619 v3199) a + S1x1024.size a ≤ S16384x1024.size a := fun v3199 k0_hw617 => k0_hw617

def k0_off620 (v3204 : BitVec 32) : Fin 2 → Nat :=
  let c0_i32_1958 : BitVec 32 := 0#32
  ![v3204.toNat, 0]

def k0_chk618 (v3204 : BitVec 32) : Prop :=
  (∀ a, (k0_off620 v3204) a + S1x1024.size a ≤ S16384x1024.size a)
theorem k0_off620_inb : ∀ (v3204 : BitVec 32) (k0_hw618 : k0_chk618 v3204), ∀ a, (k0_off620 v3204) a + S1x1024.size a ≤ S16384x1024.size a := fun v3204 k0_hw618 => k0_hw618

def k0_off621 (v3209 : BitVec 32) : Fin 2 → Nat :=
  let c0_i32_1961 : BitVec 32 := 0#32
  ![v3209.toNat, 0]

def k0_chk619 (v3209 : BitVec 32) : Prop :=
  (∀ a, (k0_off621 v3209) a + S1x1024.size a ≤ S16384x1024.size a)
theorem k0_off621_inb : ∀ (v3209 : BitVec 32) (k0_hw619 : k0_chk619 v3209), ∀ a, (k0_off621 v3209) a + S1x1024.size a ≤ S16384x1024.size a := fun v3209 k0_hw619 => k0_hw619

def k0_off622 (v3214 : BitVec 32) : Fin 2 → Nat :=
  let c0_i32_1964 : BitVec 32 := 0#32
  ![v3214.toNat, 0]

def k0_chk620 (v3214 : BitVec 32) : Prop :=
  (∀ a, (k0_off622 v3214) a + S1x1024.size a ≤ S16384x1024.size a)
theorem k0_off622_inb : ∀ (v3214 : BitVec 32) (k0_hw620 : k0_chk620 v3214), ∀ a, (k0_off622 v3214) a + S1x1024.size a ≤ S16384x1024.size a := fun v3214 k0_hw620 => k0_hw620

def k0_off623 (v3219 : BitVec 32) : Fin 2 → Nat :=
  let c0_i32_1967 : BitVec 32 := 0#32
  ![v3219.toNat, 0]

def k0_chk621 (v3219 : BitVec 32) : Prop :=
  (∀ a, (k0_off623 v3219) a + S1x1024.size a ≤ S16384x1024.size a)
theorem k0_off623_inb : ∀ (v3219 : BitVec 32) (k0_hw621 : k0_chk621 v3219), ∀ a, (k0_off623 v3219) a + S1x1024.size a ≤ S16384x1024.size a := fun v3219 k0_hw621 => k0_hw621

def k0_off624 (v3224 : BitVec 32) : Fin 2 → Nat :=
  let c0_i32_1970 : BitVec 32 := 0#32
  ![v3224.toNat, 0]

def k0_chk622 (v3224 : BitVec 32) : Prop :=
  (∀ a, (k0_off624 v3224) a + S1x1024.size a ≤ S16384x1024.size a)
theorem k0_off624_inb : ∀ (v3224 : BitVec 32) (k0_hw622 : k0_chk622 v3224), ∀ a, (k0_off624 v3224) a + S1x1024.size a ≤ S16384x1024.size a := fun v3224 k0_hw622 => k0_hw622

def k0_off625 (v3229 : BitVec 32) : Fin 2 → Nat :=
  let c0_i32_1973 : BitVec 32 := 0#32
  ![v3229.toNat, 0]

def k0_chk623 (v3229 : BitVec 32) : Prop :=
  (∀ a, (k0_off625 v3229) a + S1x1024.size a ≤ S16384x1024.size a)
theorem k0_off625_inb : ∀ (v3229 : BitVec 32) (k0_hw623 : k0_chk623 v3229), ∀ a, (k0_off625 v3229) a + S1x1024.size a ≤ S16384x1024.size a := fun v3229 k0_hw623 => k0_hw623

def k0_off626 (v3234 : BitVec 32) : Fin 2 → Nat :=
  let c0_i32_1976 : BitVec 32 := 0#32
  ![v3234.toNat, 0]

def k0_chk624 (v3234 : BitVec 32) : Prop :=
  (∀ a, (k0_off626 v3234) a + S1x1024.size a ≤ S16384x1024.size a)
theorem k0_off626_inb : ∀ (v3234 : BitVec 32) (k0_hw624 : k0_chk624 v3234), ∀ a, (k0_off626 v3234) a + S1x1024.size a ≤ S16384x1024.size a := fun v3234 k0_hw624 => k0_hw624

def k0_off627 (v3239 : BitVec 32) : Fin 2 → Nat :=
  let c0_i32_1979 : BitVec 32 := 0#32
  ![v3239.toNat, 0]

def k0_chk625 (v3239 : BitVec 32) : Prop :=
  (∀ a, (k0_off627 v3239) a + S1x1024.size a ≤ S16384x1024.size a)
theorem k0_off627_inb : ∀ (v3239 : BitVec 32) (k0_hw625 : k0_chk625 v3239), ∀ a, (k0_off627 v3239) a + S1x1024.size a ≤ S16384x1024.size a := fun v3239 k0_hw625 => k0_hw625

def k0_off628 (v3244 : BitVec 32) : Fin 2 → Nat :=
  let c0_i32_1982 : BitVec 32 := 0#32
  ![v3244.toNat, 0]

def k0_chk626 (v3244 : BitVec 32) : Prop :=
  (∀ a, (k0_off628 v3244) a + S1x1024.size a ≤ S16384x1024.size a)
theorem k0_off628_inb : ∀ (v3244 : BitVec 32) (k0_hw626 : k0_chk626 v3244), ∀ a, (k0_off628 v3244) a + S1x1024.size a ≤ S16384x1024.size a := fun v3244 k0_hw626 => k0_hw626

def k0_off629 (v3249 : BitVec 32) : Fin 2 → Nat :=
  let c0_i32_1985 : BitVec 32 := 0#32
  ![v3249.toNat, 0]

def k0_chk627 (v3249 : BitVec 32) : Prop :=
  (∀ a, (k0_off629 v3249) a + S1x1024.size a ≤ S16384x1024.size a)
theorem k0_off629_inb : ∀ (v3249 : BitVec 32) (k0_hw627 : k0_chk627 v3249), ∀ a, (k0_off629 v3249) a + S1x1024.size a ≤ S16384x1024.size a := fun v3249 k0_hw627 => k0_hw627

def k0_off630 (v3254 : BitVec 32) : Fin 2 → Nat :=
  let c0_i32_1988 : BitVec 32 := 0#32
  ![v3254.toNat, 0]

def k0_chk628 (v3254 : BitVec 32) : Prop :=
  (∀ a, (k0_off630 v3254) a + S1x1024.size a ≤ S16384x1024.size a)
theorem k0_off630_inb : ∀ (v3254 : BitVec 32) (k0_hw628 : k0_chk628 v3254), ∀ a, (k0_off630 v3254) a + S1x1024.size a ≤ S16384x1024.size a := fun v3254 k0_hw628 => k0_hw628

def k0_off631 (v3259 : BitVec 32) : Fin 2 → Nat :=
  let c0_i32_1991 : BitVec 32 := 0#32
  ![v3259.toNat, 0]

def k0_chk629 (v3259 : BitVec 32) : Prop :=
  (∀ a, (k0_off631 v3259) a + S1x1024.size a ≤ S16384x1024.size a)
theorem k0_off631_inb : ∀ (v3259 : BitVec 32) (k0_hw629 : k0_chk629 v3259), ∀ a, (k0_off631 v3259) a + S1x1024.size a ≤ S16384x1024.size a := fun v3259 k0_hw629 => k0_hw629

def k0_off632 (v3264 : BitVec 32) : Fin 2 → Nat :=
  let c0_i32_1994 : BitVec 32 := 0#32
  ![v3264.toNat, 0]

def k0_chk630 (v3264 : BitVec 32) : Prop :=
  (∀ a, (k0_off632 v3264) a + S1x1024.size a ≤ S16384x1024.size a)
theorem k0_off632_inb : ∀ (v3264 : BitVec 32) (k0_hw630 : k0_chk630 v3264), ∀ a, (k0_off632 v3264) a + S1x1024.size a ≤ S16384x1024.size a := fun v3264 k0_hw630 => k0_hw630

def k0_off633 (v3269 : BitVec 32) : Fin 2 → Nat :=
  let c0_i32_1997 : BitVec 32 := 0#32
  ![v3269.toNat, 0]

def k0_chk631 (v3269 : BitVec 32) : Prop :=
  (∀ a, (k0_off633 v3269) a + S1x1024.size a ≤ S16384x1024.size a)
theorem k0_off633_inb : ∀ (v3269 : BitVec 32) (k0_hw631 : k0_chk631 v3269), ∀ a, (k0_off633 v3269) a + S1x1024.size a ≤ S16384x1024.size a := fun v3269 k0_hw631 => k0_hw631

def k0_off634 (v3274 : BitVec 32) : Fin 2 → Nat :=
  let c0_i32_2000 : BitVec 32 := 0#32
  ![v3274.toNat, 0]

def k0_chk632 (v3274 : BitVec 32) : Prop :=
  (∀ a, (k0_off634 v3274) a + S1x1024.size a ≤ S16384x1024.size a)
theorem k0_off634_inb : ∀ (v3274 : BitVec 32) (k0_hw632 : k0_chk632 v3274), ∀ a, (k0_off634 v3274) a + S1x1024.size a ≤ S16384x1024.size a := fun v3274 k0_hw632 => k0_hw632

def k0_off635 (v3279 : BitVec 32) : Fin 2 → Nat :=
  let c0_i32_2003 : BitVec 32 := 0#32
  ![v3279.toNat, 0]

def k0_chk633 (v3279 : BitVec 32) : Prop :=
  (∀ a, (k0_off635 v3279) a + S1x1024.size a ≤ S16384x1024.size a)
theorem k0_off635_inb : ∀ (v3279 : BitVec 32) (k0_hw633 : k0_chk633 v3279), ∀ a, (k0_off635 v3279) a + S1x1024.size a ≤ S16384x1024.size a := fun v3279 k0_hw633 => k0_hw633

def k0_off636 (v3284 : BitVec 32) : Fin 2 → Nat :=
  let c0_i32_2006 : BitVec 32 := 0#32
  ![v3284.toNat, 0]

def k0_chk634 (v3284 : BitVec 32) : Prop :=
  (∀ a, (k0_off636 v3284) a + S1x1024.size a ≤ S16384x1024.size a)
theorem k0_off636_inb : ∀ (v3284 : BitVec 32) (k0_hw634 : k0_chk634 v3284), ∀ a, (k0_off636 v3284) a + S1x1024.size a ≤ S16384x1024.size a := fun v3284 k0_hw634 => k0_hw634

def k0_off637 (v3289 : BitVec 32) : Fin 2 → Nat :=
  let c0_i32_2009 : BitVec 32 := 0#32
  ![v3289.toNat, 0]

def k0_chk635 (v3289 : BitVec 32) : Prop :=
  (∀ a, (k0_off637 v3289) a + S1x1024.size a ≤ S16384x1024.size a)
theorem k0_off637_inb : ∀ (v3289 : BitVec 32) (k0_hw635 : k0_chk635 v3289), ∀ a, (k0_off637 v3289) a + S1x1024.size a ≤ S16384x1024.size a := fun v3289 k0_hw635 => k0_hw635

def k0_off638 (v3294 : BitVec 32) : Fin 2 → Nat :=
  let c0_i32_2012 : BitVec 32 := 0#32
  ![v3294.toNat, 0]

def k0_chk636 (v3294 : BitVec 32) : Prop :=
  (∀ a, (k0_off638 v3294) a + S1x1024.size a ≤ S16384x1024.size a)
theorem k0_off638_inb : ∀ (v3294 : BitVec 32) (k0_hw636 : k0_chk636 v3294), ∀ a, (k0_off638 v3294) a + S1x1024.size a ≤ S16384x1024.size a := fun v3294 k0_hw636 => k0_hw636

def k0_off639 (v3299 : BitVec 32) : Fin 2 → Nat :=
  let c0_i32_2015 : BitVec 32 := 0#32
  ![v3299.toNat, 0]

def k0_chk637 (v3299 : BitVec 32) : Prop :=
  (∀ a, (k0_off639 v3299) a + S1x1024.size a ≤ S16384x1024.size a)
theorem k0_off639_inb : ∀ (v3299 : BitVec 32) (k0_hw637 : k0_chk637 v3299), ∀ a, (k0_off639 v3299) a + S1x1024.size a ≤ S16384x1024.size a := fun v3299 k0_hw637 => k0_hw637

def k0_off640 (v3304 : BitVec 32) : Fin 2 → Nat :=
  let c0_i32_2018 : BitVec 32 := 0#32
  ![v3304.toNat, 0]

def k0_chk638 (v3304 : BitVec 32) : Prop :=
  (∀ a, (k0_off640 v3304) a + S1x1024.size a ≤ S16384x1024.size a)
theorem k0_off640_inb : ∀ (v3304 : BitVec 32) (k0_hw638 : k0_chk638 v3304), ∀ a, (k0_off640 v3304) a + S1x1024.size a ≤ S16384x1024.size a := fun v3304 k0_hw638 => k0_hw638

def k0_off641 (v3309 : BitVec 32) : Fin 2 → Nat :=
  let c0_i32_2021 : BitVec 32 := 0#32
  ![v3309.toNat, 0]

def k0_chk639 (v3309 : BitVec 32) : Prop :=
  (∀ a, (k0_off641 v3309) a + S1x1024.size a ≤ S16384x1024.size a)
theorem k0_off641_inb : ∀ (v3309 : BitVec 32) (k0_hw639 : k0_chk639 v3309), ∀ a, (k0_off641 v3309) a + S1x1024.size a ≤ S16384x1024.size a := fun v3309 k0_hw639 => k0_hw639

def k0_off642 (v3314 : BitVec 32) : Fin 2 → Nat :=
  let c0_i32_2024 : BitVec 32 := 0#32
  ![v3314.toNat, 0]

def k0_chk640 (v3314 : BitVec 32) : Prop :=
  (∀ a, (k0_off642 v3314) a + S1x1024.size a ≤ S16384x1024.size a)
theorem k0_off642_inb : ∀ (v3314 : BitVec 32) (k0_hw640 : k0_chk640 v3314), ∀ a, (k0_off642 v3314) a + S1x1024.size a ≤ S16384x1024.size a := fun v3314 k0_hw640 => k0_hw640

def k0_off643 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32_2038 : BitVec 32 := 1024#32
  let v3330 : BitVec 32 := Scalar.muli v2 c1024_i32_2038
  let c128_i32_2039 : BitVec 32 := 128#32
  let v3331 : BitVec 32 := Scalar.addi v3330 c128_i32_2039
  let v3332 : Index := Scalar.indexCast v3331
  let c0_2040 : Index := 0#32
  ![v3332.toNat, 0]
def k0_off644 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32_2043 : BitVec 32 := 1024#32
  let v3336 : BitVec 32 := Scalar.muli v2 c1024_i32_2043
  let c128_i32_2044 : BitVec 32 := 128#32
  let v3337 : BitVec 32 := Scalar.addi v3336 c128_i32_2044
  let c0_i32_2051 : BitVec 32 := 0#32
  ![v3337.toNat, 0]
def k0_dev7 (d0 : Dev nD) : Nat :=
  let c0_i32_2049 : BitVec 32 := 0#32
  let c1_i32_2045 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v3338 : BitVec 32 := Scalar.subi c1_i32_2045 v2
  let c2_i32_2048 : BitVec 32 := 2#32
  let v3339 : BitVec 32 := Scalar.muli v3338 c2_i32_2048
  let v3340 : BitVec 32 := Scalar.addi c0_i32_2049 v3339
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2050 : BitVec 32 := 1#32
  let v3341 : BitVec 32 := Scalar.muli v5 c1_i32_2050
  let v3342 : BitVec 32 := Scalar.addi v3340 v3341
  v3342.toNat
def k0_dev8 (d0 : Dev nD) : Nat :=
  let c0_i32_2068 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_2067 : BitVec 32 := 2#32
  let v3363 : BitVec 32 := Scalar.muli v2 c2_i32_2067
  let v3364 : BitVec 32 := Scalar.addi c0_i32_2068 v3363
  let c1_i32_2064 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v3362 : BitVec 32 := Scalar.subi c1_i32_2064 v5
  let c1_i32_2069 : BitVec 32 := 1#32
  let v3365 : BitVec 32 := Scalar.muli v3362 c1_i32_2069
  let v3366 : BitVec 32 := Scalar.addi v3364 v3365
  v3366.toNat
def k0_off645 (v3373 : BitVec 32) : Fin 2 → Nat :=
  let c0_i32_2076 : BitVec 32 := 0#32
  ![v3373.toNat, 0]

def k0_chk641 (v3373 : BitVec 32) : Prop :=
  (∀ a, (k0_off645 v3373) a + S1x1024.size a ≤ S16384x1024.size a)
theorem k0_off645_inb : ∀ (v3373 : BitVec 32) (k0_hw641 : k0_chk641 v3373), ∀ a, (k0_off645 v3373) a + S1x1024.size a ≤ S16384x1024.size a := fun v3373 k0_hw641 => k0_hw641

def k0_off646 (v3378 : BitVec 32) : Fin 2 → Nat :=
  let c0_i32_2079 : BitVec 32 := 0#32
  ![v3378.toNat, 0]

def k0_chk642 (v3378 : BitVec 32) : Prop :=
  (∀ a, (k0_off646 v3378) a + S1x1024.size a ≤ S16384x1024.size a)
theorem k0_off646_inb : ∀ (v3378 : BitVec 32) (k0_hw642 : k0_chk642 v3378), ∀ a, (k0_off646 v3378) a + S1x1024.size a ≤ S16384x1024.size a := fun v3378 k0_hw642 => k0_hw642

def k0_off647 (v3383 : BitVec 32) : Fin 2 → Nat :=
  let c0_i32_2082 : BitVec 32 := 0#32
  ![v3383.toNat, 0]

def k0_chk643 (v3383 : BitVec 32) : Prop :=
  (∀ a, (k0_off647 v3383) a + S1x1024.size a ≤ S16384x1024.size a)
theorem k0_off647_inb : ∀ (v3383 : BitVec 32) (k0_hw643 : k0_chk643 v3383), ∀ a, (k0_off647 v3383) a + S1x1024.size a ≤ S16384x1024.size a := fun v3383 k0_hw643 => k0_hw643

def k0_off648 (v3388 : BitVec 32) : Fin 2 → Nat :=
  let c0_i32_2085 : BitVec 32 := 0#32
  ![v3388.toNat, 0]

def k0_chk644 (v3388 : BitVec 32) : Prop :=
  (∀ a, (k0_off648 v3388) a + S1x1024.size a ≤ S16384x1024.size a)
theorem k0_off648_inb : ∀ (v3388 : BitVec 32) (k0_hw644 : k0_chk644 v3388), ∀ a, (k0_off648 v3388) a + S1x1024.size a ≤ S16384x1024.size a := fun v3388 k0_hw644 => k0_hw644

def k0_off649 (v3393 : BitVec 32) : Fin 2 → Nat :=
  let c0_i32_2088 : BitVec 32 := 0#32
  ![v3393.toNat, 0]

def k0_chk645 (v3393 : BitVec 32) : Prop :=
  (∀ a, (k0_off649 v3393) a + S1x1024.size a ≤ S16384x1024.size a)
theorem k0_off649_inb : ∀ (v3393 : BitVec 32) (k0_hw645 : k0_chk645 v3393), ∀ a, (k0_off649 v3393) a + S1x1024.size a ≤ S16384x1024.size a := fun v3393 k0_hw645 => k0_hw645

def k0_off650 (v3398 : BitVec 32) : Fin 2 → Nat :=
  let c0_i32_2091 : BitVec 32 := 0#32
  ![v3398.toNat, 0]

def k0_chk646 (v3398 : BitVec 32) : Prop :=
  (∀ a, (k0_off650 v3398) a + S1x1024.size a ≤ S16384x1024.size a)
theorem k0_off650_inb : ∀ (v3398 : BitVec 32) (k0_hw646 : k0_chk646 v3398), ∀ a, (k0_off650 v3398) a + S1x1024.size a ≤ S16384x1024.size a := fun v3398 k0_hw646 => k0_hw646

def k0_off651 (v3403 : BitVec 32) : Fin 2 → Nat :=
  let c0_i32_2094 : BitVec 32 := 0#32
  ![v3403.toNat, 0]

def k0_chk647 (v3403 : BitVec 32) : Prop :=
  (∀ a, (k0_off651 v3403) a + S1x1024.size a ≤ S16384x1024.size a)
theorem k0_off651_inb : ∀ (v3403 : BitVec 32) (k0_hw647 : k0_chk647 v3403), ∀ a, (k0_off651 v3403) a + S1x1024.size a ≤ S16384x1024.size a := fun v3403 k0_hw647 => k0_hw647

def k0_off652 (v3408 : BitVec 32) : Fin 2 → Nat :=
  let c0_i32_2097 : BitVec 32 := 0#32
  ![v3408.toNat, 0]

def k0_chk648 (v3408 : BitVec 32) : Prop :=
  (∀ a, (k0_off652 v3408) a + S1x1024.size a ≤ S16384x1024.size a)
theorem k0_off652_inb : ∀ (v3408 : BitVec 32) (k0_hw648 : k0_chk648 v3408), ∀ a, (k0_off652 v3408) a + S1x1024.size a ≤ S16384x1024.size a := fun v3408 k0_hw648 => k0_hw648

def k0_off653 (v3413 : BitVec 32) : Fin 2 → Nat :=
  let c0_i32_2100 : BitVec 32 := 0#32
  ![v3413.toNat, 0]

def k0_chk649 (v3413 : BitVec 32) : Prop :=
  (∀ a, (k0_off653 v3413) a + S1x1024.size a ≤ S16384x1024.size a)
theorem k0_off653_inb : ∀ (v3413 : BitVec 32) (k0_hw649 : k0_chk649 v3413), ∀ a, (k0_off653 v3413) a + S1x1024.size a ≤ S16384x1024.size a := fun v3413 k0_hw649 => k0_hw649

def k0_off654 (v3418 : BitVec 32) : Fin 2 → Nat :=
  let c0_i32_2103 : BitVec 32 := 0#32
  ![v3418.toNat, 0]

def k0_chk650 (v3418 : BitVec 32) : Prop :=
  (∀ a, (k0_off654 v3418) a + S1x1024.size a ≤ S16384x1024.size a)
theorem k0_off654_inb : ∀ (v3418 : BitVec 32) (k0_hw650 : k0_chk650 v3418), ∀ a, (k0_off654 v3418) a + S1x1024.size a ≤ S16384x1024.size a := fun v3418 k0_hw650 => k0_hw650

def k0_off655 (v3423 : BitVec 32) : Fin 2 → Nat :=
  let c0_i32_2106 : BitVec 32 := 0#32
  ![v3423.toNat, 0]

def k0_chk651 (v3423 : BitVec 32) : Prop :=
  (∀ a, (k0_off655 v3423) a + S1x1024.size a ≤ S16384x1024.size a)
theorem k0_off655_inb : ∀ (v3423 : BitVec 32) (k0_hw651 : k0_chk651 v3423), ∀ a, (k0_off655 v3423) a + S1x1024.size a ≤ S16384x1024.size a := fun v3423 k0_hw651 => k0_hw651

def k0_off656 (v3428 : BitVec 32) : Fin 2 → Nat :=
  let c0_i32_2109 : BitVec 32 := 0#32
  ![v3428.toNat, 0]

def k0_chk652 (v3428 : BitVec 32) : Prop :=
  (∀ a, (k0_off656 v3428) a + S1x1024.size a ≤ S16384x1024.size a)
theorem k0_off656_inb : ∀ (v3428 : BitVec 32) (k0_hw652 : k0_chk652 v3428), ∀ a, (k0_off656 v3428) a + S1x1024.size a ≤ S16384x1024.size a := fun v3428 k0_hw652 => k0_hw652

def k0_off657 (v3433 : BitVec 32) : Fin 2 → Nat :=
  let c0_i32_2112 : BitVec 32 := 0#32
  ![v3433.toNat, 0]

def k0_chk653 (v3433 : BitVec 32) : Prop :=
  (∀ a, (k0_off657 v3433) a + S1x1024.size a ≤ S16384x1024.size a)
theorem k0_off657_inb : ∀ (v3433 : BitVec 32) (k0_hw653 : k0_chk653 v3433), ∀ a, (k0_off657 v3433) a + S1x1024.size a ≤ S16384x1024.size a := fun v3433 k0_hw653 => k0_hw653

def k0_off658 (v3438 : BitVec 32) : Fin 2 → Nat :=
  let c0_i32_2115 : BitVec 32 := 0#32
  ![v3438.toNat, 0]

def k0_chk654 (v3438 : BitVec 32) : Prop :=
  (∀ a, (k0_off658 v3438) a + S1x1024.size a ≤ S16384x1024.size a)
theorem k0_off658_inb : ∀ (v3438 : BitVec 32) (k0_hw654 : k0_chk654 v3438), ∀ a, (k0_off658 v3438) a + S1x1024.size a ≤ S16384x1024.size a := fun v3438 k0_hw654 => k0_hw654

def k0_off659 (v3443 : BitVec 32) : Fin 2 → Nat :=
  let c0_i32_2118 : BitVec 32 := 0#32
  ![v3443.toNat, 0]

def k0_chk655 (v3443 : BitVec 32) : Prop :=
  (∀ a, (k0_off659 v3443) a + S1x1024.size a ≤ S16384x1024.size a)
theorem k0_off659_inb : ∀ (v3443 : BitVec 32) (k0_hw655 : k0_chk655 v3443), ∀ a, (k0_off659 v3443) a + S1x1024.size a ≤ S16384x1024.size a := fun v3443 k0_hw655 => k0_hw655

def k0_off660 (v3448 : BitVec 32) : Fin 2 → Nat :=
  let c0_i32_2121 : BitVec 32 := 0#32
  ![v3448.toNat, 0]

def k0_chk656 (v3448 : BitVec 32) : Prop :=
  (∀ a, (k0_off660 v3448) a + S1x1024.size a ≤ S16384x1024.size a)
theorem k0_off660_inb : ∀ (v3448 : BitVec 32) (k0_hw656 : k0_chk656 v3448), ∀ a, (k0_off660 v3448) a + S1x1024.size a ≤ S16384x1024.size a := fun v3448 k0_hw656 => k0_hw656

def k0_off661 (v3453 : BitVec 32) : Fin 2 → Nat :=
  let c0_i32_2124 : BitVec 32 := 0#32
  ![v3453.toNat, 0]

def k0_chk657 (v3453 : BitVec 32) : Prop :=
  (∀ a, (k0_off661 v3453) a + S1x1024.size a ≤ S16384x1024.size a)
theorem k0_off661_inb : ∀ (v3453 : BitVec 32) (k0_hw657 : k0_chk657 v3453), ∀ a, (k0_off661 v3453) a + S1x1024.size a ≤ S16384x1024.size a := fun v3453 k0_hw657 => k0_hw657

def k0_off662 (v3458 : BitVec 32) : Fin 2 → Nat :=
  let c0_i32_2127 : BitVec 32 := 0#32
  ![v3458.toNat, 0]

def k0_chk658 (v3458 : BitVec 32) : Prop :=
  (∀ a, (k0_off662 v3458) a + S1x1024.size a ≤ S16384x1024.size a)
theorem k0_off662_inb : ∀ (v3458 : BitVec 32) (k0_hw658 : k0_chk658 v3458), ∀ a, (k0_off662 v3458) a + S1x1024.size a ≤ S16384x1024.size a := fun v3458 k0_hw658 => k0_hw658

def k0_off663 (v3463 : BitVec 32) : Fin 2 → Nat :=
  let c0_i32_2130 : BitVec 32 := 0#32
  ![v3463.toNat, 0]

def k0_chk659 (v3463 : BitVec 32) : Prop :=
  (∀ a, (k0_off663 v3463) a + S1x1024.size a ≤ S16384x1024.size a)
theorem k0_off663_inb : ∀ (v3463 : BitVec 32) (k0_hw659 : k0_chk659 v3463), ∀ a, (k0_off663 v3463) a + S1x1024.size a ≤ S16384x1024.size a := fun v3463 k0_hw659 => k0_hw659

def k0_off664 (v3468 : BitVec 32) : Fin 2 → Nat :=
  let c0_i32_2133 : BitVec 32 := 0#32
  ![v3468.toNat, 0]

def k0_chk660 (v3468 : BitVec 32) : Prop :=
  (∀ a, (k0_off664 v3468) a + S1x1024.size a ≤ S16384x1024.size a)
theorem k0_off664_inb : ∀ (v3468 : BitVec 32) (k0_hw660 : k0_chk660 v3468), ∀ a, (k0_off664 v3468) a + S1x1024.size a ≤ S16384x1024.size a := fun v3468 k0_hw660 => k0_hw660

def k0_off665 (v3473 : BitVec 32) : Fin 2 → Nat :=
  let c0_i32_2136 : BitVec 32 := 0#32
  ![v3473.toNat, 0]

def k0_chk661 (v3473 : BitVec 32) : Prop :=
  (∀ a, (k0_off665 v3473) a + S1x1024.size a ≤ S16384x1024.size a)
theorem k0_off665_inb : ∀ (v3473 : BitVec 32) (k0_hw661 : k0_chk661 v3473), ∀ a, (k0_off665 v3473) a + S1x1024.size a ≤ S16384x1024.size a := fun v3473 k0_hw661 => k0_hw661

def k0_off666 (v3478 : BitVec 32) : Fin 2 → Nat :=
  let c0_i32_2139 : BitVec 32 := 0#32
  ![v3478.toNat, 0]

def k0_chk662 (v3478 : BitVec 32) : Prop :=
  (∀ a, (k0_off666 v3478) a + S1x1024.size a ≤ S16384x1024.size a)
theorem k0_off666_inb : ∀ (v3478 : BitVec 32) (k0_hw662 : k0_chk662 v3478), ∀ a, (k0_off666 v3478) a + S1x1024.size a ≤ S16384x1024.size a := fun v3478 k0_hw662 => k0_hw662

def k0_off667 (v3483 : BitVec 32) : Fin 2 → Nat :=
  let c0_i32_2142 : BitVec 32 := 0#32
  ![v3483.toNat, 0]

def k0_chk663 (v3483 : BitVec 32) : Prop :=
  (∀ a, (k0_off667 v3483) a + S1x1024.size a ≤ S16384x1024.size a)
theorem k0_off667_inb : ∀ (v3483 : BitVec 32) (k0_hw663 : k0_chk663 v3483), ∀ a, (k0_off667 v3483) a + S1x1024.size a ≤ S16384x1024.size a := fun v3483 k0_hw663 => k0_hw663

def k0_off668 (v3488 : BitVec 32) : Fin 2 → Nat :=
  let c0_i32_2145 : BitVec 32 := 0#32
  ![v3488.toNat, 0]

def k0_chk664 (v3488 : BitVec 32) : Prop :=
  (∀ a, (k0_off668 v3488) a + S1x1024.size a ≤ S16384x1024.size a)
theorem k0_off668_inb : ∀ (v3488 : BitVec 32) (k0_hw664 : k0_chk664 v3488), ∀ a, (k0_off668 v3488) a + S1x1024.size a ≤ S16384x1024.size a := fun v3488 k0_hw664 => k0_hw664

def k0_off669 (v3493 : BitVec 32) : Fin 2 → Nat :=
  let c0_i32_2148 : BitVec 32 := 0#32
  ![v3493.toNat, 0]

def k0_chk665 (v3493 : BitVec 32) : Prop :=
  (∀ a, (k0_off669 v3493) a + S1x1024.size a ≤ S16384x1024.size a)
theorem k0_off669_inb : ∀ (v3493 : BitVec 32) (k0_hw665 : k0_chk665 v3493), ∀ a, (k0_off669 v3493) a + S1x1024.size a ≤ S16384x1024.size a := fun v3493 k0_hw665 => k0_hw665

def k0_off670 (v3498 : BitVec 32) : Fin 2 → Nat :=
  let c0_i32_2151 : BitVec 32 := 0#32
  ![v3498.toNat, 0]

def k0_chk666 (v3498 : BitVec 32) : Prop :=
  (∀ a, (k0_off670 v3498) a + S1x1024.size a ≤ S16384x1024.size a)
theorem k0_off670_inb : ∀ (v3498 : BitVec 32) (k0_hw666 : k0_chk666 v3498), ∀ a, (k0_off670 v3498) a + S1x1024.size a ≤ S16384x1024.size a := fun v3498 k0_hw666 => k0_hw666

def k0_off671 (v3503 : BitVec 32) : Fin 2 → Nat :=
  let c0_i32_2154 : BitVec 32 := 0#32
  ![v3503.toNat, 0]

def k0_chk667 (v3503 : BitVec 32) : Prop :=
  (∀ a, (k0_off671 v3503) a + S1x1024.size a ≤ S16384x1024.size a)
theorem k0_off671_inb : ∀ (v3503 : BitVec 32) (k0_hw667 : k0_chk667 v3503), ∀ a, (k0_off671 v3503) a + S1x1024.size a ≤ S16384x1024.size a := fun v3503 k0_hw667 => k0_hw667

def k0_off672 (v3508 : BitVec 32) : Fin 2 → Nat :=
  let c0_i32_2157 : BitVec 32 := 0#32
  ![v3508.toNat, 0]

def k0_chk668 (v3508 : BitVec 32) : Prop :=
  (∀ a, (k0_off672 v3508) a + S1x1024.size a ≤ S16384x1024.size a)
theorem k0_off672_inb : ∀ (v3508 : BitVec 32) (k0_hw668 : k0_chk668 v3508), ∀ a, (k0_off672 v3508) a + S1x1024.size a ≤ S16384x1024.size a := fun v3508 k0_hw668 => k0_hw668

def k0_off673 (v3513 : BitVec 32) : Fin 2 → Nat :=
  let c0_i32_2160 : BitVec 32 := 0#32
  ![v3513.toNat, 0]

def k0_chk669 (v3513 : BitVec 32) : Prop :=
  (∀ a, (k0_off673 v3513) a + S1x1024.size a ≤ S16384x1024.size a)
theorem k0_off673_inb : ∀ (v3513 : BitVec 32) (k0_hw669 : k0_chk669 v3513), ∀ a, (k0_off673 v3513) a + S1x1024.size a ≤ S16384x1024.size a := fun v3513 k0_hw669 => k0_hw669

def k0_off674 (v3518 : BitVec 32) : Fin 2 → Nat :=
  let c0_i32_2163 : BitVec 32 := 0#32
  ![v3518.toNat, 0]

def k0_chk670 (v3518 : BitVec 32) : Prop :=
  (∀ a, (k0_off674 v3518) a + S1x1024.size a ≤ S16384x1024.size a)
theorem k0_off674_inb : ∀ (v3518 : BitVec 32) (k0_hw670 : k0_chk670 v3518), ∀ a, (k0_off674 v3518) a + S1x1024.size a ≤ S16384x1024.size a := fun v3518 k0_hw670 => k0_hw670

def k0_off675 (v3523 : BitVec 32) : Fin 2 → Nat :=
  let c0_i32_2166 : BitVec 32 := 0#32
  ![v3523.toNat, 0]

def k0_chk671 (v3523 : BitVec 32) : Prop :=
  (∀ a, (k0_off675 v3523) a + S1x1024.size a ≤ S16384x1024.size a)
theorem k0_off675_inb : ∀ (v3523 : BitVec 32) (k0_hw671 : k0_chk671 v3523), ∀ a, (k0_off675 v3523) a + S1x1024.size a ≤ S16384x1024.size a := fun v3523 k0_hw671 => k0_hw671

def k0_off676 (v3528 : BitVec 32) : Fin 2 → Nat :=
  let c0_i32_2169 : BitVec 32 := 0#32
  ![v3528.toNat, 0]

def k0_chk672 (v3528 : BitVec 32) : Prop :=
  (∀ a, (k0_off676 v3528) a + S1x1024.size a ≤ S16384x1024.size a)
theorem k0_off676_inb : ∀ (v3528 : BitVec 32) (k0_hw672 : k0_chk672 v3528), ∀ a, (k0_off676 v3528) a + S1x1024.size a ≤ S16384x1024.size a := fun v3528 k0_hw672 => k0_hw672

def k0_off677 (v3533 : BitVec 32) : Fin 2 → Nat :=
  let c0_i32_2172 : BitVec 32 := 0#32
  ![v3533.toNat, 0]

def k0_chk673 (v3533 : BitVec 32) : Prop :=
  (∀ a, (k0_off677 v3533) a + S1x1024.size a ≤ S16384x1024.size a)
theorem k0_off677_inb : ∀ (v3533 : BitVec 32) (k0_hw673 : k0_chk673 v3533), ∀ a, (k0_off677 v3533) a + S1x1024.size a ≤ S16384x1024.size a := fun v3533 k0_hw673 => k0_hw673

def k0_off678 (v3538 : BitVec 32) : Fin 2 → Nat :=
  let c0_i32_2175 : BitVec 32 := 0#32
  ![v3538.toNat, 0]

def k0_chk674 (v3538 : BitVec 32) : Prop :=
  (∀ a, (k0_off678 v3538) a + S1x1024.size a ≤ S16384x1024.size a)
theorem k0_off678_inb : ∀ (v3538 : BitVec 32) (k0_hw674 : k0_chk674 v3538), ∀ a, (k0_off678 v3538) a + S1x1024.size a ≤ S16384x1024.size a := fun v3538 k0_hw674 => k0_hw674

def k0_off679 (v3543 : BitVec 32) : Fin 2 → Nat :=
  let c0_i32_2178 : BitVec 32 := 0#32
  ![v3543.toNat, 0]

def k0_chk675 (v3543 : BitVec 32) : Prop :=
  (∀ a, (k0_off679 v3543) a + S1x1024.size a ≤ S16384x1024.size a)
theorem k0_off679_inb : ∀ (v3543 : BitVec 32) (k0_hw675 : k0_chk675 v3543), ∀ a, (k0_off679 v3543) a + S1x1024.size a ≤ S16384x1024.size a := fun v3543 k0_hw675 => k0_hw675

def k0_off680 (v3548 : BitVec 32) : Fin 2 → Nat :=
  let c0_i32_2181 : BitVec 32 := 0#32
  ![v3548.toNat, 0]

def k0_chk676 (v3548 : BitVec 32) : Prop :=
  (∀ a, (k0_off680 v3548) a + S1x1024.size a ≤ S16384x1024.size a)
theorem k0_off680_inb : ∀ (v3548 : BitVec 32) (k0_hw676 : k0_chk676 v3548), ∀ a, (k0_off680 v3548) a + S1x1024.size a ≤ S16384x1024.size a := fun v3548 k0_hw676 => k0_hw676

def k0_off681 (v3553 : BitVec 32) : Fin 2 → Nat :=
  let c0_i32_2184 : BitVec 32 := 0#32
  ![v3553.toNat, 0]

def k0_chk677 (v3553 : BitVec 32) : Prop :=
  (∀ a, (k0_off681 v3553) a + S1x1024.size a ≤ S16384x1024.size a)
theorem k0_off681_inb : ∀ (v3553 : BitVec 32) (k0_hw677 : k0_chk677 v3553), ∀ a, (k0_off681 v3553) a + S1x1024.size a ≤ S16384x1024.size a := fun v3553 k0_hw677 => k0_hw677

def k0_off682 (v3558 : BitVec 32) : Fin 2 → Nat :=
  let c0_i32_2187 : BitVec 32 := 0#32
  ![v3558.toNat, 0]

def k0_chk678 (v3558 : BitVec 32) : Prop :=
  (∀ a, (k0_off682 v3558) a + S1x1024.size a ≤ S16384x1024.size a)
theorem k0_off682_inb : ∀ (v3558 : BitVec 32) (k0_hw678 : k0_chk678 v3558), ∀ a, (k0_off682 v3558) a + S1x1024.size a ≤ S16384x1024.size a := fun v3558 k0_hw678 => k0_hw678

def k0_off683 (v3563 : BitVec 32) : Fin 2 → Nat :=
  let c0_i32_2190 : BitVec 32 := 0#32
  ![v3563.toNat, 0]

def k0_chk679 (v3563 : BitVec 32) : Prop :=
  (∀ a, (k0_off683 v3563) a + S1x1024.size a ≤ S16384x1024.size a)
theorem k0_off683_inb : ∀ (v3563 : BitVec 32) (k0_hw679 : k0_chk679 v3563), ∀ a, (k0_off683 v3563) a + S1x1024.size a ≤ S16384x1024.size a := fun v3563 k0_hw679 => k0_hw679

def k0_off684 (v3568 : BitVec 32) : Fin 2 → Nat :=
  let c0_i32_2193 : BitVec 32 := 0#32
  ![v3568.toNat, 0]

def k0_chk680 (v3568 : BitVec 32) : Prop :=
  (∀ a, (k0_off684 v3568) a + S1x1024.size a ≤ S16384x1024.size a)
theorem k0_off684_inb : ∀ (v3568 : BitVec 32) (k0_hw680 : k0_chk680 v3568), ∀ a, (k0_off684 v3568) a + S1x1024.size a ≤ S16384x1024.size a := fun v3568 k0_hw680 => k0_hw680

def k0_off685 (v3573 : BitVec 32) : Fin 2 → Nat :=
  let c0_i32_2196 : BitVec 32 := 0#32
  ![v3573.toNat, 0]

def k0_chk681 (v3573 : BitVec 32) : Prop :=
  (∀ a, (k0_off685 v3573) a + S1x1024.size a ≤ S16384x1024.size a)
theorem k0_off685_inb : ∀ (v3573 : BitVec 32) (k0_hw681 : k0_chk681 v3573), ∀ a, (k0_off685 v3573) a + S1x1024.size a ≤ S16384x1024.size a := fun v3573 k0_hw681 => k0_hw681

def k0_off686 (v3578 : BitVec 32) : Fin 2 → Nat :=
  let c0_i32_2199 : BitVec 32 := 0#32
  ![v3578.toNat, 0]

def k0_chk682 (v3578 : BitVec 32) : Prop :=
  (∀ a, (k0_off686 v3578) a + S1x1024.size a ≤ S16384x1024.size a)
theorem k0_off686_inb : ∀ (v3578 : BitVec 32) (k0_hw682 : k0_chk682 v3578), ∀ a, (k0_off686 v3578) a + S1x1024.size a ≤ S16384x1024.size a := fun v3578 k0_hw682 => k0_hw682

def k0_off687 (v3583 : BitVec 32) : Fin 2 → Nat :=
  let c0_i32_2202 : BitVec 32 := 0#32
  ![v3583.toNat, 0]

def k0_chk683 (v3583 : BitVec 32) : Prop :=
  (∀ a, (k0_off687 v3583) a + S1x1024.size a ≤ S16384x1024.size a)
theorem k0_off687_inb : ∀ (v3583 : BitVec 32) (k0_hw683 : k0_chk683 v3583), ∀ a, (k0_off687 v3583) a + S1x1024.size a ≤ S16384x1024.size a := fun v3583 k0_hw683 => k0_hw683

def k0_off688 (v3588 : BitVec 32) : Fin 2 → Nat :=
  let c0_i32_2205 : BitVec 32 := 0#32
  ![v3588.toNat, 0]

def k0_chk684 (v3588 : BitVec 32) : Prop :=
  (∀ a, (k0_off688 v3588) a + S1x1024.size a ≤ S16384x1024.size a)
theorem k0_off688_inb : ∀ (v3588 : BitVec 32) (k0_hw684 : k0_chk684 v3588), ∀ a, (k0_off688 v3588) a + S1x1024.size a ≤ S16384x1024.size a := fun v3588 k0_hw684 => k0_hw684

def k0_off689 (v3593 : BitVec 32) : Fin 2 → Nat :=
  let c0_i32_2208 : BitVec 32 := 0#32
  ![v3593.toNat, 0]

def k0_chk685 (v3593 : BitVec 32) : Prop :=
  (∀ a, (k0_off689 v3593) a + S1x1024.size a ≤ S16384x1024.size a)
theorem k0_off689_inb : ∀ (v3593 : BitVec 32) (k0_hw685 : k0_chk685 v3593), ∀ a, (k0_off689 v3593) a + S1x1024.size a ≤ S16384x1024.size a := fun v3593 k0_hw685 => k0_hw685

def k0_off690 (v3598 : BitVec 32) : Fin 2 → Nat :=
  let c0_i32_2211 : BitVec 32 := 0#32
  ![v3598.toNat, 0]

def k0_chk686 (v3598 : BitVec 32) : Prop :=
  (∀ a, (k0_off690 v3598) a + S1x1024.size a ≤ S16384x1024.size a)
theorem k0_off690_inb : ∀ (v3598 : BitVec 32) (k0_hw686 : k0_chk686 v3598), ∀ a, (k0_off690 v3598) a + S1x1024.size a ≤ S16384x1024.size a := fun v3598 k0_hw686 => k0_hw686

def k0_off691 (v3603 : BitVec 32) : Fin 2 → Nat :=
  let c0_i32_2214 : BitVec 32 := 0#32
  ![v3603.toNat, 0]

def k0_chk687 (v3603 : BitVec 32) : Prop :=
  (∀ a, (k0_off691 v3603) a + S1x1024.size a ≤ S16384x1024.size a)
theorem k0_off691_inb : ∀ (v3603 : BitVec 32) (k0_hw687 : k0_chk687 v3603), ∀ a, (k0_off691 v3603) a + S1x1024.size a ≤ S16384x1024.size a := fun v3603 k0_hw687 => k0_hw687

def k0_off692 (v3608 : BitVec 32) : Fin 2 → Nat :=
  let c0_i32_2217 : BitVec 32 := 0#32
  ![v3608.toNat, 0]

def k0_chk688 (v3608 : BitVec 32) : Prop :=
  (∀ a, (k0_off692 v3608) a + S1x1024.size a ≤ S16384x1024.size a)
theorem k0_off692_inb : ∀ (v3608 : BitVec 32) (k0_hw688 : k0_chk688 v3608), ∀ a, (k0_off692 v3608) a + S1x1024.size a ≤ S16384x1024.size a := fun v3608 k0_hw688 => k0_hw688

def k0_off693 (v3613 : BitVec 32) : Fin 2 → Nat :=
  let c0_i32_2220 : BitVec 32 := 0#32
  ![v3613.toNat, 0]

def k0_chk689 (v3613 : BitVec 32) : Prop :=
  (∀ a, (k0_off693 v3613) a + S1x1024.size a ≤ S16384x1024.size a)
theorem k0_off693_inb : ∀ (v3613 : BitVec 32) (k0_hw689 : k0_chk689 v3613), ∀ a, (k0_off693 v3613) a + S1x1024.size a ≤ S16384x1024.size a := fun v3613 k0_hw689 => k0_hw689

def k0_off694 (v3618 : BitVec 32) : Fin 2 → Nat :=
  let c0_i32_2223 : BitVec 32 := 0#32
  ![v3618.toNat, 0]

def k0_chk690 (v3618 : BitVec 32) : Prop :=
  (∀ a, (k0_off694 v3618) a + S1x1024.size a ≤ S16384x1024.size a)
theorem k0_off694_inb : ∀ (v3618 : BitVec 32) (k0_hw690 : k0_chk690 v3618), ∀ a, (k0_off694 v3618) a + S1x1024.size a ≤ S16384x1024.size a := fun v3618 k0_hw690 => k0_hw690

def k0_off695 (v3623 : BitVec 32) : Fin 2 → Nat :=
  let c0_i32_2226 : BitVec 32 := 0#32
  ![v3623.toNat, 0]

def k0_chk691 (v3623 : BitVec 32) : Prop :=
  (∀ a, (k0_off695 v3623) a + S1x1024.size a ≤ S16384x1024.size a)
theorem k0_off695_inb : ∀ (v3623 : BitVec 32) (k0_hw691 : k0_chk691 v3623), ∀ a, (k0_off695 v3623) a + S1x1024.size a ≤ S16384x1024.size a := fun v3623 k0_hw691 => k0_hw691

def k0_off696 (v3628 : BitVec 32) : Fin 2 → Nat :=
  let c0_i32_2229 : BitVec 32 := 0#32
  ![v3628.toNat, 0]

def k0_chk692 (v3628 : BitVec 32) : Prop :=
  (∀ a, (k0_off696 v3628) a + S1x1024.size a ≤ S16384x1024.size a)
theorem k0_off696_inb : ∀ (v3628 : BitVec 32) (k0_hw692 : k0_chk692 v3628), ∀ a, (k0_off696 v3628) a + S1x1024.size a ≤ S16384x1024.size a := fun v3628 k0_hw692 => k0_hw692

def k0_off697 (v3633 : BitVec 32) : Fin 2 → Nat :=
  let c0_i32_2232 : BitVec 32 := 0#32
  ![v3633.toNat, 0]

def k0_chk693 (v3633 : BitVec 32) : Prop :=
  (∀ a, (k0_off697 v3633) a + S1x1024.size a ≤ S16384x1024.size a)
theorem k0_off697_inb : ∀ (v3633 : BitVec 32) (k0_hw693 : k0_chk693 v3633), ∀ a, (k0_off697 v3633) a + S1x1024.size a ≤ S16384x1024.size a := fun v3633 k0_hw693 => k0_hw693

def k0_off698 (v3638 : BitVec 32) : Fin 2 → Nat :=
  let c0_i32_2235 : BitVec 32 := 0#32
  ![v3638.toNat, 0]

def k0_chk694 (v3638 : BitVec 32) : Prop :=
  (∀ a, (k0_off698 v3638) a + S1x1024.size a ≤ S16384x1024.size a)
theorem k0_off698_inb : ∀ (v3638 : BitVec 32) (k0_hw694 : k0_chk694 v3638), ∀ a, (k0_off698 v3638) a + S1x1024.size a ≤ S16384x1024.size a := fun v3638 k0_hw694 => k0_hw694

def k0_off699 (v3643 : BitVec 32) : Fin 2 → Nat :=
  let c0_i32_2238 : BitVec 32 := 0#32
  ![v3643.toNat, 0]

def k0_chk695 (v3643 : BitVec 32) : Prop :=
  (∀ a, (k0_off699 v3643) a + S1x1024.size a ≤ S16384x1024.size a)
theorem k0_off699_inb : ∀ (v3643 : BitVec 32) (k0_hw695 : k0_chk695 v3643), ∀ a, (k0_off699 v3643) a + S1x1024.size a ≤ S16384x1024.size a := fun v3643 k0_hw695 => k0_hw695

def k0_off700 (v3648 : BitVec 32) : Fin 2 → Nat :=
  let c0_i32_2241 : BitVec 32 := 0#32
  ![v3648.toNat, 0]

def k0_chk696 (v3648 : BitVec 32) : Prop :=
  (∀ a, (k0_off700 v3648) a + S1x1024.size a ≤ S16384x1024.size a)
theorem k0_off700_inb : ∀ (v3648 : BitVec 32) (k0_hw696 : k0_chk696 v3648), ∀ a, (k0_off700 v3648) a + S1x1024.size a ≤ S16384x1024.size a := fun v3648 k0_hw696 => k0_hw696

def k0_off701 (v3653 : BitVec 32) : Fin 2 → Nat :=
  let c0_i32_2244 : BitVec 32 := 0#32
  ![v3653.toNat, 0]

def k0_chk697 (v3653 : BitVec 32) : Prop :=
  (∀ a, (k0_off701 v3653) a + S1x1024.size a ≤ S16384x1024.size a)
theorem k0_off701_inb : ∀ (v3653 : BitVec 32) (k0_hw697 : k0_chk697 v3653), ∀ a, (k0_off701 v3653) a + S1x1024.size a ≤ S16384x1024.size a := fun v3653 k0_hw697 => k0_hw697

def k0_off702 (v3658 : BitVec 32) : Fin 2 → Nat :=
  let c0_i32_2247 : BitVec 32 := 0#32
  ![v3658.toNat, 0]

def k0_chk698 (v3658 : BitVec 32) : Prop :=
  (∀ a, (k0_off702 v3658) a + S1x1024.size a ≤ S16384x1024.size a)
theorem k0_off702_inb : ∀ (v3658 : BitVec 32) (k0_hw698 : k0_chk698 v3658), ∀ a, (k0_off702 v3658) a + S1x1024.size a ≤ S16384x1024.size a := fun v3658 k0_hw698 => k0_hw698

def k0_off703 (v3663 : BitVec 32) : Fin 2 → Nat :=
  let c0_i32_2250 : BitVec 32 := 0#32
  ![v3663.toNat, 0]

def k0_chk699 (v3663 : BitVec 32) : Prop :=
  (∀ a, (k0_off703 v3663) a + S1x1024.size a ≤ S16384x1024.size a)
theorem k0_off703_inb : ∀ (v3663 : BitVec 32) (k0_hw699 : k0_chk699 v3663), ∀ a, (k0_off703 v3663) a + S1x1024.size a ≤ S16384x1024.size a := fun v3663 k0_hw699 => k0_hw699

def k0_off704 (v3668 : BitVec 32) : Fin 2 → Nat :=
  let c0_i32_2253 : BitVec 32 := 0#32
  ![v3668.toNat, 0]

def k0_chk700 (v3668 : BitVec 32) : Prop :=
  (∀ a, (k0_off704 v3668) a + S1x1024.size a ≤ S16384x1024.size a)
theorem k0_off704_inb : ∀ (v3668 : BitVec 32) (k0_hw700 : k0_chk700 v3668), ∀ a, (k0_off704 v3668) a + S1x1024.size a ≤ S16384x1024.size a := fun v3668 k0_hw700 => k0_hw700

def k0_off705 (v3673 : BitVec 32) : Fin 2 → Nat :=
  let c0_i32_2256 : BitVec 32 := 0#32
  ![v3673.toNat, 0]

def k0_chk701 (v3673 : BitVec 32) : Prop :=
  (∀ a, (k0_off705 v3673) a + S1x1024.size a ≤ S16384x1024.size a)
theorem k0_off705_inb : ∀ (v3673 : BitVec 32) (k0_hw701 : k0_chk701 v3673), ∀ a, (k0_off705 v3673) a + S1x1024.size a ≤ S16384x1024.size a := fun v3673 k0_hw701 => k0_hw701

def k0_off706 (v3678 : BitVec 32) : Fin 2 → Nat :=
  let c0_i32_2259 : BitVec 32 := 0#32
  ![v3678.toNat, 0]

def k0_chk702 (v3678 : BitVec 32) : Prop :=
  (∀ a, (k0_off706 v3678) a + S1x1024.size a ≤ S16384x1024.size a)
theorem k0_off706_inb : ∀ (v3678 : BitVec 32) (k0_hw702 : k0_chk702 v3678), ∀ a, (k0_off706 v3678) a + S1x1024.size a ≤ S16384x1024.size a := fun v3678 k0_hw702 => k0_hw702

def k0_off707 (v3683 : BitVec 32) : Fin 2 → Nat :=
  let c0_i32_2262 : BitVec 32 := 0#32
  ![v3683.toNat, 0]

def k0_chk703 (v3683 : BitVec 32) : Prop :=
  (∀ a, (k0_off707 v3683) a + S1x1024.size a ≤ S16384x1024.size a)
theorem k0_off707_inb : ∀ (v3683 : BitVec 32) (k0_hw703 : k0_chk703 v3683), ∀ a, (k0_off707 v3683) a + S1x1024.size a ≤ S16384x1024.size a := fun v3683 k0_hw703 => k0_hw703

def k0_off708 (v3688 : BitVec 32) : Fin 2 → Nat :=
  let c0_i32_2265 : BitVec 32 := 0#32
  ![v3688.toNat, 0]

def k0_chk704 (v3688 : BitVec 32) : Prop :=
  (∀ a, (k0_off708 v3688) a + S1x1024.size a ≤ S16384x1024.size a)
theorem k0_off708_inb : ∀ (v3688 : BitVec 32) (k0_hw704 : k0_chk704 v3688), ∀ a, (k0_off708 v3688) a + S1x1024.size a ≤ S16384x1024.size a := fun v3688 k0_hw704 => k0_hw704

def k0_off709 (v3693 : BitVec 32) : Fin 2 → Nat :=
  let c0_i32_2268 : BitVec 32 := 0#32
  ![v3693.toNat, 0]

def k0_chk705 (v3693 : BitVec 32) : Prop :=
  (∀ a, (k0_off709 v3693) a + S1x1024.size a ≤ S16384x1024.size a)
theorem k0_off709_inb : ∀ (v3693 : BitVec 32) (k0_hw705 : k0_chk705 v3693), ∀ a, (k0_off709 v3693) a + S1x1024.size a ≤ S16384x1024.size a := fun v3693 k0_hw705 => k0_hw705

def k0_off710 (v3698 : BitVec 32) : Fin 2 → Nat :=
  let c0_i32_2271 : BitVec 32 := 0#32
  ![v3698.toNat, 0]

def k0_chk706 (v3698 : BitVec 32) : Prop :=
  (∀ a, (k0_off710 v3698) a + S1x1024.size a ≤ S16384x1024.size a)
theorem k0_off710_inb : ∀ (v3698 : BitVec 32) (k0_hw706 : k0_chk706 v3698), ∀ a, (k0_off710 v3698) a + S1x1024.size a ≤ S16384x1024.size a := fun v3698 k0_hw706 => k0_hw706

def k0_off711 (v3703 : BitVec 32) : Fin 2 → Nat :=
  let c0_i32_2274 : BitVec 32 := 0#32
  ![v3703.toNat, 0]

def k0_chk707 (v3703 : BitVec 32) : Prop :=
  (∀ a, (k0_off711 v3703) a + S1x1024.size a ≤ S16384x1024.size a)
theorem k0_off711_inb : ∀ (v3703 : BitVec 32) (k0_hw707 : k0_chk707 v3703), ∀ a, (k0_off711 v3703) a + S1x1024.size a ≤ S16384x1024.size a := fun v3703 k0_hw707 => k0_hw707

def k0_off712 (v3708 : BitVec 32) : Fin 2 → Nat :=
  let c0_i32_2277 : BitVec 32 := 0#32
  ![v3708.toNat, 0]

def k0_chk708 (v3708 : BitVec 32) : Prop :=
  (∀ a, (k0_off712 v3708) a + S1x1024.size a ≤ S16384x1024.size a)
theorem k0_off712_inb : ∀ (v3708 : BitVec 32) (k0_hw708 : k0_chk708 v3708), ∀ a, (k0_off712 v3708) a + S1x1024.size a ≤ S16384x1024.size a := fun v3708 k0_hw708 => k0_hw708

def k0_off713 (v3713 : BitVec 32) : Fin 2 → Nat :=
  let c0_i32_2280 : BitVec 32 := 0#32
  ![v3713.toNat, 0]

def k0_chk709 (v3713 : BitVec 32) : Prop :=
  (∀ a, (k0_off713 v3713) a + S1x1024.size a ≤ S16384x1024.size a)
theorem k0_off713_inb : ∀ (v3713 : BitVec 32) (k0_hw709 : k0_chk709 v3713), ∀ a, (k0_off713 v3713) a + S1x1024.size a ≤ S16384x1024.size a := fun v3713 k0_hw709 => k0_hw709

def k0_off714 (v3718 : BitVec 32) : Fin 2 → Nat :=
  let c0_i32_2283 : BitVec 32 := 0#32
  ![v3718.toNat, 0]

def k0_chk710 (v3718 : BitVec 32) : Prop :=
  (∀ a, (k0_off714 v3718) a + S1x1024.size a ≤ S16384x1024.size a)
theorem k0_off714_inb : ∀ (v3718 : BitVec 32) (k0_hw710 : k0_chk710 v3718), ∀ a, (k0_off714 v3718) a + S1x1024.size a ≤ S16384x1024.size a := fun v3718 k0_hw710 => k0_hw710

def k0_off715 (v3723 : BitVec 32) : Fin 2 → Nat :=
  let c0_i32_2286 : BitVec 32 := 0#32
  ![v3723.toNat, 0]

def k0_chk711 (v3723 : BitVec 32) : Prop :=
  (∀ a, (k0_off715 v3723) a + S1x1024.size a ≤ S16384x1024.size a)
theorem k0_off715_inb : ∀ (v3723 : BitVec 32) (k0_hw711 : k0_chk711 v3723), ∀ a, (k0_off715 v3723) a + S1x1024.size a ≤ S16384x1024.size a := fun v3723 k0_hw711 => k0_hw711

def k0_off716 (v3728 : BitVec 32) : Fin 2 → Nat :=
  let c0_i32_2289 : BitVec 32 := 0#32
  ![v3728.toNat, 0]

def k0_chk712 (v3728 : BitVec 32) : Prop :=
  (∀ a, (k0_off716 v3728) a + S1x1024.size a ≤ S16384x1024.size a)
theorem k0_off716_inb : ∀ (v3728 : BitVec 32) (k0_hw712 : k0_chk712 v3728), ∀ a, (k0_off716 v3728) a + S1x1024.size a ≤ S16384x1024.size a := fun v3728 k0_hw712 => k0_hw712

def k0_off717 (v3733 : BitVec 32) : Fin 2 → Nat :=
  let c0_i32_2292 : BitVec 32 := 0#32
  ![v3733.toNat, 0]

def k0_chk713 (v3733 : BitVec 32) : Prop :=
  (∀ a, (k0_off717 v3733) a + S1x1024.size a ≤ S16384x1024.size a)
theorem k0_off717_inb : ∀ (v3733 : BitVec 32) (k0_hw713 : k0_chk713 v3733), ∀ a, (k0_off717 v3733) a + S1x1024.size a ≤ S16384x1024.size a := fun v3733 k0_hw713 => k0_hw713

def k0_off718 (v3738 : BitVec 32) : Fin 2 → Nat :=
  let c0_i32_2295 : BitVec 32 := 0#32
  ![v3738.toNat, 0]

def k0_chk714 (v3738 : BitVec 32) : Prop :=
  (∀ a, (k0_off718 v3738) a + S1x1024.size a ≤ S16384x1024.size a)
theorem k0_off718_inb : ∀ (v3738 : BitVec 32) (k0_hw714 : k0_chk714 v3738), ∀ a, (k0_off718 v3738) a + S1x1024.size a ≤ S16384x1024.size a := fun v3738 k0_hw714 => k0_hw714

def k0_off719 (v3743 : BitVec 32) : Fin 2 → Nat :=
  let c0_i32_2298 : BitVec 32 := 0#32
  ![v3743.toNat, 0]

def k0_chk715 (v3743 : BitVec 32) : Prop :=
  (∀ a, (k0_off719 v3743) a + S1x1024.size a ≤ S16384x1024.size a)
theorem k0_off719_inb : ∀ (v3743 : BitVec 32) (k0_hw715 : k0_chk715 v3743), ∀ a, (k0_off719 v3743) a + S1x1024.size a ≤ S16384x1024.size a := fun v3743 k0_hw715 => k0_hw715

def k0_off720 (v3748 : BitVec 32) : Fin 2 → Nat :=
  let c0_i32_2301 : BitVec 32 := 0#32
  ![v3748.toNat, 0]

def k0_chk716 (v3748 : BitVec 32) : Prop :=
  (∀ a, (k0_off720 v3748) a + S1x1024.size a ≤ S16384x1024.size a)
theorem k0_off720_inb : ∀ (v3748 : BitVec 32) (k0_hw716 : k0_chk716 v3748), ∀ a, (k0_off720 v3748) a + S1x1024.size a ≤ S16384x1024.size a := fun v3748 k0_hw716 => k0_hw716

def k0_off721 (v3753 : BitVec 32) : Fin 2 → Nat :=
  let c0_i32_2304 : BitVec 32 := 0#32
  ![v3753.toNat, 0]

def k0_chk717 (v3753 : BitVec 32) : Prop :=
  (∀ a, (k0_off721 v3753) a + S1x1024.size a ≤ S16384x1024.size a)
theorem k0_off721_inb : ∀ (v3753 : BitVec 32) (k0_hw717 : k0_chk717 v3753), ∀ a, (k0_off721 v3753) a + S1x1024.size a ≤ S16384x1024.size a := fun v3753 k0_hw717 => k0_hw717

def k0_off722 (v3758 : BitVec 32) : Fin 2 → Nat :=
  let c0_i32_2307 : BitVec 32 := 0#32
  ![v3758.toNat, 0]

def k0_chk718 (v3758 : BitVec 32) : Prop :=
  (∀ a, (k0_off722 v3758) a + S1x1024.size a ≤ S16384x1024.size a)
theorem k0_off722_inb : ∀ (v3758 : BitVec 32) (k0_hw718 : k0_chk718 v3758), ∀ a, (k0_off722 v3758) a + S1x1024.size a ≤ S16384x1024.size a := fun v3758 k0_hw718 => k0_hw718

def k0_off723 (v3763 : BitVec 32) : Fin 2 → Nat :=
  let c0_i32_2310 : BitVec 32 := 0#32
  ![v3763.toNat, 0]

def k0_chk719 (v3763 : BitVec 32) : Prop :=
  (∀ a, (k0_off723 v3763) a + S1x1024.size a ≤ S16384x1024.size a)
theorem k0_off723_inb : ∀ (v3763 : BitVec 32) (k0_hw719 : k0_chk719 v3763), ∀ a, (k0_off723 v3763) a + S1x1024.size a ≤ S16384x1024.size a := fun v3763 k0_hw719 => k0_hw719

def k0_off724 (v3768 : BitVec 32) : Fin 2 → Nat :=
  let c0_i32_2313 : BitVec 32 := 0#32
  ![v3768.toNat, 0]

def k0_chk720 (v3768 : BitVec 32) : Prop :=
  (∀ a, (k0_off724 v3768) a + S1x1024.size a ≤ S16384x1024.size a)
theorem k0_off724_inb : ∀ (v3768 : BitVec 32) (k0_hw720 : k0_chk720 v3768), ∀ a, (k0_off724 v3768) a + S1x1024.size a ≤ S16384x1024.size a := fun v3768 k0_hw720 => k0_hw720

def k0_off725 (v3773 : BitVec 32) : Fin 2 → Nat :=
  let c0_i32_2316 : BitVec 32 := 0#32
  ![v3773.toNat, 0]

def k0_chk721 (v3773 : BitVec 32) : Prop :=
  (∀ a, (k0_off725 v3773) a + S1x1024.size a ≤ S16384x1024.size a)
theorem k0_off725_inb : ∀ (v3773 : BitVec 32) (k0_hw721 : k0_chk721 v3773), ∀ a, (k0_off725 v3773) a + S1x1024.size a ≤ S16384x1024.size a := fun v3773 k0_hw721 => k0_hw721

def k0_off726 (v3778 : BitVec 32) : Fin 2 → Nat :=
  let c0_i32_2319 : BitVec 32 := 0#32
  ![v3778.toNat, 0]

def k0_chk722 (v3778 : BitVec 32) : Prop :=
  (∀ a, (k0_off726 v3778) a + S1x1024.size a ≤ S16384x1024.size a)
theorem k0_off726_inb : ∀ (v3778 : BitVec 32) (k0_hw722 : k0_chk722 v3778), ∀ a, (k0_off726 v3778) a + S1x1024.size a ≤ S16384x1024.size a := fun v3778 k0_hw722 => k0_hw722

def k0_off727 (v3783 : BitVec 32) : Fin 2 → Nat :=
  let c0_i32_2322 : BitVec 32 := 0#32
  ![v3783.toNat, 0]

def k0_chk723 (v3783 : BitVec 32) : Prop :=
  (∀ a, (k0_off727 v3783) a + S1x1024.size a ≤ S16384x1024.size a)
theorem k0_off727_inb : ∀ (v3783 : BitVec 32) (k0_hw723 : k0_chk723 v3783), ∀ a, (k0_off727 v3783) a + S1x1024.size a ≤ S16384x1024.size a := fun v3783 k0_hw723 => k0_hw723

def k0_off728 (v3788 : BitVec 32) : Fin 2 → Nat :=
  let c0_i32_2325 : BitVec 32 := 0#32
  ![v3788.toNat, 0]

def k0_chk724 (v3788 : BitVec 32) : Prop :=
  (∀ a, (k0_off728 v3788) a + S1x1024.size a ≤ S16384x1024.size a)
theorem k0_off728_inb : ∀ (v3788 : BitVec 32) (k0_hw724 : k0_chk724 v3788), ∀ a, (k0_off728 v3788) a + S1x1024.size a ≤ S16384x1024.size a := fun v3788 k0_hw724 => k0_hw724

def k0_off729 (v3793 : BitVec 32) : Fin 2 → Nat :=
  let c0_i32_2328 : BitVec 32 := 0#32
  ![v3793.toNat, 0]

def k0_chk725 (v3793 : BitVec 32) : Prop :=
  (∀ a, (k0_off729 v3793) a + S1x1024.size a ≤ S16384x1024.size a)
theorem k0_off729_inb : ∀ (v3793 : BitVec 32) (k0_hw725 : k0_chk725 v3793), ∀ a, (k0_off729 v3793) a + S1x1024.size a ≤ S16384x1024.size a := fun v3793 k0_hw725 => k0_hw725

def k0_off730 (v3798 : BitVec 32) : Fin 2 → Nat :=
  let c0_i32_2331 : BitVec 32 := 0#32
  ![v3798.toNat, 0]

def k0_chk726 (v3798 : BitVec 32) : Prop :=
  (∀ a, (k0_off730 v3798) a + S1x1024.size a ≤ S16384x1024.size a)
theorem k0_off730_inb : ∀ (v3798 : BitVec 32) (k0_hw726 : k0_chk726 v3798), ∀ a, (k0_off730 v3798) a + S1x1024.size a ≤ S16384x1024.size a := fun v3798 k0_hw726 => k0_hw726

def k0_off731 (v3803 : BitVec 32) : Fin 2 → Nat :=
  let c0_i32_2334 : BitVec 32 := 0#32
  ![v3803.toNat, 0]

def k0_chk727 (v3803 : BitVec 32) : Prop :=
  (∀ a, (k0_off731 v3803) a + S1x1024.size a ≤ S16384x1024.size a)
theorem k0_off731_inb : ∀ (v3803 : BitVec 32) (k0_hw727 : k0_chk727 v3803), ∀ a, (k0_off731 v3803) a + S1x1024.size a ≤ S16384x1024.size a := fun v3803 k0_hw727 => k0_hw727

def k0_off732 (v3808 : BitVec 32) : Fin 2 → Nat :=
  let c0_i32_2337 : BitVec 32 := 0#32
  ![v3808.toNat, 0]

def k0_chk728 (v3808 : BitVec 32) : Prop :=
  (∀ a, (k0_off732 v3808) a + S1x1024.size a ≤ S16384x1024.size a)
theorem k0_off732_inb : ∀ (v3808 : BitVec 32) (k0_hw728 : k0_chk728 v3808), ∀ a, (k0_off732 v3808) a + S1x1024.size a ≤ S16384x1024.size a := fun v3808 k0_hw728 => k0_hw728

def k0_off733 (v3813 : BitVec 32) : Fin 2 → Nat :=
  let c0_i32_2340 : BitVec 32 := 0#32
  ![v3813.toNat, 0]

def k0_chk729 (v3813 : BitVec 32) : Prop :=
  (∀ a, (k0_off733 v3813) a + S1x1024.size a ≤ S16384x1024.size a)
theorem k0_off733_inb : ∀ (v3813 : BitVec 32) (k0_hw729 : k0_chk729 v3813), ∀ a, (k0_off733 v3813) a + S1x1024.size a ≤ S16384x1024.size a := fun v3813 k0_hw729 => k0_hw729

def k0_off734 (v3818 : BitVec 32) : Fin 2 → Nat :=
  let c0_i32_2343 : BitVec 32 := 0#32
  ![v3818.toNat, 0]

def k0_chk730 (v3818 : BitVec 32) : Prop :=
  (∀ a, (k0_off734 v3818) a + S1x1024.size a ≤ S16384x1024.size a)
theorem k0_off734_inb : ∀ (v3818 : BitVec 32) (k0_hw730 : k0_chk730 v3818), ∀ a, (k0_off734 v3818) a + S1x1024.size a ≤ S16384x1024.size a := fun v3818 k0_hw730 => k0_hw730

def k0_off735 (v3823 : BitVec 32) : Fin 2 → Nat :=
  let c0_i32_2346 : BitVec 32 := 0#32
  ![v3823.toNat, 0]

def k0_chk731 (v3823 : BitVec 32) : Prop :=
  (∀ a, (k0_off735 v3823) a + S1x1024.size a ≤ S16384x1024.size a)
theorem k0_off735_inb : ∀ (v3823 : BitVec 32) (k0_hw731 : k0_chk731 v3823), ∀ a, (k0_off735 v3823) a + S1x1024.size a ≤ S16384x1024.size a := fun v3823 k0_hw731 => k0_hw731

def k0_off736 (v3828 : BitVec 32) : Fin 2 → Nat :=
  let c0_i32_2349 : BitVec 32 := 0#32
  ![v3828.toNat, 0]

def k0_chk732 (v3828 : BitVec 32) : Prop :=
  (∀ a, (k0_off736 v3828) a + S1x1024.size a ≤ S16384x1024.size a)
theorem k0_off736_inb : ∀ (v3828 : BitVec 32) (k0_hw732 : k0_chk732 v3828), ∀ a, (k0_off736 v3828) a + S1x1024.size a ≤ S16384x1024.size a := fun v3828 k0_hw732 => k0_hw732

def k0_off737 (v3833 : BitVec 32) : Fin 2 → Nat :=
  let c0_i32_2352 : BitVec 32 := 0#32
  ![v3833.toNat, 0]

def k0_chk733 (v3833 : BitVec 32) : Prop :=
  (∀ a, (k0_off737 v3833) a + S1x1024.size a ≤ S16384x1024.size a)
theorem k0_off737_inb : ∀ (v3833 : BitVec 32) (k0_hw733 : k0_chk733 v3833), ∀ a, (k0_off737 v3833) a + S1x1024.size a ≤ S16384x1024.size a := fun v3833 k0_hw733 => k0_hw733

def k0_off738 (v3838 : BitVec 32) : Fin 2 → Nat :=
  let c0_i32_2355 : BitVec 32 := 0#32
  ![v3838.toNat, 0]

def k0_chk734 (v3838 : BitVec 32) : Prop :=
  (∀ a, (k0_off738 v3838) a + S1x1024.size a ≤ S16384x1024.size a)
theorem k0_off738_inb : ∀ (v3838 : BitVec 32) (k0_hw734 : k0_chk734 v3838), ∀ a, (k0_off738 v3838) a + S1x1024.size a ≤ S16384x1024.size a := fun v3838 k0_hw734 => k0_hw734

def k0_off739 (v3843 : BitVec 32) : Fin 2 → Nat :=
  let c0_i32_2358 : BitVec 32 := 0#32
  ![v3843.toNat, 0]

def k0_chk735 (v3843 : BitVec 32) : Prop :=
  (∀ a, (k0_off739 v3843) a + S1x1024.size a ≤ S16384x1024.size a)
theorem k0_off739_inb : ∀ (v3843 : BitVec 32) (k0_hw735 : k0_chk735 v3843), ∀ a, (k0_off739 v3843) a + S1x1024.size a ≤ S16384x1024.size a := fun v3843 k0_hw735 => k0_hw735

def k0_off740 (v3848 : BitVec 32) : Fin 2 → Nat :=
  let c0_i32_2361 : BitVec 32 := 0#32
  ![v3848.toNat, 0]

def k0_chk736 (v3848 : BitVec 32) : Prop :=
  (∀ a, (k0_off740 v3848) a + S1x1024.size a ≤ S16384x1024.size a)
theorem k0_off740_inb : ∀ (v3848 : BitVec 32) (k0_hw736 : k0_chk736 v3848), ∀ a, (k0_off740 v3848) a + S1x1024.size a ≤ S16384x1024.size a := fun v3848 k0_hw736 => k0_hw736

def k0_off741 (v3853 : BitVec 32) : Fin 2 → Nat :=
  let c0_i32_2364 : BitVec 32 := 0#32
  ![v3853.toNat, 0]

def k0_chk737 (v3853 : BitVec 32) : Prop :=
  (∀ a, (k0_off741 v3853) a + S1x1024.size a ≤ S16384x1024.size a)
theorem k0_off741_inb : ∀ (v3853 : BitVec 32) (k0_hw737 : k0_chk737 v3853), ∀ a, (k0_off741 v3853) a + S1x1024.size a ≤ S16384x1024.size a := fun v3853 k0_hw737 => k0_hw737

def k0_off742 (v3858 : BitVec 32) : Fin 2 → Nat :=
  let c0_i32_2367 : BitVec 32 := 0#32
  ![v3858.toNat, 0]

def k0_chk738 (v3858 : BitVec 32) : Prop :=
  (∀ a, (k0_off742 v3858) a + S1x1024.size a ≤ S16384x1024.size a)
theorem k0_off742_inb : ∀ (v3858 : BitVec 32) (k0_hw738 : k0_chk738 v3858), ∀ a, (k0_off742 v3858) a + S1x1024.size a ≤ S16384x1024.size a := fun v3858 k0_hw738 => k0_hw738

def k0_off743 (v3863 : BitVec 32) : Fin 2 → Nat :=
  let c0_i32_2370 : BitVec 32 := 0#32
  ![v3863.toNat, 0]

def k0_chk739 (v3863 : BitVec 32) : Prop :=
  (∀ a, (k0_off743 v3863) a + S1x1024.size a ≤ S16384x1024.size a)
theorem k0_off743_inb : ∀ (v3863 : BitVec 32) (k0_hw739 : k0_chk739 v3863), ∀ a, (k0_off743 v3863) a + S1x1024.size a ≤ S16384x1024.size a := fun v3863 k0_hw739 => k0_hw739

def k0_off744 (v3868 : BitVec 32) : Fin 2 → Nat :=
  let c0_i32_2373 : BitVec 32 := 0#32
  ![v3868.toNat, 0]

def k0_chk740 (v3868 : BitVec 32) : Prop :=
  (∀ a, (k0_off744 v3868) a + S1x1024.size a ≤ S16384x1024.size a)
theorem k0_off744_inb : ∀ (v3868 : BitVec 32) (k0_hw740 : k0_chk740 v3868), ∀ a, (k0_off744 v3868) a + S1x1024.size a ≤ S16384x1024.size a := fun v3868 k0_hw740 => k0_hw740

def k0_off745 (v3873 : BitVec 32) : Fin 2 → Nat :=
  let c0_i32_2376 : BitVec 32 := 0#32
  ![v3873.toNat, 0]

def k0_chk741 (v3873 : BitVec 32) : Prop :=
  (∀ a, (k0_off745 v3873) a + S1x1024.size a ≤ S16384x1024.size a)
theorem k0_off745_inb : ∀ (v3873 : BitVec 32) (k0_hw741 : k0_chk741 v3873), ∀ a, (k0_off745 v3873) a + S1x1024.size a ≤ S16384x1024.size a := fun v3873 k0_hw741 => k0_hw741

def k0_off746 (v3878 : BitVec 32) : Fin 2 → Nat :=
  let c0_i32_2379 : BitVec 32 := 0#32
  ![v3878.toNat, 0]

def k0_chk742 (v3878 : BitVec 32) : Prop :=
  (∀ a, (k0_off746 v3878) a + S1x1024.size a ≤ S16384x1024.size a)
theorem k0_off746_inb : ∀ (v3878 : BitVec 32) (k0_hw742 : k0_chk742 v3878), ∀ a, (k0_off746 v3878) a + S1x1024.size a ≤ S16384x1024.size a := fun v3878 k0_hw742 => k0_hw742

def k0_off747 (v3883 : BitVec 32) : Fin 2 → Nat :=
  let c0_i32_2382 : BitVec 32 := 0#32
  ![v3883.toNat, 0]

def k0_chk743 (v3883 : BitVec 32) : Prop :=
  (∀ a, (k0_off747 v3883) a + S1x1024.size a ≤ S16384x1024.size a)
theorem k0_off747_inb : ∀ (v3883 : BitVec 32) (k0_hw743 : k0_chk743 v3883), ∀ a, (k0_off747 v3883) a + S1x1024.size a ≤ S16384x1024.size a := fun v3883 k0_hw743 => k0_hw743

def k0_off748 (v3888 : BitVec 32) : Fin 2 → Nat :=
  let c0_i32_2385 : BitVec 32 := 0#32
  ![v3888.toNat, 0]

def k0_chk744 (v3888 : BitVec 32) : Prop :=
  (∀ a, (k0_off748 v3888) a + S1x1024.size a ≤ S16384x1024.size a)
theorem k0_off748_inb : ∀ (v3888 : BitVec 32) (k0_hw744 : k0_chk744 v3888), ∀ a, (k0_off748 v3888) a + S1x1024.size a ≤ S16384x1024.size a := fun v3888 k0_hw744 => k0_hw744

def k0_off749 (v3893 : BitVec 32) : Fin 2 → Nat :=
  let c0_i32_2388 : BitVec 32 := 0#32
  ![v3893.toNat, 0]

def k0_chk745 (v3893 : BitVec 32) : Prop :=
  (∀ a, (k0_off749 v3893) a + S1x1024.size a ≤ S16384x1024.size a)
theorem k0_off749_inb : ∀ (v3893 : BitVec 32) (k0_hw745 : k0_chk745 v3893), ∀ a, (k0_off749 v3893) a + S1x1024.size a ≤ S16384x1024.size a := fun v3893 k0_hw745 => k0_hw745

def k0_off750 (v3898 : BitVec 32) : Fin 2 → Nat :=
  let c0_i32_2391 : BitVec 32 := 0#32
  ![v3898.toNat, 0]

def k0_chk746 (v3898 : BitVec 32) : Prop :=
  (∀ a, (k0_off750 v3898) a + S1x1024.size a ≤ S16384x1024.size a)
theorem k0_off750_inb : ∀ (v3898 : BitVec 32) (k0_hw746 : k0_chk746 v3898), ∀ a, (k0_off750 v3898) a + S1x1024.size a ≤ S16384x1024.size a := fun v3898 k0_hw746 => k0_hw746

def k0_off751 (v3903 : BitVec 32) : Fin 2 → Nat :=
  let c0_i32_2394 : BitVec 32 := 0#32
  ![v3903.toNat, 0]

def k0_chk747 (v3903 : BitVec 32) : Prop :=
  (∀ a, (k0_off751 v3903) a + S1x1024.size a ≤ S16384x1024.size a)
theorem k0_off751_inb : ∀ (v3903 : BitVec 32) (k0_hw747 : k0_chk747 v3903), ∀ a, (k0_off751 v3903) a + S1x1024.size a ≤ S16384x1024.size a := fun v3903 k0_hw747 => k0_hw747

def k0_off752 (v3908 : BitVec 32) : Fin 2 → Nat :=
  let c0_i32_2397 : BitVec 32 := 0#32
  ![v3908.toNat, 0]

def k0_chk748 (v3908 : BitVec 32) : Prop :=
  (∀ a, (k0_off752 v3908) a + S1x1024.size a ≤ S16384x1024.size a)
theorem k0_off752_inb : ∀ (v3908 : BitVec 32) (k0_hw748 : k0_chk748 v3908), ∀ a, (k0_off752 v3908) a + S1x1024.size a ≤ S16384x1024.size a := fun v3908 k0_hw748 => k0_hw748

def k0_off753 (v3913 : BitVec 32) : Fin 2 → Nat :=
  let c0_i32_2400 : BitVec 32 := 0#32
  ![v3913.toNat, 0]

def k0_chk749 (v3913 : BitVec 32) : Prop :=
  (∀ a, (k0_off753 v3913) a + S1x1024.size a ≤ S16384x1024.size a)
theorem k0_off753_inb : ∀ (v3913 : BitVec 32) (k0_hw749 : k0_chk749 v3913), ∀ a, (k0_off753 v3913) a + S1x1024.size a ≤ S16384x1024.size a := fun v3913 k0_hw749 => k0_hw749

def k0_off754 (v3918 : BitVec 32) : Fin 2 → Nat :=
  let c0_i32_2403 : BitVec 32 := 0#32
  ![v3918.toNat, 0]

def k0_chk750 (v3918 : BitVec 32) : Prop :=
  (∀ a, (k0_off754 v3918) a + S1x1024.size a ≤ S16384x1024.size a)
theorem k0_off754_inb : ∀ (v3918 : BitVec 32) (k0_hw750 : k0_chk750 v3918), ∀ a, (k0_off754 v3918) a + S1x1024.size a ≤ S16384x1024.size a := fun v3918 k0_hw750 => k0_hw750

def k0_off755 (v3923 : BitVec 32) : Fin 2 → Nat :=
  let c0_i32_2406 : BitVec 32 := 0#32
  ![v3923.toNat, 0]

def k0_chk751 (v3923 : BitVec 32) : Prop :=
  (∀ a, (k0_off755 v3923) a + S1x1024.size a ≤ S16384x1024.size a)
theorem k0_off755_inb : ∀ (v3923 : BitVec 32) (k0_hw751 : k0_chk751 v3923), ∀ a, (k0_off755 v3923) a + S1x1024.size a ≤ S16384x1024.size a := fun v3923 k0_hw751 => k0_hw751

def k0_off756 (v3928 : BitVec 32) : Fin 2 → Nat :=
  let c0_i32_2409 : BitVec 32 := 0#32
  ![v3928.toNat, 0]

def k0_chk752 (v3928 : BitVec 32) : Prop :=
  (∀ a, (k0_off756 v3928) a + S1x1024.size a ≤ S16384x1024.size a)
theorem k0_off756_inb : ∀ (v3928 : BitVec 32) (k0_hw752 : k0_chk752 v3928), ∀ a, (k0_off756 v3928) a + S1x1024.size a ≤ S16384x1024.size a := fun v3928 k0_hw752 => k0_hw752

def k0_off757 (v3933 : BitVec 32) : Fin 2 → Nat :=
  let c0_i32_2412 : BitVec 32 := 0#32
  ![v3933.toNat, 0]

def k0_chk753 (v3933 : BitVec 32) : Prop :=
  (∀ a, (k0_off757 v3933) a + S1x1024.size a ≤ S16384x1024.size a)
theorem k0_off757_inb : ∀ (v3933 : BitVec 32) (k0_hw753 : k0_chk753 v3933), ∀ a, (k0_off757 v3933) a + S1x1024.size a ≤ S16384x1024.size a := fun v3933 k0_hw753 => k0_hw753

def k0_off758 (v3938 : BitVec 32) : Fin 2 → Nat :=
  let c0_i32_2415 : BitVec 32 := 0#32
  ![v3938.toNat, 0]

def k0_chk754 (v3938 : BitVec 32) : Prop :=
  (∀ a, (k0_off758 v3938) a + S1x1024.size a ≤ S16384x1024.size a)
theorem k0_off758_inb : ∀ (v3938 : BitVec 32) (k0_hw754 : k0_chk754 v3938), ∀ a, (k0_off758 v3938) a + S1x1024.size a ≤ S16384x1024.size a := fun v3938 k0_hw754 => k0_hw754

def k0_off759 (v3943 : BitVec 32) : Fin 2 → Nat :=
  let c0_i32_2418 : BitVec 32 := 0#32
  ![v3943.toNat, 0]

def k0_chk755 (v3943 : BitVec 32) : Prop :=
  (∀ a, (k0_off759 v3943) a + S1x1024.size a ≤ S16384x1024.size a)
theorem k0_off759_inb : ∀ (v3943 : BitVec 32) (k0_hw755 : k0_chk755 v3943), ∀ a, (k0_off759 v3943) a + S1x1024.size a ≤ S16384x1024.size a := fun v3943 k0_hw755 => k0_hw755

def k0_off760 (v3948 : BitVec 32) : Fin 2 → Nat :=
  let c0_i32_2421 : BitVec 32 := 0#32
  ![v3948.toNat, 0]

def k0_chk756 (v3948 : BitVec 32) : Prop :=
  (∀ a, (k0_off760 v3948) a + S1x1024.size a ≤ S16384x1024.size a)
theorem k0_off760_inb : ∀ (v3948 : BitVec 32) (k0_hw756 : k0_chk756 v3948), ∀ a, (k0_off760 v3948) a + S1x1024.size a ≤ S16384x1024.size a := fun v3948 k0_hw756 => k0_hw756

def k0_off761 (v3953 : BitVec 32) : Fin 2 → Nat :=
  let c0_i32_2424 : BitVec 32 := 0#32
  ![v3953.toNat, 0]

def k0_chk757 (v3953 : BitVec 32) : Prop :=
  (∀ a, (k0_off761 v3953) a + S1x1024.size a ≤ S16384x1024.size a)
theorem k0_off761_inb : ∀ (v3953 : BitVec 32) (k0_hw757 : k0_chk757 v3953), ∀ a, (k0_off761 v3953) a + S1x1024.size a ≤ S16384x1024.size a := fun v3953 k0_hw757 => k0_hw757

def k0_off762 (v3958 : BitVec 32) : Fin 2 → Nat :=
  let c0_i32_2427 : BitVec 32 := 0#32
  ![v3958.toNat, 0]

def k0_chk758 (v3958 : BitVec 32) : Prop :=
  (∀ a, (k0_off762 v3958) a + S1x1024.size a ≤ S16384x1024.size a)
theorem k0_off762_inb : ∀ (v3958 : BitVec 32) (k0_hw758 : k0_chk758 v3958), ∀ a, (k0_off762 v3958) a + S1x1024.size a ≤ S16384x1024.size a := fun v3958 k0_hw758 => k0_hw758

def k0_off763 (v3963 : BitVec 32) : Fin 2 → Nat :=
  let c0_i32_2430 : BitVec 32 := 0#32
  ![v3963.toNat, 0]

def k0_chk759 (v3963 : BitVec 32) : Prop :=
  (∀ a, (k0_off763 v3963) a + S1x1024.size a ≤ S16384x1024.size a)
theorem k0_off763_inb : ∀ (v3963 : BitVec 32) (k0_hw759 : k0_chk759 v3963), ∀ a, (k0_off763 v3963) a + S1x1024.size a ≤ S16384x1024.size a := fun v3963 k0_hw759 => k0_hw759

def k0_off764 (v3968 : BitVec 32) : Fin 2 → Nat :=
  let c0_i32_2433 : BitVec 32 := 0#32
  ![v3968.toNat, 0]

def k0_chk760 (v3968 : BitVec 32) : Prop :=
  (∀ a, (k0_off764 v3968) a + S1x1024.size a ≤ S16384x1024.size a)
theorem k0_off764_inb : ∀ (v3968 : BitVec 32) (k0_hw760 : k0_chk760 v3968), ∀ a, (k0_off764 v3968) a + S1x1024.size a ≤ S16384x1024.size a := fun v3968 k0_hw760 => k0_hw760

def k0_off765 (v3973 : BitVec 32) : Fin 2 → Nat :=
  let c0_i32_2436 : BitVec 32 := 0#32
  ![v3973.toNat, 0]

def k0_chk761 (v3973 : BitVec 32) : Prop :=
  (∀ a, (k0_off765 v3973) a + S1x1024.size a ≤ S16384x1024.size a)
theorem k0_off765_inb : ∀ (v3973 : BitVec 32) (k0_hw761 : k0_chk761 v3973), ∀ a, (k0_off765 v3973) a + S1x1024.size a ≤ S16384x1024.size a := fun v3973 k0_hw761 => k0_hw761

def k0_off766 (v3978 : BitVec 32) : Fin 2 → Nat :=
  let c0_i32_2439 : BitVec 32 := 0#32
  ![v3978.toNat, 0]

def k0_chk762 (v3978 : BitVec 32) : Prop :=
  (∀ a, (k0_off766 v3978) a + S1x1024.size a ≤ S16384x1024.size a)
theorem k0_off766_inb : ∀ (v3978 : BitVec 32) (k0_hw762 : k0_chk762 v3978), ∀ a, (k0_off766 v3978) a + S1x1024.size a ≤ S16384x1024.size a := fun v3978 k0_hw762 => k0_hw762

def k0_off767 (v3983 : BitVec 32) : Fin 2 → Nat :=
  let c0_i32_2442 : BitVec 32 := 0#32
  ![v3983.toNat, 0]

def k0_chk763 (v3983 : BitVec 32) : Prop :=
  (∀ a, (k0_off767 v3983) a + S1x1024.size a ≤ S16384x1024.size a)
theorem k0_off767_inb : ∀ (v3983 : BitVec 32) (k0_hw763 : k0_chk763 v3983), ∀ a, (k0_off767 v3983) a + S1x1024.size a ≤ S16384x1024.size a := fun v3983 k0_hw763 => k0_hw763

def k0_off768 (v3988 : BitVec 32) : Fin 2 → Nat :=
  let c0_i32_2445 : BitVec 32 := 0#32
  ![v3988.toNat, 0]

def k0_chk764 (v3988 : BitVec 32) : Prop :=
  (∀ a, (k0_off768 v3988) a + S1x1024.size a ≤ S16384x1024.size a)
theorem k0_off768_inb : ∀ (v3988 : BitVec 32) (k0_hw764 : k0_chk764 v3988), ∀ a, (k0_off768 v3988) a + S1x1024.size a ≤ S16384x1024.size a := fun v3988 k0_hw764 => k0_hw764

def k0_off769 (v3993 : BitVec 32) : Fin 2 → Nat :=
  let c0_i32_2448 : BitVec 32 := 0#32
  ![v3993.toNat, 0]

def k0_chk765 (v3993 : BitVec 32) : Prop :=
  (∀ a, (k0_off769 v3993) a + S1x1024.size a ≤ S16384x1024.size a)
theorem k0_off769_inb : ∀ (v3993 : BitVec 32) (k0_hw765 : k0_chk765 v3993), ∀ a, (k0_off769 v3993) a + S1x1024.size a ≤ S16384x1024.size a := fun v3993 k0_hw765 => k0_hw765

def k0_off770 (v3998 : BitVec 32) : Fin 2 → Nat :=
  let c0_i32_2451 : BitVec 32 := 0#32
  ![v3998.toNat, 0]

def k0_chk766 (v3998 : BitVec 32) : Prop :=
  (∀ a, (k0_off770 v3998) a + S1x1024.size a ≤ S16384x1024.size a)
theorem k0_off770_inb : ∀ (v3998 : BitVec 32) (k0_hw766 : k0_chk766 v3998), ∀ a, (k0_off770 v3998) a + S1x1024.size a ≤ S16384x1024.size a := fun v3998 k0_hw766 => k0_hw766

def k0_off771 (v4003 : BitVec 32) : Fin 2 → Nat :=
  let c0_i32_2454 : BitVec 32 := 0#32
  ![v4003.toNat, 0]

def k0_chk767 (v4003 : BitVec 32) : Prop :=
  (∀ a, (k0_off771 v4003) a + S1x1024.size a ≤ S16384x1024.size a)
theorem k0_off771_inb : ∀ (v4003 : BitVec 32) (k0_hw767 : k0_chk767 v4003), ∀ a, (k0_off771 v4003) a + S1x1024.size a ≤ S16384x1024.size a := fun v4003 k0_hw767 => k0_hw767

def k0_off772 (v4008 : BitVec 32) : Fin 2 → Nat :=
  let c0_i32_2457 : BitVec 32 := 0#32
  ![v4008.toNat, 0]

def k0_chk768 (v4008 : BitVec 32) : Prop :=
  (∀ a, (k0_off772 v4008) a + S1x1024.size a ≤ S16384x1024.size a)
theorem k0_off772_inb : ∀ (v4008 : BitVec 32) (k0_hw768 : k0_chk768 v4008), ∀ a, (k0_off772 v4008) a + S1x1024.size a ≤ S16384x1024.size a := fun v4008 k0_hw768 => k0_hw768

def k0_off773 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32_2471 : BitVec 32 := 1024#32
  let v4024 : BitVec 32 := Scalar.muli v2 c1024_i32_2471
  let c256_i32_2472 : BitVec 32 := 256#32
  let v4025 : BitVec 32 := Scalar.addi v4024 c256_i32_2472
  let v4026 : Index := Scalar.indexCast v4025
  let c0_2473 : Index := 0#32
  ![v4026.toNat, 0]
def k0_off774 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32_2476 : BitVec 32 := 1024#32
  let v4030 : BitVec 32 := Scalar.muli v2 c1024_i32_2476
  let c256_i32_2477 : BitVec 32 := 256#32
  let v4031 : BitVec 32 := Scalar.addi v4030 c256_i32_2477
  let c0_i32_2484 : BitVec 32 := 0#32
  ![v4031.toNat, 0]
def k0_dev9 (d0 : Dev nD) : Nat :=
  let c0_i32_2482 : BitVec 32 := 0#32
  let c1_i32_2478 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v4032 : BitVec 32 := Scalar.subi c1_i32_2478 v2
  let c2_i32_2481 : BitVec 32 := 2#32
  let v4033 : BitVec 32 := Scalar.muli v4032 c2_i32_2481
  let v4034 : BitVec 32 := Scalar.addi c0_i32_2482 v4033
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2483 : BitVec 32 := 1#32
  let v4035 : BitVec 32 := Scalar.muli v5 c1_i32_2483
  let v4036 : BitVec 32 := Scalar.addi v4034 v4035
  v4036.toNat
def k0_dev10 (d0 : Dev nD) : Nat :=
  let c0_i32_2501 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_2500 : BitVec 32 := 2#32
  let v4057 : BitVec 32 := Scalar.muli v2 c2_i32_2500
  let v4058 : BitVec 32 := Scalar.addi c0_i32_2501 v4057
  let c1_i32_2497 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v4056 : BitVec 32 := Scalar.subi c1_i32_2497 v5
  let c1_i32_2502 : BitVec 32 := 1#32
  let v4059 : BitVec 32 := Scalar.muli v4056 c1_i32_2502
  let v4060 : BitVec 32 := Scalar.addi v4058 v4059
  v4060.toNat
def k0_off775 (v4067 : BitVec 32) : Fin 2 → Nat :=
  let c0_i32_2509 : BitVec 32 := 0#32
  ![v4067.toNat, 0]

def k0_chk769 (v4067 : BitVec 32) : Prop :=
  (∀ a, (k0_off775 v4067) a + S1x1024.size a ≤ S16384x1024.size a)
theorem k0_off775_inb : ∀ (v4067 : BitVec 32) (k0_hw769 : k0_chk769 v4067), ∀ a, (k0_off775 v4067) a + S1x1024.size a ≤ S16384x1024.size a := fun v4067 k0_hw769 => k0_hw769

def k0_off776 (v4072 : BitVec 32) : Fin 2 → Nat :=
  let c0_i32_2512 : BitVec 32 := 0#32
  ![v4072.toNat, 0]

def k0_chk770 (v4072 : BitVec 32) : Prop :=
  (∀ a, (k0_off776 v4072) a + S1x1024.size a ≤ S16384x1024.size a)
theorem k0_off776_inb : ∀ (v4072 : BitVec 32) (k0_hw770 : k0_chk770 v4072), ∀ a, (k0_off776 v4072) a + S1x1024.size a ≤ S16384x1024.size a := fun v4072 k0_hw770 => k0_hw770

def k0_off777 (v4077 : BitVec 32) : Fin 2 → Nat :=
  let c0_i32_2515 : BitVec 32 := 0#32
  ![v4077.toNat, 0]

def k0_chk771 (v4077 : BitVec 32) : Prop :=
  (∀ a, (k0_off777 v4077) a + S1x1024.size a ≤ S16384x1024.size a)
theorem k0_off777_inb : ∀ (v4077 : BitVec 32) (k0_hw771 : k0_chk771 v4077), ∀ a, (k0_off777 v4077) a + S1x1024.size a ≤ S16384x1024.size a := fun v4077 k0_hw771 => k0_hw771

def k0_off778 (v4082 : BitVec 32) : Fin 2 → Nat :=
  let c0_i32_2518 : BitVec 32 := 0#32
  ![v4082.toNat, 0]

def k0_chk772 (v4082 : BitVec 32) : Prop :=
  (∀ a, (k0_off778 v4082) a + S1x1024.size a ≤ S16384x1024.size a)
theorem k0_off778_inb : ∀ (v4082 : BitVec 32) (k0_hw772 : k0_chk772 v4082), ∀ a, (k0_off778 v4082) a + S1x1024.size a ≤ S16384x1024.size a := fun v4082 k0_hw772 => k0_hw772

def k0_off779 (v4087 : BitVec 32) : Fin 2 → Nat :=
  let c0_i32_2521 : BitVec 32 := 0#32
  ![v4087.toNat, 0]

def k0_chk773 (v4087 : BitVec 32) : Prop :=
  (∀ a, (k0_off779 v4087) a + S1x1024.size a ≤ S16384x1024.size a)
theorem k0_off779_inb : ∀ (v4087 : BitVec 32) (k0_hw773 : k0_chk773 v4087), ∀ a, (k0_off779 v4087) a + S1x1024.size a ≤ S16384x1024.size a := fun v4087 k0_hw773 => k0_hw773

def k0_off780 (v4092 : BitVec 32) : Fin 2 → Nat :=
  let c0_i32_2524 : BitVec 32 := 0#32
  ![v4092.toNat, 0]

def k0_chk774 (v4092 : BitVec 32) : Prop :=
  (∀ a, (k0_off780 v4092) a + S1x1024.size a ≤ S16384x1024.size a)
theorem k0_off780_inb : ∀ (v4092 : BitVec 32) (k0_hw774 : k0_chk774 v4092), ∀ a, (k0_off780 v4092) a + S1x1024.size a ≤ S16384x1024.size a := fun v4092 k0_hw774 => k0_hw774

def k0_off781 (v4097 : BitVec 32) : Fin 2 → Nat :=
  let c0_i32_2527 : BitVec 32 := 0#32
  ![v4097.toNat, 0]

def k0_chk775 (v4097 : BitVec 32) : Prop :=
  (∀ a, (k0_off781 v4097) a + S1x1024.size a ≤ S16384x1024.size a)
theorem k0_off781_inb : ∀ (v4097 : BitVec 32) (k0_hw775 : k0_chk775 v4097), ∀ a, (k0_off781 v4097) a + S1x1024.size a ≤ S16384x1024.size a := fun v4097 k0_hw775 => k0_hw775

def k0_off782 (v4102 : BitVec 32) : Fin 2 → Nat :=
  let c0_i32_2530 : BitVec 32 := 0#32
  ![v4102.toNat, 0]

def k0_chk776 (v4102 : BitVec 32) : Prop :=
  (∀ a, (k0_off782 v4102) a + S1x1024.size a ≤ S16384x1024.size a)
theorem k0_off782_inb : ∀ (v4102 : BitVec 32) (k0_hw776 : k0_chk776 v4102), ∀ a, (k0_off782 v4102) a + S1x1024.size a ≤ S16384x1024.size a := fun v4102 k0_hw776 => k0_hw776

def k0_off783 (v4107 : BitVec 32) : Fin 2 → Nat :=
  let c0_i32_2533 : BitVec 32 := 0#32
  ![v4107.toNat, 0]

def k0_chk777 (v4107 : BitVec 32) : Prop :=
  (∀ a, (k0_off783 v4107) a + S1x1024.size a ≤ S16384x1024.size a)
theorem k0_off783_inb : ∀ (v4107 : BitVec 32) (k0_hw777 : k0_chk777 v4107), ∀ a, (k0_off783 v4107) a + S1x1024.size a ≤ S16384x1024.size a := fun v4107 k0_hw777 => k0_hw777

def k0_off784 (v4112 : BitVec 32) : Fin 2 → Nat :=
  let c0_i32_2536 : BitVec 32 := 0#32
  ![v4112.toNat, 0]

def k0_chk778 (v4112 : BitVec 32) : Prop :=
  (∀ a, (k0_off784 v4112) a + S1x1024.size a ≤ S16384x1024.size a)
theorem k0_off784_inb : ∀ (v4112 : BitVec 32) (k0_hw778 : k0_chk778 v4112), ∀ a, (k0_off784 v4112) a + S1x1024.size a ≤ S16384x1024.size a := fun v4112 k0_hw778 => k0_hw778

def k0_off785 (v4117 : BitVec 32) : Fin 2 → Nat :=
  let c0_i32_2539 : BitVec 32 := 0#32
  ![v4117.toNat, 0]

def k0_chk779 (v4117 : BitVec 32) : Prop :=
  (∀ a, (k0_off785 v4117) a + S1x1024.size a ≤ S16384x1024.size a)
theorem k0_off785_inb : ∀ (v4117 : BitVec 32) (k0_hw779 : k0_chk779 v4117), ∀ a, (k0_off785 v4117) a + S1x1024.size a ≤ S16384x1024.size a := fun v4117 k0_hw779 => k0_hw779

def k0_off786 (v4122 : BitVec 32) : Fin 2 → Nat :=
  let c0_i32_2542 : BitVec 32 := 0#32
  ![v4122.toNat, 0]

def k0_chk780 (v4122 : BitVec 32) : Prop :=
  (∀ a, (k0_off786 v4122) a + S1x1024.size a ≤ S16384x1024.size a)
theorem k0_off786_inb : ∀ (v4122 : BitVec 32) (k0_hw780 : k0_chk780 v4122), ∀ a, (k0_off786 v4122) a + S1x1024.size a ≤ S16384x1024.size a := fun v4122 k0_hw780 => k0_hw780

def k0_off787 (v4127 : BitVec 32) : Fin 2 → Nat :=
  let c0_i32_2545 : BitVec 32 := 0#32
  ![v4127.toNat, 0]

def k0_chk781 (v4127 : BitVec 32) : Prop :=
  (∀ a, (k0_off787 v4127) a + S1x1024.size a ≤ S16384x1024.size a)
theorem k0_off787_inb : ∀ (v4127 : BitVec 32) (k0_hw781 : k0_chk781 v4127), ∀ a, (k0_off787 v4127) a + S1x1024.size a ≤ S16384x1024.size a := fun v4127 k0_hw781 => k0_hw781

def k0_off788 (v4132 : BitVec 32) : Fin 2 → Nat :=
  let c0_i32_2548 : BitVec 32 := 0#32
  ![v4132.toNat, 0]

def k0_chk782 (v4132 : BitVec 32) : Prop :=
  (∀ a, (k0_off788 v4132) a + S1x1024.size a ≤ S16384x1024.size a)
theorem k0_off788_inb : ∀ (v4132 : BitVec 32) (k0_hw782 : k0_chk782 v4132), ∀ a, (k0_off788 v4132) a + S1x1024.size a ≤ S16384x1024.size a := fun v4132 k0_hw782 => k0_hw782

def k0_off789 (v4137 : BitVec 32) : Fin 2 → Nat :=
  let c0_i32_2551 : BitVec 32 := 0#32
  ![v4137.toNat, 0]

def k0_chk783 (v4137 : BitVec 32) : Prop :=
  (∀ a, (k0_off789 v4137) a + S1x1024.size a ≤ S16384x1024.size a)
theorem k0_off789_inb : ∀ (v4137 : BitVec 32) (k0_hw783 : k0_chk783 v4137), ∀ a, (k0_off789 v4137) a + S1x1024.size a ≤ S16384x1024.size a := fun v4137 k0_hw783 => k0_hw783

def k0_off790 (v4142 : BitVec 32) : Fin 2 → Nat :=
  let c0_i32_2554 : BitVec 32 := 0#32
  ![v4142.toNat, 0]

def k0_chk784 (v4142 : BitVec 32) : Prop :=
  (∀ a, (k0_off790 v4142) a + S1x1024.size a ≤ S16384x1024.size a)
theorem k0_off790_inb : ∀ (v4142 : BitVec 32) (k0_hw784 : k0_chk784 v4142), ∀ a, (k0_off790 v4142) a + S1x1024.size a ≤ S16384x1024.size a := fun v4142 k0_hw784 => k0_hw784

def k0_off791 (v4147 : BitVec 32) : Fin 2 → Nat :=
  let c0_i32_2557 : BitVec 32 := 0#32
  ![v4147.toNat, 0]

def k0_chk785 (v4147 : BitVec 32) : Prop :=
  (∀ a, (k0_off791 v4147) a + S1x1024.size a ≤ S16384x1024.size a)
theorem k0_off791_inb : ∀ (v4147 : BitVec 32) (k0_hw785 : k0_chk785 v4147), ∀ a, (k0_off791 v4147) a + S1x1024.size a ≤ S16384x1024.size a := fun v4147 k0_hw785 => k0_hw785

def k0_off792 (v4152 : BitVec 32) : Fin 2 → Nat :=
  let c0_i32_2560 : BitVec 32 := 0#32
  ![v4152.toNat, 0]

def k0_chk786 (v4152 : BitVec 32) : Prop :=
  (∀ a, (k0_off792 v4152) a + S1x1024.size a ≤ S16384x1024.size a)
theorem k0_off792_inb : ∀ (v4152 : BitVec 32) (k0_hw786 : k0_chk786 v4152), ∀ a, (k0_off792 v4152) a + S1x1024.size a ≤ S16384x1024.size a := fun v4152 k0_hw786 => k0_hw786

def k0_off793 (v4157 : BitVec 32) : Fin 2 → Nat :=
  let c0_i32_2563 : BitVec 32 := 0#32
  ![v4157.toNat, 0]

def k0_chk787 (v4157 : BitVec 32) : Prop :=
  (∀ a, (k0_off793 v4157) a + S1x1024.size a ≤ S16384x1024.size a)
theorem k0_off793_inb : ∀ (v4157 : BitVec 32) (k0_hw787 : k0_chk787 v4157), ∀ a, (k0_off793 v4157) a + S1x1024.size a ≤ S16384x1024.size a := fun v4157 k0_hw787 => k0_hw787

def k0_off794 (v4162 : BitVec 32) : Fin 2 → Nat :=
  let c0_i32_2566 : BitVec 32 := 0#32
  ![v4162.toNat, 0]

def k0_chk788 (v4162 : BitVec 32) : Prop :=
  (∀ a, (k0_off794 v4162) a + S1x1024.size a ≤ S16384x1024.size a)
theorem k0_off794_inb : ∀ (v4162 : BitVec 32) (k0_hw788 : k0_chk788 v4162), ∀ a, (k0_off794 v4162) a + S1x1024.size a ≤ S16384x1024.size a := fun v4162 k0_hw788 => k0_hw788

def k0_off795 (v4167 : BitVec 32) : Fin 2 → Nat :=
  let c0_i32_2569 : BitVec 32 := 0#32
  ![v4167.toNat, 0]

def k0_chk789 (v4167 : BitVec 32) : Prop :=
  (∀ a, (k0_off795 v4167) a + S1x1024.size a ≤ S16384x1024.size a)
theorem k0_off795_inb : ∀ (v4167 : BitVec 32) (k0_hw789 : k0_chk789 v4167), ∀ a, (k0_off795 v4167) a + S1x1024.size a ≤ S16384x1024.size a := fun v4167 k0_hw789 => k0_hw789

def k0_off796 (v4172 : BitVec 32) : Fin 2 → Nat :=
  let c0_i32_2572 : BitVec 32 := 0#32
  ![v4172.toNat, 0]

def k0_chk790 (v4172 : BitVec 32) : Prop :=
  (∀ a, (k0_off796 v4172) a + S1x1024.size a ≤ S16384x1024.size a)
theorem k0_off796_inb : ∀ (v4172 : BitVec 32) (k0_hw790 : k0_chk790 v4172), ∀ a, (k0_off796 v4172) a + S1x1024.size a ≤ S16384x1024.size a := fun v4172 k0_hw790 => k0_hw790

def k0_off797 (v4177 : BitVec 32) : Fin 2 → Nat :=
  let c0_i32_2575 : BitVec 32 := 0#32
  ![v4177.toNat, 0]

def k0_chk791 (v4177 : BitVec 32) : Prop :=
  (∀ a, (k0_off797 v4177) a + S1x1024.size a ≤ S16384x1024.size a)
theorem k0_off797_inb : ∀ (v4177 : BitVec 32) (k0_hw791 : k0_chk791 v4177), ∀ a, (k0_off797 v4177) a + S1x1024.size a ≤ S16384x1024.size a := fun v4177 k0_hw791 => k0_hw791

def k0_off798 (v4182 : BitVec 32) : Fin 2 → Nat :=
  let c0_i32_2578 : BitVec 32 := 0#32
  ![v4182.toNat, 0]

def k0_chk792 (v4182 : BitVec 32) : Prop :=
  (∀ a, (k0_off798 v4182) a + S1x1024.size a ≤ S16384x1024.size a)
theorem k0_off798_inb : ∀ (v4182 : BitVec 32) (k0_hw792 : k0_chk792 v4182), ∀ a, (k0_off798 v4182) a + S1x1024.size a ≤ S16384x1024.size a := fun v4182 k0_hw792 => k0_hw792

def k0_off799 (v4187 : BitVec 32) : Fin 2 → Nat :=
  let c0_i32_2581 : BitVec 32 := 0#32
  ![v4187.toNat, 0]

def k0_chk793 (v4187 : BitVec 32) : Prop :=
  (∀ a, (k0_off799 v4187) a + S1x1024.size a ≤ S16384x1024.size a)
theorem k0_off799_inb : ∀ (v4187 : BitVec 32) (k0_hw793 : k0_chk793 v4187), ∀ a, (k0_off799 v4187) a + S1x1024.size a ≤ S16384x1024.size a := fun v4187 k0_hw793 => k0_hw793

def k0_off800 (v4192 : BitVec 32) : Fin 2 → Nat :=
  let c0_i32_2584 : BitVec 32 := 0#32
  ![v4192.toNat, 0]

def k0_chk794 (v4192 : BitVec 32) : Prop :=
  (∀ a, (k0_off800 v4192) a + S1x1024.size a ≤ S16384x1024.size a)
theorem k0_off800_inb : ∀ (v4192 : BitVec 32) (k0_hw794 : k0_chk794 v4192), ∀ a, (k0_off800 v4192) a + S1x1024.size a ≤ S16384x1024.size a := fun v4192 k0_hw794 => k0_hw794

def k0_off801 (v4197 : BitVec 32) : Fin 2 → Nat :=
  let c0_i32_2587 : BitVec 32 := 0#32
  ![v4197.toNat, 0]

def k0_chk795 (v4197 : BitVec 32) : Prop :=
  (∀ a, (k0_off801 v4197) a + S1x1024.size a ≤ S16384x1024.size a)
theorem k0_off801_inb : ∀ (v4197 : BitVec 32) (k0_hw795 : k0_chk795 v4197), ∀ a, (k0_off801 v4197) a + S1x1024.size a ≤ S16384x1024.size a := fun v4197 k0_hw795 => k0_hw795

def k0_off802 (v4202 : BitVec 32) : Fin 2 → Nat :=
  let c0_i32_2590 : BitVec 32 := 0#32
  ![v4202.toNat, 0]

def k0_chk796 (v4202 : BitVec 32) : Prop :=
  (∀ a, (k0_off802 v4202) a + S1x1024.size a ≤ S16384x1024.size a)
theorem k0_off802_inb : ∀ (v4202 : BitVec 32) (k0_hw796 : k0_chk796 v4202), ∀ a, (k0_off802 v4202) a + S1x1024.size a ≤ S16384x1024.size a := fun v4202 k0_hw796 => k0_hw796

def k0_off803 (v4207 : BitVec 32) : Fin 2 → Nat :=
  let c0_i32_2593 : BitVec 32 := 0#32
  ![v4207.toNat, 0]

def k0_chk797 (v4207 : BitVec 32) : Prop :=
  (∀ a, (k0_off803 v4207) a + S1x1024.size a ≤ S16384x1024.size a)
theorem k0_off803_inb : ∀ (v4207 : BitVec 32) (k0_hw797 : k0_chk797 v4207), ∀ a, (k0_off803 v4207) a + S1x1024.size a ≤ S16384x1024.size a := fun v4207 k0_hw797 => k0_hw797

def k0_off804 (v4212 : BitVec 32) : Fin 2 → Nat :=
  let c0_i32_2596 : BitVec 32 := 0#32
  ![v4212.toNat, 0]

def k0_chk798 (v4212 : BitVec 32) : Prop :=
  (∀ a, (k0_off804 v4212) a + S1x1024.size a ≤ S16384x1024.size a)
theorem k0_off804_inb : ∀ (v4212 : BitVec 32) (k0_hw798 : k0_chk798 v4212), ∀ a, (k0_off804 v4212) a + S1x1024.size a ≤ S16384x1024.size a := fun v4212 k0_hw798 => k0_hw798

def k0_off805 (v4217 : BitVec 32) : Fin 2 → Nat :=
  let c0_i32_2599 : BitVec 32 := 0#32
  ![v4217.toNat, 0]

def k0_chk799 (v4217 : BitVec 32) : Prop :=
  (∀ a, (k0_off805 v4217) a + S1x1024.size a ≤ S16384x1024.size a)
theorem k0_off805_inb : ∀ (v4217 : BitVec 32) (k0_hw799 : k0_chk799 v4217), ∀ a, (k0_off805 v4217) a + S1x1024.size a ≤ S16384x1024.size a := fun v4217 k0_hw799 => k0_hw799

def k0_off806 (v4222 : BitVec 32) : Fin 2 → Nat :=
  let c0_i32_2602 : BitVec 32 := 0#32
  ![v4222.toNat, 0]

def k0_chk800 (v4222 : BitVec 32) : Prop :=
  (∀ a, (k0_off806 v4222) a + S1x1024.size a ≤ S16384x1024.size a)
theorem k0_off806_inb : ∀ (v4222 : BitVec 32) (k0_hw800 : k0_chk800 v4222), ∀ a, (k0_off806 v4222) a + S1x1024.size a ≤ S16384x1024.size a := fun v4222 k0_hw800 => k0_hw800

def k0_off807 (v4227 : BitVec 32) : Fin 2 → Nat :=
  let c0_i32_2605 : BitVec 32 := 0#32
  ![v4227.toNat, 0]

def k0_chk801 (v4227 : BitVec 32) : Prop :=
  (∀ a, (k0_off807 v4227) a + S1x1024.size a ≤ S16384x1024.size a)
theorem k0_off807_inb : ∀ (v4227 : BitVec 32) (k0_hw801 : k0_chk801 v4227), ∀ a, (k0_off807 v4227) a + S1x1024.size a ≤ S16384x1024.size a := fun v4227 k0_hw801 => k0_hw801

def k0_off808 (v4232 : BitVec 32) : Fin 2 → Nat :=
  let c0_i32_2608 : BitVec 32 := 0#32
  ![v4232.toNat, 0]

def k0_chk802 (v4232 : BitVec 32) : Prop :=
  (∀ a, (k0_off808 v4232) a + S1x1024.size a ≤ S16384x1024.size a)
theorem k0_off808_inb : ∀ (v4232 : BitVec 32) (k0_hw802 : k0_chk802 v4232), ∀ a, (k0_off808 v4232) a + S1x1024.size a ≤ S16384x1024.size a := fun v4232 k0_hw802 => k0_hw802

def k0_off809 (v4237 : BitVec 32) : Fin 2 → Nat :=
  let c0_i32_2611 : BitVec 32 := 0#32
  ![v4237.toNat, 0]

def k0_chk803 (v4237 : BitVec 32) : Prop :=
  (∀ a, (k0_off809 v4237) a + S1x1024.size a ≤ S16384x1024.size a)
theorem k0_off809_inb : ∀ (v4237 : BitVec 32) (k0_hw803 : k0_chk803 v4237), ∀ a, (k0_off809 v4237) a + S1x1024.size a ≤ S16384x1024.size a := fun v4237 k0_hw803 => k0_hw803

def k0_off810 (v4242 : BitVec 32) : Fin 2 → Nat :=
  let c0_i32_2614 : BitVec 32 := 0#32
  ![v4242.toNat, 0]

def k0_chk804 (v4242 : BitVec 32) : Prop :=
  (∀ a, (k0_off810 v4242) a + S1x1024.size a ≤ S16384x1024.size a)
theorem k0_off810_inb : ∀ (v4242 : BitVec 32) (k0_hw804 : k0_chk804 v4242), ∀ a, (k0_off810 v4242) a + S1x1024.size a ≤ S16384x1024.size a := fun v4242 k0_hw804 => k0_hw804

def k0_off811 (v4247 : BitVec 32) : Fin 2 → Nat :=
  let c0_i32_2617 : BitVec 32 := 0#32
  ![v4247.toNat, 0]

def k0_chk805 (v4247 : BitVec 32) : Prop :=
  (∀ a, (k0_off811 v4247) a + S1x1024.size a ≤ S16384x1024.size a)
theorem k0_off811_inb : ∀ (v4247 : BitVec 32) (k0_hw805 : k0_chk805 v4247), ∀ a, (k0_off811 v4247) a + S1x1024.size a ≤ S16384x1024.size a := fun v4247 k0_hw805 => k0_hw805

def k0_off812 (v4252 : BitVec 32) : Fin 2 → Nat :=
  let c0_i32_2620 : BitVec 32 := 0#32
  ![v4252.toNat, 0]

def k0_chk806 (v4252 : BitVec 32) : Prop :=
  (∀ a, (k0_off812 v4252) a + S1x1024.size a ≤ S16384x1024.size a)
theorem k0_off812_inb : ∀ (v4252 : BitVec 32) (k0_hw806 : k0_chk806 v4252), ∀ a, (k0_off812 v4252) a + S1x1024.size a ≤ S16384x1024.size a := fun v4252 k0_hw806 => k0_hw806

def k0_off813 (v4257 : BitVec 32) : Fin 2 → Nat :=
  let c0_i32_2623 : BitVec 32 := 0#32
  ![v4257.toNat, 0]

def k0_chk807 (v4257 : BitVec 32) : Prop :=
  (∀ a, (k0_off813 v4257) a + S1x1024.size a ≤ S16384x1024.size a)
theorem k0_off813_inb : ∀ (v4257 : BitVec 32) (k0_hw807 : k0_chk807 v4257), ∀ a, (k0_off813 v4257) a + S1x1024.size a ≤ S16384x1024.size a := fun v4257 k0_hw807 => k0_hw807

def k0_off814 (v4262 : BitVec 32) : Fin 2 → Nat :=
  let c0_i32_2626 : BitVec 32 := 0#32
  ![v4262.toNat, 0]

def k0_chk808 (v4262 : BitVec 32) : Prop :=
  (∀ a, (k0_off814 v4262) a + S1x1024.size a ≤ S16384x1024.size a)
theorem k0_off814_inb : ∀ (v4262 : BitVec 32) (k0_hw808 : k0_chk808 v4262), ∀ a, (k0_off814 v4262) a + S1x1024.size a ≤ S16384x1024.size a := fun v4262 k0_hw808 => k0_hw808

def k0_off815 (v4267 : BitVec 32) : Fin 2 → Nat :=
  let c0_i32_2629 : BitVec 32 := 0#32
  ![v4267.toNat, 0]

def k0_chk809 (v4267 : BitVec 32) : Prop :=
  (∀ a, (k0_off815 v4267) a + S1x1024.size a ≤ S16384x1024.size a)
theorem k0_off815_inb : ∀ (v4267 : BitVec 32) (k0_hw809 : k0_chk809 v4267), ∀ a, (k0_off815 v4267) a + S1x1024.size a ≤ S16384x1024.size a := fun v4267 k0_hw809 => k0_hw809

def k0_off816 (v4272 : BitVec 32) : Fin 2 → Nat :=
  let c0_i32_2632 : BitVec 32 := 0#32
  ![v4272.toNat, 0]

def k0_chk810 (v4272 : BitVec 32) : Prop :=
  (∀ a, (k0_off816 v4272) a + S1x1024.size a ≤ S16384x1024.size a)
theorem k0_off816_inb : ∀ (v4272 : BitVec 32) (k0_hw810 : k0_chk810 v4272), ∀ a, (k0_off816 v4272) a + S1x1024.size a ≤ S16384x1024.size a := fun v4272 k0_hw810 => k0_hw810

def k0_off817 (v4277 : BitVec 32) : Fin 2 → Nat :=
  let c0_i32_2635 : BitVec 32 := 0#32
  ![v4277.toNat, 0]

def k0_chk811 (v4277 : BitVec 32) : Prop :=
  (∀ a, (k0_off817 v4277) a + S1x1024.size a ≤ S16384x1024.size a)
theorem k0_off817_inb : ∀ (v4277 : BitVec 32) (k0_hw811 : k0_chk811 v4277), ∀ a, (k0_off817 v4277) a + S1x1024.size a ≤ S16384x1024.size a := fun v4277 k0_hw811 => k0_hw811

def k0_off818 (v4282 : BitVec 32) : Fin 2 → Nat :=
  let c0_i32_2638 : BitVec 32 := 0#32
  ![v4282.toNat, 0]

def k0_chk812 (v4282 : BitVec 32) : Prop :=
  (∀ a, (k0_off818 v4282) a + S1x1024.size a ≤ S16384x1024.size a)
theorem k0_off818_inb : ∀ (v4282 : BitVec 32) (k0_hw812 : k0_chk812 v4282), ∀ a, (k0_off818 v4282) a + S1x1024.size a ≤ S16384x1024.size a := fun v4282 k0_hw812 => k0_hw812

def k0_off819 (v4287 : BitVec 32) : Fin 2 → Nat :=
  let c0_i32_2641 : BitVec 32 := 0#32
  ![v4287.toNat, 0]

def k0_chk813 (v4287 : BitVec 32) : Prop :=
  (∀ a, (k0_off819 v4287) a + S1x1024.size a ≤ S16384x1024.size a)
theorem k0_off819_inb : ∀ (v4287 : BitVec 32) (k0_hw813 : k0_chk813 v4287), ∀ a, (k0_off819 v4287) a + S1x1024.size a ≤ S16384x1024.size a := fun v4287 k0_hw813 => k0_hw813

def k0_off820 (v4292 : BitVec 32) : Fin 2 → Nat :=
  let c0_i32_2644 : BitVec 32 := 0#32
  ![v4292.toNat, 0]

def k0_chk814 (v4292 : BitVec 32) : Prop :=
  (∀ a, (k0_off820 v4292) a + S1x1024.size a ≤ S16384x1024.size a)
theorem k0_off820_inb : ∀ (v4292 : BitVec 32) (k0_hw814 : k0_chk814 v4292), ∀ a, (k0_off820 v4292) a + S1x1024.size a ≤ S16384x1024.size a := fun v4292 k0_hw814 => k0_hw814

def k0_off821 (v4297 : BitVec 32) : Fin 2 → Nat :=
  let c0_i32_2647 : BitVec 32 := 0#32
  ![v4297.toNat, 0]

def k0_chk815 (v4297 : BitVec 32) : Prop :=
  (∀ a, (k0_off821 v4297) a + S1x1024.size a ≤ S16384x1024.size a)
theorem k0_off821_inb : ∀ (v4297 : BitVec 32) (k0_hw815 : k0_chk815 v4297), ∀ a, (k0_off821 v4297) a + S1x1024.size a ≤ S16384x1024.size a := fun v4297 k0_hw815 => k0_hw815

def k0_off822 (v4302 : BitVec 32) : Fin 2 → Nat :=
  let c0_i32_2650 : BitVec 32 := 0#32
  ![v4302.toNat, 0]

def k0_chk816 (v4302 : BitVec 32) : Prop :=
  (∀ a, (k0_off822 v4302) a + S1x1024.size a ≤ S16384x1024.size a)
theorem k0_off822_inb : ∀ (v4302 : BitVec 32) (k0_hw816 : k0_chk816 v4302), ∀ a, (k0_off822 v4302) a + S1x1024.size a ≤ S16384x1024.size a := fun v4302 k0_hw816 => k0_hw816

def k0_off823 (v4307 : BitVec 32) : Fin 2 → Nat :=
  let c0_i32_2653 : BitVec 32 := 0#32
  ![v4307.toNat, 0]

def k0_chk817 (v4307 : BitVec 32) : Prop :=
  (∀ a, (k0_off823 v4307) a + S1x1024.size a ≤ S16384x1024.size a)
theorem k0_off823_inb : ∀ (v4307 : BitVec 32) (k0_hw817 : k0_chk817 v4307), ∀ a, (k0_off823 v4307) a + S1x1024.size a ≤ S16384x1024.size a := fun v4307 k0_hw817 => k0_hw817

def k0_off824 (v4312 : BitVec 32) : Fin 2 → Nat :=
  let c0_i32_2656 : BitVec 32 := 0#32
  ![v4312.toNat, 0]

def k0_chk818 (v4312 : BitVec 32) : Prop :=
  (∀ a, (k0_off824 v4312) a + S1x1024.size a ≤ S16384x1024.size a)
theorem k0_off824_inb : ∀ (v4312 : BitVec 32) (k0_hw818 : k0_chk818 v4312), ∀ a, (k0_off824 v4312) a + S1x1024.size a ≤ S16384x1024.size a := fun v4312 k0_hw818 => k0_hw818

def k0_off825 (v4317 : BitVec 32) : Fin 2 → Nat :=
  let c0_i32_2659 : BitVec 32 := 0#32
  ![v4317.toNat, 0]

def k0_chk819 (v4317 : BitVec 32) : Prop :=
  (∀ a, (k0_off825 v4317) a + S1x1024.size a ≤ S16384x1024.size a)
theorem k0_off825_inb : ∀ (v4317 : BitVec 32) (k0_hw819 : k0_chk819 v4317), ∀ a, (k0_off825 v4317) a + S1x1024.size a ≤ S16384x1024.size a := fun v4317 k0_hw819 => k0_hw819

def k0_off826 (v4322 : BitVec 32) : Fin 2 → Nat :=
  let c0_i32_2662 : BitVec 32 := 0#32
  ![v4322.toNat, 0]

def k0_chk820 (v4322 : BitVec 32) : Prop :=
  (∀ a, (k0_off826 v4322) a + S1x1024.size a ≤ S16384x1024.size a)
theorem k0_off826_inb : ∀ (v4322 : BitVec 32) (k0_hw820 : k0_chk820 v4322), ∀ a, (k0_off826 v4322) a + S1x1024.size a ≤ S16384x1024.size a := fun v4322 k0_hw820 => k0_hw820

def k0_off827 (v4327 : BitVec 32) : Fin 2 → Nat :=
  let c0_i32_2665 : BitVec 32 := 0#32
  ![v4327.toNat, 0]

def k0_chk821 (v4327 : BitVec 32) : Prop :=
  (∀ a, (k0_off827 v4327) a + S1x1024.size a ≤ S16384x1024.size a)
theorem k0_off827_inb : ∀ (v4327 : BitVec 32) (k0_hw821 : k0_chk821 v4327), ∀ a, (k0_off827 v4327) a + S1x1024.size a ≤ S16384x1024.size a := fun v4327 k0_hw821 => k0_hw821

def k0_off828 (v4332 : BitVec 32) : Fin 2 → Nat :=
  let c0_i32_2668 : BitVec 32 := 0#32
  ![v4332.toNat, 0]

def k0_chk822 (v4332 : BitVec 32) : Prop :=
  (∀ a, (k0_off828 v4332) a + S1x1024.size a ≤ S16384x1024.size a)
theorem k0_off828_inb : ∀ (v4332 : BitVec 32) (k0_hw822 : k0_chk822 v4332), ∀ a, (k0_off828 v4332) a + S1x1024.size a ≤ S16384x1024.size a := fun v4332 k0_hw822 => k0_hw822

def k0_off829 (v4337 : BitVec 32) : Fin 2 → Nat :=
  let c0_i32_2671 : BitVec 32 := 0#32
  ![v4337.toNat, 0]

def k0_chk823 (v4337 : BitVec 32) : Prop :=
  (∀ a, (k0_off829 v4337) a + S1x1024.size a ≤ S16384x1024.size a)
theorem k0_off829_inb : ∀ (v4337 : BitVec 32) (k0_hw823 : k0_chk823 v4337), ∀ a, (k0_off829 v4337) a + S1x1024.size a ≤ S16384x1024.size a := fun v4337 k0_hw823 => k0_hw823

def k0_off830 (v4342 : BitVec 32) : Fin 2 → Nat :=
  let c0_i32_2674 : BitVec 32 := 0#32
  ![v4342.toNat, 0]

def k0_chk824 (v4342 : BitVec 32) : Prop :=
  (∀ a, (k0_off830 v4342) a + S1x1024.size a ≤ S16384x1024.size a)
theorem k0_off830_inb : ∀ (v4342 : BitVec 32) (k0_hw824 : k0_chk824 v4342), ∀ a, (k0_off830 v4342) a + S1x1024.size a ≤ S16384x1024.size a := fun v4342 k0_hw824 => k0_hw824

def k0_off831 (v4347 : BitVec 32) : Fin 2 → Nat :=
  let c0_i32_2677 : BitVec 32 := 0#32
  ![v4347.toNat, 0]

def k0_chk825 (v4347 : BitVec 32) : Prop :=
  (∀ a, (k0_off831 v4347) a + S1x1024.size a ≤ S16384x1024.size a)
theorem k0_off831_inb : ∀ (v4347 : BitVec 32) (k0_hw825 : k0_chk825 v4347), ∀ a, (k0_off831 v4347) a + S1x1024.size a ≤ S16384x1024.size a := fun v4347 k0_hw825 => k0_hw825

def k0_off832 (v4352 : BitVec 32) : Fin 2 → Nat :=
  let c0_i32_2680 : BitVec 32 := 0#32
  ![v4352.toNat, 0]

def k0_chk826 (v4352 : BitVec 32) : Prop :=
  (∀ a, (k0_off832 v4352) a + S1x1024.size a ≤ S16384x1024.size a)
theorem k0_off832_inb : ∀ (v4352 : BitVec 32) (k0_hw826 : k0_chk826 v4352), ∀ a, (k0_off832 v4352) a + S1x1024.size a ≤ S16384x1024.size a := fun v4352 k0_hw826 => k0_hw826

def k0_off833 (v4357 : BitVec 32) : Fin 2 → Nat :=
  let c0_i32_2683 : BitVec 32 := 0#32
  ![v4357.toNat, 0]

def k0_chk827 (v4357 : BitVec 32) : Prop :=
  (∀ a, (k0_off833 v4357) a + S1x1024.size a ≤ S16384x1024.size a)
theorem k0_off833_inb : ∀ (v4357 : BitVec 32) (k0_hw827 : k0_chk827 v4357), ∀ a, (k0_off833 v4357) a + S1x1024.size a ≤ S16384x1024.size a := fun v4357 k0_hw827 => k0_hw827

def k0_off834 (v4362 : BitVec 32) : Fin 2 → Nat :=
  let c0_i32_2686 : BitVec 32 := 0#32
  ![v4362.toNat, 0]

def k0_chk828 (v4362 : BitVec 32) : Prop :=
  (∀ a, (k0_off834 v4362) a + S1x1024.size a ≤ S16384x1024.size a)
theorem k0_off834_inb : ∀ (v4362 : BitVec 32) (k0_hw828 : k0_chk828 v4362), ∀ a, (k0_off834 v4362) a + S1x1024.size a ≤ S16384x1024.size a := fun v4362 k0_hw828 => k0_hw828

def k0_off835 (v4367 : BitVec 32) : Fin 2 → Nat :=
  let c0_i32_2689 : BitVec 32 := 0#32
  ![v4367.toNat, 0]

def k0_chk829 (v4367 : BitVec 32) : Prop :=
  (∀ a, (k0_off835 v4367) a + S1x1024.size a ≤ S16384x1024.size a)
theorem k0_off835_inb : ∀ (v4367 : BitVec 32) (k0_hw829 : k0_chk829 v4367), ∀ a, (k0_off835 v4367) a + S1x1024.size a ≤ S16384x1024.size a := fun v4367 k0_hw829 => k0_hw829

def k0_off836 (v4372 : BitVec 32) : Fin 2 → Nat :=
  let c0_i32_2692 : BitVec 32 := 0#32
  ![v4372.toNat, 0]

def k0_chk830 (v4372 : BitVec 32) : Prop :=
  (∀ a, (k0_off836 v4372) a + S1x1024.size a ≤ S16384x1024.size a)
theorem k0_off836_inb : ∀ (v4372 : BitVec 32) (k0_hw830 : k0_chk830 v4372), ∀ a, (k0_off836 v4372) a + S1x1024.size a ≤ S16384x1024.size a := fun v4372 k0_hw830 => k0_hw830

def k0_off837 (v4377 : BitVec 32) : Fin 2 → Nat :=
  let c0_i32_2695 : BitVec 32 := 0#32
  ![v4377.toNat, 0]

def k0_chk831 (v4377 : BitVec 32) : Prop :=
  (∀ a, (k0_off837 v4377) a + S1x1024.size a ≤ S16384x1024.size a)
theorem k0_off837_inb : ∀ (v4377 : BitVec 32) (k0_hw831 : k0_chk831 v4377), ∀ a, (k0_off837 v4377) a + S1x1024.size a ≤ S16384x1024.size a := fun v4377 k0_hw831 => k0_hw831

def k0_off838 (v4382 : BitVec 32) : Fin 2 → Nat :=
  let c0_i32_2698 : BitVec 32 := 0#32
  ![v4382.toNat, 0]

def k0_chk832 (v4382 : BitVec 32) : Prop :=
  (∀ a, (k0_off838 v4382) a + S1x1024.size a ≤ S16384x1024.size a)
theorem k0_off838_inb : ∀ (v4382 : BitVec 32) (k0_hw832 : k0_chk832 v4382), ∀ a, (k0_off838 v4382) a + S1x1024.size a ≤ S16384x1024.size a := fun v4382 k0_hw832 => k0_hw832

def k0_off839 (v4387 : BitVec 32) : Fin 2 → Nat :=
  let c0_i32_2701 : BitVec 32 := 0#32
  ![v4387.toNat, 0]

def k0_chk833 (v4387 : BitVec 32) : Prop :=
  (∀ a, (k0_off839 v4387) a + S1x1024.size a ≤ S16384x1024.size a)
theorem k0_off839_inb : ∀ (v4387 : BitVec 32) (k0_hw833 : k0_chk833 v4387), ∀ a, (k0_off839 v4387) a + S1x1024.size a ≤ S16384x1024.size a := fun v4387 k0_hw833 => k0_hw833

def k0_off840 (v4392 : BitVec 32) : Fin 2 → Nat :=
  let c0_i32_2704 : BitVec 32 := 0#32
  ![v4392.toNat, 0]

def k0_chk834 (v4392 : BitVec 32) : Prop :=
  (∀ a, (k0_off840 v4392) a + S1x1024.size a ≤ S16384x1024.size a)
theorem k0_off840_inb : ∀ (v4392 : BitVec 32) (k0_hw834 : k0_chk834 v4392), ∀ a, (k0_off840 v4392) a + S1x1024.size a ≤ S16384x1024.size a := fun v4392 k0_hw834 => k0_hw834

def k0_off841 (v4397 : BitVec 32) : Fin 2 → Nat :=
  let c0_i32_2707 : BitVec 32 := 0#32
  ![v4397.toNat, 0]

def k0_chk835 (v4397 : BitVec 32) : Prop :=
  (∀ a, (k0_off841 v4397) a + S1x1024.size a ≤ S16384x1024.size a)
theorem k0_off841_inb : ∀ (v4397 : BitVec 32) (k0_hw835 : k0_chk835 v4397), ∀ a, (k0_off841 v4397) a + S1x1024.size a ≤ S16384x1024.size a := fun v4397 k0_hw835 => k0_hw835

def k0_off842 (v4402 : BitVec 32) : Fin 2 → Nat :=
  let c0_i32_2710 : BitVec 32 := 0#32
  ![v4402.toNat, 0]

def k0_chk836 (v4402 : BitVec 32) : Prop :=
  (∀ a, (k0_off842 v4402) a + S1x1024.size a ≤ S16384x1024.size a)
theorem k0_off842_inb : ∀ (v4402 : BitVec 32) (k0_hw836 : k0_chk836 v4402), ∀ a, (k0_off842 v4402) a + S1x1024.size a ≤ S16384x1024.size a := fun v4402 k0_hw836 => k0_hw836

def k0_off843 (v4407 : BitVec 32) : Fin 2 → Nat :=
  let c0_i32_2713 : BitVec 32 := 0#32
  ![v4407.toNat, 0]

def k0_chk837 (v4407 : BitVec 32) : Prop :=
  (∀ a, (k0_off843 v4407) a + S1x1024.size a ≤ S16384x1024.size a)
theorem k0_off843_inb : ∀ (v4407 : BitVec 32) (k0_hw837 : k0_chk837 v4407), ∀ a, (k0_off843 v4407) a + S1x1024.size a ≤ S16384x1024.size a := fun v4407 k0_hw837 => k0_hw837

def k0_off844 (v4412 : BitVec 32) : Fin 2 → Nat :=
  let c0_i32_2716 : BitVec 32 := 0#32
  ![v4412.toNat, 0]

def k0_chk838 (v4412 : BitVec 32) : Prop :=
  (∀ a, (k0_off844 v4412) a + S1x1024.size a ≤ S16384x1024.size a)
theorem k0_off844_inb : ∀ (v4412 : BitVec 32) (k0_hw838 : k0_chk838 v4412), ∀ a, (k0_off844 v4412) a + S1x1024.size a ≤ S16384x1024.size a := fun v4412 k0_hw838 => k0_hw838

def k0_off845 (v4417 : BitVec 32) : Fin 2 → Nat :=
  let c0_i32_2719 : BitVec 32 := 0#32
  ![v4417.toNat, 0]

def k0_chk839 (v4417 : BitVec 32) : Prop :=
  (∀ a, (k0_off845 v4417) a + S1x1024.size a ≤ S16384x1024.size a)
theorem k0_off845_inb : ∀ (v4417 : BitVec 32) (k0_hw839 : k0_chk839 v4417), ∀ a, (k0_off845 v4417) a + S1x1024.size a ≤ S16384x1024.size a := fun v4417 k0_hw839 => k0_hw839

def k0_off846 (v4422 : BitVec 32) : Fin 2 → Nat :=
  let c0_i32_2722 : BitVec 32 := 0#32
  ![v4422.toNat, 0]

def k0_chk840 (v4422 : BitVec 32) : Prop :=
  (∀ a, (k0_off846 v4422) a + S1x1024.size a ≤ S16384x1024.size a)
theorem k0_off846_inb : ∀ (v4422 : BitVec 32) (k0_hw840 : k0_chk840 v4422), ∀ a, (k0_off846 v4422) a + S1x1024.size a ≤ S16384x1024.size a := fun v4422 k0_hw840 => k0_hw840

def k0_off847 (v4427 : BitVec 32) : Fin 2 → Nat :=
  let c0_i32_2725 : BitVec 32 := 0#32
  ![v4427.toNat, 0]

def k0_chk841 (v4427 : BitVec 32) : Prop :=
  (∀ a, (k0_off847 v4427) a + S1x1024.size a ≤ S16384x1024.size a)
theorem k0_off847_inb : ∀ (v4427 : BitVec 32) (k0_hw841 : k0_chk841 v4427), ∀ a, (k0_off847 v4427) a + S1x1024.size a ≤ S16384x1024.size a := fun v4427 k0_hw841 => k0_hw841

def k0_off848 (v4432 : BitVec 32) : Fin 2 → Nat :=
  let c0_i32_2728 : BitVec 32 := 0#32
  ![v4432.toNat, 0]

def k0_chk842 (v4432 : BitVec 32) : Prop :=
  (∀ a, (k0_off848 v4432) a + S1x1024.size a ≤ S16384x1024.size a)
theorem k0_off848_inb : ∀ (v4432 : BitVec 32) (k0_hw842 : k0_chk842 v4432), ∀ a, (k0_off848 v4432) a + S1x1024.size a ≤ S16384x1024.size a := fun v4432 k0_hw842 => k0_hw842

def k0_off849 (v4437 : BitVec 32) : Fin 2 → Nat :=
  let c0_i32_2731 : BitVec 32 := 0#32
  ![v4437.toNat, 0]

def k0_chk843 (v4437 : BitVec 32) : Prop :=
  (∀ a, (k0_off849 v4437) a + S1x1024.size a ≤ S16384x1024.size a)
theorem k0_off849_inb : ∀ (v4437 : BitVec 32) (k0_hw843 : k0_chk843 v4437), ∀ a, (k0_off849 v4437) a + S1x1024.size a ≤ S16384x1024.size a := fun v4437 k0_hw843 => k0_hw843

def k0_off850 (v4442 : BitVec 32) : Fin 2 → Nat :=
  let c0_i32_2734 : BitVec 32 := 0#32
  ![v4442.toNat, 0]

def k0_chk844 (v4442 : BitVec 32) : Prop :=
  (∀ a, (k0_off850 v4442) a + S1x1024.size a ≤ S16384x1024.size a)
theorem k0_off850_inb : ∀ (v4442 : BitVec 32) (k0_hw844 : k0_chk844 v4442), ∀ a, (k0_off850 v4442) a + S1x1024.size a ≤ S16384x1024.size a := fun v4442 k0_hw844 => k0_hw844

def k0_off851 (v4447 : BitVec 32) : Fin 2 → Nat :=
  let c0_i32_2737 : BitVec 32 := 0#32
  ![v4447.toNat, 0]

def k0_chk845 (v4447 : BitVec 32) : Prop :=
  (∀ a, (k0_off851 v4447) a + S1x1024.size a ≤ S16384x1024.size a)
theorem k0_off851_inb : ∀ (v4447 : BitVec 32) (k0_hw845 : k0_chk845 v4447), ∀ a, (k0_off851 v4447) a + S1x1024.size a ≤ S16384x1024.size a := fun v4447 k0_hw845 => k0_hw845

def k0_off852 (v4452 : BitVec 32) : Fin 2 → Nat :=
  let c0_i32_2740 : BitVec 32 := 0#32
  ![v4452.toNat, 0]

def k0_chk846 (v4452 : BitVec 32) : Prop :=
  (∀ a, (k0_off852 v4452) a + S1x1024.size a ≤ S16384x1024.size a)
theorem k0_off852_inb : ∀ (v4452 : BitVec 32) (k0_hw846 : k0_chk846 v4452), ∀ a, (k0_off852 v4452) a + S1x1024.size a ≤ S16384x1024.size a := fun v4452 k0_hw846 => k0_hw846

def k0_off853 (v4457 : BitVec 32) : Fin 2 → Nat :=
  let c0_i32_2743 : BitVec 32 := 0#32
  ![v4457.toNat, 0]

def k0_chk847 (v4457 : BitVec 32) : Prop :=
  (∀ a, (k0_off853 v4457) a + S1x1024.size a ≤ S16384x1024.size a)
theorem k0_off853_inb : ∀ (v4457 : BitVec 32) (k0_hw847 : k0_chk847 v4457), ∀ a, (k0_off853 v4457) a + S1x1024.size a ≤ S16384x1024.size a := fun v4457 k0_hw847 => k0_hw847

def k0_off854 (v4462 : BitVec 32) : Fin 2 → Nat :=
  let c0_i32_2746 : BitVec 32 := 0#32
  ![v4462.toNat, 0]

def k0_chk848 (v4462 : BitVec 32) : Prop :=
  (∀ a, (k0_off854 v4462) a + S1x1024.size a ≤ S16384x1024.size a)
theorem k0_off854_inb : ∀ (v4462 : BitVec 32) (k0_hw848 : k0_chk848 v4462), ∀ a, (k0_off854 v4462) a + S1x1024.size a ≤ S16384x1024.size a := fun v4462 k0_hw848 => k0_hw848

def k0_off855 (v4467 : BitVec 32) : Fin 2 → Nat :=
  let c0_i32_2749 : BitVec 32 := 0#32
  ![v4467.toNat, 0]

def k0_chk849 (v4467 : BitVec 32) : Prop :=
  (∀ a, (k0_off855 v4467) a + S1x1024.size a ≤ S16384x1024.size a)
theorem k0_off855_inb : ∀ (v4467 : BitVec 32) (k0_hw849 : k0_chk849 v4467), ∀ a, (k0_off855 v4467) a + S1x1024.size a ≤ S16384x1024.size a := fun v4467 k0_hw849 => k0_hw849

def k0_off856 (v4472 : BitVec 32) : Fin 2 → Nat :=
  let c0_i32_2752 : BitVec 32 := 0#32
  ![v4472.toNat, 0]

def k0_chk850 (v4472 : BitVec 32) : Prop :=
  (∀ a, (k0_off856 v4472) a + S1x1024.size a ≤ S16384x1024.size a)
theorem k0_off856_inb : ∀ (v4472 : BitVec 32) (k0_hw850 : k0_chk850 v4472), ∀ a, (k0_off856 v4472) a + S1x1024.size a ≤ S16384x1024.size a := fun v4472 k0_hw850 => k0_hw850

def k0_off857 (v4477 : BitVec 32) : Fin 2 → Nat :=
  let c0_i32_2755 : BitVec 32 := 0#32
  ![v4477.toNat, 0]

def k0_chk851 (v4477 : BitVec 32) : Prop :=
  (∀ a, (k0_off857 v4477) a + S1x1024.size a ≤ S16384x1024.size a)
theorem k0_off857_inb : ∀ (v4477 : BitVec 32) (k0_hw851 : k0_chk851 v4477), ∀ a, (k0_off857 v4477) a + S1x1024.size a ≤ S16384x1024.size a := fun v4477 k0_hw851 => k0_hw851

def k0_off858 (v4482 : BitVec 32) : Fin 2 → Nat :=
  let c0_i32_2758 : BitVec 32 := 0#32
  ![v4482.toNat, 0]

def k0_chk852 (v4482 : BitVec 32) : Prop :=
  (∀ a, (k0_off858 v4482) a + S1x1024.size a ≤ S16384x1024.size a)
theorem k0_off858_inb : ∀ (v4482 : BitVec 32) (k0_hw852 : k0_chk852 v4482), ∀ a, (k0_off858 v4482) a + S1x1024.size a ≤ S16384x1024.size a := fun v4482 k0_hw852 => k0_hw852

def k0_off859 (v4487 : BitVec 32) : Fin 2 → Nat :=
  let c0_i32_2761 : BitVec 32 := 0#32
  ![v4487.toNat, 0]

def k0_chk853 (v4487 : BitVec 32) : Prop :=
  (∀ a, (k0_off859 v4487) a + S1x1024.size a ≤ S16384x1024.size a)
theorem k0_off859_inb : ∀ (v4487 : BitVec 32) (k0_hw853 : k0_chk853 v4487), ∀ a, (k0_off859 v4487) a + S1x1024.size a ≤ S16384x1024.size a := fun v4487 k0_hw853 => k0_hw853

def k0_off860 (v4492 : BitVec 32) : Fin 2 → Nat :=
  let c0_i32_2764 : BitVec 32 := 0#32
  ![v4492.toNat, 0]

def k0_chk854 (v4492 : BitVec 32) : Prop :=
  (∀ a, (k0_off860 v4492) a + S1x1024.size a ≤ S16384x1024.size a)
theorem k0_off860_inb : ∀ (v4492 : BitVec 32) (k0_hw854 : k0_chk854 v4492), ∀ a, (k0_off860 v4492) a + S1x1024.size a ≤ S16384x1024.size a := fun v4492 k0_hw854 => k0_hw854

def k0_off861 (v4497 : BitVec 32) : Fin 2 → Nat :=
  let c0_i32_2767 : BitVec 32 := 0#32
  ![v4497.toNat, 0]

def k0_chk855 (v4497 : BitVec 32) : Prop :=
  (∀ a, (k0_off861 v4497) a + S1x1024.size a ≤ S16384x1024.size a)
theorem k0_off861_inb : ∀ (v4497 : BitVec 32) (k0_hw855 : k0_chk855 v4497), ∀ a, (k0_off861 v4497) a + S1x1024.size a ≤ S16384x1024.size a := fun v4497 k0_hw855 => k0_hw855

def k0_off862 (v4502 : BitVec 32) : Fin 2 → Nat :=
  let c0_i32_2770 : BitVec 32 := 0#32
  ![v4502.toNat, 0]

def k0_chk856 (v4502 : BitVec 32) : Prop :=
  (∀ a, (k0_off862 v4502) a + S1x1024.size a ≤ S16384x1024.size a)
theorem k0_off862_inb : ∀ (v4502 : BitVec 32) (k0_hw856 : k0_chk856 v4502), ∀ a, (k0_off862 v4502) a + S1x1024.size a ≤ S16384x1024.size a := fun v4502 k0_hw856 => k0_hw856

def k0_off863 (v4507 : BitVec 32) : Fin 2 → Nat :=
  let c0_i32_2773 : BitVec 32 := 0#32
  ![v4507.toNat, 0]

def k0_chk857 (v4507 : BitVec 32) : Prop :=
  (∀ a, (k0_off863 v4507) a + S1x1024.size a ≤ S16384x1024.size a)
theorem k0_off863_inb : ∀ (v4507 : BitVec 32) (k0_hw857 : k0_chk857 v4507), ∀ a, (k0_off863 v4507) a + S1x1024.size a ≤ S16384x1024.size a := fun v4507 k0_hw857 => k0_hw857

def k0_off864 (v4512 : BitVec 32) : Fin 2 → Nat :=
  let c0_i32_2776 : BitVec 32 := 0#32
  ![v4512.toNat, 0]

def k0_chk858 (v4512 : BitVec 32) : Prop :=
  (∀ a, (k0_off864 v4512) a + S1x1024.size a ≤ S16384x1024.size a)
theorem k0_off864_inb : ∀ (v4512 : BitVec 32) (k0_hw858 : k0_chk858 v4512), ∀ a, (k0_off864 v4512) a + S1x1024.size a ≤ S16384x1024.size a := fun v4512 k0_hw858 => k0_hw858

def k0_off865 (v4517 : BitVec 32) : Fin 2 → Nat :=
  let c0_i32_2779 : BitVec 32 := 0#32
  ![v4517.toNat, 0]

def k0_chk859 (v4517 : BitVec 32) : Prop :=
  (∀ a, (k0_off865 v4517) a + S1x1024.size a ≤ S16384x1024.size a)
theorem k0_off865_inb : ∀ (v4517 : BitVec 32) (k0_hw859 : k0_chk859 v4517), ∀ a, (k0_off865 v4517) a + S1x1024.size a ≤ S16384x1024.size a := fun v4517 k0_hw859 => k0_hw859

def k0_off866 (v4522 : BitVec 32) : Fin 2 → Nat :=
  let c0_i32_2782 : BitVec 32 := 0#32
  ![v4522.toNat, 0]

def k0_chk860 (v4522 : BitVec 32) : Prop :=
  (∀ a, (k0_off866 v4522) a + S1x1024.size a ≤ S16384x1024.size a)
theorem k0_off866_inb : ∀ (v4522 : BitVec 32) (k0_hw860 : k0_chk860 v4522), ∀ a, (k0_off866 v4522) a + S1x1024.size a ≤ S16384x1024.size a := fun v4522 k0_hw860 => k0_hw860

def k0_off867 (v4527 : BitVec 32) : Fin 2 → Nat :=
  let c0_i32_2785 : BitVec 32 := 0#32
  ![v4527.toNat, 0]

def k0_chk861 (v4527 : BitVec 32) : Prop :=
  (∀ a, (k0_off867 v4527) a + S1x1024.size a ≤ S16384x1024.size a)
theorem k0_off867_inb : ∀ (v4527 : BitVec 32) (k0_hw861 : k0_chk861 v4527), ∀ a, (k0_off867 v4527) a + S1x1024.size a ≤ S16384x1024.size a := fun v4527 k0_hw861 => k0_hw861

def k0_off868 (v4532 : BitVec 32) : Fin 2 → Nat :=
  let c0_i32_2788 : BitVec 32 := 0#32
  ![v4532.toNat, 0]

def k0_chk862 (v4532 : BitVec 32) : Prop :=
  (∀ a, (k0_off868 v4532) a + S1x1024.size a ≤ S16384x1024.size a)
theorem k0_off868_inb : ∀ (v4532 : BitVec 32) (k0_hw862 : k0_chk862 v4532), ∀ a, (k0_off868 v4532) a + S1x1024.size a ≤ S16384x1024.size a := fun v4532 k0_hw862 => k0_hw862

def k0_off869 (v4537 : BitVec 32) : Fin 2 → Nat :=
  let c0_i32_2791 : BitVec 32 := 0#32
  ![v4537.toNat, 0]

def k0_chk863 (v4537 : BitVec 32) : Prop :=
  (∀ a, (k0_off869 v4537) a + S1x1024.size a ≤ S16384x1024.size a)
theorem k0_off869_inb : ∀ (v4537 : BitVec 32) (k0_hw863 : k0_chk863 v4537), ∀ a, (k0_off869 v4537) a + S1x1024.size a ≤ S16384x1024.size a := fun v4537 k0_hw863 => k0_hw863

def k0_off870 (v4542 : BitVec 32) : Fin 2 → Nat :=
  let c0_i32_2794 : BitVec 32 := 0#32
  ![v4542.toNat, 0]

def k0_chk864 (v4542 : BitVec 32) : Prop :=
  (∀ a, (k0_off870 v4542) a + S1x1024.size a ≤ S16384x1024.size a)
theorem k0_off870_inb : ∀ (v4542 : BitVec 32) (k0_hw864 : k0_chk864 v4542), ∀ a, (k0_off870 v4542) a + S1x1024.size a ≤ S16384x1024.size a := fun v4542 k0_hw864 => k0_hw864

def k0_off871 (v4547 : BitVec 32) : Fin 2 → Nat :=
  let c0_i32_2797 : BitVec 32 := 0#32
  ![v4547.toNat, 0]

def k0_chk865 (v4547 : BitVec 32) : Prop :=
  (∀ a, (k0_off871 v4547) a + S1x1024.size a ≤ S16384x1024.size a)
theorem k0_off871_inb : ∀ (v4547 : BitVec 32) (k0_hw865 : k0_chk865 v4547), ∀ a, (k0_off871 v4547) a + S1x1024.size a ≤ S16384x1024.size a := fun v4547 k0_hw865 => k0_hw865

def k0_off872 (v4552 : BitVec 32) : Fin 2 → Nat :=
  let c0_i32_2800 : BitVec 32 := 0#32
  ![v4552.toNat, 0]

def k0_chk866 (v4552 : BitVec 32) : Prop :=
  (∀ a, (k0_off872 v4552) a + S1x1024.size a ≤ S16384x1024.size a)
theorem k0_off872_inb : ∀ (v4552 : BitVec 32) (k0_hw866 : k0_chk866 v4552), ∀ a, (k0_off872 v4552) a + S1x1024.size a ≤ S16384x1024.size a := fun v4552 k0_hw866 => k0_hw866

def k0_off873 (v4557 : BitVec 32) : Fin 2 → Nat :=
  let c0_i32_2803 : BitVec 32 := 0#32
  ![v4557.toNat, 0]

def k0_chk867 (v4557 : BitVec 32) : Prop :=
  (∀ a, (k0_off873 v4557) a + S1x1024.size a ≤ S16384x1024.size a)
theorem k0_off873_inb : ∀ (v4557 : BitVec 32) (k0_hw867 : k0_chk867 v4557), ∀ a, (k0_off873 v4557) a + S1x1024.size a ≤ S16384x1024.size a := fun v4557 k0_hw867 => k0_hw867

def k0_off874 (v4562 : BitVec 32) : Fin 2 → Nat :=
  let c0_i32_2806 : BitVec 32 := 0#32
  ![v4562.toNat, 0]

def k0_chk868 (v4562 : BitVec 32) : Prop :=
  (∀ a, (k0_off874 v4562) a + S1x1024.size a ≤ S16384x1024.size a)
theorem k0_off874_inb : ∀ (v4562 : BitVec 32) (k0_hw868 : k0_chk868 v4562), ∀ a, (k0_off874 v4562) a + S1x1024.size a ≤ S16384x1024.size a := fun v4562 k0_hw868 => k0_hw868

def k0_off875 (v4567 : BitVec 32) : Fin 2 → Nat :=
  let c0_i32_2809 : BitVec 32 := 0#32
  ![v4567.toNat, 0]

def k0_chk869 (v4567 : BitVec 32) : Prop :=
  (∀ a, (k0_off875 v4567) a + S1x1024.size a ≤ S16384x1024.size a)
theorem k0_off875_inb : ∀ (v4567 : BitVec 32) (k0_hw869 : k0_chk869 v4567), ∀ a, (k0_off875 v4567) a + S1x1024.size a ≤ S16384x1024.size a := fun v4567 k0_hw869 => k0_hw869

def k0_off876 (v4572 : BitVec 32) : Fin 2 → Nat :=
  let c0_i32_2812 : BitVec 32 := 0#32
  ![v4572.toNat, 0]

def k0_chk870 (v4572 : BitVec 32) : Prop :=
  (∀ a, (k0_off876 v4572) a + S1x1024.size a ≤ S16384x1024.size a)
theorem k0_off876_inb : ∀ (v4572 : BitVec 32) (k0_hw870 : k0_chk870 v4572), ∀ a, (k0_off876 v4572) a + S1x1024.size a ≤ S16384x1024.size a := fun v4572 k0_hw870 => k0_hw870

def k0_off877 (v4577 : BitVec 32) : Fin 2 → Nat :=
  let c0_i32_2815 : BitVec 32 := 0#32
  ![v4577.toNat, 0]

def k0_chk871 (v4577 : BitVec 32) : Prop :=
  (∀ a, (k0_off877 v4577) a + S1x1024.size a ≤ S16384x1024.size a)
theorem k0_off877_inb : ∀ (v4577 : BitVec 32) (k0_hw871 : k0_chk871 v4577), ∀ a, (k0_off877 v4577) a + S1x1024.size a ≤ S16384x1024.size a := fun v4577 k0_hw871 => k0_hw871

def k0_off878 (v4582 : BitVec 32) : Fin 2 → Nat :=
  let c0_i32_2818 : BitVec 32 := 0#32
  ![v4582.toNat, 0]

def k0_chk872 (v4582 : BitVec 32) : Prop :=
  (∀ a, (k0_off878 v4582) a + S1x1024.size a ≤ S16384x1024.size a)
theorem k0_off878_inb : ∀ (v4582 : BitVec 32) (k0_hw872 : k0_chk872 v4582), ∀ a, (k0_off878 v4582) a + S1x1024.size a ≤ S16384x1024.size a := fun v4582 k0_hw872 => k0_hw872

def k0_off879 (v4587 : BitVec 32) : Fin 2 → Nat :=
  let c0_i32_2821 : BitVec 32 := 0#32
  ![v4587.toNat, 0]

def k0_chk873 (v4587 : BitVec 32) : Prop :=
  (∀ a, (k0_off879 v4587) a + S1x1024.size a ≤ S16384x1024.size a)
theorem k0_off879_inb : ∀ (v4587 : BitVec 32) (k0_hw873 : k0_chk873 v4587), ∀ a, (k0_off879 v4587) a + S1x1024.size a ≤ S16384x1024.size a := fun v4587 k0_hw873 => k0_hw873

def k0_off880 (v4592 : BitVec 32) : Fin 2 → Nat :=
  let c0_i32_2824 : BitVec 32 := 0#32
  ![v4592.toNat, 0]

def k0_chk874 (v4592 : BitVec 32) : Prop :=
  (∀ a, (k0_off880 v4592) a + S1x1024.size a ≤ S16384x1024.size a)
theorem k0_off880_inb : ∀ (v4592 : BitVec 32) (k0_hw874 : k0_chk874 v4592), ∀ a, (k0_off880 v4592) a + S1x1024.size a ≤ S16384x1024.size a := fun v4592 k0_hw874 => k0_hw874

def k0_off881 (v4597 : BitVec 32) : Fin 2 → Nat :=
  let c0_i32_2827 : BitVec 32 := 0#32
  ![v4597.toNat, 0]

def k0_chk875 (v4597 : BitVec 32) : Prop :=
  (∀ a, (k0_off881 v4597) a + S1x1024.size a ≤ S16384x1024.size a)
theorem k0_off881_inb : ∀ (v4597 : BitVec 32) (k0_hw875 : k0_chk875 v4597), ∀ a, (k0_off881 v4597) a + S1x1024.size a ≤ S16384x1024.size a := fun v4597 k0_hw875 => k0_hw875

def k0_off882 (v4602 : BitVec 32) : Fin 2 → Nat :=
  let c0_i32_2830 : BitVec 32 := 0#32
  ![v4602.toNat, 0]

def k0_chk876 (v4602 : BitVec 32) : Prop :=
  (∀ a, (k0_off882 v4602) a + S1x1024.size a ≤ S16384x1024.size a)
theorem k0_off882_inb : ∀ (v4602 : BitVec 32) (k0_hw876 : k0_chk876 v4602), ∀ a, (k0_off882 v4602) a + S1x1024.size a ≤ S16384x1024.size a := fun v4602 k0_hw876 => k0_hw876

def k0_off883 (v4607 : BitVec 32) : Fin 2 → Nat :=
  let c0_i32_2833 : BitVec 32 := 0#32
  ![v4607.toNat, 0]

def k0_chk877 (v4607 : BitVec 32) : Prop :=
  (∀ a, (k0_off883 v4607) a + S1x1024.size a ≤ S16384x1024.size a)
theorem k0_off883_inb : ∀ (v4607 : BitVec 32) (k0_hw877 : k0_chk877 v4607), ∀ a, (k0_off883 v4607) a + S1x1024.size a ≤ S16384x1024.size a := fun v4607 k0_hw877 => k0_hw877

def k0_off884 (v4612 : BitVec 32) : Fin 2 → Nat :=
  let c0_i32_2836 : BitVec 32 := 0#32
  ![v4612.toNat, 0]

def k0_chk878 (v4612 : BitVec 32) : Prop :=
  (∀ a, (k0_off884 v4612) a + S1x1024.size a ≤ S16384x1024.size a)
theorem k0_off884_inb : ∀ (v4612 : BitVec 32) (k0_hw878 : k0_chk878 v4612), ∀ a, (k0_off884 v4612) a + S1x1024.size a ≤ S16384x1024.size a := fun v4612 k0_hw878 => k0_hw878

def k0_off885 (v4617 : BitVec 32) : Fin 2 → Nat :=
  let c0_i32_2839 : BitVec 32 := 0#32
  ![v4617.toNat, 0]

def k0_chk879 (v4617 : BitVec 32) : Prop :=
  (∀ a, (k0_off885 v4617) a + S1x1024.size a ≤ S16384x1024.size a)
theorem k0_off885_inb : ∀ (v4617 : BitVec 32) (k0_hw879 : k0_chk879 v4617), ∀ a, (k0_off885 v4617) a + S1x1024.size a ≤ S16384x1024.size a := fun v4617 k0_hw879 => k0_hw879

def k0_off886 (v4622 : BitVec 32) : Fin 2 → Nat :=
  let c0_i32_2842 : BitVec 32 := 0#32
  ![v4622.toNat, 0]

def k0_chk880 (v4622 : BitVec 32) : Prop :=
  (∀ a, (k0_off886 v4622) a + S1x1024.size a ≤ S16384x1024.size a)
theorem k0_off886_inb : ∀ (v4622 : BitVec 32) (k0_hw880 : k0_chk880 v4622), ∀ a, (k0_off886 v4622) a + S1x1024.size a ≤ S16384x1024.size a := fun v4622 k0_hw880 => k0_hw880

def k0_off887 (v4627 : BitVec 32) : Fin 2 → Nat :=
  let c0_i32_2845 : BitVec 32 := 0#32
  ![v4627.toNat, 0]

def k0_chk881 (v4627 : BitVec 32) : Prop :=
  (∀ a, (k0_off887 v4627) a + S1x1024.size a ≤ S16384x1024.size a)
theorem k0_off887_inb : ∀ (v4627 : BitVec 32) (k0_hw881 : k0_chk881 v4627), ∀ a, (k0_off887 v4627) a + S1x1024.size a ≤ S16384x1024.size a := fun v4627 k0_hw881 => k0_hw881

def k0_off888 (v4632 : BitVec 32) : Fin 2 → Nat :=
  let c0_i32_2848 : BitVec 32 := 0#32
  ![v4632.toNat, 0]

def k0_chk882 (v4632 : BitVec 32) : Prop :=
  (∀ a, (k0_off888 v4632) a + S1x1024.size a ≤ S16384x1024.size a)
theorem k0_off888_inb : ∀ (v4632 : BitVec 32) (k0_hw882 : k0_chk882 v4632), ∀ a, (k0_off888 v4632) a + S1x1024.size a ≤ S16384x1024.size a := fun v4632 k0_hw882 => k0_hw882

def k0_off889 (v4637 : BitVec 32) : Fin 2 → Nat :=
  let c0_i32_2851 : BitVec 32 := 0#32
  ![v4637.toNat, 0]

def k0_chk883 (v4637 : BitVec 32) : Prop :=
  (∀ a, (k0_off889 v4637) a + S1x1024.size a ≤ S16384x1024.size a)
theorem k0_off889_inb : ∀ (v4637 : BitVec 32) (k0_hw883 : k0_chk883 v4637), ∀ a, (k0_off889 v4637) a + S1x1024.size a ≤ S16384x1024.size a := fun v4637 k0_hw883 => k0_hw883

def k0_off890 (v4642 : BitVec 32) : Fin 2 → Nat :=
  let c0_i32_2854 : BitVec 32 := 0#32
  ![v4642.toNat, 0]

def k0_chk884 (v4642 : BitVec 32) : Prop :=
  (∀ a, (k0_off890 v4642) a + S1x1024.size a ≤ S16384x1024.size a)
theorem k0_off890_inb : ∀ (v4642 : BitVec 32) (k0_hw884 : k0_chk884 v4642), ∀ a, (k0_off890 v4642) a + S1x1024.size a ≤ S16384x1024.size a := fun v4642 k0_hw884 => k0_hw884

def k0_off891 (v4647 : BitVec 32) : Fin 2 → Nat :=
  let c0_i32_2857 : BitVec 32 := 0#32
  ![v4647.toNat, 0]

def k0_chk885 (v4647 : BitVec 32) : Prop :=
  (∀ a, (k0_off891 v4647) a + S1x1024.size a ≤ S16384x1024.size a)
theorem k0_off891_inb : ∀ (v4647 : BitVec 32) (k0_hw885 : k0_chk885 v4647), ∀ a, (k0_off891 v4647) a + S1x1024.size a ≤ S16384x1024.size a := fun v4647 k0_hw885 => k0_hw885

def k0_off892 (v4652 : BitVec 32) : Fin 2 → Nat :=
  let c0_i32_2860 : BitVec 32 := 0#32
  ![v4652.toNat, 0]

def k0_chk886 (v4652 : BitVec 32) : Prop :=
  (∀ a, (k0_off892 v4652) a + S1x1024.size a ≤ S16384x1024.size a)
theorem k0_off892_inb : ∀ (v4652 : BitVec 32) (k0_hw886 : k0_chk886 v4652), ∀ a, (k0_off892 v4652) a + S1x1024.size a ≤ S16384x1024.size a := fun v4652 k0_hw886 => k0_hw886

def k0_off893 (v4657 : BitVec 32) : Fin 2 → Nat :=
  let c0_i32_2863 : BitVec 32 := 0#32
  ![v4657.toNat, 0]

def k0_chk887 (v4657 : BitVec 32) : Prop :=
  (∀ a, (k0_off893 v4657) a + S1x1024.size a ≤ S16384x1024.size a)
theorem k0_off893_inb : ∀ (v4657 : BitVec 32) (k0_hw887 : k0_chk887 v4657), ∀ a, (k0_off893 v4657) a + S1x1024.size a ≤ S16384x1024.size a := fun v4657 k0_hw887 => k0_hw887

def k0_off894 (v4662 : BitVec 32) : Fin 2 → Nat :=
  let c0_i32_2866 : BitVec 32 := 0#32
  ![v4662.toNat, 0]

def k0_chk888 (v4662 : BitVec 32) : Prop :=
  (∀ a, (k0_off894 v4662) a + S1x1024.size a ≤ S16384x1024.size a)
theorem k0_off894_inb : ∀ (v4662 : BitVec 32) (k0_hw888 : k0_chk888 v4662), ∀ a, (k0_off894 v4662) a + S1x1024.size a ≤ S16384x1024.size a := fun v4662 k0_hw888 => k0_hw888

def k0_off895 (v4667 : BitVec 32) : Fin 2 → Nat :=
  let c0_i32_2869 : BitVec 32 := 0#32
  ![v4667.toNat, 0]

def k0_chk889 (v4667 : BitVec 32) : Prop :=
  (∀ a, (k0_off895 v4667) a + S1x1024.size a ≤ S16384x1024.size a)
theorem k0_off895_inb : ∀ (v4667 : BitVec 32) (k0_hw889 : k0_chk889 v4667), ∀ a, (k0_off895 v4667) a + S1x1024.size a ≤ S16384x1024.size a := fun v4667 k0_hw889 => k0_hw889

def k0_off896 (v4672 : BitVec 32) : Fin 2 → Nat :=
  let c0_i32_2872 : BitVec 32 := 0#32
  ![v4672.toNat, 0]

def k0_chk890 (v4672 : BitVec 32) : Prop :=
  (∀ a, (k0_off896 v4672) a + S1x1024.size a ≤ S16384x1024.size a)
theorem k0_off896_inb : ∀ (v4672 : BitVec 32) (k0_hw890 : k0_chk890 v4672), ∀ a, (k0_off896 v4672) a + S1x1024.size a ≤ S16384x1024.size a := fun v4672 k0_hw890 => k0_hw890

def k0_off897 (v4677 : BitVec 32) : Fin 2 → Nat :=
  let c0_i32_2875 : BitVec 32 := 0#32
  ![v4677.toNat, 0]

def k0_chk891 (v4677 : BitVec 32) : Prop :=
  (∀ a, (k0_off897 v4677) a + S1x1024.size a ≤ S16384x1024.size a)
theorem k0_off897_inb : ∀ (v4677 : BitVec 32) (k0_hw891 : k0_chk891 v4677), ∀ a, (k0_off897 v4677) a + S1x1024.size a ≤ S16384x1024.size a := fun v4677 k0_hw891 => k0_hw891

def k0_off898 (v4682 : BitVec 32) : Fin 2 → Nat :=
  let c0_i32_2878 : BitVec 32 := 0#32
  ![v4682.toNat, 0]

def k0_chk892 (v4682 : BitVec 32) : Prop :=
  (∀ a, (k0_off898 v4682) a + S1x1024.size a ≤ S16384x1024.size a)
theorem k0_off898_inb : ∀ (v4682 : BitVec 32) (k0_hw892 : k0_chk892 v4682), ∀ a, (k0_off898 v4682) a + S1x1024.size a ≤ S16384x1024.size a := fun v4682 k0_hw892 => k0_hw892

def k0_off899 (v4687 : BitVec 32) : Fin 2 → Nat :=
  let c0_i32_2881 : BitVec 32 := 0#32
  ![v4687.toNat, 0]

def k0_chk893 (v4687 : BitVec 32) : Prop :=
  (∀ a, (k0_off899 v4687) a + S1x1024.size a ≤ S16384x1024.size a)
theorem k0_off899_inb : ∀ (v4687 : BitVec 32) (k0_hw893 : k0_chk893 v4687), ∀ a, (k0_off899 v4687) a + S1x1024.size a ≤ S16384x1024.size a := fun v4687 k0_hw893 => k0_hw893

def k0_off900 (v4692 : BitVec 32) : Fin 2 → Nat :=
  let c0_i32_2884 : BitVec 32 := 0#32
  ![v4692.toNat, 0]

def k0_chk894 (v4692 : BitVec 32) : Prop :=
  (∀ a, (k0_off900 v4692) a + S1x1024.size a ≤ S16384x1024.size a)
theorem k0_off900_inb : ∀ (v4692 : BitVec 32) (k0_hw894 : k0_chk894 v4692), ∀ a, (k0_off900 v4692) a + S1x1024.size a ≤ S16384x1024.size a := fun v4692 k0_hw894 => k0_hw894

def k0_off901 (v4697 : BitVec 32) : Fin 2 → Nat :=
  let c0_i32_2887 : BitVec 32 := 0#32
  ![v4697.toNat, 0]

def k0_chk895 (v4697 : BitVec 32) : Prop :=
  (∀ a, (k0_off901 v4697) a + S1x1024.size a ≤ S16384x1024.size a)
theorem k0_off901_inb : ∀ (v4697 : BitVec 32) (k0_hw895 : k0_chk895 v4697), ∀ a, (k0_off901 v4697) a + S1x1024.size a ≤ S16384x1024.size a := fun v4697 k0_hw895 => k0_hw895

def k0_off902 (v4702 : BitVec 32) : Fin 2 → Nat :=
  let c0_i32_2890 : BitVec 32 := 0#32
  ![v4702.toNat, 0]

def k0_chk896 (v4702 : BitVec 32) : Prop :=
  (∀ a, (k0_off902 v4702) a + S1x1024.size a ≤ S16384x1024.size a)
theorem k0_off902_inb : ∀ (v4702 : BitVec 32) (k0_hw896 : k0_chk896 v4702), ∀ a, (k0_off902 v4702) a + S1x1024.size a ≤ S16384x1024.size a := fun v4702 k0_hw896 => k0_hw896

def k0_off903 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32_2904 : BitVec 32 := 1024#32
  let v4718 : BitVec 32 := Scalar.muli v2 c1024_i32_2904
  let c384_i32_2905 : BitVec 32 := 384#32
  let v4719 : BitVec 32 := Scalar.addi v4718 c384_i32_2905
  let v4720 : Index := Scalar.indexCast v4719
  let c0_2906 : Index := 0#32
  ![v4720.toNat, 0]
def k0_off904 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32_2909 : BitVec 32 := 1024#32
  let v4724 : BitVec 32 := Scalar.muli v2 c1024_i32_2909
  let c384_i32_2910 : BitVec 32 := 384#32
  let v4725 : BitVec 32 := Scalar.addi v4724 c384_i32_2910
  let c0_i32_2917 : BitVec 32 := 0#32
  ![v4725.toNat, 0]
def k0_dev11 (d0 : Dev nD) : Nat :=
  let c0_i32_2915 : BitVec 32 := 0#32
  let c1_i32_2911 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v4726 : BitVec 32 := Scalar.subi c1_i32_2911 v2
  let c2_i32_2914 : BitVec 32 := 2#32
  let v4727 : BitVec 32 := Scalar.muli v4726 c2_i32_2914
  let v4728 : BitVec 32 := Scalar.addi c0_i32_2915 v4727
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2916 : BitVec 32 := 1#32
  let v4729 : BitVec 32 := Scalar.muli v5 c1_i32_2916
  let v4730 : BitVec 32 := Scalar.addi v4728 v4729
  v4730.toNat
def k0_dev12 (d0 : Dev nD) : Nat :=
  let c0_i32_2934 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_2933 : BitVec 32 := 2#32
  let v4751 : BitVec 32 := Scalar.muli v2 c2_i32_2933
  let v4752 : BitVec 32 := Scalar.addi c0_i32_2934 v4751
  let c1_i32_2930 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v4750 : BitVec 32 := Scalar.subi c1_i32_2930 v5
  let c1_i32_2935 : BitVec 32 := 1#32
  let v4753 : BitVec 32 := Scalar.muli v4750 c1_i32_2935
  let v4754 : BitVec 32 := Scalar.addi v4752 v4753
  v4754.toNat
def k0_off905 (v4761 : BitVec 32) : Fin 2 → Nat :=
  let c0_i32_2942 : BitVec 32 := 0#32
  ![v4761.toNat, 0]

def k0_chk897 (v4761 : BitVec 32) : Prop :=
  (∀ a, (k0_off905 v4761) a + S1x1024.size a ≤ S16384x1024.size a)
theorem k0_off905_inb : ∀ (v4761 : BitVec 32) (k0_hw897 : k0_chk897 v4761), ∀ a, (k0_off905 v4761) a + S1x1024.size a ≤ S16384x1024.size a := fun v4761 k0_hw897 => k0_hw897

def k0_off906 (v4766 : BitVec 32) : Fin 2 → Nat :=
  let c0_i32_2945 : BitVec 32 := 0#32
  ![v4766.toNat, 0]

def k0_chk898 (v4766 : BitVec 32) : Prop :=
  (∀ a, (k0_off906 v4766) a + S1x1024.size a ≤ S16384x1024.size a)
theorem k0_off906_inb : ∀ (v4766 : BitVec 32) (k0_hw898 : k0_chk898 v4766), ∀ a, (k0_off906 v4766) a + S1x1024.size a ≤ S16384x1024.size a := fun v4766 k0_hw898 => k0_hw898

def k0_off907 (v4771 : BitVec 32) : Fin 2 → Nat :=
  let c0_i32_2948 : BitVec 32 := 0#32
  ![v4771.toNat, 0]

def k0_chk899 (v4771 : BitVec 32) : Prop :=
  (∀ a, (k0_off907 v4771) a + S1x1024.size a ≤ S16384x1024.size a)
theorem k0_off907_inb : ∀ (v4771 : BitVec 32) (k0_hw899 : k0_chk899 v4771), ∀ a, (k0_off907 v4771) a + S1x1024.size a ≤ S16384x1024.size a := fun v4771 k0_hw899 => k0_hw899

def k0_off908 (v4776 : BitVec 32) : Fin 2 → Nat :=
  let c0_i32_2951 : BitVec 32 := 0#32
  ![v4776.toNat, 0]

def k0_chk900 (v4776 : BitVec 32) : Prop :=
  (∀ a, (k0_off908 v4776) a + S1x1024.size a ≤ S16384x1024.size a)
theorem k0_off908_inb : ∀ (v4776 : BitVec 32) (k0_hw900 : k0_chk900 v4776), ∀ a, (k0_off908 v4776) a + S1x1024.size a ≤ S16384x1024.size a := fun v4776 k0_hw900 => k0_hw900

def k0_off909 (v4781 : BitVec 32) : Fin 2 → Nat :=
  let c0_i32_2954 : BitVec 32 := 0#32
  ![v4781.toNat, 0]

def k0_chk901 (v4781 : BitVec 32) : Prop :=
  (∀ a, (k0_off909 v4781) a + S1x1024.size a ≤ S16384x1024.size a)
theorem k0_off909_inb : ∀ (v4781 : BitVec 32) (k0_hw901 : k0_chk901 v4781), ∀ a, (k0_off909 v4781) a + S1x1024.size a ≤ S16384x1024.size a := fun v4781 k0_hw901 => k0_hw901

def k0_off910 (v4786 : BitVec 32) : Fin 2 → Nat :=
  let c0_i32_2957 : BitVec 32 := 0#32
  ![v4786.toNat, 0]

def k0_chk902 (v4786 : BitVec 32) : Prop :=
  (∀ a, (k0_off910 v4786) a + S1x1024.size a ≤ S16384x1024.size a)
theorem k0_off910_inb : ∀ (v4786 : BitVec 32) (k0_hw902 : k0_chk902 v4786), ∀ a, (k0_off910 v4786) a + S1x1024.size a ≤ S16384x1024.size a := fun v4786 k0_hw902 => k0_hw902

def k0_off911 (v4791 : BitVec 32) : Fin 2 → Nat :=
  let c0_i32_2960 : BitVec 32 := 0#32
  ![v4791.toNat, 0]

def k0_chk903 (v4791 : BitVec 32) : Prop :=
  (∀ a, (k0_off911 v4791) a + S1x1024.size a ≤ S16384x1024.size a)
theorem k0_off911_inb : ∀ (v4791 : BitVec 32) (k0_hw903 : k0_chk903 v4791), ∀ a, (k0_off911 v4791) a + S1x1024.size a ≤ S16384x1024.size a := fun v4791 k0_hw903 => k0_hw903

def k0_off912 (v4796 : BitVec 32) : Fin 2 → Nat :=
  let c0_i32_2963 : BitVec 32 := 0#32
  ![v4796.toNat, 0]

def k0_chk904 (v4796 : BitVec 32) : Prop :=
  (∀ a, (k0_off912 v4796) a + S1x1024.size a ≤ S16384x1024.size a)
theorem k0_off912_inb : ∀ (v4796 : BitVec 32) (k0_hw904 : k0_chk904 v4796), ∀ a, (k0_off912 v4796) a + S1x1024.size a ≤ S16384x1024.size a := fun v4796 k0_hw904 => k0_hw904

def k0_off913 (v4801 : BitVec 32) : Fin 2 → Nat :=
  let c0_i32_2966 : BitVec 32 := 0#32
  ![v4801.toNat, 0]

def k0_chk905 (v4801 : BitVec 32) : Prop :=
  (∀ a, (k0_off913 v4801) a + S1x1024.size a ≤ S16384x1024.size a)
theorem k0_off913_inb : ∀ (v4801 : BitVec 32) (k0_hw905 : k0_chk905 v4801), ∀ a, (k0_off913 v4801) a + S1x1024.size a ≤ S16384x1024.size a := fun v4801 k0_hw905 => k0_hw905

def k0_off914 (v4806 : BitVec 32) : Fin 2 → Nat :=
  let c0_i32_2969 : BitVec 32 := 0#32
  ![v4806.toNat, 0]

def k0_chk906 (v4806 : BitVec 32) : Prop :=
  (∀ a, (k0_off914 v4806) a + S1x1024.size a ≤ S16384x1024.size a)
theorem k0_off914_inb : ∀ (v4806 : BitVec 32) (k0_hw906 : k0_chk906 v4806), ∀ a, (k0_off914 v4806) a + S1x1024.size a ≤ S16384x1024.size a := fun v4806 k0_hw906 => k0_hw906

def k0_off915 (v4811 : BitVec 32) : Fin 2 → Nat :=
  let c0_i32_2972 : BitVec 32 := 0#32
  ![v4811.toNat, 0]

def k0_chk907 (v4811 : BitVec 32) : Prop :=
  (∀ a, (k0_off915 v4811) a + S1x1024.size a ≤ S16384x1024.size a)
theorem k0_off915_inb : ∀ (v4811 : BitVec 32) (k0_hw907 : k0_chk907 v4811), ∀ a, (k0_off915 v4811) a + S1x1024.size a ≤ S16384x1024.size a := fun v4811 k0_hw907 => k0_hw907

def k0_off916 (v4816 : BitVec 32) : Fin 2 → Nat :=
  let c0_i32_2975 : BitVec 32 := 0#32
  ![v4816.toNat, 0]

def k0_chk908 (v4816 : BitVec 32) : Prop :=
  (∀ a, (k0_off916 v4816) a + S1x1024.size a ≤ S16384x1024.size a)
theorem k0_off916_inb : ∀ (v4816 : BitVec 32) (k0_hw908 : k0_chk908 v4816), ∀ a, (k0_off916 v4816) a + S1x1024.size a ≤ S16384x1024.size a := fun v4816 k0_hw908 => k0_hw908

def k0_off917 (v4821 : BitVec 32) : Fin 2 → Nat :=
  let c0_i32_2978 : BitVec 32 := 0#32
  ![v4821.toNat, 0]

def k0_chk909 (v4821 : BitVec 32) : Prop :=
  (∀ a, (k0_off917 v4821) a + S1x1024.size a ≤ S16384x1024.size a)
theorem k0_off917_inb : ∀ (v4821 : BitVec 32) (k0_hw909 : k0_chk909 v4821), ∀ a, (k0_off917 v4821) a + S1x1024.size a ≤ S16384x1024.size a := fun v4821 k0_hw909 => k0_hw909

def k0_off918 (v4826 : BitVec 32) : Fin 2 → Nat :=
  let c0_i32_2981 : BitVec 32 := 0#32
  ![v4826.toNat, 0]

def k0_chk910 (v4826 : BitVec 32) : Prop :=
  (∀ a, (k0_off918 v4826) a + S1x1024.size a ≤ S16384x1024.size a)
theorem k0_off918_inb : ∀ (v4826 : BitVec 32) (k0_hw910 : k0_chk910 v4826), ∀ a, (k0_off918 v4826) a + S1x1024.size a ≤ S16384x1024.size a := fun v4826 k0_hw910 => k0_hw910

def k0_off919 (v4831 : BitVec 32) : Fin 2 → Nat :=
  let c0_i32_2984 : BitVec 32 := 0#32
  ![v4831.toNat, 0]

def k0_chk911 (v4831 : BitVec 32) : Prop :=
  (∀ a, (k0_off919 v4831) a + S1x1024.size a ≤ S16384x1024.size a)
theorem k0_off919_inb : ∀ (v4831 : BitVec 32) (k0_hw911 : k0_chk911 v4831), ∀ a, (k0_off919 v4831) a + S1x1024.size a ≤ S16384x1024.size a := fun v4831 k0_hw911 => k0_hw911

def k0_off920 (v4836 : BitVec 32) : Fin 2 → Nat :=
  let c0_i32_2987 : BitVec 32 := 0#32
  ![v4836.toNat, 0]

def k0_chk912 (v4836 : BitVec 32) : Prop :=
  (∀ a, (k0_off920 v4836) a + S1x1024.size a ≤ S16384x1024.size a)
theorem k0_off920_inb : ∀ (v4836 : BitVec 32) (k0_hw912 : k0_chk912 v4836), ∀ a, (k0_off920 v4836) a + S1x1024.size a ≤ S16384x1024.size a := fun v4836 k0_hw912 => k0_hw912

def k0_off921 (v4841 : BitVec 32) : Fin 2 → Nat :=
  let c0_i32_2990 : BitVec 32 := 0#32
  ![v4841.toNat, 0]

def k0_chk913 (v4841 : BitVec 32) : Prop :=
  (∀ a, (k0_off921 v4841) a + S1x1024.size a ≤ S16384x1024.size a)
theorem k0_off921_inb : ∀ (v4841 : BitVec 32) (k0_hw913 : k0_chk913 v4841), ∀ a, (k0_off921 v4841) a + S1x1024.size a ≤ S16384x1024.size a := fun v4841 k0_hw913 => k0_hw913

def k0_off922 (v4846 : BitVec 32) : Fin 2 → Nat :=
  let c0_i32_2993 : BitVec 32 := 0#32
  ![v4846.toNat, 0]

def k0_chk914 (v4846 : BitVec 32) : Prop :=
  (∀ a, (k0_off922 v4846) a + S1x1024.size a ≤ S16384x1024.size a)
theorem k0_off922_inb : ∀ (v4846 : BitVec 32) (k0_hw914 : k0_chk914 v4846), ∀ a, (k0_off922 v4846) a + S1x1024.size a ≤ S16384x1024.size a := fun v4846 k0_hw914 => k0_hw914

def k0_off923 (v4851 : BitVec 32) : Fin 2 → Nat :=
  let c0_i32_2996 : BitVec 32 := 0#32
  ![v4851.toNat, 0]

def k0_chk915 (v4851 : BitVec 32) : Prop :=
  (∀ a, (k0_off923 v4851) a + S1x1024.size a ≤ S16384x1024.size a)
theorem k0_off923_inb : ∀ (v4851 : BitVec 32) (k0_hw915 : k0_chk915 v4851), ∀ a, (k0_off923 v4851) a + S1x1024.size a ≤ S16384x1024.size a := fun v4851 k0_hw915 => k0_hw915

def k0_off924 (v4856 : BitVec 32) : Fin 2 → Nat :=
  let c0_i32_2999 : BitVec 32 := 0#32
  ![v4856.toNat, 0]

def k0_chk916 (v4856 : BitVec 32) : Prop :=
  (∀ a, (k0_off924 v4856) a + S1x1024.size a ≤ S16384x1024.size a)
theorem k0_off924_inb : ∀ (v4856 : BitVec 32) (k0_hw916 : k0_chk916 v4856), ∀ a, (k0_off924 v4856) a + S1x1024.size a ≤ S16384x1024.size a := fun v4856 k0_hw916 => k0_hw916

def k0_off925 (v4861 : BitVec 32) : Fin 2 → Nat :=
  let c0_i32_3002 : BitVec 32 := 0#32
  ![v4861.toNat, 0]

def k0_chk917 (v4861 : BitVec 32) : Prop :=
  (∀ a, (k0_off925 v4861) a + S1x1024.size a ≤ S16384x1024.size a)
theorem k0_off925_inb : ∀ (v4861 : BitVec 32) (k0_hw917 : k0_chk917 v4861), ∀ a, (k0_off925 v4861) a + S1x1024.size a ≤ S16384x1024.size a := fun v4861 k0_hw917 => k0_hw917

def k0_off926 (v4866 : BitVec 32) : Fin 2 → Nat :=
  let c0_i32_3005 : BitVec 32 := 0#32
  ![v4866.toNat, 0]

def k0_chk918 (v4866 : BitVec 32) : Prop :=
  (∀ a, (k0_off926 v4866) a + S1x1024.size a ≤ S16384x1024.size a)
theorem k0_off926_inb : ∀ (v4866 : BitVec 32) (k0_hw918 : k0_chk918 v4866), ∀ a, (k0_off926 v4866) a + S1x1024.size a ≤ S16384x1024.size a := fun v4866 k0_hw918 => k0_hw918

def k0_off927 (v4871 : BitVec 32) : Fin 2 → Nat :=
  let c0_i32_3008 : BitVec 32 := 0#32
  ![v4871.toNat, 0]

def k0_chk919 (v4871 : BitVec 32) : Prop :=
  (∀ a, (k0_off927 v4871) a + S1x1024.size a ≤ S16384x1024.size a)
theorem k0_off927_inb : ∀ (v4871 : BitVec 32) (k0_hw919 : k0_chk919 v4871), ∀ a, (k0_off927 v4871) a + S1x1024.size a ≤ S16384x1024.size a := fun v4871 k0_hw919 => k0_hw919

def k0_off928 (v4876 : BitVec 32) : Fin 2 → Nat :=
  let c0_i32_3011 : BitVec 32 := 0#32
  ![v4876.toNat, 0]

def k0_chk920 (v4876 : BitVec 32) : Prop :=
  (∀ a, (k0_off928 v4876) a + S1x1024.size a ≤ S16384x1024.size a)
theorem k0_off928_inb : ∀ (v4876 : BitVec 32) (k0_hw920 : k0_chk920 v4876), ∀ a, (k0_off928 v4876) a + S1x1024.size a ≤ S16384x1024.size a := fun v4876 k0_hw920 => k0_hw920

def k0_off929 (v4881 : BitVec 32) : Fin 2 → Nat :=
  let c0_i32_3014 : BitVec 32 := 0#32
  ![v4881.toNat, 0]

def k0_chk921 (v4881 : BitVec 32) : Prop :=
  (∀ a, (k0_off929 v4881) a + S1x1024.size a ≤ S16384x1024.size a)
theorem k0_off929_inb : ∀ (v4881 : BitVec 32) (k0_hw921 : k0_chk921 v4881), ∀ a, (k0_off929 v4881) a + S1x1024.size a ≤ S16384x1024.size a := fun v4881 k0_hw921 => k0_hw921

def k0_off930 (v4886 : BitVec 32) : Fin 2 → Nat :=
  let c0_i32_3017 : BitVec 32 := 0#32
  ![v4886.toNat, 0]

def k0_chk922 (v4886 : BitVec 32) : Prop :=
  (∀ a, (k0_off930 v4886) a + S1x1024.size a ≤ S16384x1024.size a)
theorem k0_off930_inb : ∀ (v4886 : BitVec 32) (k0_hw922 : k0_chk922 v4886), ∀ a, (k0_off930 v4886) a + S1x1024.size a ≤ S16384x1024.size a := fun v4886 k0_hw922 => k0_hw922

def k0_off931 (v4891 : BitVec 32) : Fin 2 → Nat :=
  let c0_i32_3020 : BitVec 32 := 0#32
  ![v4891.toNat, 0]

def k0_chk923 (v4891 : BitVec 32) : Prop :=
  (∀ a, (k0_off931 v4891) a + S1x1024.size a ≤ S16384x1024.size a)
theorem k0_off931_inb : ∀ (v4891 : BitVec 32) (k0_hw923 : k0_chk923 v4891), ∀ a, (k0_off931 v4891) a + S1x1024.size a ≤ S16384x1024.size a := fun v4891 k0_hw923 => k0_hw923

def k0_off932 (v4896 : BitVec 32) : Fin 2 → Nat :=
  let c0_i32_3023 : BitVec 32 := 0#32
  ![v4896.toNat, 0]

def k0_chk924 (v4896 : BitVec 32) : Prop :=
  (∀ a, (k0_off932 v4896) a + S1x1024.size a ≤ S16384x1024.size a)
theorem k0_off932_inb : ∀ (v4896 : BitVec 32) (k0_hw924 : k0_chk924 v4896), ∀ a, (k0_off932 v4896) a + S1x1024.size a ≤ S16384x1024.size a := fun v4896 k0_hw924 => k0_hw924

def k0_off933 (v4901 : BitVec 32) : Fin 2 → Nat :=
  let c0_i32_3026 : BitVec 32 := 0#32
  ![v4901.toNat, 0]

def k0_chk925 (v4901 : BitVec 32) : Prop :=
  (∀ a, (k0_off933 v4901) a + S1x1024.size a ≤ S16384x1024.size a)
theorem k0_off933_inb : ∀ (v4901 : BitVec 32) (k0_hw925 : k0_chk925 v4901), ∀ a, (k0_off933 v4901) a + S1x1024.size a ≤ S16384x1024.size a := fun v4901 k0_hw925 => k0_hw925

def k0_off934 (v4906 : BitVec 32) : Fin 2 → Nat :=
  let c0_i32_3029 : BitVec 32 := 0#32
  ![v4906.toNat, 0]

def k0_chk926 (v4906 : BitVec 32) : Prop :=
  (∀ a, (k0_off934 v4906) a + S1x1024.size a ≤ S16384x1024.size a)
theorem k0_off934_inb : ∀ (v4906 : BitVec 32) (k0_hw926 : k0_chk926 v4906), ∀ a, (k0_off934 v4906) a + S1x1024.size a ≤ S16384x1024.size a := fun v4906 k0_hw926 => k0_hw926

def k0_off935 (v4911 : BitVec 32) : Fin 2 → Nat :=
  let c0_i32_3032 : BitVec 32 := 0#32
  ![v4911.toNat, 0]

def k0_chk927 (v4911 : BitVec 32) : Prop :=
  (∀ a, (k0_off935 v4911) a + S1x1024.size a ≤ S16384x1024.size a)
theorem k0_off935_inb : ∀ (v4911 : BitVec 32) (k0_hw927 : k0_chk927 v4911), ∀ a, (k0_off935 v4911) a + S1x1024.size a ≤ S16384x1024.size a := fun v4911 k0_hw927 => k0_hw927

def k0_off936 (v4916 : BitVec 32) : Fin 2 → Nat :=
  let c0_i32_3035 : BitVec 32 := 0#32
  ![v4916.toNat, 0]

def k0_chk928 (v4916 : BitVec 32) : Prop :=
  (∀ a, (k0_off936 v4916) a + S1x1024.size a ≤ S16384x1024.size a)
theorem k0_off936_inb : ∀ (v4916 : BitVec 32) (k0_hw928 : k0_chk928 v4916), ∀ a, (k0_off936 v4916) a + S1x1024.size a ≤ S16384x1024.size a := fun v4916 k0_hw928 => k0_hw928

def k0_off937 (v4921 : BitVec 32) : Fin 2 → Nat :=
  let c0_i32_3038 : BitVec 32 := 0#32
  ![v4921.toNat, 0]

def k0_chk929 (v4921 : BitVec 32) : Prop :=
  (∀ a, (k0_off937 v4921) a + S1x1024.size a ≤ S16384x1024.size a)
theorem k0_off937_inb : ∀ (v4921 : BitVec 32) (k0_hw929 : k0_chk929 v4921), ∀ a, (k0_off937 v4921) a + S1x1024.size a ≤ S16384x1024.size a := fun v4921 k0_hw929 => k0_hw929

def k0_off938 (v4926 : BitVec 32) : Fin 2 → Nat :=
  let c0_i32_3041 : BitVec 32 := 0#32
  ![v4926.toNat, 0]

def k0_chk930 (v4926 : BitVec 32) : Prop :=
  (∀ a, (k0_off938 v4926) a + S1x1024.size a ≤ S16384x1024.size a)
theorem k0_off938_inb : ∀ (v4926 : BitVec 32) (k0_hw930 : k0_chk930 v4926), ∀ a, (k0_off938 v4926) a + S1x1024.size a ≤ S16384x1024.size a := fun v4926 k0_hw930 => k0_hw930

def k0_off939 (v4931 : BitVec 32) : Fin 2 → Nat :=
  let c0_i32_3044 : BitVec 32 := 0#32
  ![v4931.toNat, 0]

def k0_chk931 (v4931 : BitVec 32) : Prop :=
  (∀ a, (k0_off939 v4931) a + S1x1024.size a ≤ S16384x1024.size a)
theorem k0_off939_inb : ∀ (v4931 : BitVec 32) (k0_hw931 : k0_chk931 v4931), ∀ a, (k0_off939 v4931) a + S1x1024.size a ≤ S16384x1024.size a := fun v4931 k0_hw931 => k0_hw931

def k0_off940 (v4936 : BitVec 32) : Fin 2 → Nat :=
  let c0_i32_3047 : BitVec 32 := 0#32
  ![v4936.toNat, 0]

def k0_chk932 (v4936 : BitVec 32) : Prop :=
  (∀ a, (k0_off940 v4936) a + S1x1024.size a ≤ S16384x1024.size a)
theorem k0_off940_inb : ∀ (v4936 : BitVec 32) (k0_hw932 : k0_chk932 v4936), ∀ a, (k0_off940 v4936) a + S1x1024.size a ≤ S16384x1024.size a := fun v4936 k0_hw932 => k0_hw932

def k0_off941 (v4941 : BitVec 32) : Fin 2 → Nat :=
  let c0_i32_3050 : BitVec 32 := 0#32
  ![v4941.toNat, 0]

def k0_chk933 (v4941 : BitVec 32) : Prop :=
  (∀ a, (k0_off941 v4941) a + S1x1024.size a ≤ S16384x1024.size a)
theorem k0_off941_inb : ∀ (v4941 : BitVec 32) (k0_hw933 : k0_chk933 v4941), ∀ a, (k0_off941 v4941) a + S1x1024.size a ≤ S16384x1024.size a := fun v4941 k0_hw933 => k0_hw933

def k0_off942 (v4946 : BitVec 32) : Fin 2 → Nat :=
  let c0_i32_3053 : BitVec 32 := 0#32
  ![v4946.toNat, 0]

def k0_chk934 (v4946 : BitVec 32) : Prop :=
  (∀ a, (k0_off942 v4946) a + S1x1024.size a ≤ S16384x1024.size a)
theorem k0_off942_inb : ∀ (v4946 : BitVec 32) (k0_hw934 : k0_chk934 v4946), ∀ a, (k0_off942 v4946) a + S1x1024.size a ≤ S16384x1024.size a := fun v4946 k0_hw934 => k0_hw934

def k0_off943 (v4951 : BitVec 32) : Fin 2 → Nat :=
  let c0_i32_3056 : BitVec 32 := 0#32
  ![v4951.toNat, 0]

def k0_chk935 (v4951 : BitVec 32) : Prop :=
  (∀ a, (k0_off943 v4951) a + S1x1024.size a ≤ S16384x1024.size a)
theorem k0_off943_inb : ∀ (v4951 : BitVec 32) (k0_hw935 : k0_chk935 v4951), ∀ a, (k0_off943 v4951) a + S1x1024.size a ≤ S16384x1024.size a := fun v4951 k0_hw935 => k0_hw935

def k0_off944 (v4956 : BitVec 32) : Fin 2 → Nat :=
  let c0_i32_3059 : BitVec 32 := 0#32
  ![v4956.toNat, 0]

def k0_chk936 (v4956 : BitVec 32) : Prop :=
  (∀ a, (k0_off944 v4956) a + S1x1024.size a ≤ S16384x1024.size a)
theorem k0_off944_inb : ∀ (v4956 : BitVec 32) (k0_hw936 : k0_chk936 v4956), ∀ a, (k0_off944 v4956) a + S1x1024.size a ≤ S16384x1024.size a := fun v4956 k0_hw936 => k0_hw936

def k0_off945 (v4961 : BitVec 32) : Fin 2 → Nat :=
  let c0_i32_3062 : BitVec 32 := 0#32
  ![v4961.toNat, 0]

def k0_chk937 (v4961 : BitVec 32) : Prop :=
  (∀ a, (k0_off945 v4961) a + S1x1024.size a ≤ S16384x1024.size a)
theorem k0_off945_inb : ∀ (v4961 : BitVec 32) (k0_hw937 : k0_chk937 v4961), ∀ a, (k0_off945 v4961) a + S1x1024.size a ≤ S16384x1024.size a := fun v4961 k0_hw937 => k0_hw937

def k0_off946 (v4966 : BitVec 32) : Fin 2 → Nat :=
  let c0_i32_3065 : BitVec 32 := 0#32
  ![v4966.toNat, 0]

def k0_chk938 (v4966 : BitVec 32) : Prop :=
  (∀ a, (k0_off946 v4966) a + S1x1024.size a ≤ S16384x1024.size a)
theorem k0_off946_inb : ∀ (v4966 : BitVec 32) (k0_hw938 : k0_chk938 v4966), ∀ a, (k0_off946 v4966) a + S1x1024.size a ≤ S16384x1024.size a := fun v4966 k0_hw938 => k0_hw938

def k0_off947 (v4971 : BitVec 32) : Fin 2 → Nat :=
  let c0_i32_3068 : BitVec 32 := 0#32
  ![v4971.toNat, 0]

def k0_chk939 (v4971 : BitVec 32) : Prop :=
  (∀ a, (k0_off947 v4971) a + S1x1024.size a ≤ S16384x1024.size a)
theorem k0_off947_inb : ∀ (v4971 : BitVec 32) (k0_hw939 : k0_chk939 v4971), ∀ a, (k0_off947 v4971) a + S1x1024.size a ≤ S16384x1024.size a := fun v4971 k0_hw939 => k0_hw939

def k0_off948 (v4976 : BitVec 32) : Fin 2 → Nat :=
  let c0_i32_3071 : BitVec 32 := 0#32
  ![v4976.toNat, 0]

def k0_chk940 (v4976 : BitVec 32) : Prop :=
  (∀ a, (k0_off948 v4976) a + S1x1024.size a ≤ S16384x1024.size a)
theorem k0_off948_inb : ∀ (v4976 : BitVec 32) (k0_hw940 : k0_chk940 v4976), ∀ a, (k0_off948 v4976) a + S1x1024.size a ≤ S16384x1024.size a := fun v4976 k0_hw940 => k0_hw940

def k0_off949 (v4981 : BitVec 32) : Fin 2 → Nat :=
  let c0_i32_3074 : BitVec 32 := 0#32
  ![v4981.toNat, 0]

def k0_chk941 (v4981 : BitVec 32) : Prop :=
  (∀ a, (k0_off949 v4981) a + S1x1024.size a ≤ S16384x1024.size a)
theorem k0_off949_inb : ∀ (v4981 : BitVec 32) (k0_hw941 : k0_chk941 v4981), ∀ a, (k0_off949 v4981) a + S1x1024.size a ≤ S16384x1024.size a := fun v4981 k0_hw941 => k0_hw941

def k0_off950 (v4986 : BitVec 32) : Fin 2 → Nat :=
  let c0_i32_3077 : BitVec 32 := 0#32
  ![v4986.toNat, 0]

def k0_chk942 (v4986 : BitVec 32) : Prop :=
  (∀ a, (k0_off950 v4986) a + S1x1024.size a ≤ S16384x1024.size a)
theorem k0_off950_inb : ∀ (v4986 : BitVec 32) (k0_hw942 : k0_chk942 v4986), ∀ a, (k0_off950 v4986) a + S1x1024.size a ≤ S16384x1024.size a := fun v4986 k0_hw942 => k0_hw942

def k0_off951 (v4991 : BitVec 32) : Fin 2 → Nat :=
  let c0_i32_3080 : BitVec 32 := 0#32
  ![v4991.toNat, 0]

def k0_chk943 (v4991 : BitVec 32) : Prop :=
  (∀ a, (k0_off951 v4991) a + S1x1024.size a ≤ S16384x1024.size a)
theorem k0_off951_inb : ∀ (v4991 : BitVec 32) (k0_hw943 : k0_chk943 v4991), ∀ a, (k0_off951 v4991) a + S1x1024.size a ≤ S16384x1024.size a := fun v4991 k0_hw943 => k0_hw943

def k0_off952 (v4996 : BitVec 32) : Fin 2 → Nat :=
  let c0_i32_3083 : BitVec 32 := 0#32
  ![v4996.toNat, 0]

def k0_chk944 (v4996 : BitVec 32) : Prop :=
  (∀ a, (k0_off952 v4996) a + S1x1024.size a ≤ S16384x1024.size a)
theorem k0_off952_inb : ∀ (v4996 : BitVec 32) (k0_hw944 : k0_chk944 v4996), ∀ a, (k0_off952 v4996) a + S1x1024.size a ≤ S16384x1024.size a := fun v4996 k0_hw944 => k0_hw944

def k0_off953 (v5001 : BitVec 32) : Fin 2 → Nat :=
  let c0_i32_3086 : BitVec 32 := 0#32
  ![v5001.toNat, 0]

def k0_chk945 (v5001 : BitVec 32) : Prop :=
  (∀ a, (k0_off953 v5001) a + S1x1024.size a ≤ S16384x1024.size a)
theorem k0_off953_inb : ∀ (v5001 : BitVec 32) (k0_hw945 : k0_chk945 v5001), ∀ a, (k0_off953 v5001) a + S1x1024.size a ≤ S16384x1024.size a := fun v5001 k0_hw945 => k0_hw945

def k0_off954 (v5006 : BitVec 32) : Fin 2 → Nat :=
  let c0_i32_3089 : BitVec 32 := 0#32
  ![v5006.toNat, 0]

def k0_chk946 (v5006 : BitVec 32) : Prop :=
  (∀ a, (k0_off954 v5006) a + S1x1024.size a ≤ S16384x1024.size a)
theorem k0_off954_inb : ∀ (v5006 : BitVec 32) (k0_hw946 : k0_chk946 v5006), ∀ a, (k0_off954 v5006) a + S1x1024.size a ≤ S16384x1024.size a := fun v5006 k0_hw946 => k0_hw946

def k0_off955 (v5011 : BitVec 32) : Fin 2 → Nat :=
  let c0_i32_3092 : BitVec 32 := 0#32
  ![v5011.toNat, 0]

def k0_chk947 (v5011 : BitVec 32) : Prop :=
  (∀ a, (k0_off955 v5011) a + S1x1024.size a ≤ S16384x1024.size a)
theorem k0_off955_inb : ∀ (v5011 : BitVec 32) (k0_hw947 : k0_chk947 v5011), ∀ a, (k0_off955 v5011) a + S1x1024.size a ≤ S16384x1024.size a := fun v5011 k0_hw947 => k0_hw947

def k0_off956 (v5016 : BitVec 32) : Fin 2 → Nat :=
  let c0_i32_3095 : BitVec 32 := 0#32
  ![v5016.toNat, 0]

def k0_chk948 (v5016 : BitVec 32) : Prop :=
  (∀ a, (k0_off956 v5016) a + S1x1024.size a ≤ S16384x1024.size a)
theorem k0_off956_inb : ∀ (v5016 : BitVec 32) (k0_hw948 : k0_chk948 v5016), ∀ a, (k0_off956 v5016) a + S1x1024.size a ≤ S16384x1024.size a := fun v5016 k0_hw948 => k0_hw948

def k0_off957 (v5021 : BitVec 32) : Fin 2 → Nat :=
  let c0_i32_3098 : BitVec 32 := 0#32
  ![v5021.toNat, 0]

def k0_chk949 (v5021 : BitVec 32) : Prop :=
  (∀ a, (k0_off957 v5021) a + S1x1024.size a ≤ S16384x1024.size a)
theorem k0_off957_inb : ∀ (v5021 : BitVec 32) (k0_hw949 : k0_chk949 v5021), ∀ a, (k0_off957 v5021) a + S1x1024.size a ≤ S16384x1024.size a := fun v5021 k0_hw949 => k0_hw949

def k0_off958 (v5026 : BitVec 32) : Fin 2 → Nat :=
  let c0_i32_3101 : BitVec 32 := 0#32
  ![v5026.toNat, 0]

def k0_chk950 (v5026 : BitVec 32) : Prop :=
  (∀ a, (k0_off958 v5026) a + S1x1024.size a ≤ S16384x1024.size a)
theorem k0_off958_inb : ∀ (v5026 : BitVec 32) (k0_hw950 : k0_chk950 v5026), ∀ a, (k0_off958 v5026) a + S1x1024.size a ≤ S16384x1024.size a := fun v5026 k0_hw950 => k0_hw950

def k0_off959 (v5031 : BitVec 32) : Fin 2 → Nat :=
  let c0_i32_3104 : BitVec 32 := 0#32
  ![v5031.toNat, 0]

def k0_chk951 (v5031 : BitVec 32) : Prop :=
  (∀ a, (k0_off959 v5031) a + S1x1024.size a ≤ S16384x1024.size a)
theorem k0_off959_inb : ∀ (v5031 : BitVec 32) (k0_hw951 : k0_chk951 v5031), ∀ a, (k0_off959 v5031) a + S1x1024.size a ≤ S16384x1024.size a := fun v5031 k0_hw951 => k0_hw951

def k0_off960 (v5036 : BitVec 32) : Fin 2 → Nat :=
  let c0_i32_3107 : BitVec 32 := 0#32
  ![v5036.toNat, 0]

def k0_chk952 (v5036 : BitVec 32) : Prop :=
  (∀ a, (k0_off960 v5036) a + S1x1024.size a ≤ S16384x1024.size a)
theorem k0_off960_inb : ∀ (v5036 : BitVec 32) (k0_hw952 : k0_chk952 v5036), ∀ a, (k0_off960 v5036) a + S1x1024.size a ≤ S16384x1024.size a := fun v5036 k0_hw952 => k0_hw952

def k0_off961 (v5041 : BitVec 32) : Fin 2 → Nat :=
  let c0_i32_3110 : BitVec 32 := 0#32
  ![v5041.toNat, 0]

def k0_chk953 (v5041 : BitVec 32) : Prop :=
  (∀ a, (k0_off961 v5041) a + S1x1024.size a ≤ S16384x1024.size a)
theorem k0_off961_inb : ∀ (v5041 : BitVec 32) (k0_hw953 : k0_chk953 v5041), ∀ a, (k0_off961 v5041) a + S1x1024.size a ≤ S16384x1024.size a := fun v5041 k0_hw953 => k0_hw953

def k0_off962 (v5046 : BitVec 32) : Fin 2 → Nat :=
  let c0_i32_3113 : BitVec 32 := 0#32
  ![v5046.toNat, 0]

def k0_chk954 (v5046 : BitVec 32) : Prop :=
  (∀ a, (k0_off962 v5046) a + S1x1024.size a ≤ S16384x1024.size a)
theorem k0_off962_inb : ∀ (v5046 : BitVec 32) (k0_hw954 : k0_chk954 v5046), ∀ a, (k0_off962 v5046) a + S1x1024.size a ≤ S16384x1024.size a := fun v5046 k0_hw954 => k0_hw954

def k0_off963 (v5051 : BitVec 32) : Fin 2 → Nat :=
  let c0_i32_3116 : BitVec 32 := 0#32
  ![v5051.toNat, 0]

def k0_chk955 (v5051 : BitVec 32) : Prop :=
  (∀ a, (k0_off963 v5051) a + S1x1024.size a ≤ S16384x1024.size a)
theorem k0_off963_inb : ∀ (v5051 : BitVec 32) (k0_hw955 : k0_chk955 v5051), ∀ a, (k0_off963 v5051) a + S1x1024.size a ≤ S16384x1024.size a := fun v5051 k0_hw955 => k0_hw955

def k0_off964 (v5056 : BitVec 32) : Fin 2 → Nat :=
  let c0_i32_3119 : BitVec 32 := 0#32
  ![v5056.toNat, 0]

def k0_chk956 (v5056 : BitVec 32) : Prop :=
  (∀ a, (k0_off964 v5056) a + S1x1024.size a ≤ S16384x1024.size a)
theorem k0_off964_inb : ∀ (v5056 : BitVec 32) (k0_hw956 : k0_chk956 v5056), ∀ a, (k0_off964 v5056) a + S1x1024.size a ≤ S16384x1024.size a := fun v5056 k0_hw956 => k0_hw956

def k0_off965 (v5061 : BitVec 32) : Fin 2 → Nat :=
  let c0_i32_3122 : BitVec 32 := 0#32
  ![v5061.toNat, 0]

def k0_chk957 (v5061 : BitVec 32) : Prop :=
  (∀ a, (k0_off965 v5061) a + S1x1024.size a ≤ S16384x1024.size a)
theorem k0_off965_inb : ∀ (v5061 : BitVec 32) (k0_hw957 : k0_chk957 v5061), ∀ a, (k0_off965 v5061) a + S1x1024.size a ≤ S16384x1024.size a := fun v5061 k0_hw957 => k0_hw957

def k0_off966 (v5066 : BitVec 32) : Fin 2 → Nat :=
  let c0_i32_3125 : BitVec 32 := 0#32
  ![v5066.toNat, 0]

def k0_chk958 (v5066 : BitVec 32) : Prop :=
  (∀ a, (k0_off966 v5066) a + S1x1024.size a ≤ S16384x1024.size a)
theorem k0_off966_inb : ∀ (v5066 : BitVec 32) (k0_hw958 : k0_chk958 v5066), ∀ a, (k0_off966 v5066) a + S1x1024.size a ≤ S16384x1024.size a := fun v5066 k0_hw958 => k0_hw958

def k0_off967 (v5071 : BitVec 32) : Fin 2 → Nat :=
  let c0_i32_3128 : BitVec 32 := 0#32
  ![v5071.toNat, 0]

def k0_chk959 (v5071 : BitVec 32) : Prop :=
  (∀ a, (k0_off967 v5071) a + S1x1024.size a ≤ S16384x1024.size a)
theorem k0_off967_inb : ∀ (v5071 : BitVec 32) (k0_hw959 : k0_chk959 v5071), ∀ a, (k0_off967 v5071) a + S1x1024.size a ≤ S16384x1024.size a := fun v5071 k0_hw959 => k0_hw959

def k0_off968 (v5076 : BitVec 32) : Fin 2 → Nat :=
  let c0_i32_3131 : BitVec 32 := 0#32
  ![v5076.toNat, 0]

def k0_chk960 (v5076 : BitVec 32) : Prop :=
  (∀ a, (k0_off968 v5076) a + S1x1024.size a ≤ S16384x1024.size a)
theorem k0_off968_inb : ∀ (v5076 : BitVec 32) (k0_hw960 : k0_chk960 v5076), ∀ a, (k0_off968 v5076) a + S1x1024.size a ≤ S16384x1024.size a := fun v5076 k0_hw960 => k0_hw960

def k0_off969 (v5081 : BitVec 32) : Fin 2 → Nat :=
  let c0_i32_3134 : BitVec 32 := 0#32
  ![v5081.toNat, 0]

def k0_chk961 (v5081 : BitVec 32) : Prop :=
  (∀ a, (k0_off969 v5081) a + S1x1024.size a ≤ S16384x1024.size a)
theorem k0_off969_inb : ∀ (v5081 : BitVec 32) (k0_hw961 : k0_chk961 v5081), ∀ a, (k0_off969 v5081) a + S1x1024.size a ≤ S16384x1024.size a := fun v5081 k0_hw961 => k0_hw961

def k0_off970 (v5086 : BitVec 32) : Fin 2 → Nat :=
  let c0_i32_3137 : BitVec 32 := 0#32
  ![v5086.toNat, 0]

def k0_chk962 (v5086 : BitVec 32) : Prop :=
  (∀ a, (k0_off970 v5086) a + S1x1024.size a ≤ S16384x1024.size a)
theorem k0_off970_inb : ∀ (v5086 : BitVec 32) (k0_hw962 : k0_chk962 v5086), ∀ a, (k0_off970 v5086) a + S1x1024.size a ≤ S16384x1024.size a := fun v5086 k0_hw962 => k0_hw962

def k0_off971 (v5091 : BitVec 32) : Fin 2 → Nat :=
  let c0_i32_3140 : BitVec 32 := 0#32
  ![v5091.toNat, 0]

def k0_chk963 (v5091 : BitVec 32) : Prop :=
  (∀ a, (k0_off971 v5091) a + S1x1024.size a ≤ S16384x1024.size a)
theorem k0_off971_inb : ∀ (v5091 : BitVec 32) (k0_hw963 : k0_chk963 v5091), ∀ a, (k0_off971 v5091) a + S1x1024.size a ≤ S16384x1024.size a := fun v5091 k0_hw963 => k0_hw963

def k0_off972 (v5096 : BitVec 32) : Fin 2 → Nat :=
  let c0_i32_3143 : BitVec 32 := 0#32
  ![v5096.toNat, 0]

def k0_chk964 (v5096 : BitVec 32) : Prop :=
  (∀ a, (k0_off972 v5096) a + S1x1024.size a ≤ S16384x1024.size a)
theorem k0_off972_inb : ∀ (v5096 : BitVec 32) (k0_hw964 : k0_chk964 v5096), ∀ a, (k0_off972 v5096) a + S1x1024.size a ≤ S16384x1024.size a := fun v5096 k0_hw964 => k0_hw964

def k0_off973 (v5101 : BitVec 32) : Fin 2 → Nat :=
  let c0_i32_3146 : BitVec 32 := 0#32
  ![v5101.toNat, 0]

def k0_chk965 (v5101 : BitVec 32) : Prop :=
  (∀ a, (k0_off973 v5101) a + S1x1024.size a ≤ S16384x1024.size a)
theorem k0_off973_inb : ∀ (v5101 : BitVec 32) (k0_hw965 : k0_chk965 v5101), ∀ a, (k0_off973 v5101) a + S1x1024.size a ≤ S16384x1024.size a := fun v5101 k0_hw965 => k0_hw965

def k0_off974 (v5106 : BitVec 32) : Fin 2 → Nat :=
  let c0_i32_3149 : BitVec 32 := 0#32
  ![v5106.toNat, 0]

def k0_chk966 (v5106 : BitVec 32) : Prop :=
  (∀ a, (k0_off974 v5106) a + S1x1024.size a ≤ S16384x1024.size a)
theorem k0_off974_inb : ∀ (v5106 : BitVec 32) (k0_hw966 : k0_chk966 v5106), ∀ a, (k0_off974 v5106) a + S1x1024.size a ≤ S16384x1024.size a := fun v5106 k0_hw966 => k0_hw966

def k0_off975 (v5111 : BitVec 32) : Fin 2 → Nat :=
  let c0_i32_3152 : BitVec 32 := 0#32
  ![v5111.toNat, 0]

def k0_chk967 (v5111 : BitVec 32) : Prop :=
  (∀ a, (k0_off975 v5111) a + S1x1024.size a ≤ S16384x1024.size a)
theorem k0_off975_inb : ∀ (v5111 : BitVec 32) (k0_hw967 : k0_chk967 v5111), ∀ a, (k0_off975 v5111) a + S1x1024.size a ≤ S16384x1024.size a := fun v5111 k0_hw967 => k0_hw967

def k0_off976 (v5116 : BitVec 32) : Fin 2 → Nat :=
  let c0_i32_3155 : BitVec 32 := 0#32
  ![v5116.toNat, 0]

def k0_chk968 (v5116 : BitVec 32) : Prop :=
  (∀ a, (k0_off976 v5116) a + S1x1024.size a ≤ S16384x1024.size a)
theorem k0_off976_inb : ∀ (v5116 : BitVec 32) (k0_hw968 : k0_chk968 v5116), ∀ a, (k0_off976 v5116) a + S1x1024.size a ≤ S16384x1024.size a := fun v5116 k0_hw968 => k0_hw968

def k0_off977 (v5121 : BitVec 32) : Fin 2 → Nat :=
  let c0_i32_3158 : BitVec 32 := 0#32
  ![v5121.toNat, 0]

def k0_chk969 (v5121 : BitVec 32) : Prop :=
  (∀ a, (k0_off977 v5121) a + S1x1024.size a ≤ S16384x1024.size a)
theorem k0_off977_inb : ∀ (v5121 : BitVec 32) (k0_hw969 : k0_chk969 v5121), ∀ a, (k0_off977 v5121) a + S1x1024.size a ≤ S16384x1024.size a := fun v5121 k0_hw969 => k0_hw969

def k0_off978 (v5126 : BitVec 32) : Fin 2 → Nat :=
  let c0_i32_3161 : BitVec 32 := 0#32
  ![v5126.toNat, 0]

def k0_chk970 (v5126 : BitVec 32) : Prop :=
  (∀ a, (k0_off978 v5126) a + S1x1024.size a ≤ S16384x1024.size a)
theorem k0_off978_inb : ∀ (v5126 : BitVec 32) (k0_hw970 : k0_chk970 v5126), ∀ a, (k0_off978 v5126) a + S1x1024.size a ≤ S16384x1024.size a := fun v5126 k0_hw970 => k0_hw970

def k0_off979 (v5131 : BitVec 32) : Fin 2 → Nat :=
  let c0_i32_3164 : BitVec 32 := 0#32
  ![v5131.toNat, 0]

def k0_chk971 (v5131 : BitVec 32) : Prop :=
  (∀ a, (k0_off979 v5131) a + S1x1024.size a ≤ S16384x1024.size a)
theorem k0_off979_inb : ∀ (v5131 : BitVec 32) (k0_hw971 : k0_chk971 v5131), ∀ a, (k0_off979 v5131) a + S1x1024.size a ≤ S16384x1024.size a := fun v5131 k0_hw971 => k0_hw971

def k0_off980 (v5136 : BitVec 32) : Fin 2 → Nat :=
  let c0_i32_3167 : BitVec 32 := 0#32
  ![v5136.toNat, 0]

def k0_chk972 (v5136 : BitVec 32) : Prop :=
  (∀ a, (k0_off980 v5136) a + S1x1024.size a ≤ S16384x1024.size a)
theorem k0_off980_inb : ∀ (v5136 : BitVec 32) (k0_hw972 : k0_chk972 v5136), ∀ a, (k0_off980 v5136) a + S1x1024.size a ≤ S16384x1024.size a := fun v5136 k0_hw972 => k0_hw972

def k0_off981 (v5141 : BitVec 32) : Fin 2 → Nat :=
  let c0_i32_3170 : BitVec 32 := 0#32
  ![v5141.toNat, 0]

def k0_chk973 (v5141 : BitVec 32) : Prop :=
  (∀ a, (k0_off981 v5141) a + S1x1024.size a ≤ S16384x1024.size a)
theorem k0_off981_inb : ∀ (v5141 : BitVec 32) (k0_hw973 : k0_chk973 v5141), ∀ a, (k0_off981 v5141) a + S1x1024.size a ≤ S16384x1024.size a := fun v5141 k0_hw973 => k0_hw973

def k0_off982 (v5146 : BitVec 32) : Fin 2 → Nat :=
  let c0_i32_3173 : BitVec 32 := 0#32
  ![v5146.toNat, 0]

def k0_chk974 (v5146 : BitVec 32) : Prop :=
  (∀ a, (k0_off982 v5146) a + S1x1024.size a ≤ S16384x1024.size a)
theorem k0_off982_inb : ∀ (v5146 : BitVec 32) (k0_hw974 : k0_chk974 v5146), ∀ a, (k0_off982 v5146) a + S1x1024.size a ≤ S16384x1024.size a := fun v5146 k0_hw974 => k0_hw974

def k0_off983 (v5151 : BitVec 32) : Fin 2 → Nat :=
  let c0_i32_3176 : BitVec 32 := 0#32
  ![v5151.toNat, 0]

def k0_chk975 (v5151 : BitVec 32) : Prop :=
  (∀ a, (k0_off983 v5151) a + S1x1024.size a ≤ S16384x1024.size a)
theorem k0_off983_inb : ∀ (v5151 : BitVec 32) (k0_hw975 : k0_chk975 v5151), ∀ a, (k0_off983 v5151) a + S1x1024.size a ≤ S16384x1024.size a := fun v5151 k0_hw975 => k0_hw975

def k0_off984 (v5156 : BitVec 32) : Fin 2 → Nat :=
  let c0_i32_3179 : BitVec 32 := 0#32
  ![v5156.toNat, 0]

def k0_chk976 (v5156 : BitVec 32) : Prop :=
  (∀ a, (k0_off984 v5156) a + S1x1024.size a ≤ S16384x1024.size a)
theorem k0_off984_inb : ∀ (v5156 : BitVec 32) (k0_hw976 : k0_chk976 v5156), ∀ a, (k0_off984 v5156) a + S1x1024.size a ≤ S16384x1024.size a := fun v5156 k0_hw976 => k0_hw976

def k0_off985 (v5161 : BitVec 32) : Fin 2 → Nat :=
  let c0_i32_3182 : BitVec 32 := 0#32
  ![v5161.toNat, 0]

def k0_chk977 (v5161 : BitVec 32) : Prop :=
  (∀ a, (k0_off985 v5161) a + S1x1024.size a ≤ S16384x1024.size a)
theorem k0_off985_inb : ∀ (v5161 : BitVec 32) (k0_hw977 : k0_chk977 v5161), ∀ a, (k0_off985 v5161) a + S1x1024.size a ≤ S16384x1024.size a := fun v5161 k0_hw977 => k0_hw977

def k0_off986 (v5166 : BitVec 32) : Fin 2 → Nat :=
  let c0_i32_3185 : BitVec 32 := 0#32
  ![v5166.toNat, 0]

def k0_chk978 (v5166 : BitVec 32) : Prop :=
  (∀ a, (k0_off986 v5166) a + S1x1024.size a ≤ S16384x1024.size a)
theorem k0_off986_inb : ∀ (v5166 : BitVec 32) (k0_hw978 : k0_chk978 v5166), ∀ a, (k0_off986 v5166) a + S1x1024.size a ≤ S16384x1024.size a := fun v5166 k0_hw978 => k0_hw978

def k0_off987 (v5171 : BitVec 32) : Fin 2 → Nat :=
  let c0_i32_3188 : BitVec 32 := 0#32
  ![v5171.toNat, 0]

def k0_chk979 (v5171 : BitVec 32) : Prop :=
  (∀ a, (k0_off987 v5171) a + S1x1024.size a ≤ S16384x1024.size a)
theorem k0_off987_inb : ∀ (v5171 : BitVec 32) (k0_hw979 : k0_chk979 v5171), ∀ a, (k0_off987 v5171) a + S1x1024.size a ≤ S16384x1024.size a := fun v5171 k0_hw979 => k0_hw979

def k0_off988 (v5176 : BitVec 32) : Fin 2 → Nat :=
  let c0_i32_3191 : BitVec 32 := 0#32
  ![v5176.toNat, 0]

def k0_chk980 (v5176 : BitVec 32) : Prop :=
  (∀ a, (k0_off988 v5176) a + S1x1024.size a ≤ S16384x1024.size a)
theorem k0_off988_inb : ∀ (v5176 : BitVec 32) (k0_hw980 : k0_chk980 v5176), ∀ a, (k0_off988 v5176) a + S1x1024.size a ≤ S16384x1024.size a := fun v5176 k0_hw980 => k0_hw980

def k0_off989 (v5181 : BitVec 32) : Fin 2 → Nat :=
  let c0_i32_3194 : BitVec 32 := 0#32
  ![v5181.toNat, 0]

def k0_chk981 (v5181 : BitVec 32) : Prop :=
  (∀ a, (k0_off989 v5181) a + S1x1024.size a ≤ S16384x1024.size a)
theorem k0_off989_inb : ∀ (v5181 : BitVec 32) (k0_hw981 : k0_chk981 v5181), ∀ a, (k0_off989 v5181) a + S1x1024.size a ≤ S16384x1024.size a := fun v5181 k0_hw981 => k0_hw981

def k0_off990 (v5186 : BitVec 32) : Fin 2 → Nat :=
  let c0_i32_3197 : BitVec 32 := 0#32
  ![v5186.toNat, 0]

def k0_chk982 (v5186 : BitVec 32) : Prop :=
  (∀ a, (k0_off990 v5186) a + S1x1024.size a ≤ S16384x1024.size a)
theorem k0_off990_inb : ∀ (v5186 : BitVec 32) (k0_hw982 : k0_chk982 v5186), ∀ a, (k0_off990 v5186) a + S1x1024.size a ≤ S16384x1024.size a := fun v5186 k0_hw982 => k0_hw982

def k0_off991 (v5191 : BitVec 32) : Fin 2 → Nat :=
  let c0_i32_3200 : BitVec 32 := 0#32
  ![v5191.toNat, 0]

def k0_chk983 (v5191 : BitVec 32) : Prop :=
  (∀ a, (k0_off991 v5191) a + S1x1024.size a ≤ S16384x1024.size a)
theorem k0_off991_inb : ∀ (v5191 : BitVec 32) (k0_hw983 : k0_chk983 v5191), ∀ a, (k0_off991 v5191) a + S1x1024.size a ≤ S16384x1024.size a := fun v5191 k0_hw983 => k0_hw983

def k0_off992 (v5196 : BitVec 32) : Fin 2 → Nat :=
  let c0_i32_3203 : BitVec 32 := 0#32
  ![v5196.toNat, 0]

def k0_chk984 (v5196 : BitVec 32) : Prop :=
  (∀ a, (k0_off992 v5196) a + S1x1024.size a ≤ S16384x1024.size a)
theorem k0_off992_inb : ∀ (v5196 : BitVec 32) (k0_hw984 : k0_chk984 v5196), ∀ a, (k0_off992 v5196) a + S1x1024.size a ≤ S16384x1024.size a := fun v5196 k0_hw984 => k0_hw984

def k0_off993 (v5201 : BitVec 32) : Fin 2 → Nat :=
  let c0_i32_3206 : BitVec 32 := 0#32
  ![v5201.toNat, 0]

def k0_chk985 (v5201 : BitVec 32) : Prop :=
  (∀ a, (k0_off993 v5201) a + S1x1024.size a ≤ S16384x1024.size a)
theorem k0_off993_inb : ∀ (v5201 : BitVec 32) (k0_hw985 : k0_chk985 v5201), ∀ a, (k0_off993 v5201) a + S1x1024.size a ≤ S16384x1024.size a := fun v5201 k0_hw985 => k0_hw985

def k0_off994 (v5206 : BitVec 32) : Fin 2 → Nat :=
  let c0_i32_3209 : BitVec 32 := 0#32
  ![v5206.toNat, 0]

def k0_chk986 (v5206 : BitVec 32) : Prop :=
  (∀ a, (k0_off994 v5206) a + S1x1024.size a ≤ S16384x1024.size a)
theorem k0_off994_inb : ∀ (v5206 : BitVec 32) (k0_hw986 : k0_chk986 v5206), ∀ a, (k0_off994 v5206) a + S1x1024.size a ≤ S16384x1024.size a := fun v5206 k0_hw986 => k0_hw986

def k0_off995 (v5211 : BitVec 32) : Fin 2 → Nat :=
  let c0_i32_3212 : BitVec 32 := 0#32
  ![v5211.toNat, 0]

def k0_chk987 (v5211 : BitVec 32) : Prop :=
  (∀ a, (k0_off995 v5211) a + S1x1024.size a ≤ S16384x1024.size a)
theorem k0_off995_inb : ∀ (v5211 : BitVec 32) (k0_hw987 : k0_chk987 v5211), ∀ a, (k0_off995 v5211) a + S1x1024.size a ≤ S16384x1024.size a := fun v5211 k0_hw987 => k0_hw987

def k0_off996 (v5216 : BitVec 32) : Fin 2 → Nat :=
  let c0_i32_3215 : BitVec 32 := 0#32
  ![v5216.toNat, 0]

def k0_chk988 (v5216 : BitVec 32) : Prop :=
  (∀ a, (k0_off996 v5216) a + S1x1024.size a ≤ S16384x1024.size a)
theorem k0_off996_inb : ∀ (v5216 : BitVec 32) (k0_hw988 : k0_chk988 v5216), ∀ a, (k0_off996 v5216) a + S1x1024.size a ≤ S16384x1024.size a := fun v5216 k0_hw988 => k0_hw988

def k0_off997 (v5221 : BitVec 32) : Fin 2 → Nat :=
  let c0_i32_3218 : BitVec 32 := 0#32
  ![v5221.toNat, 0]

def k0_chk989 (v5221 : BitVec 32) : Prop :=
  (∀ a, (k0_off997 v5221) a + S1x1024.size a ≤ S16384x1024.size a)
theorem k0_off997_inb : ∀ (v5221 : BitVec 32) (k0_hw989 : k0_chk989 v5221), ∀ a, (k0_off997 v5221) a + S1x1024.size a ≤ S16384x1024.size a := fun v5221 k0_hw989 => k0_hw989

def k0_off998 (v5226 : BitVec 32) : Fin 2 → Nat :=
  let c0_i32_3221 : BitVec 32 := 0#32
  ![v5226.toNat, 0]

def k0_chk990 (v5226 : BitVec 32) : Prop :=
  (∀ a, (k0_off998 v5226) a + S1x1024.size a ≤ S16384x1024.size a)
theorem k0_off998_inb : ∀ (v5226 : BitVec 32) (k0_hw990 : k0_chk990 v5226), ∀ a, (k0_off998 v5226) a + S1x1024.size a ≤ S16384x1024.size a := fun v5226 k0_hw990 => k0_hw990

def k0_off999 (v5231 : BitVec 32) : Fin 2 → Nat :=
  let c0_i32_3224 : BitVec 32 := 0#32
  ![v5231.toNat, 0]

def k0_chk991 (v5231 : BitVec 32) : Prop :=
  (∀ a, (k0_off999 v5231) a + S1x1024.size a ≤ S16384x1024.size a)
theorem k0_off999_inb : ∀ (v5231 : BitVec 32) (k0_hw991 : k0_chk991 v5231), ∀ a, (k0_off999 v5231) a + S1x1024.size a ≤ S16384x1024.size a := fun v5231 k0_hw991 => k0_hw991

def k0_off1000 (v5236 : BitVec 32) : Fin 2 → Nat :=
  let c0_i32_3227 : BitVec 32 := 0#32
  ![v5236.toNat, 0]

def k0_chk992 (v5236 : BitVec 32) : Prop :=
  (∀ a, (k0_off1000 v5236) a + S1x1024.size a ≤ S16384x1024.size a)
theorem k0_off1000_inb : ∀ (v5236 : BitVec 32) (k0_hw992 : k0_chk992 v5236), ∀ a, (k0_off1000 v5236) a + S1x1024.size a ≤ S16384x1024.size a := fun v5236 k0_hw992 => k0_hw992

def k0_off1001 (v5241 : BitVec 32) : Fin 2 → Nat :=
  let c0_i32_3230 : BitVec 32 := 0#32
  ![v5241.toNat, 0]

def k0_chk993 (v5241 : BitVec 32) : Prop :=
  (∀ a, (k0_off1001 v5241) a + S1x1024.size a ≤ S16384x1024.size a)
theorem k0_off1001_inb : ∀ (v5241 : BitVec 32) (k0_hw993 : k0_chk993 v5241), ∀ a, (k0_off1001 v5241) a + S1x1024.size a ≤ S16384x1024.size a := fun v5241 k0_hw993 => k0_hw993

def k0_off1002 (v5246 : BitVec 32) : Fin 2 → Nat :=
  let c0_i32_3233 : BitVec 32 := 0#32
  ![v5246.toNat, 0]

def k0_chk994 (v5246 : BitVec 32) : Prop :=
  (∀ a, (k0_off1002 v5246) a + S1x1024.size a ≤ S16384x1024.size a)
theorem k0_off1002_inb : ∀ (v5246 : BitVec 32) (k0_hw994 : k0_chk994 v5246), ∀ a, (k0_off1002 v5246) a + S1x1024.size a ≤ S16384x1024.size a := fun v5246 k0_hw994 => k0_hw994

def k0_off1003 (v5251 : BitVec 32) : Fin 2 → Nat :=
  let c0_i32_3236 : BitVec 32 := 0#32
  ![v5251.toNat, 0]

def k0_chk995 (v5251 : BitVec 32) : Prop :=
  (∀ a, (k0_off1003 v5251) a + S1x1024.size a ≤ S16384x1024.size a)
theorem k0_off1003_inb : ∀ (v5251 : BitVec 32) (k0_hw995 : k0_chk995 v5251), ∀ a, (k0_off1003 v5251) a + S1x1024.size a ≤ S16384x1024.size a := fun v5251 k0_hw995 => k0_hw995

def k0_off1004 (v5256 : BitVec 32) : Fin 2 → Nat :=
  let c0_i32_3239 : BitVec 32 := 0#32
  ![v5256.toNat, 0]

def k0_chk996 (v5256 : BitVec 32) : Prop :=
  (∀ a, (k0_off1004 v5256) a + S1x1024.size a ≤ S16384x1024.size a)
theorem k0_off1004_inb : ∀ (v5256 : BitVec 32) (k0_hw996 : k0_chk996 v5256), ∀ a, (k0_off1004 v5256) a + S1x1024.size a ≤ S16384x1024.size a := fun v5256 k0_hw996 => k0_hw996

def k0_off1005 (v5261 : BitVec 32) : Fin 2 → Nat :=
  let c0_i32_3242 : BitVec 32 := 0#32
  ![v5261.toNat, 0]

def k0_chk997 (v5261 : BitVec 32) : Prop :=
  (∀ a, (k0_off1005 v5261) a + S1x1024.size a ≤ S16384x1024.size a)
theorem k0_off1005_inb : ∀ (v5261 : BitVec 32) (k0_hw997 : k0_chk997 v5261), ∀ a, (k0_off1005 v5261) a + S1x1024.size a ≤ S16384x1024.size a := fun v5261 k0_hw997 => k0_hw997

def k0_off1006 (v5266 : BitVec 32) : Fin 2 → Nat :=
  let c0_i32_3245 : BitVec 32 := 0#32
  ![v5266.toNat, 0]

def k0_chk998 (v5266 : BitVec 32) : Prop :=
  (∀ a, (k0_off1006 v5266) a + S1x1024.size a ≤ S16384x1024.size a)
theorem k0_off1006_inb : ∀ (v5266 : BitVec 32) (k0_hw998 : k0_chk998 v5266), ∀ a, (k0_off1006 v5266) a + S1x1024.size a ≤ S16384x1024.size a := fun v5266 k0_hw998 => k0_hw998

def k0_off1007 (v5271 : BitVec 32) : Fin 2 → Nat :=
  let c0_i32_3248 : BitVec 32 := 0#32
  ![v5271.toNat, 0]

def k0_chk999 (v5271 : BitVec 32) : Prop :=
  (∀ a, (k0_off1007 v5271) a + S1x1024.size a ≤ S16384x1024.size a)
theorem k0_off1007_inb : ∀ (v5271 : BitVec 32) (k0_hw999 : k0_chk999 v5271), ∀ a, (k0_off1007 v5271) a + S1x1024.size a ≤ S16384x1024.size a := fun v5271 k0_hw999 => k0_hw999

def k0_off1008 (v5276 : BitVec 32) : Fin 2 → Nat :=
  let c0_i32_3251 : BitVec 32 := 0#32
  ![v5276.toNat, 0]

def k0_chk1000 (v5276 : BitVec 32) : Prop :=
  (∀ a, (k0_off1008 v5276) a + S1x1024.size a ≤ S16384x1024.size a)
theorem k0_off1008_inb : ∀ (v5276 : BitVec 32) (k0_hw1000 : k0_chk1000 v5276), ∀ a, (k0_off1008 v5276) a + S1x1024.size a ≤ S16384x1024.size a := fun v5276 k0_hw1000 => k0_hw1000

def k0_off1009 (v5281 : BitVec 32) : Fin 2 → Nat :=
  let c0_i32_3254 : BitVec 32 := 0#32
  ![v5281.toNat, 0]

def k0_chk1001 (v5281 : BitVec 32) : Prop :=
  (∀ a, (k0_off1009 v5281) a + S1x1024.size a ≤ S16384x1024.size a)
theorem k0_off1009_inb : ∀ (v5281 : BitVec 32) (k0_hw1001 : k0_chk1001 v5281), ∀ a, (k0_off1009 v5281) a + S1x1024.size a ≤ S16384x1024.size a := fun v5281 k0_hw1001 => k0_hw1001

def k0_off1010 (v5286 : BitVec 32) : Fin 2 → Nat :=
  let c0_i32_3257 : BitVec 32 := 0#32
  ![v5286.toNat, 0]

def k0_chk1002 (v5286 : BitVec 32) : Prop :=
  (∀ a, (k0_off1010 v5286) a + S1x1024.size a ≤ S16384x1024.size a)
theorem k0_off1010_inb : ∀ (v5286 : BitVec 32) (k0_hw1002 : k0_chk1002 v5286), ∀ a, (k0_off1010 v5286) a + S1x1024.size a ≤ S16384x1024.size a := fun v5286 k0_hw1002 => k0_hw1002

def k0_off1011 (v5291 : BitVec 32) : Fin 2 → Nat :=
  let c0_i32_3260 : BitVec 32 := 0#32
  ![v5291.toNat, 0]

def k0_chk1003 (v5291 : BitVec 32) : Prop :=
  (∀ a, (k0_off1011 v5291) a + S1x1024.size a ≤ S16384x1024.size a)
theorem k0_off1011_inb : ∀ (v5291 : BitVec 32) (k0_hw1003 : k0_chk1003 v5291), ∀ a, (k0_off1011 v5291) a + S1x1024.size a ≤ S16384x1024.size a := fun v5291 k0_hw1003 => k0_hw1003

def k0_off1012 (v5296 : BitVec 32) : Fin 2 → Nat :=
  let c0_i32_3263 : BitVec 32 := 0#32
  ![v5296.toNat, 0]

def k0_chk1004 (v5296 : BitVec 32) : Prop :=
  (∀ a, (k0_off1012 v5296) a + S1x1024.size a ≤ S16384x1024.size a)
theorem k0_off1012_inb : ∀ (v5296 : BitVec 32) (k0_hw1004 : k0_chk1004 v5296), ∀ a, (k0_off1012 v5296) a + S1x1024.size a ≤ S16384x1024.size a := fun v5296 k0_hw1004 => k0_hw1004

def k0_off1013 (v5301 : BitVec 32) : Fin 2 → Nat :=
  let c0_i32_3266 : BitVec 32 := 0#32
  ![v5301.toNat, 0]

def k0_chk1005 (v5301 : BitVec 32) : Prop :=
  (∀ a, (k0_off1013 v5301) a + S1x1024.size a ≤ S16384x1024.size a)
theorem k0_off1013_inb : ∀ (v5301 : BitVec 32) (k0_hw1005 : k0_chk1005 v5301), ∀ a, (k0_off1013 v5301) a + S1x1024.size a ≤ S16384x1024.size a := fun v5301 k0_hw1005 => k0_hw1005

def k0_off1014 (v5306 : BitVec 32) : Fin 2 → Nat :=
  let c0_i32_3269 : BitVec 32 := 0#32
  ![v5306.toNat, 0]

def k0_chk1006 (v5306 : BitVec 32) : Prop :=
  (∀ a, (k0_off1014 v5306) a + S1x1024.size a ≤ S16384x1024.size a)
theorem k0_off1014_inb : ∀ (v5306 : BitVec 32) (k0_hw1006 : k0_chk1006 v5306), ∀ a, (k0_off1014 v5306) a + S1x1024.size a ≤ S16384x1024.size a := fun v5306 k0_hw1006 => k0_hw1006

def k0_off1015 (v5311 : BitVec 32) : Fin 2 → Nat :=
  let c0_i32_3272 : BitVec 32 := 0#32
  ![v5311.toNat, 0]

def k0_chk1007 (v5311 : BitVec 32) : Prop :=
  (∀ a, (k0_off1015 v5311) a + S1x1024.size a ≤ S16384x1024.size a)
theorem k0_off1015_inb : ∀ (v5311 : BitVec 32) (k0_hw1007 : k0_chk1007 v5311), ∀ a, (k0_off1015 v5311) a + S1x1024.size a ≤ S16384x1024.size a := fun v5311 k0_hw1007 => k0_hw1007

def k0_off1016 (v5316 : BitVec 32) : Fin 2 → Nat :=
  let c0_i32_3275 : BitVec 32 := 0#32
  ![v5316.toNat, 0]

def k0_chk1008 (v5316 : BitVec 32) : Prop :=
  (∀ a, (k0_off1016 v5316) a + S1x1024.size a ≤ S16384x1024.size a)
theorem k0_off1016_inb : ∀ (v5316 : BitVec 32) (k0_hw1008 : k0_chk1008 v5316), ∀ a, (k0_off1016 v5316) a + S1x1024.size a ≤ S16384x1024.size a := fun v5316 k0_hw1008 => k0_hw1008

def k0_off1017 (v5321 : BitVec 32) : Fin 2 → Nat :=
  let c0_i32_3278 : BitVec 32 := 0#32
  ![v5321.toNat, 0]

def k0_chk1009 (v5321 : BitVec 32) : Prop :=
  (∀ a, (k0_off1017 v5321) a + S1x1024.size a ≤ S16384x1024.size a)
theorem k0_off1017_inb : ∀ (v5321 : BitVec 32) (k0_hw1009 : k0_chk1009 v5321), ∀ a, (k0_off1017 v5321) a + S1x1024.size a ≤ S16384x1024.size a := fun v5321 k0_hw1009 => k0_hw1009

def k0_off1018 (v5326 : BitVec 32) : Fin 2 → Nat :=
  let c0_i32_3281 : BitVec 32 := 0#32
  ![v5326.toNat, 0]

def k0_chk1010 (v5326 : BitVec 32) : Prop :=
  (∀ a, (k0_off1018 v5326) a + S1x1024.size a ≤ S16384x1024.size a)
theorem k0_off1018_inb : ∀ (v5326 : BitVec 32) (k0_hw1010 : k0_chk1010 v5326), ∀ a, (k0_off1018 v5326) a + S1x1024.size a ≤ S16384x1024.size a := fun v5326 k0_hw1010 => k0_hw1010

def k0_off1019 (v5331 : BitVec 32) : Fin 2 → Nat :=
  let c0_i32_3284 : BitVec 32 := 0#32
  ![v5331.toNat, 0]

def k0_chk1011 (v5331 : BitVec 32) : Prop :=
  (∀ a, (k0_off1019 v5331) a + S1x1024.size a ≤ S16384x1024.size a)
theorem k0_off1019_inb : ∀ (v5331 : BitVec 32) (k0_hw1011 : k0_chk1011 v5331), ∀ a, (k0_off1019 v5331) a + S1x1024.size a ≤ S16384x1024.size a := fun v5331 k0_hw1011 => k0_hw1011

def k0_off1020 (v5336 : BitVec 32) : Fin 2 → Nat :=
  let c0_i32_3287 : BitVec 32 := 0#32
  ![v5336.toNat, 0]

def k0_chk1012 (v5336 : BitVec 32) : Prop :=
  (∀ a, (k0_off1020 v5336) a + S1x1024.size a ≤ S16384x1024.size a)
theorem k0_off1020_inb : ∀ (v5336 : BitVec 32) (k0_hw1012 : k0_chk1012 v5336), ∀ a, (k0_off1020 v5336) a + S1x1024.size a ≤ S16384x1024.size a := fun v5336 k0_hw1012 => k0_hw1012

def k0_off1021 (v5341 : BitVec 32) : Fin 2 → Nat :=
  let c0_i32_3290 : BitVec 32 := 0#32
  ![v5341.toNat, 0]

def k0_chk1013 (v5341 : BitVec 32) : Prop :=
  (∀ a, (k0_off1021 v5341) a + S1x1024.size a ≤ S16384x1024.size a)
theorem k0_off1021_inb : ∀ (v5341 : BitVec 32) (k0_hw1013 : k0_chk1013 v5341), ∀ a, (k0_off1021 v5341) a + S1x1024.size a ≤ S16384x1024.size a := fun v5341 k0_hw1013 => k0_hw1013

def k0_off1022 (v5346 : BitVec 32) : Fin 2 → Nat :=
  let c0_i32_3293 : BitVec 32 := 0#32
  ![v5346.toNat, 0]

def k0_chk1014 (v5346 : BitVec 32) : Prop :=
  (∀ a, (k0_off1022 v5346) a + S1x1024.size a ≤ S16384x1024.size a)
theorem k0_off1022_inb : ∀ (v5346 : BitVec 32) (k0_hw1014 : k0_chk1014 v5346), ∀ a, (k0_off1022 v5346) a + S1x1024.size a ≤ S16384x1024.size a := fun v5346 k0_hw1014 => k0_hw1014

def k0_off1023 (v5351 : BitVec 32) : Fin 2 → Nat :=
  let c0_i32_3296 : BitVec 32 := 0#32
  ![v5351.toNat, 0]

def k0_chk1015 (v5351 : BitVec 32) : Prop :=
  (∀ a, (k0_off1023 v5351) a + S1x1024.size a ≤ S16384x1024.size a)
theorem k0_off1023_inb : ∀ (v5351 : BitVec 32) (k0_hw1015 : k0_chk1015 v5351), ∀ a, (k0_off1023 v5351) a + S1x1024.size a ≤ S16384x1024.size a := fun v5351 k0_hw1015 => k0_hw1015

def k0_off1024 (v5356 : BitVec 32) : Fin 2 → Nat :=
  let c0_i32_3299 : BitVec 32 := 0#32
  ![v5356.toNat, 0]

def k0_chk1016 (v5356 : BitVec 32) : Prop :=
  (∀ a, (k0_off1024 v5356) a + S1x1024.size a ≤ S16384x1024.size a)
theorem k0_off1024_inb : ∀ (v5356 : BitVec 32) (k0_hw1016 : k0_chk1016 v5356), ∀ a, (k0_off1024 v5356) a + S1x1024.size a ≤ S16384x1024.size a := fun v5356 k0_hw1016 => k0_hw1016

def k0_off1025 (v5361 : BitVec 32) : Fin 2 → Nat :=
  let c0_i32_3302 : BitVec 32 := 0#32
  ![v5361.toNat, 0]

def k0_chk1017 (v5361 : BitVec 32) : Prop :=
  (∀ a, (k0_off1025 v5361) a + S1x1024.size a ≤ S16384x1024.size a)
theorem k0_off1025_inb : ∀ (v5361 : BitVec 32) (k0_hw1017 : k0_chk1017 v5361), ∀ a, (k0_off1025 v5361) a + S1x1024.size a ≤ S16384x1024.size a := fun v5361 k0_hw1017 => k0_hw1017

def k0_off1026 (v5366 : BitVec 32) : Fin 2 → Nat :=
  let c0_i32_3305 : BitVec 32 := 0#32
  ![v5366.toNat, 0]

def k0_chk1018 (v5366 : BitVec 32) : Prop :=
  (∀ a, (k0_off1026 v5366) a + S1x1024.size a ≤ S16384x1024.size a)
theorem k0_off1026_inb : ∀ (v5366 : BitVec 32) (k0_hw1018 : k0_chk1018 v5366), ∀ a, (k0_off1026 v5366) a + S1x1024.size a ≤ S16384x1024.size a := fun v5366 k0_hw1018 => k0_hw1018

def k0_off1027 (v5371 : BitVec 32) : Fin 2 → Nat :=
  let c0_i32_3308 : BitVec 32 := 0#32
  ![v5371.toNat, 0]

def k0_chk1019 (v5371 : BitVec 32) : Prop :=
  (∀ a, (k0_off1027 v5371) a + S1x1024.size a ≤ S16384x1024.size a)
theorem k0_off1027_inb : ∀ (v5371 : BitVec 32) (k0_hw1019 : k0_chk1019 v5371), ∀ a, (k0_off1027 v5371) a + S1x1024.size a ≤ S16384x1024.size a := fun v5371 k0_hw1019 => k0_hw1019

def k0_off1028 (v5376 : BitVec 32) : Fin 2 → Nat :=
  let c0_i32_3311 : BitVec 32 := 0#32
  ![v5376.toNat, 0]

def k0_chk1020 (v5376 : BitVec 32) : Prop :=
  (∀ a, (k0_off1028 v5376) a + S1x1024.size a ≤ S16384x1024.size a)
theorem k0_off1028_inb : ∀ (v5376 : BitVec 32) (k0_hw1020 : k0_chk1020 v5376), ∀ a, (k0_off1028 v5376) a + S1x1024.size a ≤ S16384x1024.size a := fun v5376 k0_hw1020 => k0_hw1020

def k0_off1029 (v5381 : BitVec 32) : Fin 2 → Nat :=
  let c0_i32_3314 : BitVec 32 := 0#32
  ![v5381.toNat, 0]

def k0_chk1021 (v5381 : BitVec 32) : Prop :=
  (∀ a, (k0_off1029 v5381) a + S1x1024.size a ≤ S16384x1024.size a)
theorem k0_off1029_inb : ∀ (v5381 : BitVec 32) (k0_hw1021 : k0_chk1021 v5381), ∀ a, (k0_off1029 v5381) a + S1x1024.size a ≤ S16384x1024.size a := fun v5381 k0_hw1021 => k0_hw1021

def k0_off1030 (v5386 : BitVec 32) : Fin 2 → Nat :=
  let c0_i32_3317 : BitVec 32 := 0#32
  ![v5386.toNat, 0]

def k0_chk1022 (v5386 : BitVec 32) : Prop :=
  (∀ a, (k0_off1030 v5386) a + S1x1024.size a ≤ S16384x1024.size a)
theorem k0_off1030_inb : ∀ (v5386 : BitVec 32) (k0_hw1022 : k0_chk1022 v5386), ∀ a, (k0_off1030 v5386) a + S1x1024.size a ≤ S16384x1024.size a := fun v5386 k0_hw1022 => k0_hw1022

def k0_off1031 (v5391 : BitVec 32) : Fin 2 → Nat :=
  let c0_i32_3320 : BitVec 32 := 0#32
  ![v5391.toNat, 0]

def k0_chk1023 (v5391 : BitVec 32) : Prop :=
  (∀ a, (k0_off1031 v5391) a + S1x1024.size a ≤ S16384x1024.size a)
theorem k0_off1031_inb : ∀ (v5391 : BitVec 32) (k0_hw1023 : k0_chk1023 v5391), ∀ a, (k0_off1031 v5391) a + S1x1024.size a ≤ S16384x1024.size a := fun v5391 k0_hw1023 => k0_hw1023

def k0_off1032 (v5396 : BitVec 32) : Fin 2 → Nat :=
  let c0_i32_3323 : BitVec 32 := 0#32
  ![v5396.toNat, 0]

def k0_chk1024 (v5396 : BitVec 32) : Prop :=
  (∀ a, (k0_off1032 v5396) a + S1x1024.size a ≤ S16384x1024.size a)
theorem k0_off1032_inb : ∀ (v5396 : BitVec 32) (k0_hw1024 : k0_chk1024 v5396), ∀ a, (k0_off1032 v5396) a + S1x1024.size a ≤ S16384x1024.size a := fun v5396 k0_hw1024 => k0_hw1024

def k0_off1033 (d0 : Dev nD) (c512_i32_3338 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32_3337 : BitVec 32 := 1024#32
  let v5412 : BitVec 32 := Scalar.muli v2 c1024_i32_3337
  let v5413 : BitVec 32 := Scalar.addi v5412 c512_i32_3338
  let v5414 : Index := Scalar.indexCast v5413
  let c0_3339 : Index := 0#32
  ![v5414.toNat, 0]
def k0_off1034 (d0 : Dev nD) (c512_i32_3343 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32_3342 : BitVec 32 := 1024#32
  let v5418 : BitVec 32 := Scalar.muli v2 c1024_i32_3342
  let v5419 : BitVec 32 := Scalar.addi v5418 c512_i32_3343
  let c0_i32_3350 : BitVec 32 := 0#32
  ![v5419.toNat, 0]
def k0_dev13 (d0 : Dev nD) : Nat :=
  let c0_i32_3348 : BitVec 32 := 0#32
  let c1_i32_3344 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v5420 : BitVec 32 := Scalar.subi c1_i32_3344 v2
  let c2_i32_3347 : BitVec 32 := 2#32
  let v5421 : BitVec 32 := Scalar.muli v5420 c2_i32_3347
  let v5422 : BitVec 32 := Scalar.addi c0_i32_3348 v5421
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_3349 : BitVec 32 := 1#32
  let v5423 : BitVec 32 := Scalar.muli v5 c1_i32_3349
  let v5424 : BitVec 32 := Scalar.addi v5422 v5423
  v5424.toNat
def k0_dev14 (d0 : Dev nD) : Nat :=
  let c0_i32_3367 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_3366 : BitVec 32 := 2#32
  let v5445 : BitVec 32 := Scalar.muli v2 c2_i32_3366
  let v5446 : BitVec 32 := Scalar.addi c0_i32_3367 v5445
  let c1_i32_3363 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v5444 : BitVec 32 := Scalar.subi c1_i32_3363 v5
  let c1_i32_3368 : BitVec 32 := 1#32
  let v5447 : BitVec 32 := Scalar.muli v5444 c1_i32_3368
  let v5448 : BitVec 32 := Scalar.addi v5446 v5447
  v5448.toNat
def k0_dev15 (d0 : Dev nD) : Nat :=
  let c0_i32_3397 : BitVec 32 := 0#32
  let c1_i32_3393 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v5474 : BitVec 32 := Scalar.subi c1_i32_3393 v2
  let c2_i32_3396 : BitVec 32 := 2#32
  let v5475 : BitVec 32 := Scalar.muli v5474 c2_i32_3396
  let v5476 : BitVec 32 := Scalar.addi c0_i32_3397 v5475
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_3398 : BitVec 32 := 1#32
  let v5477 : BitVec 32 := Scalar.muli v5 c1_i32_3398
  let v5478 : BitVec 32 := Scalar.addi v5476 v5477
  v5478.toNat
def k0_dev16 (d0 : Dev nD) : Nat :=
  let c0_i32_3416 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_3415 : BitVec 32 := 2#32
  let v5499 : BitVec 32 := Scalar.muli v2 c2_i32_3415
  let v5500 : BitVec 32 := Scalar.addi c0_i32_3416 v5499
  let c1_i32_3412 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v5498 : BitVec 32 := Scalar.subi c1_i32_3412 v5
  let c1_i32_3417 : BitVec 32 := 1#32
  let v5501 : BitVec 32 := Scalar.muli v5498 c1_i32_3417
  let v5502 : BitVec 32 := Scalar.addi v5500 v5501
  v5502.toNat
def k0_dev17 (d0 : Dev nD) : Nat :=
  let c0_i32_3446 : BitVec 32 := 0#32
  let c1_i32_3442 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v5528 : BitVec 32 := Scalar.subi c1_i32_3442 v2
  let c2_i32_3445 : BitVec 32 := 2#32
  let v5529 : BitVec 32 := Scalar.muli v5528 c2_i32_3445
  let v5530 : BitVec 32 := Scalar.addi c0_i32_3446 v5529
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_3447 : BitVec 32 := 1#32
  let v5531 : BitVec 32 := Scalar.muli v5 c1_i32_3447
  let v5532 : BitVec 32 := Scalar.addi v5530 v5531
  v5532.toNat
def k0_dev18 (d0 : Dev nD) : Nat :=
  let c0_i32_3474 : BitVec 32 := 0#32
  let c1_i32_3470 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v5558 : BitVec 32 := Scalar.subi c1_i32_3470 v2
  let c2_i32_3473 : BitVec 32 := 2#32
  let v5559 : BitVec 32 := Scalar.muli v5558 c2_i32_3473
  let v5560 : BitVec 32 := Scalar.addi c0_i32_3474 v5559
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_3475 : BitVec 32 := 1#32
  let v5561 : BitVec 32 := Scalar.muli v5 c1_i32_3475
  let v5562 : BitVec 32 := Scalar.addi v5560 v5561
  v5562.toNat
def k0_off1035 (d0 : Dev nD) (c0_i32_3483 : BitVec 32) : Fin 2 → Nat :=
  let c1_i32_3481 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v5572 : BitVec 32 := Scalar.subi c1_i32_3481 v2
  let c1024_i32_3482 : BitVec 32 := 1024#32
  let v5573 : BitVec 32 := Scalar.muli v5572 c1024_i32_3482
  let v5574 : BitVec 32 := Scalar.addi v5573 c0_i32_3483
  let c0_i32_3490 : BitVec 32 := 0#32
  ![v5574.toNat, 0]
abbrev stage0_0 : Fin 1 → Memref sig .tc .smem S1024 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2048 : Shape := ⟨1, ![2048]⟩
abbrev S32768x1024 : Shape := ⟨2, ![32768, 1024]⟩
abbrev S_ : Shape := ⟨0, ![]⟩
abbrev S2048x1 : Shape := ⟨2, ![2048, 1]⟩
abbrev S2048x1024 : Shape := ⟨2, ![2048, 1024]⟩

abbrev nBuf : Space → Nat
  | .hbm => 12
  | .vmem => 0
  | .smem => 0
  | _ => 0

abbrev bufTy : (tb : Table) → Fin (tcTables nBuf tb) → BufTy
  | .hbm, ⟨0, _⟩ => ⟨S2048, .i32⟩
  | .hbm, ⟨1, _⟩ => ⟨S32768x1024, .f32⟩
  | .hbm, ⟨2, _⟩ => ⟨S_, .i32⟩
  | .hbm, ⟨3, _⟩ => ⟨S2048, .i32⟩
  | .hbm, ⟨4, _⟩ => ⟨S2048, .i1⟩
  | .hbm, ⟨5, _⟩ => ⟨S_, .i32⟩
  | .hbm, ⟨6, _⟩ => ⟨S2048, .i32⟩
  | .hbm, ⟨7, _⟩ => ⟨S2048, .i32⟩
  | .hbm, ⟨8, _⟩ => ⟨S2048, .i32⟩
  | .hbm, ⟨9, _⟩ => ⟨S2048x1, .i32⟩
  | .hbm, ⟨10, _⟩ => ⟨S2048x1024, .f32⟩
  | .hbm, ⟨11, _⟩ => ⟨S2048x1024, .bf16⟩
  | _, _ => ⟨S2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Proof.Body.lean ====
module

public import proofs.«01_k».proof.Proof.Gen.KernelIdeal
public import Idealize.ShloMosaic.Lib.Pipeline.Regions

/-! # The kernel's body as a short program

The printed body is one straight line of some thousands of statements: the gather's thousand rows are
unrolled, and the eight chunks are software-pipelined around them. This module writes the same program with
the row, the chunk's accumulation, its forwarding and its waits named once, and says the two are equal. -/

@[expose] public section

noncomputable section

namespace Cert.KernelIdeal.Body

open Idealize.ShloMosaic Idealize.SL.Sem
open Cert.KernelIdeal.Gen

variable {F : FTy → Type} [FloatOps F]

/-! ## Side facts of the chunks and rows -/

theorem inbC (j : Fin 8) : ∀ a, (![128 * j.val, 0] : Fin 2 → Nat) a + S128x1024.size a ≤ S1024x1024.size a := by
  revert j; decide
theorem inbO (j : Fin 8) : ∀ a, (![128 * j.val, 0] : Fin 2 → Nat) a + S128x1.size a ≤ S1024x1.size a := by
  revert j; decide
theorem packedC : ∀ j : Fin 8, (Rect.unit (s := S1024x1024) ![128 * j.val, 0] S128x1024.size (inbC j)).PackedRows (EltTy.packing .bf16) := by
  decide +kernel
theorem wordsC : ∀ j : Fin 8, (Rect.unit (s := S1024x1024) ![128 * j.val, 0] S128x1024.size (inbC j)).WholeWords (EltTy.packing .bf16) := by
  decide +kernel
theorem packedM : ∀ d0 : Dev nD, ∀ j : Fin 8, (Rect.unit (s := S2048x1024) (k0_off1034 d0 (BitVec.ofNat 32 (128 * j.val))) S128x1024.size (k0_off1034_inb d0 j)).PackedRows (EltTy.packing .bf16) := by
  decide +kernel
theorem inbS2 (s : Fin 2) : ∀ a, (![s.val] : Fin 1 → Nat) a + S1.size a ≤ S2.size a := by revert s; decide
theorem inbS8 (s : Fin 8) : ∀ a, (![s.val] : Fin 1 → Nat) a + S1.size a ≤ S8.size a := by revert s; decide
theorem inbId (t : Nat) (ht : t < 1024) : ∀ a, (![t] : Fin 1 → Nat) a + S1.size a ≤ S1024.size a := by
  intro a; fin_cases a; exact ht
theorem inbRow (t : Nat) (ht : t < 1024) : ∀ a, (![t, 0] : Fin 2 → Nat) a + S1x1024.size a ≤ S1024x1024.size a := by
  intro a; fin_cases a
  · exact ht
  · exact Nat.le_refl _

section
variable (arg0 : Memref sig .tc .smem S1024 .i32) (arg1 : Memref sig .tc .vmem S1024x1 .f32) (arg2 : Memref sig .tc .hbm S16384x1024 .f32) (arg3 : Memref sig .tc .vmem S2048x1024 .bf16) (harg3 : arg3.IsWhole) (arg4 : Memref sig .tc .vmem S1024x1024 .f32) (arg5 : Memref sig .tc .vmem S1024x1024 .bf16) (harg5 : arg5.IsWhole) (arg6 : Memref sig .tc .vmem S1024x1024 .bf16) (harg6 : arg6.IsWhole) (arg7 : DmaSems sig S2) (arg8 : DmaSems sig S8) (arg9 : DmaSems sig S8) (arg10 : DmaSems sig S8) (arg11 : DmaSems sig S8)

/-- The kernel's programs. -/
abbrev BProg (F : FTy → Type) : Type _ := Prog (TpuEff nD τ sig (Elt F) Λ₀ .tc) PUnit

/-- One semaphore of the pair the gathers wait on, and one of an array of eight. -/
abbrev sem2 (a : DmaSems sig S2) (s : Fin 2) : DmaSem sig :=
  ((a.slice (Rect.unit (s := S2) ![s.val] S1.size (inbS2 s))).squeeze S_ squeezes_S1_S_).sem
abbrev sem8 (a : DmaSems sig S8) (s : Fin 8) : DmaSem sig :=
  ((a.slice (Rect.unit (s := S8) ![s.val] S1.size (inbS8 s))).squeeze S_ squeezes_S1_S_).sem

/-- A chunk of 128 rows of a 1024-row buffer; of the own half of the result, and of the other half. -/
abbrev chunk {e : EltTy} (m : Memref sig .tc .vmem S1024x1024 e) (j : Fin 8) : Memref sig .tc .vmem S128x1024 e :=
  m.slice (Rect.unit (s := S1024x1024) ![128 * j.val, 0] S128x1024.size (inbC j)) (fun _ => rfl)
abbrev mineM (m : Memref sig .tc .vmem S2048x1024 .bf16) (d0 : Dev nD) (j : Fin 8) : Memref sig .tc .vmem S128x1024 .bf16 :=
  m.slice (Rect.unit (s := S2048x1024) (k0_off1034 d0 (BitVec.ofNat 32 (128 * j.val))) S128x1024.size (k0_off1034_inb d0 j)) (fun _ => rfl)
abbrev otherM (m : Memref sig .tc .vmem S2048x1024 .bf16) (d0 : Dev nD) (j : Fin 8) : Memref sig .tc .vmem S128x1024 .bf16 :=
  m.slice (Rect.unit (s := S2048x1024) (k0_off1035 d0 (BitVec.ofNat 32 (128 * j.val))) S128x1024.size (k0_off1035_inb d0 j)) (fun _ => rfl)

/-- One row of the gather: read its index, and start the copy of that row. -/
def rowP (s : Fin 2) (t : Nat) (ht : t < 1024) : BProg F := do
  let v : Elt F .i32 ← smemLoad arg0 (Rect.unit (s := S1024) ![t] S1.size (inbId t ht)) numel1_S1 rfl
  have hw : k0_chk1 v := (← Prog.lift (TpuEff.assume (k0_chk1 v) (k0_chk1.dec v))).down
  Prog.lift (.enqueueDma (arg2.slice (Rect.unit (s := S16384x1024) (k0_off1 v) S1x1024.size (k0_off1_inb v hw)) (fun _ => rfl))
    (.here (arg4.slice (Rect.unit (s := S1024x1024) ![t, 0] S1x1024.size (inbRow t ht)) (fun _ => rfl)))
    (.dma (sem2 arg7 s)) (View.wordExact_bits rfl) (View.wordExact_bits rfl) ⟨Or.inl rfl, trivial⟩)

/-- A run of rows: the `n` rows from `b`. -/
def rowsP (s : Fin 2) : (n b : Nat) → b + n ≤ 1024 → BProg F
  | 0, _, _ => pure ⟨⟩
  | n + 1, b, h => do
    rowP (F := F) arg0 arg2 arg4 arg7 s b (Nat.lt_of_lt_of_le (Nat.lt_add_of_pos_right (Nat.succ_pos n)) h)
    rowsP s n (b + 1) (by rw [Nat.add_assoc, Nat.add_comm 1 n]; exact h)

/-- The rows of chunk `j`, on the semaphore of its parity. -/
abbrev gatherP (j : Fin 8) (s : Fin 2) : BProg F :=
  rowsP (F := F) arg0 arg2 arg4 arg7 s 128 (128 * j.val) (by have := j.isLt; omega)

/-- Chunk `j` gathered: mask it, round it, keep it and send it to the peer of the other vocabulary half. -/
def stepA (d0 : Dev nD) (j : Fin 8) (s : Fin 2) : BProg F := do
  Prog.lift (.waitDma2 (sem2 arg7 s) (arg2.slice (Rect.unit (s := S16384x1024) ![0, 0] S128x1024.size inb_S16384x1024_S128x1024_0_0) (fun _ => rfl))
    (chunk arg4 j) (View.wordExact_bits rfl) (View.wordExact_bits rfl))
  let v1 : Vec F S128x1024 .f32 ← Prog.lift (.load arg4 (Rect.unit (s := S1024x1024) ![128 * j.val, 0] S128x1024.size (inbC j)).toLoadRect (View.loadsAt_vmem h_S128x1024))
  let v2 : Vec F S128x1 .f32 ← Prog.lift (.load arg1 (Rect.unit (s := S1024x1) ![128 * j.val, 0] S128x1.size (inbO j)).toLoadRect (View.loadsAt_vmem h_S128x1))
  let v3 : Vec F S128x1 .f32 := shapeCast S128x1 v2 shapeCasts_S128x1_S128x1
  let v4 : Vec F S128x1024 .f32 := broadcastTo S128x1024 v3 broadcasts_S128x1_S128x1024
  let v5 := mulf v1 v4
  let v6 := truncf .bf16 v5 bitsLt_bf16_f32
  let v7 ← Prog.lift (.load arg5 (Rect.unit (s := S1024x1024) ![128 * j.val, 0] S128x1024.size (inbC j)).toLoadRect (View.loadsAt_vmem h_S128x1024))
  let v8 := shapeCast S128x1024 v6 shapeCasts_S128x1024_S128x1024
  Prog.lift (.store arg5 (Rect.unit (s := S1024x1024) ![128 * j.val, 0] S128x1024.size (inbC j)) v8 Finset.univ (View.stores_vmem h_S128x1024 (harg5.storeExact_slice rfl _ (packedC j)) (fun _ => rfl)) (.inl rfl))
  Prog.lift (.enqueueDma (chunk arg5 j) (.remote (Dev.tc ⟨k0_dev1 d0, k0_dev1_lt d0⟩) (chunk arg6 j) (.dma (sem8 arg8 j))) (.dma (sem8 arg9 j))
    (harg5.wordExact_slice rfl _ (wordsC j)) (harg6.wordExact_slice rfl _ (wordsC j)) ⟨⟨rfl, Or.inl rfl⟩, trivial⟩)

/-- The peer's chunk `j` arrived: add it, keep the sum in the own half, and send it across the batch. -/
def fwdP (d0 : Dev nD) (j : Fin 8) : BProg F := do
  Prog.lift (.waitDma2 (sem8 arg9 j) (chunk arg5 j) (chunk arg6 j) (harg5.wordExact_slice rfl _ (wordsC j)) (harg6.wordExact_slice rfl _ (wordsC j)))
  let v1 : Vec F S128x1024 .bf16 ← Prog.lift (.load arg5 (Rect.unit (s := S1024x1024) ![128 * j.val, 0] S128x1024.size (inbC j)).toLoadRect (View.loadsAt_vmem h_S128x1024))
  let v2 : Vec F S128x1024 .bf16 ← Prog.lift (.load arg6 (Rect.unit (s := S1024x1024) ![128 * j.val, 0] S128x1024.size (inbC j)).toLoadRect (View.loadsAt_vmem h_S128x1024))
  let v3 := addf v1 v2
  let v4 ← Prog.lift (.load arg3 (Rect.unit (s := S2048x1024) (k0_off1034 d0 (BitVec.ofNat 32 (128 * j.val))) S128x1024.size (k0_off1034_inb d0 j)).toLoadRect (View.loadsAt_vmem h_S128x1024))
  let v5 := v3
  Prog.lift (.store arg3 (Rect.unit (s := S2048x1024) (k0_off1034 d0 (BitVec.ofNat 32 (128 * j.val))) S128x1024.size (k0_off1034_inb d0 j)) v5 Finset.univ (View.stores_vmem h_S128x1024 (harg3.storeExact_slice rfl _ (packedM d0 j)) (fun _ => rfl)) (.inl rfl))
  Prog.lift (.enqueueDma (mineM arg3 d0 j) (.remote (Dev.tc ⟨k0_dev2 d0, k0_dev2_lt d0⟩) (mineM arg3 d0 j) (.dma (sem8 arg10 j))) (.dma (sem8 arg11 j))
    (harg3.wordExact_slice rfl _ (k0_off1034_wordsbf16 d0 j)) (harg3.wordExact_slice rfl _ (k0_off1034_wordsbf16 d0 j)) ⟨⟨rfl, Or.inl rfl⟩, trivial⟩)

/-- Wait for chunk `j` of the other half; for the two sends of chunk `j`. -/
def waitX (d0 : Dev nD) (j : Fin 8) : BProg F :=
  Prog.lift (.waitDma2 (sem8 arg11 j) (otherM arg3 d0 j) (otherM arg3 d0 j) (harg3.wordExact_slice rfl _ (k0_off1035_wordsbf16 d0 j)) (harg3.wordExact_slice rfl _ (k0_off1035_wordsbf16 d0 j)))
def waitEnd (d0 : Dev nD) (j : Fin 8) : BProg F := do
  Prog.lift (.waitDma2 (sem8 arg8 j) (chunk arg6 j) (chunk arg5 j) (harg6.wordExact_slice rfl _ (wordsC j)) (harg5.wordExact_slice rfl _ (wordsC j)))
  Prog.lift (.waitDma2 (sem8 arg10 j) (mineM arg3 d0 j) (mineM arg3 d0 j) (harg3.wordExact_slice rfl _ (k0_off1034_wordsbf16 d0 j)) (harg3.wordExact_slice rfl _ (k0_off1034_wordsbf16 d0 j)))

/-- The same over all the chunks from `b`. -/
def waitXs (d0 : Dev nD) : (n b : Nat) → b + n ≤ 8 → BProg F
  | 0, _, _ => pure ⟨⟩
  | n + 1, b, h => do
    waitX (F := F) arg3 harg3 arg11 d0 ⟨b, Nat.lt_of_lt_of_le (Nat.lt_add_of_pos_right (Nat.succ_pos n)) h⟩
    waitXs d0 n (b + 1) (by rw [Nat.add_assoc, Nat.add_comm 1 n]; exact h)
def waitEnds (d0 : Dev nD) : (n b : Nat) → b + n ≤ 8 → BProg F
  | 0, _, _ => pure ⟨⟩
  | n + 1, b, h => do
    waitEnd (F := F) arg3 harg3 arg5 harg5 arg6 harg6 arg8 arg10 d0 ⟨b, Nat.lt_of_lt_of_le (Nat.lt_add_of_pos_right (Nat.succ_pos n)) h⟩
    waitEnds d0 n (b + 1) (by rw [Nat.add_assoc, Nat.add_comm 1 n]; exact h)

/-- The barrier semaphore of the collective. -/
abbrev barArr : Sems sig S_ := SemArray.scalar (sig.barrier 0 rfl)

/-- The handshake with the two peers. -/
def hello (d0 : Dev nD) : BProg F := do
  semSignalWord ⟨k0_dev1 d0, k0_dev1_lt d0⟩ (barArr).sem 1#32
  semSignalWord ⟨k0_dev2 d0, k0_dev2_lt d0⟩ (barArr).sem 1#32
  semWaitWord (barArr).sem 2#32

/-- The whole body. -/
def sbody : BProg F := do
  let d0 ← Prog.lift .deviceId
  hello (F := F) d0
  gatherP (F := F) arg0 arg2 arg4 arg7 0 0
  gatherP (F := F) arg0 arg2 arg4 arg7 1 1
  stepA (F := F) arg1 arg2 arg4 arg5 harg5 arg6 harg6 arg7 arg8 arg9 d0 0 0
  gatherP (F := F) arg0 arg2 arg4 arg7 2 0
  stepA (F := F) arg1 arg2 arg4 arg5 harg5 arg6 harg6 arg7 arg8 arg9 d0 1 1
  gatherP (F := F) arg0 arg2 arg4 arg7 3 1
  fwdP (F := F) arg3 harg3 arg5 harg5 arg6 harg6 arg9 arg10 arg11 d0 0
  stepA (F := F) arg1 arg2 arg4 arg5 harg5 arg6 harg6 arg7 arg8 arg9 d0 2 0
  gatherP (F := F) arg0 arg2 arg4 arg7 4 0
  fwdP (F := F) arg3 harg3 arg5 harg5 arg6 harg6 arg9 arg10 arg11 d0 1
  stepA (F := F) arg1 arg2 arg4 arg5 harg5 arg6 harg6 arg7 arg8 arg9 d0 3 1
  gatherP (F := F) arg0 arg2 arg4 arg7 5 1
  fwdP (F := F) arg3 harg3 arg5 harg5 arg6 harg6 arg9 arg10 arg11 d0 2
  stepA (F := F) arg1 arg2 arg4 arg5 harg5 arg6 harg6 arg7 arg8 arg9 d0 4 0
  gatherP (F := F) arg0 arg2 arg4 arg7 6 0
  fwdP (F := F) arg3 harg3 arg5 harg5 arg6 harg6 arg9 arg10 arg11 d0 3
  stepA (F := F) arg1 arg2 arg4 arg5 harg5 arg6 harg6 arg7 arg8 arg9 d0 5 1
  gatherP (F := F) arg0 arg2 arg4 arg7 7 1
  fwdP (F := F) arg3 harg3 arg5 harg5 arg6 harg6 arg9 arg10 arg11 d0 4
  stepA (F := F) arg1 arg2 arg4 arg5 harg5 arg6 harg6 arg7 arg8 arg9 d0 6 0
  fwdP (F := F) arg3 harg3 arg5 harg5 arg6 harg6 arg9 arg10 arg11 d0 5
  stepA (F := F) arg1 arg2 arg4 arg5 harg5 arg6 harg6 arg7 arg8 arg9 d0 7 1
  fwdP (F := F) arg3 harg3 arg5 harg5 arg6 harg6 arg9 arg10 arg11 d0 6
  fwdP (F := F) arg3 harg3 arg5 harg5 arg6 harg6 arg9 arg10 arg11 d0 7
  waitXs (F := F) arg3 harg3 arg11 d0 8 0 (Nat.le_refl _)
  waitEnds (F := F) arg3 harg3 arg5 harg5 arg6 harg6 arg8 arg10 d0 8 0 (Nat.le_refl _)

theorem body_eq (harg0 : arg0.IsWhole) (harg1 : arg1.IsWhole) (harg2 : arg2.IsWhole) (harg4 : arg4.IsWhole) :
    cc0_body (F := F) arg0 harg0 arg1 harg1 arg2 harg2 arg3 harg3 arg4 harg4 arg5 harg5 arg6 harg6 arg7 arg8 arg9 arg10 arg11
      = sbody (F := F) arg0 arg1 arg2 arg3 harg3 arg4 arg5 harg5 arg6 harg6 arg7 arg8 arg9 arg10 arg11 := by
  chain_rfl
end

end Cert.KernelIdeal.Body
-- ==== Proof.Base.lean ====
module

public import proofs.«01_k».proof.Proof.Body
public import proofs.«01_k».proof.Proof.Gen.KernelIdeal.Launch
public import proofs.«01_k».proof.Proof.Gen.KernelIdeal.Points
public import proofs.«01_k».proof.Proof.Gen.KernelIdeal.Regions
public import Idealize.ShloMosaic.Lib.Pipeline.Regions
public import Idealize.ShloMosaic.Lib.Pipeline.Kit
public import Idealize.ShloMosaic.Lib.Pipeline.RegionTalk
public import Idealize.ShloMosaic.Lib.Rounds
public import Idealize.ShloMosaic.Lib.Batch
public import Idealize.ShloMosaic.Lib.StableHlo
public import Idealize.ShloMosaic.Lib.Tactic
public import Idealize.ShloMosaic.PureOps
public import Idealize.ShloMosaic.Harness.Basic

/-! # The ground of the proof: resources, buffers, bands of rows, and what every buffer comes to hold

The ghost state holds the pipeline's rounds library, one rounds library of ours for the cells the devices talk
over (two duties a round, for the barrier has two signallers), and the counters of the local copies. Every
transfer moves whole rows of a buffer of 1024 lanes, so element sets are bands of rows. -/

@[expose] public section

noncomputable section

namespace Cert.KernelIdeal.K

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen Cert.KernelIdeal.Body

variable {F : FTy → Type} [FloatOps F]

/-! ## The ghost state -/

abbrev UB : Type := URounds (GSem nD τ sig) Bool
abbrev UU : Type := UR sig nD τ × (UB × Counters)

local notation "𝕄" => MT nD τ sig Unit (Elt F) ℕ UU ℕ

abbrev EP : Emb (UR sig nD τ) 𝕄 := embL
def ER : Emb UB 𝕄 :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance
abbrev EC : UEmb Counters 𝕄 := countersEmb (U := UU)

/-! ## The buffers -/

abbrev rowsM : Memref sig .tc .smem S1024 .i32 := Memref.whole cc0_stg0_0
abbrev okM : Memref sig .tc .vmem S1024x1 .f32 := Memref.whole cc0_stg1_0
abbrev eM : Memref sig .tc .hbm S16384x1024 .f32 := Memref.whole main_arg1
abbrev oM : Memref sig .tc .vmem S2048x1024 .bf16 := Memref.whole cc0_stg2_0
abbrev gM : Memref sig .tc .vmem S1024x1024 .f32 := Memref.whole cc0_scratch0
abbrev pM : Memref sig .tc .vmem S1024x1024 .bf16 := Memref.whole cc0_scratch1
abbrev rM : Memref sig .tc .vmem S1024x1024 .bf16 := Memref.whole cc0_scratch2

/-! ## The devices: `c = 2 x + y`. The first peer has the other `y`, the second the other `x`. -/

def peerY (c : Dev nD) : Dev nD := ⟨k0_dev1 c, k0_dev1_lt c⟩
def peerX (c : Dev nD) : Dev nD := ⟨k0_dev2 c, k0_dev2_lt c⟩
theorem peerY_peerY (c : Dev nD) : peerY (peerY c) = c := by
  apply Fin.ext; unfold peerY; simp only [k0_dev1_eq]; have : c.val < 4 := c.isLt; omega
theorem peerX_peerX (c : Dev nD) : peerX (peerX c) = c := by
  apply Fin.ext; unfold peerX; simp only [k0_dev2_eq]; have : c.val < 4 := c.isLt; omega
theorem peerX_div (c : Dev nD) : (peerX c).val / 2 = 1 - c.val / 2 := by
  unfold peerX; simp only [k0_dev2_eq]; have : c.val < 4 := c.isLt; omega
theorem peerY_ne (c : Dev nD) : peerY c ≠ c := by
  intro h; have := congrArg Fin.val h; unfold peerY at this; simp only [k0_dev1_eq] at this; have : c.val < 4 := c.isLt; omega
def eqvY : Dev nD ≃ Dev nD := ⟨peerY, peerY, peerY_peerY, peerY_peerY⟩
def eqvX : Dev nD ≃ Dev nD := ⟨peerX, peerX, peerX_peerX, peerX_peerX⟩

/-! ## Bands of rows -/

/-- The elements of the rows from `lo`, `n` of them, for a buffer whose elements' rows `row` names. -/
def band {I : Type} [Fintype I] [DecidableEq I] (row : I → ℕ) (lo n : ℕ) : Finset I :=
  Finset.univ.filter fun i => lo ≤ row i ∧ row i < lo + n

section
variable {I : Type} [Fintype I] [DecidableEq I] (row : I → ℕ)

theorem mem_band {lo n : ℕ} {i : I} : i ∈ band row lo n ↔ lo ≤ row i ∧ row i < lo + n := by simp [band]

theorem band_union (lo n k : ℕ) (hn : 0 < n) :
    (Finset.univ : Finset (Fin k)).biUnion (fun j => band row (lo + n * j.val) n) = band row lo (n * k) := by
  ext i
  simp only [Finset.mem_biUnion, Finset.mem_univ, true_and, mem_band]
  constructor
  · rintro ⟨j, h1, h2⟩
    have := j.isLt
    have h3 : n * j.val + n ≤ n * k := by rw [← Nat.mul_succ]; exact Nat.mul_le_mul_left n this
    constructor
    · exact le_trans (Nat.le_add_right _ _) h1
    · omega
  · rintro ⟨h1, h2⟩
    have hlt : (row i - lo) / n < k := Nat.div_lt_of_lt_mul (by omega)
    refine ⟨⟨(row i - lo) / n, hlt⟩, ?_, ?_⟩
    · have := Nat.mul_div_le (row i - lo) n; show lo + n * ((row i - lo) / n) ≤ row i; omega
    · have := Nat.lt_mul_div_succ (row i - lo) hn; show row i < lo + n * ((row i - lo) / n) + n
      rw [Nat.mul_succ] at this; omega

theorem band_disj (lo n k : ℕ) : ∀ t ∈ (Finset.univ : Finset (Fin k)), ∀ t' ∈ (Finset.univ : Finset (Fin k)), t ≠ t' →
    Disjoint (band row (lo + n * t.val) n) (band row (lo + n * t'.val) n) := by
  intro t _ t' _ hne
  rw [Finset.disjoint_left]
  intro i hi hi'
  rw [mem_band] at hi hi'
  apply hne
  apply Fin.ext
  rcases Nat.lt_trichotomy t.val t'.val with h | h | h
  · have : n * t.val + n ≤ n * t'.val := by rw [← Nat.mul_succ]; exact Nat.mul_le_mul_left n h
    omega
  · exact h
  · have : n * t'.val + n ≤ n * t.val := by rw [← Nat.mul_succ]; exact Nat.mul_le_mul_left n h
    omega

theorem band_all (R : ℕ) (h : ∀ i, row i < R) : band row 0 R = Finset.univ := by
  ext i; simp [mem_band, h i]
end

/-- A band held is its equal sub-bands held. -/
theorem pts_bands {ℓ : Loc nD τ sig} (row : Idx ℓ → ℕ) (q : PosShare TreeShare) (f : Buf (Elt F) ℓ) (lo n k : ℕ) (hn : 0 < n) :
    (ℓ ↦[band row lo (n * k)]{q} f : sProp 𝕄) = bigSep Finset.univ fun j : Fin k => ℓ ↦[band row (lo + n * j.val) n]{q} f := by
  rw [← band_union row lo n k hn]
  exact pointsTo_biUnion _ _ (band_disj row lo n k)

theorem pts_rows {ℓ : Loc nD τ sig} (row : Idx ℓ → ℕ) (q : PosShare TreeShare) (f : Buf (Elt F) ℓ) (lo k : ℕ) :
    (ℓ ↦[band row lo k]{q} f : sProp 𝕄) = bigSep Finset.univ fun j : Fin k => ℓ ↦[band row (lo + j.val) 1]{q} f := by
  have h := pts_bands (F := F) row q f lo 1 k Nat.one_pos
  simp only [Nat.one_mul] at h
  exact h

/-- What is written through a view is, on the view's elements, any contents that read as the payload there. -/
theorem pts_write {sp : Space} {s : Shape} {e : EltTy} (c : Thread nD τ) (v : View sig c.2.kind sp s e) (f : Buf (Elt F) (v.loc c))
    (w : s.Idx → Elt F e) (T : Buf (Elt F) (v.loc c)) (q : PosShare TreeShare) (S : Finset (Idx (v.loc c))) (hS : S ⊆ v.set)
    (h : v.read (Elt F) T = w) :
    (v.loc c ↦[S]{q} v.write (Elt F) f w Finset.univ : sProp 𝕄) = v.loc c ↦[S]{q} T := by
  apply pointsTo_congr
  intro i hi
  obtain ⟨x, -, rfl⟩ := Finset.mem_map.mp (hS hi)
  rw [View.write_emb_of_mem _ _ (Finset.mem_univ x), ← h, View.read_apply, cast_cast, cast_eq]

abbrev rowG : S1024x1024.Idx → ℕ := fun i => (i 0).val
abbrev rowO : S2048x1024.Idx → ℕ := fun i => (i 0).val

theorem rect_band (lo n : ℕ) (inb : ∀ a, (![lo, 0] : Fin 2 → Nat) a + (![n, 1024] : Fin 2 → Nat) a ≤ S1024x1024.size a) :
    (Rect.unit (s := S1024x1024) ![lo, 0] ![n, 1024] inb).set = band rowG lo n := by
  ext i
  rw [Rect.mem_set_unit, mem_band]
  have : (i 1).val < 1024 := (i 1).isLt
  constructor
  · intro h; exact h 0
  · intro h a; fin_cases a
    · exact h
    · exact ⟨Nat.zero_le _, by simpa using this⟩
theorem rectO_band (lo n : ℕ) (inb : ∀ a, (![lo, 0] : Fin 2 → Nat) a + (![n, 1024] : Fin 2 → Nat) a ≤ S2048x1024.size a) :
    (Rect.unit (s := S2048x1024) ![lo, 0] ![n, 1024] inb).set = band rowO lo n := by
  ext i
  rw [Rect.mem_set_unit, mem_band]
  have : (i 1).val < 1024 := (i 1).isLt
  constructor
  · intro h; exact h 0
  · intro h a; fin_cases a
    · exact h
    · exact ⟨Nat.zero_le _, by simpa using this⟩

theorem chunkG_set (j : Fin 8) : (chunk gM j).view.set = band rowG (128 * j.val) 128 :=
  (View.set_slice_whole cc0_scratch0 _).trans (rect_band _ _ _)
theorem chunkP_set (j : Fin 8) : (chunk pM j).view.set = band rowG (128 * j.val) 128 :=
  (View.set_slice_whole cc0_scratch1 _).trans (rect_band _ _ _)
theorem chunkR_set (j : Fin 8) : (chunk rM j).view.set = band rowG (128 * j.val) 128 :=
  (View.set_slice_whole cc0_scratch2 _).trans (rect_band _ _ _)
/-- A row of the gathered buffer. -/
abbrev gRow (t : ℕ) (ht : t < 1024) : Memref sig .tc .vmem S1x1024 .f32 :=
  gM.slice (Rect.unit (s := S1024x1024) ![t, 0] S1x1024.size (inbRow t ht)) (fun _ => rfl)
theorem gRow_set (t : ℕ) (ht : t < 1024) : (gRow t ht).view.set = band rowG t 1 :=
  (View.set_slice_whole cc0_scratch0 _).trans (rect_band _ _ _)

/-- The first row of the own half of the result, and of the other half. -/
def mineLo (c : Dev nD) (j : Fin 8) : ℕ := 1024 * (c.val / 2) + 128 * j.val
def otherLo (c : Dev nD) (j : Fin 8) : ℕ := 1024 * (1 - c.val / 2) + 128 * j.val

theorem mineO_set (c : Dev nD) (j : Fin 8) : (mineM oM c j).view.set = band rowO (mineLo c j) 128 := by
  refine (View.set_slice_whole cc0_stg2_0 _).trans ?_
  simp only [k0_off1034_eq]
  exact rectO_band _ _ _
theorem otherO_set (c : Dev nD) (j : Fin 8) : (otherM oM c j).view.set = band rowO (otherLo c j) 128 := by
  refine (View.set_slice_whole cc0_stg2_0 _).trans ?_
  simp only [k0_off1035_eq]
  have : (128 * j.val + 1024) - 1024 * (c.val / 2) = otherLo c j := by
    unfold otherLo; have : c.val < 4 := c.isLt; omega
  simp only [this]
  exact rectO_band _ _ _
theorem mineLo_peerX (c : Dev nD) (j : Fin 8) : mineLo (peerX c) j = otherLo c j := by
  unfold mineLo otherLo; rw [peerX_div]

end Cert.KernelIdeal.K

end
-- ==== Proof.Gather.lean ====
module

public import proofs.«01_k».proof.Proof.Base

/-! # The gather of a chunk

The rows of a chunk are copied one by one, all on one semaphore, and one wait takes their total. The table is
lent by read tokens: one token a row, of which the row's own elements go with the copy and the rest stays. -/

@[expose] public section

noncomputable section

namespace Cert.KernelIdeal.K

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal.Gen Cert.KernelIdeal.Body

variable {F : FTy → Type} [FloatOps F]

local notation "𝕄" => MT nD τ sig Unit (Elt F) ℕ UU ℕ

abbrev 𝒱₀ : Variants := Variants.none

/-! ## Contents -/

/-- The row numbers, the table's own half. -/
abbrev Rows (F : FTy → Type) : Type := S1024.Idx → Elt F .i32
abbrev Table (F : FTy → Type) : Type := S16384x1024.Idx → Elt F .f32

def ix1 (t : ℕ) (ht : t < 1024) : S1024.Idx := fun a => ⟨t, by fin_cases a; exact ht⟩
def ix2 {m n : ℕ} (a : Fin m) (b : Fin n) : Shape.Idx ⟨2, ![m, n]⟩ := fun k => ⟨(![a.val, b.val] : Fin 2 → ℕ) k, by
  fin_cases k
  · exact a.isLt
  · exact b.isLt⟩

/-- The row numbers name rows of the table. -/
def RowsOk (R : Rows F) : Prop := ∀ i, (show BitVec 32 from R i).toNat < 16384

theorem chk_of_ok {R : Rows F} (h : RowsOk R) (i : S1024.Idx) : k0_chk1 (R i) := by
  intro a
  have := h i
  fin_cases a
  · show (show BitVec 32 from R i).toNat + 1 ≤ 16384; omega
  · exact Nat.le_refl _

/-- The gathered buffer: row `t` is the table's row the `t`-th number names. -/
def gath (R : Rows F) (hR : RowsOk R) (E : Table F) : S1024x1024.Idx → Elt F .f32 :=
  fun i => E (ix2 ⟨_, hR (ix1 (i 0).val (i 0).isLt)⟩ ⟨(i 1).val, (i 1).isLt⟩)

/-- The table's row under a number. -/
abbrev eRow (v : BitVec 32) (hv : k0_chk1 v) : Memref sig .tc .hbm S1x1024 .f32 :=
  eM.slice (Rect.unit (s := S16384x1024) (k0_off1 v) S1x1024.size (k0_off1_inb v hv)) (fun _ => rfl)

variable (R : Rows F) (hR : RowsOk R) (E : Table F) (c : Dev nD)

theorem gath_at (i : S1024x1024.Idx) (t : ℕ) (ht : t < 1024) (h : (i 0).val = t) :
    gath R hR E i = E (ix2 ⟨_, hR (ix1 t ht)⟩ ⟨(i 1).val, (i 1).isLt⟩) := by subst h; rfl

theorem gath_row (t : ℕ) (ht : t < 1024) :
    (gRow t ht).view.read (Elt F) (gath R hR E)
      = (eRow (R (ix1 t ht)) (chk_of_ok hR _)).view.read (Elt F) E := by
  funext x
  have h0 : (x 0).val = 0 := by have : (x 0).val < 1 := (x 0).isLt; omega
  refine (gath_at R hR E ((gRow t ht).view.emb x) t ht (show t + 1 * (x 0).val = t by omega)).trans ?_
  show E _ = E _
  congr 1
  funext a
  apply Fin.ext
  fin_cases a
  · show BitVec.toNat (w := 32) (R (ix1 t ht)) = BitVec.toNat (w := 32) (R (ix1 t ht)) + 1 * (x 0).val
    omega
  · rfl

/-- A row's units. -/
abbrev NR : ℕ := (gRow 0 (by decide)).view.dmaCredit

theorem rlt (j : Fin 8) (i : Fin 128) : 128 * j.val + i.val < 1024 := by have := j.isLt; have := i.isLt; omega

/-- What row `i` of chunk `j` delivers: the row landed, and the table's row back. -/
def rowD (j : Fin 8) (q : PosShare TreeShare) (i : Fin 128) : sProp 𝕄 :=
  iprop(((c : Thread nD τ).loc cc0_scratch0 ↦[band rowG (128 * j.val + i.val) 1]{fullShare} gath R hR E)
    ∗ (c : Thread nD τ).loc main_arg1 ↦[(eRow (R (ix1 _ (rlt j i))) (chk_of_ok hR _)).view.set]{shareTok q 128 i} E)

instance rowD_storable (j : Fin 8) (q : PosShare TreeShare) (i : Fin 128) : Storable (upEmb : UEmb _ 𝕄) (rowD R hR E c j q i) := by
  unfold rowD; infer_instance

/-- The rows buffer held. -/
abbrev rowsPts : sProp 𝕄 := (c : Thread nD τ).loc cc0_stg0_0 ↦{fullShare} R

theorem rows_read (t : ℕ) (ht : t < 1024) (x : S1.Idx) :
    (rowsM.access (Rect.unit (s := S1024) ![t] S1.size (inbId t ht))).read (Elt F) R x = R (ix1 t ht) := by
  have h0 : (x 0).val = 0 := by have : (x 0).val < 1 := (x 0).isLt; omega
  show R _ = R _
  congr 1
  funext a
  apply Fin.ext
  fin_cases a
  show t + 1 * (x 0).val = t
  omega

/-- The semaphore of the gathers, and its cell. -/
abbrev gS (s : Fin 2) : DmaSem sig := sem2 cc0_scratch3 s

abbrev Bat (j : Fin 8) (s : Fin 2) (q : PosShare TreeShare) (k : ℕ) : sProp 𝕄 :=
  Batch EC (c : Thread nD τ) (.dma (gS s)) () NR (rowD R hR E c j q) k 0

/-- One row: its number read and its copy started. -/
theorem wp_rowP (j : Fin 8) (s : Fin 2) (q : PosShare TreeShare) (i : Fin 128) (Kt : PUnit → sProp 𝕄) :
    iprop((rowsPts R c
        ∗ ((c : Thread nD τ).loc main_arg1 ↦[(eRow (R (ix1 _ (rlt j i))) (chk_of_ok hR _)).view.set]{shareTok q 128 i} E)
        ∗ (∃ f, (c : Thread nD τ).loc cc0_scratch0 ↦[band rowG (128 * j.val + i.val) 1]{fullShare} f)
        ∗ Bat R hR E c j s q i.val)
      ∗ ((rowsPts R c ∗ Bat R hR E c j s q (i.val + 1)) -∗ Kt ⟨⟩))
      ⊢ wp frame (wpE (defs₀ (F := F)) 𝒱₀ c none) Set.univ (rowP (F := F) rowsM eM gM cc0_scratch3 s (128 * j.val + i.val) (rlt j i)) Kt := by
  iintro ⟨⟨Hr, He, ⟨%f, Hg⟩, HB⟩, Hk⟩
  unfold rowP smemLoad
  simp only [wp_bind]
  iapply (wp_smemLoadElt 𝒱₀ (c : Thread nD τ) none Set.univ (m := rowsM) (r := Rect.unit (s := S1024) ![128 * j.val + i.val] S1.size (inbId _ (rlt j i))) (S := Finset.univ) (q := fullShare) (f := R) (Finset.subset_univ _)) $$ Hr
  iintro Hr
  rw [rows_read R _ (rlt j i)]
  rw [wp_ret]
  imodintro
  iapply (wp_assume _ _ _ _ (chk_of_ok hR (ix1 _ (rlt j i))))
  rw [wp_ret]
  imodintro
  iapply (wp_dmaBatch EC 𝒱₀ (c : Thread nD τ) none (src := eRow (R (ix1 _ (rlt j i))) (chk_of_ok hR _)) (dst := gRow _ (rlt j i)) (q := shareTok q 128 i) (fs := E) (fd := f)
    (Sd := band rowG (128 * j.val + i.val) 1) (D := rowD R hR E c j q) (j := i.val) (u := 0) () NR rfl (by rw [gRow_set]) i.isLt (Nat.zero_le _) ?_) $$ [He Hg HB]
  · unfold rowD
    refine sep_mono_left (Entails.of_eq ?_)
    exact pts_write (c : Thread nD τ) (gRow _ (rlt j i)).view f _ (gath R hR E) fullShare _ (by rw [gRow_set]) (gath_row R hR E _ (rlt j i))
  · isplitl [He]; · iexact He
    isplitl [Hg] <;> iassumption
  iintro HB
  rw [wp_ret]
  imodintro
  iapply Hk
  isplitl [Hr] <;> iassumption

/-- What row `i` takes: its share of the table's row, and the row to land in at anything. -/
def rowIn (j : Fin 8) (q : PosShare TreeShare) (i : Fin 128) : sProp 𝕄 :=
  iprop(((c : Thread nD τ).loc main_arg1 ↦[(eRow (R (ix1 _ (rlt j i))) (chk_of_ok hR _)).view.set]{shareTok q 128 i} E)
    ∗ ∃ f, (c : Thread nD τ).loc cc0_scratch0 ↦[band rowG (128 * j.val + i.val) 1]{fullShare} f)

/-- The rows from the `k`-th. -/
theorem wp_rowsP (j : Fin 8) (s : Fin 2) (q : PosShare TreeShare) (Kt : PUnit → sProp 𝕄) (n k b : ℕ) (hb : b = 128 * j.val + k) (hn : k + n = 128) (h : b + n ≤ 1024) :
    iprop((rowsPts R c ∗ bigSep (pending (n := 128) k) (rowIn R hR E c j q) ∗ Bat R hR E c j s q k)
      ∗ ((rowsPts R c ∗ Bat R hR E c j s q 128) -∗ Kt ⟨⟩))
      ⊢ wp frame (wpE (defs₀ (F := F)) 𝒱₀ c none) Set.univ (rowsP (F := F) rowsM eM gM cc0_scratch3 s n b h) Kt := by
  induction n generalizing k b with
  | zero =>
    obtain rfl : k = 128 := by omega
    iintro ⟨⟨Hr, -, HB⟩, Hk⟩
    simp only [rowsP]
    rw [show (pure ⟨⟩ : BProg F) = Prog.ret ⟨⟩ from rfl, wp_ret]
    imodintro
    iapply Hk
    isplitl [Hr] <;> iassumption
  | succ n ih =>
    subst hb
    have hk : k < 128 := by omega
    rw [bigSep_pending_step _ k hk]
    unfold rowIn
    iintro ⟨⟨Hr, ⟨⟨He, Hg⟩, Hp⟩, HB⟩, Hk⟩
    simp only [rowsP, wp_bind]
    iapply (wp_rowP R hR E c j s q ⟨k, hk⟩)
    isplitl [Hr He Hg HB]
    · isplitl [Hr]; · iexact Hr
      isplitl [He]; · iexact He
      isplitl [Hg] <;> iassumption
    iintro ⟨Hr, HB⟩
    iapply (ih (k + 1) (128 * j.val + k + 1) rfl (by omega))
    isplitr [Hk]
    · isplitl [Hr]; · iexact Hr
      isplitl [Hp]
      · unfold rowIn; iexact Hp
      · iexact HB
    · iexact Hk

/-! ## A chunk in flight, and landed -/

abbrev tabPts (q : PosShare TreeShare) : sProp 𝕄 := (c : Thread nD τ).loc main_arg1 ↦{q} E
def gAny (j : Fin 8) : sProp 𝕄 := iprop(∃ f, (c : Thread nD τ).loc cc0_scratch0 ↦[band rowG (128 * j.val) 128]{fullShare} f)
def gHas (j : Fin 8) : sProp 𝕄 := (c : Thread nD τ).loc cc0_scratch0 ↦[band rowG (128 * j.val) 128]{fullShare} gath R hR E

/-- What stays of the table while the chunk's rows fly. -/
def tabRest (j : Fin 8) (q : PosShare TreeShare) : sProp 𝕄 :=
  iprop(((c : Thread nD τ).loc main_arg1 ↦{shareDrop q 128} E)
    ∗ bigSep Finset.univ fun i : Fin 128 =>
      (c : Thread nD τ).loc main_arg1 ↦[Finset.univ \ (eRow (R (ix1 _ (rlt j i))) (chk_of_ok hR _)).view.set]{shareTok q 128 i} E)

theorem tab_eq (j : Fin 8) (q : PosShare TreeShare) :
    (tabPts E c q : sProp 𝕄) ⊣⊢ iprop(tabRest R hR E c j q ∗ bigSep Finset.univ fun i : Fin 128 =>
      (c : Thread nD τ).loc main_arg1 ↦[(eRow (R (ix1 _ (rlt j i))) (chk_of_ok hR _)).view.set]{shareTok q 128 i} E) := by
  have hs (i : Fin 128) : ((c : Thread nD τ).loc main_arg1 ↦{shareTok q 128 i} E : sProp 𝕄)
      ⊣⊢ iprop(((c : Thread nD τ).loc main_arg1 ↦[(eRow (R (ix1 _ (rlt j i))) (chk_of_ok hR _)).view.set]{shareTok q 128 i} E)
        ∗ (c : Thread nD τ).loc main_arg1 ↦[Finset.univ \ (eRow (R (ix1 _ (rlt j i))) (chk_of_ok hR _)).view.set]{shareTok q 128 i} E) :=
    pointsTo_split_subset (Finset.subset_univ _)
  unfold tabRest
  refine ⟨(pointsTo_toks q 128).1.trans ?_, BIBase.Entails.trans ?_ (pointsTo_toks q 128).2⟩
  · iintro ⟨H1, H2⟩
    ihave H := (BIBase.Entails.trans (bigSep_mono fun i _ => (hs i).1) (Entails.of_eq (bigSep_sep' _ _ _))) $$ H2
    icases H with ⟨H2, H3⟩
    isplitl [H1 H3]; · isplitl [H1] <;> iassumption
    iexact H2
  · iintro ⟨⟨H1, H2⟩, H3⟩
    isplitl [H1]; · iexact H1
    iapply (BIBase.Entails.trans (Entails.of_eq (bigSep_sep' _ _ _).symm) (bigSep_mono fun i _ => (hs i).2))
    isplitl [H3] <;> iassumption

def Flight (j : Fin 8) (s : Fin 2) (q : PosShare TreeShare) : sProp 𝕄 :=
  iprop(Bat R hR E c j s q 128 ∗ tabRest R hR E c j q)

theorem wp_gatherP (j : Fin 8) (s : Fin 2) (q : PosShare TreeShare) (Kt : PUnit → sProp 𝕄) :
    iprop((rowsPts R c ∗ tabPts E c q ∗ gAny c j ∗ semVal ((c : Thread nD τ), .dma (gS s)) 0)
      ∗ ((rowsPts R c ∗ Flight R hR E c j s q) -∗ Kt ⟨⟩))
      ⊢ wp frame (wpE (defs₀ (F := F)) 𝒱₀ c none) Set.univ (gatherP (F := F) rowsM eM gM cc0_scratch3 j s) Kt := by
  unfold gAny
  iintro ⟨⟨Hr, He, ⟨%f, Hg⟩, Hv⟩, Hk⟩
  imod (batch_alloc' (Lvl := ℕ) EC (c : Thread nD τ) () NR (rowD R hR E c j q) (sm := .dma (gS s)) (E := Set.univ)) $$ Hv with HB
  ihave He := (tab_eq R hR E c j q).1 $$ He
  icases He with ⟨HR, He⟩
  ihave Hg := (Entails.of_eq (pts_rows (ℓ := (c : Thread nD τ).loc cc0_scratch0) rowG fullShare f (128 * j.val) 128)) $$ Hg
  iapply (wp_rowsP R hR E c j s q _ 128 0 (128 * j.val) (by omega) (by omega))
  isplitr [Hk HR]
  · isplitl [Hr]; · iexact Hr
    isplitl [He Hg]
    · rw [← bigSep_pending_zero]
      unfold rowIn
      rw [bigSep_sep']
      isplitl [He]; · iexact He
      iapply (show (bigSep Finset.univ fun i : Fin 128 => (c : Thread nD τ).loc cc0_scratch0 ↦[band rowG (128 * j.val + i.val) 1]{fullShare} f : sProp 𝕄)
          ⊢ bigSep Finset.univ fun i : Fin 128 => iprop(∃ f, (c : Thread nD τ).loc cc0_scratch0 ↦[band rowG (128 * j.val + i.val) 1]{fullShare} f)
        from bigSep_mono fun i _ => by
          show (_ : sProp 𝕄) ⊢ _
          iintro H
          iexists f
          iexact H) $$ Hg
    · iexact HB
  iintro ⟨Hr, HB⟩
  iapply Hk
  isplitl [Hr]; · iexact Hr
  unfold Flight
  isplitl [HB] <;> iassumption

/-- The rows all delivered: the chunk gathered, the table whole again. -/
theorem landed (j : Fin 8) (q : PosShare TreeShare) :
    iprop(bigSep Finset.univ (rowD R hR E c j q) ∗ tabRest R hR E c j q) ⊢ iprop(gHas R hR E c j ∗ tabPts E c q) := by
  unfold rowD gHas
  rw [bigSep_sep']
  iintro ⟨⟨Hg, He⟩, HR⟩
  isplitl [Hg]
  · iapply (Entails.of_eq (pts_rows (ℓ := (c : Thread nD τ).loc cc0_scratch0) rowG fullShare (gath R hR E) (128 * j.val) 128).symm)
    iexact Hg
  · iapply (tab_eq R hR E c j q).2
    isplitl [HR] <;> iassumption

theorem NR_pos : 0 < NR := by decide
theorem gather_credit (j : Fin 8) : 0 + (chunk gM j).view.dmaCredit = NR * 128 := by revert j; decide

end Cert.KernelIdeal.K

end
-- ==== Proof.Protocol.lean ====
module

public import proofs.«01_k».proof.Proof.Gather
public import Idealize.ShloMosaic.Lib.Pipeline.Value

/-! # The protocol

Two peers a device: the first holds the other half of the vocabulary, the second the other half of the batch.
The barrier's two units hand a device its first peer's receive buffer and the own half's place in its second
peer's result. A chunk sent to the first peer carries the device's masked rows; a chunk sent to the second
carries the finished sums. -/

@[expose] public section

noncomputable section

namespace Cert.KernelIdeal.K

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal.Gen Cert.KernelIdeal.Body

variable {F : FTy → Type} [FloatOps F]

local notation "𝕄" => MT nD τ sig Unit (Elt F) ℕ UU ℕ

/-! ## What the devices hold, and what they compute from it -/

/-- Each device's row numbers (which name rows of its table), masks and table. -/
structure Data (F : FTy → Type) where
  R : Dev nD → Rows F
  hR : ∀ c, RowsOk (R c)
  O : Dev nD → S1024x1.Idx → Elt F .f32
  E : Dev nD → Table F

variable (D : Data F)

abbrev Data.g (c : Dev nD) : S1024x1024.Idx → Elt F .f32 := gath (D.R c) (D.hR c) (D.E c)
/-- The gathered rows masked and rounded. -/
def pv (c : Dev nD) : S1024x1024.Idx → Elt F .bf16 := fun i =>
  FloatOps.truncf .bf16 bitsLt_bf16_f32 (FloatOps.mulf (D.g c i) (D.O c (ix2 ⟨(i 0).val, (i 0).isLt⟩ ⟨0, Nat.one_pos⟩)))
/-- With the first peer's. -/
def sumv (c : Dev nD) : S1024x1024.Idx → Elt F .bf16 := fun i => FloatOps.addf (pv D c i) (pv D (peerY c) i)
/-- The result: each half of the batch from the device of that half. -/
def outv (c : Dev nD) : S2048x1024.Idx → Elt F .bf16 := fun i =>
  sumv D (if (i 0).val / 1024 = c.val / 2 then c else peerX c) (ix2 ⟨(i 0).val % 1024, Nat.mod_lt _ (by decide)⟩ ⟨(i 1).val, (i 1).isLt⟩)

theorem outv_peerX (c : Dev nD) : outv D (peerX c) = outv D c := by
  funext i
  unfold outv
  congr 1
  rw [peerX_peerX, peerX_div]
  have h0 : (i 0).val < 2048 := (i 0).isLt
  have hc : c.val < 4 := c.isLt
  by_cases h : (i 0).val / 1024 = c.val / 2
  · rw [if_pos h, if_neg (by omega)]
  · rw [if_neg h, if_pos (by omega)]

theorem read_p (c : Dev nD) (j : Fin 8) (h1 : S128x1.ShapeCasts S128x1) (h2 : S128x1.Broadcasts S128x1024) (h3 : FTy.bits .bf16 < FTy.bits .f32) (h4 : S128x1024.ShapeCasts S128x1024) :
    (chunk pM j).view.read (Elt F) (pv D c)
      = shapeCast (s := S128x1024) S128x1024 (truncf .bf16 (mulf ((gM.access (Rect.unit (s := S1024x1024) ![128 * j.val, 0] S128x1024.size (inbC j))).read (Elt F) (D.g c))
          (broadcastTo (s := S128x1) S128x1024 (shapeCast (s := S128x1) S128x1 ((okM.access (Rect.unit (s := S1024x1) ![128 * j.val, 0] S128x1.size (inbO j))).read (Elt F) (D.O c)) h1) h2)) h3) h4 := by
  rw [shapeCast_self, shapeCast_self]
  funext x
  show pv D c _ = FloatOps.truncf .bf16 _ (FloatOps.mulf (D.g c _) (D.O c _))
  unfold pv
  congr 2
  congr 1
  funext a
  apply Fin.ext
  fin_cases a
  · rfl
  · rfl

theorem read_out (c : Dev nD) (j : Fin 8) :
    (mineM oM c j).view.read (Elt F) (outv D c)
      = addf ((pM.access (Rect.unit (s := S1024x1024) ![128 * j.val, 0] S128x1024.size (inbC j))).read (Elt F) (pv D c))
        ((rM.access (Rect.unit (s := S1024x1024) ![128 * j.val, 0] S128x1024.size (inbC j))).read (Elt F) (pv D (peerY c))) := by
  funext x
  have hx : (x 0).val < 128 := (x 0).isLt
  have hj := j.isLt
  have hc : c.val < 4 := c.isLt
  have he : k0_off1034 c (BitVec.ofNat 32 (128 * j.val)) 0 = 1024 * (c.val / 2) + 128 * j.val := by rw [k0_off1034_eq]; rfl
  have he1 : k0_off1034 c (BitVec.ofNat 32 (128 * j.val)) 1 = 0 := by rw [k0_off1034_eq]; rfl
  have h0 : ((mineM oM c j).view.emb x 0).val = 1024 * (c.val / 2) + 128 * j.val + (x 0).val := by
    show k0_off1034 c (BitVec.ofNat 32 (128 * j.val)) 0 + 1 * (x 0).val = _
    rw [he, Nat.one_mul]
  have h1 : ((mineM oM c j).view.emb x 1).val = (x 1).val := by
    show k0_off1034 c (BitVec.ofNat 32 (128 * j.val)) 1 + 1 * (x 1).val = _
    rw [he1, Nat.one_mul, Nat.zero_add]
  show outv D c ((mineM oM c j).view.emb x) = FloatOps.addf (pv D c _) (pv D (peerY c) _)
  have key : ∀ i i' : S1024x1024.Idx, (i 0).val = (i' 0).val → (i 1).val = (i' 1).val → i = i' := by
    intro i i' h h'; funext a; apply Fin.ext; fin_cases a
    · exact h
    · exact h'
  unfold outv sumv
  rw [if_pos (by rw [h0]; omega)]
  congr 2
  all_goals
    apply key
    · show ((mineM oM c j).view.emb x 0).val % 1024 = 128 * j.val + 1 * (x 0).val
      rw [h0]; omega
    · show ((mineM oM c j).view.emb x 1).val = 0 + 1 * (x 1).val
      rw [h1]; omega

/-! ## The cells -/

abbrev barS : Sem sig := barArr.sem
/-- The four families of eight: 0 and 1 the send and receive semaphores of the first exchange, 2 and 3 of the second. -/
abbrev semArr (k : Fin 4) : DmaSems sig S8 :=
  match k with
  | 0 => cc0_scratch4
  | 1 => cc0_scratch5
  | 2 => cc0_scratch6
  | 3 => cc0_scratch7
abbrev sm (k : Fin 4) (j : Fin 8) : SemLoc sig := .dma (sem8 (semArr k) j)
abbrev barCell (c : Dev nD) : GSem nD τ sig := ((c : Thread nD τ), .reg barS)
abbrev cell (k : Fin 4) (j : Fin 8) (c : Dev nD) : GSem nD τ sig := ((c : Thread nD τ), sm k j)

/-- Which of the families, and which of the eight. -/
def kd : SemLoc sig → Option (Fin 4 × Fin 8)
  | .dma d => if h : 5 ≤ d.val ∧ d.val < 37 then some (⟨(d.val - 5) / 8, by omega⟩, ⟨(d.val - 5) % 8, by omega⟩) else none
  | .reg _ => none
theorem kd_sm (k : Fin 4) (j : Fin 8) : kd (sm k j) = some (k, j) := by revert k j; decide
theorem sm_kd (s : SemLoc sig) (k : Fin 4) (j : Fin 8) (h : kd s = some (k, j)) : s = sm k j := by
  revert s k j; decide
theorem kd_g (s : Fin 2) : kd (.dma (gS s)) = none := by revert s; decide
theorem sm_ne_bar (k : Fin 4) (j : Fin 8) : sm k j ≠ .reg barS := fun h => by cases h

/-! ## The payloads -/

/-- A chunk's units. -/
abbrev N : ℕ := (chunk rM 0).view.dmaCredit
theorem N_pos : 0 < N := by decide

abbrev pPts (c : Dev nD) (j : Fin 8) (q : PosShare TreeShare) (f : S1024x1024.Idx → Elt F .bf16) : sProp 𝕄 :=
  (c : Thread nD τ).loc cc0_scratch1 ↦[band rowG (128 * j.val) 128]{q} f
abbrev rPts (c : Dev nD) (j : Fin 8) (f : S1024x1024.Idx → Elt F .bf16) : sProp 𝕄 :=
  (c : Thread nD τ).loc cc0_scratch2 ↦[band rowG (128 * j.val) 128]{fullShare} f
abbrev oPts (c : Dev nD) (lo : ℕ) (f : S2048x1024.Idx → Elt F .bf16) : sProp 𝕄 :=
  (c : Thread nD τ).loc cc0_stg2_0 ↦[band rowO lo 128]{fullShare} f

def pay (k : Fin 4) (j : Fin 8) (c : Dev nD) : sProp 𝕄 :=
  match k with
  | 0 => pPts c j fullShare.right (pv D c)
  | 1 => rPts c j (pv D (peerY c))
  | 2 => oPts c (mineLo c j) (outv D c)
  | 3 => oPts c (otherLo c j) (outv D c)

/-- What the first peer's signal hands over: its receive buffer, its receive cells at their first round. -/
def handY (c : Dev nD) (j : Fin 8) : sProp 𝕄 :=
  iprop((∃ f, rPts (F := F) (peerY c) j f) ∗ reached ER (cell 1 j (peerY c)) 0)
/-- The second peer's: its result's place for the own half. -/
def handX (c : Dev nD) (j : Fin 8) : sProp 𝕄 :=
  iprop((∃ f, oPts (F := F) (peerX c) (mineLo c j) f) ∗ reached ER (cell 3 j (peerX c)) 0)
def barPay (b : Bool) (c : Dev nD) : sProp 𝕄 :=
  match b with
  | false => bigSep Finset.univ fun j => handY c j
  | true => bigSep Finset.univ fun j => handX c j

instance pay_storable (k : Fin 4) (j : Fin 8) (c : Dev nD) : Storable (upEmb : UEmb _ 𝕄) (pay D k j c) := by
  unfold pay; split <;> infer_instance
instance barPay_storable (b : Bool) (c : Dev nD) : Storable (upEmb : UEmb _ 𝕄) (barPay (F := F) b c) := by
  unfold barPay handY handX; split <;> infer_instance

def rd : Rounds.Schedule (GSem nD τ sig) Bool 𝕄 where
  duties g r := if r = 0 ∧ g.1.2 = .tc then (if g.2 = .reg barS then Finset.univ else if (kd g.2).isSome then {false} else ∅) else ∅
  unitless _ := False
  amount g _ _ := if g.2 = .reg barS then 1 else N
  payload g _ d :=
    if g.2 = .reg barS then barPay d g.1.1
    else match kd g.2 with
      | some (k, j) => pay D k j g.1.1
      | none => iprop(emp)
  amount_pos g _ _ _ := by
    by_cases h : g.2 = .reg barS
    · rw [if_pos h]; exact Nat.one_pos
    · rw [if_neg h]; exact N_pos

instance rd_storable (g : GSem nD τ sig) (r : ℕ) (d : Bool) : Storable (upEmb : UEmb _ 𝕄) ((rd D).payload g r d) := by
  show Storable upEmb (if g.2 = .reg barS then barPay d g.1.1
    else match kd g.2 with
      | some (k, j) => pay D k j g.1.1
      | none => iprop(emp))
  split
  · infer_instance
  · split <;> infer_instance

section Sched
variable (c : Dev nD) (k : Fin 4) (j : Fin 8)

theorem duties_bar : (rd D).duties (barCell c) 0 = Finset.univ := by
  dsimp only [rd]; rw [if_pos ⟨rfl, rfl⟩, if_pos rfl]
theorem duties_cell : (rd D).duties (cell k j c) 0 = {false} := by
  dsimp only [rd]; rw [if_pos ⟨rfl, rfl⟩, if_neg (sm_ne_bar k j), kd_sm]; rfl
theorem duties_later (g : GSem nD τ sig) : ∀ r, 1 ≤ r → (rd D).duties g r = ∅ :=
  fun r hr => by dsimp only [rd]; rw [if_neg (fun h => by omega)]
theorem amount_bar (u : Bool) : (rd D).amount (barCell c) 0 u = 1 := by dsimp only [rd]; exact if_pos rfl
theorem amount_cell (u : Bool) : (rd D).amount (cell k j c) 0 u = N := by dsimp only [rd]; exact if_neg (sm_ne_bar k j)
theorem expect_bar : (rd D).expect (barCell c) 0 = 2 := by
  unfold Schedule.expect Schedule.amountOf
  rw [duties_bar, Finset.sum_congr rfl (fun u _ => amount_bar D c u)]; rfl
theorem expect_cell : (rd D).expect (cell k j c) 0 = N := by
  unfold Schedule.expect Schedule.amountOf; rw [duties_cell, Finset.sum_singleton, amount_cell]
theorem payload_bar (u : Bool) : (rd D).payload (barCell c) 0 u = barPay u c := by dsimp only [rd]; exact if_pos rfl
theorem payload_cell (u : Bool) : (rd D).payload (cell k j c) 0 u = pay D k j c := by
  dsimp only [rd]; rw [if_neg (sm_ne_bar k j), kd_sm]
theorem rest_bar : bigSep ((rd D).duties (barCell c) 0 \ ∅) (fun u => (rd D).payload (barCell c) 0 u)
    = iprop((bigSep Finset.univ fun j => handY (F := F) c j) ∗ bigSep Finset.univ fun j => handX (F := F) c j) := by
  rw [Finset.sdiff_empty, duties_bar, bigSep_congr (fun u _ => payload_bar D c u),
    bigSep_univ_eq_bigSepL [false, true] (by decide) (by decide)]
  rfl
theorem rest_cell : bigSep ((rd D).duties (cell k j c) 0 \ ∅) (fun u => (rd D).payload (cell k j c) 0 u) = pay D k j c := by
  rw [Finset.sdiff_empty, duties_cell, bigSep_singleton, payload_cell]
end Sched

/-! ## What a device owes, and the levels -/

/-- The credits still to pay into a family on a peer: those of the chunks from `a`. -/
def owe (k : Fin 4) (p : Dev nD) (a : ℕ) : CellTallies nD τ sig Unit :=
  ∑ j ∈ pending (n := 8) a, tallyAt (cell k j p) () N
theorem owe_step (k : Fin 4) (p : Dev nD) (j : Fin 8) : owe k p j.val = owe k p (j.val + 1) + tallyAt (cell k j p) () N := by
  unfold owe
  rw [pending_succ j.isLt, Finset.sum_insert (not_mem_pending_succ j.isLt), add_comm]
theorem owe_done (k : Fin 4) (p : Dev nD) : owe k p 8 = 0 := by
  unfold owe
  rw [show pending (n := 8) 8 = ∅ by decide, Finset.sum_empty]

/-- During the chunks: `a` sent to the first peer, `f` to the second. -/
def oweAt (c : Dev nD) (a f : ℕ) : CellTallies nD τ sig Unit := owe 1 (peerY c) a + owe 3 (peerX c) f
/-- At launch. -/
def O₀ (c : Dev nD) : CellTallies nD τ sig Unit := oweAt c 0 0 + tallyAt (barCell (peerX c)) () 1 + tallyAt (barCell (peerY c)) () 1

def L (g : GSem nD τ sig) : Finset Unit := if g.1.2 = .tc then {()} else ∅
theorem L_of_ne (g : GSem nD τ sig) (h : g.1.2 ≠ .tc) : L g = ∅ := if_neg h
theorem L_tc (c : Dev nD) (s : SemLoc sig) : L ((c : Thread nD τ), s) = {()} := if_pos rfl

/-- The barrier, then the first exchange's chunks, then the second's; sends and local copies below them all. -/
def lvS (s : SemLoc sig) : ℕ :=
  if s = .reg barS then 1
  else match kd s with
    | some (1, j) => 2 + j.val
    | some (3, j) => 10 + j.val
    | _ => 0
def lv (g : GSem nD τ sig) (_ : Unit) : ℕ := lvS g.2

theorem owe_pos (k : Fin 4) (p : Dev nD) (a : ℕ) (g : GSem nD τ sig) (u : Unit) (h : 0 < owe k p a g u) :
    ∃ j : Fin 8, a ≤ j.val ∧ g = cell k j p := by
  by_contra hn
  have : owe k p a g u = 0 := by
    unfold owe
    rw [Finset.sum_apply, Finsupp.finset_sum_apply]
    apply Finset.sum_eq_zero
    intro j hj
    rw [tallyAt_apply, if_neg]
    rintro ⟨rfl, -⟩
    exact hn ⟨j, by simpa [pending] using hj, rfl⟩
  omega

theorem mayWait (c : Dev nD) (s : SemLoc sig) (a f : ℕ) (h1 : ∀ j : Fin 8, a ≤ j.val → lvS s < lvS (sm 1 j)) (h3 : ∀ j : Fin 8, f ≤ j.val → lvS s < lvS (sm 3 j)) :
    (levAts L lv : sProp 𝕄) ⊢ MayWait (c : Thread nD τ) s () (oweAt c a f) := by
  have hc : ∀ g u, 0 < oweAt c a f g u → ∃ p : Dev nD, ∃ s', g = ((p : Thread nD τ), s') ∧ lvS s < lvS s' := by
    intro g u hg
    have hg' : 0 < owe 1 (peerY c) a g u + owe 3 (peerX c) f g u := hg
    rcases Nat.eq_zero_or_pos (owe 1 (peerY c) a g u) with h | h
    · obtain ⟨j, hj, rfl⟩ := owe_pos 3 (peerX c) f g u (by omega)
      exact ⟨_, _, rfl, h3 j hj⟩
    · obtain ⟨j, hj, rfl⟩ := owe_pos 1 (peerY c) a g u h
      exact ⟨_, _, rfl, h1 j hj⟩
  refine MayOwe.of_cut (L := L) (lev := lv) (lvS s) (fun p hp => by rw [Finset.mem_singleton.mp hp, L_tc]; exact Finset.mem_singleton_self _)
    (fun g u hg => by obtain ⟨p, s', rfl, -⟩ := hc g u hg; rw [L_tc]; exact Finset.mem_singleton_self _)
    (fun p hp => by rw [Finset.mem_singleton.mp hp]; exact le_rfl)
    (fun g u hg => by obtain ⟨p, s', rfl, h⟩ := hc g u hg; exact h)

end Cert.KernelIdeal.K

end
-- ==== Proof.Steps.lean ====
module

public import proofs.«01_k».proof.Proof.Protocol

/-! # The chunk's three steps, and the waits at the end

Each step is run once, at a symbolic device and chunk. -/

@[expose] public section

noncomputable section

namespace Cert.KernelIdeal.K

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal.Gen Cert.KernelIdeal.Body

variable {F : FTy → Type} [FloatOps F]

local notation "𝕄" => MT nD τ sig Unit (Elt F) ℕ UU ℕ

variable (D : Data F)

/-! ## The cells' invariants, all of them -/

/-- A device's open cells: the barrier, and the four families. -/
def cellP (p : Dev nD × Option (Fin 4 × Fin 8)) : GSem nD τ sig :=
  match p.2 with
  | none => barCell p.1
  | some (k, j) => cell k j p.1
def recs (K : GSem nD τ sig → ℕ) : sProp 𝕄 :=
  bigSep Finset.univ fun p : Dev nD × Option (Fin 4 × Fin 8) => cellInv ER (rd D) (K (cellP p)) (cellP p)
instance recs_persistent (K : GSem nD τ sig → ℕ) : BI.Persistent (recs D K) := by unfold recs; infer_instance
theorem rec_bar (K : GSem nD τ sig → ℕ) (c : Dev nD) : (recs D K : sProp 𝕄) ⊢ cellInv ER (rd D) (K (barCell c)) (barCell c) :=
  bigSep_elim (Finset.mem_univ (c, (none : Option (Fin 4 × Fin 8))))
theorem rec_cell (K : GSem nD τ sig → ℕ) (k : Fin 4) (j : Fin 8) (c : Dev nD) :
    (recs D K : sProp 𝕄) ⊢ cellInv ER (rd D) (K (cell k j c)) (cell k j c) :=
  bigSep_elim (Finset.mem_univ (c, some (k, j)))

variable (K : GSem nD τ sig → ℕ) (c : Dev nD)

/-- What every step finds. -/
def ctx : sProp 𝕄 := iprop(recs D K ∗ levAts L lv)
instance ctx_persistent : BI.Persistent (ctx D K) := by unfold ctx; infer_instance

abbrev okPts : sProp 𝕄 := (c : Thread nD τ).loc cc0_stg1_0 ↦{fullShare} D.O c
abbrev owesAny (O : CellTallies nD τ sig Unit) : sProp 𝕄 := iprop(∃ W, owes (c : Thread nD τ) O W)

theorem lv_g (s : Fin 2) (k : Fin 4) (hk : k = 1 ∨ k = 3) (j : Fin 8) : lvS (.dma (gS s)) < lvS (sm k j) := by
  revert s k hk j; decide

theorem oweAt_stepY (j : Fin 8) (f : ℕ) : oweAt c j.val f = oweAt c (j.val + 1) f + tallyAt (cell 1 j (peerY c)) () N := by
  unfold oweAt; rw [owe_step 1 (peerY c) j, add_right_comm]
theorem oweAt_stepX (a : ℕ) (j : Fin 8) : oweAt c a j.val = oweAt c a (j.val + 1) + tallyAt (cell 3 j (peerX c)) () N := by
  unfold oweAt; rw [owe_step 3 (peerX c) j, add_assoc]

/-! ## A chunk gathered: masked, rounded, kept and sent -/

def aIn (j : Fin 8) : sProp 𝕄 :=
  iprop((∃ f, pPts (F := F) c j fullShare f) ∗ handY c j ∗ dutyTok ER (cell 0 j c) 0 false ∗ reached ER (cell 0 j c) 0 ∗ dutyTok ER (cell 1 j (peerY c)) 0 false)
def aOut (j : Fin 8) : sProp 𝕄 :=
  iprop(pPts c j fullShare.left (pv D c) ∗ cred (tallyAt (cell 0 j c) () N))

abbrev Fl (j : Fin 8) (s : Fin 2) (q : PosShare TreeShare) : sProp 𝕄 := Flight (D.R c) (D.hR c) (D.E c) c j s q

theorem p_share (j : Fin 8) (f : S1024x1024.Idx → Elt F .bf16) :
    (pPts c j fullShare f : sProp 𝕄) ⊣⊢ iprop(pPts c j fullShare.left f ∗ pPts c j fullShare.right f) :=
  pointsTo_share (PosShare.mem_left_op_right _)

theorem N_chunkR (j : Fin 8) (s : SemLoc sig) (hs : s = sm 1 j) : (chunk rM j).view.amount s = N := by subst hs; revert j; decide
theorem N_chunkR' (j : Fin 8) : (chunk rM j).view.dmaCredit = N := by revert j; decide
theorem N_chunkP' (j : Fin 8) : (chunk pM j).view.dmaCredit = N := by revert j; decide
theorem N_mine (d : Dev nD) (j : Fin 8) (s : SemLoc sig) (hs : s = sm 3 j) : (mineM oM d j).view.amount s = N := by
  subst hs; rfl
theorem N_mine' (d : Dev nD) (j : Fin 8) : (mineM oM d j).view.dmaCredit = N := rfl
theorem N_other' (d : Dev nD) (j : Fin 8) : (otherM oM d j).view.dmaCredit = N := rfl

theorem wp_stepA (j : Fin 8) (s : Fin 2) (q : PosShare TreeShare) (f : ℕ) (Kt : PUnit → sProp 𝕄) :
    iprop((ctx D K ∗ Fl D c j s q ∗ okPts D c ∗ aIn c j ∗ owesAny c (oweAt c j.val f))
      ∗ ((gHas (D.R c) (D.hR c) (D.E c) c j ∗ tabPts (D.E c) c q ∗ semVal ((c : Thread nD τ), .dma (gS s)) 0
          ∗ okPts D c ∗ aOut D c j ∗ owesAny c (oweAt c (j.val + 1) f)) -∗ Kt ⟨⟩))
      ⊢ wp frame (wpE (defs₀ (F := F)) 𝒱₀ c none) Set.univ
          (stepA (F := F) okM eM gM pM (Memref.isWhole_whole _) rM (Memref.isWhole_whole _) cc0_scratch3 cc0_scratch4 cc0_scratch5 c j s) Kt := by
  unfold ctx aIn handY Fl Flight
  iintro ⟨⟨⟨#HI, #Hlev⟩, ⟨HB, Htr⟩, Hok, ⟨⟨%fp, Hp⟩, ⟨⟨%fr, Hr⟩, #HrV⟩, HtS, #HrS, HtV⟩, ⟨%W, HO⟩⟩, Hk⟩
  unfold stepA
  simp only [wp_bind]
  iapply (wp_waitBatchAllO EC 𝒱₀ (c : Thread nD τ) none () (dstw := chunk gM j) rfl NR_pos (D := rowD (D.R c) (D.hR c) (D.E c) c j q) (u := 0)
    (gather_credit j) (O := oweAt c j.val f) (W := W)) $$ [HB HO]
  · isplitl [HB]; · iexact HB
    isplitl [HO]; · iexact HO
    iapply (mayWait c (.dma (gS s)) j.val f (fun j' _ => lv_g s 1 (.inl rfl) j') (fun j' _ => lv_g s 3 (.inr rfl) j'))
    iexact Hlev
  iintro ⟨HD, Hv, HO⟩
  rw [wp_ret]
  imodintro
  ihave Hl := (landed (D.R c) (D.hR c) (D.E c) c j q) $$ [HD Htr]
  · isplitl [HD] <;> iassumption
  icases Hl with ⟨Hg, He⟩
  unfold gHas
  iapply (wp_load_rect 𝒱₀ (c : Thread nD τ) none Set.univ (m := gM) (r := Rect.unit (s := S1024x1024) ![128 * j.val, 0] S128x1024.size (inbC j))
    (S := band rowG (128 * j.val) 128) (q := fullShare) (f := D.g c) (by rw [← chunkG_set j])) $$ Hg
  iintro Hg
  rw [wp_ret]
  imodintro
  iapply (wp_load_rect 𝒱₀ (c : Thread nD τ) none Set.univ (m := okM) (r := Rect.unit (s := S1024x1) ![128 * j.val, 0] S128x1.size (inbO j))
    (S := Finset.univ) (q := fullShare) (f := D.O c) (Finset.subset_univ _)) $$ Hok
  iintro Hok
  rw [wp_ret]
  imodintro
  iapply (wp_load_rect 𝒱₀ (c : Thread nD τ) none Set.univ (m := pM) (r := Rect.unit (s := S1024x1024) ![128 * j.val, 0] S128x1024.size (inbC j))
    (S := band rowG (128 * j.val) 128) (q := fullShare) (f := fp) (by rw [← chunkP_set j])) $$ Hp
  iintro Hp
  rw [wp_ret]
  imodintro
  iapply (wp_store 𝒱₀ (c : Thread nD τ) none Set.univ (m := pM) (r := Rect.unit (s := S1024x1024) ![128 * j.val, 0] S128x1024.size (inbC j)) (Mk := Finset.univ)
    (S := band rowG (128 * j.val) 128) (f := fp) (by rw [← chunkP_set j]; exact Finset.Subset.refl _)) $$ Hp
  iintro Hp
  rw [wp_ret]
  imodintro
  ihave Hp := (Entails.of_eq (pts_write (F := F) (c : Thread nD τ) (chunk pM j).view fp _ (pv D c) fullShare (band rowG (128 * j.val) 128)
    (by rw [chunkP_set]) (read_p D c j shapeCasts_S128x1_S128x1 broadcasts_S128x1_S128x1024 bitsLt_bf16_f32 shapeCasts_S128x1024_S128x1024))) $$ Hp
  ihave Hp := (p_share c j (pv D c)).1 $$ Hp
  icases Hp with ⟨Hp, Hps⟩
  ihave HI0 := (rec_cell D K 0 j c) $$ HI
  ihave HI1 := (rec_cell D K 1 j (peerY c)) $$ HI
  iapply (Rounds.wp_send_pointsTo 𝒱₀ ER (rd D) (c : Thread nD τ) none (c' := (peerY c : Thread nD τ)) (src := chunk pM j) (dst := chunk rM j) (sS := sm 0 j) (sem := sm 1 j)
    (q := fullShare.right) (fs := pv D c) (fd := fr) (κ₁ := K (cell 0 j c)) (κ₂ := K (cell 1 j (peerY c))) (r₁ := 0) (r₂ := 0) (d₁ := false) (d₂ := false)
    (by rw [duties_cell]; exact Finset.mem_singleton_self _) (by rw [duties_cell]; exact Finset.mem_singleton_self _)
    () () N (N_chunkR j _ rfl) (amount_cell D c 0 j false) (amount_cell D (peerY c) 1 j false) (O₀ := oweAt c j.val f) (oweAt c (j.val + 1) f) (oweAt_stepY c j f) (W := insert (SemLoc.dma (gS s), ()) W) ?_ ?_) $$ [Hps Hr HO HtS HtV]
  · rw [payload_cell, chunkP_set]; exact .rfl
  · rw [payload_cell, chunkR_set]
    unfold pay
    rw [peerY_peerY]
    exact Entails.of_eq (pts_write (F := F) (peerY c : Thread nD τ) (chunk rM j).view fr _ (pv D c) fullShare _ (by rw [chunkR_set]) rfl)
  · isplitr; · iexact HI0
    isplitr; · iexact HI1
    isplitl [Hps]; · rw [chunkP_set]; iexact Hps
    isplitl [Hr]; · rw [chunkR_set]; iexact Hr
    isplitl [HO]; · iexact HO
    isplitl [HtS]; · iexact HtS
    isplitr; · iexact HrS
    isplitl [HtV]; · iexact HtV
    iexact HrV
  iintro ⟨HcS, HO⟩
  rw [wp_ret]
  imodintro
  iapply Hk
  isplitl [Hg]; · iexact Hg
  isplitl [He]; · iexact He
  isplitl [Hv]; · iexact Hv
  isplitl [Hok]; · iexact Hok
  unfold aOut
  isplitl [Hp HcS]; · isplitl [Hp] <;> iassumption
  iexists _; iexact HO

/-! ## A chunk of the first peer's arrived: summed, kept and sent across the batch -/

abbrev crd (g : GSem nD τ sig) : sProp 𝕄 := cred (tallyAt g () N)

def fIn (j : Fin 8) : sProp 𝕄 :=
  iprop(atPos ER (cell 1 j c) 0 ∅ 0 ∗ crd (F := F) (cell 1 j c) ∗ (∃ f, oPts (F := F) c (mineLo c j) f) ∗ handX c j ∗ dutyTok ER (cell 2 j c) 0 false
    ∗ reached ER (cell 2 j c) 0 ∗ dutyTok ER (cell 3 j (peerX c)) 0 false)
def fOut (j : Fin 8) : sProp 𝕄 :=
  iprop(semVal (cell 1 j c) 0 ∗ aOut D c j ∗ rPts c j (pv D (peerY c)) ∗ crd (F := F) (cell 2 j c))

theorem lv_y (j : Fin 8) : (∀ j' : Fin 8, j.val + 1 ≤ j'.val → lvS (sm 1 j) < lvS (sm 1 j')) ∧ ∀ j' : Fin 8, lvS (sm 1 j) < lvS (sm 3 j') := by
  revert j; decide

theorem mineLo_eq (j : Fin 8) : otherLo (peerX c) j = mineLo c j := by rw [← mineLo_peerX, peerX_peerX]

/-- A wait for all of a cell's one round closes the cell. -/
theorem close_cell (k : Fin 4) (j : Fin 8) :
    iprop(recs D K ∗ atPos ER (cell k j c) (0 + 1) ∅ 0) ⊢ |={Set.univ}=> semVal (cell k j c) 0 := by
  iintro ⟨#HI, Hat⟩
  ihave HI0 := (rec_cell D K k j c) $$ HI
  iapply (Rounds.cell_close ER (rd D) (Set.mem_univ (K (cell k j c))) id (duties_later D (cell k j c)))
  isplitl [HI0] <;> iassumption

theorem wp_fwdP (j : Fin 8) (a : ℕ) (ha : j.val + 1 ≤ a) (Kt : PUnit → sProp 𝕄) :
    iprop((ctx D K ∗ aOut D c j ∗ fIn c j ∗ owesAny c (oweAt c a j.val)) ∗ ((fOut D c j ∗ owesAny c (oweAt c a (j.val + 1))) -∗ Kt ⟨⟩))
      ⊢ wp frame (wpE (defs₀ (F := F)) 𝒱₀ c none) Set.univ
          (fwdP (F := F) oM (Memref.isWhole_whole _) pM (Memref.isWhole_whole _) rM (Memref.isWhole_whole _) cc0_scratch5 cc0_scratch6 cc0_scratch7 c j) Kt := by
  unfold ctx aOut fIn handX
  iintro ⟨⟨⟨#HI, #Hlev⟩, ⟨Hp, Hc0⟩, ⟨Hat, Hc1, ⟨%fo, Ho⟩, ⟨⟨%fx, Hx⟩, #HrX⟩, HtS, #HrS, HtX⟩, ⟨%W, HO⟩⟩, Hk⟩
  unfold fwdP
  simp only [wp_bind]
  ihave HI1 := (rec_cell D K 1 j c) $$ HI
  iapply (Rounds.wp_wait_rest_token 𝒱₀ ER (rd D) (c : Thread nD τ) none (κ := K (cell 1 j c))
    (wpE_waitDma2_eq (src := chunk pM j) (dst := chunk rM j) 𝒱₀ (c : Thread nD τ) none Set.univ) (Set.mem_univ _) () (O := oweAt c a j.val) (W := W) (R := 0) (m := 0) (T := ∅)
    ((Nat.zero_add _).trans ((N_chunkR' j).trans (expect_cell D c 1 j).symm))) $$ [Hc1 HO Hat]
  · isplitr; · iexact HI1
    isplitl [Hc1]; · rw [N_chunkR' j]; iexact Hc1
    isplitl [HO]; · iexact HO
    isplitr
    · iapply (mayWait c (sm 1 j) a j.val (fun j' h => (lv_y j).1 j' (ha.trans h)) (fun j' _ => (lv_y j).2 j'))
      iexact Hlev
    iexact Hat
  iintro ⟨HO, Hat, -, Hpay⟩
  ihave Hr := (Entails.of_eq (rest_cell D c 1 j)) $$ Hpay
  unfold pay
  imod (close_cell D K c 1 j) $$ [Hat] with Hv
  · isplitr; · iexact HI
    iexact Hat
  rw [wp_ret]
  imodintro
  iapply (wp_load_rect 𝒱₀ (c : Thread nD τ) none Set.univ (m := pM) (r := Rect.unit (s := S1024x1024) ![128 * j.val, 0] S128x1024.size (inbC j))
    (S := band rowG (128 * j.val) 128) (q := fullShare.left) (f := pv D c) (by rw [← chunkP_set j])) $$ Hp
  iintro Hp
  rw [wp_ret]
  imodintro
  iapply (wp_load_rect 𝒱₀ (c : Thread nD τ) none Set.univ (m := rM) (r := Rect.unit (s := S1024x1024) ![128 * j.val, 0] S128x1024.size (inbC j))
    (S := band rowG (128 * j.val) 128) (q := fullShare) (f := pv D (peerY c)) (by rw [← chunkR_set j])) $$ Hr
  iintro Hr
  rw [wp_ret]
  imodintro
  iapply (wp_load_rect 𝒱₀ (c : Thread nD τ) none Set.univ (m := oM) (r := Rect.unit (s := S2048x1024) (k0_off1034 c (BitVec.ofNat 32 (128 * j.val))) S128x1024.size (k0_off1034_inb c j))
    (S := band rowO (mineLo c j) 128) (q := fullShare) (f := fo) (by rw [← mineO_set c j])) $$ Ho
  iintro Ho
  rw [wp_ret]
  imodintro
  iapply (wp_store 𝒱₀ (c : Thread nD τ) none Set.univ (m := oM) (r := Rect.unit (s := S2048x1024) (k0_off1034 c (BitVec.ofNat 32 (128 * j.val))) S128x1024.size (k0_off1034_inb c j)) (Mk := Finset.univ)
    (S := band rowO (mineLo c j) 128) (f := fo) (by rw [← mineO_set c j]; exact Finset.Subset.refl _)) $$ Ho
  iintro Ho
  rw [wp_ret]
  imodintro
  ihave Ho := (Entails.of_eq (pts_write (F := F) (c : Thread nD τ) (mineM oM c j).view fo _ (outv D c) fullShare (band rowO (mineLo c j) 128)
    (by rw [mineO_set]) (read_out D c j))) $$ Ho
  ihave HI2 := (rec_cell D K 2 j c) $$ HI
  ihave HI3 := (rec_cell D K 3 j (peerX c)) $$ HI
  iapply (Rounds.wp_send_pointsTo 𝒱₀ ER (rd D) (c : Thread nD τ) none (c' := (peerX c : Thread nD τ)) (src := mineM oM c j) (dst := mineM oM c j) (sS := sm 2 j) (sem := sm 3 j)
    (q := fullShare) (fs := outv D c) (fd := fx) (κ₁ := K (cell 2 j c)) (κ₂ := K (cell 3 j (peerX c))) (r₁ := 0) (r₂ := 0) (d₁ := false) (d₂ := false)
    (by rw [duties_cell]; exact Finset.mem_singleton_self _) (by rw [duties_cell]; exact Finset.mem_singleton_self _)
    () () N (N_mine c j _ rfl) (amount_cell D c 2 j false) (amount_cell D (peerX c) 3 j false) (O₀ := oweAt c a j.val) (oweAt c a (j.val + 1)) (oweAt_stepX c a j) (W := insert (sm 1 j, ()) W) ?_ ?_) $$ [Ho Hx HO HtS HtX]
  · rw [payload_cell, mineO_set]; exact .rfl
  · rw [payload_cell, mineO_set]
    unfold pay
    rw [mineLo_eq, outv_peerX]
    exact Entails.of_eq (pts_write (F := F) (peerX c : Thread nD τ) (mineM oM c j).view fx _ (outv D c) fullShare _ (by rw [mineO_set]) rfl)
  · isplitr; · iexact HI2
    isplitr; · iexact HI3
    isplitl [Ho]; · rw [mineO_set]; iexact Ho
    isplitl [Hx]; · rw [mineO_set]; iexact Hx
    isplitl [HO]; · iexact HO
    isplitl [HtS]; · iexact HtS
    isplitr; · iexact HrS
    isplitl [HtX]; · iexact HtX
    iexact HrX
  iintro ⟨HcS, HO⟩
  rw [wp_ret]
  imodintro
  iapply Hk
  unfold fOut aOut
  isplitr [HO]
  · isplitl [Hv]; · iexact Hv
    isplitl [Hp Hc0]; · isplitl [Hp] <;> iassumption
    isplitl [Hr]; · iexact Hr
    iexact HcS
  iexists _; iexact HO

/-! ## The waits at the end -/

def xIn (j : Fin 8) : sProp 𝕄 := iprop(atPos ER (cell 3 j c) 0 ∅ 0 ∗ crd (F := F) (cell 3 j c))
def xOut (j : Fin 8) : sProp 𝕄 := iprop(semVal (cell 3 j c) 0 ∗ oPts c (otherLo c j) (outv D c))
def eIn (j : Fin 8) : sProp 𝕄 :=
  iprop(atPos ER (cell 0 j c) 0 ∅ 0 ∗ crd (F := F) (cell 0 j c) ∗ atPos ER (cell 2 j c) 0 ∅ 0 ∗ crd (F := F) (cell 2 j c))
def eOut (j : Fin 8) : sProp 𝕄 :=
  iprop(semVal (cell 0 j c) 0 ∗ semVal (cell 2 j c) 0 ∗ pPts c j fullShare.right (pv D c) ∗ oPts c (mineLo c j) (outv D c))

/-- With all sent, every cell may be waited on. -/
theorem mayWaitEnd (s : SemLoc sig) : (levAts L lv : sProp 𝕄) ⊢ MayWait (c : Thread nD τ) s () (oweAt c 8 8) :=
  mayWait c s 8 8 (fun j h => absurd j.isLt (by omega)) (fun j h => absurd j.isLt (by omega))

theorem wp_waitX (j : Fin 8) (Kt : PUnit → sProp 𝕄) :
    iprop((ctx D K ∗ xIn c j ∗ owesAny c (oweAt c 8 8)) ∗ ((xOut D c j ∗ owesAny c (oweAt c 8 8)) -∗ Kt ⟨⟩))
      ⊢ wp frame (wpE (defs₀ (F := F)) 𝒱₀ c none) Set.univ (waitX (F := F) oM (Memref.isWhole_whole _) cc0_scratch7 c j) Kt := by
  unfold ctx xIn
  iintro ⟨⟨⟨#HI, #Hlev⟩, ⟨Hat, Hc⟩, ⟨%W, HO⟩⟩, Hk⟩
  unfold waitX
  ihave HI3 := (rec_cell D K 3 j c) $$ HI
  iapply (Rounds.wp_wait_rest_token 𝒱₀ ER (rd D) (c : Thread nD τ) none (κ := K (cell 3 j c))
    (wpE_waitDma2_eq (src := otherM oM c j) (dst := otherM oM c j) 𝒱₀ (c : Thread nD τ) none Set.univ) (Set.mem_univ _) () (O := oweAt c 8 8) (W := W) (R := 0) (m := 0) (T := ∅)
    ((Nat.zero_add _).trans ((N_other' c j).trans (expect_cell D c 3 j).symm))) $$ [Hc HO Hat]
  · isplitr; · iexact HI3
    isplitl [Hc]; · rw [N_other' c j]; iexact Hc
    isplitl [HO]; · iexact HO
    isplitr; · iapply (mayWaitEnd c (sm 3 j)); iexact Hlev
    iexact Hat
  iintro ⟨HO, Hat, -, Hpay⟩
  ihave Hr := (Entails.of_eq (rest_cell D c 3 j)) $$ Hpay
  unfold pay
  imod (close_cell D K c 3 j) $$ [Hat] with Hv
  · isplitr; · iexact HI
    iexact Hat
  rw [wp_ret]
  imodintro
  iapply Hk
  unfold xOut
  isplitr [HO]
  · isplitl [Hv] <;> iassumption
  iexists _; iexact HO

theorem wp_waitEnd (j : Fin 8) (Kt : PUnit → sProp 𝕄) :
    iprop((ctx D K ∗ eIn c j ∗ owesAny c (oweAt c 8 8)) ∗ ((eOut D c j ∗ owesAny c (oweAt c 8 8)) -∗ Kt ⟨⟩))
      ⊢ wp frame (wpE (defs₀ (F := F)) 𝒱₀ c none) Set.univ
          (waitEnd (F := F) oM (Memref.isWhole_whole _) pM (Memref.isWhole_whole _) rM (Memref.isWhole_whole _) cc0_scratch4 cc0_scratch6 c j) Kt := by
  unfold ctx eIn
  iintro ⟨⟨⟨#HI, #Hlev⟩, ⟨Hat0, Hc0, Hat2, Hc2⟩, ⟨%W, HO⟩⟩, Hk⟩
  unfold waitEnd
  simp only [wp_bind]
  ihave HI0 := (rec_cell D K 0 j c) $$ HI
  ihave HI2 := (rec_cell D K 2 j c) $$ HI
  iapply (Rounds.wp_wait_rest_token 𝒱₀ ER (rd D) (c : Thread nD τ) none (κ := K (cell 0 j c))
    (wpE_waitDma2_eq (src := chunk rM j) (dst := chunk pM j) 𝒱₀ (c : Thread nD τ) none Set.univ) (Set.mem_univ _) () (O := oweAt c 8 8) (W := W) (R := 0) (m := 0) (T := ∅)
    ((Nat.zero_add _).trans ((N_chunkP' j).trans (expect_cell D c 0 j).symm))) $$ [Hc0 HO Hat0]
  · isplitr; · iexact HI0
    isplitl [Hc0]; · rw [N_chunkP' j]; iexact Hc0
    isplitl [HO]; · iexact HO
    isplitr; · iapply (mayWaitEnd c (sm 0 j)); iexact Hlev
    iexact Hat0
  iintro ⟨HO, Hat0, -, Hpay⟩
  ihave Hp := (Entails.of_eq (rest_cell D c 0 j)) $$ Hpay
  imod (close_cell D K c 0 j) $$ [Hat0] with Hv0
  · isplitr; · iexact HI
    iexact Hat0
  rw [wp_ret]
  imodintro
  iapply (Rounds.wp_wait_rest_token 𝒱₀ ER (rd D) (c : Thread nD τ) none (κ := K (cell 2 j c))
    (wpE_waitDma2_eq (src := mineM oM c j) (dst := mineM oM c j) 𝒱₀ (c : Thread nD τ) none Set.univ) (Set.mem_univ _) () (O := oweAt c 8 8) (W := insert (sm 0 j, ()) W) (R := 0) (m := 0) (T := ∅)
    ((Nat.zero_add _).trans ((N_mine' c j).trans (expect_cell D c 2 j).symm))) $$ [Hc2 HO Hat2]
  · isplitr; · iexact HI2
    isplitl [Hc2]; · rw [N_mine' c j]; iexact Hc2
    isplitl [HO]; · iexact HO
    isplitr; · iapply (mayWaitEnd c (sm 2 j)); iexact Hlev
    iexact Hat2
  iintro ⟨HO, Hat2, -, Hpay⟩
  ihave Ho := (Entails.of_eq (rest_cell D c 2 j)) $$ Hpay
  imod (close_cell D K c 2 j) $$ [Hat2] with Hv2
  · isplitr; · iexact HI
    iexact Hat2
  unfold pay
  rw [wp_ret]
  imodintro
  iapply Hk
  unfold eOut
  isplitr [HO]
  · isplitl [Hv0]; · iexact Hv0
    isplitl [Hv2]; · iexact Hv2
    isplitl [Hp] <;> iassumption
  iexists _; iexact HO

/-! ## The handshake -/

theorem lv_bar : (∀ j : Fin 8, lvS (.reg barS) < lvS (sm 1 j)) ∧ ∀ j : Fin 8, lvS (.reg barS) < lvS (sm 3 j) := by decide

theorem wp_hello (W : Waits sig Unit) (Kt : PUnit → sProp 𝕄) :
    iprop((ctx D K ∗ atPos ER (barCell c) 0 ∅ 0 ∗ cred (tallyAt (barCell c) () 2)
        ∗ dutyTok ER (barCell (peerY c)) 0 false ∗ reached ER (barCell (peerY c)) 0 ∗ barPay (F := F) false (peerY c)
        ∗ dutyTok ER (barCell (peerX c)) 0 true ∗ reached ER (barCell (peerX c)) 0 ∗ barPay (F := F) true (peerX c)
        ∗ owes (c : Thread nD τ) (O₀ c) W)
      ∗ ((semVal (barCell c) 0 ∗ (bigSep Finset.univ fun j => handY (F := F) c j) ∗ (bigSep Finset.univ fun j => handX (F := F) c j)
          ∗ owesAny c (oweAt c 0 0)) -∗ Kt ⟨⟩))
      ⊢ wp frame (wpE (defs₀ (F := F)) 𝒱₀ c none) Set.univ (hello (F := F) c) Kt := by
  unfold ctx
  iintro ⟨⟨⟨#HI, #Hlev⟩, Hat, Hc, HtY, #HrY, HpY, HtX, #HrX, HpX, HO⟩, Hk⟩
  unfold hello semSignalWord semWaitWord
  simp only [wp_bind]
  ihave HIc := (rec_bar D K c) $$ HI
  ihave HIY := (rec_bar D K (peerY c)) $$ HI
  ihave HIX := (rec_bar D K (peerX c)) $$ HI
  iapply (Rounds.wp_signal 𝒱₀ ER (rd D) (c : Thread nD τ) none (dst := (peerY c : Thread nD τ)) (sem := barS) (r := 0) (d := false) (κ := K (barCell (peerY c)))
      (by rw [duties_bar]; exact Finset.mem_univ _) (amount_bar D (peerY c) false) () (oweAt c 0 0 + tallyAt (barCell (peerX c)) () 1) rfl)
    $$ [HO HtY HpY]
  · isplitr; · iexact HIY
    isplitl [HO]; · iexact HO
    isplitl [HtY]; · iexact HtY
    isplitl [HpY]; · rw [payload_bar]; iexact HpY
    iexact HrY
  iintro HO
  rw [wp_ret]
  imodintro
  iapply (Rounds.wp_signal 𝒱₀ ER (rd D) (c : Thread nD τ) none (dst := (peerX c : Thread nD τ)) (sem := barS) (r := 0) (d := true) (κ := K (barCell (peerX c)))
      (by rw [duties_bar]; exact Finset.mem_univ _) (amount_bar D (peerX c) true) () (oweAt c 0 0) rfl)
    $$ [HO HtX HpX]
  · isplitr; · iexact HIX
    isplitl [HO]; · iexact HO
    isplitl [HtX]; · iexact HtX
    isplitl [HpX]; · rw [payload_bar]; iexact HpX
    iexact HrX
  iintro HO
  rw [wp_ret]
  imodintro
  iapply (Rounds.wp_wait_rest_token 𝒱₀ ER (rd D) (c : Thread nD τ) none (κ := K (barCell c))
      (wpE_semWait_eq 𝒱₀ (c : Thread nD τ) none Set.univ) (Set.mem_univ _) () (O := oweAt c 0 0) (W := W) (R := 0) (m := 0) (T := ∅)
      ((Nat.zero_add 2).trans (expect_bar D c).symm)) $$ [Hc HO Hat]
  · isplitr; · iexact HIc
    isplitl [Hc]; · iexact Hc
    isplitl [HO]; · iexact HO
    isplitr; · iapply (mayWait c (.reg barS) 0 0 (fun j' _ => lv_bar.1 j') (fun j' _ => lv_bar.2 j')); iexact Hlev
    iexact Hat
  iintro ⟨HO, Hat, -, Hpay⟩
  ihave Hp := (Entails.of_eq (rest_bar D c)) $$ Hpay
  icases Hp with ⟨HY, HX⟩
  imod (Rounds.cell_close ER (rd D) (Set.mem_univ (K (barCell c))) id (duties_later D (barCell c))) $$ [Hat] with Hv
  · isplitr; · iexact HIc
    iexact Hat
  rw [wp_ret]
  imodintro
  iapply Hk
  isplitl [Hv]; · iexact Hv
  isplitl [HY]; · iexact HY
  isplitl [HX]; · iexact HX
  iexists _; iexact HO

end Cert.KernelIdeal.K

end
-- ==== Proof.Whole.lean ====
module

public import proofs.«01_k».proof.Proof.Steps

/-! # The body

The chunks' steps in the program's order, over one state: how many chunks are gathered, sent and forwarded. -/

@[expose] public section

noncomputable section

namespace Cert.KernelIdeal.K

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal.Gen Cert.KernelIdeal.Body

variable {F : FTy → Type} [FloatOps F]

local notation "𝕄" => MT nD τ sig Unit (Elt F) ℕ UU ℕ

/-- One of the eight taken out, to be put back changed. -/
theorem bigSep_at (j : Fin 8) (Φ Φ' : Fin 8 → sProp 𝕄) (h : ∀ i, i ≠ j → Φ i = Φ' i) :
    (bigSep Finset.univ Φ : sProp 𝕄) ⊢ iprop(Φ j ∗ (Φ' j -∗ bigSep Finset.univ Φ')) := by
  have e (Ψ : Fin 8 → sProp 𝕄) : (bigSep Finset.univ Ψ : sProp 𝕄) = iprop(Ψ j ∗ bigSep (Finset.univ.erase j) Ψ) := BI.bigSep_erase (Finset.mem_univ j)
  rw [e Φ, e Φ', bigSep_congr (fun i hi => h i (Finset.ne_of_mem_erase hi))]
  iintro ⟨H1, H2⟩
  isplitl [H1]; · iexact H1
  iintro H3
  isplitl [H3] <;> iassumption

variable (D : Data F) (K : GSem nD τ sig → ℕ) (c : Dev nD)

/-- Where chunk `i` stands when `b` chunks are on their way here, `a` are sent and `f` forwarded. -/
def gPart (b a : ℕ) (i : Fin 8) : sProp 𝕄 :=
  if i.val < a then gHas (D.R c) (D.hR c) (D.E c) c i else if i.val < b then iprop(emp) else gAny c i
def aPart (a f : ℕ) (i : Fin 8) : sProp 𝕄 :=
  if i.val < f then iprop(emp) else if i.val < a then aOut D c i else aIn c i
def fPart (f : ℕ) (i : Fin 8) : sProp 𝕄 := if i.val < f then fOut D c i else fIn c i
def ph (b a f : ℕ) (i : Fin 8) : sProp 𝕄 := iprop(gPart D c b a i ∗ aPart D c a f i ∗ fPart D c f i)

/-- The state between two steps; `X` and `Y` are the two local-copy semaphores with their shares of the table, the next used first. -/
def St (b a f : ℕ) (X Y : sProp 𝕄) : sProp 𝕄 :=
  iprop(ctx D K ∗ rowsPts (D.R c) c ∗ okPts D c ∗ owesAny c (oweAt c a f) ∗ X ∗ Y ∗ bigSep Finset.univ (ph D c b a f))

/-- The table's share that goes with a local-copy semaphore. -/
abbrev qs (s : Fin 2) : PosShare TreeShare := if s = 0 then fullShare.left else fullShare.right
def free (s : Fin 2) : sProp 𝕄 := iprop(tabPts (D.E c) c (qs s) ∗ semVal ((c : Thread nD τ), .dma (gS s)) 0)

theorem St_swap (b a f : ℕ) (X Y : sProp 𝕄) : St D K c b a f X Y ⊢ St D K c b a f Y X := by
  unfold St
  iintro ⟨H1, H2, H3, H4, H5, H6, H7⟩
  isplitl [H1]; · iexact H1
  isplitl [H2]; · iexact H2
  isplitl [H3]; · iexact H3
  isplitl [H4]; · iexact H4
  isplitl [H6]; · iexact H6
  isplitl [H5]; · iexact H5
  iexact H7

theorem seg_g (j : Fin 8) (s : Fin 2) (b b' a f : ℕ) (hb : b = j.val) (hb' : b' = j.val + 1) (ha : a ≤ j.val) (Y : sProp 𝕄) (Kt : PUnit → sProp 𝕄) :
    iprop(St D K c b a f (free D c s) Y ∗ (St D K c b' a f Y (Fl D c j s (qs s)) -∗ Kt ⟨⟩))
      ⊢ wp frame (wpE (defs₀ (F := F)) 𝒱₀ c none) Set.univ (gatherP (F := F) rowsM eM gM cc0_scratch3 j s) Kt := by
  subst hb hb'
  unfold St free
  iintro ⟨⟨Hctx, HR, Hok, HO, ⟨Ht, Hv⟩, HY, HP⟩, Hk⟩
  ihave HP := (bigSep_at j (ph D c j.val a f) (ph D c (j.val + 1) a f) (fun i hi => by
    have e : (i.val < j.val + 1) = (i.val < j.val) := propext ⟨fun h => by have : i.val ≠ j.val := fun h => hi (Fin.ext h); omega, fun h => by omega⟩
    unfold ph gPart
    simp only [e])) $$ HP
  icases HP with ⟨Hj, HP⟩
  unfold ph gPart
  rw [if_neg (by omega), if_neg (by omega), if_neg (by omega), if_pos (by omega)]
  icases Hj with ⟨Hg, Hj⟩
  iapply (wp_gatherP (D.R c) (D.hR c) (D.E c) c j s (qs s)) $$ [HR Ht Hg Hv Hctx Hok HO HY HP Hj Hk]
  isplitl [HR Ht Hg Hv]
  · isplitl [HR]; · iexact HR
    isplitl [Ht]; · iexact Ht
    isplitl [Hg] <;> iassumption
  iintro ⟨HR, HF⟩
  iapply Hk
  isplitl [Hctx]; · iexact Hctx
  isplitl [HR]; · iexact HR
  isplitl [Hok]; · iexact Hok
  isplitl [HO]; · iexact HO
  isplitl [HY]; · iexact HY
  isplitl [HF]; · iexact HF
  iapply HP
  isplitr; · iempintro
  iexact Hj

theorem seg_a (j : Fin 8) (s : Fin 2) (b a a' f : ℕ) (ha : a = j.val) (ha' : a' = j.val + 1) (hb : j.val < b) (hf : f ≤ j.val) (Y : sProp 𝕄) (Kt : PUnit → sProp 𝕄) :
    iprop(St D K c b a f (Fl D c j s (qs s)) Y ∗ (St D K c b a' f (free D c s) Y -∗ Kt ⟨⟩))
      ⊢ wp frame (wpE (defs₀ (F := F)) 𝒱₀ c none) Set.univ
          (stepA (F := F) okM eM gM pM (Memref.isWhole_whole _) rM (Memref.isWhole_whole _) cc0_scratch3 cc0_scratch4 cc0_scratch5 c j s) Kt := by
  subst ha ha'
  unfold St free
  iintro ⟨⟨#Hctx, HR, Hok, HO, HF, HY, HP⟩, Hk⟩
  ihave HP := (bigSep_at j (ph D c b j.val f) (ph D c b (j.val + 1) f) (fun i hi => by
    have e : (i.val < j.val + 1) = (i.val < j.val) := propext ⟨fun h => by have : i.val ≠ j.val := fun h => hi (Fin.ext h); omega, fun h => by omega⟩
    unfold ph gPart aPart
    simp only [e])) $$ HP
  icases HP with ⟨Hj, HP⟩
  unfold ph gPart aPart
  rw [if_neg (by omega), if_pos (by omega), if_neg (by omega), if_neg (by omega), if_pos (by omega), if_neg (by omega), if_pos (by omega)]
  icases Hj with ⟨-, Ha, Hj⟩
  iapply (wp_stepA D K c j s (qs s) f) $$ [HR Hok HO HF HY HP Hj Ha Hk]
  isplitl [Hok HO HF Ha]
  · isplitr; · iexact Hctx
    isplitl [HF]; · iexact HF
    isplitl [Hok]; · iexact Hok
    isplitl [Ha] <;> iassumption
  iintro ⟨Hg, Ht, Hv, Hok, Ha, HO⟩
  iapply Hk
  isplitr; · iexact Hctx
  isplitl [HR]; · iexact HR
  isplitl [Hok]; · iexact Hok
  isplitl [HO]; · iexact HO
  isplitl [Ht Hv]; · isplitl [Ht] <;> iassumption
  isplitl [HY]; · iexact HY
  iapply HP
  isplitl [Hg]; · iexact Hg
  isplitl [Ha] <;> iassumption

theorem seg_f (j : Fin 8) (b a f f' : ℕ) (hf : f = j.val) (hf' : f' = j.val + 1) (ha : j.val + 1 ≤ a) (X Y : sProp 𝕄) (Kt : PUnit → sProp 𝕄) :
    iprop(St D K c b a f X Y ∗ (St D K c b a f' X Y -∗ Kt ⟨⟩))
      ⊢ wp frame (wpE (defs₀ (F := F)) 𝒱₀ c none) Set.univ
          (fwdP (F := F) oM (Memref.isWhole_whole _) pM (Memref.isWhole_whole _) rM (Memref.isWhole_whole _) cc0_scratch5 cc0_scratch6 cc0_scratch7 c j) Kt := by
  subst hf hf'
  unfold St
  iintro ⟨⟨#Hctx, HR, Hok, HO, HX, HY, HP⟩, Hk⟩
  ihave HP := (bigSep_at j (ph D c b a j.val) (ph D c b a (j.val + 1)) (fun i hi => by
    have e : (i.val < j.val + 1) = (i.val < j.val) := propext ⟨fun h => by have : i.val ≠ j.val := fun h => hi (Fin.ext h); omega, fun h => by omega⟩
    unfold ph aPart fPart
    simp only [e])) $$ HP
  icases HP with ⟨Hj, HP⟩
  unfold ph aPart fPart
  rw [if_neg (by omega), if_pos (by omega), if_neg (by omega), if_pos (by omega), if_pos (by omega)]
  icases Hj with ⟨Hg, Ha, Hf⟩
  iapply (wp_fwdP D K c j a ha) $$ [HR Hok HO HX HY HP Hg Ha Hf Hk]
  isplitl [HO Ha Hf]
  · isplitr; · iexact Hctx
    isplitl [Ha]; · iexact Ha
    isplitl [Hf] <;> iassumption
  iintro ⟨Hf, HO⟩
  iapply Hk
  isplitr; · iexact Hctx
  isplitl [HR]; · iexact HR
  isplitl [Hok]; · iexact Hok
  isplitl [HO]; · iexact HO
  isplitl [HX]; · iexact HX
  isplitl [HY]; · iexact HY
  iapply HP
  isplitl [Hg]; · iexact Hg
  isplitr; · iempintro
  iexact Hf

/-! ## The waits over all chunks -/

def xPart (b : ℕ) (i : Fin 8) : sProp 𝕄 := if i.val < b then xOut D c i else xIn c i
def ePart (b : ℕ) (i : Fin 8) : sProp 𝕄 := if i.val < b then eOut D c i else eIn c i

theorem wp_waitXs (n b : ℕ) (h : b + n ≤ 8) (e : b + n = 8) (Kt : PUnit → sProp 𝕄) :
    iprop((ctx D K ∗ bigSep Finset.univ (xPart D c b) ∗ owesAny c (oweAt c 8 8))
      ∗ ((bigSep Finset.univ (xPart D c 8) ∗ owesAny c (oweAt c 8 8)) -∗ Kt ⟨⟩))
      ⊢ wp frame (wpE (defs₀ (F := F)) 𝒱₀ c none) Set.univ (waitXs (F := F) oM (Memref.isWhole_whole _) cc0_scratch7 c n b h) Kt := by
  induction n generalizing b with
  | zero =>
    obtain rfl : b = 8 := e
    iintro ⟨⟨-, HP, HO⟩, Hk⟩
    unfold waitXs
    rw [show (pure ⟨⟩ : BProg F) = Prog.ret ⟨⟩ from rfl, wp_ret]
    imodintro
    iapply Hk
    isplitl [HP] <;> iassumption
  | succ n ih =>
    iintro ⟨⟨#Hctx, HP, HO⟩, Hk⟩
    unfold waitXs
    rw [wp_bind]
    have hb : b < 8 := by omega
    ihave HP := (bigSep_at ⟨b, hb⟩ (xPart D c b) (xPart D c (b + 1)) (fun i hi => by
      have e : (i.val < b + 1) = (i.val < b) := propext ⟨fun h => by have : i.val ≠ b := fun h => hi (Fin.ext h); omega, fun h => by omega⟩
      unfold xPart
      simp only [e])) $$ HP
    icases HP with ⟨Hj, HP⟩
    ihave Hj := (Entails.of_eq (show xPart D c b ⟨b, hb⟩ = xIn c ⟨b, hb⟩ from if_neg (by simp))) $$ Hj
    iapply (wp_waitX D K c ⟨b, hb⟩ _)
    isplitl [Hj HO]
    · isplitr; · iexact Hctx
      isplitl [Hj] <;> iassumption
    iintro ⟨Hj, HO⟩
    iapply (ih (b + 1) _ (by omega))
    isplitr [Hk]
    · isplitr; · iexact Hctx
      isplitr [HO]
      · iapply HP
        iapply (Entails.of_eq (show xOut D c ⟨b, hb⟩ = xPart D c (b + 1) ⟨b, hb⟩ from (if_pos (Nat.lt_succ_self b)).symm))
        iexact Hj
      iexact HO
    iexact Hk

theorem wp_waitEnds (n b : ℕ) (h : b + n ≤ 8) (e : b + n = 8) (Kt : PUnit → sProp 𝕄) :
    iprop((ctx D K ∗ bigSep Finset.univ (ePart D c b) ∗ owesAny c (oweAt c 8 8))
      ∗ ((bigSep Finset.univ (ePart D c 8) ∗ owesAny c (oweAt c 8 8)) -∗ Kt ⟨⟩))
      ⊢ wp frame (wpE (defs₀ (F := F)) 𝒱₀ c none) Set.univ
        (waitEnds (F := F) oM (Memref.isWhole_whole _) pM (Memref.isWhole_whole _) rM (Memref.isWhole_whole _) cc0_scratch4 cc0_scratch6 c n b h) Kt := by
  induction n generalizing b with
  | zero =>
    obtain rfl : b = 8 := e
    iintro ⟨⟨-, HP, HO⟩, Hk⟩
    unfold waitEnds
    rw [show (pure ⟨⟩ : BProg F) = Prog.ret ⟨⟩ from rfl, wp_ret]
    imodintro
    iapply Hk
    isplitl [HP] <;> iassumption
  | succ n ih =>
    iintro ⟨⟨#Hctx, HP, HO⟩, Hk⟩
    unfold waitEnds
    rw [wp_bind]
    have hb : b < 8 := by omega
    ihave HP := (bigSep_at ⟨b, hb⟩ (ePart D c b) (ePart D c (b + 1)) (fun i hi => by
      have e : (i.val < b + 1) = (i.val < b) := propext ⟨fun h => by have : i.val ≠ b := fun h => hi (Fin.ext h); omega, fun h => by omega⟩
      unfold ePart
      simp only [e])) $$ HP
    icases HP with ⟨Hj, HP⟩
    ihave Hj := (Entails.of_eq (show ePart D c b ⟨b, hb⟩ = eIn c ⟨b, hb⟩ from if_neg (by simp))) $$ Hj
    iapply (wp_waitEnd D K c ⟨b, hb⟩ _)
    isplitl [Hj HO]
    · isplitr; · iexact Hctx
      isplitl [Hj] <;> iassumption
    iintro ⟨Hj, HO⟩
    iapply (ih (b + 1) _ (by omega))
    isplitr [Hk]
    · isplitr; · iexact Hctx
      isplitr [HO]
      · iapply HP
        iapply (Entails.of_eq (show eOut D c ⟨b, hb⟩ = ePart D c (b + 1) ⟨b, hb⟩ from (if_pos (Nat.lt_succ_self b)).symm))
        iexact Hj
      iexact HO
    iexact Hk

/-! ## What the body finds and leaves, chunk by chunk -/

/-- The four cells of a chunk opened; the duties to pay; the credits that come in. -/
def openJ (j : Fin 8) : sProp 𝕄 :=
  iprop((atPos ER (cell 0 j c) 0 ∅ 0 ∗ reached ER (cell 0 j c) 0) ∗ (atPos ER (cell 1 j c) 0 ∅ 0 ∗ reached ER (cell 1 j c) 0)
    ∗ (atPos ER (cell 2 j c) 0 ∅ 0 ∗ reached ER (cell 2 j c) 0) ∗ (atPos ER (cell 3 j c) 0 ∅ 0 ∗ reached ER (cell 3 j c) 0))
def tokJ (j : Fin 8) : sProp 𝕄 :=
  iprop(dutyTok ER (cell 0 j c) 0 false ∗ dutyTok ER (cell 1 j (peerY c)) 0 false ∗ dutyTok ER (cell 2 j c) 0 false ∗ dutyTok ER (cell 3 j (peerX c)) 0 false)
def credJ (j : Fin 8) : sProp 𝕄 := iprop(crd (F := F) (cell 1 j c) ∗ crd (F := F) (cell 3 j c))
/-- A chunk's places in the buffers. -/
def bufJ (j : Fin 8) : sProp 𝕄 :=
  iprop(gAny (F := F) c j ∗ (∃ f, pPts (F := F) c j fullShare f) ∗ (∃ f, rPts (F := F) c j f) ∗ (∃ f, oPts (F := F) c (mineLo c j) f) ∗ ∃ f, oPts (F := F) c (otherLo c j) f)
/-- What the handshake's two gifts turn into the chunk's state. -/
def restJ (j : Fin 8) : sProp 𝕄 :=
  iprop(gAny (F := F) c j ∗ (∃ f, pPts (F := F) c j fullShare f) ∗ (∃ f, oPts (F := F) c (mineLo c j) f) ∗ tokJ (F := F) c j
    ∗ reached ER (cell 0 j c) 0 ∗ reached ER (cell 2 j c) 0 ∗ atPos ER (cell 1 j c) 0 ∅ 0 ∗ crd (F := F) (cell 1 j c)
    ∗ xIn (F := F) c j ∗ (atPos ER (cell 0 j c) 0 ∅ 0 ∗ atPos ER (cell 2 j c) 0 ∅ 0))
def posJ (j : Fin 8) : sProp 𝕄 := iprop(atPos ER (cell 0 j c) 0 ∅ 0 ∗ atPos ER (cell 2 j c) 0 ∅ 0)
def keepJ (j : Fin 8) : sProp 𝕄 :=
  iprop(gHas (D.R c) (D.hR c) (D.E c) c j ∗ semVal (cell 1 j c) 0 ∗ pPts c j fullShare.left (pv D c) ∗ rPts c j (pv D (peerY c)))
def semJ (j : Fin 8) : sProp 𝕄 := iprop(semVal (cell 0 j c) 0 ∗ semVal (cell 1 j c) 0 ∗ semVal (cell 2 j c) 0 ∗ semVal (cell 3 j c) 0)
def doneJ (j : Fin 8) : sProp 𝕄 :=
  iprop(semJ (F := F) c j ∗ gHas (D.R c) (D.hR c) (D.E c) c j ∗ pPts c j fullShare (pv D c) ∗ rPts c j (pv D (peerY c)) ∗ oPts c (mineLo c j) (outv D c) ∗ oPts c (otherLo c j) (outv D c))

theorem giveJ (j : Fin 8) :
    iprop(openJ (F := F) c j ∗ tokJ (F := F) c j ∗ credJ (F := F) c j ∗ bufJ (F := F) c j) ⊢ iprop(handY (F := F) (peerY c) j ∗ handX (F := F) (peerX c) j ∗ restJ (F := F) c j) := by
  unfold openJ credJ bufJ handY handX restJ xIn
  rw [peerY_peerY, peerX_peerX, mineLo_peerX]
  iintro ⟨⟨⟨Ha0, Hr0⟩, ⟨Ha1, Hr1⟩, ⟨Ha2, Hr2⟩, Ha3, Hr3⟩, Ht, ⟨Hc1, Hc3⟩, Hg, Hp, Hr, Hm, Ho⟩
  isplitl [Hr Hr1]; · isplitl [Hr] <;> iassumption
  isplitl [Ho Hr3]; · isplitl [Ho] <;> iassumption
  isplitl [Hg]; · iexact Hg
  isplitl [Hp]; · iexact Hp
  isplitl [Hm]; · iexact Hm
  isplitl [Ht]; · iexact Ht
  isplitl [Hr0]; · iexact Hr0
  isplitl [Hr2]; · iexact Hr2
  isplitl [Ha1]; · iexact Ha1
  isplitl [Hc1]; · iexact Hc1
  isplitl [Ha3 Hc3]; · isplitl [Ha3] <;> iassumption
  isplitl [Ha0] <;> iassumption

theorem takeJ (j : Fin 8) :
    iprop(handY (F := F) c j ∗ handX (F := F) c j ∗ restJ (F := F) c j) ⊢ iprop(ph D c 0 0 0 j ∗ xPart D c 0 j ∗ posJ (F := F) c j) := by
  unfold ph gPart aPart fPart restJ xPart posJ tokJ
  simp only [Nat.not_lt_zero, if_false]
  unfold aIn fIn
  iintro ⟨HY, HX, Hg, Hp, Hm, ⟨Ht0, Ht1, Ht2, Ht3⟩, Hr0, Hr2, Ha1, Hc1, Hx, Hpos⟩
  isplitr [Hx Hpos]
  · isplitl [Hg]; · iexact Hg
    isplitl [Hp HY Ht0 Hr0 Ht1]
    · isplitl [Hp]; · iexact Hp
      isplitl [HY]; · iexact HY
      isplitl [Ht0]; · iexact Ht0
      isplitl [Hr0] <;> iassumption
    isplitl [Ha1]; · iexact Ha1
    isplitl [Hc1]; · iexact Hc1
    isplitl [Hm]; · iexact Hm
    isplitl [HX]; · iexact HX
    isplitl [Ht2]; · iexact Ht2
    isplitl [Hr2] <;> iassumption
  isplitl [Hx] <;> iassumption

theorem endJ (j : Fin 8) : iprop(ph D c 8 8 8 j ∗ posJ (F := F) c j) ⊢ iprop(ePart D c 0 j ∗ keepJ D c j) := by
  unfold ph gPart aPart fPart posJ ePart keepJ
  simp only [j.isLt, Nat.not_lt_zero, if_true, if_false]
  unfold fOut aOut eIn
  iintro ⟨⟨Hg, -, Hv1, ⟨Hp, Hc0⟩, Hr, Hc2⟩, Ha0, Ha2⟩
  isplitl [Ha0 Hc0 Ha2 Hc2]
  · isplitl [Ha0]; · iexact Ha0
    isplitl [Hc0]; · iexact Hc0
    isplitl [Ha2] <;> iassumption
  isplitl [Hg]; · iexact Hg
  isplitl [Hv1]; · iexact Hv1
  isplitl [Hp] <;> iassumption

theorem finJ (j : Fin 8) : iprop(xPart D c 8 j ∗ ePart D c 8 j ∗ keepJ D c j) ⊢ doneJ D c j := by
  unfold xPart ePart keepJ doneJ semJ
  simp only [j.isLt, if_true]
  unfold xOut eOut
  iintro ⟨⟨Hv3, Ho⟩, ⟨Hv0, Hv2, Hpr, Hm⟩, Hg, Hv1, Hpl, Hr⟩
  isplitl [Hv0 Hv1 Hv2 Hv3]
  · isplitl [Hv0]; · iexact Hv0
    isplitl [Hv1]; · iexact Hv1
    isplitl [Hv2] <;> iassumption
  isplitl [Hg]; · iexact Hg
  isplitl [Hpl Hpr]
  · iapply (p_share c j (pv D c)).2
    isplitl [Hpl] <;> iassumption
  isplitl [Hr]; · iexact Hr
  isplitl [Hm] <;> iassumption

theorem sep2 (Φ Ψ : Fin 8 → sProp 𝕄) :
    (bigSep Finset.univ fun j => iprop(Φ j ∗ Ψ j) : sProp 𝕄) = iprop(bigSep Finset.univ Φ ∗ bigSep Finset.univ Ψ) := bigSep_sep' _ _ _
theorem sep3 (Φ Ψ Χ : Fin 8 → sProp 𝕄) :
    (bigSep Finset.univ fun j => iprop(Φ j ∗ Ψ j ∗ Χ j) : sProp 𝕄) = iprop(bigSep Finset.univ Φ ∗ bigSep Finset.univ Ψ ∗ bigSep Finset.univ Χ) := by
  rw [bigSep_sep', bigSep_sep']

theorem wp_dev (Q : Dev nD → sProp 𝕄) :
    wp frame (wpE (defs₀ (F := F)) 𝒱₀ (c : Thread nD τ) none) Set.univ (Prog.lift .deviceId) Q = iprop(|={Set.univ}=> Q c) := by
  show wp frame _ Set.univ (Prog.op TpuEff.deviceId Prog.ret) Q = _
  rw [wp_deviceId, wp_ret]

/-! ## The body's program, from the state to the state -/

set_option maxHeartbeats 1600000 in
theorem wp_sbody (W : Waits sig Unit) (Kt : PUnit → sProp 𝕄) :
    iprop((ctx D K ∗ atPos ER (barCell c) 0 ∅ 0 ∗ cred (tallyAt (barCell c) () 2)
        ∗ dutyTok ER (barCell (peerY c)) 0 false ∗ reached ER (barCell (peerY c)) 0
        ∗ dutyTok ER (barCell (peerX c)) 0 true ∗ reached ER (barCell (peerX c)) 0
        ∗ (bigSep Finset.univ fun j => iprop(openJ (F := F) c j ∗ tokJ (F := F) c j ∗ credJ (F := F) c j ∗ bufJ (F := F) c j))
        ∗ rowsPts (D.R c) c ∗ okPts D c ∗ free D c 0 ∗ free D c 1 ∗ owes (c : Thread nD τ) (O₀ c) W)
      ∗ ((semVal (barCell c) 0 ∗ bigSep Finset.univ (doneJ D c) ∗ rowsPts (D.R c) c ∗ okPts D c ∗ free D c 0 ∗ free D c 1 ∗ owesAny c 0) -∗ Kt ⟨⟩))
      ⊢ wp frame (wpE (defs₀ (F := F)) 𝒱₀ c none) Set.univ
        (sbody (F := F) rowsM okM eM oM (Memref.isWhole_whole _) gM pM (Memref.isWhole_whole _) rM (Memref.isWhole_whole _)
          cc0_scratch3 cc0_scratch4 cc0_scratch5 cc0_scratch6 cc0_scratch7) Kt := by
  iintro ⟨⟨#Hctx, Hat, Hc, HtY, HrY, HtX, HrX, HJ, HR, Hok, H0, H1, HO⟩, Hk⟩
  ihave HJ := (show (bigSep Finset.univ fun j => iprop(openJ (F := F) c j ∗ tokJ (F := F) c j ∗ credJ (F := F) c j ∗ bufJ (F := F) c j) : sProp 𝕄)
      ⊢ iprop((bigSep Finset.univ fun j => handY (F := F) (peerY c) j) ∗ (bigSep Finset.univ fun j => handX (F := F) (peerX c) j) ∗ bigSep Finset.univ fun j => restJ (F := F) c j) from
    by rw [← sep3]; exact bigSep_mono fun j _ => giveJ c j) $$ HJ
  icases HJ with ⟨HpY, HpX, HJ⟩
  unfold sbody
  simp only [wp_bind]
  rw [wp_dev]
  imodintro
  iapply (wp_hello D K c W _)
  isplitl [Hat Hc HtY HrY HpY HtX HrX HpX HO]
  · isplitr; · iexact Hctx
    isplitl [Hat]; · iexact Hat
    isplitl [Hc]; · iexact Hc
    isplitl [HtY]; · iexact HtY
    isplitl [HrY]; · iexact HrY
    isplitl [HpY]; · unfold barPay; iexact HpY
    isplitl [HtX]; · iexact HtX
    isplitl [HrX]; · iexact HrX
    isplitl [HpX]; · unfold barPay; iexact HpX
    iexact HO
  iintro ⟨Hvb, HY, HX, HO⟩
  ihave HJ := (show iprop((bigSep Finset.univ fun j => handY (F := F) c j) ∗ (bigSep Finset.univ fun j => handX (F := F) c j) ∗ bigSep Finset.univ fun j => restJ (F := F) c j)
      ⊢ iprop(bigSep Finset.univ (ph D c 0 0 0) ∗ bigSep Finset.univ (xPart D c 0) ∗ bigSep Finset.univ fun j => posJ (F := F) c j) from
    by rw [← sep3, ← sep3]; exact bigSep_mono fun j _ => takeJ D c j) $$ [HY HX HJ]
  · isplitl [HY]; · iexact HY
    isplitl [HX] <;> iassumption
  icases HJ with ⟨HP, Hx, Hpos⟩
  ihave HS : St D K c 0 0 0 (free D c 0) (free D c 1) $$ [HR Hok HO H0 H1 HP]
  · unfold St
    isplitr; · iexact Hctx
    isplitl [HR]; · iexact HR
    isplitl [Hok]; · iexact Hok
    isplitl [HO]; · iexact HO
    isplitl [H0]; · iexact H0
    isplitl [H1] <;> iassumption
  iapply (seg_g D K c 0 0 0 1 0 0 rfl rfl (by decide) _ _); isplitl [HS]; · iexact HS
  iintro HS
  iapply (seg_g D K c 1 1 1 2 0 0 rfl rfl (by decide) _ _); isplitl [HS]; · iexact HS
  iintro HS
  iapply (seg_a D K c 0 0 2 0 1 0 rfl rfl (by decide) (by decide) _ _); isplitl [HS]; · iexact HS
  iintro HS
  iapply (seg_g D K c 2 0 2 3 1 0 rfl rfl (by decide) _ _); isplitl [HS]; · iexact HS
  iintro HS
  iapply (seg_a D K c 1 1 3 1 2 0 rfl rfl (by decide) (by decide) _ _); isplitl [HS]; · iexact HS
  iintro HS
  iapply (seg_g D K c 3 1 3 4 2 0 rfl rfl (by decide) _ _); isplitl [HS]; · iexact HS
  iintro HS
  iapply (seg_f D K c 0 4 2 0 1 rfl rfl (by decide) _ _ _); isplitl [HS]; · iexact HS
  iintro HS
  iapply (seg_a D K c 2 0 4 2 3 1 rfl rfl (by decide) (by decide) _ _); isplitl [HS]; · iexact HS
  iintro HS
  iapply (seg_g D K c 4 0 4 5 3 1 rfl rfl (by decide) _ _); isplitl [HS]; · iexact HS
  iintro HS
  iapply (seg_f D K c 1 5 3 1 2 rfl rfl (by decide) _ _ _); isplitl [HS]; · iexact HS
  iintro HS
  iapply (seg_a D K c 3 1 5 3 4 2 rfl rfl (by decide) (by decide) _ _); isplitl [HS]; · iexact HS
  iintro HS
  iapply (seg_g D K c 5 1 5 6 4 2 rfl rfl (by decide) _ _); isplitl [HS]; · iexact HS
  iintro HS
  iapply (seg_f D K c 2 6 4 2 3 rfl rfl (by decide) _ _ _); isplitl [HS]; · iexact HS
  iintro HS
  iapply (seg_a D K c 4 0 6 4 5 3 rfl rfl (by decide) (by decide) _ _); isplitl [HS]; · iexact HS
  iintro HS
  iapply (seg_g D K c 6 0 6 7 5 3 rfl rfl (by decide) _ _); isplitl [HS]; · iexact HS
  iintro HS
  iapply (seg_f D K c 3 7 5 3 4 rfl rfl (by decide) _ _ _); isplitl [HS]; · iexact HS
  iintro HS
  iapply (seg_a D K c 5 1 7 5 6 4 rfl rfl (by decide) (by decide) _ _); isplitl [HS]; · iexact HS
  iintro HS
  iapply (seg_g D K c 7 1 7 8 6 4 rfl rfl (by decide) _ _); isplitl [HS]; · iexact HS
  iintro HS
  iapply (seg_f D K c 4 8 6 4 5 rfl rfl (by decide) _ _ _); isplitl [HS]; · iexact HS
  iintro HS
  iapply (seg_a D K c 6 0 8 6 7 5 rfl rfl (by decide) (by decide) _ _); isplitl [HS]; · iexact HS
  iintro HS
  iapply (seg_f D K c 5 8 7 5 6 rfl rfl (by decide) _ _ _); isplitl [HS]; · iexact HS
  iintro HS
  ihave HS := (St_swap D K c 8 7 6 _ _) $$ HS
  iapply (seg_a D K c 7 1 8 7 8 6 rfl rfl (by decide) (by decide) _ _); isplitl [HS]; · iexact HS
  iintro HS
  iapply (seg_f D K c 6 8 8 6 7 rfl rfl (by decide) _ _ _); isplitl [HS]; · iexact HS
  iintro HS
  iapply (seg_f D K c 7 8 8 7 8 rfl rfl (by decide) _ _ _); isplitl [HS]; · iexact HS
  iintro HS
  unfold St
  icases HS with ⟨-, HR, Hok, HO, H1, H0, HP⟩
  ihave HP := (show iprop(bigSep Finset.univ (ph D c 8 8 8) ∗ bigSep Finset.univ fun j => posJ (F := F) c j)
      ⊢ iprop(bigSep Finset.univ (ePart D c 0) ∗ bigSep Finset.univ (keepJ D c)) from
    by rw [← sep2, ← sep2]; exact bigSep_mono fun j _ => endJ D c j) $$ [HP Hpos]
  · isplitl [HP] <;> iassumption
  icases HP with ⟨He, Hkp⟩
  iapply (wp_waitXs D K c 8 0 _ rfl _)
  isplitl [Hx HO]
  · isplitr; · iexact Hctx
    isplitl [Hx] <;> iassumption
  iintro ⟨Hx, HO⟩
  iapply (wp_waitEnds D K c 8 0 _ rfl _)
  isplitl [He HO]
  · isplitr; · iexact Hctx
    isplitl [He] <;> iassumption
  iintro ⟨He, HO⟩
  iapply Hk
  isplitl [Hvb]; · iexact Hvb
  isplitl [Hx He Hkp]
  · iapply (show iprop(bigSep Finset.univ (xPart D c 8) ∗ bigSep Finset.univ (ePart D c 8) ∗ bigSep Finset.univ (keepJ D c)) ⊢ bigSep Finset.univ (doneJ D c) from
      by rw [← sep3]; exact bigSep_mono fun j _ => finJ D c j)
    isplitl [Hx]; · iexact Hx
    isplitl [He] <;> iassumption
  isplitl [HR]; · iexact HR
  isplitl [Hok]; · iexact Hok
  isplitl [H0]; · iexact H0
  isplitl [H1]; · iexact H1
  icases HO with ⟨%W', HO⟩
  iexists W'
  iapply (Entails.of_eq (congrArg (fun O => (owes (c : Thread nD τ) O W' : sProp 𝕄)) (show oweAt c 8 8 = 0 by unfold oweAt; rw [owe_done, owe_done, add_zero])))
  iexact HO

end Cert.KernelIdeal.K

end
-- ==== Proof.Buffers.lean ====
module

public import proofs.«01_k».proof.Proof.Whole

/-! # The buffers, whole and by chunks

The region hands the body its buffers whole; the body works on chunks of rows. -/

@[expose] public section

noncomputable section

namespace Cert.KernelIdeal.K

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal.Gen Cert.KernelIdeal.Body

variable {F : FTy → Type} [FloatOps F]

local notation "𝕄" => MT nD τ sig Unit (Elt F) ℕ UU ℕ

variable (D : Data F) (c : Dev nD)

/-- A buffer of 1024 rows is its eight chunks. -/
theorem whole8 {ℓ : Loc nD τ sig} (row : Idx ℓ → ℕ) (hr : ∀ i, row i < 1024) (f : Buf (Elt F) ℓ) :
    (ℓ ↦{fullShare} f : sProp 𝕄) = bigSep Finset.univ fun j : Fin 8 => ℓ ↦[band row (128 * j.val) 128]{fullShare} f := by
  have h := pts_bands (F := F) row fullShare f 0 128 8 (by decide)
  rw [band_all row (128 * 8) hr] at h
  simpa only [Nat.zero_add] using h

theorem sepF2 (Φ : Fin 2 → sProp 𝕄) : bigSep Finset.univ Φ = iprop(Φ 0 ∗ Φ 1) :=
  (bigSep_univ_eq_bigSepL [(0 : Fin 2), 1] (by decide) (by decide) Φ).trans rfl

/-- The result's staging buffer is the chunks of the own half and those of the other. -/
theorem whole16 (f : S2048x1024.Idx → Elt F .bf16) :
    ((c : Thread nD τ).loc cc0_stg2_0 ↦{fullShare} f : sProp 𝕄)
      = iprop((bigSep Finset.univ fun j => oPts c (mineLo c j) f) ∗ bigSep Finset.univ fun j => oPts c (otherLo c j) f) := by
  have h := pts_bands (F := F) (ℓ := (c : Thread nD τ).loc cc0_stg2_0) rowO fullShare f 0 1024 2 (by decide)
  rw [band_all rowO (1024 * 2) (fun i => (i 0).isLt), sepF2] at h
  have hb : ∀ lo, ((c : Thread nD τ).loc cc0_stg2_0 ↦[band rowO lo 1024]{fullShare} f : sProp 𝕄)
      = bigSep Finset.univ fun j : Fin 8 => oPts c (lo + 128 * j.val) f :=
    fun lo => pts_bands (F := F) (ℓ := (c : Thread nD τ).loc cc0_stg2_0) rowO fullShare f lo 128 8 (by decide)
  rw [hb, hb] at h
  refine h.trans ?_
  have hc : c.val < 4 := c.isLt
  have e0 : ∀ j : Fin 8, (0 + 1024 * (0 : Fin 2).val + 128 * j.val) = 1024 * 0 + 128 * j.val := fun j => by simp
  have e1 : ∀ j : Fin 8, (0 + 1024 * (1 : Fin 2).val + 128 * j.val) = 1024 * 1 + 128 * j.val := fun j => by simp
  simp only [e0, e1]
  rcases (show c.val / 2 = 0 ∨ c.val / 2 = 1 by omega) with hx | hx
  · have hm : ∀ j, mineLo c j = 1024 * 0 + 128 * j.val := fun j => by unfold mineLo; rw [hx]
    have ho : ∀ j, otherLo c j = 1024 * 1 + 128 * j.val := fun j => by unfold otherLo; rw [hx]
    simp only [hm, ho]
  · have hm : ∀ j, mineLo c j = 1024 * 1 + 128 * j.val := fun j => by unfold mineLo; rw [hx]
    have ho : ∀ j, otherLo c j = 1024 * 0 + 128 * j.val := fun j => by unfold otherLo; rw [hx]
    simp only [hm, ho]
    exact equiv_iff.mp ⟨BI.sep_comm, BI.sep_comm⟩

theorem ex8 {α : Type} (A : Fin 8 → α → sProp 𝕄) (f : α) :
    (bigSep Finset.univ fun j => A j f : sProp 𝕄) ⊢ bigSep Finset.univ fun j => iprop(∃ f, A j f) :=
  bigSep_mono fun j _ => by
    show A j f ⊢ iprop(∃ f, A j f)
    iintro H; iexists f; iexact H

/-- The four buffers, whole, at some contents: what the chunks take. -/
def scr : sProp 𝕄 :=
  iprop((∃ f : Buf (Elt F) ((c : Thread nD τ).loc cc0_scratch0), (c : Thread nD τ).loc cc0_scratch0 ↦{fullShare} f)
    ∗ (∃ f : Buf (Elt F) ((c : Thread nD τ).loc cc0_scratch1), (c : Thread nD τ).loc cc0_scratch1 ↦{fullShare} f)
    ∗ (∃ f : Buf (Elt F) ((c : Thread nD τ).loc cc0_scratch2), (c : Thread nD τ).loc cc0_scratch2 ↦{fullShare} f))

theorem buf_in (f : S2048x1024.Idx → Elt F .bf16) :
    iprop(scr (F := F) c ∗ (c : Thread nD τ).loc cc0_stg2_0 ↦{fullShare} f) ⊢ bigSep Finset.univ (bufJ (F := F) c) := by
  unfold scr
  iintro ⟨⟨⟨%f0, H0⟩, ⟨%f1, H1⟩, ⟨%f2, H2⟩⟩, Ho⟩
  ihave H0 := (Entails.of_eq (whole8 (F := F) (ℓ := (c : Thread nD τ).loc cc0_scratch0) rowG (fun i => (i 0).isLt) f0)) $$ H0
  ihave H1 := (Entails.of_eq (whole8 (F := F) (ℓ := (c : Thread nD τ).loc cc0_scratch1) rowG (fun i => (i 0).isLt) f1)) $$ H1
  ihave H2 := (Entails.of_eq (whole8 (F := F) (ℓ := (c : Thread nD τ).loc cc0_scratch2) rowG (fun i => (i 0).isLt) f2)) $$ H2
  ihave Ho := (Entails.of_eq (whole16 c f)) $$ Ho
  icases Ho with ⟨Hm, Hx⟩
  unfold bufJ gAny
  rw [bigSep_sep', bigSep_sep', bigSep_sep', bigSep_sep']
  isplitl [H0]
  · iapply (ex8 (fun j f => ((c : Thread nD τ).loc cc0_scratch0 ↦[band rowG (128 * j.val) 128]{fullShare} f : sProp 𝕄)) f0); iexact H0
  isplitl [H1]; · iapply (ex8 (fun j f => pPts c j fullShare f) f1); iexact H1
  isplitl [H2]; · iapply (ex8 (fun j f => rPts c j f) f2); iexact H2
  isplitl [Hm]; · iapply (ex8 (fun j f => oPts c (mineLo c j) f) f); iexact Hm
  iapply (ex8 (fun j f => oPts c (otherLo c j) f) f); iexact Hx

theorem buf_out :
    bigSep Finset.univ (doneJ D c)
      ⊢ iprop((bigSep Finset.univ (semJ (F := F) c)) ∗ scr (F := F) c ∗ (c : Thread nD τ).loc cc0_stg2_0 ↦{fullShare} outv D c) := by
  unfold doneJ scr
  rw [bigSep_sep', bigSep_sep', bigSep_sep', bigSep_sep', bigSep_sep']
  iintro ⟨Hs, H0, H1, H2, Hm, Hx⟩
  isplitl [Hs]; · iexact Hs
  isplitl [H0 H1 H2]
  · isplitl [H0]
    · iexists (gath (D.R c) (D.hR c) (D.E c))
      iapply (Entails.of_eq (whole8 (F := F) (ℓ := (c : Thread nD τ).loc cc0_scratch0) rowG (fun i => (i 0).isLt) _).symm)
      unfold gHas; iexact H0
    isplitl [H1]
    · iexists (pv D c)
      iapply (Entails.of_eq (whole8 (F := F) (ℓ := (c : Thread nD τ).loc cc0_scratch1) rowG (fun i => (i 0).isLt) _).symm)
      iexact H1
    iexists (pv D (peerY c))
    iapply (Entails.of_eq (whole8 (F := F) (ℓ := (c : Thread nD τ).loc cc0_scratch2) rowG (fun i => (i 0).isLt) _).symm)
    iexact H2
  iapply (Entails.of_eq (whole16 c (outv D c)).symm)
  isplitl [Hm] <;> iassumption

/-- The table by its two shares. -/
theorem tab_split (E : Table F) : (tabPts E c fullShare : sProp 𝕄) = iprop(tabPts E c (qs 0) ∗ tabPts E c (qs 1)) := by
  unfold tabPts
  have h : (tabPts E c fullShare : sProp 𝕄) ⊣⊢ iprop(tabPts E c fullShare.left ∗ tabPts E c fullShare.right) :=
    pointsTo_share (PosShare.mem_left_op_right fullShare)
  exact equiv_iff.mp ⟨h.1, h.2⟩

end Cert.KernelIdeal.K

end
-- ==== Proof.Host.lean ====
module

public import proofs.«01_k».proof.Proof.Buffers
public import Idealize.ShloMosaic.Lib.Claim
public import Idealize.ShloMosaic.Lib.WordCmp
public import Idealize.ShloMosaic.Lib.StableHlo.Run

/-! # What the host lines before the kernel compute

The row numbers of the half batch, local to the half table (zero for another half's), and the mask. -/

@[expose] public section

noncomputable section

namespace Cert.KernelIdeal.K

open Idealize.ShloMosaic Idealize.ShloMosaic.TcCoe
open Cert.KernelIdeal.Gen Cert.KernelIdeal.Body

variable {F : FTy → Type} [FloatOps F]
variable (m : (ℓ : Loc nD τ sig) → Buf (Elt F) ℓ) (c : Dev nD)

/-- The numbers less the own half's first row, and whether they name a row of the own half. -/
abbrev lid : S1024.Idx → BitVec 32 := V1 m c main_v16
abbrev own : S1024.Idx → BitVec 1 := V1 m c main_v21

theorem rows_val : (V3 m c main_v22 : S1024.Idx → BitVec 32) = select (own m c) (lid m c) (fun _ => 0#32) := by
  refine (V3_of m c main_v22 (by decide)).trans ?_
  unfold_abbrev_sides
  after_results
  rfl

theorem own_val : own m c = andi (cmpi .sge (lid m c) (fun _ => 0#32)) (cmpi .slt (lid m c) (fun _ => 16384#32)) := by
  unfold_abbrev_sides
  after_results
  rfl

theorem own_at (i : S1024.Idx) : own m c i = BitVec.ofBool (decide ((lid m c i).toNat < 16384)) := by
  rw [own_val]
  show IntOp.andi (IntOp.cmpi .sge (lid m c i) 0#32) (IntOp.cmpi .slt (lid m c i) (BitVec.ofNat 32 16384)) = _
  exact WordCmp.andi_sge_zero_slt_ofNat (by decide) _

theorem rows_at (i : S1024.Idx) :
    (V3 m c main_v22 : S1024.Idx → BitVec 32) i = if (lid m c i).toNat < 16384 then lid m c i else 0#32 := by
  rw [rows_val]
  show (if own m c i = 1#1 then lid m c i else 0#32) = _
  rw [own_at]
  by_cases h : (lid m c i).toNat < 16384
  · rw [if_pos h, if_pos (by rw [decide_eq_true h]; rfl)]
  · rw [if_neg h, if_neg (by rw [decide_eq_false h]; decide)]

theorem rows_ok : RowsOk (F := F) (V3 m c main_v22) := fun i => by
  show ((V3 m c main_v22 : S1024.Idx → BitVec 32) i).toNat < 16384
  rw [rows_at]
  split
  · assumption
  · decide

/-- The memory's data: what the lines before the kernel leave for it, and the tables. -/
def dataOf : Data F where
  R c := V3 m c main_v22
  hR c := rows_ok m c
  O c := V3 m c main_v24
  E c := V3 m c main_arg1

end Cert.KernelIdeal.K

end
-- ==== Proof.Region.lean ====
module

public import proofs.«01_k».proof.Proof.Host

/-! # The region: the body's triple as the pipeline's obligation, and the record of the region -/

@[expose] public section

noncomputable section

namespace Cert.KernelIdeal.K

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat BodyObligation)
open Cert.KernelIdeal.Gen Cert.KernelIdeal.Body

variable {F : FTy → Type} [FloatOps F]

local notation "𝕄" => MT nD τ sig Unit (Elt F) ℕ UU ℕ

variable (m : (ℓ : Loc nD τ sig) → Buf (Elt F) ℓ)

/-! ## The kernel's own semaphores -/

def osem : Fin 2 ⊕ (Fin 8 × Fin 4) → SemLoc sig
  | .inl s => .dma (gS s)
  | .inr (j, k) => sm k j

theorem osem_facts : Pipeline.OwnSemFacts spec0 osem := by decide

theorem sepF4 (Φ : Fin 4 → sProp 𝕄) : bigSep Finset.univ Φ = iprop(Φ 0 ∗ Φ 1 ∗ Φ 2 ∗ Φ 3) :=
  (bigSep_univ_eq_bigSepL [(0 : Fin 4), 1, 2, 3] (by decide) (by decide) Φ).trans rfl

theorem ownSems_eq (c : Dev nD) : (Pipeline.ownSems0 osem c : sProp 𝕄)
    = iprop((semVal ((c : Thread nD τ), .dma (gS 0)) 0 ∗ semVal ((c : Thread nD τ), .dma (gS 1)) 0) ∗ bigSep Finset.univ (semJ (F := F) c)) := by
  unfold Pipeline.ownSems0 semJ
  rw [BI.bigSep_univ_sum, sepF2, bigSep_univ_prod]
  congr 1
  exact bigSep_congr fun j _ => sepF4 _

/-! ## What rides to the region, enters it, and comes back -/

variable (D : Data F) (c : Dev nD)

/-- The barrier's part. -/
def barG : sProp 𝕄 :=
  iprop(atPos ER (barCell c) 0 ∅ 0 ∗ cred (tallyAt (barCell c) () 2)
    ∗ dutyTok ER (barCell (peerY c)) 0 false ∗ reached ER (barCell (peerY c)) 0
    ∗ dutyTok ER (barCell (peerX c)) 0 true ∗ reached ER (barCell (peerX c)) 0)
/-- A chunk's cells, not yet opened. -/
def shutJ (j : Fin 8) : sProp 𝕄 :=
  iprop(openTok ER (cell 0 j c) ∗ openTok ER (cell 1 j c) ∗ openTok ER (cell 2 j c) ∗ openTok ER (cell 3 j c))
def Tk : sProp 𝕄 :=
  iprop(∃ K, recs D K ∗ barG (F := F) c ∗ bigSep Finset.univ fun j => iprop(shutJ (F := F) c j ∗ tokJ (F := F) c j ∗ credJ (F := F) c j))
def Xk : sProp 𝕄 :=
  iprop(∃ K, ctx D K ∗ barG (F := F) c ∗ (bigSep Finset.univ fun j => iprop(openJ (F := F) c j ∗ tokJ (F := F) c j ∗ credJ (F := F) c j))
    ∗ (semVal ((c : Thread nD τ), .dma (gS 0)) 0 ∗ semVal ((c : Thread nD τ), .dma (gS 1)) 0))

theorem open_cell (K : GSem nD τ sig → ℕ) (k : Fin 4) (j : Fin 8) :
    iprop(recs D K ∗ openTok ER (cell k j c) ∗ semVal (cell k j c) 0) ⊢ iprop(|={Set.univ}=> (atPos ER (cell k j c) 0 ∅ 0 ∗ reached ER (cell k j c) 0) : sProp 𝕄) := by
  iintro ⟨HR, Ho, Hv⟩
  iapply (Rounds.cell_open ER (rd D) (g := cell k j c) (Set.mem_univ (K (cell k j c))))
  isplitl [HR]; · iapply (rec_cell D K k j c); iexact HR
  isplitl [Ho] <;> iassumption

theorem openJ_of (K : GSem nD τ sig → ℕ) (j : Fin 8) :
    iprop(recs D K ∗ (shutJ (F := F) c j ∗ semJ (F := F) c j)) ⊢ iprop(|={Set.univ}=> openJ (F := F) c j : sProp 𝕄) := by
  unfold shutJ semJ openJ
  iintro ⟨#HR, ⟨Ho0, Ho1, Ho2, Ho3⟩, Hv0, Hv1, Hv2, Hv3⟩
  imod (open_cell D c K 0 j) $$ [Ho0 Hv0] with H0
  · isplitr; · iexact HR
    isplitl [Ho0] <;> iassumption
  imod (open_cell D c K 1 j) $$ [Ho1 Hv1] with H1
  · isplitr; · iexact HR
    isplitl [Ho1] <;> iassumption
  imod (open_cell D c K 2 j) $$ [Ho2 Hv2] with H2
  · isplitr; · iexact HR
    isplitl [Ho2] <;> iassumption
  imod (open_cell D c K 3 j) $$ [Ho3 Hv3] with H3
  · isplitr; · iexact HR
    isplitl [Ho3] <;> iassumption
  imodintro
  isplitl [H0]; · iexact H0
  isplitl [H1]; · iexact H1
  isplitl [H2] <;> iassumption

theorem hopen : iprop(Tk D c ∗ Pipeline.ownSems0 osem c ∗ levAts L lv) ⊢ (|={Set.univ}=> Xk D c : sProp 𝕄) := by
  rw [ownSems_eq]
  unfold Tk Xk
  rw [sep3, sep3]
  iintro ⟨⟨%K, #HR, Hb, Ho, Ht, Hc⟩, ⟨Hg, Hv⟩, #Hlev⟩
  imod ((bigSep_with_persistent (R := recs D K) (Φ := fun j => iprop(shutJ (F := F) c j ∗ semJ (F := F) c j)) fun j _ => openJ_of D c K j).trans (BI.bigSep_fupd _ _)) $$ [Ho Hv] with Hop
  · isplitr; · iexact HR
    iapply (Entails.of_eq (sep2 (F := F) _ _).symm)
    isplitl [Ho] <;> iassumption
  imodintro
  iexists K
  isplitr
  · unfold ctx; isplitr; · iexact HR
    iexact Hlev
  isplitl [Hb]; · iexact Hb
  isplitl [Hop Ht Hc]
  · isplitl [Hop]; · iexact Hop
    isplitl [Ht] <;> iassumption
  iexact Hg

/-! ## The body's obligation -/

/-- The region's valuation at exit: the result written. -/
abbrev outs : Outs (F := F) := fun _ r c => if h : r = main_v25 then h ▸ outv (dataOf m) c else V3 m c r

def dat (c : Dev nD) : Dat τ (Elt F) Unit ℕ UU ℕ cfg0 c where
  A w := V3 m c (Proc.devRef .tc (Pipeline.arrRef spec0 w))
  after w _ := match w with
    | ⟨0, _⟩ => (dataOf m).R c
    | ⟨1, _⟩ => (dataOf m).O c
    | ⟨2, _⟩ => outv (dataOf m) c
  Φ t := if t.val = 0 then iprop(scr (F := F) c ∗ (∃ r, prngReg c r) ∗ tabPts ((dataOf m).E c) c fullShare ∗ Xk (dataOf m) c)
    else iprop(scr (F := F) c ∗ (∃ r, prngReg c r) ∗ tabPts ((dataOf m).E c) c fullShare ∗ Pipeline.ownSems0 osem c ∗ semVal (barCell c) 0)
  q _ := fullShare
  owed t := if t.val = 0 then O₀ c else 0

def pdats : (p : Fin 1) → (c : Dev nD) → Dat τ (Elt F) Unit ℕ UU ℕ (Pipeline.pin (pcfgs (F := F)) adm p) c
  | 0 => dat m

omit [FloatOps F] in
theorem owns_whole_eq (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ ((c : Thread nD τ).loc b ↦{fullShare} f)) := by
  unfold owns; simp only [Memref.view_whole, View.read_whole, View.set_whole]

/-! A window's one block is its whole array. -/

theorem read_0 (f : S1024.Idx → Elt F .i32) : ((cfg0.win 0).blk t0_0).view.read (Elt F) f = f := by
  funext y
  show f (((cfg0.win 0).rect t0_0).emb y) = f y
  congr 1
  funext a
  exact Fin.ext (Pipeline.Window.rect_emb_val_of_index_zero (cfg0.win 0) t0_0 a (by revert a; decide) y)
theorem read_1 (f : S1024x1.Idx → Elt F .f32) : ((cfg0.win 1).blk t0_0).view.read (Elt F) f = f := by
  funext y
  show f (((cfg0.win 1).rect t0_0).emb y) = f y
  congr 1
  funext a
  exact Fin.ext (Pipeline.Window.rect_emb_val_of_index_zero (cfg0.win 1) t0_0 a (by revert a; decide) y)
theorem emb_2 (y) (a : Fin 2) : (((cfg0.win 2).rect t0_0).emb y a).val = (y a).val :=
  Pipeline.Window.rect_emb_val_of_index_zero (cfg0.win 2) t0_0 a (by revert a; decide) y
theorem read_2 (f : S2048x1024.Idx → Elt F .bf16) : ((cfg0.win 2).blk t0_0).view.read (Elt F) f = f := by
  funext y
  show f (((cfg0.win 2).rect t0_0).emb y) = f y
  congr 1
  funext a
  exact Fin.ext (emb_2 y a)

theorem before_0 (A : Dat τ (Elt F) Unit ℕ UU ℕ cfg0 c) (d) : A.before (0 : Fin 3) t0_0 d = A.A 0 := by
  unfold Dat.before; rw [if_pos (fetch0_0 t0_0)]
  funext j
  unfold Dat.fetched Pipeline.Window.fill
  rw [dif_pos (((cfg0.win 0).moved_iff _ j).mpr fun a => (j a).isLt)]
  exact congrFun (read_0 (A.A 0)) _
theorem before_1 (A : Dat τ (Elt F) Unit ℕ UU ℕ cfg0 c) (d) : A.before (1 : Fin 3) t0_0 d = A.A 1 := by
  unfold Dat.before; rw [if_pos (fetch0_1 t0_0)]
  funext j
  unfold Dat.fetched Pipeline.Window.fill
  rw [dif_pos (((cfg0.win 1).moved_iff _ j).mpr fun a => (j a).isLt)]
  exact congrFun (read_1 (A.A 1)) _
theorem arrAt_2 (A : Dat τ (Elt F) Unit ℕ UU ℕ cfg0 c) : A.arrAt (2 : Fin 3) cfg0.N = A.after 2 t0_0 := by
  refine A.arrAt_eq_of_cover 2 (A.after 2 t0_0) (fun t _ => ?_) (fun i => ⟨t0_0, flush0_2 t0_0, ?_⟩)
  · obtain rfl := fin_N0 t
    exact (read_2 (A.after 2 t0_0)).symm
  · refine Finset.mem_map.mpr ⟨i, Finset.mem_univ _, ?_⟩
    funext a
    exact Fin.ext (emb_2 i a)

theorem owesAt_intro {cfg : Pipeline.Cfg sig Λ₀} {c : Dev nD} (A : Dat τ (Elt F) Unit ℕ UU ℕ cfg c) (t : Fin (cfg.N + 1))
    (O : CellTallies nD τ sig Unit) (h0 : A.owed t = O) (hr : A.recorded t = Set.univ) :
    (owesAny c O : sProp 𝕄) ⊢ (A.owesAt () t : sProp 𝕄) := by
  unfold Dat.owesAt Pipeline.owesWithin Dat.bound; rw [h0, hr]
  iintro ⟨%W, HO⟩; iexists W; isplitr; · ipureintro; exact fun _ _ => Or.inl trivial
  iexact HO
theorem owesAt_elim {cfg : Pipeline.Cfg sig Λ₀} {c : Dev nD} (A : Dat τ (Elt F) Unit ℕ UU ℕ cfg c) (t : Fin (cfg.N + 1))
    (O : CellTallies nD τ sig Unit) (h0 : A.owed t = O) : (A.owesAt () t : sProp 𝕄) ⊢ (owesAny c O : sProp 𝕄) := by
  unfold Dat.owesAt Pipeline.owesWithin; rw [h0]
  iintro ⟨%W, -, HO⟩; iexists W; iexact HO

abbrev Φ₀ : sProp 𝕄 :=
  iprop(scr (F := F) c ∗ (∃ r, prngReg c r) ∗ tabPts ((dataOf m).E c) c fullShare ∗ Xk (dataOf m) c)
abbrev Φ₁ : sProp 𝕄 :=
  iprop(scr (F := F) c ∗ (∃ r, prngReg c r) ∗ tabPts ((dataOf m).E c) c fullShare ∗ Pipeline.ownSems0 osem c ∗ semVal (barCell c) 0)
theorem owed_at (t) : (dat m c).owed t = if t.val = 0 then O₀ c else 0 := rfl
theorem phi_at (t) : (dat m c).Φ t = if t.val = 0 then Φ₀ m c else Φ₁ m c := rfl
theorem last_ne : ¬(Fin.last cfg0.N).val = 0 := by rw [Fin.val_last, show cfg0.N = 1 from N_0]; decide
theorem owed_first : (dat m c).owed t0_0.castSucc = O₀ c := by rw [owed_at]; exact if_pos rfl
theorem owed_last : (dat m c).owed t0_0.succ = 0 := by rw [owed_at]; exact if_neg (by decide)
theorem owed_end : (dat m c).owed (Fin.last _) = 0 := by rw [owed_at]; exact if_neg last_ne
theorem phi_first : (dat m c).Φ t0_0.castSucc = Φ₀ m c := by rw [phi_at]; exact if_pos rfl
theorem phi_last : (dat m c).Φ t0_0.succ = Φ₁ m c := by rw [phi_at]; exact if_neg (by decide)
theorem phi_zero : (dat m c).Φ 0 = Φ₀ m c := by rw [phi_at]; exact if_pos rfl
theorem phi_end : (dat m c).Φ (Fin.last _) = Φ₁ m c := by rw [phi_at]; exact if_neg last_ne

theorem bundle : iprop((bigSep Finset.univ fun j => iprop(openJ (F := F) c j ∗ tokJ (F := F) c j ∗ credJ (F := F) c j)) ∗ bigSep Finset.univ (bufJ (F := F) c))
    ⊢ bigSep Finset.univ fun j => iprop(openJ (F := F) c j ∗ tokJ (F := F) c j ∗ credJ (F := F) c j ∗ bufJ (F := F) c j) := by
  rw [← sep2]
  refine bigSep_mono fun j _ => ?_
  show iprop((openJ (F := F) c j ∗ tokJ (F := F) c j ∗ credJ (F := F) c j) ∗ bufJ (F := F) c j)
    ⊢ iprop(openJ (F := F) c j ∗ tokJ (F := F) c j ∗ credJ (F := F) c j ∗ bufJ (F := F) c j)
  iintro ⟨⟨H1, H2, H3⟩, H4⟩
  isplitl [H1]; · iexact H1
  isplitl [H2]; · iexact H2
  isplitl [H3] <;> iassumption

/-- The body's triple, at the printed body. -/
theorem wp_body (K : GSem nD τ sig → ℕ) (W : Waits sig Unit) (Kt : PUnit → sProp 𝕄) :
    iprop((ctx D K ∗ atPos ER (barCell c) 0 ∅ 0 ∗ cred (tallyAt (barCell c) () 2)
        ∗ dutyTok ER (barCell (peerY c)) 0 false ∗ reached ER (barCell (peerY c)) 0
        ∗ dutyTok ER (barCell (peerX c)) 0 true ∗ reached ER (barCell (peerX c)) 0
        ∗ (bigSep Finset.univ fun j => iprop(openJ (F := F) c j ∗ tokJ (F := F) c j ∗ credJ (F := F) c j ∗ bufJ (F := F) c j))
        ∗ rowsPts (D.R c) c ∗ okPts D c ∗ free D c 0 ∗ free D c 1 ∗ owes (c : Thread nD τ) (O₀ c) W)
      ∗ ((semVal (barCell c) 0 ∗ bigSep Finset.univ (doneJ D c) ∗ rowsPts (D.R c) c ∗ okPts D c ∗ free D c 0 ∗ free D c 1 ∗ owesAny c 0) -∗ Kt ⟨⟩))
      ⊢ wp frame (wpE (defs₀ (F := F)) 𝒱₀ c none) Set.univ
        (cc0_body (F := F) rowsM (Memref.isWhole_whole _) okM (Memref.isWhole_whole _) eM (Memref.isWhole_whole _) oM (Memref.isWhole_whole _)
          gM (Memref.isWhole_whole _) pM (Memref.isWhole_whole _) rM (Memref.isWhole_whole _)
          cc0_scratch3 cc0_scratch4 cc0_scratch5 cc0_scratch6 cc0_scratch7) Kt := by
  rw [body_eq]
  exact wp_sbody D K c W Kt

set_option maxRecDepth 4000 in
theorem body_obligation (c : Dev nD) : BodyObligation (dat (F := F) m c) (defs₀ (F := F)) 𝒱₀ () Set.univ := fun t => by
  obtain rfl := fin_N0 t
  rw [bigSep_W0, bigSep_W0, phi_first, phi_last]
  simp only [owns_whole_eq]
  iintro ⟨⟨Hs, Hp, HE, HX⟩, HO, ⟨%d0, %f0, %hf0, H0⟩, ⟨%d1, %f1, %hf1, H1⟩, ⟨%d2, %f2, %hf2, H2⟩⟩
  rw [before_0] at hf0
  rw [before_1] at hf1
  subst hf0 hf1
  ihave HO := (owesAt_elim (dat m c) _ (O₀ c) (owed_first m c)) $$ HO
  icases HO with ⟨%W, HO⟩
  unfold Xk barG
  icases HX with ⟨%K, #Hctx, ⟨Hat, Hcb, HtY, HrY, HtX, HrX⟩, HJ, Hg0, Hg1⟩
  ihave Hbuf := (buf_in c f2) $$ [Hs H2]
  · isplitl [Hs] <;> iassumption
  ihave HE := (Entails.of_eq (tab_split c ((dataOf m).E c))) $$ HE
  icases HE with ⟨HE0, HE1⟩
  iapply (wp_body (dataOf m) c K W _)
  isplitl [Hat Hcb HtY HrY HtX HrX HJ Hbuf H0 H1 HE0 HE1 Hg0 Hg1 HO]
  · isplitr; · iexact Hctx
    isplitl [Hat]; · iexact Hat
    isplitl [Hcb]; · iexact Hcb
    isplitl [HtY]; · iexact HtY
    isplitl [HrY]; · iexact HrY
    isplitl [HtX]; · iexact HtX
    isplitl [HrX]; · iexact HrX
    isplitl [HJ Hbuf]
    · iapply (bundle c)
      isplitl [HJ] <;> iassumption
    isplitl [H0]; · iexact H0
    isplitl [H1]; · iexact H1
    isplitl [HE0 Hg0]; · unfold free; isplitl [HE0] <;> iassumption
    isplitl [HE1 Hg1]; · unfold free; isplitl [HE1] <;> iassumption
    iexact HO
  unfold free
  iintro ⟨Hvb, HD, H0, H1, ⟨HE0, Hg0⟩, ⟨HE1, Hg1⟩, HO⟩
  ihave HD := (buf_out (dataOf m) c) $$ HD
  icases HD with ⟨Hsm, Hs, H2⟩
  isplitl [Hs Hp HE0 HE1 Hsm Hg0 Hg1 Hvb]
  · isplitl [Hs]; · iexact Hs
    isplitl [Hp]; · iexact Hp
    isplitl [HE0 HE1]
    · iapply (Entails.of_eq (tab_split c ((dataOf m).E c)).symm); isplitl [HE0] <;> iassumption
    isplitl [Hsm Hg0 Hg1]
    · iapply (Entails.of_eq (ownSems_eq (F := F) c).symm)
      isplitl [Hg0 Hg1]; · isplitl [Hg0] <;> iassumption
      iexact Hsm
    iexact Hvb
  isplitl [HO]; · iapply (owesAt_intro (dat m c) t0_0.succ 0 (owed_last m c) rfl); iexact HO
  isplitl [H0]
  · iexists _; isplitr; swap; (· iexact H0); ipureintro; rfl
  isplitl [H1]
  · iexists _; isplitr; swap; (· iexact H1); ipureintro; rfl
  iexists _; isplitr; swap; (· iexact H2); ipureintro; rfl

end Cert.KernelIdeal.K

end
-- ==== Proof.Record.lean ====
module

public import proofs.«01_k».proof.Proof.Region

/-! # The record of the region: what enters it and what it leaves -/

@[expose] public section

noncomputable section

namespace Cert.KernelIdeal.K

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat BodyObligation)
open Cert.KernelIdeal.Gen Cert.KernelIdeal.Body

variable {F : FTy → Type} [FloatOps F]

local notation "𝕄" => MT nD τ sig Unit (Elt F) ℕ UU ℕ

variable (m : (ℓ : Loc nD τ sig) → Buf (Elt F) ℓ) (ρ : Dev nD → PrngReg)

/-! ## What a device owes lies above level 0 -/

theorem lv_recv (k : Fin 4) (hk : k = 1 ∨ k = 3) (j : Fin 8) : 0 < lvS (sm k j) := by
  revert k hk j; decide

theorem O₀_at {c : Dev nD} {g : GSem nD τ sig} {u : Unit} (h : 0 < O₀ c g u) :
    ∃ p : Dev nD, ∃ s, g = ((p : Thread nD τ), s) ∧ 0 < lvS s := by
  have h' : 0 < owe 1 (peerY c) 0 g u + owe 3 (peerX c) 0 g u + tallyAt (barCell (peerX c)) () 1 g u + tallyAt (barCell (peerY c)) () 1 g u := h
  by_cases h1 : 0 < owe 1 (peerY c) 0 g u
  · obtain ⟨j, -, rfl⟩ := owe_pos _ _ _ _ _ h1
    exact ⟨_, _, rfl, lv_recv 1 (.inl rfl) j⟩
  by_cases h2 : 0 < owe 3 (peerX c) 0 g u
  · obtain ⟨j, -, rfl⟩ := owe_pos _ _ _ _ _ h2
    exact ⟨_, _, rfl, lv_recv 3 (.inr rfl) j⟩
  by_cases h3 : g = barCell (peerX c)
  · exact ⟨_, _, h3, by decide⟩
  by_cases h4 : g = barCell (peerY c)
  · exact ⟨_, _, h4, by decide⟩
  rw [tallyAt_apply, if_neg (fun h => h3 h.1), tallyAt_apply, if_neg (fun h => h4 h.1)] at h'
  omega

theorem cut_owed (c : Dev nD) (t : Fin (cfg0.N + 1)) (g : GSem nD τ sig) (i : Unit) (h : 0 < (dat m c).owed t g i) :
    i ∈ L g ∧ (0 : ℕ) < lv g i := by
  rw [owed_at] at h
  split at h
  · obtain ⟨p, s, rfl, hs⟩ := O₀_at h
    exact ⟨by rw [L_tc]; exact Finset.mem_singleton_self _, hs⟩
  · exact absurd h (Nat.lt_irrefl 0)

theorem stage_level (w : Fin 3) (s : Fin (cfg0.win w).nbuf) : lvS (.dma ((cfg0.win w).sem s)) ≤ 0 := by
  revert w s; decide

theorem share_eq (c : Dev nD) (w) : (dat m c).share w = fullShare := by unfold Dat.share; split <;> rfl

/-! ## The buffers: the table enters beside the windows' arrays, everything else passes by -/

abbrev tabR : DevRef τ sig := Proc.devRef .tc main_arg1
abbrev winR : Finset (DevRef τ sig) := Pipeline.arrRefs (τ := τ) spec0
abbrev restR : Finset (DevRef τ sig) := Pipeline.ucRefs τ sig \ winR
abbrev Vin (c : Dev nD) : Valuation τ sig (Elt F) := V3 m c
abbrev Vout (c : Dev nD) : Valuation τ sig (Elt F) := V4 m (outs m) c

theorem winR_sub : winR ⊆ Pipeline.ucRefs τ sig := by decide
theorem tab_rest : ({tabR} : Finset (DevRef τ sig)) ⊆ restR := by decide
theorem Vout_of (c : Dev nD) (b : DevRef τ sig) (h : b ≠ Proc.devRef .tc main_v25) : Vout m c b = Vin m c b :=
  Function.update_of_ne h _ _
theorem Vout_res (c : Dev nD) : Vout m c (Proc.devRef .tc main_v25) = outv (dataOf m) c := by
  show Function.update (V3 m c) (Proc.devRef .tc main_v25) _ _ = _
  rw [Function.update_self]; rfl
theorem rest_eq (c : Dev nD) (b : DevRef τ sig) (hb : b ∈ restR \ {tabR}) : Vout m c b = Vin m c b :=
  Vout_of m c b (by rintro rfl; revert hb; decide)

theorem held_tab (c : Dev nD) (V : Valuation τ sig (Elt F)) :
    (StableHlo.held (c : Thread nD τ) {tabR} V : sProp 𝕄) = tabPts (V tabR) c fullShare := by
  unfold StableHlo.held; rw [bigSep_singleton]

theorem hin (c : Dev nD) : iprop(Pipeline.scopedRest spec0 c ∗ (∃ r, prngReg c r) ∗ StableHlo.held (c : Thread nD τ) {tabR} (Vin m c) ∗ Xk (dataOf m) c)
    ⊢ ((dat m c).Φ 0 : sProp 𝕄) := by
  rw [phi_zero, scopedRest0_eq, held_tab]
  exact BI.Entails.refl _

theorem hout (c : Dev nD) : ((dat m c).Φ (Fin.last cfg0.N) : sProp 𝕄)
    ⊢ iprop(Pipeline.scopedRest spec0 c ∗ (∃ r, prngReg c r) ∗ StableHlo.held (c : Thread nD τ) {tabR} (Vout m c) ∗ Pipeline.ownSems0 osem c ∗ semVal (barCell c) 0) := by
  rw [phi_end, scopedRest0_eq, held_tab, Vout_of m c tabR (by decide)]
  exact BI.Entails.refl _

theorem win_in (c : Dev nD) (w : Fin 3) : (dat m c).arrAt w 0 = Vin m c (Proc.devRef .tc (Pipeline.arrRef spec0 w)) := rfl
theorem win_out (c : Dev nD) (w : Fin 3) : (dat m c).arrAt w cfg0.N = Vout m c (Proc.devRef .tc (Pipeline.arrRef spec0 w)) := by
  match w with
  | 0 => exact ((dat m c).arrAt_in 0 rfl _).trans (Vout_of m c (Proc.devRef .tc main_v22) (by decide)).symm
  | 1 => exact ((dat m c).arrAt_in 1 rfl _).trans (Vout_of m c (Proc.devRef .tc main_v24) (by decide)).symm
  | 2 => exact (arrAt_2 c (dat m c)).trans (Vout_res m c).symm

theorem kit0 : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

set_option backward.isDefEq.respectTransparency.types false in
def reg : Pipeline.RegionSeg (pcfgs (F := F)) adm (pdats m) () defs₀ 𝒱₀ L lv 0 :=
  Pipeline.RegionSeg.ofTalk (pcfgs (F := F)) adm (pdats m) () defs₀ 𝒱₀ L lv 0 osem osem_facts
    {tabR} restR tab_rest kit0 rfl (fun c => (body_obligation m c).loose)
    (fun _ => 0) O₀ (fun c => (owed_first m c).trans (zero_add _).symm) (owed_end m) (fun _ => rfl) (fun c w => share_eq m c w)
    (Vin m) (Vout m) (rest_eq m)
    (Tk (dataOf m)) (fun c => semVal (barCell c) 0) (Xk (dataOf m)) (fun c => semVal (barCell c) 0)
    (hopen (dataOf m)) (hin m) (hout m)
    (fun c => by iintro H; imodintro; iexact H)
    (fun _ => 0)
    ⟨fun c w s => by rw [L_tc]; exact Finset.mem_singleton_self _, fun c w s => stage_level w s, fun c t g i h => cut_owed m c t g i h⟩
    (fun _ => iprop(emp))
    (win_in m) (win_out m)

/-! ## The thread state between @main's items -/

/-- What rides beside the buffers: the generator, the exchange's ghost state, the debts. -/
def Est : Fin 2 → Dev nD → sProp 𝕄
  | 0, c => iprop((∃ r, prngReg c r) ∗ Tk (dataOf m) c ∗ owesAny c (O₀ c))
  | 1, c => iprop(semVal (barCell c) 0 ∗ owesAny c 0)

theorem reg_pre (c : Dev nD) :
    iprop(StableHlo.held (c : Thread nD τ) (Pipeline.ucRefs τ sig) (V3 m c) ∗ Est m 0 c) ⊢ (reg m).pre c := by
  show _ ⊢ iprop(StableHlo.held (c : Thread nD τ) winR (Vin m c) ∗ (∃ r, prngReg c r) ∗ (StableHlo.held (c : Thread nD τ) restR (Vin m c) ∗ emp)
    ∗ Tk (dataOf m) c ∗ ∃ W, owes (c : Thread nD τ) (0 + O₀ c) W)
  rw [StableHlo.held_sub_split (c : Thread nD τ) winR_sub, zero_add]
  unfold Est
  iintro ⟨⟨Ha, Hr⟩, Hp, HT, HO⟩
  isplitl [Ha]; · iexact Ha
  isplitl [Hp]; · iexact Hp
  isplitl [Hr]; · isplitl [Hr]; · iexact Hr
                  exact BI.Entails.refl _
  isplitl [HT] <;> iassumption

theorem reg_post (c : Dev nD) :
    (reg m).post c ⊢ iprop(StableHlo.held (c : Thread nD τ) (Pipeline.ucRefs τ sig) (V4 m (outs m) c) ∗ Est m 1 c) := by
  show iprop(StableHlo.held (c : Thread nD τ) winR (Vout m c) ∗ (∃ r, prngReg c r) ∗ (StableHlo.held (c : Thread nD τ) restR (Vout m c) ∗ emp)
    ∗ semVal (barCell c) 0 ∗ ∃ W, owes (c : Thread nD τ) (0 : CellTallies nD τ sig Unit) W) ⊢ (iprop(StableHlo.held (c : Thread nD τ) (Pipeline.ucRefs τ sig) (V4 m (outs m) c) ∗ Est m 1 c) : sProp 𝕄)
  rw [StableHlo.held_sub_split (c : Thread nD τ) winR_sub]
  unfold Est
  iintro ⟨Ha, -, ⟨Hr, -⟩, Hb, HO⟩
  isplitl [Ha Hr]; · isplitl [Ha] <;> iassumption
  isplitl [Hb] <;> iassumption

end Cert.KernelIdeal.K

end
-- ==== Proof.Launch.lean ====
module

public import proofs.«01_k».proof.Proof.Record
public import Idealize.ShloMosaic.Lib.Quiescent

/-! # The launch, and the run of @main

The barriers' cells are funded from their counters; the exchange's cells, whose counters are the region's own, are
made dormant and opened there. Every duty's token goes to the device that pays it. -/

@[expose] public section

noncomputable section

namespace Cert.KernelIdeal.K

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat BodyObligation)
open Cert.KernelIdeal.Gen Cert.KernelIdeal.Body

variable {F : FTy → Type} [FloatOps F]

local notation "𝕄" => MT nD τ sig Unit (Elt F) ℕ UU ℕ

variable (m : (ℓ : Loc nD τ sig) → Buf (Elt F) ℓ) (ρ : Dev nD → PrngReg)

theorem unscopedSems_eq (c : Dev nD) : (unscopedSems0 c : sProp 𝕄) = semVal (barCell c) 0 := by
  unfold unscopedSems0
  rw [show (Finset.univ.filter fun s : SemLoc sig => ¬ s.isScoped .tc) = {SemLoc.reg barS} from by decide, BI.bigSep_singleton]
theorem unscoped_bar : ∀ s : SemLoc sig, s.isScoped .tc = false → s = .reg barS := by decide

/-! ## The cells and the tokens -/

theorem sm_inj {k k' : Fin 4} {j j' : Fin 8} (h : sm k j = sm k' j') : k = k' ∧ j = j' := by
  have e := kd_sm k j
  rw [h, kd_sm] at e
  exact ⟨(congrArg Prod.fst (Option.some.inj e)).symm, (congrArg Prod.snd (Option.some.inj e)).symm⟩

def barEmb : Dev nD ↪ GSem nD τ sig := ⟨fun c => barCell c, fun _ _ h => congrArg (fun g : GSem nD τ sig => g.1.1) h⟩
def chunkEmb : Dev nD × (Fin 8 × Fin 4) ↪ GSem nD τ sig :=
  ⟨fun p => cell p.2.2 p.2.1 p.1, fun _ _ h => by
    obtain ⟨hk, hj⟩ := sm_inj (congrArg Prod.snd h)
    exact Prod.ext (congrArg (fun g : GSem nD τ sig => g.1.1) h) (Prod.ext hj hk)⟩
abbrev barCells : Finset (GSem nD τ sig) := Finset.univ.map barEmb
abbrev chunkCells : Finset (GSem nD τ sig) := Finset.univ.map chunkEmb

/-- A device's duties: the barrier's two, and each exchange cell's one. -/
def tokOf (p : Dev nD × (Fin 2 ⊕ (Fin 8 × Fin 4))) : GSem nD τ sig × ℕ × Bool :=
  match p.2 with
  | .inl b => (barCell p.1, 0, decide (b = 1))
  | .inr (j, k) => (cell k j p.1, 0, false)
theorem two_inj : ∀ b b' : Fin 2, decide (b = 1) = decide (b' = 1) → b = b' := by decide

theorem tokOf_inj : Function.Injective tokOf := by
  rintro ⟨c, x⟩ ⟨d, y⟩ h
  have hd : c = d := by
    have := congrArg (fun t : GSem nD τ sig × ℕ × Bool => t.1.1.1) h
    rcases x with b | ⟨j, k⟩ <;> rcases y with b' | ⟨j', k'⟩ <;> exact this
  subst hd
  refine Prod.ext rfl ?_
  rcases x with b | ⟨j, k⟩ <;> rcases y with b' | ⟨j', k'⟩
  · have hb : decide (b = 1) = decide (b' = 1) := congrArg (fun t : GSem nD τ sig × ℕ × Bool => t.2.2) h
    exact congrArg Sum.inl (two_inj b b' hb)
  · exact absurd (congrArg (fun t : GSem nD τ sig × ℕ × Bool => t.1.2) h) (sm_ne_bar k' j').symm
  · exact absurd (congrArg (fun t : GSem nD τ sig × ℕ × Bool => t.1.2) h) (sm_ne_bar k j)
  · obtain ⟨rfl, rfl⟩ := sm_inj (congrArg (fun t : GSem nD τ sig × ℕ × Bool => t.1.2) h)
    rfl
def allToks : Finset (GSem nD τ sig × ℕ × Bool) := Finset.univ.map ⟨tokOf, tokOf_inj⟩

theorem disjoint_cells : Disjoint (barCells : Finset (GSem nD τ sig)) chunkCells := by
  rw [Finset.disjoint_left]
  rintro g h₁ h₂
  obtain ⟨c, -, rfl⟩ := Finset.mem_map.mp h₁
  obtain ⟨p, -, h⟩ := Finset.mem_map.mp h₂
  exact sm_ne_bar p.2.2 p.2.1 (congrArg Prod.snd h)

/-- The launch element: the pipeline's, the exchange's, and the counters' unit. -/
def launchElt : UB := launchOf barCells chunkCells allToks
def u₀ : UU :=
  (initOf (Pipeline.cells (Pipeline.pin (pcfgs (F := F)) adm) cellOf_inj) (Pipeline.launchToks (Pipeline.pin (pcfgs (F := F)) adm) cellOf_inj),
    (launchElt, 1))

theorem ownU_halves (a : UR sig nD τ) (b : UB) : (ownU ((a, (b, 1)) : UU) : sProp 𝕄) ⊢ iprop(BI.own (EP a) ∗ BI.own (ER b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op (b, (1 : Counters)))))

/-- The exchange's launch element, all of it with the first device until the cells are made. -/
def G (c : Dev nD) : sProp 𝕄 := if c = 0 then BI.own (ER launchElt) else iprop(emp)
theorem bigSep_G : bigSep Finset.univ (G (F := F)) = BI.own (ER launchElt) := by
  rw [bigSep_univ_at _ 0, bigSep_congr (s := Finset.univ.erase 0) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

/-! ## What every device may consult, and what is dealt to it -/

variable (D : Data F)

def recsL (κ : GSem nD τ sig → ℕ) : sProp 𝕄 :=
  iprop((bigSep (barCells ∪ chunkCells) fun g => cellInv ER (rd D) (κ g) g) ∗ bigSep barCells fun g => reached ER g 0)
instance recsL_persistent (κ : GSem nD τ sig → ℕ) : BI.Persistent (recsL D κ) := by unfold recsL; infer_instance

theorem cellP_mem (p : Dev nD × Option (Fin 4 × Fin 8)) : cellP p ∈ (barCells ∪ chunkCells : Finset (GSem nD τ sig)) := by
  rcases p with ⟨c, _ | ⟨k, j⟩⟩
  · exact Finset.mem_union_left _ (Finset.mem_map_of_mem barEmb (Finset.mem_univ c))
  · exact Finset.mem_union_right _ (Finset.mem_map_of_mem chunkEmb (Finset.mem_univ (c, (j, k))))

theorem inv_elim (κ : GSem nD τ sig → ℕ) {S : Finset (GSem nD τ sig)} {g : GSem nD τ sig} (hg : g ∈ S) :
    (bigSep S fun g => (cellInv ER (rd D) (κ g) g : sProp 𝕄)) ⊢ cellInv ER (rd D) (κ g) g := bigSep_elim hg
theorem reached_elim {S : Finset (GSem nD τ sig)} {g : GSem nD τ sig} (hg : g ∈ S) :
    (bigSep S fun g => (reached ER g 0 : sProp 𝕄)) ⊢ reached ER g 0 := bigSep_elim hg
theorem inv_at (κ : GSem nD τ sig → ℕ) (p : Dev nD × Option (Fin 4 × Fin 8)) :
    iprop(recsL D κ ∗ emp) ⊢ (cellInv ER (rd D) (κ (cellP p)) (cellP p) : sProp 𝕄) := by
  unfold recsL
  iintro ⟨⟨#HI, -⟩, -⟩
  iapply (inv_elim D κ (cellP_mem p))
  iexact HI
theorem recs_of (κ : GSem nD τ sig → ℕ) : (recsL D κ : sProp 𝕄) ⊢ recs D κ := by
  have h := bigSep_with_persistent (R := recsL D κ) (S := Finset.univ) (Φ := fun _ => (iprop(emp) : sProp 𝕄)) fun p _ => inv_at D κ p
  refine BIBase.Entails.trans ?_ h
  iintro H
  isplitl [H]; · iexact H
  iapply (Entails.of_eq (BI.bigSep_emp_const _).symm)
  exact BI.Entails.refl _
theorem reached_at (κ : GSem nD τ sig → ℕ) (c : Dev nD) : (recsL D κ : sProp 𝕄) ⊢ reached ER (barCell c) 0 := by
  unfold recsL
  iintro ⟨-, #HR⟩
  iapply (reached_elim (F := F) (g := barCell c) (Finset.mem_map_of_mem barEmb (Finset.mem_univ c)))
  iexact HR

/-- A barrier duty's token, and a family's eight. -/
abbrev tb (b : Bool) (c : Dev nD) : sProp 𝕄 := dutyTok ER (barCell c) 0 b
abbrev tc (k : Fin 4) (c : Dev nD) : sProp 𝕄 := bigSep Finset.univ fun j : Fin 8 => dutyTok ER (cell k j c) 0 false

theorem sep4 (Φ Ψ Χ Ω : Fin 8 → sProp 𝕄) :
    (bigSep Finset.univ fun j => iprop(Φ j ∗ Ψ j ∗ Χ j ∗ Ω j) : sProp 𝕄)
      = iprop(bigSep Finset.univ Φ ∗ bigSep Finset.univ Ψ ∗ bigSep Finset.univ Χ ∗ bigSep Finset.univ Ω) := by
  rw [bigSep_sep', bigSep_sep', bigSep_sep']

theorem toks_eq : (bigSep allToks (fun t => (dutyTok ER t.1 t.2.1 t.2.2 : sProp 𝕄)))
    = bigSep Finset.univ fun c : Dev nD => iprop((tb false c ∗ tb true c) ∗ tc 0 c ∗ tc 1 c ∗ tc 2 c ∗ tc (F := F) 3 c) := by
  unfold allToks
  rw [bigSep_map, bigSep_univ_prod]
  refine bigSep_congr fun c _ => ?_
  rw [BI.bigSep_univ_sum, sepF2, bigSep_univ_prod, bigSep_congr fun j _ => sepF4 _]
  rw [sep4]
  rfl

theorem tokJ_eq (c : Dev nD) : bigSep Finset.univ (tokJ (F := F) c) = iprop(tc 0 c ∗ tc 1 (peerY c) ∗ tc 2 c ∗ tc (F := F) 3 (peerX c)) := by
  unfold tokJ; rw [sep4]

theorem toks_around : (bigSep Finset.univ fun c : Dev nD => iprop((tb false c ∗ tb true c) ∗ tc 0 c ∗ tc 1 c ∗ tc 2 c ∗ tc (F := F) 3 c))
    = bigSep Finset.univ fun c : Dev nD => iprop((tb false (peerY c) ∗ tb true (peerX c)) ∗ tc 0 c ∗ tc 1 (peerY c) ∗ tc 2 c ∗ tc (F := F) 3 (peerX c)) := by
  rw [bigSep_sep', bigSep_sep', bigSep_sep', bigSep_sep', bigSep_sep', bigSep_sep', bigSep_sep', bigSep_sep', bigSep_sep', bigSep_sep',
    bigSep_univ_equiv eqvY (tb (F := F) false), bigSep_univ_equiv eqvX (tb (F := F) true),
    bigSep_univ_equiv eqvY (tc (F := F) 1), bigSep_univ_equiv eqvX (tc (F := F) 3)]
  rfl

/-! ## The launch credit -/

theorem owe_at (k k' : Fin 4) (p c : Dev nD) (j : Fin 8) : owe k p 0 (cell k' j c) () = if k = k' ∧ p = c then N else 0 := by
  unfold owe
  rw [Finset.sum_apply, Finsupp.finset_sum_apply, show pending (n := 8) 0 = Finset.univ by decide]
  split
  · next h =>
    obtain ⟨rfl, rfl⟩ := h
    rw [Finset.sum_eq_single j, tallyAt_apply, if_pos ⟨rfl, rfl⟩]
    · intro j' _ hj
      rw [tallyAt_apply, if_neg fun h => hj (sm_inj (congrArg Prod.snd h.1)).2.symm]
    · exact fun h => absurd (Finset.mem_univ j) h
  · next h =>
    refine Finset.sum_eq_zero fun j' _ => ?_
    rw [tallyAt_apply, if_neg fun e => h ⟨(sm_inj (congrArg Prod.snd e.1)).1.symm, (congrArg (fun g : GSem nD τ sig => g.1.1) e.1).symm⟩]
theorem owe_bar (k : Fin 4) (p c : Dev nD) : owe k p 0 (barCell c) () = 0 := by
  by_contra h
  obtain ⟨j, -, e⟩ := owe_pos k p 0 (barCell c) () (Nat.pos_of_ne_zero h)
  exact sm_ne_bar k j (congrArg Prod.snd e).symm
theorem tally_bar (p c : Dev nD) : (tallyAt (barCell p) () 1 : CellTallies nD τ sig Unit) (barCell c) () = if p = c then 1 else 0 := by
  rw [tallyAt_apply]
  by_cases h : p = c
  · subst h; rw [if_pos ⟨rfl, rfl⟩, if_pos rfl]
  · rw [if_neg fun e => h (congrArg (fun g : GSem nD τ sig => g.1.1) e.1).symm, if_neg h]
theorem tally_cell (p c : Dev nD) (k : Fin 4) (j : Fin 8) : (tallyAt (barCell p) () 1 : CellTallies nD τ sig Unit) (cell k j c) () = 0 := by
  rw [tallyAt_apply, if_neg fun e => sm_ne_bar k j (congrArg Prod.snd e.1)]

theorem O₀_apply (d : Dev nD) (g : GSem nD τ sig) : O₀ d g () = owe 1 (peerY d) 0 g () + owe 3 (peerX d) 0 g ()
    + tallyAt (barCell (peerX d)) () 1 g () + tallyAt (barCell (peerY d)) () 1 g () := rfl
theorem peerY_eq {d c : Dev nD} : peerY d = c ↔ d = peerY c :=
  ⟨fun h => by rw [← h, peerY_peerY], fun h => by rw [h, peerY_peerY]⟩
theorem peerX_eq {d c : Dev nD} : peerX d = c ↔ d = peerX c :=
  ⟨fun h => by rw [← h, peerX_peerX], fun h => by rw [h, peerX_peerX]⟩

theorem due_bar (c : Dev nD) : ∑ d : Dev nD, O₀ d (barCell c) () = 2 := by
  rw [Finset.sum_congr rfl fun d _ => show O₀ d (barCell c) () = (if d = peerX c then 1 else 0) + (if d = peerY c then 1 else 0) by
    rw [O₀_apply, owe_bar, owe_bar, tally_bar, tally_bar]; simp only [peerX_eq, peerY_eq, Nat.zero_add]]
  rw [Finset.sum_add_distrib, Finset.sum_ite_eq' Finset.univ (peerX c) fun _ => 1, Finset.sum_ite_eq' Finset.univ (peerY c) fun _ => 1,
    if_pos (Finset.mem_univ _), if_pos (Finset.mem_univ _)]
theorem due_1 (c : Dev nD) (j : Fin 8) : ∑ d : Dev nD, O₀ d (cell 1 j c) () = N := by
  rw [Finset.sum_congr rfl fun d _ => show O₀ d (cell 1 j c) () = if d = peerY c then N else 0 by
    rw [O₀_apply, owe_at, owe_at, tally_cell, tally_cell, if_neg (fun h : (3 : Fin 4) = 1 ∧ _ => absurd h.1 (by decide))]
    simp only [peerY_eq, true_and, Nat.add_zero]]
  rw [Finset.sum_ite_eq' Finset.univ (peerY c) fun _ => N, if_pos (Finset.mem_univ _)]
theorem due_3 (c : Dev nD) (j : Fin 8) : ∑ d : Dev nD, O₀ d (cell 3 j c) () = N := by
  rw [Finset.sum_congr rfl fun d _ => show O₀ d (cell 3 j c) () = if d = peerX c then N else 0 by
    rw [O₀_apply, owe_at, owe_at, tally_cell, tally_cell, if_neg (fun h : (1 : Fin 4) = 3 ∧ _ => absurd h.1 (by decide))]
    simp only [peerX_eq, true_and, Nat.add_zero, Nat.zero_add]]
  rw [Finset.sum_ite_eq' Finset.univ (peerX c) fun _ => N, if_pos (Finset.mem_univ _)]

theorem launch_at (g : GSem nD τ sig) (n : ℕ) (h : ∑ d : Dev nD, O₀ d g () = n) :
    tallyOn g (launchCredit (Pipeline.owing O₀) 0 g) = (tallyAt g () n : CellTallies nD τ sig Unit) := by
  unfold tallyAt; refine congrArg _ (Finsupp.ext fun u => ?_); cases u
  rw [Pipeline.launchCredit_owing, Finsupp.single_eq_same, h]

/-- The receive semaphores' places. -/
def recvEmb : Fin 8 × Fin 2 ↪ SemLoc sig :=
  ⟨fun p => sm (if p.2 = 0 then 1 else 3) p.1, fun p q h => by
    obtain ⟨hk, hj⟩ := sm_inj h
    refine Prod.ext hj ?_
    revert hk; generalize p.2 = a; generalize q.2 = b; revert a b; decide⟩

theorem creds (c : Dev nD) : (Pipeline.launchCred O₀ c : sProp 𝕄)
    ⊢ iprop(cred (tallyAt (barCell c) () 2) ∗ bigSep Finset.univ (credJ (F := F) c)) := by
  unfold Pipeline.launchCred
  rw [bigSep_univ_at _ (SemLoc.reg barS), launch_at _ _ (due_bar c)]
  refine sep_mono_right ?_
  have hs : (Finset.univ.map recvEmb) ⊆ (Finset.univ : Finset (SemLoc sig)).erase (.reg barS) := by
    intro s hs
    obtain ⟨p, -, rfl⟩ := Finset.mem_map.mp hs
    exact Finset.mem_erase.mpr ⟨sm_ne_bar _ _, Finset.mem_univ _⟩
  refine BIBase.Entails.trans (BI.bigSep_subset hs) (Entails.of_eq ?_)
  rw [bigSep_map, bigSep_univ_prod]
  refine bigSep_congr fun j _ => ?_
  rw [sepF2]
  have e1 := launch_at _ _ (due_1 c j)
  have e3 := launch_at _ _ (due_3 c j)
  show iprop(cred (tallyOn (cell 1 j c) _) ∗ cred (tallyOn (cell 3 j c) _)) = iprop(cred (tallyAt (cell 1 j c) () N) ∗ cred (tallyAt (cell 3 j c) () N))
  rw [← e1, ← e3]
  rfl

/-! ## The launch's global step -/

theorem pair_up {Φ Ψ : Dev nD → sProp 𝕄} :
    iprop(bigSep Finset.univ Φ ∗ bigSep Finset.univ Ψ) ⊢ bigSep Finset.univ (fun c => iprop(Φ c ∗ Ψ c)) :=
  Entails.of_eq (bigSep_sep' _ _ _).symm

/-- What of a device's launch holdings is not the exchange's ghost state. -/
def plain (c : Dev nD) : sProp 𝕄 :=
  iprop(StableHlo.held (c : Thread nD τ) (Pipeline.ucRefs τ sig) (V0 m c) ∗ (cred (tallyAt (barCell c) () 2) ∗ bigSep Finset.univ (credJ (F := F) c))
    ∗ owesAny c (O₀ c) ∗ ∃ r, prngReg c r)
/-- What is dealt of it. -/
def dealt (c : Dev nD) : sProp 𝕄 :=
  iprop(atPos ER (barCell c) 0 ∅ 0 ∗ bigSep Finset.univ (shutJ (F := F) c)
    ∗ ((tb false (peerY c) ∗ tb true (peerX c)) ∗ tc 0 c ∗ tc 1 (peerY c) ∗ tc 2 c ∗ tc (F := F) 3 (peerX c)))

abbrev T₀ (c : Dev nD) : sProp 𝕄 := iprop(StableHlo.held (c : Thread nD τ) (Pipeline.ucRefs τ sig) (V0 m c) ∗ Est m 0 c)
abbrev Tₙ (c : Dev nD) : sProp 𝕄 :=
  iprop(StableHlo.held (c : Thread nD τ) (Pipeline.ucRefs τ sig) (V4 m (outs m) c) ∗ semVal (barCell c) 0)

theorem T₀_intro (κ : GSem nD τ sig → ℕ) (c : Dev nD) : iprop(recsL (dataOf m) κ ∗ (dealt c ∗ plain m c)) ⊢ (T₀ m c : sProp 𝕄) := by
  show _ ⊢ iprop(StableHlo.held (c : Thread nD τ) (Pipeline.ucRefs τ sig) (V0 m c) ∗ (∃ r, prngReg c r) ∗ Tk (dataOf m) c ∗ owesAny c (O₀ c))
  unfold dealt plain Tk barG
  rw [sep3, tokJ_eq]
  iintro ⟨#HR, ⟨Hat, Hsh, ⟨Htf, Htt⟩, Htk⟩, Hh, ⟨Hc2, HcJ⟩, HO, Hp⟩
  isplitl [Hh]; · iexact Hh
  isplitl [Hp]; · iexact Hp
  isplitr [HO]
  · iexists κ
    isplitr; · iapply (recs_of (dataOf m) κ); iexact HR
    isplitl [Hat Hc2 Htf Htt]
    · isplitl [Hat]; · iexact Hat
      isplitl [Hc2]; · iexact Hc2
      isplitl [Htf]; · iexact Htf
      isplitr; · iapply (reached_at (dataOf m) κ (peerY c)); iexact HR
      isplitl [Htt]; · iexact Htt
      iapply (reached_at (dataOf m) κ (peerX c)); iexact HR
    isplitl [Hsh]; · iexact Hsh
    isplitl [Htk]; · iexact Htk
    iexact HcJ
  iexact HO

theorem shut_eq : (bigSep chunkCells fun g => (openTok ER g : sProp 𝕄)) = bigSep Finset.univ fun c : Dev nD => bigSep Finset.univ (shutJ (F := F) c) := by
  rw [bigSep_map, bigSep_univ_prod]
  refine bigSep_congr fun c _ => ?_
  rw [bigSep_univ_prod]
  exact bigSep_congr fun j _ => sepF4 _

theorem core_split (c : Dev nD) : iprop(unscopedBufs c (fun b => m ((c : Thread nD τ).loc b)) ∗ unscopedSems0 c
      ∗ owes (c : Thread nD τ) (O₀ c) ∅ ∗ Pipeline.launchCred O₀ c ∗ prngReg c (ρ c) ∗ G c)
    ⊢ (iprop(plain m c ∗ (semVal (barCell c) 0 ∗ G c)) : sProp 𝕄) := by
  rw [unscopedSems_eq]
  unfold plain
  rw [← Pipeline.unscopedBufs_held (Ix := Unit) (Name := ℕ) (U := UU) (Lvl := ℕ) c (V0 m c)]
  iintro ⟨Hh, Hv, HO, Hcr, Hp, HG⟩
  ihave Hc := (creds (F := F) c) $$ Hcr
  isplitr [Hv HG]
  · isplitl [Hh]; · iexact Hh
    isplitl [Hc]; · iexact Hc
    isplitl [HO]; · iexists ∅; iexact HO
    iexists (ρ c); iexact Hp
  isplitl [Hv] <;> iassumption

theorem cores_split : (bigSep Finset.univ fun c : Dev nD => iprop(unscopedBufs c (fun b => m ((c : Thread nD τ).loc b)) ∗ unscopedSems0 c
      ∗ owes (c : Thread nD τ) (O₀ c) ∅ ∗ Pipeline.launchCred O₀ c ∗ prngReg c (ρ c) ∗ G c))
    ⊢ (iprop(bigSep Finset.univ (plain m) ∗ (bigSep barCells fun g => semVal g 0) ∗ BI.own (ER launchElt)) : sProp 𝕄) := by
  rw [bigSep_map, ← bigSep_G, ← bigSep_sep', ← bigSep_sep']
  exact bigSep_mono fun c _ => core_split m ρ c

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  iintro ⟨H, -⟩
  ihave H := (cores_split m ρ) $$ H
  icases H with ⟨Hpl, Hv, Hu⟩
  unfold launchElt
  imod (Rounds.fund_launch ER (rd (dataOf m)) disjoint_cells (fun g _ h => h) allToks) $$ [Hv Hu] with ⟨%κ, -, #Hinv, #Hr, Hat, Hopen, Htok⟩
  · isplitl [Hv] <;> iassumption
  imodintro
  iapply (bigSep_with_persistent (R := recsL (dataOf m) κ) (Φ := fun c => iprop(dealt (F := F) c ∗ plain m c)) fun c _ => T₀_intro m κ c)
  isplitr
  · unfold recsL; isplitr; · iexact Hinv
    iexact Hr
  iapply pair_up
  isplitr [Hpl]
  · unfold dealt
    iapply pair_up
    isplitl [Hat]
    · iapply (Entails.of_eq (bigSep_map (s := Finset.univ) barEmb (Φ := fun g : GSem nD τ sig => (atPos ER g 0 ∅ 0 : sProp 𝕄)))) $$ Hat
    iapply pair_up
    isplitl [Hopen]; · iapply (Entails.of_eq (shut_eq (F := F))) $$ Hopen
    iapply (Entails.of_eq ((toks_eq (F := F)).trans toks_around)) $$ Htok
  · iexact Hpl

/-! ## The run -/

set_option backward.isDefEq.respectTransparency.types false in
/-- From any memory with zero counters, every weakly fair execution of @main on the four devices terminates; every
    final memory holds the arguments as launched and the result `outv`, and every counter is zero. -/
theorem run_main : θ_run defs (onTc (τ := τ) (main (F := F))) ⟨m, fun _ => 0, ρ⟩
    (fun r => (∀ c : Dev nD, r.2.mem ((c.tc : Thread nD τ).loc main_v25) = outv (dataOf m) c
        ∧ r.2.mem ((c.tc : Thread nD τ).loc main_arg0) = m ((c.tc : Thread nD τ).loc main_arg0)
        ∧ r.2.mem ((c.tc : Thread nD τ).loc main_arg1) = m ((c.tc : Thread nD τ).loc main_arg1)) ∧ r.2.sem = fun _ => 0) := by
  refine Pipeline.θ_run_regions_kit_dev_sems (pcfgs (F := F)) adm (pdats m) () cellOf_inj EP defs₀ 𝒱₀ L lv m ρ main
    (segs m 𝒱₀ L lv (Est m) () (pdats m) (reg m))
    (fun c Q => by
      rewrite [main_chain c, Pipeline.Seg.run_eq_chain,
        show (segs m 𝒱₀ L lv (Est m) () (pdats m) (reg m) c).map Pipeline.Seg.prog = [
          StableHlo.seq (hostOps0 c),
          StableHlo.seq hostOps0_1,
          StableHlo.seq hostOps0_2,
          Prog.lift (.customCall (Pipeline.entry 0) ()) ] from rfl]
      dsimp only
      exact .rfl)
    (fun c => by simp only [segs, Pipeline.Seg.pipes_host, Pipeline.Seg.pipes_region, Pipeline.Seg.pipes_nil]; decide) O₀ L_of_ne (G (F := F)) (u₀ (F := F))
    (hu₀ := ?_) (T₀ := T₀ m) (Tₙ := Tₙ m)
    (hch := fun c => ⟨.rfl, .rfl, .rfl, reg_pre m c, (reg_post m c).trans ?_⟩)
    (hinit := init m ρ)
    (QY := fun c s => (s.mem ((c.tc : Thread nD τ).loc main_v25) = outv (dataOf m) c
        ∧ s.mem ((c.tc : Thread nD τ).loc main_arg0) = m ((c.tc : Thread nD τ).loc main_arg0)
        ∧ s.mem ((c.tc : Thread nD τ).loc main_arg1) = m ((c.tc : Thread nD τ).loc main_arg1)) ∧ s.sem (barCell c) = 0)
    (hfin := fun c s' => ?_)
    (hQ := fun s h hs => ⟨fun c => (h c).1, sem_eq_zero hs fun c sm hsm => by obtain rfl := unscoped_bar sm hsm; exact (h c).2⟩)
  · unfold u₀
    rw [bigSep_G]
    iintro Hu
    imodintro
    iapply (ownU_halves (F := F) _ _); iexact Hu
  · unfold Est Tₙ
    iintro ⟨Hh, Hb, HO⟩
    isplitr [HO]
    · isplitl [Hh] <;> iassumption
    iexact HO
  · unfold Tₙ StableHlo.held
    iintro ⟨⟨Hh, Hb⟩, HSI⟩
    icombine HSI Hb gives %hb
    ihave Hr := (pointsTo_read_all (Pipeline.ucRefs τ sig) (fun b => ((c : Thread nD τ).1, b)) (V4 m (outs m) c) s') $$ [Hh HSI]
    · isplitl [Hh] <;> iassumption
    icases Hr with ⟨%h, HSI⟩
    imodintro
    isplitr
    · ipureintro
      refine ⟨⟨?_, ?_, ?_⟩, by simpa using hb⟩
      · exact (h (Proc.devRef .tc main_v25) (Finset.mem_filter.mpr ⟨StableHlo.devRef_mem_tcRefs main_v25, by decide⟩)).trans (Vout_res m c)
      · exact (h (Proc.devRef .tc main_arg0) (Finset.mem_filter.mpr ⟨StableHlo.devRef_mem_tcRefs main_arg0, by decide⟩)).trans (V4_main_arg0 m (outs m) c)
      · exact (h (Proc.devRef .tc main_arg1) (Finset.mem_filter.mpr ⟨StableHlo.devRef_mem_tcRefs main_arg1, by decide⟩)).trans (V4_main_arg1 m (outs m) c)
    · iexact HSI

end Cert.KernelIdeal.K

end
-- ==== Proof.Value.lean ====
module

public import proofs.«01_k».proof.Proof.Launch
public import Idealize.ShloMosaic.Lib.Layout
public import Idealize.ShloMosaic.PureOps.Ideal
public import Idealize.ShloMosaic.Lib.ValueLayoutCasts
public import Idealize.ShloMosaic.Lib.Pointwise.ShapeOpsCore

/-! # The value: what every device's result holds is the lookup in the whole table

Of the two devices that share a half of the batch, the one whose half of the vocabulary has the row brings it;
the other brings its first row times zero. -/

@[expose] public section

noncomputable section

namespace Cert.KernelIdeal.K

open Idealize.ShloMosaic Idealize.ShloMosaic.TcCoe
open Idealize.SL Idealize.SL.RA Idealize.SL.BI
open Cert.KernelIdeal.Gen Cert.KernelIdeal.Body

/-! ## The numbers less the half's first row -/

section Lid

variable {F : FTy → Type} [FloatOps F] (m : (ℓ : Loc nD τ sig) → Buf (Elt F) ℓ) (c : Dev nD)

/-- The first row of the half of the batch, as computed. -/
def firstV : S_.Idx → BitVec 32 :=
  muli (Host.remui (Host.divui (constantI S_ 32 (Dev.word c)) (constantI S_ 32 2#32)) (constantI S_ 32 2#32)) (constantI S_ 32 1024#32)
/-- Where the device's half of the batch starts. -/
def startV : S_.Idx → BitVec 32 :=
  select (cmpi .slt (firstV c) (constantI S_ 32 0#32)) (addi (firstV c) (constantI S_ 32 2048#32)) (firstV c)
/-- Where its half of the vocabulary starts. -/
def offV : S_.Idx → BitVec 32 :=
  muli (Host.remui (Host.divui (constantI S_ 32 (Dev.word c)) (constantI S_ 32 1#32)) (constantI S_ 32 2#32)) (constantI S_ 32 16384#32)

theorem startV_at (i) : (startV c i).toInt = ((1024 * (c.val / 2) : ℕ) : Int) := by
  show (startV c (fun a => a.elim0)).toInt = _
  revert c; decide
theorem offV_at (i) : offV c i = BitVec.ofNat 32 (16384 * (c.val % 2)) := by
  show offV c (fun a => a.elim0) = _
  revert c; decide

theorem start_val : (V1 m c main_v12 : S_.Idx → BitVec 32) = startV c := by
  unfold_abbrev_sides
  after_results
  rfl

theorem lid_val : lid m c = subi (Host.dynamicSlice S1024 (m ((c.tc : Thread nD τ).loc main_arg0) : S2048.Idx → BitVec 32)
    (fun _ => (startV c (Shape.Idx.first h_S_)).toInt) sliceFits_S2048_S1024) (broadcastInDim S1024 ![] bcast_S_S1024 (offV c)) := by
  unfold_abbrev_sides
  after_results
  refine congrArg₂ subi (congrArg (fun o => Host.dynamicSlice S1024 (m ((c.tc : Thread nD τ).loc main_arg0) : S2048.Idx → BitVec 32) o
    sliceFits_S2048_S1024) (funext fun k => ?_)) rfl
  obtain rfl : k = 0 := Subsingleton.elim _ _
  exact congrArg (fun v : S_.Idx → BitVec 32 => (v (Shape.Idx.first h_S_)).toInt) (start_val m c)

theorem lid_at (i : S1024.Idx) (t : S2048.Idx) (ht : (t 0).val = 1024 * (c.val / 2) + (i 0).val) :
    lid m c i = (show S2048.Idx → BitVec 32 from m ((c.tc : Thread nD τ).loc main_arg0)) t - BitVec.ofNat 32 (16384 * (c.val % 2)) := by
  rw [lid_val]
  show _ - offV c _ = _
  rw [offV_at, Host.dynamicSlice_apply]
  congr 2
  funext (a : Fin 1)
  obtain rfl : a = 0 := Subsingleton.elim _ _
  apply Fin.ext
  have hc : c.val < 4 := c.isLt
  have h := Host.clampedStart_of_le (s := S2048) (t := S1024) rfl (fun _ => (startV c (Shape.Idx.first h_S_)).toInt) 0 _ (startV_at c _)
    (by show 1024 * (c.val / 2) + 1024 ≤ 2048; omega)
  exact (congrArg (· + (i 0).val) h).trans ht.symm

theorem ok_val : (V3 m c main_v24 : S1024x1.Idx → F .f32) = shapeCast S1024x1 (uitofp .f32 (own m c)) shapeCasts_S1024_S1024x1 := by
  unfold_abbrev_sides
  after_results
  rfl

theorem ok_at (i : S1024.Idx) (k : S1024x1.Idx) (hk : (k 0).val = (i 0).val) : (V3 m c main_v24 : S1024x1.Idx → F .f32) k
    = FloatOps.uitofp .f32 (own m c i) := by
  rw [ok_val, ValueIdx.eq_ix2 k]
  refine (ValueIdx.shapeCast_a_a1_apply _ _ _ _).trans ?_
  show FloatOps.uitofp .f32 (own m c _) = _
  congr 2
  funext (a : Fin 1)
  obtain rfl : a = 0 := Subsingleton.elim _ _
  exact Fin.ext hk

theorem table_val : (V3 m c main_arg1 : S16384x1024.Idx → F .f32) = m ((c.tc : Thread nD τ).loc main_arg1) := by
  unfold_abbrev_sides
  after_results

end Lid

/-! ## The masked rows, their sum and the result -/

section Value

abbrev Whole : Shape := ⟨2, ![32768, 1024]⟩

/-- A number below the vocabulary's size, less a half's first row, is below the half's size where it is of that half. -/
theorem sub_lt_iff (w : BitVec 32) (hw : w.toNat < 32768) (b : ℕ) (hb : b < 2) :
    (w - BitVec.ofNat 32 (16384 * b)).toNat < 16384 ↔ w.toNat / 16384 = b := by
  rw [BitVec.toNat_sub, BitVec.toNat_ofNat]
  omega
theorem sub_toNat (w : BitVec 32) (hw : w.toNat < 32768) (b : ℕ) (hb : b < 2) (h : w.toNat / 16384 = b) :
    b * 16384 + (w - BitVec.ofNat 32 (16384 * b)).toNat = w.toNat := by
  rw [BitVec.toNat_sub, BitVec.toNat_ofNat]
  omega

/-- A value times a mask: itself or zero. -/
theorem masked_eq (x o : EReal) (p : Prop) [Decidable p] (h : o = FloatOps.uitofp (F := Ideal) .f32 (BitVec.ofBool (decide p))) :
    x * o = if p then x else 0 := by
  subst h
  by_cases hp : p
  · rw [if_pos hp, decide_eq_true hp]
    show x * (((1 : ℕ) : ℝ) : EReal) = x
    rw [Nat.cast_one, EReal.coe_one, mul_one]
  · rw [if_neg hp, decide_eq_false hp]
    show x * (((0 : ℕ) : ℝ) : EReal) = 0
    rw [Nat.cast_zero, EReal.coe_zero, mul_zero]

/-- A device's masked row, of the number less the half's first row: the table's row where it is the device's own, and zero elsewhere. -/
theorem pv_of (D : Data Ideal) (e : Dev nD) (i : S1024x1024.Idx) (l : BitVec 32) (E : S16384x1024.Idx → EReal) (x : EReal)
    (hR : (show S1024.Idx → BitVec 32 from D.R e) (ix1 (i 0).val (i 0).isLt) = if l.toNat < 16384 then l else 0#32)
    (hO : D.O e (ix2 ⟨(i 0).val, (i 0).isLt⟩ ⟨0, Nat.one_pos⟩) = FloatOps.uitofp (F := Ideal) .f32 (BitVec.ofBool (decide (l.toNat < 16384))))
    (hE : D.E e = E)
    (hx : ∀ (h : l.toNat < 16384), E (ix2 ⟨l.toNat, h⟩ ⟨(i 1).val, (i 1).isLt⟩) = x) :
    pv D e i = (if l.toNat < 16384 then x else (0 : EReal)) := by
  refine (masked_eq _ _ _ hO).trans ?_
  by_cases h : l.toNat < 16384
  · rw [if_pos h, if_pos h]
    rw [if_pos h] at hR
    refine (congrFun hE _).trans (Eq.trans ?_ (hx h))
    refine congrArg E (congrArg (fun a => ix2 a _) (Fin.ext ?_))
    exact congrArg BitVec.toNat hR
  · rw [if_neg h, if_neg h]

variable (m : (ℓ : Loc nD τ sig) → Buf (Elt Ideal) ℓ) (ids : S2048.Idx → BitVec 32) (X : Whole.Idx → EReal)
variable (hi : ∀ c : Dev nD, (m ((c.tc : Thread nD τ).loc main_arg0) : S2048.Idx → BitVec 32) = ids)
variable (hX : ∀ (c : Dev nD) (k : S16384x1024.Idx) (u : Whole.Idx), (u 0).val = c.val % 2 * 16384 + (k 0).val → (u 1).val = (k 1).val →
  (show S16384x1024.Idx → EReal from m ((c.tc : Thread nD τ).loc main_arg1)) k = X u)
variable (hr : ∀ t, (ids t).toNat < 32768)

include hi hX hr

theorem pv_at (e : Dev nD) (i : S1024x1024.Idx) (t : S2048.Idx) (ht : (t 0).val = 1024 * (e.val / 2) + (i 0).val)
    (u : Whole.Idx) (hu0 : (u 0).val = (ids t).toNat) (hu1 : (u 1).val = (i 1).val) :
    pv (dataOf m) e i = (if (ids t).toNat / 16384 = e.val % 2 then X u else (0 : EReal)) := by
  have hl : lid m e (ix1 (i 0).val (i 0).isLt) = ids t - BitVec.ofNat 32 (16384 * (e.val % 2)) :=
    (lid_at m e _ t ht).trans (congrArg (fun v : S2048.Idx → BitVec 32 => v t - _) (hi e))
  have hb : e.val % 2 < 2 := Nat.mod_lt _ (by decide)
  have hd := sub_lt_iff _ (hr t) _ hb
  refine (pv_of (dataOf m) e i _ _ (X u) (rows_at m e _) ((ok_at m e (ix1 (i 0).val (i 0).isLt) _ rfl).trans (congrArg _ (own_at m e _)))
    (table_val m e) ?_).trans ?_
  · rw [hl]
    intro h
    refine hX e _ u ?_ hu1
    exact hu0.trans (sub_toNat _ (hr t) _ hb (hd.1 h)).symm
  · rw [hl]
    by_cases h : (ids t).toNat / 16384 = e.val % 2
    · rw [if_pos h, if_pos (hd.2 h)]
    · rw [if_neg h, if_neg (fun h' => h (hd.1 h'))]

theorem sumv_at (e : Dev nD) (i : S1024x1024.Idx) (t : S2048.Idx) (ht : (t 0).val = 1024 * (e.val / 2) + (i 0).val)
    (u : Whole.Idx) (hu0 : (u 0).val = (ids t).toNat) (hu1 : (u 1).val = (i 1).val) :
    sumv (dataOf m) e i = X u := by
  have hc : e.val < 4 := e.isLt
  have hw := hr t
  have hp : (peerY e).val / 2 = e.val / 2 ∧ (peerY e).val % 2 = 1 - e.val % 2 := by
    unfold peerY; simp only [k0_dev1_eq]; omega
  show (pv (dataOf m) e i + pv (dataOf m) (peerY e) i : EReal) = X u
  rw [pv_at m ids X hi hX hr e i t ht u hu0 hu1, pv_at m ids X hi hX hr (peerY e) i t (by rw [hp.1]; exact ht) u hu0 hu1, hp.2]
  by_cases h : (ids t).toNat / 16384 = e.val % 2
  · rw [if_pos h, if_neg (by omega), add_zero]
  · rw [if_neg h, if_pos (by omega), zero_add]

/-- Every device's result is the lookup in the whole table. -/
theorem outv_at (c : Dev nD) (i : S2048x1024.Idx) (t : S2048.Idx) (ht : (t 0).val = (i 0).val)
    (u : Whole.Idx) (hu0 : (u 0).val = (ids t).toNat) (hu1 : (u 1).val = (i 1).val) :
    outv (dataOf m) c i = X u := by
  have hc : c.val < 4 := c.isLt
  have h0 : (i 0).val < 2048 := (i 0).isLt
  refine sumv_at m ids X hi hX hr _ _ t ?_ u hu0 hu1
  show (t 0).val = 1024 * ((if (i 0).val / 1024 = c.val / 2 then c else peerX c).val / 2) + (i 0).val % 1024
  split
  · omega
  · rw [peerX_div]; omega

end Value

end Cert.KernelIdeal.K

end
-- ==== Proof.Lookup.lean ====
module

public import proofs.«01_k».proof.ReferenceIdeal
public import proofs.«01_k».proof.Pre_ids_in_range_KernelIdeal
public import proofs.«01_k».proof.Proof.Gen.ReferenceIdeal
public import Idealize.ShloMosaic.PureOps.Ideal
public import Idealize.ShloMosaic.Lib.WordCmp
public import Idealize.ShloMosaic.Lib.Routing.Ops

/-! # The reference's result: the table's row that each number names -/

@[expose] public section

noncomputable section

namespace Cert.ReferenceIdeal.Lookup

open Idealize.ShloMosaic Cert.ReferenceIdeal Cert.ReferenceIdeal.Gen

/-- The precondition: every number is below the vocabulary's size. -/
theorem in_range [Cert.Pre_ids_in_range_KernelIdeal.Facts] (ids : S2048.Idx → BitVec 32)
    (E : Cert.Pre_ids_in_range_KernelIdeal.S16384x1024.Idx → EReal)
    (h : Cert.Pre_ids_in_range_KernelIdeal.fn (F := Ideal) ids E = fun _ => 1#1) (t : S2048.Idx) : (ids t).toNat < 32768 := by
  have h' : IntOp.andi (IntOp.cmpi .sge (ids t) 0#32) (IntOp.cmpi .slt (ids t) (BitVec.ofNat 32 32768)) = 1#1 := congrFun h t
  rw [WordCmp.andi_sge_zero_slt_ofNat (by decide)] at h'
  by_contra hn
  rw [decide_eq_false hn] at h'
  exact absurd h' (by decide)

/-- The numbers, wrapped where negative. -/
abbrev wrapped (ids : S2048.Idx → BitVec 32) : S2048.Idx → BitVec 32 :=
  select (cmpi .slt ids (broadcastInDim S2048 ![] bcast_S_S2048 (constantI S_ 32 0#32)))
    (addi ids (broadcastInDim S2048 ![] bcast_S_S2048 (constantI S_ 32 32768#32))) ids

/-- A number in range is itself. -/
theorem wrapped_at (ids : S2048.Idx → BitVec 32) (t : S2048.Idx) (h : (ids t).toNat < 32768) : wrapped ids t = ids t := by
  show (if IntOp.cmpi .slt (ids t) 0#32 = 1#1 then _ else ids t) = ids t
  refine if_neg ?_
  show ¬ BitVec.ofBool ((ids t).slt 0#32) = 1#1
  have : (ids t).slt 0#32 = false := by
    rw [BitVec.slt_eq_decide]
    refine decide_eq_false ?_
    rw [BitVec.toInt_eq_toNat_cond]
    simp only [BitVec.toInt_zero]
    split <;> omega
  rw [this]; decide

abbrev result (ids : S2048.Idx → BitVec 32) (X : S32768x1024.Idx → EReal) : S2048x1024.Idx → EReal :=
  truncf (F := Ideal) .bf16 (Host.gather gather_S32768x1024_S2048x1_S2048x1024_1_0_n_n_0_1_11024 X
    (broadcastInDim S2048x1 ![0] bcast_S2048_S2048x1_0 (wrapped ids))) bitsLt_bf16_f32

theorem result_at (ids : S2048.Idx → BitVec 32) (X : S32768x1024.Idx → EReal) (i : S2048x1024.Idx) (t : S2048.Idx)
    (ht : (t 0).val = (i 0).val) (h : (ids t).toNat < 32768) (u : S32768x1024.Idx) (hu0 : (u 0).val = (ids t).toNat)
    (hu1 : (u 1).val = (i 1).val) : result ids X i = X u := by
  show Host.gather _ X _ i = X u
  rw [ValueIdx.eq_ix2 i]
  refine (Routing.gather_row (nb := 32768) (B := 1024) (n := 2048) _ rfl rfl rfl rfl rfl X _ (i 0) (i 1) (u 0) ?_ (by decide)).trans (congrArg X ?_)
  · show wrapped ids _ = _
    rw [hu0, ← BitVec.toNat_inj, BitVec.toNat_ofNat, Nat.mod_eq_of_lt (by omega)]
    refine congrArg BitVec.toNat ((congrArg (wrapped ids) ?_).trans (wrapped_at ids t h))
    funext (a : Fin 1)
    obtain rfl : a = 0 := Subsingleton.elim _ _
    exact Fin.ext ht.symm
  · rw [ValueIdx.eq_ix2 u]
    funext a
    fin_cases a
    · rfl
    · exact Fin.ext hu1.symm

end Cert.ReferenceIdeal.Lookup

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import Idealize.ShloMosaic.Lib.Pipeline.Regions
public import proofs.«01_k».proof.Proof.Value
public import proofs.«01_k».proof.Proof.Lookup
public import Idealize.ShloMosaic.Lib.Quiescent
public import Idealize.ShloMosaic.Lib.Layout
public import Idealize.ShloMosaic.Adequacy
public import Idealize.ShloMosaic.Init

@[expose] public section

noncomputable section

namespace Cert.Proof

open Idealize.ShloMosaic Idealize.SL.Sem Cert.Kernel

/-- The kernel at the bits runs as its idealization at the bits does: no operation of the module was rewritten, so the
    two programs have the same text. -/
theorem run_same (m : (ℓ : Loc Cert.Kernel.nD Cert.Kernel.τ Cert.Kernel.sig) → Buf (Elt Bits) ℓ) (ρ : Dev Cert.Kernel.nD → PrngReg)
    (P : PUnit × MemSt Cert.Kernel.nD Cert.Kernel.τ Cert.Kernel.sig (Elt Bits) → Prop) :
    θ_run (Cert.Kernel.defs (F := Bits)) (onTc (τ := Cert.Kernel.τ) (Cert.Kernel.main (F := Bits))) ⟨m, fun _ => 0, ρ⟩ P
      = θ_run (Cert.KernelIdeal.defs (F := Bits)) (onTc (τ := Cert.KernelIdeal.τ) (Cert.KernelIdeal.main (F := Bits))) ⟨m, fun _ => 0, ρ⟩ P := by
  chain_rfl

theorem frame_kernel : Cert.quiescent_Kernel := fun m ρ _ => (run_same m ρ _).mpr
  ((θ_run Cert.KernelIdeal.defs _ _).mono (fun _ h => ⟨fun c => (h.1 c).2, h.2⟩) (Cert.KernelIdeal.K.run_main (F := Bits) m ρ))

theorem frame_ideal : Cert.quiescent_KernelIdeal := fun m ρ _ =>
  (θ_run Cert.KernelIdeal.defs _ _).mono (fun _ h => ⟨fun c => (h.1 c).2, h.2⟩) (Cert.KernelIdeal.K.run_main (F := Ideal) m ρ)

theorem frame_reference : Cert.quiescent_ReferenceIdeal := fun m ρ _ =>
  (θ_run Cert.ReferenceIdeal.defs _ _).mono (fun r h => ⟨fun c => (h c).2, sem_eq_zero_of_no_sems rfl r.2⟩)
    (Cert.ReferenceIdeal.Value.run (F := Ideal) m ρ)

instance facts_kernel : Cert.Pre_ids_in_range_KernelIdeal.Facts := ⟨by decide⟩
instance facts_reference : Cert.Pre_ids_in_range_ReferenceIdeal.Facts := ⟨by decide⟩

/-- A device's block of the table: the rows of its half of the vocabulary. -/
theorem block_at (X : Cert.KernelIdeal.K.Whole.Idx → EReal) (c : Dev 4) (k : Cert.KernelIdeal.S16384x1024.Idx)
    (u : Cert.KernelIdeal.K.Whole.Idx) (h0 : (u 0).val = c.val % 2 * 16384 + (k 0).val) (h1 : (u 1).val = (k 1).val) :
    Layout.blockN ⟨2, ![16384, 1024]⟩ ⟨2, ![32768, 1024]⟩ (Layout.meshBlock [2, 2] ![[1], []] c) X (by decide) k = X u := by
  rw [Layout.blockN_apply]
  refine congrArg X (funext fun a => Fin.ext ?_)
  have hc : ∀ c : Dev 4, Layout.meshLin [2, 2] c.val [1] = c.val % 2 := by decide
  fin_cases a
  · show Layout.meshLin [2, 2] c.val [1] * 16384 + (k 0).val = (u 0).val
    rw [hc, h0]
  · show 0 * 1024 + (k 1).val = (u 1).val
    rw [h1, Nat.zero_mul, Nat.zero_add]

/-- A row of the batch, as an index of the numbers. -/
abbrev rowIdx (n : ℕ) (h : n < 2048) : Cert.ReferenceIdeal.S2048.Idx := ValueIdx.ix1 ⟨n, h⟩

theorem value : Cert.algebraic_KernelIdeal_ReferenceIdeal_pre_ids_in_range_KernelIdeal := by
  intro m g m' g' hpre hin
  have hids : ∀ t, _ := fun t => Cert.ReferenceIdeal.Lookup.in_range _ _ (hpre 0) t
  refine ⟨Cert.ReferenceIdeal.Lookup.result (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono (fun _ h c => ⟨(h.1 c).1.trans ?_, (h.1 c).2⟩) (Cert.KernelIdeal.K.run_main (F := Ideal) m g),
    (θ_run Cert.ReferenceIdeal.defs _ _).mono (fun _ h => h 0) (Cert.ReferenceIdeal.Value.run (F := Ideal) m' g')⟩
  rw [(hin 0).1] at hids
  funext i
  have hn := hids (rowIdx (i 0).val (i 0).isLt)
  refine (Cert.KernelIdeal.K.outv_at m _ _ (fun c => (hin c).1) (fun c k u h0 h1 => ?_) hids c i
      (rowIdx (i 0).val (i 0).isLt) rfl (ValueIdx.ix2 ⟨_, hn⟩ ⟨(i 1).val, (i 1).isLt⟩) rfl rfl).trans
    (Cert.ReferenceIdeal.Lookup.result_at _ _ i (rowIdx (i 0).val (i 0).isLt) rfl hn _ rfl rfl).symm
  exact (congrFun (hin c).2 k).trans (block_at _ c k u h0 h1)

theorem claim : Cert.Claim := ⟨Cert.Kernel.Gen.facts, Cert.KernelIdeal.Gen.facts, Cert.ReferenceIdeal.Gen.facts, facts_kernel, facts_reference,
  frame_kernel, frame_ideal, fun m ρ _ => frame_ideal m ρ trivial, frame_reference, fun m ρ _ => frame_reference m ρ trivial, trivial, value⟩

end Cert.Proof

end
